-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQRefIdeal (m : (ℓ : Loc Cert.PeerQRefIdeal.nD Cert.PeerQRefIdeal.τ Cert.PeerQRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mla [hPre_page_range : Cert.Pre_page_range.Facts] (m : (ℓ : Loc Cert.Mla.nD Cert.Mla.τ Cert.Mla.sig) → Buf (Elt Bits) ℓ) : Prop :=
  ∀ c : Dev Cert.Mla.nD,
    (Cert.Pre_page_range.fn (F := Bits) (m ((c.tc : Thread Cert.Mla.nD Cert.Mla.τ).loc Cert.Mla.main_arg0)) (m ((c.tc : Thread Cert.Mla.nD Cert.Mla.τ).loc Cert.Mla.main_arg1)) (m ((c.tc : Thread Cert.Mla.nD Cert.Mla.τ).loc Cert.Mla.main_arg2)) (m ((c.tc : Thread Cert.Mla.nD Cert.Mla.τ).loc Cert.Mla.main_arg3)) (m ((c.tc : Thread Cert.Mla.nD Cert.Mla.τ).loc Cert.Mla.main_arg4)) (m ((c.tc : Thread Cert.Mla.nD Cert.Mla.τ).loc Cert.Mla.main_arg5)) (m ((c.tc : Thread Cert.Mla.nD Cert.Mla.τ).loc Cert.Mla.main_arg6)) (m ((c.tc : Thread Cert.Mla.nD Cert.Mla.τ).loc Cert.Mla.main_arg7))) = (fun _ => 1#1)

def Pre_MlaIdeal [hPre_page_range : Cert.Pre_page_range.Facts] (m : (ℓ : Loc Cert.MlaIdeal.nD Cert.MlaIdeal.τ Cert.MlaIdeal.sig) → Buf (Elt Ideal) ℓ) : Prop :=
  ∀ c : Dev Cert.MlaIdeal.nD,
    (Cert.Pre_page_range.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))) = (fun _ => 1#1)

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7))) = (fun _ => 1#1)

def Pre_States (m : (ℓ : Loc Cert.States.nD Cert.States.τ Cert.States.sig) → Buf (Elt Bits) ℓ) : Prop :=
  True

def Pre_StatesIdeal (m : (ℓ : Loc Cert.StatesIdeal.nD Cert.StatesIdeal.τ Cert.StatesIdeal.sig) → Buf (Elt Ideal) ℓ) : Prop :=
  True

def Pre_StatesRefIdeal (m : (ℓ : Loc Cert.StatesRefIdeal.nD Cert.StatesRefIdeal.τ Cert.StatesRefIdeal.sig) → Buf (Elt Ideal) ℓ) : Prop :=
  True

def Pre_Bank (m : (ℓ : Loc Cert.Bank.nD Cert.Bank.τ Cert.Bank.sig) → Buf (Elt Bits) ℓ) : Prop :=
  True

def Pre_BankIdeal (m : (ℓ : Loc Cert.BankIdeal.nD Cert.BankIdeal.τ Cert.BankIdeal.sig) → Buf (Elt Ideal) ℓ) : Prop :=
  True

def Pre_BankRefIdeal (m : (ℓ : Loc Cert.BankRefIdeal.nD Cert.BankRefIdeal.τ Cert.BankRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_mem [hPre_finite_mem : Cert.Pre_finite_mem.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_mem.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))) = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_mem [hPre_finite_mem : Cert.Pre_finite_mem.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_mem.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))) = (fun _ => 1#1)

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Mla [hMla : Cert.Mla.Facts] [hPre_page_range : Cert.Pre_page_range.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7))
      ∧ r.2.sem = fun _ => 0)

def quiescent_MlaIdeal [hMlaIdeal : Cert.MlaIdeal.Facts] [hPre_page_range : Cert.Pre_page_range.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7))
      ∧ r.2.sem = fun _ => 0)

def quiescent_States [hStates : Cert.States.Facts] : Prop :=
  ∀ (m : (ℓ : Loc Cert.States.nD Cert.States.τ Cert.States.sig) → Buf (Elt Bits) ℓ) (g : Dev Cert.States.nD → PrngReg), Pre_States m →
    θ_run (Cert.States.defs (F := Bits)) (onTc (τ := Cert.States.τ) (Cert.States.main (F := Bits))) ⟨m, fun _ => 0, g⟩ (fun r => (∀ c : Dev Cert.States.nD,
      r.2.mem ((c.tc : Thread Cert.States.nD Cert.States.τ).loc Cert.States.main_arg0) = m ((c.tc : Thread Cert.States.nD Cert.States.τ).loc Cert.States.main_arg0)
      ∧ r.2.mem ((c.tc : Thread Cert.States.nD Cert.States.τ).loc Cert.States.main_arg1) = m ((c.tc : Thread Cert.States.nD Cert.States.τ).loc Cert.States.main_arg1)
      ∧ r.2.mem ((c.tc : Thread Cert.States.nD Cert.States.τ).loc Cert.States.main_arg2) = m ((c.tc : Thread Cert.States.nD Cert.States.τ).loc Cert.States.main_arg2)
      ∧ r.2.mem ((c.tc : Thread Cert.States.nD Cert.States.τ).loc Cert.States.main_arg3) = m ((c.tc : Thread Cert.States.nD Cert.States.τ).loc Cert.States.main_arg3)
      ∧ r.2.mem ((c.tc : Thread Cert.States.nD Cert.States.τ).loc Cert.States.main_arg4) = m ((c.tc : Thread Cert.States.nD Cert.States.τ).loc Cert.States.main_arg4)
      ∧ r.2.mem ((c.tc : Thread Cert.States.nD Cert.States.τ).loc Cert.States.main_arg5) = m ((c.tc : Thread Cert.States.nD Cert.States.τ).loc Cert.States.main_arg5))
      ∧ r.2.sem = fun _ => 0)

def quiescent_StatesIdeal [hStatesIdeal : Cert.StatesIdeal.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
      ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5))
      ∧ r.2.sem = fun _ => 0)

def quiescent_StatesRefIdeal [hStatesRefIdeal : Cert.StatesRefIdeal.Facts] : Prop :=
  ∀ (m : (ℓ : Loc Cert.StatesRefIdeal.nD Cert.StatesRefIdeal.τ Cert.StatesRefIdeal.sig) → Buf (Elt Ideal) ℓ) (g : Dev Cert.StatesRefIdeal.nD → PrngReg), Pre_StatesRefIdeal m →
    θ_run (Cert.StatesRefIdeal.defs (F := Ideal)) (onTc (τ := Cert.StatesRefIdeal.τ) (Cert.StatesRefIdeal.main (F := Ideal))) ⟨m, fun _ => 0, g⟩ (fun r => (∀ c : Dev Cert.StatesRefIdeal.nD,
      r.2.mem ((c.tc : Thread Cert.StatesRefIdeal.nD Cert.StatesRefIdeal.τ).loc Cert.StatesRefIdeal.main_arg0) = m ((c.tc : Thread Cert.StatesRefIdeal.nD Cert.StatesRefIdeal.τ).loc Cert.StatesRefIdeal.main_arg0)
      ∧ r.2.mem ((c.tc : Thread Cert.StatesRefIdeal.nD Cert.StatesRefIdeal.τ).loc Cert.StatesRefIdeal.main_arg1) = m ((c.tc : Thread Cert.StatesRefIdeal.nD Cert.StatesRefIdeal.τ).loc Cert.StatesRefIdeal.main_arg1)
      ∧ r.2.mem ((c.tc : Thread Cert.StatesRefIdeal.nD Cert.StatesRefIdeal.τ).loc Cert.StatesRefIdeal.main_arg2) = m ((c.tc : Thread Cert.StatesRefIdeal.nD Cert.StatesRefIdeal.τ).loc Cert.StatesRefIdeal.main_arg2)
      ∧ r.2.mem ((c.tc : Thread Cert.StatesRefIdeal.nD Cert.StatesRefIdeal.τ).loc Cert.StatesRefIdeal.main_arg3) = m ((c.tc : Thread Cert.StatesRefIdeal.nD Cert.StatesRefIdeal.τ).loc Cert.StatesRefIdeal.main_arg3)
      ∧ r.2.mem ((c.tc : Thread Cert.StatesRefIdeal.nD Cert.StatesRefIdeal.τ).loc Cert.StatesRefIdeal.main_arg4) = m ((c.tc : Thread Cert.StatesRefIdeal.nD Cert.StatesRefIdeal.τ).loc Cert.StatesRefIdeal.main_arg4)
      ∧ r.2.mem ((c.tc : Thread Cert.StatesRefIdeal.nD Cert.StatesRefIdeal.τ).loc Cert.StatesRefIdeal.main_arg5) = m ((c.tc : Thread Cert.StatesRefIdeal.nD Cert.StatesRefIdeal.τ).loc Cert.StatesRefIdeal.main_arg5))
      ∧ r.2.sem = fun _ => 0)

def quiescent_Bank [hBank : Cert.Bank.Facts] : Prop :=
  ∀ (m : (ℓ : Loc Cert.Bank.nD Cert.Bank.τ Cert.Bank.sig) → Buf (Elt Bits) ℓ) (g : Dev Cert.Bank.nD → PrngReg), Pre_Bank m →
    θ_run (Cert.Bank.defs (F := Bits)) (onTc (τ := Cert.Bank.τ) (Cert.Bank.main (F := Bits))) ⟨m, fun _ => 0, g⟩ (fun r => (∀ c : Dev Cert.Bank.nD,
      r.2.mem ((c.tc : Thread Cert.Bank.nD Cert.Bank.τ).loc Cert.Bank.main_arg0) = m ((c.tc : Thread Cert.Bank.nD Cert.Bank.τ).loc Cert.Bank.main_arg0)
      ∧ r.2.mem ((c.tc : Thread Cert.Bank.nD Cert.Bank.τ).loc Cert.Bank.main_arg1) = m ((c.tc : Thread Cert.Bank.nD Cert.Bank.τ).loc Cert.Bank.main_arg1)
      ∧ r.2.mem ((c.tc : Thread Cert.Bank.nD Cert.Bank.τ).loc Cert.Bank.main_arg2) = m ((c.tc : Thread Cert.Bank.nD Cert.Bank.τ).loc Cert.Bank.main_arg2)
      ∧ r.2.mem ((c.tc : Thread Cert.Bank.nD Cert.Bank.τ).loc Cert.Bank.main_arg3) = m ((c.tc : Thread Cert.Bank.nD Cert.Bank.τ).loc Cert.Bank.main_arg3)
      ∧ r.2.mem ((c.tc : Thread Cert.Bank.nD Cert.Bank.τ).loc Cert.Bank.main_arg4) = m ((c.tc : Thread Cert.Bank.nD Cert.Bank.τ).loc Cert.Bank.main_arg4))
      ∧ r.2.sem = fun _ => 0)

def quiescent_BankIdeal [hBankIdeal : Cert.BankIdeal.Facts] : Prop :=
  ∀ (m : (ℓ : Loc Cert.BankIdeal.nD Cert.BankIdeal.τ Cert.BankIdeal.sig) → Buf (Elt Ideal) ℓ) (g : Dev Cert.BankIdeal.nD → PrngReg), Pre_BankIdeal m →
    θ_run (Cert.BankIdeal.defs (F := Ideal)) (onTc (τ := Cert.BankIdeal.τ) (Cert.BankIdeal.main (F := Ideal))) ⟨m, fun _ => 0, g⟩ (fun r => (∀ c : Dev Cert.BankIdeal.nD,
      r.2.mem ((c.tc : Thread Cert.BankIdeal.nD Cert.BankIdeal.τ).loc Cert.BankIdeal.main_arg0) = m ((c.tc : Thread Cert.BankIdeal.nD Cert.BankIdeal.τ).loc Cert.BankIdeal.main_arg0)
      ∧ r.2.mem ((c.tc : Thread Cert.BankIdeal.nD Cert.BankIdeal.τ).loc Cert.BankIdeal.main_arg1) = m ((c.tc : Thread Cert.BankIdeal.nD Cert.BankIdeal.τ).loc Cert.BankIdeal.main_arg1)
      ∧ r.2.mem ((c.tc : Thread Cert.BankIdeal.nD Cert.BankIdeal.τ).loc Cert.BankIdeal.main_arg2) = m ((c.tc : Thread Cert.BankIdeal.nD Cert.BankIdeal.τ).loc Cert.BankIdeal.main_arg2)
      ∧ r.2.mem ((c.tc : Thread Cert.BankIdeal.nD Cert.BankIdeal.τ).loc Cert.BankIdeal.main_arg3) = m ((c.tc : Thread Cert.BankIdeal.nD Cert.BankIdeal.τ).loc Cert.BankIdeal.main_arg3)
      ∧ r.2.mem ((c.tc : Thread Cert.BankIdeal.nD Cert.BankIdeal.τ).loc Cert.BankIdeal.main_arg4) = m ((c.tc : Thread Cert.BankIdeal.nD Cert.BankIdeal.τ).loc Cert.BankIdeal.main_arg4))
      ∧ r.2.sem = fun _ => 0)

def quiescent_BankRefIdeal [hBankRefIdeal : Cert.BankRefIdeal.Facts] : Prop :=
  ∀ (m : (ℓ : Loc Cert.BankRefIdeal.nD Cert.BankRefIdeal.τ Cert.BankRefIdeal.sig) → Buf (Elt Ideal) ℓ) (g : Dev Cert.BankRefIdeal.nD → PrngReg), Pre_BankRefIdeal m →
    θ_run (Cert.BankRefIdeal.defs (F := Ideal)) (onTc (τ := Cert.BankRefIdeal.τ) (Cert.BankRefIdeal.main (F := Ideal))) ⟨m, fun _ => 0, g⟩ (fun r => (∀ c : Dev Cert.BankRefIdeal.nD,
      r.2.mem ((c.tc : Thread Cert.BankRefIdeal.nD Cert.BankRefIdeal.τ).loc Cert.BankRefIdeal.main_arg0) = m ((c.tc : Thread Cert.BankRefIdeal.nD Cert.BankRefIdeal.τ).loc Cert.BankRefIdeal.main_arg0)
      ∧ r.2.mem ((c.tc : Thread Cert.BankRefIdeal.nD Cert.BankRefIdeal.τ).loc Cert.BankRefIdeal.main_arg1) = m ((c.tc : Thread Cert.BankRefIdeal.nD Cert.BankRefIdeal.τ).loc Cert.BankRefIdeal.main_arg1)
      ∧ r.2.mem ((c.tc : Thread Cert.BankRefIdeal.nD Cert.BankRefIdeal.τ).loc Cert.BankRefIdeal.main_arg2) = m ((c.tc : Thread Cert.BankRefIdeal.nD Cert.BankRefIdeal.τ).loc Cert.BankRefIdeal.main_arg2)
      ∧ r.2.mem ((c.tc : Thread Cert.BankRefIdeal.nD Cert.BankRefIdeal.τ).loc Cert.BankRefIdeal.main_arg3) = m ((c.tc : Thread Cert.BankRefIdeal.nD Cert.BankRefIdeal.τ).loc Cert.BankRefIdeal.main_arg3)
      ∧ r.2.mem ((c.tc : Thread Cert.BankRefIdeal.nD Cert.BankRefIdeal.τ).loc Cert.BankRefIdeal.main_arg4) = m ((c.tc : Thread Cert.BankRefIdeal.nD Cert.BankRefIdeal.τ).loc Cert.BankRefIdeal.main_arg4))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnIdeal_pre_finite_mem [hMemAttnIdeal : Cert.MemAttnIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_mem m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_MemAttnRefIdeal_pre_finite_mem [hMemAttnRefIdeal : Cert.MemAttnRefIdeal.Facts] [hPre_finite_mem : Cert.Pre_finite_mem.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_mem m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v29) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v2) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_PeerQ_PeerQIdeal : Prop :=
  True

def algebraic_PeerQIdeal_PeerQRefIdeal [hPeerQIdeal : Cert.PeerQIdeal.Facts] [hPeerQRefIdeal : Cert.PeerQRefIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)) →
    ∃ (v0 : (c : Dev Cert.PeerQIdeal.nD) → Buf (Elt Ideal) ((c.tc : Thread Cert.PeerQIdeal.nD Cert.PeerQIdeal.τ).loc Cert.PeerQIdeal.main_v0)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v0) = v0 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v2) = v0 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v73) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7))

def preserves_States_StatesIdeal : Prop :=
  True

def algebraic_StatesIdeal_StatesRefIdeal [hStatesIdeal : Cert.StatesIdeal.Facts] [hStatesRefIdeal : Cert.StatesRefIdeal.Facts] : Prop :=
  ∀ (m : (ℓ : Loc Cert.StatesIdeal.nD Cert.StatesIdeal.τ Cert.StatesIdeal.sig) → Buf (Elt Ideal) ℓ) (g : Dev Cert.StatesIdeal.nD → PrngReg)
    (m' : (ℓ : Loc Cert.StatesRefIdeal.nD Cert.StatesRefIdeal.τ Cert.StatesRefIdeal.sig) → Buf (Elt Ideal) ℓ) (g' : Dev Cert.StatesRefIdeal.nD → PrngReg), Pre_StatesIdeal m →
    (∀ c : Dev Cert.StatesIdeal.nD,
      m' ((c.tc : Thread Cert.StatesRefIdeal.nD Cert.StatesRefIdeal.τ).loc Cert.StatesRefIdeal.main_arg0) = m ((c.tc : Thread Cert.StatesIdeal.nD Cert.StatesIdeal.τ).loc Cert.StatesIdeal.main_arg0)
      ∧ m' ((c.tc : Thread Cert.StatesRefIdeal.nD Cert.StatesRefIdeal.τ).loc Cert.StatesRefIdeal.main_arg1) = m ((c.tc : Thread Cert.StatesIdeal.nD Cert.StatesIdeal.τ).loc Cert.StatesIdeal.main_arg1)
      ∧ m' ((c.tc : Thread Cert.StatesRefIdeal.nD Cert.StatesRefIdeal.τ).loc Cert.StatesRefIdeal.main_arg2) = m ((c.tc : Thread Cert.StatesIdeal.nD Cert.StatesIdeal.τ).loc Cert.StatesIdeal.main_arg2)
      ∧ m' ((c.tc : Thread Cert.StatesRefIdeal.nD Cert.StatesRefIdeal.τ).loc Cert.StatesRefIdeal.main_arg3) = m ((c.tc : Thread Cert.StatesIdeal.nD Cert.StatesIdeal.τ).loc Cert.StatesIdeal.main_arg3)
      ∧ m' ((c.tc : Thread Cert.StatesRefIdeal.nD Cert.StatesRefIdeal.τ).loc Cert.StatesRefIdeal.main_arg4) = m ((c.tc : Thread Cert.StatesIdeal.nD Cert.StatesIdeal.τ).loc Cert.StatesIdeal.main_arg4)
      ∧ m' ((c.tc : Thread Cert.StatesRefIdeal.nD Cert.StatesRefIdeal.τ).loc Cert.StatesRefIdeal.main_arg5) = m ((c.tc : Thread Cert.StatesIdeal.nD Cert.StatesIdeal.τ).loc Cert.StatesIdeal.main_arg5)) →
    ∃ (v0 : (c : Dev Cert.StatesIdeal.nD) → Buf (Elt Ideal) ((c.tc : Thread Cert.StatesIdeal.nD Cert.StatesIdeal.τ).loc Cert.StatesIdeal.main_v18)) (v1 : (c : Dev Cert.StatesIdeal.nD) → Buf (Elt Ideal) ((c.tc : Thread Cert.StatesIdeal.nD Cert.StatesIdeal.τ).loc Cert.StatesIdeal.main_v19)) (v2 : (c : Dev Cert.StatesIdeal.nD) → Buf (Elt Ideal) ((c.tc : Thread Cert.StatesIdeal.nD Cert.StatesIdeal.τ).loc Cert.StatesIdeal.main_v24)),
      θ_run (Cert.StatesIdeal.defs (F := Ideal)) (onTc (τ := Cert.StatesIdeal.τ) (Cert.StatesIdeal.main (F := Ideal))) ⟨m, fun _ => 0, g⟩ (fun r => ∀ c : Dev Cert.StatesIdeal.nD,
          r.2.mem ((c.tc : Thread Cert.StatesIdeal.nD Cert.StatesIdeal.τ).loc Cert.StatesIdeal.main_v18) = v0 c
          ∧ r.2.mem ((c.tc : Thread Cert.StatesIdeal.nD Cert.StatesIdeal.τ).loc Cert.StatesIdeal.main_v19) = v1 c
          ∧ r.2.mem ((c.tc : Thread Cert.StatesIdeal.nD Cert.StatesIdeal.τ).loc Cert.StatesIdeal.main_v24) = v2 c
          ∧ r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
          ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
          ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
          ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
          ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
          ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5))
      ∧ θ_run (Cert.StatesRefIdeal.defs (F := Ideal)) (onTc (τ := Cert.StatesRefIdeal.τ) (Cert.StatesRefIdeal.main (F := Ideal))) ⟨m', fun _ => 0, g'⟩ (fun r => ∀ c : Dev Cert.StatesRefIdeal.nD,
          r.2.mem ((c.tc : Thread Cert.StatesRefIdeal.nD Cert.StatesRefIdeal.τ).loc Cert.StatesRefIdeal.main_v35) = v0 c
          ∧ r.2.mem ((c.tc : Thread Cert.StatesRefIdeal.nD Cert.StatesRefIdeal.τ).loc Cert.StatesRefIdeal.main_v18) = v1 c
          ∧ r.2.mem ((c.tc : Thread Cert.StatesRefIdeal.nD Cert.StatesRefIdeal.τ).loc Cert.StatesRefIdeal.main_v49) = v2 c
          ∧ r.2.mem ((c.tc : Thread Cert.StatesRefIdeal.nD Cert.StatesRefIdeal.τ).loc Cert.StatesRefIdeal.main_arg0) = m' ((c.tc : Thread Cert.StatesRefIdeal.nD Cert.StatesRefIdeal.τ).loc Cert.StatesRefIdeal.main_arg0)
          ∧ r.2.mem ((c.tc : Thread Cert.StatesRefIdeal.nD Cert.StatesRefIdeal.τ).loc Cert.StatesRefIdeal.main_arg1) = m' ((c.tc : Thread Cert.StatesRefIdeal.nD Cert.StatesRefIdeal.τ).loc Cert.StatesRefIdeal.main_arg1)
          ∧ r.2.mem ((c.tc : Thread Cert.StatesRefIdeal.nD Cert.StatesRefIdeal.τ).loc Cert.StatesRefIdeal.main_arg2) = m' ((c.tc : Thread Cert.StatesRefIdeal.nD Cert.StatesRefIdeal.τ).loc Cert.StatesRefIdeal.main_arg2)
          ∧ r.2.mem ((c.tc : Thread Cert.StatesRefIdeal.nD Cert.StatesRefIdeal.τ).loc Cert.StatesRefIdeal.main_arg3) = m' ((c.tc : Thread Cert.StatesRefIdeal.nD Cert.StatesRefIdeal.τ).loc Cert.StatesRefIdeal.main_arg3)
          ∧ r.2.mem ((c.tc : Thread Cert.StatesRefIdeal.nD Cert.StatesRefIdeal.τ).loc Cert.StatesRefIdeal.main_arg4) = m' ((c.tc : Thread Cert.StatesRefIdeal.nD Cert.StatesRefIdeal.τ).loc Cert.StatesRefIdeal.main_arg4)
          ∧ r.2.mem ((c.tc : Thread Cert.StatesRefIdeal.nD Cert.StatesRefIdeal.τ).loc Cert.StatesRefIdeal.main_arg5) = m' ((c.tc : Thread Cert.StatesRefIdeal.nD Cert.StatesRefIdeal.τ).loc Cert.StatesRefIdeal.main_arg5))

def preserves_Bank_BankIdeal : Prop :=
  True

def algebraic_BankIdeal_BankRefIdeal [hBankIdeal : Cert.BankIdeal.Facts] [hBankRefIdeal : Cert.BankRefIdeal.Facts] : Prop :=
  ∀ (m : (ℓ : Loc Cert.BankIdeal.nD Cert.BankIdeal.τ Cert.BankIdeal.sig) → Buf (Elt Ideal) ℓ) (g : Dev Cert.BankIdeal.nD → PrngReg)
    (m' : (ℓ : Loc Cert.BankRefIdeal.nD Cert.BankRefIdeal.τ Cert.BankRefIdeal.sig) → Buf (Elt Ideal) ℓ) (g' : Dev Cert.BankRefIdeal.nD → PrngReg), Pre_BankIdeal m →
    (∀ c : Dev Cert.BankIdeal.nD,
      m' ((c.tc : Thread Cert.BankRefIdeal.nD Cert.BankRefIdeal.τ).loc Cert.BankRefIdeal.main_arg0) = m ((c.tc : Thread Cert.BankIdeal.nD Cert.BankIdeal.τ).loc Cert.BankIdeal.main_arg0)
      ∧ m' ((c.tc : Thread Cert.BankRefIdeal.nD Cert.BankRefIdeal.τ).loc Cert.BankRefIdeal.main_arg1) = m ((c.tc : Thread Cert.BankIdeal.nD Cert.BankIdeal.τ).loc Cert.BankIdeal.main_arg1)
      ∧ m' ((c.tc : Thread Cert.BankRefIdeal.nD Cert.BankRefIdeal.τ).loc Cert.BankRefIdeal.main_arg2) = m ((c.tc : Thread Cert.BankIdeal.nD Cert.BankIdeal.τ).loc Cert.BankIdeal.main_arg2)
      ∧ m' ((c.tc : Thread Cert.BankRefIdeal.nD Cert.BankRefIdeal.τ).loc Cert.BankRefIdeal.main_arg3) = m ((c.tc : Thread Cert.BankIdeal.nD Cert.BankIdeal.τ).loc Cert.BankIdeal.main_arg3)
      ∧ m' ((c.tc : Thread Cert.BankRefIdeal.nD Cert.BankRefIdeal.τ).loc Cert.BankRefIdeal.main_arg4) = m ((c.tc : Thread Cert.BankIdeal.nD Cert.BankIdeal.τ).loc Cert.BankIdeal.main_arg4)) →
    ∃ (v0 : (c : Dev Cert.BankIdeal.nD) → Buf (Elt Ideal) ((c.tc : Thread Cert.BankIdeal.nD Cert.BankIdeal.τ).loc Cert.BankIdeal.main_v9)) (v1 : (c : Dev Cert.BankIdeal.nD) → Buf (Elt Ideal) ((c.tc : Thread Cert.BankIdeal.nD Cert.BankIdeal.τ).loc Cert.BankIdeal.main_v6)),
      θ_run (Cert.BankIdeal.defs (F := Ideal)) (onTc (τ := Cert.BankIdeal.τ) (Cert.BankIdeal.main (F := Ideal))) ⟨m, fun _ => 0, g⟩ (fun r => ∀ c : Dev Cert.BankIdeal.nD,
          r.2.mem ((c.tc : Thread Cert.BankIdeal.nD Cert.BankIdeal.τ).loc Cert.BankIdeal.main_v9) = v0 c
          ∧ r.2.mem ((c.tc : Thread Cert.BankIdeal.nD Cert.BankIdeal.τ).loc Cert.BankIdeal.main_v6) = v1 c
          ∧ r.2.mem ((c.tc : Thread Cert.BankIdeal.nD Cert.BankIdeal.τ).loc Cert.BankIdeal.main_arg0) = m ((c.tc : Thread Cert.BankIdeal.nD Cert.BankIdeal.τ).loc Cert.BankIdeal.main_arg0)
          ∧ r.2.mem ((c.tc : Thread Cert.BankIdeal.nD Cert.BankIdeal.τ).loc Cert.BankIdeal.main_arg1) = m ((c.tc : Thread Cert.BankIdeal.nD Cert.BankIdeal.τ).loc Cert.BankIdeal.main_arg1)
          ∧ r.2.mem ((c.tc : Thread Cert.BankIdeal.nD Cert.BankIdeal.τ).loc Cert.BankIdeal.main_arg2) = m ((c.tc : Thread Cert.BankIdeal.nD Cert.BankIdeal.τ).loc Cert.BankIdeal.main_arg2)
          ∧ r.2.mem ((c.tc : Thread Cert.BankIdeal.nD Cert.BankIdeal.τ).loc Cert.BankIdeal.main_arg3) = m ((c.tc : Thread Cert.BankIdeal.nD Cert.BankIdeal.τ).loc Cert.BankIdeal.main_arg3)
          ∧ r.2.mem ((c.tc : Thread Cert.BankIdeal.nD Cert.BankIdeal.τ).loc Cert.BankIdeal.main_arg4) = m ((c.tc : Thread Cert.BankIdeal.nD Cert.BankIdeal.τ).loc Cert.BankIdeal.main_arg4))
      ∧ θ_run (Cert.BankRefIdeal.defs (F := Ideal)) (onTc (τ := Cert.BankRefIdeal.τ) (Cert.BankRefIdeal.main (F := Ideal))) ⟨m', fun _ => 0, g'⟩ (fun r => ∀ c : Dev Cert.BankRefIdeal.nD,
          r.2.mem ((c.tc : Thread Cert.BankRefIdeal.nD Cert.BankRefIdeal.τ).loc Cert.BankRefIdeal.main_v28) = v0 c
          ∧ r.2.mem ((c.tc : Thread Cert.BankRefIdeal.nD Cert.BankRefIdeal.τ).loc Cert.BankRefIdeal.main_v30) = v1 c
          ∧ r.2.mem ((c.tc : Thread Cert.BankRefIdeal.nD Cert.BankRefIdeal.τ).loc Cert.BankRefIdeal.main_arg0) = m' ((c.tc : Thread Cert.BankRefIdeal.nD Cert.BankRefIdeal.τ).loc Cert.BankRefIdeal.main_arg0)
          ∧ r.2.mem ((c.tc : Thread Cert.BankRefIdeal.nD Cert.BankRefIdeal.τ).loc Cert.BankRefIdeal.main_arg1) = m' ((c.tc : Thread Cert.BankRefIdeal.nD Cert.BankRefIdeal.τ).loc Cert.BankRefIdeal.main_arg1)
          ∧ r.2.mem ((c.tc : Thread Cert.BankRefIdeal.nD Cert.BankRefIdeal.τ).loc Cert.BankRefIdeal.main_arg2) = m' ((c.tc : Thread Cert.BankRefIdeal.nD Cert.BankRefIdeal.τ).loc Cert.BankRefIdeal.main_arg2)
          ∧ r.2.mem ((c.tc : Thread Cert.BankRefIdeal.nD Cert.BankRefIdeal.τ).loc Cert.BankRefIdeal.main_arg3) = m' ((c.tc : Thread Cert.BankRefIdeal.nD Cert.BankRefIdeal.τ).loc Cert.BankRefIdeal.main_arg3)
          ∧ r.2.mem ((c.tc : Thread Cert.BankRefIdeal.nD Cert.BankRefIdeal.τ).loc Cert.BankRefIdeal.main_arg4) = m' ((c.tc : Thread Cert.BankRefIdeal.nD Cert.BankRefIdeal.τ).loc Cert.BankRefIdeal.main_arg4))

def preserves_MemAttn_MemAttnIdeal : Prop :=
  True

def algebraic_MemAttnIdeal_MemAttnRefIdeal_pre_finite_mem [hMemAttnIdeal : Cert.MemAttnIdeal.Facts] [hMemAttnRefIdeal : Cert.MemAttnRefIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_mem m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v21) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v2) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v2) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hGates : Cert.Gates.Facts) (hGatesIdeal : Cert.GatesIdeal.Facts) (hGatesRefIdeal : Cert.GatesRefIdeal.Facts) (hOut : Cert.Out.Facts) (hOutIdeal : Cert.OutIdeal.Facts) (hOutRefIdeal : Cert.OutRefIdeal.Facts) (hPeerQ : Cert.PeerQ.Facts) (hPeerQIdeal : Cert.PeerQIdeal.Facts) (hPeerQRefIdeal : Cert.PeerQRefIdeal.Facts) (hMerge : Cert.Merge.Facts) (hMergeIdeal : Cert.MergeIdeal.Facts) (hMergeRefIdeal : Cert.MergeRefIdeal.Facts) (hMla : Cert.Mla.Facts) (hMlaIdeal : Cert.MlaIdeal.Facts) (hMlaRefIdeal : Cert.MlaRefIdeal.Facts) (hStates : Cert.States.Facts) (hStatesIdeal : Cert.StatesIdeal.Facts) (hStatesRefIdeal : Cert.StatesRefIdeal.Facts) (hBank : Cert.Bank.Facts) (hBankIdeal : Cert.BankIdeal.Facts) (hBankRefIdeal : Cert.BankRefIdeal.Facts) (hMemAttn : Cert.MemAttn.Facts) (hMemAttnIdeal : Cert.MemAttnIdeal.Facts) (hMemAttnRefIdeal : Cert.MemAttnRefIdeal.Facts) (hUq : Cert.Uq.Facts) (hUqIdeal : Cert.UqIdeal.Facts) (hUqRefIdeal : Cert.UqRefIdeal.Facts) (hUkv : Cert.Ukv.Facts) (hUkvIdeal : Cert.UkvIdeal.Facts) (hUkvRefIdeal : Cert.UkvRefIdeal.Facts) (hPre_finite_qk : Cert.Pre_finite_qk.Facts) (hPre_page_range : Cert.Pre_page_range.Facts) (hPre_finite_mla : Cert.Pre_finite_mla.Facts) (hPre_finite_mem : Cert.Pre_finite_mem.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Proj (hProj := hProj)
    ∧ quiescent_ProjIdeal (hProjIdeal := hProjIdeal)
    ∧ quiescent_ProjRefIdeal (hProjRefIdeal := hProjRefIdeal)
    ∧ quiescent_Gates (hGates := hGates)
    ∧ quiescent_GatesIdeal (hGatesIdeal := hGatesIdeal)
    ∧ quiescent_GatesRefIdeal (hGatesRefIdeal := hGatesRefIdeal)
    ∧ quiescent_Out (hOut := hOut)
    ∧ quiescent_OutIdeal (hOutIdeal := hOutIdeal)
    ∧ quiescent_OutRefIdeal (hOutRefIdeal := hOutRefIdeal)
    ∧ quiescent_PeerQ (hPeerQ := hPeerQ)
    ∧ quiescent_PeerQIdeal (hPeerQIdeal := hPeerQIdeal)
    ∧ quiescent_PeerQRefIdeal (hPeerQRefIdeal := hPeerQRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mla (hMla := hMla) (hPre_page_range := hPre_page_range)
    ∧ quiescent_MlaIdeal (hMlaIdeal := hMlaIdeal) (hPre_page_range := hPre_page_range)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_States (hStates := hStates)
    ∧ quiescent_StatesIdeal (hStatesIdeal := hStatesIdeal)
    ∧ quiescent_StatesRefIdeal (hStatesRefIdeal := hStatesRefIdeal)
    ∧ quiescent_Bank (hBank := hBank)
    ∧ quiescent_BankIdeal (hBankIdeal := hBankIdeal)
    ∧ quiescent_BankRefIdeal (hBankRefIdeal := hBankRefIdeal)
    ∧ quiescent_MemAttn (hMemAttn := hMemAttn)
    ∧ quiescent_MemAttnIdeal (hMemAttnIdeal := hMemAttnIdeal)
    ∧ quiescent_MemAttnIdeal_pre_finite_mem (hMemAttnIdeal := hMemAttnIdeal) (hPre_finite_mem := hPre_finite_mem)
    ∧ quiescent_MemAttnRefIdeal (hMemAttnRefIdeal := hMemAttnRefIdeal)
    ∧ quiescent_MemAttnRefIdeal_pre_finite_mem (hMemAttnRefIdeal := hMemAttnRefIdeal) (hPre_finite_mem := hPre_finite_mem)
    ∧ quiescent_Uq (hUq := hUq)
    ∧ quiescent_UqIdeal (hUqIdeal := hUqIdeal)
    ∧ quiescent_UqRefIdeal (hUqRefIdeal := hUqRefIdeal)
    ∧ quiescent_Ukv (hUkv := hUkv)
    ∧ quiescent_UkvIdeal (hUkvIdeal := hUkvIdeal)
    ∧ quiescent_UkvRefIdeal (hUkvRefIdeal := hUkvRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Proj_ProjIdeal
    ∧ algebraic_ProjIdeal_ProjRefIdeal (hProjIdeal := hProjIdeal) (hProjRefIdeal := hProjRefIdeal)
    ∧ preserves_Gates_GatesIdeal
    ∧ algebraic_GatesIdeal_GatesRefIdeal (hGatesIdeal := hGatesIdeal) (hGatesRefIdeal := hGatesRefIdeal)
    ∧ preserves_Out_OutIdeal
    ∧ algebraic_OutIdeal_OutRefIdeal (hOutIdeal := hOutIdeal) (hOutRefIdeal := hOutRefIdeal)
    ∧ preserves_PeerQ_PeerQIdeal
    ∧ algebraic_PeerQIdeal_PeerQRefIdeal (hPeerQIdeal := hPeerQIdeal) (hPeerQRefIdeal := hPeerQRefIdeal)
    ∧ preserves_Merge_MergeIdeal
    ∧ algebraic_MergeIdeal_MergeRefIdeal (hMergeIdeal := hMergeIdeal) (hMergeRefIdeal := hMergeRefIdeal)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_States_StatesIdeal
    ∧ algebraic_StatesIdeal_StatesRefIdeal (hStatesIdeal := hStatesIdeal) (hStatesRefIdeal := hStatesRefIdeal)
    ∧ preserves_Bank_BankIdeal
    ∧ algebraic_BankIdeal_BankRefIdeal (hBankIdeal := hBankIdeal) (hBankRefIdeal := hBankRefIdeal)
    ∧ preserves_MemAttn_MemAttnIdeal
    ∧ algebraic_MemAttnIdeal_MemAttnRefIdeal_pre_finite_mem (hMemAttnIdeal := hMemAttnIdeal) (hMemAttnRefIdeal := hMemAttnRefIdeal) (hPre_finite_mem := hPre_finite_mem)
    ∧ preserves_Uq_UqIdeal
    ∧ algebraic_UqIdeal_UqRefIdeal (hUqIdeal := hUqIdeal) (hUqRefIdeal := hUqRefIdeal)
    ∧ preserves_Ukv_UkvIdeal
    ∧ algebraic_UkvIdeal_UkvRefIdeal (hUkvIdeal := hUkvIdeal) (hUkvRefIdeal := hUkvRefIdeal)
-- ==== Pre_finite_mem.lean ====
abbrev S4x2048x1024 : Shape := ⟨3, ![4, 2048, 1024]⟩
abbrev S4x256x1024 : Shape := ⟨3, ![4, 256, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_

variable [Facts]

def fn {F : FTy → Type} [FloatOps F] (main_arg0 : FVec F S4x2048x1024 .bf16) (main_arg1 : FVec F S4x256x1024 .f32) (main_arg2 : FVec F S4x256x1024 .f32) : IVec S_ 1 :=
  let main_v0 : FVec F S4x2048x1024 .bf16 := Host.absf main_arg0
  let main_cst : FVec F S_ .bf16 := constant S_ .bf16 0x7F80#16
  let main_v1 : FVec F S4x2048x1024 .bf16 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x256x1024 .f32 := Host.absf main_arg1
  let main_cst_0 : FVec F S_ .f32 := constant S_ .f32 0x7F800000#32
  let main_v5 : FVec F S4x256x1024 .f32 := broadcastInDim S4x256x1024 ![] bcast_S_S4x256x1024 main_cst_0
  let main_v6 : IVec S4x256x1024 1 := cmpf .olt main_v4 main_v5
  let main_c_1 : IVec S_ 1 := constantI S_ 1 1#1
  let main_v7 : IVec S_ 1 := (fun x v => Host.reduce IntOp.andi x v reducesTo_S4x256x1024_S_d0_1_2 h_S_) main_v6 main_c_1
  let main_v8 : IVec S_ 1 := andi main_v3 main_v7
  main_v8
-- ==== Pre_finite_mla.lean ====
abbrev S128x128 : Shape := ⟨2, ![128, 128]⟩
abbrev S128x64x640 : Shape := ⟨3, ![128, 64, 640]⟩
abbrev S128x576x128 : Shape := ⟨3, ![128, 576, 128]⟩
abbrev S64x128 : Shape := ⟨2, ![64, 128]⟩
abbrev S1536x512 : Shape := ⟨2, ![1536, 512]⟩
abbrev S16x128x1024 : Shape := ⟨3, ![16, 128, 1024]⟩
abbrev S11796480x128 : Shape := ⟨2, ![11796480, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x64x640 : S_.BroadcastsInDim S128x64x640 (![] : Fin 0 → Fin S128x64x640.rank)
  reducesTo_S128x64x640_S_d0_1_2 : S128x64x640.ReducesTo [0, 1, 2] S_
  bcast_S_S128x576x128 : S_.BroadcastsInDim S128x576x128 (![] : Fin 0 → Fin S128x576x128.rank)
  reducesTo_S128x576x128_S_d0_1_2 : S128x576x128.ReducesTo [0, 1, 2] S_
  bcast_S_S1536x512 : S_.BroadcastsInDim S1536x512 (![] : Fin 0 → Fin S1536x512.rank)
  reducesTo_S1536x512_S_d0_1 : S1536x512.ReducesTo [0, 1] S_
  bcast_S_S16x128x1024 : S_.BroadcastsInDim S16x128x1024 (![] : Fin 0 → Fin S16x128x1024.rank)
  reducesTo_S16x128x1024_S_d0_1_2 : S16x128x1024.ReducesTo [0, 1, 2] S_
  bcast_S_S11796480x128 : S_.BroadcastsInDim S11796480x128 (![] : Fin 0 → Fin S11796480x128.rank)
  reducesTo_S11796480x128_S_d0_1 : S11796480x128.ReducesTo [0, 1] S_

variable [Facts]

def fn_part2 {F : FTy → Type} [FloatOps F] (main_arg7 : FVec F S11796480x128 .f32) (main_v32 : IVec S_ 1) (main_v33 : FVec F S16x128x1024 .f32) : IVec S_ 1 :=
  let main_cst_12 : FVec F S_ .f32 := constant S_ .f32 0x7F800000#32
  let main_v34 : FVec F S16x128x1024 .f32 := broadcastInDim S16x128x1024 ![] bcast_S_S16x128x1024 main_cst_12
  let main_v35 : IVec S16x128x1024 1 := cmpf .olt main_v33 main_v34
  let main_c_13 : IVec S_ 1 := constantI S_ 1 1#1
  let main_v36 : IVec S_ 1 := (fun x v => Host.reduce IntOp.andi x v reducesTo_S16x128x1024_S_d0_1_2 h_S_) main_v35 main_c_13
  let main_v37 : IVec S_ 1 := andi main_v32 main_v36
  let main_v38 : FVec F S11796480x128 .f32 := Host.absf main_arg7
  let main_cst_14 : FVec F S_ .f32 := constant S_ .f32 0x7F800000#32
  let main_v39 : FVec F S11796480x128 .f32 := broadcastInDim S11796480x128 ![] bcast_S_S11796480x128 main_cst_14
  let main_v40 : IVec S11796480x128 1 := cmpf .olt main_v38 main_v39
  let main_c_15 : IVec S_ 1 := constantI S_ 1 1#1
  let main_v41 : IVec S_ 1 := (fun x v => Host.reduce IntOp.andi x v reducesTo_S11796480x128_S_d0_1 h_S_) main_v40 main_c_15
  let main_v42 : IVec S_ 1 := andi main_v37 main_v41
  main_v42

def fn_part1 {F : FTy → Type} [FloatOps F] (main_arg2 : FVec F S128x576x128 .f32) (main_arg3 : FVec F S128x128 .f32) (main_arg5 : FVec F S1536x512 .bf16) (main_arg6 : FVec F S16x128x1024 .f32) (main_arg7 : FVec F S11796480x128 .f32) (main_v12 : IVec S_ 1) (main_v15 : IVec S128x64x640 1) (main_c_5 : IVec S_ 1) : IVec S_ 1 :=
  let main_v16 : IVec S_ 1 := (fun x v => Host.reduce IntOp.andi x v reducesTo_S128x64x640_S_d0_1_2 h_S_) main_v15 main_c_5
  let main_v17 : IVec S_ 1 := andi main_v12 main_v16
  let main_v18 : FVec F S128x576x128 .f32 := Host.absf main_arg2
  let main_cst_6 : FVec F S_ .f32 := constant S_ .f32 0x7F800000#32
  let main_v19 : FVec F S128x576x128 .f32 := broadcastInDim S128x576x128 ![] bcast_S_S128x576x128 main_cst_6
  let main_v20 : IVec S128x576x128 1 := cmpf .olt main_v18 main_v19
  let main_c_7 : IVec S_ 1 := constantI S_ 1 1#1
  let main_v21 : IVec S_ 1 := (fun x v => Host.reduce IntOp.andi x v reducesTo_S128x576x128_S_d0_1_2 h_S_) main_v20 main_c_7
  let main_v22 : IVec S_ 1 := andi main_v17 main_v21
  let main_v23 : FVec F S128x128 .f32 := Host.absf main_arg3
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S1536x512 .bf16 := Host.absf main_arg5
  let main_cst_10 : FVec F S_ .bf16 := constant S_ .bf16 0x7F80#16
  let main_v29 : FVec F S1536x512 .bf16 := broadcastInDim S1536x512 ![] bcast_S_S1536x512 main_cst_10
  let main_v30 : IVec S1536x512 1 := cmpf .olt main_v28 main_v29
  let main_c_11 : IVec S_ 1 := constantI S_ 1 1#1
  let main_v31 : IVec S_ 1 := (fun x v => Host.reduce IntOp.andi x v reducesTo_S1536x512_S_d0_1 h_S_) main_v30 main_c_11
  let main_v32 : IVec S_ 1 := andi main_v27 main_v31
  let main_v33 : FVec F S16x128x1024 .f32 := Host.absf main_arg6
  fn_part2 (F := F) main_arg7 main_v32 main_v33

def fn {F : FTy → Type} [FloatOps F] (main_arg0 : IVec S128x128 32) (main_arg1 : FVec F S128x64x640 .bf16) (main_arg2 : FVec F S128x576x128 .f32) (main_arg3 : FVec F S128x128 .f32) (main_arg4 : IVec S64x128 32) (main_arg5 : FVec F S1536x512 .bf16) (main_arg6 : FVec F S16x128x1024 .f32) (main_arg7 : FVec F S11796480x128 .f32) : IVec S_ 1 :=
  let main_c : IVec S_ 32 := constantI S_ 32 0#32
  let main_v0 : IVec S128x128 32 := broadcastInDim S128x128 ![] bcast_S_S128x128 main_c
  let main_v1 : IVec S128x128 1 := cmpi .sge main_arg0 main_v0
  let main_c_0 : IVec S_ 32 := constantI S_ 32 20480#32
  let main_v2 : IVec S128x128 32 := broadcastInDim S128x128 ![] bcast_S_S128x128 main_c_0
  let main_v3 : IVec S128x128 1 := cmpi .slt main_arg0 main_v2
  let main_v4 : IVec S128x128 1 := andi main_v1 main_v3
  let main_c_1 : IVec S_ 1 := constantI S_ 1 1#1
  let main_v5 : IVec S_ 1 := (fun x v => Host.reduce IntOp.andi x v reducesTo_S128x128_S_d0_1 h_S_) main_v4 main_c_1
  let main_c_2 : IVec S_ 32 := constantI S_ 32 0#32
  let main_v6 : IVec S64x128 32 := broadcastInDim S64x128 ![] bcast_S_S64x128 main_c_2
  let main_v7 : IVec S64x128 1 := cmpi .sge main_arg4 main_v6
  let main_c_3 : IVec S_ 32 := constantI S_ 32 4#32
  let main_v8 : IVec S64x128 32 := broadcastInDim S64x128 ![] bcast_S_S64x128 main_c_3
  let main_v9 : IVec S64x128 1 := cmpi .slt main_arg4 main_v8
  let main_v10 : IVec S64x128 1 := andi main_v7 main_v9
  let main_c_4 : IVec S_ 1 := constantI S_ 1 1#1
  let main_v11 : IVec S_ 1 := (fun x v => Host.reduce IntOp.andi x v reducesTo_S64x128_S_d0_1 h_S_) main_v10 main_c_4
  let main_v12 : IVec S_ 1 := andi main_v5 main_v11
  let main_v13 : FVec F S128x64x640 .bf16 := Host.absf main_arg1
  let main_cst : FVec F S_ .bf16 := constant S_ .bf16 0x7F80#16
  let main_v14 : FVec F S128x64x640 .bf16 := broadcastInDim S128x64x640 ![] bcast_S_S128x64x640 main_cst
  let main_v15 : IVec S128x64x640 1 := cmpf .olt main_v13 main_v14
  let main_c_5 : IVec S_ 1 := constantI S_ 1 1#1
  fn_part1 (F := F) main_arg2 main_arg3 main_arg5 main_arg6 main_arg7 main_v12 main_v15 main_c_5
-- ==== Pre_finite_qk.lean ====
abbrev S4x2048x3072 : Shape := ⟨3, ![4, 2048, 3072]⟩
abbrev S4x2048x1536 : Shape := ⟨3, ![4, 2048, 1536]⟩
abbrev S_ : Shape := ⟨0, ![]⟩

class Facts : Prop where
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel

variable [Facts]

def fn {F : FTy → Type} [FloatOps F] (main_arg0 : FVec F S4x2048x3072 .f32) (main_arg1 : FVec F S4x2048x3072 .bf16) (main_arg2 : FVec F S4x2048x1536 .bf16) : IVec S_ 1 :=
  let main_v0 : FVec F S4x2048x3072 .f32 := Host.absf main_arg0
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_c : IVec S_ 1 := constantI S_ 1 1#1
  let main_v3 : IVec S_ 1 := (fun x v => Host.reduce IntOp.andi x v reducesTo_S4x2048x3072_S_d0_1_2 h_S_) main_v2 main_c
  let main_v4 : FVec F S4x2048x3072 .bf16 := Host.absf main_arg1
  let main_cst_0 : FVec F S_ .bf16 := constant S_ .bf16 0x7F80#16
  let main_v5 : FVec F S4x2048x3072 .bf16 := broadcastInDim S4x2048x3072 ![] bcast_S_S4x2048x3072 main_cst_0
  let main_v6 : IVec S4x2048x3072 1 := cmpf .olt main_v4 main_v5
  let main_c_1 : IVec S_ 1 := constantI S_ 1 1#1
  let main_v7 : IVec S_ 1 := (fun x v => Host.reduce IntOp.andi x v reducesTo_S4x2048x3072_S_d0_1_2 h_S_) main_v6 main_c_1
  let main_v8 : IVec S_ 1 := andi main_v3 main_v7
  main_v8
-- ==== Pre_page_range.lean ====
abbrev S128x128 : Shape := ⟨2, ![128, 128]⟩
abbrev S128x64x640 : Shape := ⟨3, ![128, 64, 640]⟩
abbrev S128x576x128 : Shape := ⟨3, ![128, 576, 128]⟩
abbrev S64x128 : Shape := ⟨2, ![64, 128]⟩
abbrev S1536x512 : Shape := ⟨2, ![1536, 512]⟩
abbrev S16x128x1024 : Shape := ⟨3, ![16, 128, 1024]⟩
abbrev S11796480x128 : Shape := ⟨2, ![11796480, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel

variable [Facts]

def fn {F : FTy → Type} [FloatOps F] (main_arg0 : IVec S128x128 32) (main_arg1 : FVec F S128x64x640 .bf16) (main_arg2 : FVec F S128x576x128 .f32) (main_arg3 : FVec F S128x128 .f32) (main_arg4 : IVec S64x128 32) (main_arg5 : FVec F S1536x512 .bf16) (main_arg6 : FVec F S16x128x1024 .f32) (main_arg7 : FVec F S11796480x128 .f32) : IVec S_ 1 :=
  let main_c : IVec S_ 32 := constantI S_ 32 0#32
  let main_v0 : IVec S128x128 32 := broadcastInDim S128x128 ![] bcast_S_S128x128 main_c
  let main_v1 : IVec S128x128 1 := cmpi .sge main_arg0 main_v0
  let main_c_0 : IVec S_ 32 := constantI S_ 32 20480#32
  let main_v2 : IVec S128x128 32 := broadcastInDim S128x128 ![] bcast_S_S128x128 main_c_0
  let main_v3 : IVec S128x128 1 := cmpi .slt main_arg0 main_v2
  let main_v4 : IVec S128x128 1 := andi main_v1 main_v3
  let main_c_1 : IVec S_ 1 := constantI S_ 1 1#1
  let main_v5 : IVec S_ 1 := (fun x v => Host.reduce IntOp.andi x v reducesTo_S128x128_S_d0_1 h_S_) main_v4 main_c_1
  main_v5
-- ==== Attn.lean ====
abbrev S4x2048x3072 : Shape := ⟨3, ![4, 2048, 3072]⟩
abbrev S4x2048x1536 : Shape := ⟨3, ![4, 2048, 1536]⟩
abbrev S1x256x256 : Shape := ⟨3, ![1, 256, 256]⟩
abbrev S1x2048x256 : Shape := ⟨3, ![1, 2048, 256]⟩
abbrev S1x2048x128 : Shape := ⟨3, ![1, 2048, 128]⟩
abbrev S1x256x128 : Shape := ⟨3, ![1, 256, 128]⟩
abbrev S256x256 : Shape := ⟨2, ![256, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S2048x128 : Shape := ⟨2, ![2048, 128]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x3072, .f32⟩
  | .hbm, ⟨1, _⟩ => ⟨S4x2048x3072, .bf16⟩
  | .hbm, ⟨2, _⟩ => ⟨S4x2048x1536, .bf16⟩
  | .hbm, ⟨3, _⟩ => ⟨S4x2048x1536, .bf16⟩
  | .local _ .vmem, ⟨0, _⟩ => ⟨S1x256x256, .f32⟩
  | .local _ .vmem, ⟨1, _⟩ => ⟨S1x256x256, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 12, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S4x2048x3072 : Shape := ⟨3, ![4, 2048, 3072]⟩
abbrev S4x2048x1536 : Shape := ⟨3, ![4, 2048, 1536]⟩
abbrev S4x2048x12x256 : Shape := ⟨4, ![4, 2048, 12, 256]⟩
abbrev S4x2048x12x128 : Shape := ⟨4, ![4, 2048, 12, 128]⟩
abbrev S2048 : Shape := ⟨1, ![2048]⟩
abbrev S4x12x2048x2048 : Shape := ⟨4, ![4, 12, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S4x12x2048 : Shape := ⟨3, ![4, 12, 2048]⟩
abbrev S4x12x2048x1 : Shape := ⟨4, ![4, 12, 2048, 1]⟩
abbrev S4x12x128x2048 : Shape := ⟨4, ![4, 12, 128, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x2048x3072, .bf16⟩
  | .hbm, ⟨2, _⟩ => ⟨S4x2048x1536, .bf16⟩
  | .hbm, ⟨3, _⟩ => ⟨S4x2048x12x256, .f32⟩
  | .hbm, ⟨4, _⟩ => ⟨S4x2048x3072, .f32⟩
  | .hbm, ⟨5, _⟩ => ⟨S4x2048x12x256, .f32⟩
  | .hbm, ⟨6, _⟩ => ⟨S4x2048x1536, .f32⟩
  | .hbm, ⟨7, _⟩ => ⟨S4x2048x12x128, .f32⟩
  | .hbm, ⟨8, _⟩ => ⟨S2048, .i32⟩
  | .hbm, ⟨9, _⟩ => ⟨S4x12x2048x2048, .f32⟩
  | .hbm, ⟨10, _⟩ => ⟨S_, .f32⟩
  | .hbm, ⟨11, _⟩ => ⟨S4x12x2048x2048, .f32⟩
  | .hbm, ⟨12, _⟩ => ⟨S4x12x2048x2048, .f32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S4x12x2048x2048, .i1⟩
  | .hbm, ⟨21, _⟩ => ⟨S4x12x2048x2048, .f32⟩
  | .hbm, ⟨22, _⟩ => ⟨S4x12x2048x2048, .f32⟩
  | .hbm, ⟨23, _⟩ => ⟨S_, .f32⟩
  | .hbm, ⟨24, _⟩ => ⟨S4x12x2048, .f32⟩
  | .hbm, ⟨25, _⟩ => ⟨S_, .f32⟩
  | .hbm, ⟨26, _⟩ => ⟨S4x12x2048, .f32⟩
  | .hbm, ⟨27, _⟩ => ⟨S4x12x2048, .f32⟩
  | .hbm, ⟨28, _⟩ => ⟨S4x12x2048x1, .f32⟩
  | .hbm, ⟨29, _⟩ => ⟨S4x12x2048x2048, .f32⟩
  | .hbm, ⟨30, _⟩ => ⟨S4x12x2048x2048, .f32⟩
  | .hbm, ⟨31, _⟩ => ⟨S4x12x2048x2048, .f32⟩
  | .hbm, ⟨32, _⟩ => ⟨S_, .f32⟩
  | .hbm, ⟨33, _⟩ => ⟨S4x12x2048, .f32⟩
  | .hbm, ⟨34, _⟩ => ⟨S4x12x2048x1, .f32⟩
  | .hbm, ⟨35, _⟩ => ⟨S4x12x2048x2048, .f32⟩
  | .hbm, ⟨36, _⟩ => ⟨S4x12x2048x2048, .f32⟩
  | .hbm, ⟨37, _⟩ => ⟨S4x12x128x2048, .f32⟩
  | .hbm, ⟨38, _⟩ => ⟨S4x2048x12x128, .f32⟩
  | .hbm, ⟨39, _⟩ => ⟨S4x2048x1536, .f32⟩
  | .hbm, ⟨40, _⟩ => ⟨S4x2048x1536, .bf16⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proj.lean ====
abbrev S8704x4096 : Shape := ⟨2, ![8704, 4096]⟩
abbrev S4096x4352 : Shape := ⟨2, ![4096, 4352]⟩
abbrev S8704x4352 : Shape := ⟨2, ![8704, 4352]⟩
abbrev S512x4096 : Shape := ⟨2, ![512, 4096]⟩
abbrev S4096x256 : Shape := ⟨2, ![4096, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x4352, .bf16⟩
  | .hbm, ⟨2, _⟩ => ⟨S8704x4352, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S4096x256, .bf16⟩
  | .local _ .vmem, ⟨4, _⟩ => ⟨S512x256, .f32⟩
  | .local _ .vmem, ⟨5, _⟩ => ⟨S512x256, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8704x4096 : Shape := ⟨2, ![8704, 4096]⟩
abbrev S4096x4352 : Shape := ⟨2, ![4096, 4352]⟩
abbrev S8704x4352 : Shape := ⟨2, ![8704, 4352]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x4352, .bf16⟩
  | .hbm, ⟨2, _⟩ => ⟨S8704x4096, .f32⟩
  | .hbm, ⟨3, _⟩ => ⟨S4096x4352, .f32⟩
  | .hbm, ⟨4, _⟩ => ⟨S8704x4352, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gates.lean ====
abbrev S8704x4096 : Shape := ⟨2, ![8704, 4096]⟩
abbrev S4096x12288 : Shape := ⟨2, ![4096, 12288]⟩
abbrev S8704x12288 : Shape := ⟨2, ![8704, 12288]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x12288, .bf16⟩
  | .hbm, ⟨2, _⟩ => ⟨S8704x12288, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8704x4096 : Shape := ⟨2, ![8704, 4096]⟩
abbrev S4096x12288 : Shape := ⟨2, ![4096, 12288]⟩
abbrev S8704x12288 : Shape := ⟨2, ![8704, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x12288, .bf16⟩
  | .hbm, ⟨2, _⟩ => ⟨S8704x4096, .f32⟩
  | .hbm, ⟨3, _⟩ => ⟨S4096x12288, .f32⟩
  | .hbm, ⟨4, _⟩ => ⟨S8704x12288, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8704x4096 : Shape := ⟨2, ![8704, 4096]⟩
abbrev S4096x4096 : Shape := ⟨2, ![4096, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .bf16⟩
  | .hbm, ⟨2, _⟩ => ⟨S8704x4096, .f32⟩
  | .hbm, ⟨3, _⟩ => ⟨S8704x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8704x4096 : Shape := ⟨2, ![8704, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .bf16⟩
  | .hbm, ⟨2, _⟩ => ⟨S8704x4096, .f32⟩
  | .hbm, ⟨3, _⟩ => ⟨S8704x4096, .f32⟩
  | .hbm, ⟨4, _⟩ => ⟨S4096x4096, .f32⟩
  | .hbm, ⟨5, _⟩ => ⟨S8704x4096, .f32⟩
  | .hbm, ⟨6, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PeerQ.lean ====
abbrev S8704x4096 : Shape := ⟨2, ![8704, 4096]⟩
abbrev S4096x2048 : Shape := ⟨2, ![4096, 2048]⟩
abbrev S8704x2048 : Shape := ⟨2, ![8704, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x2048, .bf16⟩
  | .hbm, ⟨2, _⟩ => ⟨S8704x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQRefIdeal.lean ====
abbrev S8704x4096 : Shape := ⟨2, ![8704, 4096]⟩
abbrev S4096x2048 : Shape := ⟨2, ![4096, 2048]⟩
abbrev S8704x2048 : Shape := ⟨2, ![8704, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x2048, .bf16⟩
  | .hbm, ⟨2, _⟩ => ⟨S8704x4096, .f32⟩
  | .hbm, ⟨3, _⟩ => ⟨S4096x2048, .f32⟩
  | .hbm, ⟨4, _⟩ => ⟨S8704x2048, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S8704x1536 : Shape := ⟨2, ![8704, 1536]⟩
abbrev S8704x1024 : Shape := ⟨2, ![8704, 1024]⟩
abbrev S1536x4096 : Shape := ⟨2, ![1536, 4096]⟩
abbrev S1024x4096 : Shape := ⟨2, ![1024, 4096]⟩
abbrev S8704x12288 : Shape := ⟨2, ![8704, 12288]⟩
abbrev S8704x4096 : Shape := ⟨2, ![8704, 4096]⟩
abbrev S512x1536 : Shape := ⟨2, ![512, 1536]⟩
abbrev S512x1024 : Shape := ⟨2, ![512, 1024]⟩
abbrev S1536x512 : Shape := ⟨2, ![1536, 512]⟩
abbrev S1024x512 : Shape := ⟨2, ![1024, 512]⟩
abbrev S512x512 : Shape := ⟨2, ![512, 512]⟩

abbrev nBuf : Space → Nat
  | .hbm => 8
  | .vmem => 20
  | .smem => 0
  | _ => 0

abbrev bufTy : (tb : Table) → Fin (tcTables nBuf tb) → BufTy
  | .hbm, ⟨0, _⟩ => ⟨S8704x1536, .bf16⟩
  | .hbm, ⟨1, _⟩ => ⟨S8704x1536, .bf16⟩
  | .hbm, ⟨2, _⟩ => ⟨S8704x1024, .bf16⟩
  | .hbm, ⟨3, _⟩ => ⟨S1536x4096, .bf16⟩
  | .hbm, ⟨4, _⟩ => ⟨S1536x4096, .bf16⟩
  | .hbm, ⟨5, _⟩ => ⟨S1024x4096, .bf16⟩
  | .hbm, ⟨6, _⟩ => ⟨S8704x12288, .f32⟩
  | .hbm, ⟨7, _⟩ => ⟨S8704x4096, .bf16⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x1024, .bf16⟩
  | .local _ .vmem, ⟨5, _⟩ => ⟨S512x1024, .bf16⟩
  | .local _ .vmem, ⟨6, _⟩ => ⟨S1536x512, .bf16⟩
  | .local _ .vmem, ⟨7, _⟩ => ⟨S1536x512, .bf16⟩
  | .local _ .vmem, ⟨8, _⟩ => ⟨S1536x512, .bf16⟩
  | .local _ .vmem, ⟨9, _⟩ => ⟨S1536x512, .bf16⟩
  | .local _ .vmem, ⟨10, _⟩ => ⟨S1024x512, .bf16⟩
  | .local _ .vmem, ⟨11, _⟩ => ⟨S1024x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | _, _ => ⟨S8704x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8704x1536 : Shape := ⟨2, ![8704, 1536]⟩
abbrev S8704x1024 : Shape := ⟨2, ![8704, 1024]⟩
abbrev S1536x4096 : Shape := ⟨2, ![1536, 4096]⟩
abbrev S1024x4096 : Shape := ⟨2, ![1024, 4096]⟩
abbrev S8704x12288 : Shape := ⟨2, ![8704, 12288]⟩
abbrev S8704x4096 : Shape := ⟨2, ![8704, 4096]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8704x1536, .bf16⟩
  | .hbm, ⟨1, _⟩ => ⟨S8704x1536, .bf16⟩
  | .hbm, ⟨2, _⟩ => ⟨S8704x1024, .bf16⟩
  | .hbm, ⟨3, _⟩ => ⟨S1536x4096, .bf16⟩
  | .hbm, ⟨4, _⟩ => ⟨S1536x4096, .bf16⟩
  | .hbm, ⟨5, _⟩ => ⟨S1024x4096, .bf16⟩
  | .hbm, ⟨6, _⟩ => ⟨S8704x12288, .f32⟩
  | .hbm, ⟨7, _⟩ => ⟨S8704x4096, .f32⟩
  | .hbm, ⟨8, _⟩ => ⟨S8704x4096, .f32⟩
  | .hbm, ⟨9, _⟩ => ⟨S8704x4096, .f32⟩
  | .hbm, ⟨10, _⟩ => ⟨S8704x4096, .f32⟩
  | .hbm, ⟨11, _⟩ => ⟨S8704x4096, .f32⟩
  | .hbm, ⟨12, _⟩ => ⟨S_, .f32⟩
  | .hbm, ⟨13, _⟩ => ⟨S8704x4096, .f32⟩
  | .hbm, ⟨14, _⟩ => ⟨S8704x4096, .f32⟩
  | .hbm, ⟨15, _⟩ => ⟨S_, .f32⟩
  | .hbm, ⟨16, _⟩ => ⟨S8704x4096, .f32⟩
  | .hbm, ⟨17, _⟩ => ⟨S8704x4096, .f32⟩
  | .hbm, ⟨18, _⟩ => ⟨S8704x1536, .f32⟩
  | .hbm, ⟨19, _⟩ => ⟨S1536x4096, .f32⟩
  | .hbm, ⟨20, _⟩ => ⟨S8704x4096, .f32⟩
  | .hbm, ⟨21, _⟩ => ⟨S8704x4096, .f32⟩
  | .hbm, ⟨22, _⟩ => ⟨S8704x4096, .f32⟩
  | .hbm, ⟨23, _⟩ => ⟨S8704x4096, .f32⟩
  | .hbm, ⟨24, _⟩ => ⟨S_, .f32⟩
  | .hbm, ⟨25, _⟩ => ⟨S8704x4096, .f32⟩
  | .hbm, ⟨26, _⟩ => ⟨S8704x4096, .f32⟩
  | .hbm, ⟨27, _⟩ => ⟨S_, .f32⟩
  | .hbm, ⟨28, _⟩ => ⟨S8704x4096, .f32⟩
  | .hbm, ⟨29, _⟩ => ⟨S8704x4096, .f32⟩
  | .hbm, ⟨30, _⟩ => ⟨S8704x1536, .f32⟩
  | .hbm, ⟨31, _⟩ => ⟨S1536x4096, .f32⟩
  | .hbm, ⟨32, _⟩ => ⟨S8704x4096, .f32⟩
  | .hbm, ⟨33, _⟩ => ⟨S8704x4096, .f32⟩
  | .hbm, ⟨34, _⟩ => ⟨S8704x4096, .f32⟩
  | .hbm, ⟨35, _⟩ => ⟨S8704x4096, .f32⟩
  | .hbm, ⟨36, _⟩ => ⟨S8704x4096, .f32⟩
  | .hbm, ⟨37, _⟩ => ⟨S_, .f32⟩
  | .hbm, ⟨38, _⟩ => ⟨S8704x4096, .f32⟩
  | .hbm, ⟨39, _⟩ => ⟨S8704x4096, .f32⟩
  | .hbm, ⟨40, _⟩ => ⟨S_, .f32⟩
  | .hbm, ⟨41, _⟩ => ⟨S8704x4096, .f32⟩
  | .hbm, ⟨42, _⟩ => ⟨S8704x4096, .f32⟩
  | .hbm, ⟨43, _⟩ => ⟨S8704x1024, .f32⟩
  | .hbm, ⟨44, _⟩ => ⟨S1024x4096, .f32⟩
  | .hbm, ⟨45, _⟩ => ⟨S8704x4096, .f32⟩
  | .hbm, ⟨46, _⟩ => ⟨S8704x4096, .f32⟩
  | .hbm, ⟨47, _⟩ => ⟨S8704x4096, .f32⟩
  | .hbm, ⟨48, _⟩ => ⟨S8704x4096, .bf16⟩
  | _, _ => ⟨S8704x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Mla.lean ====
abbrev S128x128 : Shape := ⟨2, ![128, 128]⟩
abbrev S128x64x640 : Shape := ⟨3, ![128, 64, 640]⟩
abbrev S128x576x128 : Shape := ⟨3, ![128, 576, 128]⟩
abbrev S64x128 : Shape := ⟨2, ![64, 128]⟩
abbrev S1536x512 : Shape := ⟨2, ![1536, 512]⟩
abbrev S16x128x1024 : Shape := ⟨3, ![16, 128, 1024]⟩
abbrev S11796480x128 : Shape := ⟨2, ![11796480, 128]⟩
abbrev S128x64x512 : Shape := ⟨3, ![128, 64, 512]⟩
abbrev S1x64x640 : Shape := ⟨3, ![1, 64, 640]⟩
abbrev S1x576x128 : Shape := ⟨3, ![1, 576, 128]⟩
abbrev S1x64x512 : Shape := ⟨3, ![1, 64, 512]⟩
abbrev S4x4608x128 : Shape := ⟨3, ![4, 4608, 128]⟩
abbrev S4x128x1024 : Shape := ⟨3, ![4, 128, 1024]⟩
abbrev S1600x512 : Shape := ⟨2, ![1600, 512]⟩
abbrev S4 : Shape := ⟨1, ![4]⟩
abbrev S64x640 : Shape := ⟨2, ![64, 640]⟩
abbrev S64x512 : Shape := ⟨2, ![64, 512]⟩
abbrev S1x1 : Shape := ⟨2, ![1, 1]⟩
abbrev S1 : Shape := ⟨1, ![1]⟩
abbrev S_ : Shape := ⟨0, ![]⟩
abbrev S576x128 : Shape := ⟨2, ![576, 128]⟩
abbrev S1x128x1024 : Shape := ⟨3, ![1, 128, 1024]⟩
abbrev S128x1024 : Shape := ⟨2, ![128, 1024]⟩
abbrev S64x1 : Shape := ⟨2, ![64, 1]⟩
abbrev S1x512x128 : Shape := ⟨3, ![1, 512, 128]⟩
abbrev S512x128 : Shape := ⟨2, ![512, 128]⟩
abbrev S512x1024 : Shape := ⟨2, ![512, 1024]⟩
abbrev S1x64x128 : Shape := ⟨3, ![1, 64, 128]⟩
abbrev S64x1024 : Shape := ⟨2, ![64, 1024]⟩
abbrev S1600x1024 : Shape := ⟨2, ![1600, 1024]⟩
abbrev S1536x1024 : Shape := ⟨2, ![1536, 1024]⟩
abbrev S12x128x1024 : Shape := ⟨3, ![12, 128, 1024]⟩
abbrev S12x1024 : Shape := ⟨2, ![12, 1024]⟩
abbrev S1024 : Shape := ⟨1, ![1024]⟩
abbrev S1x1024 : Shape := ⟨2, ![1, 1024]⟩
abbrev S4x1024 : Shape := ⟨2, ![4, 1024]⟩
abbrev S16x1024 : Shape := ⟨2, ![16, 1024]⟩
abbrev S64 : Shape := ⟨1, ![64]⟩
abbrev S1600x128 : Shape := ⟨2, ![1600, 128]⟩
abbrev S1536x128 : Shape := ⟨2, ![1536, 128]⟩
abbrev S12x128x128 : Shape := ⟨3, ![12, 128, 128]⟩
abbrev S12x128 : Shape := ⟨2, ![12, 128]⟩
abbrev S128 : Shape := ⟨1, ![128]⟩
abbrev S1x128 : Shape := ⟨2, ![1, 128]⟩
abbrev S4x128 : Shape := ⟨2, ![4, 128]⟩
abbrev S16x128 : Shape := ⟨2, ![16, 128]⟩

abbrev nBuf : Space → Nat
  | .hbm => 8
  | .vmem => 12
  | .smem => 1
  | _ => 0

abbrev bufTy : (tb : Table) → Fin (tcTables nBuf tb) → BufTy
  | .hbm, ⟨0, _⟩ => ⟨S128x64x640, .bf16⟩
  | .hbm, ⟨1, _⟩ => ⟨S128x576x128, .f32⟩
  | .hbm, ⟨2, _⟩ => ⟨S128x128, .f32⟩
  | .hbm, ⟨3, _⟩ => ⟨S64x128, .i32⟩
  | .hbm, ⟨4, _⟩ => ⟨S1536x512, .bf16⟩
  | .hbm, ⟨5, _⟩ => ⟨S16x128x1024, .f32⟩
  | .hbm, ⟨6, _⟩ => ⟨S11796480x128, .f32⟩
  | .hbm, ⟨7, _⟩ => ⟨S128x64x512, .f32⟩
  | .local _ .vmem, ⟨0, _⟩ => ⟨S1x64x640, .bf16⟩
  | .local _ .vmem, ⟨1, _⟩ => ⟨S1x64x640, .bf16⟩
  | .local _ .vmem, ⟨2, _⟩ => ⟨S1x576x128, .f32⟩
  | .local _ .vmem, ⟨3, _⟩ => ⟨S1x576x128, .f32⟩
  | .local _ .vmem, ⟨4, _⟩ => ⟨S128x128, .f32⟩
  | .local _ .vmem, ⟨5, _⟩ => ⟨S64x128, .i32⟩
  | .local _ .vmem, ⟨6, _⟩ => ⟨S1536x512, .bf16⟩
  | .local _ .vmem, ⟨7, _⟩ => ⟨S1x64x512, .f32⟩
  | .local _ .vmem, ⟨8, _⟩ => ⟨S1x64x512, .f32⟩
  | .local _ .vmem, ⟨9, _⟩ => ⟨S4x4608x128, .f32⟩
  | .local _ .vmem, ⟨10, _⟩ => ⟨S4x128x1024, .f32⟩
  | .local _ .vmem, ⟨11, _⟩ => ⟨S1600x512, .bf16⟩
  | .local _ .smem, ⟨0, _⟩ => ⟨S128x128, .i32⟩
  | _, _ => ⟨S128x64x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def k0_off1 (i : grid0.Coords) : Fin 2 → Nat :=
  let arg0 : BitVec 32 := BitVec.ofNat 32 (i 0).val
  let v89 : Index := Scalar.indexCast arg0
  let c0_39 : Index := 0#32
  ![v89.toNat, 0]
def k0_mult1 (v90 : BitVec 32) : BitVec 32 :=
  let c0_i32_40 : BitVec 32 := 0#32
  let v91 : BitVec 32 := Scalar.addi c0_i32_40 v90
  let c576_i32 : BitVec 32 := 576#32
  let v92 : BitVec 32 := Scalar.muli v91 c576_i32
  v92

def k0_off2 (i : grid0.Coords) : Fin 2 → Nat :=
  let arg0 : BitVec 32 := BitVec.ofNat 32 (i 0).val
  let v94 : Index := Scalar.indexCast arg0
  let c1 : Index := 1#32
  ![v94.toNat, 1]
def k0_mult2 (v95 : BitVec 32) : BitVec 32 :=
  let c0_i32_41 : BitVec 32 := 0#32
  let v96 : BitVec 32 := Scalar.addi c0_i32_41 v95
  let c576_i32_42 : BitVec 32 := 576#32
  let v97 : BitVec 32 := Scalar.muli v96 c576_i32_42
  v97

def k0_off3 (i : grid0.Coords) : Fin 2 → Nat :=
  let arg0 : BitVec 32 := BitVec.ofNat 32 (i 0).val
  let v99 : Index := Scalar.indexCast arg0
  let c2 : Index := 2#32
  ![v99.toNat, 2]
def k0_mult3 (v100 : BitVec 32) : BitVec 32 :=
  let c0_i32_43 : BitVec 32 := 0#32
  let v101 : BitVec 32 := Scalar.addi c0_i32_43 v100
  let c576_i32_44 : BitVec 32 := 576#32
  let v102 : BitVec 32 := Scalar.muli v101 c576_i32_44
  v102

def k0_off4 (i : grid0.Coords) : Fin 2 → Nat :=
  let arg0 : BitVec 32 := BitVec.ofNat 32 (i 0).val
  let v104 : Index := Scalar.indexCast arg0
  let c3 : Index := 3#32
  ![v104.toNat, 3]
def k0_mult4 (v105 : BitVec 32) : BitVec 32 :=
  let c0_i32_45 : BitVec 32 := 0#32
  let v106 : BitVec 32 := Scalar.addi c0_i32_45 v105
  let c576_i32_46 : BitVec 32 := 576#32
  let v107 : BitVec 32 := Scalar.muli v106 c576_i32_46
  v107

def k0_off5 (i : grid0.Coords) : Fin 2 → Nat :=
  let arg0 : BitVec 32 := BitVec.ofNat 32 (i 0).val
  let v109 : Index := Scalar.indexCast arg0
  let c4 : Index := 4#32
  ![v109.toNat, 4]
def k0_mult5 (v110 : BitVec 32) : BitVec 32 :=
  let c0_i32_47 : BitVec 32 := 0#32
  let v111 : BitVec 32 := Scalar.addi c0_i32_47 v110
  let c576_i32_48 : BitVec 32 := 576#32
  let v112 : BitVec 32 := Scalar.muli v111 c576_i32_48
  v112

def k0_off6 (i : grid0.Coords) : Fin 2 → Nat :=
  let arg0 : BitVec 32 := BitVec.ofNat 32 (i 0).val
  let v114 : Index := Scalar.indexCast arg0
  let c5 : Index := 5#32
  ![v114.toNat, 5]
def k0_mult6 (v115 : BitVec 32) : BitVec 32 :=
  let c0_i32_49 : BitVec 32 := 0#32
  let v116 : BitVec 32 := Scalar.addi c0_i32_49 v115
  let c576_i32_50 : BitVec 32 := 576#32
  let v117 : BitVec 32 := Scalar.muli v116 c576_i32_50
  v117

def k0_off7 (i : grid0.Coords) : Fin 2 → Nat :=
  let arg0 : BitVec 32 := BitVec.ofNat 32 (i 0).val
  let v119 : Index := Scalar.indexCast arg0
  let c6 : Index := 6#32
  ![v119.toNat, 6]
def k0_mult7 (v120 : BitVec 32) : BitVec 32 :=
  let c0_i32_51 : BitVec 32 := 0#32
  let v121 : BitVec 32 := Scalar.addi c0_i32_51 v120
  let c576_i32_52 : BitVec 32 := 576#32
  let v122 : BitVec 32 := Scalar.muli v121 c576_i32_52
  v122

def k0_off8 (i : grid0.Coords) : Fin 2 → Nat :=
  let arg0 : BitVec 32 := BitVec.ofNat 32 (i 0).val
  let v124 : Index := Scalar.indexCast arg0
  let c7 : Index := 7#32
  ![v124.toNat, 7]
def k0_mult8 (v125 : BitVec 32) : BitVec 32 :=
  let c0_i32_53 : BitVec 32 := 0#32
  let v126 : BitVec 32 := Scalar.addi c0_i32_53 v125
  let c576_i32_54 : BitVec 32 := 576#32
  let v127 : BitVec 32 := Scalar.muli v126 c576_i32_54
  v127

def k0_off9 (v90 : BitVec 32) : Fin 2 → Nat :=
  let c0_i32_40 : BitVec 32 := 0#32
  let v91 : BitVec 32 := Scalar.addi c0_i32_40 v90
  let c576_i32 : BitVec 32 := 576#32
  let v92 : BitVec 32 := Scalar.muli v91 c576_i32
  let v93 : BitVec 32 := v92
  let c0_i32_59 : BitVec 32 := 0#32
  ![v93.toNat, 0]

def k0_chk1 (i : grid0.Coords) (v90 : BitVec 32) : Prop :=
  (∀ (k0_h2 : k0_cond2 i = 1#1), 576 ∣ (k0_mult1 v90).toNat) ∧
  (∀ (k0_h2 : k0_cond2 i = 1#1), ∀ a, (k0_off9 v90) a + S576x128.size a ≤ S11796480x128.size a)
theorem k0_mult1_dvd : ∀ (i : grid0.Coords) (v90 : BitVec 32) (k0_hw1 : k0_chk1 i v90), ∀ (k0_h2 : k0_cond2 i = 1#1), 576 ∣ (k0_mult1 v90).toNat := fun i v90 k0_hw1 k0_h2 => k0_hw1.1 k0_h2
theorem k0_off9_inb : ∀ (i : grid0.Coords) (v90 : BitVec 32) (k0_hw1 : k0_chk1 i v90), ∀ (k0_h2 : k0_cond2 i = 1#1), ∀ a, (k0_off9 v90) a + S576x128.size a ≤ S11796480x128.size a := fun i v90 k0_hw1 k0_h2 => k0_hw1.2 k0_h2

def k0_off10 (v95 : BitVec 32) : Fin 2 → Nat :=
  let c0_i32_41 : BitVec 32 := 0#32
  let v96 : BitVec 32 := Scalar.addi c0_i32_41 v95
  let c576_i32_42 : BitVec 32 := 576#32
  let v97 : BitVec 32 := Scalar.muli v96 c576_i32_42
  let v98 : BitVec 32 := v97
  let c0_i32_64 : BitVec 32 := 0#32
  ![v98.toNat, 0]

def k0_chk2 (i : grid0.Coords) (v95 : BitVec 32) : Prop :=
  (∀ (k0_h2 : k0_cond2 i = 1#1), 576 ∣ (k0_mult2 v95).toNat) ∧
  (∀ (k0_h2 : k0_cond2 i = 1#1), ∀ a, (k0_off10 v95) a + S576x128.size a ≤ S11796480x128.size a)
theorem k0_mult2_dvd : ∀ (i : grid0.Coords) (v95 : BitVec 32) (k0_hw2 : k0_chk2 i v95), ∀ (k0_h2 : k0_cond2 i = 1#1), 576 ∣ (k0_mult2 v95).toNat := fun i v95 k0_hw2 k0_h2 => k0_hw2.1 k0_h2
theorem k0_off10_inb : ∀ (i : grid0.Coords) (v95 : BitVec 32) (k0_hw2 : k0_chk2 i v95), ∀ (k0_h2 : k0_cond2 i = 1#1), ∀ a, (k0_off10 v95) a + S576x128.size a ≤ S11796480x128.size a := fun i v95 k0_hw2 k0_h2 => k0_hw2.2 k0_h2

def k0_off11 (v100 : BitVec 32) : Fin 2 → Nat :=
  let c0_i32_43 : BitVec 32 := 0#32
  let v101 : BitVec 32 := Scalar.addi c0_i32_43 v100
  let c576_i32_44 : BitVec 32 := 576#32
  let v102 : BitVec 32 := Scalar.muli v101 c576_i32_44
  let v103 : BitVec 32 := v102
  let c0_i32_68 : BitVec 32 := 0#32
  ![v103.toNat, 0]

def k0_chk3 (i : grid0.Coords) (v100 : BitVec 32) : Prop :=
  (∀ (k0_h2 : k0_cond2 i = 1#1), 576 ∣ (k0_mult3 v100).toNat) ∧
  (∀ (k0_h2 : k0_cond2 i = 1#1), ∀ a, (k0_off11 v100) a + S576x128.size a ≤ S11796480x128.size a)
theorem k0_mult3_dvd : ∀ (i : grid0.Coords) (v100 : BitVec 32) (k0_hw3 : k0_chk3 i v100), ∀ (k0_h2 : k0_cond2 i = 1#1), 576 ∣ (k0_mult3 v100).toNat := fun i v100 k0_hw3 k0_h2 => k0_hw3.1 k0_h2
theorem k0_off11_inb : ∀ (i : grid0.Coords) (v100 : BitVec 32) (k0_hw3 : k0_chk3 i v100), ∀ (k0_h2 : k0_cond2 i = 1#1), ∀ a, (k0_off11 v100) a + S576x128.size a ≤ S11796480x128.size a := fun i v100 k0_hw3 k0_h2 => k0_hw3.2 k0_h2

def k0_off12 (v105 : BitVec 32) : Fin 2 → Nat :=
  let c0_i32_45 : BitVec 32 := 0#32
  let v106 : BitVec 32 := Scalar.addi c0_i32_45 v105
  let c576_i32_46 : BitVec 32 := 576#32
  let v107 : BitVec 32 := Scalar.muli v106 c576_i32_46
  let v108 : BitVec 32 := v107
  let c0_i32_72 : BitVec 32 := 0#32
  ![v108.toNat, 0]

def k0_chk4 (i : grid0.Coords) (v105 : BitVec 32) : Prop :=
  (∀ (k0_h2 : k0_cond2 i = 1#1), 576 ∣ (k0_mult4 v105).toNat) ∧
  (∀ (k0_h2 : k0_cond2 i = 1#1), ∀ a, (k0_off12 v105) a + S576x128.size a ≤ S11796480x128.size a)
theorem k0_mult4_dvd : ∀ (i : grid0.Coords) (v105 : BitVec 32) (k0_hw4 : k0_chk4 i v105), ∀ (k0_h2 : k0_cond2 i = 1#1), 576 ∣ (k0_mult4 v105).toNat := fun i v105 k0_hw4 k0_h2 => k0_hw4.1 k0_h2
theorem k0_off12_inb : ∀ (i : grid0.Coords) (v105 : BitVec 32) (k0_hw4 : k0_chk4 i v105), ∀ (k0_h2 : k0_cond2 i = 1#1), ∀ a, (k0_off12 v105) a + S576x128.size a ≤ S11796480x128.size a := fun i v105 k0_hw4 k0_h2 => k0_hw4.2 k0_h2

def k0_off13 (v110 : BitVec 32) : Fin 2 → Nat :=
  let c0_i32_47 : BitVec 32 := 0#32
  let v111 : BitVec 32 := Scalar.addi c0_i32_47 v110
  let c576_i32_48 : BitVec 32 := 576#32
  let v112 : BitVec 32 := Scalar.muli v111 c576_i32_48
  let v113 : BitVec 32 := v112
  let c0_i32_76 : BitVec 32 := 0#32
  ![v113.toNat, 0]

def k0_chk5 (i : grid0.Coords) (v110 : BitVec 32) : Prop :=
  (∀ (k0_h2 : k0_cond2 i = 1#1), 576 ∣ (k0_mult5 v110).toNat) ∧
  (∀ (k0_h2 : k0_cond2 i = 1#1), ∀ a, (k0_off13 v110) a + S576x128.size a ≤ S11796480x128.size a)
theorem k0_mult5_dvd : ∀ (i : grid0.Coords) (v110 : BitVec 32) (k0_hw5 : k0_chk5 i v110), ∀ (k0_h2 : k0_cond2 i = 1#1), 576 ∣ (k0_mult5 v110).toNat := fun i v110 k0_hw5 k0_h2 => k0_hw5.1 k0_h2
theorem k0_off13_inb : ∀ (i : grid0.Coords) (v110 : BitVec 32) (k0_hw5 : k0_chk5 i v110), ∀ (k0_h2 : k0_cond2 i = 1#1), ∀ a, (k0_off13 v110) a + S576x128.size a ≤ S11796480x128.size a := fun i v110 k0_hw5 k0_h2 => k0_hw5.2 k0_h2

def k0_off14 (v115 : BitVec 32) : Fin 2 → Nat :=
  let c0_i32_49 : BitVec 32 := 0#32
  let v116 : BitVec 32 := Scalar.addi c0_i32_49 v115
  let c576_i32_50 : BitVec 32 := 576#32
  let v117 : BitVec 32 := Scalar.muli v116 c576_i32_50
  let v118 : BitVec 32 := v117
  let c0_i32_80 : BitVec 32 := 0#32
  ![v118.toNat, 0]

def k0_chk6 (i : grid0.Coords) (v115 : BitVec 32) : Prop :=
  (∀ (k0_h2 : k0_cond2 i = 1#1), 576 ∣ (k0_mult6 v115).toNat) ∧
  (∀ (k0_h2 : k0_cond2 i = 1#1), ∀ a, (k0_off14 v115) a + S576x128.size a ≤ S11796480x128.size a)
theorem k0_mult6_dvd : ∀ (i : grid0.Coords) (v115 : BitVec 32) (k0_hw6 : k0_chk6 i v115), ∀ (k0_h2 : k0_cond2 i = 1#1), 576 ∣ (k0_mult6 v115).toNat := fun i v115 k0_hw6 k0_h2 => k0_hw6.1 k0_h2
theorem k0_off14_inb : ∀ (i : grid0.Coords) (v115 : BitVec 32) (k0_hw6 : k0_chk6 i v115), ∀ (k0_h2 : k0_cond2 i = 1#1), ∀ a, (k0_off14 v115) a + S576x128.size a ≤ S11796480x128.size a := fun i v115 k0_hw6 k0_h2 => k0_hw6.2 k0_h2

def k0_off15 (v120 : BitVec 32) : Fin 2 → Nat :=
  let c0_i32_51 : BitVec 32 := 0#32
  let v121 : BitVec 32 := Scalar.addi c0_i32_51 v120
  let c576_i32_52 : BitVec 32 := 576#32
  let v122 : BitVec 32 := Scalar.muli v121 c576_i32_52
  let v123 : BitVec 32 := v122
  let c0_i32_84 : BitVec 32 := 0#32
  ![v123.toNat, 0]

def k0_chk7 (i : grid0.Coords) (v120 : BitVec 32) : Prop :=
  (∀ (k0_h2 : k0_cond2 i = 1#1), 576 ∣ (k0_mult7 v120).toNat) ∧
  (∀ (k0_h2 : k0_cond2 i = 1#1), ∀ a, (k0_off15 v120) a + S576x128.size a ≤ S11796480x128.size a)
theorem k0_mult7_dvd : ∀ (i : grid0.Coords) (v120 : BitVec 32) (k0_hw7 : k0_chk7 i v120), ∀ (k0_h2 : k0_cond2 i = 1#1), 576 ∣ (k0_mult7 v120).toNat := fun i v120 k0_hw7 k0_h2 => k0_hw7.1 k0_h2
theorem k0_off15_inb : ∀ (i : grid0.Coords) (v120 : BitVec 32) (k0_hw7 : k0_chk7 i v120), ∀ (k0_h2 : k0_cond2 i = 1#1), ∀ a, (k0_off15 v120) a + S576x128.size a ≤ S11796480x128.size a := fun i v120 k0_hw7 k0_h2 => k0_hw7.2 k0_h2

def k0_off16 (v125 : BitVec 32) : Fin 2 → Nat :=
  let c0_i32_53 : BitVec 32 := 0#32
  let v126 : BitVec 32 := Scalar.addi c0_i32_53 v125
  let c576_i32_54 : BitVec 32 := 576#32
  let v127 : BitVec 32 := Scalar.muli v126 c576_i32_54
  let v128 : BitVec 32 := v127
  let c0_i32_88 : BitVec 32 := 0#32
  ![v128.toNat, 0]

def k0_chk8 (i : grid0.Coords) (v125 : BitVec 32) : Prop :=
  (∀ (k0_h2 : k0_cond2 i = 1#1), 576 ∣ (k0_mult8 v125).toNat) ∧
  (∀ (k0_h2 : k0_cond2 i = 1#1), ∀ a, (k0_off16 v125) a + S576x128.size a ≤ S11796480x128.size a)
theorem k0_mult8_dvd : ∀ (i : grid0.Coords) (v125 : BitVec 32) (k0_hw8 : k0_chk8 i v125), ∀ (k0_h2 : k0_cond2 i = 1#1), 576 ∣ (k0_mult8 v125).toNat := fun i v125 k0_hw8 k0_h2 => k0_hw8.1 k0_h2
theorem k0_off16_inb : ∀ (i : grid0.Coords) (v125 : BitVec 32) (k0_hw8 : k0_chk8 i v125), ∀ (k0_h2 : k0_cond2 i = 1#1), ∀ a, (k0_off16 v125) a + S576x128.size a ≤ S11796480x128.size a := fun i v125 k0_hw8 k0_h2 => k0_hw8.2 k0_h2

def k0_off17 (i : grid0.Coords) : Fin 2 → Nat :=
  let arg0 : BitVec 32 := BitVec.ofNat 32 (i 0).val
  let v175 : Index := Scalar.indexCast arg0
  let c8 : Index := 8#32
  ![v175.toNat, 8]
def k0_mult9 (v176 : BitVec 32) : BitVec 32 :=
  let c0_i32_96 : BitVec 32 := 0#32
  let v177 : BitVec 32 := Scalar.addi c0_i32_96 v176
  let c576_i32_97 : BitVec 32 := 576#32
  let v178 : BitVec 32 := Scalar.muli v177 c576_i32_97
  v178

def k0_off18 (i : grid0.Coords) : Fin 2 → Nat :=
  let arg0 : BitVec 32 := BitVec.ofNat 32 (i 0).val
  let v180 : Index := Scalar.indexCast arg0
  let c9 : Index := 9#32
  ![v180.toNat, 9]
def k0_mult10 (v181 : BitVec 32) : BitVec 32 :=
  let c0_i32_98 : BitVec 32 := 0#32
  let v182 : BitVec 32 := Scalar.addi c0_i32_98 v181
  let c576_i32_99 : BitVec 32 := 576#32
  let v183 : BitVec 32 := Scalar.muli v182 c576_i32_99
  v183

def k0_off19 (i : grid0.Coords) : Fin 2 → Nat :=
  let arg0 : BitVec 32 := BitVec.ofNat 32 (i 0).val
  let v185 : Index := Scalar.indexCast arg0
  let c10 : Index := 10#32
  ![v185.toNat, 10]
def k0_mult11 (v186 : BitVec 32) : BitVec 32 :=
  let c0_i32_100 : BitVec 32 := 0#32
  let v187 : BitVec 32 := Scalar.addi c0_i32_100 v186
  let c576_i32_101 : BitVec 32 := 576#32
  let v188 : BitVec 32 := Scalar.muli v187 c576_i32_101
  v188

def k0_off20 (i : grid0.Coords) : Fin 2 → Nat :=
  let arg0 : BitVec 32 := BitVec.ofNat 32 (i 0).val
  let v190 : Index := Scalar.indexCast arg0
  let c11 : Index := 11#32
  ![v190.toNat, 11]
def k0_mult12 (v191 : BitVec 32) : BitVec 32 :=
  let c0_i32_102 : BitVec 32 := 0#32
  let v192 : BitVec 32 := Scalar.addi c0_i32_102 v191
  let c576_i32_103 : BitVec 32 := 576#32
  let v193 : BitVec 32 := Scalar.muli v192 c576_i32_103
  v193

def k0_off21 (i : grid0.Coords) : Fin 2 → Nat :=
  let arg0 : BitVec 32 := BitVec.ofNat 32 (i 0).val
  let v195 : Index := Scalar.indexCast arg0
  let c12 : Index := 12#32
  ![v195.toNat, 12]
def k0_mult13 (v196 : BitVec 32) : BitVec 32 :=
  let c0_i32_104 : BitVec 32 := 0#32
  let v197 : BitVec 32 := Scalar.addi c0_i32_104 v196
  let c576_i32_105 : BitVec 32 := 576#32
  let v198 : BitVec 32 := Scalar.muli v197 c576_i32_105
  v198

def k0_off22 (i : grid0.Coords) : Fin 2 → Nat :=
  let arg0 : BitVec 32 := BitVec.ofNat 32 (i 0).val
  let v200 : Index := Scalar.indexCast arg0
  let c13 : Index := 13#32
  ![v200.toNat, 13]
def k0_mult14 (v201 : BitVec 32) : BitVec 32 :=
  let c0_i32_106 : BitVec 32 := 0#32
  let v202 : BitVec 32 := Scalar.addi c0_i32_106 v201
  let c576_i32_107 : BitVec 32 := 576#32
  let v203 : BitVec 32 := Scalar.muli v202 c576_i32_107
  v203

def k0_off23 (i : grid0.Coords) : Fin 2 → Nat :=
  let arg0 : BitVec 32 := BitVec.ofNat 32 (i 0).val
  let v205 : Index := Scalar.indexCast arg0
  let c14 : Index := 14#32
  ![v205.toNat, 14]
def k0_mult15 (v206 : BitVec 32) : BitVec 32 :=
  let c0_i32_108 : BitVec 32 := 0#32
  let v207 : BitVec 32 := Scalar.addi c0_i32_108 v206
  let c576_i32_109 : BitVec 32 := 576#32
  let v208 : BitVec 32 := Scalar.muli v207 c576_i32_109
  v208

def k0_off24 (i : grid0.Coords) : Fin 2 → Nat :=
  let arg0 : BitVec 32 := BitVec.ofNat 32 (i 0).val
  let v210 : Index := Scalar.indexCast arg0
  let c15 : Index := 15#32
  ![v210.toNat, 15]
def k0_mult16 (v211 : BitVec 32) : BitVec 32 :=
  let c0_i32_110 : BitVec 32 := 0#32
  let v212 : BitVec 32 := Scalar.addi c0_i32_110 v211
  let c576_i32_111 : BitVec 32 := 576#32
  let v213 : BitVec 32 := Scalar.muli v212 c576_i32_111
  v213

def k0_off25 (v176 : BitVec 32) : Fin 2 → Nat :=
  let c0_i32_96 : BitVec 32 := 0#32
  let v177 : BitVec 32 := Scalar.addi c0_i32_96 v176
  let c576_i32_97 : BitVec 32 := 576#32
  let v178 : BitVec 32 := Scalar.muli v177 c576_i32_97
  let v179 : BitVec 32 := v178
  let c0_i32_116 : BitVec 32 := 0#32
  ![v179.toNat, 0]

def k0_chk9 (i : grid0.Coords) (v176 : BitVec 32) : Prop :=
  (∀ (k0_h2 : k0_cond2 i = 1#1), 576 ∣ (k0_mult9 v176).toNat) ∧
  (∀ (k0_h2 : k0_cond2 i = 1#1), ∀ a, (k0_off25 v176) a + S576x128.size a ≤ S11796480x128.size a)
theorem k0_mult9_dvd : ∀ (i : grid0.Coords) (v176 : BitVec 32) (k0_hw9 : k0_chk9 i v176), ∀ (k0_h2 : k0_cond2 i = 1#1), 576 ∣ (k0_mult9 v176).toNat := fun i v176 k0_hw9 k0_h2 => k0_hw9.1 k0_h2
theorem k0_off25_inb : ∀ (i : grid0.Coords) (v176 : BitVec 32) (k0_hw9 : k0_chk9 i v176), ∀ (k0_h2 : k0_cond2 i = 1#1), ∀ a, (k0_off25 v176) a + S576x128.size a ≤ S11796480x128.size a := fun i v176 k0_hw9 k0_h2 => k0_hw9.2 k0_h2

def k0_off26 (v181 : BitVec 32) : Fin 2 → Nat :=
  let c0_i32_98 : BitVec 32 := 0#32
  let v182 : BitVec 32 := Scalar.addi c0_i32_98 v181
  let c576_i32_99 : BitVec 32 := 576#32
  let v183 : BitVec 32 := Scalar.muli v182 c576_i32_99
  let v184 : BitVec 32 := v183
  let c0_i32_121 : BitVec 32 := 0#32
  ![v184.toNat, 0]

def k0_chk10 (i : grid0.Coords) (v181 : BitVec 32) : Prop :=
  (∀ (k0_h2 : k0_cond2 i = 1#1), 576 ∣ (k0_mult10 v181).toNat) ∧
  (∀ (k0_h2 : k0_cond2 i = 1#1), ∀ a, (k0_off26 v181) a + S576x128.size a ≤ S11796480x128.size a)
theorem k0_mult10_dvd : ∀ (i : grid0.Coords) (v181 : BitVec 32) (k0_hw10 : k0_chk10 i v181), ∀ (k0_h2 : k0_cond2 i = 1#1), 576 ∣ (k0_mult10 v181).toNat := fun i v181 k0_hw10 k0_h2 => k0_hw10.1 k0_h2
theorem k0_off26_inb : ∀ (i : grid0.Coords) (v181 : BitVec 32) (k0_hw10 : k0_chk10 i v181), ∀ (k0_h2 : k0_cond2 i = 1#1), ∀ a, (k0_off26 v181) a + S576x128.size a ≤ S11796480x128.size a := fun i v181 k0_hw10 k0_h2 => k0_hw10.2 k0_h2

def k0_off27 (v186 : BitVec 32) : Fin 2 → Nat :=
  let c0_i32_100 : BitVec 32 := 0#32
  let v187 : BitVec 32 := Scalar.addi c0_i32_100 v186
  let c576_i32_101 : BitVec 32 := 576#32
  let v188 : BitVec 32 := Scalar.muli v187 c576_i32_101
  let v189 : BitVec 32 := v188
  let c0_i32_126 : BitVec 32 := 0#32
  ![v189.toNat, 0]

def k0_chk11 (i : grid0.Coords) (v186 : BitVec 32) : Prop :=
  (∀ (k0_h2 : k0_cond2 i = 1#1), 576 ∣ (k0_mult11 v186).toNat) ∧
  (∀ (k0_h2 : k0_cond2 i = 1#1), ∀ a, (k0_off27 v186) a + S576x128.size a ≤ S11796480x128.size a)
theorem k0_mult11_dvd : ∀ (i : grid0.Coords) (v186 : BitVec 32) (k0_hw11 : k0_chk11 i v186), ∀ (k0_h2 : k0_cond2 i = 1#1), 576 ∣ (k0_mult11 v186).toNat := fun i v186 k0_hw11 k0_h2 => k0_hw11.1 k0_h2
theorem k0_off27_inb : ∀ (i : grid0.Coords) (v186 : BitVec 32) (k0_hw11 : k0_chk11 i v186), ∀ (k0_h2 : k0_cond2 i = 1#1), ∀ a, (k0_off27 v186) a + S576x128.size a ≤ S11796480x128.size a := fun i v186 k0_hw11 k0_h2 => k0_hw11.2 k0_h2

def k0_off28 (v191 : BitVec 32) : Fin 2 → Nat :=
  let c0_i32_102 : BitVec 32 := 0#32
  let v192 : BitVec 32 := Scalar.addi c0_i32_102 v191
  let c576_i32_103 : BitVec 32 := 576#32
  let v193 : BitVec 32 := Scalar.muli v192 c576_i32_103
  let v194 : BitVec 32 := v193
  let c0_i32_131 : BitVec 32 := 0#32
  ![v194.toNat, 0]

def k0_chk12 (i : grid0.Coords) (v191 : BitVec 32) : Prop :=
  (∀ (k0_h2 : k0_cond2 i = 1#1), 576 ∣ (k0_mult12 v191).toNat) ∧
  (∀ (k0_h2 : k0_cond2 i = 1#1), ∀ a, (k0_off28 v191) a + S576x128.size a ≤ S11796480x128.size a)
theorem k0_mult12_dvd : ∀ (i : grid0.Coords) (v191 : BitVec 32) (k0_hw12 : k0_chk12 i v191), ∀ (k0_h2 : k0_cond2 i = 1#1), 576 ∣ (k0_mult12 v191).toNat := fun i v191 k0_hw12 k0_h2 => k0_hw12.1 k0_h2
theorem k0_off28_inb : ∀ (i : grid0.Coords) (v191 : BitVec 32) (k0_hw12 : k0_chk12 i v191), ∀ (k0_h2 : k0_cond2 i = 1#1), ∀ a, (k0_off28 v191) a + S576x128.size a ≤ S11796480x128.size a := fun i v191 k0_hw12 k0_h2 => k0_hw12.2 k0_h2

def k0_off29 (v196 : BitVec 32) : Fin 2 → Nat :=
  let c0_i32_104 : BitVec 32 := 0#32
  let v197 : BitVec 32 := Scalar.addi c0_i32_104 v196
  let c576_i32_105 : BitVec 32 := 576#32
  let v198 : BitVec 32 := Scalar.muli v197 c576_i32_105
  let v199 : BitVec 32 := v198
  let c0_i32_136 : BitVec 32 := 0#32
  ![v199.toNat, 0]

def k0_chk13 (i : grid0.Coords) (v196 : BitVec 32) : Prop :=
  (∀ (k0_h2 : k0_cond2 i = 1#1), 576 ∣ (k0_mult13 v196).toNat) ∧
  (∀ (k0_h2 : k0_cond2 i = 1#1), ∀ a, (k0_off29 v196) a + S576x128.size a ≤ S11796480x128.size a)
theorem k0_mult13_dvd : ∀ (i : grid0.Coords) (v196 : BitVec 32) (k0_hw13 : k0_chk13 i v196), ∀ (k0_h2 : k0_cond2 i = 1#1), 576 ∣ (k0_mult13 v196).toNat := fun i v196 k0_hw13 k0_h2 => k0_hw13.1 k0_h2
theorem k0_off29_inb : ∀ (i : grid0.Coords) (v196 : BitVec 32) (k0_hw13 : k0_chk13 i v196), ∀ (k0_h2 : k0_cond2 i = 1#1), ∀ a, (k0_off29 v196) a + S576x128.size a ≤ S11796480x128.size a := fun i v196 k0_hw13 k0_h2 => k0_hw13.2 k0_h2

def k0_off30 (v201 : BitVec 32) : Fin 2 → Nat :=
  let c0_i32_106 : BitVec 32 := 0#32
  let v202 : BitVec 32 := Scalar.addi c0_i32_106 v201
  let c576_i32_107 : BitVec 32 := 576#32
  let v203 : BitVec 32 := Scalar.muli v202 c576_i32_107
  let v204 : BitVec 32 := v203
  let c0_i32_141 : BitVec 32 := 0#32
  ![v204.toNat, 0]

def k0_chk14 (i : grid0.Coords) (v201 : BitVec 32) : Prop :=
  (∀ (k0_h2 : k0_cond2 i = 1#1), 576 ∣ (k0_mult14 v201).toNat) ∧
  (∀ (k0_h2 : k0_cond2 i = 1#1), ∀ a, (k0_off30 v201) a + S576x128.size a ≤ S11796480x128.size a)
theorem k0_mult14_dvd : ∀ (i : grid0.Coords) (v201 : BitVec 32) (k0_hw14 : k0_chk14 i v201), ∀ (k0_h2 : k0_cond2 i = 1#1), 576 ∣ (k0_mult14 v201).toNat := fun i v201 k0_hw14 k0_h2 => k0_hw14.1 k0_h2
theorem k0_off30_inb : ∀ (i : grid0.Coords) (v201 : BitVec 32) (k0_hw14 : k0_chk14 i v201), ∀ (k0_h2 : k0_cond2 i = 1#1), ∀ a, (k0_off30 v201) a + S576x128.size a ≤ S11796480x128.size a := fun i v201 k0_hw14 k0_h2 => k0_hw14.2 k0_h2

def k0_off31 (v206 : BitVec 32) : Fin 2 → Nat :=
  let c0_i32_108 : BitVec 32 := 0#32
  let v207 : BitVec 32 := Scalar.addi c0_i32_108 v206
  let c576_i32_109 : BitVec 32 := 576#32
  let v208 : BitVec 32 := Scalar.muli v207 c576_i32_109
  let v209 : BitVec 32 := v208
  let c0_i32_146 : BitVec 32 := 0#32
  ![v209.toNat, 0]

def k0_chk15 (i : grid0.Coords) (v206 : BitVec 32) : Prop :=
  (∀ (k0_h2 : k0_cond2 i = 1#1), 576 ∣ (k0_mult15 v206).toNat) ∧
  (∀ (k0_h2 : k0_cond2 i = 1#1), ∀ a, (k0_off31 v206) a + S576x128.size a ≤ S11796480x128.size a)
theorem k0_mult15_dvd : ∀ (i : grid0.Coords) (v206 : BitVec 32) (k0_hw15 : k0_chk15 i v206), ∀ (k0_h2 : k0_cond2 i = 1#1), 576 ∣ (k0_mult15 v206).toNat := fun i v206 k0_hw15 k0_h2 => k0_hw15.1 k0_h2
theorem k0_off31_inb : ∀ (i : grid0.Coords) (v206 : BitVec 32) (k0_hw15 : k0_chk15 i v206), ∀ (k0_h2 : k0_cond2 i = 1#1), ∀ a, (k0_off31 v206) a + S576x128.size a ≤ S11796480x128.size a := fun i v206 k0_hw15 k0_h2 => k0_hw15.2 k0_h2

def k0_off32 (v211 : BitVec 32) : Fin 2 → Nat :=
  let c0_i32_110 : BitVec 32 := 0#32
  let v212 : BitVec 32 := Scalar.addi c0_i32_110 v211
  let c576_i32_111 : BitVec 32 := 576#32
  let v213 : BitVec 32 := Scalar.muli v212 c576_i32_111
  let v214 : BitVec 32 := v213
  let c0_i32_151 : BitVec 32 := 0#32
  ![v214.toNat, 0]

def k0_chk16 (i : grid0.Coords) (v211 : BitVec 32) : Prop :=
  (∀ (k0_h2 : k0_cond2 i = 1#1), 576 ∣ (k0_mult16 v211).toNat) ∧
  (∀ (k0_h2 : k0_cond2 i = 1#1), ∀ a, (k0_off32 v211) a + S576x128.size a ≤ S11796480x128.size a)
theorem k0_mult16_dvd : ∀ (i : grid0.Coords) (v211 : BitVec 32) (k0_hw16 : k0_chk16 i v211), ∀ (k0_h2 : k0_cond2 i = 1#1), 576 ∣ (k0_mult16 v211).toNat := fun i v211 k0_hw16 k0_h2 => k0_hw16.1 k0_h2
theorem k0_off32_inb : ∀ (i : grid0.Coords) (v211 : BitVec 32) (k0_hw16 : k0_chk16 i v211), ∀ (k0_h2 : k0_cond2 i = 1#1), ∀ a, (k0_off32 v211) a + S576x128.size a ≤ S11796480x128.size a := fun i v211 k0_hw16 k0_h2 => k0_hw16.2 k0_h2

def k0_off33 (i : grid0.Coords) : Fin 2 → Nat :=
  let arg0 : BitVec 32 := BitVec.ofNat 32 (i 0).val
  let v261 : Index := Scalar.indexCast arg0
  let c16 : Index := 16#32
  ![v261.toNat, 16]
def k0_mult17 (v262 : BitVec 32) : BitVec 32 :=
  let c0_i32_159 : BitVec 32 := 0#32
  let v263 : BitVec 32 := Scalar.addi c0_i32_159 v262
  let c576_i32_160 : BitVec 32 := 576#32
  let v264 : BitVec 32 := Scalar.muli v263 c576_i32_160
  v264

def k0_off34 (i : grid0.Coords) : Fin 2 → Nat :=
  let arg0 : BitVec 32 := BitVec.ofNat 32 (i 0).val
  let v266 : Index := Scalar.indexCast arg0
  let c17 : Index := 17#32
  ![v266.toNat, 17]
def k0_mult18 (v267 : BitVec 32) : BitVec 32 :=
  let c0_i32_161 : BitVec 32 := 0#32
  let v268 : BitVec 32 := Scalar.addi c0_i32_161 v267
  let c576_i32_162 : BitVec 32 := 576#32
  let v269 : BitVec 32 := Scalar.muli v268 c576_i32_162
  v269

def k0_off35 (i : grid0.Coords) : Fin 2 → Nat :=
  let arg0 : BitVec 32 := BitVec.ofNat 32 (i 0).val
  let v271 : Index := Scalar.indexCast arg0
  let c18 : Index := 18#32
  ![v271.toNat, 18]
def k0_mult19 (v272 : BitVec 32) : BitVec 32 :=
  let c0_i32_163 : BitVec 32 := 0#32
  let v273 : BitVec 32 := Scalar.addi c0_i32_163 v272
  let c576_i32_164 : BitVec 32 := 576#32
  let v274 : BitVec 32 := Scalar.muli v273 c576_i32_164
  v274

def k0_off36 (i : grid0.Coords) : Fin 2 → Nat :=
  let arg0 : BitVec 32 := BitVec.ofNat 32 (i 0).val
  let v276 : Index := Scalar.indexCast arg0
  let c19 : Index := 19#32
  ![v276.toNat, 19]
def k0_mult20 (v277 : BitVec 32) : BitVec 32 :=
  let c0_i32_165 : BitVec 32 := 0#32
  let v278 : BitVec 32 := Scalar.addi c0_i32_165 v277
  let c576_i32_166 : BitVec 32 := 576#32
  let v279 : BitVec 32 := Scalar.muli v278 c576_i32_166
  v279

def k0_off37 (i : grid0.Coords) : Fin 2 → Nat :=
  let arg0 : BitVec 32 := BitVec.ofNat 32 (i 0).val
  let v281 : Index := Scalar.indexCast arg0
  let c20 : Index := 20#32
  ![v281.toNat, 20]
def k0_mult21 (v282 : BitVec 32) : BitVec 32 :=
  let c0_i32_167 : BitVec 32 := 0#32
  let v283 : BitVec 32 := Scalar.addi c0_i32_167 v282
  let c576_i32_168 : BitVec 32 := 576#32
  let v284 : BitVec 32 := Scalar.muli v283 c576_i32_168
  v284

def k0_off38 (i : grid0.Coords) : Fin 2 → Nat :=
  let arg0 : BitVec 32 := BitVec.ofNat 32 (i 0).val
  let v286 : Index := Scalar.indexCast arg0
  let c21 : Index := 21#32
  ![v286.toNat, 21]
def k0_mult22 (v287 : BitVec 32) : BitVec 32 :=
  let c0_i32_169 : BitVec 32 := 0#32
  let v288 : BitVec 32 := Scalar.addi c0_i32_169 v287
  let c576_i32_170 : BitVec 32 := 576#32
  let v289 : BitVec 32 := Scalar.muli v288 c576_i32_170
  v289

def k0_off39 (i : grid0.Coords) : Fin 2 → Nat :=
  let arg0 : BitVec 32 := BitVec.ofNat 32 (i 0).val
  let v291 : Index := Scalar.indexCast arg0
  let c22 : Index := 22#32
  ![v291.toNat, 22]
def k0_mult23 (v292 : BitVec 32) : BitVec 32 :=
  let c0_i32_171 : BitVec 32 := 0#32
  let v293 : BitVec 32 := Scalar.addi c0_i32_171 v292
  let c576_i32_172 : BitVec 32 := 576#32
  let v294 : BitVec 32 := Scalar.muli v293 c576_i32_172
  v294

def k0_off40 (i : grid0.Coords) : Fin 2 → Nat :=
  let arg0 : BitVec 32 := BitVec.ofNat 32 (i 0).val
  let v296 : Index := Scalar.indexCast arg0
  let c23 : Index := 23#32
  ![v296.toNat, 23]
def k0_mult24 (v297 : BitVec 32) : BitVec 32 :=
  let c0_i32_173 : BitVec 32 := 0#32
  let v298 : BitVec 32 := Scalar.addi c0_i32_173 v297
  let c576_i32_174 : BitVec 32 := 576#32
  let v299 : BitVec 32 := Scalar.muli v298 c576_i32_174
  v299

def k0_off41 (v262 : BitVec 32) : Fin 2 → Nat :=
  let c0_i32_159 : BitVec 32 := 0#32
  let v263 : BitVec 32 := Scalar.addi c0_i32_159 v262
  let c576_i32_160 : BitVec 32 := 576#32
  let v264 : BitVec 32 := Scalar.muli v263 c576_i32_160
  let v265 : BitVec 32 := v264
  let c0_i32_178 : BitVec 32 := 0#32
  ![v265.toNat, 0]

def k0_chk17 (i : grid0.Coords) (v262 : BitVec 32) : Prop :=
  (∀ (k0_h2 : k0_cond2 i = 1#1), 576 ∣ (k0_mult17 v262).toNat) ∧
  (∀ (k0_h2 : k0_cond2 i = 1#1), ∀ a, (k0_off41 v262) a + S576x128.size a ≤ S11796480x128.size a)
theorem k0_mult17_dvd : ∀ (i : grid0.Coords) (v262 : BitVec 32) (k0_hw17 : k0_chk17 i v262), ∀ (k0_h2 : k0_cond2 i = 1#1), 576 ∣ (k0_mult17 v262).toNat := fun i v262 k0_hw17 k0_h2 => k0_hw17.1 k0_h2
theorem k0_off41_inb : ∀ (i : grid0.Coords) (v262 : BitVec 32) (k0_hw17 : k0_chk17 i v262), ∀ (k0_h2 : k0_cond2 i = 1#1), ∀ a, (k0_off41 v262) a + S576x128.size a ≤ S11796480x128.size a := fun i v262 k0_hw17 k0_h2 => k0_hw17.2 k0_h2

def k0_off42 (v267 : BitVec 32) : Fin 2 → Nat :=
  let c0_i32_161 : BitVec 32 := 0#32
  let v268 : BitVec 32 := Scalar.addi c0_i32_161 v267
  let c576_i32_162 : BitVec 32 := 576#32
  let v269 : BitVec 32 := Scalar.muli v268 c576_i32_162
  let v270 : BitVec 32 := v269
  let c0_i32_183 : BitVec 32 := 0#32
  ![v270.toNat, 0]

def k0_chk18 (i : grid0.Coords) (v267 : BitVec 32) : Prop :=
  (∀ (k0_h2 : k0_cond2 i = 1#1), 576 ∣ (k0_mult18 v267).toNat) ∧
  (∀ (k0_h2 : k0_cond2 i = 1#1), ∀ a, (k0_off42 v267) a + S576x128.size a ≤ S11796480x128.size a)
theorem k0_mult18_dvd : ∀ (i : grid0.Coords) (v267 : BitVec 32) (k0_hw18 : k0_chk18 i v267), ∀ (k0_h2 : k0_cond2 i = 1#1), 576 ∣ (k0_mult18 v267).toNat := fun i v267 k0_hw18 k0_h2 => k0_hw18.1 k0_h2
theorem k0_off42_inb : ∀ (i : grid0.Coords) (v267 : BitVec 32) (k0_hw18 : k0_chk18 i v267), ∀ (k0_h2 : k0_cond2 i = 1#1), ∀ a, (k0_off42 v267) a + S576x128.size a ≤ S11796480x128.size a := fun i v267 k0_hw18 k0_h2 => k0_hw18.2 k0_h2

def k0_off43 (v272 : BitVec 32) : Fin 2 → Nat :=
  let c0_i32_163 : BitVec 32 := 0#32
  let v273 : BitVec 32 := Scalar.addi c0_i32_163 v272
  let c576_i32_164 : BitVec 32 := 576#32
  let v274 : BitVec 32 := Scalar.muli v273 c576_i32_164
  let v275 : BitVec 32 := v274
  let c0_i32_188 : BitVec 32 := 0#32
  ![v275.toNat, 0]

def k0_chk19 (i : grid0.Coords) (v272 : BitVec 32) : Prop :=
  (∀ (k0_h2 : k0_cond2 i = 1#1), 576 ∣ (k0_mult19 v272).toNat) ∧
  (∀ (k0_h2 : k0_cond2 i = 1#1), ∀ a, (k0_off43 v272) a + S576x128.size a ≤ S11796480x128.size a)
theorem k0_mult19_dvd : ∀ (i : grid0.Coords) (v272 : BitVec 32) (k0_hw19 : k0_chk19 i v272), ∀ (k0_h2 : k0_cond2 i = 1#1), 576 ∣ (k0_mult19 v272).toNat := fun i v272 k0_hw19 k0_h2 => k0_hw19.1 k0_h2
theorem k0_off43_inb : ∀ (i : grid0.Coords) (v272 : BitVec 32) (k0_hw19 : k0_chk19 i v272), ∀ (k0_h2 : k0_cond2 i = 1#1), ∀ a, (k0_off43 v272) a + S576x128.size a ≤ S11796480x128.size a := fun i v272 k0_hw19 k0_h2 => k0_hw19.2 k0_h2

def k0_off44 (v277 : BitVec 32) : Fin 2 → Nat :=
  let c0_i32_165 : BitVec 32 := 0#32
  let v278 : BitVec 32 := Scalar.addi c0_i32_165 v277
  let c576_i32_166 : BitVec 32 := 576#32
  let v279 : BitVec 32 := Scalar.muli v278 c576_i32_166
  let v280 : BitVec 32 := v279
  let c0_i32_193 : BitVec 32 := 0#32
  ![v280.toNat, 0]

def k0_chk20 (i : grid0.Coords) (v277 : BitVec 32) : Prop :=
  (∀ (k0_h2 : k0_cond2 i = 1#1), 576 ∣ (k0_mult20 v277).toNat) ∧
  (∀ (k0_h2 : k0_cond2 i = 1#1), ∀ a, (k0_off44 v277) a + S576x128.size a ≤ S11796480x128.size a)
theorem k0_mult20_dvd : ∀ (i : grid0.Coords) (v277 : BitVec 32) (k0_hw20 : k0_chk20 i v277), ∀ (k0_h2 : k0_cond2 i = 1#1), 576 ∣ (k0_mult20 v277).toNat := fun i v277 k0_hw20 k0_h2 => k0_hw20.1 k0_h2
theorem k0_off44_inb : ∀ (i : grid0.Coords) (v277 : BitVec 32) (k0_hw20 : k0_chk20 i v277), ∀ (k0_h2 : k0_cond2 i = 1#1), ∀ a, (k0_off44 v277) a + S576x128.size a ≤ S11796480x128.size a := fun i v277 k0_hw20 k0_h2 => k0_hw20.2 k0_h2

def k0_off45 (v282 : BitVec 32) : Fin 2 → Nat :=
  let c0_i32_167 : BitVec 32 := 0#32
  let v283 : BitVec 32 := Scalar.addi c0_i32_167 v282
  let c576_i32_168 : BitVec 32 := 576#32
  let v284 : BitVec 32 := Scalar.muli v283 c576_i32_168
  let v285 : BitVec 32 := v284
  let c0_i32_198 : BitVec 32 := 0#32
  ![v285.toNat, 0]

def k0_chk21 (i : grid0.Coords) (v282 : BitVec 32) : Prop :=
  (∀ (k0_h2 : k0_cond2 i = 1#1), 576 ∣ (k0_mult21 v282).toNat) ∧
  (∀ (k0_h2 : k0_cond2 i = 1#1), ∀ a, (k0_off45 v282) a + S576x128.size a ≤ S11796480x128.size a)
theorem k0_mult21_dvd : ∀ (i : grid0.Coords) (v282 : BitVec 32) (k0_hw21 : k0_chk21 i v282), ∀ (k0_h2 : k0_cond2 i = 1#1), 576 ∣ (k0_mult21 v282).toNat := fun i v282 k0_hw21 k0_h2 => k0_hw21.1 k0_h2
theorem k0_off45_inb : ∀ (i : grid0.Coords) (v282 : BitVec 32) (k0_hw21 : k0_chk21 i v282), ∀ (k0_h2 : k0_cond2 i = 1#1), ∀ a, (k0_off45 v282) a + S576x128.size a ≤ S11796480x128.size a := fun i v282 k0_hw21 k0_h2 => k0_hw21.2 k0_h2

def k0_off46 (v287 : BitVec 32) : Fin 2 → Nat :=
  let c0_i32_169 : BitVec 32 := 0#32
  let v288 : BitVec 32 := Scalar.addi c0_i32_169 v287
  let c576_i32_170 : BitVec 32 := 576#32
  let v289 : BitVec 32 := Scalar.muli v288 c576_i32_170
  let v290 : BitVec 32 := v289
  let c0_i32_203 : BitVec 32 := 0#32
  ![v290.toNat, 0]

def k0_chk22 (i : grid0.Coords) (v287 : BitVec 32) : Prop :=
  (∀ (k0_h2 : k0_cond2 i = 1#1), 576 ∣ (k0_mult22 v287).toNat) ∧
  (∀ (k0_h2 : k0_cond2 i = 1#1), ∀ a, (k0_off46 v287) a + S576x128.size a ≤ S11796480x128.size a)
theorem k0_mult22_dvd : ∀ (i : grid0.Coords) (v287 : BitVec 32) (k0_hw22 : k0_chk22 i v287), ∀ (k0_h2 : k0_cond2 i = 1#1), 576 ∣ (k0_mult22 v287).toNat := fun i v287 k0_hw22 k0_h2 => k0_hw22.1 k0_h2
theorem k0_off46_inb : ∀ (i : grid0.Coords) (v287 : BitVec 32) (k0_hw22 : k0_chk22 i v287), ∀ (k0_h2 : k0_cond2 i = 1#1), ∀ a, (k0_off46 v287) a + S576x128.size a ≤ S11796480x128.size a := fun i v287 k0_hw22 k0_h2 => k0_hw22.2 k0_h2

def k0_off47 (v292 : BitVec 32) : Fin 2 → Nat :=
  let c0_i32_171 : BitVec 32 := 0#32
  let v293 : BitVec 32 := Scalar.addi c0_i32_171 v292
  let c576_i32_172 : BitVec 32 := 576#32
  let v294 : BitVec 32 := Scalar.muli v293 c576_i32_172
  let v295 : BitVec 32 := v294
  let c0_i32_208 : BitVec 32 := 0#32
  ![v295.toNat, 0]

def k0_chk23 (i : grid0.Coords) (v292 : BitVec 32) : Prop :=
  (∀ (k0_h2 : k0_cond2 i = 1#1), 576 ∣ (k0_mult23 v292).toNat) ∧
  (∀ (k0_h2 : k0_cond2 i = 1#1), ∀ a, (k0_off47 v292) a + S576x128.size a ≤ S11796480x128.size a)
theorem k0_mult23_dvd : ∀ (i : grid0.Coords) (v292 : BitVec 32) (k0_hw23 : k0_chk23 i v292), ∀ (k0_h2 : k0_cond2 i = 1#1), 576 ∣ (k0_mult23 v292).toNat := fun i v292 k0_hw23 k0_h2 => k0_hw23.1 k0_h2
theorem k0_off47_inb : ∀ (i : grid0.Coords) (v292 : BitVec 32) (k0_hw23 : k0_chk23 i v292), ∀ (k0_h2 : k0_cond2 i = 1#1), ∀ a, (k0_off47 v292) a + S576x128.size a ≤ S11796480x128.size a := fun i v292 k0_hw23 k0_h2 => k0_hw23.2 k0_h2

def k0_off48 (v297 : BitVec 32) : Fin 2 → Nat :=
  let c0_i32_173 : BitVec 32 := 0#32
  let v298 : BitVec 32 := Scalar.addi c0_i32_173 v297
  let c576_i32_174 : BitVec 32 := 576#32
  let v299 : BitVec 32 := Scalar.muli v298 c576_i32_174
  let v300 : BitVec 32 := v299
  let c0_i32_213 : BitVec 32 := 0#32
  ![v300.toNat, 0]

def k0_chk24 (i : grid0.Coords) (v297 : BitVec 32) : Prop :=
  (∀ (k0_h2 : k0_cond2 i = 1#1), 576 ∣ (k0_mult24 v297).toNat) ∧
  (∀ (k0_h2 : k0_cond2 i = 1#1), ∀ a, (k0_off48 v297) a + S576x128.size a ≤ S11796480x128.size a)
theorem k0_mult24_dvd : ∀ (i : grid0.Coords) (v297 : BitVec 32) (k0_hw24 : k0_chk24 i v297), ∀ (k0_h2 : k0_cond2 i = 1#1), 576 ∣ (k0_mult24 v297).toNat := fun i v297 k0_hw24 k0_h2 => k0_hw24.1 k0_h2
theorem k0_off48_inb : ∀ (i : grid0.Coords) (v297 : BitVec 32) (k0_hw24 : k0_chk24 i v297), ∀ (k0_h2 : k0_cond2 i = 1#1), ∀ a, (k0_off48 v297) a + S576x128.size a ≤ S11796480x128.size a := fun i v297 k0_hw24 k0_h2 => k0_hw24.2 k0_h2

@[reducible] def k0_t1_loop : Scf.Loop 32 :=
  let c0_i32_8 : BitVec 32 := 0#32
  let c16_i32 : BitVec 32 := 16#32
  let v16 : BitVec 32 := Scalar.addi c0_i32_8 c16_i32
  let c1_i32 : BitVec 32 := 1#32
  ⟨c0_i32_8, v16, c1_i32⟩
def k0_off49 (i : grid0.Coords) (k0_t1 : Fin k0_t1_loop.trips) : Fin 2 → Nat :=
  let arg0 : BitVec 32 := BitVec.ofNat 32 (i 0).val
  let v101 : Index := Scalar.indexCast arg0
  let c0_i32_8 : BitVec 32 := 0#32
  let c1_i32 : BitVec 32 := 1#32
  let arg15 : BitVec 32 := Scf.iv c0_i32_8 c1_i32 k0_t1
  let c8_i32 : BitVec 32 := 8#32
  let v99 : BitVec 32 := Scalar.muli arg15 c8_i32
  let c0_i32_45 : BitVec 32 := 0#32
  let v100 : BitVec 32 := Scalar.addi v99 c0_i32_45
  let v102 : Index := Scalar.indexCast v100
  ![v101.toNat, v102.toNat]
def k0_mult25 (v103 : BitVec 32) : BitVec 32 :=
  let c0_i32_46 : BitVec 32 := 0#32
  let v104 : BitVec 32 := Scalar.addi c0_i32_46 v103
  let c576_i32 : BitVec 32 := 576#32
  let v105 : BitVec 32 := Scalar.muli v104 c576_i32
  v105

def k0_off50 (i : grid0.Coords) (k0_t1 : Fin k0_t1_loop.trips) : Fin 2 → Nat :=
  let arg0 : BitVec 32 := BitVec.ofNat 32 (i 0).val
  let v109 : Index := Scalar.indexCast arg0
  let c0_i32_8 : BitVec 32 := 0#32
  let c1_i32 : BitVec 32 := 1#32
  let arg15 : BitVec 32 := Scf.iv c0_i32_8 c1_i32 k0_t1
  let c8_i32_47 : BitVec 32 := 8#32
  let v107 : BitVec 32 := Scalar.muli arg15 c8_i32_47
  let c1_i32_48 : BitVec 32 := 1#32
  let v108 : BitVec 32 := Scalar.addi v107 c1_i32_48
  let v110 : Index := Scalar.indexCast v108
  ![v109.toNat, v110.toNat]
def k0_mult26 (v111 : BitVec 32) : BitVec 32 :=
  let c0_i32_49 : BitVec 32 := 0#32
  let v112 : BitVec 32 := Scalar.addi c0_i32_49 v111
  let c576_i32_50 : BitVec 32 := 576#32
  let v113 : BitVec 32 := Scalar.muli v112 c576_i32_50
  v113

def k0_off51 (i : grid0.Coords) (k0_t1 : Fin k0_t1_loop.trips) : Fin 2 → Nat :=
  let arg0 : BitVec 32 := BitVec.ofNat 32 (i 0).val
  let v117 : Index := Scalar.indexCast arg0
  let c0_i32_8 : BitVec 32 := 0#32
  let c1_i32 : BitVec 32 := 1#32
  let arg15 : BitVec 32 := Scf.iv c0_i32_8 c1_i32 k0_t1
  let c8_i32_51 : BitVec 32 := 8#32
  let v115 : BitVec 32 := Scalar.muli arg15 c8_i32_51
  let c2_i32 : BitVec 32 := 2#32
  let v116 : BitVec 32 := Scalar.addi v115 c2_i32
  let v118 : Index := Scalar.indexCast v116
  ![v117.toNat, v118.toNat]
def k0_mult27 (v119 : BitVec 32) : BitVec 32 :=
  let c0_i32_52 : BitVec 32 := 0#32
  let v120 : BitVec 32 := Scalar.addi c0_i32_52 v119
  let c576_i32_53 : BitVec 32 := 576#32
  let v121 : BitVec 32 := Scalar.muli v120 c576_i32_53
  v121

def k0_off52 (i : grid0.Coords) (k0_t1 : Fin k0_t1_loop.trips) : Fin 2 → Nat :=
  let arg0 : BitVec 32 := BitVec.ofNat 32 (i 0).val
  let v125 : Index := Scalar.indexCast arg0
  let c0_i32_8 : BitVec 32 := 0#32
  let c1_i32 : BitVec 32 := 1#32
  let arg15 : BitVec 32 := Scf.iv c0_i32_8 c1_i32 k0_t1
  let c8_i32_54 : BitVec 32 := 8#32
  let v123 : BitVec 32 := Scalar.muli arg15 c8_i32_54
  let c3_i32 : BitVec 32 := 3#32
  let v124 : BitVec 32 := Scalar.addi v123 c3_i32
  let v126 : Index := Scalar.indexCast v124
  ![v125.toNat, v126.toNat]
def k0_mult28 (v127 : BitVec 32) : BitVec 32 :=
  let c0_i32_55 : BitVec 32 := 0#32
  let v128 : BitVec 32 := Scalar.addi c0_i32_55 v127
  let c576_i32_56 : BitVec 32 := 576#32
  let v129 : BitVec 32 := Scalar.muli v128 c576_i32_56
  v129

def k0_off53 (i : grid0.Coords) (k0_t1 : Fin k0_t1_loop.trips) : Fin 2 → Nat :=
  let arg0 : BitVec 32 := BitVec.ofNat 32 (i 0).val
  let v133 : Index := Scalar.indexCast arg0
  let c0_i32_8 : BitVec 32 := 0#32
  let c1_i32 : BitVec 32 := 1#32
  let arg15 : BitVec 32 := Scf.iv c0_i32_8 c1_i32 k0_t1
  let c8_i32_57 : BitVec 32 := 8#32
  let v131 : BitVec 32 := Scalar.muli arg15 c8_i32_57
  let c4_i32_58 : BitVec 32 := 4#32
  let v132 : BitVec 32 := Scalar.addi v131 c4_i32_58
  let v134 : Index := Scalar.indexCast v132
  ![v133.toNat, v134.toNat]
def k0_mult29 (v135 : BitVec 32) : BitVec 32 :=
  let c0_i32_59 : BitVec 32 := 0#32
  let v136 : BitVec 32 := Scalar.addi c0_i32_59 v135
  let c576_i32_60 : BitVec 32 := 576#32
  let v137 : BitVec 32 := Scalar.muli v136 c576_i32_60
  v137

def k0_off54 (i : grid0.Coords) (k0_t1 : Fin k0_t1_loop.trips) : Fin 2 → Nat :=
  let arg0 : BitVec 32 := BitVec.ofNat 32 (i 0).val
  let v141 : Index := Scalar.indexCast arg0
  let c0_i32_8 : BitVec 32 := 0#32
  let c1_i32 : BitVec 32 := 1#32
  let arg15 : BitVec 32 := Scf.iv c0_i32_8 c1_i32 k0_t1
  let c8_i32_61 : BitVec 32 := 8#32
  let v139 : BitVec 32 := Scalar.muli arg15 c8_i32_61
  let c5_i32 : BitVec 32 := 5#32
  let v140 : BitVec 32 := Scalar.addi v139 c5_i32
  let v142 : Index := Scalar.indexCast v140
  ![v141.toNat, v142.toNat]
def k0_mult30 (v143 : BitVec 32) : BitVec 32 :=
  let c0_i32_62 : BitVec 32 := 0#32
  let v144 : BitVec 32 := Scalar.addi c0_i32_62 v143
  let c576_i32_63 : BitVec 32 := 576#32
  let v145 : BitVec 32 := Scalar.muli v144 c576_i32_63
  v145

def k0_off55 (i : grid0.Coords) (k0_t1 : Fin k0_t1_loop.trips) : Fin 2 → Nat :=
  let arg0 : BitVec 32 := BitVec.ofNat 32 (i 0).val
  let v149 : Index := Scalar.indexCast arg0
  let c0_i32_8 : BitVec 32 := 0#32
  let c1_i32 : BitVec 32 := 1#32
  let arg15 : BitVec 32 := Scf.iv c0_i32_8 c1_i32 k0_t1
  let c8_i32_64 : BitVec 32 := 8#32
  let v147 : BitVec 32 := Scalar.muli arg15 c8_i32_64
  let c6_i32 : BitVec 32 := 6#32
  let v148 : BitVec 32 := Scalar.addi v147 c6_i32
  let v150 : Index := Scalar.indexCast v148
  ![v149.toNat, v150.toNat]
def k0_mult31 (v151 : BitVec 32) : BitVec 32 :=
  let c0_i32_65 : BitVec 32 := 0#32
  let v152 : BitVec 32 := Scalar.addi c0_i32_65 v151
  let c576_i32_66 : BitVec 32 := 576#32
  let v153 : BitVec 32 := Scalar.muli v152 c576_i32_66
  v153

def k0_off56 (i : grid0.Coords) (k0_t1 : Fin k0_t1_loop.trips) : Fin 2 → Nat :=
  let arg0 : BitVec 32 := BitVec.ofNat 32 (i 0).val
  let v157 : Index := Scalar.indexCast arg0
  let c0_i32_8 : BitVec 32 := 0#32
  let c1_i32 : BitVec 32 := 1#32
  let arg15 : BitVec 32 := Scf.iv c0_i32_8 c1_i32 k0_t1
  let c8_i32_67 : BitVec 32 := 8#32
  let v155 : BitVec 32 := Scalar.muli arg15 c8_i32_67
  let c7_i32 : BitVec 32 := 7#32
  let v156 : BitVec 32 := Scalar.addi v155 c7_i32
  let v158 : Index := Scalar.indexCast v156
  ![v157.toNat, v158.toNat]
def k0_mult32 (v159 : BitVec 32) : BitVec 32 :=
  let c0_i32_68 : BitVec 32 := 0#32
  let v160 : BitVec 32 := Scalar.addi c0_i32_68 v159
  let c576_i32_69 : BitVec 32 := 576#32
  let v161 : BitVec 32 := Scalar.muli v160 c576_i32_69
  v161

def k0_off57 (k0_t1 : Fin k0_t1_loop.trips) : Fin 1 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  ![v98.toNat]
def k0_off58 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let c0_i32_70 : BitVec 32 := 0#32
  let c0_i32_71 : BitVec 32 := 0#32
  ![v98.toNat, 0, 0]
def k0_off59 (v103 : BitVec 32) : Fin 2 → Nat :=
  let c0_i32_46 : BitVec 32 := 0#32
  let v104 : BitVec 32 := Scalar.addi c0_i32_46 v103
  let c576_i32 : BitVec 32 := 576#32
  let v105 : BitVec 32 := Scalar.muli v104 c576_i32
  let v106 : BitVec 32 := v105
  let c0_i32_72 : BitVec 32 := 0#32
  ![v106.toNat, 0]

def k0_chk25 (v103 : BitVec 32) : Prop :=
  (576 ∣ (k0_mult25 v103).toNat) ∧
  (∀ a, (k0_off59 v103) a + S576x128.size a ≤ S11796480x128.size a)
theorem k0_mult25_dvd : ∀ (v103 : BitVec 32) (k0_hw25 : k0_chk25 v103), 576 ∣ (k0_mult25 v103).toNat := fun v103 k0_hw25 => k0_hw25.1
theorem k0_off59_inb : ∀ (v103 : BitVec 32) (k0_hw25 : k0_chk25 v103), ∀ a, (k0_off59 v103) a + S576x128.size a ≤ S11796480x128.size a := fun v103 k0_hw25 => k0_hw25.2

def k0_off60 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let c576_i32_73 : BitVec 32 := 576#32
  let c0_i32_74 : BitVec 32 := 0#32
  ![v98.toNat, 576, 0]
def k0_off61 (v111 : BitVec 32) : Fin 2 → Nat :=
  let c0_i32_49 : BitVec 32 := 0#32
  let v112 : BitVec 32 := Scalar.addi c0_i32_49 v111
  let c576_i32_50 : BitVec 32 := 576#32
  let v113 : BitVec 32 := Scalar.muli v112 c576_i32_50
  let v114 : BitVec 32 := v113
  let c0_i32_75 : BitVec 32 := 0#32
  ![v114.toNat, 0]

def k0_chk26 (v111 : BitVec 32) : Prop :=
  (576 ∣ (k0_mult26 v111).toNat) ∧
  (∀ a, (k0_off61 v111) a + S576x128.size a ≤ S11796480x128.size a)
theorem k0_mult26_dvd : ∀ (v111 : BitVec 32) (k0_hw26 : k0_chk26 v111), 576 ∣ (k0_mult26 v111).toNat := fun v111 k0_hw26 => k0_hw26.1
theorem k0_off61_inb : ∀ (v111 : BitVec 32) (k0_hw26 : k0_chk26 v111), ∀ a, (k0_off61 v111) a + S576x128.size a ≤ S11796480x128.size a := fun v111 k0_hw26 => k0_hw26.2

def k0_off62 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let c1152_i32 : BitVec 32 := 1152#32
  let c0_i32_76 : BitVec 32 := 0#32
  ![v98.toNat, 1152, 0]
def k0_off63 (v119 : BitVec 32) : Fin 2 → Nat :=
  let c0_i32_52 : BitVec 32 := 0#32
  let v120 : BitVec 32 := Scalar.addi c0_i32_52 v119
  let c576_i32_53 : BitVec 32 := 576#32
  let v121 : BitVec 32 := Scalar.muli v120 c576_i32_53
  let v122 : BitVec 32 := v121
  let c0_i32_77 : BitVec 32 := 0#32
  ![v122.toNat, 0]

def k0_chk27 (v119 : BitVec 32) : Prop :=
  (576 ∣ (k0_mult27 v119).toNat) ∧
  (∀ a, (k0_off63 v119) a + S576x128.size a ≤ S11796480x128.size a)
theorem k0_mult27_dvd : ∀ (v119 : BitVec 32) (k0_hw27 : k0_chk27 v119), 576 ∣ (k0_mult27 v119).toNat := fun v119 k0_hw27 => k0_hw27.1
theorem k0_off63_inb : ∀ (v119 : BitVec 32) (k0_hw27 : k0_chk27 v119), ∀ a, (k0_off63 v119) a + S576x128.size a ≤ S11796480x128.size a := fun v119 k0_hw27 => k0_hw27.2

def k0_off64 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let c1728_i32 : BitVec 32 := 1728#32
  let c0_i32_78 : BitVec 32 := 0#32
  ![v98.toNat, 1728, 0]
def k0_off65 (v127 : BitVec 32) : Fin 2 → Nat :=
  let c0_i32_55 : BitVec 32 := 0#32
  let v128 : BitVec 32 := Scalar.addi c0_i32_55 v127
  let c576_i32_56 : BitVec 32 := 576#32
  let v129 : BitVec 32 := Scalar.muli v128 c576_i32_56
  let v130 : BitVec 32 := v129
  let c0_i32_79 : BitVec 32 := 0#32
  ![v130.toNat, 0]

def k0_chk28 (v127 : BitVec 32) : Prop :=
  (576 ∣ (k0_mult28 v127).toNat) ∧
  (∀ a, (k0_off65 v127) a + S576x128.size a ≤ S11796480x128.size a)
theorem k0_mult28_dvd : ∀ (v127 : BitVec 32) (k0_hw28 : k0_chk28 v127), 576 ∣ (k0_mult28 v127).toNat := fun v127 k0_hw28 => k0_hw28.1
theorem k0_off65_inb : ∀ (v127 : BitVec 32) (k0_hw28 : k0_chk28 v127), ∀ a, (k0_off65 v127) a + S576x128.size a ≤ S11796480x128.size a := fun v127 k0_hw28 => k0_hw28.2

def k0_off66 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let c2304_i32 : BitVec 32 := 2304#32
  let c0_i32_80 : BitVec 32 := 0#32
  ![v98.toNat, 2304, 0]
def k0_off67 (v135 : BitVec 32) : Fin 2 → Nat :=
  let c0_i32_59 : BitVec 32 := 0#32
  let v136 : BitVec 32 := Scalar.addi c0_i32_59 v135
  let c576_i32_60 : BitVec 32 := 576#32
  let v137 : BitVec 32 := Scalar.muli v136 c576_i32_60
  let v138 : BitVec 32 := v137
  let c0_i32_81 : BitVec 32 := 0#32
  ![v138.toNat, 0]

def k0_chk29 (v135 : BitVec 32) : Prop :=
  (576 ∣ (k0_mult29 v135).toNat) ∧
  (∀ a, (k0_off67 v135) a + S576x128.size a ≤ S11796480x128.size a)
theorem k0_mult29_dvd : ∀ (v135 : BitVec 32) (k0_hw29 : k0_chk29 v135), 576 ∣ (k0_mult29 v135).toNat := fun v135 k0_hw29 => k0_hw29.1
theorem k0_off67_inb : ∀ (v135 : BitVec 32) (k0_hw29 : k0_chk29 v135), ∀ a, (k0_off67 v135) a + S576x128.size a ≤ S11796480x128.size a := fun v135 k0_hw29 => k0_hw29.2

def k0_off68 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let c2880_i32 : BitVec 32 := 2880#32
  let c0_i32_82 : BitVec 32 := 0#32
  ![v98.toNat, 2880, 0]
def k0_off69 (v143 : BitVec 32) : Fin 2 → Nat :=
  let c0_i32_62 : BitVec 32 := 0#32
  let v144 : BitVec 32 := Scalar.addi c0_i32_62 v143
  let c576_i32_63 : BitVec 32 := 576#32
  let v145 : BitVec 32 := Scalar.muli v144 c576_i32_63
  let v146 : BitVec 32 := v145
  let c0_i32_83 : BitVec 32 := 0#32
  ![v146.toNat, 0]

def k0_chk30 (v143 : BitVec 32) : Prop :=
  (576 ∣ (k0_mult30 v143).toNat) ∧
  (∀ a, (k0_off69 v143) a + S576x128.size a ≤ S11796480x128.size a)
theorem k0_mult30_dvd : ∀ (v143 : BitVec 32) (k0_hw30 : k0_chk30 v143), 576 ∣ (k0_mult30 v143).toNat := fun v143 k0_hw30 => k0_hw30.1
theorem k0_off69_inb : ∀ (v143 : BitVec 32) (k0_hw30 : k0_chk30 v143), ∀ a, (k0_off69 v143) a + S576x128.size a ≤ S11796480x128.size a := fun v143 k0_hw30 => k0_hw30.2

def k0_off70 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let c3456_i32 : BitVec 32 := 3456#32
  let c0_i32_84 : BitVec 32 := 0#32
  ![v98.toNat, 3456, 0]
def k0_off71 (v151 : BitVec 32) : Fin 2 → Nat :=
  let c0_i32_65 : BitVec 32 := 0#32
  let v152 : BitVec 32 := Scalar.addi c0_i32_65 v151
  let c576_i32_66 : BitVec 32 := 576#32
  let v153 : BitVec 32 := Scalar.muli v152 c576_i32_66
  let v154 : BitVec 32 := v153
  let c0_i32_85 : BitVec 32 := 0#32
  ![v154.toNat, 0]

def k0_chk31 (v151 : BitVec 32) : Prop :=
  (576 ∣ (k0_mult31 v151).toNat) ∧
  (∀ a, (k0_off71 v151) a + S576x128.size a ≤ S11796480x128.size a)
theorem k0_mult31_dvd : ∀ (v151 : BitVec 32) (k0_hw31 : k0_chk31 v151), 576 ∣ (k0_mult31 v151).toNat := fun v151 k0_hw31 => k0_hw31.1
theorem k0_off71_inb : ∀ (v151 : BitVec 32) (k0_hw31 : k0_chk31 v151), ∀ a, (k0_off71 v151) a + S576x128.size a ≤ S11796480x128.size a := fun v151 k0_hw31 => k0_hw31.2

def k0_off72 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let c4032_i32 : BitVec 32 := 4032#32
  let c0_i32_86 : BitVec 32 := 0#32
  ![v98.toNat, 4032, 0]
def k0_off73 (v159 : BitVec 32) : Fin 2 → Nat :=
  let c0_i32_68 : BitVec 32 := 0#32
  let v160 : BitVec 32 := Scalar.addi c0_i32_68 v159
  let c576_i32_69 : BitVec 32 := 576#32
  let v161 : BitVec 32 := Scalar.muli v160 c576_i32_69
  let v162 : BitVec 32 := v161
  let c0_i32_87 : BitVec 32 := 0#32
  ![v162.toNat, 0]

def k0_chk32 (v159 : BitVec 32) : Prop :=
  (576 ∣ (k0_mult32 v159).toNat) ∧
  (∀ a, (k0_off73 v159) a + S576x128.size a ≤ S11796480x128.size a)
theorem k0_mult32_dvd : ∀ (v159 : BitVec 32) (k0_hw32 : k0_chk32 v159), 576 ∣ (k0_mult32 v159).toNat := fun v159 k0_hw32 => k0_hw32.1
theorem k0_off73_inb : ∀ (v159 : BitVec 32) (k0_hw32 : k0_chk32 v159), ∀ a, (k0_off73 v159) a + S576x128.size a ≤ S11796480x128.size a := fun v159 k0_hw32 => k0_hw32.2

def k0_off74 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let c0_i32_88 : BitVec 32 := 0#32
  let c0_i32_89 : BitVec 32 := 0#32
  ![v98.toNat, 0, 0]
def k0_off75 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c0_i32_90 : BitVec 32 := 0#32
  let c0_i32_91 : BitVec 32 := 0#32
  ![arg15.toNat, 0, 0]
def k0_cond3 (k0_t1 : Fin k0_t1_loop.trips) : BitVec 1 :=
  let c0_i32_8 : BitVec 32 := 0#32
  let c1_i32 : BitVec 32 := 1#32
  let arg15 : BitVec 32 := Scf.iv c0_i32_8 c1_i32 k0_t1
  let c4_i32_92 : BitVec 32 := 4#32
  let v209 : BitVec 32 := Scalar.addi arg15 c4_i32_92
  let c1_i32_93 : BitVec 32 := 1#32
  let v210 : BitVec 32 := Scalar.subi v209 c1_i32_93
  let c16_i32_94 : BitVec 32 := 16#32
  let v211 : BitVec 1 := Scalar.cmpi .slt v210 c16_i32_94
  let v212 : BitVec 32 := Scalar.extui v211
  let c0_i32_95 : BitVec 32 := 0#32
  let v213 : BitVec 1 := Scalar.cmpi .ne v212 c0_i32_95
  v213

def k0_off76 (i : grid0.Coords) (k0_t1 : Fin k0_t1_loop.trips) : Fin 2 → Nat :=
  let arg0 : BitVec 32 := BitVec.ofNat 32 (i 0).val
  let v329 : Index := Scalar.indexCast arg0
  let c0_i32_8 : BitVec 32 := 0#32
  let c1_i32 : BitVec 32 := 1#32
  let arg15 : BitVec 32 := Scf.iv c0_i32_8 c1_i32 k0_t1
  let c4_i32_129 : BitVec 32 := 4#32
  let v313 : BitVec 32 := Scalar.addi arg15 c4_i32_129
  let c1_i32_130 : BitVec 32 := 1#32
  let v314 : BitVec 32 := Scalar.subi v313 c1_i32_130
  let c8_i32_139 : BitVec 32 := 8#32
  let v327 : BitVec 32 := Scalar.muli v314 c8_i32_139
  let c0_i32_140 : BitVec 32 := 0#32
  let v328 : BitVec 32 := Scalar.addi v327 c0_i32_140
  let v330 : Index := Scalar.indexCast v328
  ![v329.toNat, v330.toNat]
def k0_mult33 (v331 : BitVec 32) : BitVec 32 :=
  let c0_i32_141 : BitVec 32 := 0#32
  let v332 : BitVec 32 := Scalar.addi c0_i32_141 v331
  let c576_i32_142 : BitVec 32 := 576#32
  let v333 : BitVec 32 := Scalar.muli v332 c576_i32_142
  v333

def k0_off77 (i : grid0.Coords) (k0_t1 : Fin k0_t1_loop.trips) : Fin 2 → Nat :=
  let arg0 : BitVec 32 := BitVec.ofNat 32 (i 0).val
  let v337 : Index := Scalar.indexCast arg0
  let c0_i32_8 : BitVec 32 := 0#32
  let c1_i32 : BitVec 32 := 1#32
  let arg15 : BitVec 32 := Scf.iv c0_i32_8 c1_i32 k0_t1
  let c4_i32_129 : BitVec 32 := 4#32
  let v313 : BitVec 32 := Scalar.addi arg15 c4_i32_129
  let c1_i32_130 : BitVec 32 := 1#32
  let v314 : BitVec 32 := Scalar.subi v313 c1_i32_130
  let c8_i32_143 : BitVec 32 := 8#32
  let v335 : BitVec 32 := Scalar.muli v314 c8_i32_143
  let c1_i32_144 : BitVec 32 := 1#32
  let v336 : BitVec 32 := Scalar.addi v335 c1_i32_144
  let v338 : Index := Scalar.indexCast v336
  ![v337.toNat, v338.toNat]
def k0_mult34 (v339 : BitVec 32) : BitVec 32 :=
  let c0_i32_145 : BitVec 32 := 0#32
  let v340 : BitVec 32 := Scalar.addi c0_i32_145 v339
  let c576_i32_146 : BitVec 32 := 576#32
  let v341 : BitVec 32 := Scalar.muli v340 c576_i32_146
  v341

def k0_off78 (i : grid0.Coords) (k0_t1 : Fin k0_t1_loop.trips) : Fin 2 → Nat :=
  let arg0 : BitVec 32 := BitVec.ofNat 32 (i 0).val
  let v345 : Index := Scalar.indexCast arg0
  let c0_i32_8 : BitVec 32 := 0#32
  let c1_i32 : BitVec 32 := 1#32
  let arg15 : BitVec 32 := Scf.iv c0_i32_8 c1_i32 k0_t1
  let c4_i32_129 : BitVec 32 := 4#32
  let v313 : BitVec 32 := Scalar.addi arg15 c4_i32_129
  let c1_i32_130 : BitVec 32 := 1#32
  let v314 : BitVec 32 := Scalar.subi v313 c1_i32_130
  let c8_i32_147 : BitVec 32 := 8#32
  let v343 : BitVec 32 := Scalar.muli v314 c8_i32_147
  let c2_i32_148 : BitVec 32 := 2#32
  let v344 : BitVec 32 := Scalar.addi v343 c2_i32_148
  let v346 : Index := Scalar.indexCast v344
  ![v345.toNat, v346.toNat]
def k0_mult35 (v347 : BitVec 32) : BitVec 32 :=
  let c0_i32_149 : BitVec 32 := 0#32
  let v348 : BitVec 32 := Scalar.addi c0_i32_149 v347
  let c576_i32_150 : BitVec 32 := 576#32
  let v349 : BitVec 32 := Scalar.muli v348 c576_i32_150
  v349

def k0_off79 (i : grid0.Coords) (k0_t1 : Fin k0_t1_loop.trips) : Fin 2 → Nat :=
  let arg0 : BitVec 32 := BitVec.ofNat 32 (i 0).val
  let v353 : Index := Scalar.indexCast arg0
  let c0_i32_8 : BitVec 32 := 0#32
  let c1_i32 : BitVec 32 := 1#32
  let arg15 : BitVec 32 := Scf.iv c0_i32_8 c1_i32 k0_t1
  let c4_i32_129 : BitVec 32 := 4#32
  let v313 : BitVec 32 := Scalar.addi arg15 c4_i32_129
  let c1_i32_130 : BitVec 32 := 1#32
  let v314 : BitVec 32 := Scalar.subi v313 c1_i32_130
  let c8_i32_151 : BitVec 32 := 8#32
  let v351 : BitVec 32 := Scalar.muli v314 c8_i32_151
  let c3_i32_152 : BitVec 32 := 3#32
  let v352 : BitVec 32 := Scalar.addi v351 c3_i32_152
  let v354 : Index := Scalar.indexCast v352
  ![v353.toNat, v354.toNat]
def k0_mult36 (v355 : BitVec 32) : BitVec 32 :=
  let c0_i32_153 : BitVec 32 := 0#32
  let v356 : BitVec 32 := Scalar.addi c0_i32_153 v355
  let c576_i32_154 : BitVec 32 := 576#32
  let v357 : BitVec 32 := Scalar.muli v356 c576_i32_154
  v357

def k0_off80 (i : grid0.Coords) (k0_t1 : Fin k0_t1_loop.trips) : Fin 2 → Nat :=
  let arg0 : BitVec 32 := BitVec.ofNat 32 (i 0).val
  let v361 : Index := Scalar.indexCast arg0
  let c0_i32_8 : BitVec 32 := 0#32
  let c1_i32 : BitVec 32 := 1#32
  let arg15 : BitVec 32 := Scf.iv c0_i32_8 c1_i32 k0_t1
  let c4_i32_129 : BitVec 32 := 4#32
  let v313 : BitVec 32 := Scalar.addi arg15 c4_i32_129
  let c1_i32_130 : BitVec 32 := 1#32
  let v314 : BitVec 32 := Scalar.subi v313 c1_i32_130
  let c8_i32_155 : BitVec 32 := 8#32
  let v359 : BitVec 32 := Scalar.muli v314 c8_i32_155
  let c4_i32_156 : BitVec 32 := 4#32
  let v360 : BitVec 32 := Scalar.addi v359 c4_i32_156
  let v362 : Index := Scalar.indexCast v360
  ![v361.toNat, v362.toNat]
def k0_mult37 (v363 : BitVec 32) : BitVec 32 :=
  let c0_i32_157 : BitVec 32 := 0#32
  let v364 : BitVec 32 := Scalar.addi c0_i32_157 v363
  let c576_i32_158 : BitVec 32 := 576#32
  let v365 : BitVec 32 := Scalar.muli v364 c576_i32_158
  v365

def k0_off81 (i : grid0.Coords) (k0_t1 : Fin k0_t1_loop.trips) : Fin 2 → Nat :=
  let arg0 : BitVec 32 := BitVec.ofNat 32 (i 0).val
  let v369 : Index := Scalar.indexCast arg0
  let c0_i32_8 : BitVec 32 := 0#32
  let c1_i32 : BitVec 32 := 1#32
  let arg15 : BitVec 32 := Scf.iv c0_i32_8 c1_i32 k0_t1
  let c4_i32_129 : BitVec 32 := 4#32
  let v313 : BitVec 32 := Scalar.addi arg15 c4_i32_129
  let c1_i32_130 : BitVec 32 := 1#32
  let v314 : BitVec 32 := Scalar.subi v313 c1_i32_130
  let c8_i32_159 : BitVec 32 := 8#32
  let v367 : BitVec 32 := Scalar.muli v314 c8_i32_159
  let c5_i32_160 : BitVec 32 := 5#32
  let v368 : BitVec 32 := Scalar.addi v367 c5_i32_160
  let v370 : Index := Scalar.indexCast v368
  ![v369.toNat, v370.toNat]
def k0_mult38 (v371 : BitVec 32) : BitVec 32 :=
  let c0_i32_161 : BitVec 32 := 0#32
  let v372 : BitVec 32 := Scalar.addi c0_i32_161 v371
  let c576_i32_162 : BitVec 32 := 576#32
  let v373 : BitVec 32 := Scalar.muli v372 c576_i32_162
  v373

def k0_off82 (i : grid0.Coords) (k0_t1 : Fin k0_t1_loop.trips) : Fin 2 → Nat :=
  let arg0 : BitVec 32 := BitVec.ofNat 32 (i 0).val
  let v377 : Index := Scalar.indexCast arg0
  let c0_i32_8 : BitVec 32 := 0#32
  let c1_i32 : BitVec 32 := 1#32
  let arg15 : BitVec 32 := Scf.iv c0_i32_8 c1_i32 k0_t1
  let c4_i32_129 : BitVec 32 := 4#32
  let v313 : BitVec 32 := Scalar.addi arg15 c4_i32_129
  let c1_i32_130 : BitVec 32 := 1#32
  let v314 : BitVec 32 := Scalar.subi v313 c1_i32_130
  let c8_i32_163 : BitVec 32 := 8#32
  let v375 : BitVec 32 := Scalar.muli v314 c8_i32_163
  let c6_i32_164 : BitVec 32 := 6#32
  let v376 : BitVec 32 := Scalar.addi v375 c6_i32_164
  let v378 : Index := Scalar.indexCast v376
  ![v377.toNat, v378.toNat]
def k0_mult39 (v379 : BitVec 32) : BitVec 32 :=
  let c0_i32_165 : BitVec 32 := 0#32
  let v380 : BitVec 32 := Scalar.addi c0_i32_165 v379
  let c576_i32_166 : BitVec 32 := 576#32
  let v381 : BitVec 32 := Scalar.muli v380 c576_i32_166
  v381

def k0_off83 (i : grid0.Coords) (k0_t1 : Fin k0_t1_loop.trips) : Fin 2 → Nat :=
  let arg0 : BitVec 32 := BitVec.ofNat 32 (i 0).val
  let v385 : Index := Scalar.indexCast arg0
  let c0_i32_8 : BitVec 32 := 0#32
  let c1_i32 : BitVec 32 := 1#32
  let arg15 : BitVec 32 := Scf.iv c0_i32_8 c1_i32 k0_t1
  let c4_i32_129 : BitVec 32 := 4#32
  let v313 : BitVec 32 := Scalar.addi arg15 c4_i32_129
  let c1_i32_130 : BitVec 32 := 1#32
  let v314 : BitVec 32 := Scalar.subi v313 c1_i32_130
  let c8_i32_167 : BitVec 32 := 8#32
  let v383 : BitVec 32 := Scalar.muli v314 c8_i32_167
  let c7_i32_168 : BitVec 32 := 7#32
  let v384 : BitVec 32 := Scalar.addi v383 c7_i32_168
  let v386 : Index := Scalar.indexCast v384
  ![v385.toNat, v386.toNat]
def k0_mult40 (v387 : BitVec 32) : BitVec 32 :=
  let c0_i32_169 : BitVec 32 := 0#32
  let v388 : BitVec 32 := Scalar.addi c0_i32_169 v387
  let c576_i32_170 : BitVec 32 := 576#32
  let v389 : BitVec 32 := Scalar.muli v388 c576_i32_170
  v389

def k0_off84 (k0_t1 : Fin k0_t1_loop.trips) : Fin 1 → Nat :=
  let c0_i32_8 : BitVec 32 := 0#32
  let c1_i32 : BitVec 32 := 1#32
  let arg15 : BitVec 32 := Scf.iv c0_i32_8 c1_i32 k0_t1
  let c4_i32_131 : BitVec 32 := 4#32
  let v315 : BitVec 32 := Scalar.addi arg15 c4_i32_131
  let c1_i32_132 : BitVec 32 := 1#32
  let v316 : BitVec 32 := Scalar.subi v315 c1_i32_132
  let c4_i32_133 : BitVec 32 := 4#32
  let c0_i32_134 : BitVec 32 := 0#32
  let v317 : BitVec 1 := Scalar.cmpi .eq c4_i32_133 c0_i32_134
  let c1_i32_135 : BitVec 32 := 1#32
  let v318 : BitVec 32 := Scalar.select v317 c1_i32_135 c4_i32_133
  let v319 : BitVec 32 := Scalar.remsi v316 v318
  let c0_i32_137 : BitVec 32 := 0#32
  let v321 : BitVec 1 := Scalar.cmpi .slt v319 c0_i32_137
  let c0_i32_138 : BitVec 32 := 0#32
  let v322 : BitVec 1 := Scalar.cmpi .slt v318 c0_i32_138
  let v323 : BitVec 1 := Scalar.xori v321 v322
  let c0_i32_136 : BitVec 32 := 0#32
  let v320 : BitVec 1 := Scalar.cmpi .ne v319 c0_i32_136
  let v324 : BitVec 1 := Scalar.andi v323 v320
  let v325 : BitVec 32 := Scalar.addi v319 v318
  let v326 : BitVec 32 := Scalar.select v324 v325 v319
  ![v326.toNat]
def k0_off85 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_131 : BitVec 32 := 4#32
  let v315 : BitVec 32 := Scalar.addi arg15 c4_i32_131
  let c1_i32_132 : BitVec 32 := 1#32
  let v316 : BitVec 32 := Scalar.subi v315 c1_i32_132
  let c4_i32_133 : BitVec 32 := 4#32
  let c0_i32_134 : BitVec 32 := 0#32
  let v317 : BitVec 1 := Scalar.cmpi .eq c4_i32_133 c0_i32_134
  let c1_i32_135 : BitVec 32 := 1#32
  let v318 : BitVec 32 := Scalar.select v317 c1_i32_135 c4_i32_133
  let v319 : BitVec 32 := Scalar.remsi v316 v318
  let c0_i32_137 : BitVec 32 := 0#32
  let v321 : BitVec 1 := Scalar.cmpi .slt v319 c0_i32_137
  let c0_i32_138 : BitVec 32 := 0#32
  let v322 : BitVec 1 := Scalar.cmpi .slt v318 c0_i32_138
  let v323 : BitVec 1 := Scalar.xori v321 v322
  let c0_i32_136 : BitVec 32 := 0#32
  let v320 : BitVec 1 := Scalar.cmpi .ne v319 c0_i32_136
  let v324 : BitVec 1 := Scalar.andi v323 v320
  let v325 : BitVec 32 := Scalar.addi v319 v318
  let v326 : BitVec 32 := Scalar.select v324 v325 v319
  let c0_i32_171 : BitVec 32 := 0#32
  let c0_i32_172 : BitVec 32 := 0#32
  ![v326.toNat, 0, 0]
def k0_off86 (v331 : BitVec 32) : Fin 2 → Nat :=
  let c0_i32_141 : BitVec 32 := 0#32
  let v332 : BitVec 32 := Scalar.addi c0_i32_141 v331
  let c576_i32_142 : BitVec 32 := 576#32
  let v333 : BitVec 32 := Scalar.muli v332 c576_i32_142
  let v334 : BitVec 32 := v333
  let c0_i32_173 : BitVec 32 := 0#32
  ![v334.toNat, 0]

def k0_chk33 (k0_t1 : Fin k0_t1_loop.trips) (v331 : BitVec 32) : Prop :=
  (∀ (k0_h3 : k0_cond3 k0_t1 = 1#1), 576 ∣ (k0_mult33 v331).toNat) ∧
  (∀ (k0_h3 : k0_cond3 k0_t1 = 1#1), ∀ a, (k0_off86 v331) a + S576x128.size a ≤ S11796480x128.size a)
theorem k0_mult33_dvd : ∀ (k0_t1 : Fin k0_t1_loop.trips) (v331 : BitVec 32) (k0_hw33 : k0_chk33 k0_t1 v331), ∀ (k0_h3 : k0_cond3 k0_t1 = 1#1), 576 ∣ (k0_mult33 v331).toNat := fun k0_t1 v331 k0_hw33 k0_h3 => k0_hw33.1 k0_h3
theorem k0_off86_inb : ∀ (k0_t1 : Fin k0_t1_loop.trips) (v331 : BitVec 32) (k0_hw33 : k0_chk33 k0_t1 v331), ∀ (k0_h3 : k0_cond3 k0_t1 = 1#1), ∀ a, (k0_off86 v331) a + S576x128.size a ≤ S11796480x128.size a := fun k0_t1 v331 k0_hw33 k0_h3 => k0_hw33.2 k0_h3

def k0_off87 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_131 : BitVec 32 := 4#32
  let v315 : BitVec 32 := Scalar.addi arg15 c4_i32_131
  let c1_i32_132 : BitVec 32 := 1#32
  let v316 : BitVec 32 := Scalar.subi v315 c1_i32_132
  let c4_i32_133 : BitVec 32 := 4#32
  let c0_i32_134 : BitVec 32 := 0#32
  let v317 : BitVec 1 := Scalar.cmpi .eq c4_i32_133 c0_i32_134
  let c1_i32_135 : BitVec 32 := 1#32
  let v318 : BitVec 32 := Scalar.select v317 c1_i32_135 c4_i32_133
  let v319 : BitVec 32 := Scalar.remsi v316 v318
  let c0_i32_137 : BitVec 32 := 0#32
  let v321 : BitVec 1 := Scalar.cmpi .slt v319 c0_i32_137
  let c0_i32_138 : BitVec 32 := 0#32
  let v322 : BitVec 1 := Scalar.cmpi .slt v318 c0_i32_138
  let v323 : BitVec 1 := Scalar.xori v321 v322
  let c0_i32_136 : BitVec 32 := 0#32
  let v320 : BitVec 1 := Scalar.cmpi .ne v319 c0_i32_136
  let v324 : BitVec 1 := Scalar.andi v323 v320
  let v325 : BitVec 32 := Scalar.addi v319 v318
  let v326 : BitVec 32 := Scalar.select v324 v325 v319
  let c576_i32_174 : BitVec 32 := 576#32
  let c0_i32_175 : BitVec 32 := 0#32
  ![v326.toNat, 576, 0]
def k0_off88 (v339 : BitVec 32) : Fin 2 → Nat :=
  let c0_i32_145 : BitVec 32 := 0#32
  let v340 : BitVec 32 := Scalar.addi c0_i32_145 v339
  let c576_i32_146 : BitVec 32 := 576#32
  let v341 : BitVec 32 := Scalar.muli v340 c576_i32_146
  let v342 : BitVec 32 := v341
  let c0_i32_176 : BitVec 32 := 0#32
  ![v342.toNat, 0]

def k0_chk34 (k0_t1 : Fin k0_t1_loop.trips) (v339 : BitVec 32) : Prop :=
  (∀ (k0_h3 : k0_cond3 k0_t1 = 1#1), 576 ∣ (k0_mult34 v339).toNat) ∧
  (∀ (k0_h3 : k0_cond3 k0_t1 = 1#1), ∀ a, (k0_off88 v339) a + S576x128.size a ≤ S11796480x128.size a)
theorem k0_mult34_dvd : ∀ (k0_t1 : Fin k0_t1_loop.trips) (v339 : BitVec 32) (k0_hw34 : k0_chk34 k0_t1 v339), ∀ (k0_h3 : k0_cond3 k0_t1 = 1#1), 576 ∣ (k0_mult34 v339).toNat := fun k0_t1 v339 k0_hw34 k0_h3 => k0_hw34.1 k0_h3
theorem k0_off88_inb : ∀ (k0_t1 : Fin k0_t1_loop.trips) (v339 : BitVec 32) (k0_hw34 : k0_chk34 k0_t1 v339), ∀ (k0_h3 : k0_cond3 k0_t1 = 1#1), ∀ a, (k0_off88 v339) a + S576x128.size a ≤ S11796480x128.size a := fun k0_t1 v339 k0_hw34 k0_h3 => k0_hw34.2 k0_h3

def k0_off89 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_131 : BitVec 32 := 4#32
  let v315 : BitVec 32 := Scalar.addi arg15 c4_i32_131
  let c1_i32_132 : BitVec 32 := 1#32
  let v316 : BitVec 32 := Scalar.subi v315 c1_i32_132
  let c4_i32_133 : BitVec 32 := 4#32
  let c0_i32_134 : BitVec 32 := 0#32
  let v317 : BitVec 1 := Scalar.cmpi .eq c4_i32_133 c0_i32_134
  let c1_i32_135 : BitVec 32 := 1#32
  let v318 : BitVec 32 := Scalar.select v317 c1_i32_135 c4_i32_133
  let v319 : BitVec 32 := Scalar.remsi v316 v318
  let c0_i32_137 : BitVec 32 := 0#32
  let v321 : BitVec 1 := Scalar.cmpi .slt v319 c0_i32_137
  let c0_i32_138 : BitVec 32 := 0#32
  let v322 : BitVec 1 := Scalar.cmpi .slt v318 c0_i32_138
  let v323 : BitVec 1 := Scalar.xori v321 v322
  let c0_i32_136 : BitVec 32 := 0#32
  let v320 : BitVec 1 := Scalar.cmpi .ne v319 c0_i32_136
  let v324 : BitVec 1 := Scalar.andi v323 v320
  let v325 : BitVec 32 := Scalar.addi v319 v318
  let v326 : BitVec 32 := Scalar.select v324 v325 v319
  let c1152_i32_177 : BitVec 32 := 1152#32
  let c0_i32_178 : BitVec 32 := 0#32
  ![v326.toNat, 1152, 0]
def k0_off90 (v347 : BitVec 32) : Fin 2 → Nat :=
  let c0_i32_149 : BitVec 32 := 0#32
  let v348 : BitVec 32 := Scalar.addi c0_i32_149 v347
  let c576_i32_150 : BitVec 32 := 576#32
  let v349 : BitVec 32 := Scalar.muli v348 c576_i32_150
  let v350 : BitVec 32 := v349
  let c0_i32_179 : BitVec 32 := 0#32
  ![v350.toNat, 0]

def k0_chk35 (k0_t1 : Fin k0_t1_loop.trips) (v347 : BitVec 32) : Prop :=
  (∀ (k0_h3 : k0_cond3 k0_t1 = 1#1), 576 ∣ (k0_mult35 v347).toNat) ∧
  (∀ (k0_h3 : k0_cond3 k0_t1 = 1#1), ∀ a, (k0_off90 v347) a + S576x128.size a ≤ S11796480x128.size a)
theorem k0_mult35_dvd : ∀ (k0_t1 : Fin k0_t1_loop.trips) (v347 : BitVec 32) (k0_hw35 : k0_chk35 k0_t1 v347), ∀ (k0_h3 : k0_cond3 k0_t1 = 1#1), 576 ∣ (k0_mult35 v347).toNat := fun k0_t1 v347 k0_hw35 k0_h3 => k0_hw35.1 k0_h3
theorem k0_off90_inb : ∀ (k0_t1 : Fin k0_t1_loop.trips) (v347 : BitVec 32) (k0_hw35 : k0_chk35 k0_t1 v347), ∀ (k0_h3 : k0_cond3 k0_t1 = 1#1), ∀ a, (k0_off90 v347) a + S576x128.size a ≤ S11796480x128.size a := fun k0_t1 v347 k0_hw35 k0_h3 => k0_hw35.2 k0_h3

def k0_off91 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_131 : BitVec 32 := 4#32
  let v315 : BitVec 32 := Scalar.addi arg15 c4_i32_131
  let c1_i32_132 : BitVec 32 := 1#32
  let v316 : BitVec 32 := Scalar.subi v315 c1_i32_132
  let c4_i32_133 : BitVec 32 := 4#32
  let c0_i32_134 : BitVec 32 := 0#32
  let v317 : BitVec 1 := Scalar.cmpi .eq c4_i32_133 c0_i32_134
  let c1_i32_135 : BitVec 32 := 1#32
  let v318 : BitVec 32 := Scalar.select v317 c1_i32_135 c4_i32_133
  let v319 : BitVec 32 := Scalar.remsi v316 v318
  let c0_i32_137 : BitVec 32 := 0#32
  let v321 : BitVec 1 := Scalar.cmpi .slt v319 c0_i32_137
  let c0_i32_138 : BitVec 32 := 0#32
  let v322 : BitVec 1 := Scalar.cmpi .slt v318 c0_i32_138
  let v323 : BitVec 1 := Scalar.xori v321 v322
  let c0_i32_136 : BitVec 32 := 0#32
  let v320 : BitVec 1 := Scalar.cmpi .ne v319 c0_i32_136
  let v324 : BitVec 1 := Scalar.andi v323 v320
  let v325 : BitVec 32 := Scalar.addi v319 v318
  let v326 : BitVec 32 := Scalar.select v324 v325 v319
  let c1728_i32_180 : BitVec 32 := 1728#32
  let c0_i32_181 : BitVec 32 := 0#32
  ![v326.toNat, 1728, 0]
def k0_off92 (v355 : BitVec 32) : Fin 2 → Nat :=
  let c0_i32_153 : BitVec 32 := 0#32
  let v356 : BitVec 32 := Scalar.addi c0_i32_153 v355
  let c576_i32_154 : BitVec 32 := 576#32
  let v357 : BitVec 32 := Scalar.muli v356 c576_i32_154
  let v358 : BitVec 32 := v357
  let c0_i32_182 : BitVec 32 := 0#32
  ![v358.toNat, 0]

def k0_chk36 (k0_t1 : Fin k0_t1_loop.trips) (v355 : BitVec 32) : Prop :=
  (∀ (k0_h3 : k0_cond3 k0_t1 = 1#1), 576 ∣ (k0_mult36 v355).toNat) ∧
  (∀ (k0_h3 : k0_cond3 k0_t1 = 1#1), ∀ a, (k0_off92 v355) a + S576x128.size a ≤ S11796480x128.size a)
theorem k0_mult36_dvd : ∀ (k0_t1 : Fin k0_t1_loop.trips) (v355 : BitVec 32) (k0_hw36 : k0_chk36 k0_t1 v355), ∀ (k0_h3 : k0_cond3 k0_t1 = 1#1), 576 ∣ (k0_mult36 v355).toNat := fun k0_t1 v355 k0_hw36 k0_h3 => k0_hw36.1 k0_h3
theorem k0_off92_inb : ∀ (k0_t1 : Fin k0_t1_loop.trips) (v355 : BitVec 32) (k0_hw36 : k0_chk36 k0_t1 v355), ∀ (k0_h3 : k0_cond3 k0_t1 = 1#1), ∀ a, (k0_off92 v355) a + S576x128.size a ≤ S11796480x128.size a := fun k0_t1 v355 k0_hw36 k0_h3 => k0_hw36.2 k0_h3

def k0_off93 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_131 : BitVec 32 := 4#32
  let v315 : BitVec 32 := Scalar.addi arg15 c4_i32_131
  let c1_i32_132 : BitVec 32 := 1#32
  let v316 : BitVec 32 := Scalar.subi v315 c1_i32_132
  let c4_i32_133 : BitVec 32 := 4#32
  let c0_i32_134 : BitVec 32 := 0#32
  let v317 : BitVec 1 := Scalar.cmpi .eq c4_i32_133 c0_i32_134
  let c1_i32_135 : BitVec 32 := 1#32
  let v318 : BitVec 32 := Scalar.select v317 c1_i32_135 c4_i32_133
  let v319 : BitVec 32 := Scalar.remsi v316 v318
  let c0_i32_137 : BitVec 32 := 0#32
  let v321 : BitVec 1 := Scalar.cmpi .slt v319 c0_i32_137
  let c0_i32_138 : BitVec 32 := 0#32
  let v322 : BitVec 1 := Scalar.cmpi .slt v318 c0_i32_138
  let v323 : BitVec 1 := Scalar.xori v321 v322
  let c0_i32_136 : BitVec 32 := 0#32
  let v320 : BitVec 1 := Scalar.cmpi .ne v319 c0_i32_136
  let v324 : BitVec 1 := Scalar.andi v323 v320
  let v325 : BitVec 32 := Scalar.addi v319 v318
  let v326 : BitVec 32 := Scalar.select v324 v325 v319
  let c2304_i32_183 : BitVec 32 := 2304#32
  let c0_i32_184 : BitVec 32 := 0#32
  ![v326.toNat, 2304, 0]
def k0_off94 (v363 : BitVec 32) : Fin 2 → Nat :=
  let c0_i32_157 : BitVec 32 := 0#32
  let v364 : BitVec 32 := Scalar.addi c0_i32_157 v363
  let c576_i32_158 : BitVec 32 := 576#32
  let v365 : BitVec 32 := Scalar.muli v364 c576_i32_158
  let v366 : BitVec 32 := v365
  let c0_i32_185 : BitVec 32 := 0#32
  ![v366.toNat, 0]

def k0_chk37 (k0_t1 : Fin k0_t1_loop.trips) (v363 : BitVec 32) : Prop :=
  (∀ (k0_h3 : k0_cond3 k0_t1 = 1#1), 576 ∣ (k0_mult37 v363).toNat) ∧
  (∀ (k0_h3 : k0_cond3 k0_t1 = 1#1), ∀ a, (k0_off94 v363) a + S576x128.size a ≤ S11796480x128.size a)
theorem k0_mult37_dvd : ∀ (k0_t1 : Fin k0_t1_loop.trips) (v363 : BitVec 32) (k0_hw37 : k0_chk37 k0_t1 v363), ∀ (k0_h3 : k0_cond3 k0_t1 = 1#1), 576 ∣ (k0_mult37 v363).toNat := fun k0_t1 v363 k0_hw37 k0_h3 => k0_hw37.1 k0_h3
theorem k0_off94_inb : ∀ (k0_t1 : Fin k0_t1_loop.trips) (v363 : BitVec 32) (k0_hw37 : k0_chk37 k0_t1 v363), ∀ (k0_h3 : k0_cond3 k0_t1 = 1#1), ∀ a, (k0_off94 v363) a + S576x128.size a ≤ S11796480x128.size a := fun k0_t1 v363 k0_hw37 k0_h3 => k0_hw37.2 k0_h3

def k0_off95 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_131 : BitVec 32 := 4#32
  let v315 : BitVec 32 := Scalar.addi arg15 c4_i32_131
  let c1_i32_132 : BitVec 32 := 1#32
  let v316 : BitVec 32 := Scalar.subi v315 c1_i32_132
  let c4_i32_133 : BitVec 32 := 4#32
  let c0_i32_134 : BitVec 32 := 0#32
  let v317 : BitVec 1 := Scalar.cmpi .eq c4_i32_133 c0_i32_134
  let c1_i32_135 : BitVec 32 := 1#32
  let v318 : BitVec 32 := Scalar.select v317 c1_i32_135 c4_i32_133
  let v319 : BitVec 32 := Scalar.remsi v316 v318
  let c0_i32_137 : BitVec 32 := 0#32
  let v321 : BitVec 1 := Scalar.cmpi .slt v319 c0_i32_137
  let c0_i32_138 : BitVec 32 := 0#32
  let v322 : BitVec 1 := Scalar.cmpi .slt v318 c0_i32_138
  let v323 : BitVec 1 := Scalar.xori v321 v322
  let c0_i32_136 : BitVec 32 := 0#32
  let v320 : BitVec 1 := Scalar.cmpi .ne v319 c0_i32_136
  let v324 : BitVec 1 := Scalar.andi v323 v320
  let v325 : BitVec 32 := Scalar.addi v319 v318
  let v326 : BitVec 32 := Scalar.select v324 v325 v319
  let c2880_i32_186 : BitVec 32 := 2880#32
  let c0_i32_187 : BitVec 32 := 0#32
  ![v326.toNat, 2880, 0]
def k0_off96 (v371 : BitVec 32) : Fin 2 → Nat :=
  let c0_i32_161 : BitVec 32 := 0#32
  let v372 : BitVec 32 := Scalar.addi c0_i32_161 v371
  let c576_i32_162 : BitVec 32 := 576#32
  let v373 : BitVec 32 := Scalar.muli v372 c576_i32_162
  let v374 : BitVec 32 := v373
  let c0_i32_188 : BitVec 32 := 0#32
  ![v374.toNat, 0]

def k0_chk38 (k0_t1 : Fin k0_t1_loop.trips) (v371 : BitVec 32) : Prop :=
  (∀ (k0_h3 : k0_cond3 k0_t1 = 1#1), 576 ∣ (k0_mult38 v371).toNat) ∧
  (∀ (k0_h3 : k0_cond3 k0_t1 = 1#1), ∀ a, (k0_off96 v371) a + S576x128.size a ≤ S11796480x128.size a)
theorem k0_mult38_dvd : ∀ (k0_t1 : Fin k0_t1_loop.trips) (v371 : BitVec 32) (k0_hw38 : k0_chk38 k0_t1 v371), ∀ (k0_h3 : k0_cond3 k0_t1 = 1#1), 576 ∣ (k0_mult38 v371).toNat := fun k0_t1 v371 k0_hw38 k0_h3 => k0_hw38.1 k0_h3
theorem k0_off96_inb : ∀ (k0_t1 : Fin k0_t1_loop.trips) (v371 : BitVec 32) (k0_hw38 : k0_chk38 k0_t1 v371), ∀ (k0_h3 : k0_cond3 k0_t1 = 1#1), ∀ a, (k0_off96 v371) a + S576x128.size a ≤ S11796480x128.size a := fun k0_t1 v371 k0_hw38 k0_h3 => k0_hw38.2 k0_h3

def k0_off97 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_131 : BitVec 32 := 4#32
  let v315 : BitVec 32 := Scalar.addi arg15 c4_i32_131
  let c1_i32_132 : BitVec 32 := 1#32
  let v316 : BitVec 32 := Scalar.subi v315 c1_i32_132
  let c4_i32_133 : BitVec 32 := 4#32
  let c0_i32_134 : BitVec 32 := 0#32
  let v317 : BitVec 1 := Scalar.cmpi .eq c4_i32_133 c0_i32_134
  let c1_i32_135 : BitVec 32 := 1#32
  let v318 : BitVec 32 := Scalar.select v317 c1_i32_135 c4_i32_133
  let v319 : BitVec 32 := Scalar.remsi v316 v318
  let c0_i32_137 : BitVec 32 := 0#32
  let v321 : BitVec 1 := Scalar.cmpi .slt v319 c0_i32_137
  let c0_i32_138 : BitVec 32 := 0#32
  let v322 : BitVec 1 := Scalar.cmpi .slt v318 c0_i32_138
  let v323 : BitVec 1 := Scalar.xori v321 v322
  let c0_i32_136 : BitVec 32 := 0#32
  let v320 : BitVec 1 := Scalar.cmpi .ne v319 c0_i32_136
  let v324 : BitVec 1 := Scalar.andi v323 v320
  let v325 : BitVec 32 := Scalar.addi v319 v318
  let v326 : BitVec 32 := Scalar.select v324 v325 v319
  let c3456_i32_189 : BitVec 32 := 3456#32
  let c0_i32_190 : BitVec 32 := 0#32
  ![v326.toNat, 3456, 0]
def k0_off98 (v379 : BitVec 32) : Fin 2 → Nat :=
  let c0_i32_165 : BitVec 32 := 0#32
  let v380 : BitVec 32 := Scalar.addi c0_i32_165 v379
  let c576_i32_166 : BitVec 32 := 576#32
  let v381 : BitVec 32 := Scalar.muli v380 c576_i32_166
  let v382 : BitVec 32 := v381
  let c0_i32_191 : BitVec 32 := 0#32
  ![v382.toNat, 0]

def k0_chk39 (k0_t1 : Fin k0_t1_loop.trips) (v379 : BitVec 32) : Prop :=
  (∀ (k0_h3 : k0_cond3 k0_t1 = 1#1), 576 ∣ (k0_mult39 v379).toNat) ∧
  (∀ (k0_h3 : k0_cond3 k0_t1 = 1#1), ∀ a, (k0_off98 v379) a + S576x128.size a ≤ S11796480x128.size a)
theorem k0_mult39_dvd : ∀ (k0_t1 : Fin k0_t1_loop.trips) (v379 : BitVec 32) (k0_hw39 : k0_chk39 k0_t1 v379), ∀ (k0_h3 : k0_cond3 k0_t1 = 1#1), 576 ∣ (k0_mult39 v379).toNat := fun k0_t1 v379 k0_hw39 k0_h3 => k0_hw39.1 k0_h3
theorem k0_off98_inb : ∀ (k0_t1 : Fin k0_t1_loop.trips) (v379 : BitVec 32) (k0_hw39 : k0_chk39 k0_t1 v379), ∀ (k0_h3 : k0_cond3 k0_t1 = 1#1), ∀ a, (k0_off98 v379) a + S576x128.size a ≤ S11796480x128.size a := fun k0_t1 v379 k0_hw39 k0_h3 => k0_hw39.2 k0_h3

def k0_off99 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_131 : BitVec 32 := 4#32
  let v315 : BitVec 32 := Scalar.addi arg15 c4_i32_131
  let c1_i32_132 : BitVec 32 := 1#32
  let v316 : BitVec 32 := Scalar.subi v315 c1_i32_132
  let c4_i32_133 : BitVec 32 := 4#32
  let c0_i32_134 : BitVec 32 := 0#32
  let v317 : BitVec 1 := Scalar.cmpi .eq c4_i32_133 c0_i32_134
  let c1_i32_135 : BitVec 32 := 1#32
  let v318 : BitVec 32 := Scalar.select v317 c1_i32_135 c4_i32_133
  let v319 : BitVec 32 := Scalar.remsi v316 v318
  let c0_i32_137 : BitVec 32 := 0#32
  let v321 : BitVec 1 := Scalar.cmpi .slt v319 c0_i32_137
  let c0_i32_138 : BitVec 32 := 0#32
  let v322 : BitVec 1 := Scalar.cmpi .slt v318 c0_i32_138
  let v323 : BitVec 1 := Scalar.xori v321 v322
  let c0_i32_136 : BitVec 32 := 0#32
  let v320 : BitVec 1 := Scalar.cmpi .ne v319 c0_i32_136
  let v324 : BitVec 1 := Scalar.andi v323 v320
  let v325 : BitVec 32 := Scalar.addi v319 v318
  let v326 : BitVec 32 := Scalar.select v324 v325 v319
  let c4032_i32_192 : BitVec 32 := 4032#32
  let c0_i32_193 : BitVec 32 := 0#32
  ![v326.toNat, 4032, 0]
def k0_off100 (v387 : BitVec 32) : Fin 2 → Nat :=
  let c0_i32_169 : BitVec 32 := 0#32
  let v388 : BitVec 32 := Scalar.addi c0_i32_169 v387
  let c576_i32_170 : BitVec 32 := 576#32
  let v389 : BitVec 32 := Scalar.muli v388 c576_i32_170
  let v390 : BitVec 32 := v389
  let c0_i32_194 : BitVec 32 := 0#32
  ![v390.toNat, 0]

def k0_chk40 (k0_t1 : Fin k0_t1_loop.trips) (v387 : BitVec 32) : Prop :=
  (∀ (k0_h3 : k0_cond3 k0_t1 = 1#1), 576 ∣ (k0_mult40 v387).toNat) ∧
  (∀ (k0_h3 : k0_cond3 k0_t1 = 1#1), ∀ a, (k0_off100 v387) a + S576x128.size a ≤ S11796480x128.size a)
theorem k0_mult40_dvd : ∀ (k0_t1 : Fin k0_t1_loop.trips) (v387 : BitVec 32) (k0_hw40 : k0_chk40 k0_t1 v387), ∀ (k0_h3 : k0_cond3 k0_t1 = 1#1), 576 ∣ (k0_mult40 v387).toNat := fun k0_t1 v387 k0_hw40 k0_h3 => k0_hw40.1 k0_h3
theorem k0_off100_inb : ∀ (k0_t1 : Fin k0_t1_loop.trips) (v387 : BitVec 32) (k0_hw40 : k0_chk40 k0_t1 v387), ∀ (k0_h3 : k0_cond3 k0_t1 = 1#1), ∀ a, (k0_off100 v387) a + S576x128.size a ≤ S11796480x128.size a := fun k0_t1 v387 k0_hw40 k0_h3 => k0_hw40.2 k0_h3

def k0_off101 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_131 : BitVec 32 := 4#32
  let v315 : BitVec 32 := Scalar.addi arg15 c4_i32_131
  let c1_i32_132 : BitVec 32 := 1#32
  let v316 : BitVec 32 := Scalar.subi v315 c1_i32_132
  let c4_i32_133 : BitVec 32 := 4#32
  let c0_i32_134 : BitVec 32 := 0#32
  let v317 : BitVec 1 := Scalar.cmpi .eq c4_i32_133 c0_i32_134
  let c1_i32_135 : BitVec 32 := 1#32
  let v318 : BitVec 32 := Scalar.select v317 c1_i32_135 c4_i32_133
  let v319 : BitVec 32 := Scalar.remsi v316 v318
  let c0_i32_137 : BitVec 32 := 0#32
  let v321 : BitVec 1 := Scalar.cmpi .slt v319 c0_i32_137
  let c0_i32_138 : BitVec 32 := 0#32
  let v322 : BitVec 1 := Scalar.cmpi .slt v318 c0_i32_138
  let v323 : BitVec 1 := Scalar.xori v321 v322
  let c0_i32_136 : BitVec 32 := 0#32
  let v320 : BitVec 1 := Scalar.cmpi .ne v319 c0_i32_136
  let v324 : BitVec 1 := Scalar.andi v323 v320
  let v325 : BitVec 32 := Scalar.addi v319 v318
  let v326 : BitVec 32 := Scalar.select v324 v325 v319
  let c0_i32_195 : BitVec 32 := 0#32
  let c0_i32_196 : BitVec 32 := 0#32
  ![v326.toNat, 0, 0]
def k0_off102 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_129 : BitVec 32 := 4#32
  let v313 : BitVec 32 := Scalar.addi arg15 c4_i32_129
  let c1_i32_130 : BitVec 32 := 1#32
  let v314 : BitVec 32 := Scalar.subi v313 c1_i32_130
  let c0_i32_197 : BitVec 32 := 0#32
  let c0_i32_198 : BitVec 32 := 0#32
  ![v314.toNat, 0, 0]
def k0_off103 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v214 : Index := Scalar.indexCast v98
  let c0_96 : Index := 0#32
  let c0_97 : Index := 0#32
  ![v214.toNat, 0, 0]
def k0_off104 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v217 : Index := Scalar.indexCast v98
  let c576 : Index := 576#32
  let c0_98 : Index := 0#32
  ![v217.toNat, 576, 0]
def k0_off105 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v220 : Index := Scalar.indexCast v98
  let c1152 : Index := 1152#32
  let c0_99 : Index := 0#32
  ![v220.toNat, 1152, 0]
def k0_off106 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v223 : Index := Scalar.indexCast v98
  let c1728 : Index := 1728#32
  let c0_100 : Index := 0#32
  ![v223.toNat, 1728, 0]
def k0_off107 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v226 : Index := Scalar.indexCast v98
  let c2304 : Index := 2304#32
  let c0_101 : Index := 0#32
  ![v226.toNat, 2304, 0]
def k0_off108 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v229 : Index := Scalar.indexCast v98
  let c2880 : Index := 2880#32
  let c0_102 : Index := 0#32
  ![v229.toNat, 2880, 0]
def k0_off109 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v232 : Index := Scalar.indexCast v98
  let c3456 : Index := 3456#32
  let c0_103 : Index := 0#32
  ![v232.toNat, 3456, 0]
def k0_off110 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v235 : Index := Scalar.indexCast v98
  let c4032 : Index := 4032#32
  let c0_104 : Index := 0#32
  ![v235.toNat, 4032, 0]
def k0_off111 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v239 : Index := Scalar.indexCast v98
  let c512_105 : Index := 512#32
  let c0_106 : Index := 0#32
  ![v239.toNat, 512, 0]
def k0_off112 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v242 : Index := Scalar.indexCast v98
  let c1088 : Index := 1088#32
  let c0_107 : Index := 0#32
  ![v242.toNat, 1088, 0]
def k0_off113 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v245 : Index := Scalar.indexCast v98
  let c1664 : Index := 1664#32
  let c0_108 : Index := 0#32
  ![v245.toNat, 1664, 0]
def k0_off114 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v248 : Index := Scalar.indexCast v98
  let c2240 : Index := 2240#32
  let c0_109 : Index := 0#32
  ![v248.toNat, 2240, 0]
def k0_off115 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v251 : Index := Scalar.indexCast v98
  let c2816 : Index := 2816#32
  let c0_110 : Index := 0#32
  ![v251.toNat, 2816, 0]
def k0_off116 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v254 : Index := Scalar.indexCast v98
  let c3392 : Index := 3392#32
  let c0_111 : Index := 0#32
  ![v254.toNat, 3392, 0]
def k0_off117 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v257 : Index := Scalar.indexCast v98
  let c3968 : Index := 3968#32
  let c0_112 : Index := 0#32
  ![v257.toNat, 3968, 0]
def k0_off118 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v260 : Index := Scalar.indexCast v98
  let c4544 : Index := 4544#32
  let c0_113 : Index := 0#32
  ![v260.toNat, 4544, 0]
def k0_off119 (k0_t1 : Fin k0_t1_loop.trips) : Fin 3 → Nat :=
  let c0_i32_8 : BitVec 32 := 0#32
  let c1_i32 : BitVec 32 := 1#32
  let arg15 : BitVec 32 := Scf.iv c0_i32_8 c1_i32 k0_t1
  let c4_i32_39 : BitVec 32 := 4#32
  let c0_i32_40 : BitVec 32 := 0#32
  let v89 : BitVec 1 := Scalar.cmpi .eq c4_i32_39 c0_i32_40
  let c1_i32_41 : BitVec 32 := 1#32
  let v90 : BitVec 32 := Scalar.select v89 c1_i32_41 c4_i32_39
  let v91 : BitVec 32 := Scalar.remsi arg15 v90
  let c0_i32_43 : BitVec 32 := 0#32
  let v93 : BitVec 1 := Scalar.cmpi .slt v91 c0_i32_43
  let c0_i32_44 : BitVec 32 := 0#32
  let v94 : BitVec 1 := Scalar.cmpi .slt v90 c0_i32_44
  let v95 : BitVec 1 := Scalar.xori v93 v94
  let c0_i32_42 : BitVec 32 := 0#32
  let v92 : BitVec 1 := Scalar.cmpi .ne v91 c0_i32_42
  let v96 : BitVec 1 := Scalar.andi v95 v92
  let v97 : BitVec 32 := Scalar.addi v91 v90
  let v98 : BitVec 32 := Scalar.select v96 v97 v91
  let v264 : Index := Scalar.indexCast v98
  let c0_114 : Index := 0#32
  let c0_115 : Index := 0#32
  ![v264.toNat, 0, 0]
def k0_cond4 (i : grid0.Coords) : BitVec 1 :=
  let arg0 : BitVec 32 := BitVec.ofNat 32 (i 0).val
  let c1_i32_10 : BitVec 32 := 1#32
  let v18 : BitVec 32 := Scalar.addi arg0 c1_i32_10
  let c128_i32 : BitVec 32 := 128#32
  let v19 : BitVec 1 := Scalar.cmpi .slt v18 c128_i32
  let v20 : BitVec 32 := Scalar.extui v19
  let c0_i32_11 : BitVec 32 := 0#32
  let v21 : BitVec 1 := Scalar.cmpi .ne v20 c0_i32_11
  v21

def k0_off120 (i : grid0.Coords) : Fin 2 → Nat :=
  let arg0 : BitVec 32 := BitVec.ofNat 32 (i 0).val
  let c1_i32_39 : BitVec 32 := 1#32
  let v89 : BitVec 32 := Scalar.addi arg0 c1_i32_39
  let v90 : Index := Scalar.indexCast v89
  let c0_40 : Index := 0#32
  ![v90.toNat, 0]
def k0_mult41 (v91 : BitVec 32) : BitVec 32 :=
  let c0_i32_41 : BitVec 32 := 0#32
  let v92 : BitVec 32 := Scalar.addi c0_i32_41 v91
  let c576_i32 : BitVec 32 := 576#32
  let v93 : BitVec 32 := Scalar.muli v92 c576_i32
  v93

def k0_off121 (i : grid0.Coords) : Fin 2 → Nat :=
  let arg0 : BitVec 32 := BitVec.ofNat 32 (i 0).val
  let c1_i32_39 : BitVec 32 := 1#32
  let v89 : BitVec 32 := Scalar.addi arg0 c1_i32_39
  let v95 : Index := Scalar.indexCast v89
  let c1 : Index := 1#32
  ![v95.toNat, 1]
def k0_mult42 (v96 : BitVec 32) : BitVec 32 :=
  let c0_i32_42 : BitVec 32 := 0#32
  let v97 : BitVec 32 := Scalar.addi c0_i32_42 v96
  let c576_i32_43 : BitVec 32 := 576#32
  let v98 : BitVec 32 := Scalar.muli v97 c576_i32_43
  v98

def k0_off122 (i : grid0.Coords) : Fin 2 → Nat :=
  let arg0 : BitVec 32 := BitVec.ofNat 32 (i 0).val
  let c1_i32_39 : BitVec 32 := 1#32
  let v89 : BitVec 32 := Scalar.addi arg0 c1_i32_39
  let v100 : Index := Scalar.indexCast v89
  let c2 : Index := 2#32
  ![v100.toNat, 2]
def k0_mult43 (v101 : BitVec 32) : BitVec 32 :=
  let c0_i32_44 : BitVec 32 := 0#32
  let v102 : BitVec 32 := Scalar.addi c0_i32_44 v101
  let c576_i32_45 : BitVec 32 := 576#32
  let v103 : BitVec 32 := Scalar.muli v102 c576_i32_45
  v103

def k0_off123 (i : grid0.Coords) : Fin 2 → Nat :=
  let arg0 : BitVec 32 := BitVec.ofNat 32 (i 0).val
  let c1_i32_39 : BitVec 32 := 1#32
  let v89 : BitVec 32 := Scalar.addi arg0 c1_i32_39
  let v105 : Index := Scalar.indexCast v89
  let c3 : Index := 3#32
  ![v105.toNat, 3]
def k0_mult44 (v106 : BitVec 32) : BitVec 32 :=
  let c0_i32_46 : BitVec 32 := 0#32
  let v107 : BitVec 32 := Scalar.addi c0_i32_46 v106
  let c576_i32_47 : BitVec 32 := 576#32
  let v108 : BitVec 32 := Scalar.muli v107 c576_i32_47
  v108

def k0_off124 (i : grid0.Coords) : Fin 2 → Nat :=
  let arg0 : BitVec 32 := BitVec.ofNat 32 (i 0).val
  let c1_i32_39 : BitVec 32 := 1#32
  let v89 : BitVec 32 := Scalar.addi arg0 c1_i32_39
  let v110 : Index := Scalar.indexCast v89
  let c4 : Index := 4#32
  ![v110.toNat, 4]
def k0_mult45 (v111 : BitVec 32) : BitVec 32 :=
  let c0_i32_48 : BitVec 32 := 0#32
  let v112 : BitVec 32 := Scalar.addi c0_i32_48 v111
  let c576_i32_49 : BitVec 32 := 576#32
  let v113 : BitVec 32 := Scalar.muli v112 c576_i32_49
  v113

def k0_off125 (i : grid0.Coords) : Fin 2 → Nat :=
  let arg0 : BitVec 32 := BitVec.ofNat 32 (i 0).val
  let c1_i32_39 : BitVec 32 := 1#32
  let v89 : BitVec 32 := Scalar.addi arg0 c1_i32_39
  let v115 : Index := Scalar.indexCast v89
  let c5 : Index := 5#32
  ![v115.toNat, 5]
def k0_mult46 (v116 : BitVec 32) : BitVec 32 :=
  let c0_i32_50 : BitVec 32 := 0#32
  let v117 : BitVec 32 := Scalar.addi c0_i32_50 v116
  let c576_i32_51 : BitVec 32 := 576#32
  let v118 : BitVec 32 := Scalar.muli v117 c576_i32_51
  v118

def k0_off126 (i : grid0.Coords) : Fin 2 → Nat :=
  let arg0 : BitVec 32 := BitVec.ofNat 32 (i 0).val
  let c1_i32_39 : BitVec 32 := 1#32
  let v89 : BitVec 32 := Scalar.addi arg0 c1_i32_39
  let v120 : Index := Scalar.indexCast v89
  let c6 : Index := 6#32
  ![v120.toNat, 6]
def k0_mult47 (v121 : BitVec 32) : BitVec 32 :=
  let c0_i32_52 : BitVec 32 := 0#32
  let v122 : BitVec 32 := Scalar.addi c0_i32_52 v121
  let c576_i32_53 : BitVec 32 := 576#32
  let v123 : BitVec 32 := Scalar.muli v122 c576_i32_53
  v123

def k0_off127 (i : grid0.Coords) : Fin 2 → Nat :=
  let arg0 : BitVec 32 := BitVec.ofNat 32 (i 0).val
  let c1_i32_39 : BitVec 32 := 1#32
  let v89 : BitVec 32 := Scalar.addi arg0 c1_i32_39
  let v125 : Index := Scalar.indexCast v89
  let c7 : Index := 7#32
  ![v125.toNat, 7]
def k0_mult48 (v126 : BitVec 32) : BitVec 32 :=
  let c0_i32_54 : BitVec 32 := 0#32
  let v127 : BitVec 32 := Scalar.addi c0_i32_54 v126
  let c576_i32_55 : BitVec 32 := 576#32
  let v128 : BitVec 32 := Scalar.muli v127 c576_i32_55
  v128

def k0_off128 (v91 : BitVec 32) : Fin 2 → Nat :=
  let c0_i32_41 : BitVec 32 := 0#32
  let v92 : BitVec 32 := Scalar.addi c0_i32_41 v91
  let c576_i32 : BitVec 32 := 576#32
  let v93 : BitVec 32 := Scalar.muli v92 c576_i32
  let v94 : BitVec 32 := v93
  let c0_i32_60 : BitVec 32 := 0#32
  ![v94.toNat, 0]

def k0_chk41 (i : grid0.Coords) (v91 : BitVec 32) : Prop :=
  (∀ (k0_h4 : k0_cond4 i = 1#1), 576 ∣ (k0_mult41 v91).toNat) ∧
  (∀ (k0_h4 : k0_cond4 i = 1#1), ∀ a, (k0_off128 v91) a + S576x128.size a ≤ S11796480x128.size a)
theorem k0_mult41_dvd : ∀ (i : grid0.Coords) (v91 : BitVec 32) (k0_hw41 : k0_chk41 i v91), ∀ (k0_h4 : k0_cond4 i = 1#1), 576 ∣ (k0_mult41 v91).toNat := fun i v91 k0_hw41 k0_h4 => k0_hw41.1 k0_h4
theorem k0_off128_inb : ∀ (i : grid0.Coords) (v91 : BitVec 32) (k0_hw41 : k0_chk41 i v91), ∀ (k0_h4 : k0_cond4 i = 1#1), ∀ a, (k0_off128 v91) a + S576x128.size a ≤ S11796480x128.size a := fun i v91 k0_hw41 k0_h4 => k0_hw41.2 k0_h4

def k0_off129 (v96 : BitVec 32) : Fin 2 → Nat :=
  let c0_i32_42 : BitVec 32 := 0#32
  let v97 : BitVec 32 := Scalar.addi c0_i32_42 v96
  let c576_i32_43 : BitVec 32 := 576#32
  let v98 : BitVec 32 := Scalar.muli v97 c576_i32_43
  let v99 : BitVec 32 := v98
  let c0_i32_65 : BitVec 32 := 0#32
  ![v99.toNat, 0]

def k0_chk42 (i : grid0.Coords) (v96 : BitVec 32) : Prop :=
  (∀ (k0_h4 : k0_cond4 i = 1#1), 576 ∣ (k0_mult42 v96).toNat) ∧
  (∀ (k0_h4 : k0_cond4 i = 1#1), ∀ a, (k0_off129 v96) a + S576x128.size a ≤ S11796480x128.size a)
theorem k0_mult42_dvd : ∀ (i : grid0.Coords) (v96 : BitVec 32) (k0_hw42 : k0_chk42 i v96), ∀ (k0_h4 : k0_cond4 i = 1#1), 576 ∣ (k0_mult42 v96).toNat := fun i v96 k0_hw42 k0_h4 => k0_hw42.1 k0_h4
theorem k0_off129_inb : ∀ (i : grid0.Coords) (v96 : BitVec 32) (k0_hw42 : k0_chk42 i v96), ∀ (k0_h4 : k0_cond4 i = 1#1), ∀ a, (k0_off129 v96) a + S576x128.size a ≤ S11796480x128.size a := fun i v96 k0_hw42 k0_h4 => k0_hw42.2 k0_h4

def k0_off130 (v101 : BitVec 32) : Fin 2 → Nat :=
  let c0_i32_44 : BitVec 32 := 0#32
  let v102 : BitVec 32 := Scalar.addi c0_i32_44 v101
  let c576_i32_45 : BitVec 32 := 576#32
  let v103 : BitVec 32 := Scalar.muli v102 c576_i32_45
  let v104 : BitVec 32 := v103
  let c0_i32_69 : BitVec 32 := 0#32
  ![v104.toNat, 0]

def k0_chk43 (i : grid0.Coords) (v101 : BitVec 32) : Prop :=
  (∀ (k0_h4 : k0_cond4 i = 1#1), 576 ∣ (k0_mult43 v101).toNat) ∧
  (∀ (k0_h4 : k0_cond4 i = 1#1), ∀ a, (k0_off130 v101) a + S576x128.size a ≤ S11796480x128.size a)
theorem k0_mult43_dvd : ∀ (i : grid0.Coords) (v101 : BitVec 32) (k0_hw43 : k0_chk43 i v101), ∀ (k0_h4 : k0_cond4 i = 1#1), 576 ∣ (k0_mult43 v101).toNat := fun i v101 k0_hw43 k0_h4 => k0_hw43.1 k0_h4
theorem k0_off130_inb : ∀ (i : grid0.Coords) (v101 : BitVec 32) (k0_hw43 : k0_chk43 i v101), ∀ (k0_h4 : k0_cond4 i = 1#1), ∀ a, (k0_off130 v101) a + S576x128.size a ≤ S11796480x128.size a := fun i v101 k0_hw43 k0_h4 => k0_hw43.2 k0_h4

def k0_off131 (v106 : BitVec 32) : Fin 2 → Nat :=
  let c0_i32_46 : BitVec 32 := 0#32
  let v107 : BitVec 32 := Scalar.addi c0_i32_46 v106
  let c576_i32_47 : BitVec 32 := 576#32
  let v108 : BitVec 32 := Scalar.muli v107 c576_i32_47
  let v109 : BitVec 32 := v108
  let c0_i32_73 : BitVec 32 := 0#32
  ![v109.toNat, 0]

def k0_chk44 (i : grid0.Coords) (v106 : BitVec 32) : Prop :=
  (∀ (k0_h4 : k0_cond4 i = 1#1), 576 ∣ (k0_mult44 v106).toNat) ∧
  (∀ (k0_h4 : k0_cond4 i = 1#1), ∀ a, (k0_off131 v106) a + S576x128.size a ≤ S11796480x128.size a)
theorem k0_mult44_dvd : ∀ (i : grid0.Coords) (v106 : BitVec 32) (k0_hw44 : k0_chk44 i v106), ∀ (k0_h4 : k0_cond4 i = 1#1), 576 ∣ (k0_mult44 v106).toNat := fun i v106 k0_hw44 k0_h4 => k0_hw44.1 k0_h4
theorem k0_off131_inb : ∀ (i : grid0.Coords) (v106 : BitVec 32) (k0_hw44 : k0_chk44 i v106), ∀ (k0_h4 : k0_cond4 i = 1#1), ∀ a, (k0_off131 v106) a + S576x128.size a ≤ S11796480x128.size a := fun i v106 k0_hw44 k0_h4 => k0_hw44.2 k0_h4

def k0_off132 (v111 : BitVec 32) : Fin 2 → Nat :=
  let c0_i32_48 : BitVec 32 := 0#32
  let v112 : BitVec 32 := Scalar.addi c0_i32_48 v111
  let c576_i32_49 : BitVec 32 := 576#32
  let v113 : BitVec 32 := Scalar.muli v112 c576_i32_49
  let v114 : BitVec 32 := v113
  let c0_i32_77 : BitVec 32 := 0#32
  ![v114.toNat, 0]

def k0_chk45 (i : grid0.Coords) (v111 : BitVec 32) : Prop :=
  (∀ (k0_h4 : k0_cond4 i = 1#1), 576 ∣ (k0_mult45 v111).toNat) ∧
  (∀ (k0_h4 : k0_cond4 i = 1#1), ∀ a, (k0_off132 v111) a + S576x128.size a ≤ S11796480x128.size a)
theorem k0_mult45_dvd : ∀ (i : grid0.Coords) (v111 : BitVec 32) (k0_hw45 : k0_chk45 i v111), ∀ (k0_h4 : k0_cond4 i = 1#1), 576 ∣ (k0_mult45 v111).toNat := fun i v111 k0_hw45 k0_h4 => k0_hw45.1 k0_h4
theorem k0_off132_inb : ∀ (i : grid0.Coords) (v111 : BitVec 32) (k0_hw45 : k0_chk45 i v111), ∀ (k0_h4 : k0_cond4 i = 1#1), ∀ a, (k0_off132 v111) a + S576x128.size a ≤ S11796480x128.size a := fun i v111 k0_hw45 k0_h4 => k0_hw45.2 k0_h4

def k0_off133 (v116 : BitVec 32) : Fin 2 → Nat :=
  let c0_i32_50 : BitVec 32 := 0#32
  let v117 : BitVec 32 := Scalar.addi c0_i32_50 v116
  let c576_i32_51 : BitVec 32 := 576#32
  let v118 : BitVec 32 := Scalar.muli v117 c576_i32_51
  let v119 : BitVec 32 := v118
  let c0_i32_81 : BitVec 32 := 0#32
  ![v119.toNat, 0]

def k0_chk46 (i : grid0.Coords) (v116 : BitVec 32) : Prop :=
  (∀ (k0_h4 : k0_cond4 i = 1#1), 576 ∣ (k0_mult46 v116).toNat) ∧
  (∀ (k0_h4 : k0_cond4 i = 1#1), ∀ a, (k0_off133 v116) a + S576x128.size a ≤ S11796480x128.size a)
theorem k0_mult46_dvd : ∀ (i : grid0.Coords) (v116 : BitVec 32) (k0_hw46 : k0_chk46 i v116), ∀ (k0_h4 : k0_cond4 i = 1#1), 576 ∣ (k0_mult46 v116).toNat := fun i v116 k0_hw46 k0_h4 => k0_hw46.1 k0_h4
theorem k0_off133_inb : ∀ (i : grid0.Coords) (v116 : BitVec 32) (k0_hw46 : k0_chk46 i v116), ∀ (k0_h4 : k0_cond4 i = 1#1), ∀ a, (k0_off133 v116) a + S576x128.size a ≤ S11796480x128.size a := fun i v116 k0_hw46 k0_h4 => k0_hw46.2 k0_h4

def k0_off134 (v121 : BitVec 32) : Fin 2 → Nat :=
  let c0_i32_52 : BitVec 32 := 0#32
  let v122 : BitVec 32 := Scalar.addi c0_i32_52 v121
  let c576_i32_53 : BitVec 32 := 576#32
  let v123 : BitVec 32 := Scalar.muli v122 c576_i32_53
  let v124 : BitVec 32 := v123
  let c0_i32_85 : BitVec 32 := 0#32
  ![v124.toNat, 0]

def k0_chk47 (i : grid0.Coords) (v121 : BitVec 32) : Prop :=
  (∀ (k0_h4 : k0_cond4 i = 1#1), 576 ∣ (k0_mult47 v121).toNat) ∧
  (∀ (k0_h4 : k0_cond4 i = 1#1), ∀ a, (k0_off134 v121) a + S576x128.size a ≤ S11796480x128.size a)
theorem k0_mult47_dvd : ∀ (i : grid0.Coords) (v121 : BitVec 32) (k0_hw47 : k0_chk47 i v121), ∀ (k0_h4 : k0_cond4 i = 1#1), 576 ∣ (k0_mult47 v121).toNat := fun i v121 k0_hw47 k0_h4 => k0_hw47.1 k0_h4
theorem k0_off134_inb : ∀ (i : grid0.Coords) (v121 : BitVec 32) (k0_hw47 : k0_chk47 i v121), ∀ (k0_h4 : k0_cond4 i = 1#1), ∀ a, (k0_off134 v121) a + S576x128.size a ≤ S11796480x128.size a := fun i v121 k0_hw47 k0_h4 => k0_hw47.2 k0_h4

def k0_off135 (v126 : BitVec 32) : Fin 2 → Nat :=
  let c0_i32_54 : BitVec 32 := 0#32
  let v127 : BitVec 32 := Scalar.addi c0_i32_54 v126
  let c576_i32_55 : BitVec 32 := 576#32
  let v128 : BitVec 32 := Scalar.muli v127 c576_i32_55
  let v129 : BitVec 32 := v128
  let c0_i32_89 : BitVec 32 := 0#32
  ![v129.toNat, 0]

def k0_chk48 (i : grid0.Coords) (v126 : BitVec 32) : Prop :=
  (∀ (k0_h4 : k0_cond4 i = 1#1), 576 ∣ (k0_mult48 v126).toNat) ∧
  (∀ (k0_h4 : k0_cond4 i = 1#1), ∀ a, (k0_off135 v126) a + S576x128.size a ≤ S11796480x128.size a)
theorem k0_mult48_dvd : ∀ (i : grid0.Coords) (v126 : BitVec 32) (k0_hw48 : k0_chk48 i v126), ∀ (k0_h4 : k0_cond4 i = 1#1), 576 ∣ (k0_mult48 v126).toNat := fun i v126 k0_hw48 k0_h4 => k0_hw48.1 k0_h4
theorem k0_off135_inb : ∀ (i : grid0.Coords) (v126 : BitVec 32) (k0_hw48 : k0_chk48 i v126), ∀ (k0_h4 : k0_cond4 i = 1#1), ∀ a, (k0_off135 v126) a + S576x128.size a ≤ S11796480x128.size a := fun i v126 k0_hw48 k0_h4 => k0_hw48.2 k0_h4

def k0_off136 (i : grid0.Coords) : Fin 2 → Nat :=
  let arg0 : BitVec 32 := BitVec.ofNat 32 (i 0).val
  let c1_i32_39 : BitVec 32 := 1#32
  let v89 : BitVec 32 := Scalar.addi arg0 c1_i32_39
  let v176 : Index := Scalar.indexCast v89
  let c8 : Index := 8#32
  ![v176.toNat, 8]
def k0_mult49 (v177 : BitVec 32) : BitVec 32 :=
  let c0_i32_97 : BitVec 32 := 0#32
  let v178 : BitVec 32 := Scalar.addi c0_i32_97 v177
  let c576_i32_98 : BitVec 32 := 576#32
  let v179 : BitVec 32 := Scalar.muli v178 c576_i32_98
  v179

def k0_off137 (i : grid0.Coords) : Fin 2 → Nat :=
  let arg0 : BitVec 32 := BitVec.ofNat 32 (i 0).val
  let c1_i32_39 : BitVec 32 := 1#32
  let v89 : BitVec 32 := Scalar.addi arg0 c1_i32_39
  let v181 : Index := Scalar.indexCast v89
  let c9 : Index := 9#32
  ![v181.toNat, 9]
def k0_mult50 (v182 : BitVec 32) : BitVec 32 :=
  let c0_i32_99 : BitVec 32 := 0#32
  let v183 : BitVec 32 := Scalar.addi c0_i32_99 v182
  let c576_i32_100 : BitVec 32 := 576#32
  let v184 : BitVec 32 := Scalar.muli v183 c576_i32_100
  v184

def k0_off138 (i : grid0.Coords) : Fin 2 → Nat :=
  let arg0 : BitVec 32 := BitVec.ofNat 32 (i 0).val
  let c1_i32_39 : BitVec 32 := 1#32
  let v89 : BitVec 32 := Scalar.addi arg0 c1_i32_39
  let v186 : Index := Scalar.indexCast v89
  let c10 : Index := 10#32
  ![v186.toNat, 10]
def k0_mult51 (v187 : BitVec 32) : BitVec 32 :=
  let c0_i32_101 : BitVec 32 := 0#32
  let v188 : BitVec 32 := Scalar.addi c0_i32_101 v187
  let c576_i32_102 : BitVec 32 := 576#32
  let v189 : BitVec 32 := Scalar.muli v188 c576_i32_102
  v189

def k0_off139 (i : grid0.Coords) : Fin 2 → Nat :=
  let arg0 : BitVec 32 := BitVec.ofNat 32 (i 0).val
  let c1_i32_39 : BitVec 32 := 1#32
  let v89 : BitVec 32 := Scalar.addi arg0 c1_i32_39
  let v191 : Index := Scalar.indexCast v89
  let c11 : Index := 11#32
  ![v191.toNat, 11]
def k0_mult52 (v192 : BitVec 32) : BitVec 32 :=
  let c0_i32_103 : BitVec 32 := 0#32
  let v193 : BitVec 32 := Scalar.addi c0_i32_103 v192
  let c576_i32_104 : BitVec 32 := 576#32
  let v194 : BitVec 32 := Scalar.muli v193 c576_i32_104
  v194

def k0_off140 (i : grid0.Coords) : Fin 2 → Nat :=
  let arg0 : BitVec 32 := BitVec.ofNat 32 (i 0).val
  let c1_i32_39 : BitVec 32 := 1#32
  let v89 : BitVec 32 := Scalar.addi arg0 c1_i32_39
  let v196 : Index := Scalar.indexCast v89
  let c12 : Index := 12#32
  ![v196.toNat, 12]
def k0_mult53 (v197 : BitVec 32) : BitVec 32 :=
  let c0_i32_105 : BitVec 32 := 0#32
  let v198 : BitVec 32 := Scalar.addi c0_i32_105 v197
  let c576_i32_106 : BitVec 32 := 576#32
  let v199 : BitVec 32 := Scalar.muli v198 c576_i32_106
  v199

def k0_off141 (i : grid0.Coords) : Fin 2 → Nat :=
  let arg0 : BitVec 32 := BitVec.ofNat 32 (i 0).val
  let c1_i32_39 : BitVec 32 := 1#32
  let v89 : BitVec 32 := Scalar.addi arg0 c1_i32_39
  let v201 : Index := Scalar.indexCast v89
  let c13 : Index := 13#32
  ![v201.toNat, 13]
def k0_mult54 (v202 : BitVec 32) : BitVec 32 :=
  let c0_i32_107 : BitVec 32 := 0#32
  let v203 : BitVec 32 := Scalar.addi c0_i32_107 v202
  let c576_i32_108 : BitVec 32 := 576#32
  let v204 : BitVec 32 := Scalar.muli v203 c576_i32_108
  v204

def k0_off142 (i : grid0.Coords) : Fin 2 → Nat :=
  let arg0 : BitVec 32 := BitVec.ofNat 32 (i 0).val
  let c1_i32_39 : BitVec 32 := 1#32
  let v89 : BitVec 32 := Scalar.addi arg0 c1_i32_39
  let v206 : Index := Scalar.indexCast v89
  let c14 : Index := 14#32
  ![v206.toNat, 14]
def k0_mult55 (v207 : BitVec 32) : BitVec 32 :=
  let c0_i32_109 : BitVec 32 := 0#32
  let v208 : BitVec 32 := Scalar.addi c0_i32_109 v207
  let c576_i32_110 : BitVec 32 := 576#32
  let v209 : BitVec 32 := Scalar.muli v208 c576_i32_110
  v209

def k0_off143 (i : grid0.Coords) : Fin 2 → Nat :=
  let arg0 : BitVec 32 := BitVec.ofNat 32 (i 0).val
  let c1_i32_39 : BitVec 32 := 1#32
  let v89 : BitVec 32 := Scalar.addi arg0 c1_i32_39
  let v211 : Index := Scalar.indexCast v89
  let c15 : Index := 15#32
  ![v211.toNat, 15]
def k0_mult56 (v212 : BitVec 32) : BitVec 32 :=
  let c0_i32_111 : BitVec 32 := 0#32
  let v213 : BitVec 32 := Scalar.addi c0_i32_111 v212
  let c576_i32_112 : BitVec 32 := 576#32
  let v214 : BitVec 32 := Scalar.muli v213 c576_i32_112
  v214

def k0_off144 (v177 : BitVec 32) : Fin 2 → Nat :=
  let c0_i32_97 : BitVec 32 := 0#32
  let v178 : BitVec 32 := Scalar.addi c0_i32_97 v177
  let c576_i32_98 : BitVec 32 := 576#32
  let v179 : BitVec 32 := Scalar.muli v178 c576_i32_98
  let v180 : BitVec 32 := v179
  let c0_i32_117 : BitVec 32 := 0#32
  ![v180.toNat, 0]

def k0_chk49 (i : grid0.Coords) (v177 : BitVec 32) : Prop :=
  (∀ (k0_h4 : k0_cond4 i = 1#1), 576 ∣ (k0_mult49 v177).toNat) ∧
  (∀ (k0_h4 : k0_cond4 i = 1#1), ∀ a, (k0_off144 v177) a + S576x128.size a ≤ S11796480x128.size a)
theorem k0_mult49_dvd : ∀ (i : grid0.Coords) (v177 : BitVec 32) (k0_hw49 : k0_chk49 i v177), ∀ (k0_h4 : k0_cond4 i = 1#1), 576 ∣ (k0_mult49 v177).toNat := fun i v177 k0_hw49 k0_h4 => k0_hw49.1 k0_h4
theorem k0_off144_inb : ∀ (i : grid0.Coords) (v177 : BitVec 32) (k0_hw49 : k0_chk49 i v177), ∀ (k0_h4 : k0_cond4 i = 1#1), ∀ a, (k0_off144 v177) a + S576x128.size a ≤ S11796480x128.size a := fun i v177 k0_hw49 k0_h4 => k0_hw49.2 k0_h4

def k0_off145 (v182 : BitVec 32) : Fin 2 → Nat :=
  let c0_i32_99 : BitVec 32 := 0#32
  let v183 : BitVec 32 := Scalar.addi c0_i32_99 v182
  let c576_i32_100 : BitVec 32 := 576#32
  let v184 : BitVec 32 := Scalar.muli v183 c576_i32_100
  let v185 : BitVec 32 := v184
  let c0_i32_122 : BitVec 32 := 0#32
  ![v185.toNat, 0]

def k0_chk50 (i : grid0.Coords) (v182 : BitVec 32) : Prop :=
  (∀ (k0_h4 : k0_cond4 i = 1#1), 576 ∣ (k0_mult50 v182).toNat) ∧
  (∀ (k0_h4 : k0_cond4 i = 1#1), ∀ a, (k0_off145 v182) a + S576x128.size a ≤ S11796480x128.size a)
theorem k0_mult50_dvd : ∀ (i : grid0.Coords) (v182 : BitVec 32) (k0_hw50 : k0_chk50 i v182), ∀ (k0_h4 : k0_cond4 i = 1#1), 576 ∣ (k0_mult50 v182).toNat := fun i v182 k0_hw50 k0_h4 => k0_hw50.1 k0_h4
theorem k0_off145_inb : ∀ (i : grid0.Coords) (v182 : BitVec 32) (k0_hw50 : k0_chk50 i v182), ∀ (k0_h4 : k0_cond4 i = 1#1), ∀ a, (k0_off145 v182) a + S576x128.size a ≤ S11796480x128.size a := fun i v182 k0_hw50 k0_h4 => k0_hw50.2 k0_h4

def k0_off146 (v187 : BitVec 32) : Fin 2 → Nat :=
  let c0_i32_101 : BitVec 32 := 0#32
  let v188 : BitVec 32 := Scalar.addi c0_i32_101 v187
  let c576_i32_102 : BitVec 32 := 576#32
  let v189 : BitVec 32 := Scalar.muli v188 c576_i32_102
  let v190 : BitVec 32 := v189
  let c0_i32_127 : BitVec 32 := 0#32
  ![v190.toNat, 0]

def k0_chk51 (i : grid0.Coords) (v187 : BitVec 32) : Prop :=
  (∀ (k0_h4 : k0_cond4 i = 1#1), 576 ∣ (k0_mult51 v187).toNat) ∧
  (∀ (k0_h4 : k0_cond4 i = 1#1), ∀ a, (k0_off146 v187) a + S576x128.size a ≤ S11796480x128.size a)
theorem k0_mult51_dvd : ∀ (i : grid0.Coords) (v187 : BitVec 32) (k0_hw51 : k0_chk51 i v187), ∀ (k0_h4 : k0_cond4 i = 1#1), 576 ∣ (k0_mult51 v187).toNat := fun i v187 k0_hw51 k0_h4 => k0_hw51.1 k0_h4
theorem k0_off146_inb : ∀ (i : grid0.Coords) (v187 : BitVec 32) (k0_hw51 : k0_chk51 i v187), ∀ (k0_h4 : k0_cond4 i = 1#1), ∀ a, (k0_off146 v187) a + S576x128.size a ≤ S11796480x128.size a := fun i v187 k0_hw51 k0_h4 => k0_hw51.2 k0_h4

def k0_off147 (v192 : BitVec 32) : Fin 2 → Nat :=
  let c0_i32_103 : BitVec 32 := 0#32
  let v193 : BitVec 32 := Scalar.addi c0_i32_103 v192
  let c576_i32_104 : BitVec 32 := 576#32
  let v194 : BitVec 32 := Scalar.muli v193 c576_i32_104
  let v195 : BitVec 32 := v194
  let c0_i32_132 : BitVec 32 := 0#32
  ![v195.toNat, 0]

def k0_chk52 (i : grid0.Coords) (v192 : BitVec 32) : Prop :=
  (∀ (k0_h4 : k0_cond4 i = 1#1), 576 ∣ (k0_mult52 v192).toNat) ∧
  (∀ (k0_h4 : k0_cond4 i = 1#1), ∀ a, (k0_off147 v192) a + S576x128.size a ≤ S11796480x128.size a)
theorem k0_mult52_dvd : ∀ (i : grid0.Coords) (v192 : BitVec 32) (k0_hw52 : k0_chk52 i v192), ∀ (k0_h4 : k0_cond4 i = 1#1), 576 ∣ (k0_mult52 v192).toNat := fun i v192 k0_hw52 k0_h4 => k0_hw52.1 k0_h4
theorem k0_off147_inb : ∀ (i : grid0.Coords) (v192 : BitVec 32) (k0_hw52 : k0_chk52 i v192), ∀ (k0_h4 : k0_cond4 i = 1#1), ∀ a, (k0_off147 v192) a + S576x128.size a ≤ S11796480x128.size a := fun i v192 k0_hw52 k0_h4 => k0_hw52.2 k0_h4

def k0_off148 (v197 : BitVec 32) : Fin 2 → Nat :=
  let c0_i32_105 : BitVec 32 := 0#32
  let v198 : BitVec 32 := Scalar.addi c0_i32_105 v197
  let c576_i32_106 : BitVec 32 := 576#32
  let v199 : BitVec 32 := Scalar.muli v198 c576_i32_106
  let v200 : BitVec 32 := v199
  let c0_i32_137 : BitVec 32 := 0#32
  ![v200.toNat, 0]

def k0_chk53 (i : grid0.Coords) (v197 : BitVec 32) : Prop :=
  (∀ (k0_h4 : k0_cond4 i = 1#1), 576 ∣ (k0_mult53 v197).toNat) ∧
  (∀ (k0_h4 : k0_cond4 i = 1#1), ∀ a, (k0_off148 v197) a + S576x128.size a ≤ S11796480x128.size a)
theorem k0_mult53_dvd : ∀ (i : grid0.Coords) (v197 : BitVec 32) (k0_hw53 : k0_chk53 i v197), ∀ (k0_h4 : k0_cond4 i = 1#1), 576 ∣ (k0_mult53 v197).toNat := fun i v197 k0_hw53 k0_h4 => k0_hw53.1 k0_h4
theorem k0_off148_inb : ∀ (i : grid0.Coords) (v197 : BitVec 32) (k0_hw53 : k0_chk53 i v197), ∀ (k0_h4 : k0_cond4 i = 1#1), ∀ a, (k0_off148 v197) a + S576x128.size a ≤ S11796480x128.size a := fun i v197 k0_hw53 k0_h4 => k0_hw53.2 k0_h4

def k0_off149 (v202 : BitVec 32) : Fin 2 → Nat :=
  let c0_i32_107 : BitVec 32 := 0#32
  let v203 : BitVec 32 := Scalar.addi c0_i32_107 v202
  let c576_i32_108 : BitVec 32 := 576#32
  let v204 : BitVec 32 := Scalar.muli v203 c576_i32_108
  let v205 : BitVec 32 := v204
  let c0_i32_142 : BitVec 32 := 0#32
  ![v205.toNat, 0]

def k0_chk54 (i : grid0.Coords) (v202 : BitVec 32) : Prop :=
  (∀ (k0_h4 : k0_cond4 i = 1#1), 576 ∣ (k0_mult54 v202).toNat) ∧
  (∀ (k0_h4 : k0_cond4 i = 1#1), ∀ a, (k0_off149 v202) a + S576x128.size a ≤ S11796480x128.size a)
theorem k0_mult54_dvd : ∀ (i : grid0.Coords) (v202 : BitVec 32) (k0_hw54 : k0_chk54 i v202), ∀ (k0_h4 : k0_cond4 i = 1#1), 576 ∣ (k0_mult54 v202).toNat := fun i v202 k0_hw54 k0_h4 => k0_hw54.1 k0_h4
theorem k0_off149_inb : ∀ (i : grid0.Coords) (v202 : BitVec 32) (k0_hw54 : k0_chk54 i v202), ∀ (k0_h4 : k0_cond4 i = 1#1), ∀ a, (k0_off149 v202) a + S576x128.size a ≤ S11796480x128.size a := fun i v202 k0_hw54 k0_h4 => k0_hw54.2 k0_h4

def k0_off150 (v207 : BitVec 32) : Fin 2 → Nat :=
  let c0_i32_109 : BitVec 32 := 0#32
  let v208 : BitVec 32 := Scalar.addi c0_i32_109 v207
  let c576_i32_110 : BitVec 32 := 576#32
  let v209 : BitVec 32 := Scalar.muli v208 c576_i32_110
  let v210 : BitVec 32 := v209
  let c0_i32_147 : BitVec 32 := 0#32
  ![v210.toNat, 0]

def k0_chk55 (i : grid0.Coords) (v207 : BitVec 32) : Prop :=
  (∀ (k0_h4 : k0_cond4 i = 1#1), 576 ∣ (k0_mult55 v207).toNat) ∧
  (∀ (k0_h4 : k0_cond4 i = 1#1), ∀ a, (k0_off150 v207) a + S576x128.size a ≤ S11796480x128.size a)
theorem k0_mult55_dvd : ∀ (i : grid0.Coords) (v207 : BitVec 32) (k0_hw55 : k0_chk55 i v207), ∀ (k0_h4 : k0_cond4 i = 1#1), 576 ∣ (k0_mult55 v207).toNat := fun i v207 k0_hw55 k0_h4 => k0_hw55.1 k0_h4
theorem k0_off150_inb : ∀ (i : grid0.Coords) (v207 : BitVec 32) (k0_hw55 : k0_chk55 i v207), ∀ (k0_h4 : k0_cond4 i = 1#1), ∀ a, (k0_off150 v207) a + S576x128.size a ≤ S11796480x128.size a := fun i v207 k0_hw55 k0_h4 => k0_hw55.2 k0_h4

def k0_off151 (v212 : BitVec 32) : Fin 2 → Nat :=
  let c0_i32_111 : BitVec 32 := 0#32
  let v213 : BitVec 32 := Scalar.addi c0_i32_111 v212
  let c576_i32_112 : BitVec 32 := 576#32
  let v214 : BitVec 32 := Scalar.muli v213 c576_i32_112
  let v215 : BitVec 32 := v214
  let c0_i32_152 : BitVec 32 := 0#32
  ![v215.toNat, 0]

def k0_chk56 (i : grid0.Coords) (v212 : BitVec 32) : Prop :=
  (∀ (k0_h4 : k0_cond4 i = 1#1), 576 ∣ (k0_mult56 v212).toNat) ∧
  (∀ (k0_h4 : k0_cond4 i = 1#1), ∀ a, (k0_off151 v212) a + S576x128.size a ≤ S11796480x128.size a)
theorem k0_mult56_dvd : ∀ (i : grid0.Coords) (v212 : BitVec 32) (k0_hw56 : k0_chk56 i v212), ∀ (k0_h4 : k0_cond4 i = 1#1), 576 ∣ (k0_mult56 v212).toNat := fun i v212 k0_hw56 k0_h4 => k0_hw56.1 k0_h4
theorem k0_off151_inb : ∀ (i : grid0.Coords) (v212 : BitVec 32) (k0_hw56 : k0_chk56 i v212), ∀ (k0_h4 : k0_cond4 i = 1#1), ∀ a, (k0_off151 v212) a + S576x128.size a ≤ S11796480x128.size a := fun i v212 k0_hw56 k0_h4 => k0_hw56.2 k0_h4

def k0_off152 (i : grid0.Coords) : Fin 2 → Nat :=
  let arg0 : BitVec 32 := BitVec.ofNat 32 (i 0).val
  let c1_i32_39 : BitVec 32 := 1#32
  let v89 : BitVec 32 := Scalar.addi arg0 c1_i32_39
  let v262 : Index := Scalar.indexCast v89
  let c16 : Index := 16#32
  ![v262.toNat, 16]
def k0_mult57 (v263 : BitVec 32) : BitVec 32 :=
  let c0_i32_160 : BitVec 32 := 0#32
  let v264 : BitVec 32 := Scalar.addi c0_i32_160 v263
  let c576_i32_161 : BitVec 32 := 576#32
  let v265 : BitVec 32 := Scalar.muli v264 c576_i32_161
  v265

def k0_off153 (i : grid0.Coords) : Fin 2 → Nat :=
  let arg0 : BitVec 32 := BitVec.ofNat 32 (i 0).val
  let c1_i32_39 : BitVec 32 := 1#32
  let v89 : BitVec 32 := Scalar.addi arg0 c1_i32_39
  let v267 : Index := Scalar.indexCast v89
  let c17 : Index := 17#32
  ![v267.toNat, 17]
def k0_mult58 (v268 : BitVec 32) : BitVec 32 :=
  let c0_i32_162 : BitVec 32 := 0#32
  let v269 : BitVec 32 := Scalar.addi c0_i32_162 v268
  let c576_i32_163 : BitVec 32 := 576#32
  let v270 : BitVec 32 := Scalar.muli v269 c576_i32_163
  v270

def k0_off154 (i : grid0.Coords) : Fin 2 → Nat :=
  let arg0 : BitVec 32 := BitVec.ofNat 32 (i 0).val
  let c1_i32_39 : BitVec 32 := 1#32
  let v89 : BitVec 32 := Scalar.addi arg0 c1_i32_39
  let v272 : Index := Scalar.indexCast v89
  let c18 : Index := 18#32
  ![v272.toNat, 18]
def k0_mult59 (v273 : BitVec 32) : BitVec 32 :=
  let c0_i32_164 : BitVec 32 := 0#32
  let v274 : BitVec 32 := Scalar.addi c0_i32_164 v273
  let c576_i32_165 : BitVec 32 := 576#32
  let v275 : BitVec 32 := Scalar.muli v274 c576_i32_165
  v275

def k0_off155 (i : grid0.Coords) : Fin 2 → Nat :=
  let arg0 : BitVec 32 := BitVec.ofNat 32 (i 0).val
  let c1_i32_39 : BitVec 32 := 1#32
  let v89 : BitVec 32 := Scalar.addi arg0 c1_i32_39
  let v277 : Index := Scalar.indexCast v89
  let c19 : Index := 19#32
  ![v277.toNat, 19]
def k0_mult60 (v278 : BitVec 32) : BitVec 32 :=
  let c0_i32_166 : BitVec 32 := 0#32
  let v279 : BitVec 32 := Scalar.addi c0_i32_166 v278
  let c576_i32_167 : BitVec 32 := 576#32
  let v280 : BitVec 32 := Scalar.muli v279 c576_i32_167
  v280

def k0_off156 (i : grid0.Coords) : Fin 2 → Nat :=
  let arg0 : BitVec 32 := BitVec.ofNat 32 (i 0).val
  let c1_i32_39 : BitVec 32 := 1#32
  let v89 : BitVec 32 := Scalar.addi arg0 c1_i32_39
  let v282 : Index := Scalar.indexCast v89
  let c20 : Index := 20#32
  ![v282.toNat, 20]
def k0_mult61 (v283 : BitVec 32) : BitVec 32 :=
  let c0_i32_168 : BitVec 32 := 0#32
  let v284 : BitVec 32 := Scalar.addi c0_i32_168 v283
  let c576_i32_169 : BitVec 32 := 576#32
  let v285 : BitVec 32 := Scalar.muli v284 c576_i32_169
  v285

def k0_off157 (i : grid0.Coords) : Fin 2 → Nat :=
  let arg0 : BitVec 32 := BitVec.ofNat 32 (i 0).val
  let c1_i32_39 : BitVec 32 := 1#32
  let v89 : BitVec 32 := Scalar.addi arg0 c1_i32_39
  let v287 : Index := Scalar.indexCast v89
  let c21 : Index := 21#32
  ![v287.toNat, 21]
def k0_mult62 (v288 : BitVec 32) : BitVec 32 :=
  let c0_i32_170 : BitVec 32 := 0#32
  let v289 : BitVec 32 := Scalar.addi c0_i32_170 v288
  let c576_i32_171 : BitVec 32 := 576#32
  let v290 : BitVec 32 := Scalar.muli v289 c576_i32_171
  v290

def k0_off158 (i : grid0.Coords) : Fin 2 → Nat :=
  let arg0 : BitVec 32 := BitVec.ofNat 32 (i 0).val
  let c1_i32_39 : BitVec 32 := 1#32
  let v89 : BitVec 32 := Scalar.addi arg0 c1_i32_39
  let v292 : Index := Scalar.indexCast v89
  let c22 : Index := 22#32
  ![v292.toNat, 22]
def k0_mult63 (v293 : BitVec 32) : BitVec 32 :=
  let c0_i32_172 : BitVec 32 := 0#32
  let v294 : BitVec 32 := Scalar.addi c0_i32_172 v293
  let c576_i32_173 : BitVec 32 := 576#32
  let v295 : BitVec 32 := Scalar.muli v294 c576_i32_173
  v295

def k0_off159 (i : grid0.Coords) : Fin 2 → Nat :=
  let arg0 : BitVec 32 := BitVec.ofNat 32 (i 0).val
  let c1_i32_39 : BitVec 32 := 1#32
  let v89 : BitVec 32 := Scalar.addi arg0 c1_i32_39
  let v297 : Index := Scalar.indexCast v89
  let c23 : Index := 23#32
  ![v297.toNat, 23]
def k0_mult64 (v298 : BitVec 32) : BitVec 32 :=
  let c0_i32_174 : BitVec 32 := 0#32
  let v299 : BitVec 32 := Scalar.addi c0_i32_174 v298
  let c576_i32_175 : BitVec 32 := 576#32
  let v300 : BitVec 32 := Scalar.muli v299 c576_i32_175
  v300

def k0_off160 (v263 : BitVec 32) : Fin 2 → Nat :=
  let c0_i32_160 : BitVec 32 := 0#32
  let v264 : BitVec 32 := Scalar.addi c0_i32_160 v263
  let c576_i32_161 : BitVec 32 := 576#32
  let v265 : BitVec 32 := Scalar.muli v264 c576_i32_161
  let v266 : BitVec 32 := v265
  let c0_i32_179 : BitVec 32 := 0#32
  ![v266.toNat, 0]

def k0_chk57 (i : grid0.Coords) (v263 : BitVec 32) : Prop :=
  (∀ (k0_h4 : k0_cond4 i = 1#1), 576 ∣ (k0_mult57 v263).toNat) ∧
  (∀ (k0_h4 : k0_cond4 i = 1#1), ∀ a, (k0_off160 v263) a + S576x128.size a ≤ S11796480x128.size a)
theorem k0_mult57_dvd : ∀ (i : grid0.Coords) (v263 : BitVec 32) (k0_hw57 : k0_chk57 i v263), ∀ (k0_h4 : k0_cond4 i = 1#1), 576 ∣ (k0_mult57 v263).toNat := fun i v263 k0_hw57 k0_h4 => k0_hw57.1 k0_h4
theorem k0_off160_inb : ∀ (i : grid0.Coords) (v263 : BitVec 32) (k0_hw57 : k0_chk57 i v263), ∀ (k0_h4 : k0_cond4 i = 1#1), ∀ a, (k0_off160 v263) a + S576x128.size a ≤ S11796480x128.size a := fun i v263 k0_hw57 k0_h4 => k0_hw57.2 k0_h4

def k0_off161 (v268 : BitVec 32) : Fin 2 → Nat :=
  let c0_i32_162 : BitVec 32 := 0#32
  let v269 : BitVec 32 := Scalar.addi c0_i32_162 v268
  let c576_i32_163 : BitVec 32 := 576#32
  let v270 : BitVec 32 := Scalar.muli v269 c576_i32_163
  let v271 : BitVec 32 := v270
  let c0_i32_184 : BitVec 32 := 0#32
  ![v271.toNat, 0]

def k0_chk58 (i : grid0.Coords) (v268 : BitVec 32) : Prop :=
  (∀ (k0_h4 : k0_cond4 i = 1#1), 576 ∣ (k0_mult58 v268).toNat) ∧
  (∀ (k0_h4 : k0_cond4 i = 1#1), ∀ a, (k0_off161 v268) a + S576x128.size a ≤ S11796480x128.size a)
theorem k0_mult58_dvd : ∀ (i : grid0.Coords) (v268 : BitVec 32) (k0_hw58 : k0_chk58 i v268), ∀ (k0_h4 : k0_cond4 i = 1#1), 576 ∣ (k0_mult58 v268).toNat := fun i v268 k0_hw58 k0_h4 => k0_hw58.1 k0_h4
theorem k0_off161_inb : ∀ (i : grid0.Coords) (v268 : BitVec 32) (k0_hw58 : k0_chk58 i v268), ∀ (k0_h4 : k0_cond4 i = 1#1), ∀ a, (k0_off161 v268) a + S576x128.size a ≤ S11796480x128.size a := fun i v268 k0_hw58 k0_h4 => k0_hw58.2 k0_h4

def k0_off162 (v273 : BitVec 32) : Fin 2 → Nat :=
  let c0_i32_164 : BitVec 32 := 0#32
  let v274 : BitVec 32 := Scalar.addi c0_i32_164 v273
  let c576_i32_165 : BitVec 32 := 576#32
  let v275 : BitVec 32 := Scalar.muli v274 c576_i32_165
  let v276 : BitVec 32 := v275
  let c0_i32_189 : BitVec 32 := 0#32
  ![v276.toNat, 0]

def k0_chk59 (i : grid0.Coords) (v273 : BitVec 32) : Prop :=
  (∀ (k0_h4 : k0_cond4 i = 1#1), 576 ∣ (k0_mult59 v273).toNat) ∧
  (∀ (k0_h4 : k0_cond4 i = 1#1), ∀ a, (k0_off162 v273) a + S576x128.size a ≤ S11796480x128.size a)
theorem k0_mult59_dvd : ∀ (i : grid0.Coords) (v273 : BitVec 32) (k0_hw59 : k0_chk59 i v273), ∀ (k0_h4 : k0_cond4 i = 1#1), 576 ∣ (k0_mult59 v273).toNat := fun i v273 k0_hw59 k0_h4 => k0_hw59.1 k0_h4
theorem k0_off162_inb : ∀ (i : grid0.Coords) (v273 : BitVec 32) (k0_hw59 : k0_chk59 i v273), ∀ (k0_h4 : k0_cond4 i = 1#1), ∀ a, (k0_off162 v273) a + S576x128.size a ≤ S11796480x128.size a := fun i v273 k0_hw59 k0_h4 => k0_hw59.2 k0_h4

def k0_off163 (v278 : BitVec 32) : Fin 2 → Nat :=
  let c0_i32_166 : BitVec 32 := 0#32
  let v279 : BitVec 32 := Scalar.addi c0_i32_166 v278
  let c576_i32_167 : BitVec 32 := 576#32
  let v280 : BitVec 32 := Scalar.muli v279 c576_i32_167
  let v281 : BitVec 32 := v280
  let c0_i32_194 : BitVec 32 := 0#32
  ![v281.toNat, 0]

def k0_chk60 (i : grid0.Coords) (v278 : BitVec 32) : Prop :=
  (∀ (k0_h4 : k0_cond4 i = 1#1), 576 ∣ (k0_mult60 v278).toNat) ∧
  (∀ (k0_h4 : k0_cond4 i = 1#1), ∀ a, (k0_off163 v278) a + S576x128.size a ≤ S11796480x128.size a)
theorem k0_mult60_dvd : ∀ (i : grid0.Coords) (v278 : BitVec 32) (k0_hw60 : k0_chk60 i v278), ∀ (k0_h4 : k0_cond4 i = 1#1), 576 ∣ (k0_mult60 v278).toNat := fun i v278 k0_hw60 k0_h4 => k0_hw60.1 k0_h4
theorem k0_off163_inb : ∀ (i : grid0.Coords) (v278 : BitVec 32) (k0_hw60 : k0_chk60 i v278), ∀ (k0_h4 : k0_cond4 i = 1#1), ∀ a, (k0_off163 v278) a + S576x128.size a ≤ S11796480x128.size a := fun i v278 k0_hw60 k0_h4 => k0_hw60.2 k0_h4

def k0_off164 (v283 : BitVec 32) : Fin 2 → Nat :=
  let c0_i32_168 : BitVec 32 := 0#32
  let v284 : BitVec 32 := Scalar.addi c0_i32_168 v283
  let c576_i32_169 : BitVec 32 := 576#32
  let v285 : BitVec 32 := Scalar.muli v284 c576_i32_169
  let v286 : BitVec 32 := v285
  let c0_i32_199 : BitVec 32 := 0#32
  ![v286.toNat, 0]

def k0_chk61 (i : grid0.Coords) (v283 : BitVec 32) : Prop :=
  (∀ (k0_h4 : k0_cond4 i = 1#1), 576 ∣ (k0_mult61 v283).toNat) ∧
  (∀ (k0_h4 : k0_cond4 i = 1#1), ∀ a, (k0_off164 v283) a + S576x128.size a ≤ S11796480x128.size a)
theorem k0_mult61_dvd : ∀ (i : grid0.Coords) (v283 : BitVec 32) (k0_hw61 : k0_chk61 i v283), ∀ (k0_h4 : k0_cond4 i = 1#1), 576 ∣ (k0_mult61 v283).toNat := fun i v283 k0_hw61 k0_h4 => k0_hw61.1 k0_h4
theorem k0_off164_inb : ∀ (i : grid0.Coords) (v283 : BitVec 32) (k0_hw61 : k0_chk61 i v283), ∀ (k0_h4 : k0_cond4 i = 1#1), ∀ a, (k0_off164 v283) a + S576x128.size a ≤ S11796480x128.size a := fun i v283 k0_hw61 k0_h4 => k0_hw61.2 k0_h4

def k0_off165 (v288 : BitVec 32) : Fin 2 → Nat :=
  let c0_i32_170 : BitVec 32 := 0#32
  let v289 : BitVec 32 := Scalar.addi c0_i32_170 v288
  let c576_i32_171 : BitVec 32 := 576#32
  let v290 : BitVec 32 := Scalar.muli v289 c576_i32_171
  let v291 : BitVec 32 := v290
  let c0_i32_204 : BitVec 32 := 0#32
  ![v291.toNat, 0]

def k0_chk62 (i : grid0.Coords) (v288 : BitVec 32) : Prop :=
  (∀ (k0_h4 : k0_cond4 i = 1#1), 576 ∣ (k0_mult62 v288).toNat) ∧
  (∀ (k0_h4 : k0_cond4 i = 1#1), ∀ a, (k0_off165 v288) a + S576x128.size a ≤ S11796480x128.size a)
theorem k0_mult62_dvd : ∀ (i : grid0.Coords) (v288 : BitVec 32) (k0_hw62 : k0_chk62 i v288), ∀ (k0_h4 : k0_cond4 i = 1#1), 576 ∣ (k0_mult62 v288).toNat := fun i v288 k0_hw62 k0_h4 => k0_hw62.1 k0_h4
theorem k0_off165_inb : ∀ (i : grid0.Coords) (v288 : BitVec 32) (k0_hw62 : k0_chk62 i v288), ∀ (k0_h4 : k0_cond4 i = 1#1), ∀ a, (k0_off165 v288) a + S576x128.size a ≤ S11796480x128.size a := fun i v288 k0_hw62 k0_h4 => k0_hw62.2 k0_h4

def k0_off166 (v293 : BitVec 32) : Fin 2 → Nat :=
  let c0_i32_172 : BitVec 32 := 0#32
  let v294 : BitVec 32 := Scalar.addi c0_i32_172 v293
  let c576_i32_173 : BitVec 32 := 576#32
  let v295 : BitVec 32 := Scalar.muli v294 c576_i32_173
  let v296 : BitVec 32 := v295
  let c0_i32_209 : BitVec 32 := 0#32
  ![v296.toNat, 0]

def k0_chk63 (i : grid0.Coords) (v293 : BitVec 32) : Prop :=
  (∀ (k0_h4 : k0_cond4 i = 1#1), 576 ∣ (k0_mult63 v293).toNat) ∧
  (∀ (k0_h4 : k0_cond4 i = 1#1), ∀ a, (k0_off166 v293) a + S576x128.size a ≤ S11796480x128.size a)
theorem k0_mult63_dvd : ∀ (i : grid0.Coords) (v293 : BitVec 32) (k0_hw63 : k0_chk63 i v293), ∀ (k0_h4 : k0_cond4 i = 1#1), 576 ∣ (k0_mult63 v293).toNat := fun i v293 k0_hw63 k0_h4 => k0_hw63.1 k0_h4
theorem k0_off166_inb : ∀ (i : grid0.Coords) (v293 : BitVec 32) (k0_hw63 : k0_chk63 i v293), ∀ (k0_h4 : k0_cond4 i = 1#1), ∀ a, (k0_off166 v293) a + S576x128.size a ≤ S11796480x128.size a := fun i v293 k0_hw63 k0_h4 => k0_hw63.2 k0_h4

def k0_off167 (v298 : BitVec 32) : Fin 2 → Nat :=
  let c0_i32_174 : BitVec 32 := 0#32
  let v299 : BitVec 32 := Scalar.addi c0_i32_174 v298
  let c576_i32_175 : BitVec 32 := 576#32
  let v300 : BitVec 32 := Scalar.muli v299 c576_i32_175
  let v301 : BitVec 32 := v300
  let c0_i32_214 : BitVec 32 := 0#32
  ![v301.toNat, 0]

def k0_chk64 (i : grid0.Coords) (v298 : BitVec 32) : Prop :=
  (∀ (k0_h4 : k0_cond4 i = 1#1), 576 ∣ (k0_mult64 v298).toNat) ∧
  (∀ (k0_h4 : k0_cond4 i = 1#1), ∀ a, (k0_off167 v298) a + S576x128.size a ≤ S11796480x128.size a)
theorem k0_mult64_dvd : ∀ (i : grid0.Coords) (v298 : BitVec 32) (k0_hw64 : k0_chk64 i v298), ∀ (k0_h4 : k0_cond4 i = 1#1), 576 ∣ (k0_mult64 v298).toNat := fun i v298 k0_hw64 k0_h4 => k0_hw64.1 k0_h4
theorem k0_off167_inb : ∀ (i : grid0.Coords) (v298 : BitVec 32) (k0_hw64 : k0_chk64 i v298), ∀ (k0_h4 : k0_cond4 i = 1#1), ∀ a, (k0_off167 v298) a + S576x128.size a ≤ S11796480x128.size a := fun i v298 k0_hw64 k0_h4 => k0_hw64.2 k0_h4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x576x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlaRefIdeal.lean ====
abbrev S128x128 : Shape := ⟨2, ![128, 128]⟩
abbrev S128x64x640 : Shape := ⟨3, ![128, 64, 640]⟩
abbrev S128x576x128 : Shape := ⟨3, ![128, 576, 128]⟩
abbrev S64x128 : Shape := ⟨2, ![64, 128]⟩
abbrev S1536x512 : Shape := ⟨2, ![1536, 512]⟩
abbrev S16x128x1024 : Shape := ⟨3, ![16, 128, 1024]⟩
abbrev S11796480x128 : Shape := ⟨2, ![11796480, 128]⟩
abbrev S20480x576x128 : Shape := ⟨3, ![20480, 576, 128]⟩
abbrev S_ : Shape := ⟨0, ![]⟩
abbrev S128x128x1 : Shape := ⟨3, ![128, 128, 1]⟩
abbrev S128x128x576x128 : Shape := ⟨4, ![128, 128, 576, 128]⟩
abbrev S128x576x128x128 : Shape := ⟨4, ![128, 576, 128, 128]⟩
abbrev S128x576x16384 : Shape := ⟨3, ![128, 576, 16384]⟩
abbrev S128x576x4 : Shape := ⟨3, ![128, 576, 4]⟩
abbrev S128x576x16388 : Shape := ⟨3, ![128, 576, 16388]⟩
abbrev S128x16x1024 : Shape := ⟨3, ![128, 16, 1024]⟩
abbrev S128x16384 : Shape := ⟨2, ![128, 16384]⟩
abbrev S128x4 : Shape := ⟨2, ![128, 4]⟩
abbrev S128x16388 : Shape := ⟨2, ![128, 16388]⟩
abbrev S128x512x16388 : Shape := ⟨3, ![128, 512, 16388]⟩
abbrev S128x64x16388 : Shape := ⟨3, ![128, 64, 16388]⟩
abbrev S128x4x16x640 : Shape := ⟨4, ![128, 4, 16, 640]⟩
abbrev S12x128x512 : Shape := ⟨3, ![12, 128, 512]⟩
abbrev S128x16388x12x128 : Shape := ⟨4, ![128, 16388, 12, 128]⟩
abbrev S128x12x128x16388 : Shape := ⟨4, ![128, 12, 128, 16388]⟩
abbrev S128x12x16388 : Shape := ⟨3, ![128, 12, 16388]⟩
abbrev S128x1x16388 : Shape := ⟨3, ![128, 1, 16388]⟩
abbrev S128x16x16388 : Shape := ⟨3, ![128, 16, 16388]⟩
abbrev S128x128x16388 : Shape := ⟨3, ![128, 128, 16388]⟩
abbrev S1x128x16388 : Shape := ⟨3, ![1, 128, 16388]⟩
abbrev S128x4x16x512 : Shape := ⟨4, ![128, 4, 16, 512]⟩
abbrev S128x4x16x16388 : Shape := ⟨4, ![128, 4, 16, 16388]⟩
abbrev S128x4x16x128 : Shape := ⟨4, ![128, 4, 16, 128]⟩
abbrev S128x1x16x16388 : Shape := ⟨4, ![128, 1, 16, 16388]⟩
abbrev S16388 : Shape := ⟨1, ![16388]⟩
abbrev S1x16388 : Shape := ⟨2, ![1, 16388]⟩
abbrev S64x1 : Shape := ⟨2, ![64, 1]⟩
abbrev S64x16388 : Shape := ⟨2, ![64, 16388]⟩
abbrev S1x4x16x16388 : Shape := ⟨4, ![1, 4, 16, 16388]⟩
abbrev S128x4x16 : Shape := ⟨3, ![128, 4, 16]⟩
abbrev S128x4x16x1 : Shape := ⟨4, ![128, 4, 16, 1]⟩
abbrev S128x64x512 : Shape := ⟨3, ![128, 64, 512]⟩

abbrev nBuf : Space → Nat
  | .hbm => 99
  | .vmem => 0
  | .smem => 0
  | _ => 0

abbrev bufTy : (tb : Table) → Fin (tcTables nBuf tb) → BufTy
  | .hbm, ⟨0, _⟩ => ⟨S128x128, .i32⟩
  | .hbm, ⟨1, _⟩ => ⟨S128x64x640, .bf16⟩
  | .hbm, ⟨2, _⟩ => ⟨S128x576x128, .f32⟩
  | .hbm, ⟨3, _⟩ => ⟨S128x128, .f32⟩
  | .hbm, ⟨4, _⟩ => ⟨S64x128, .i32⟩
  | .hbm, ⟨5, _⟩ => ⟨S1536x512, .bf16⟩
  | .hbm, ⟨6, _⟩ => ⟨S16x128x1024, .f32⟩
  | .hbm, ⟨7, _⟩ => ⟨S11796480x128, .f32⟩
  | .hbm, ⟨8, _⟩ => ⟨S20480x576x128, .f32⟩
  | .hbm, ⟨9, _⟩ => ⟨S_, .i32⟩
  | .hbm, ⟨10, _⟩ => ⟨S128x128, .i32⟩
  | .hbm, ⟨11, _⟩ => ⟨S128x128, .i1⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128x1, .i32⟩
  | .hbm, ⟨17, _⟩ => ⟨S128x128x576x128, .f32⟩
  | .hbm, ⟨18, _⟩ => ⟨S128x576x128x128, .f32⟩
  | .hbm, ⟨19, _⟩ => ⟨S128x576x16384, .f32⟩
  | .hbm, ⟨20, _⟩ => ⟨S128x576x4, .f32⟩
  | .hbm, ⟨21, _⟩ => ⟨S128x576x16388, .f32⟩
  | .hbm, ⟨22, _⟩ => ⟨S128x16x1024, .f32⟩
  | .hbm, ⟨23, _⟩ => ⟨S128x16384, .f32⟩
  | .hbm, ⟨24, _⟩ => ⟨S128x4, .f32⟩
  | .hbm, ⟨25, _⟩ => ⟨S128x16388, .f32⟩
  | .hbm, ⟨26, _⟩ => ⟨S128x512x16388, .f32⟩
  | .hbm, ⟨27, _⟩ => ⟨S128x64x16388, .f32⟩
  | .hbm, ⟨28, _⟩ => ⟨S128x64x640, .f32⟩
  | .hbm, ⟨29, _⟩ => ⟨S128x4x16x640, .f32⟩
  | .hbm, ⟨30, _⟩ => ⟨S1536x512, .f32⟩
  | .hbm, ⟨31, _⟩ => ⟨S12x128x512, .f32⟩
  | .hbm, ⟨32, _⟩ => ⟨S128x16388x12x128, .f32⟩
  | .hbm, ⟨33, _⟩ => ⟨S128x12x128x16388, .f32⟩
  | .hbm, ⟨34, _⟩ => ⟨S128x12x128x16388, .f32⟩
  | .hbm, ⟨35, _⟩ => ⟨S_, .f32⟩
  | .hbm, ⟨36, _⟩ => ⟨S128x12x16388, .f32⟩
  | .hbm, ⟨37, _⟩ => ⟨S128x64x16388, .f32⟩
  | .hbm, ⟨38, _⟩ => ⟨S_, .f32⟩
  | .hbm, ⟨39, _⟩ => ⟨S128x16388, .f32⟩
  | .hbm, ⟨40, _⟩ => ⟨S128x1x16388, .f32⟩
  | .hbm, ⟨41, _⟩ => ⟨S128x12x16388, .f32⟩
  | .hbm, ⟨42, _⟩ => ⟨S128x12x16388, .f32⟩
  | .hbm, ⟨43, _⟩ => ⟨S_, .f32⟩
  | .hbm, ⟨44, _⟩ => ⟨S128x12x16388, .f32⟩
  | .hbm, ⟨45, _⟩ => ⟨S128x12x16388, .f32⟩
  | .hbm, ⟨46, _⟩ => ⟨S_, .f32⟩
  | .hbm, ⟨47, _⟩ => ⟨S128x12x16388, .f32⟩
  | .hbm, ⟨48, _⟩ => ⟨S128x12x16388, .f32⟩
  | .hbm, ⟨49, _⟩ => ⟨S128x12x16388, .f32⟩
  | .hbm, ⟨50, _⟩ => ⟨S_, .i32⟩
  | .hbm, ⟨51, _⟩ => ⟨S_, .f32⟩
  | .hbm, ⟨52, _⟩ => ⟨S128x16x16388, .f32⟩
  | .hbm, ⟨53, _⟩ => ⟨S128x128x16388, .f32⟩
  | .hbm, ⟨54, _⟩ => ⟨S1x128x16388, .f32⟩
  | .hbm, ⟨55, _⟩ => ⟨S128x128x16388, .f32⟩
  | .hbm, ⟨56, _⟩ => ⟨S128x128x16388, .f32⟩
  | .hbm, ⟨57, _⟩ => ⟨S128x4x16x512, .f32⟩
  | .hbm, ⟨58, _⟩ => ⟨S128x4x16x16388, .f32⟩
  | .hbm, ⟨59, _⟩ => ⟨S128x4x16x128, .f32⟩
  | .hbm, ⟨60, _⟩ => ⟨S128x4x16x16388, .f32⟩
  | .hbm, ⟨61, _⟩ => ⟨S128x4x16x16388, .f32⟩
  | .hbm, ⟨62, _⟩ => ⟨S128x1x16x16388, .f32⟩
  | .hbm, ⟨63, _⟩ => ⟨S128x4x16x16388, .f32⟩
  | .hbm, ⟨64, _⟩ => ⟨S128x4x16x16388, .f32⟩
  | .hbm, ⟨65, _⟩ => ⟨S_, .f32⟩
  | .hbm, ⟨66, _⟩ => ⟨S128x4x16x16388, .f32⟩
  | .hbm, ⟨67, _⟩ => ⟨S128x4x16x16388, .f32⟩
  | .hbm, ⟨68, _⟩ => ⟨S16388, .i32⟩
  | .hbm, ⟨69, _⟩ => ⟨S1x16388, .i32⟩
  | .hbm, ⟨70, _⟩ => ⟨S64x1, .i32⟩
  | .hbm, ⟨71, _⟩ => ⟨S_, .i32⟩
  | .hbm, ⟨72, _⟩ => ⟨S64x1, .i32⟩
  | .hbm, ⟨73, _⟩ => ⟨S64x1, .i32⟩
  | .hbm, ⟨74, _⟩ => ⟨S64x16388, .i32⟩
  | .hbm, ⟨75, _⟩ => ⟨S64x16388, .i32⟩
  | .hbm, ⟨76, _⟩ => ⟨S64x16388, .i1⟩
  | .hbm, ⟨77, _⟩ => ⟨S1x4x16x16388, .i1⟩
  | .hbm, ⟨78, _⟩ => ⟨S_, .f32⟩
  | .hbm, ⟨79, _⟩ => ⟨S_, .f32⟩
  | .hbm, ⟨80, _⟩ => ⟨S128x4x16x16388, .i1⟩
  | .hbm, ⟨81, _⟩ => ⟨S128x4x16x16388, .f32⟩
  | .hbm, ⟨82, _⟩ => ⟨S128x4x16x16388, .f32⟩
  | .hbm, ⟨83, _⟩ => ⟨S_, .f32⟩
  | .hbm, ⟨84, _⟩ => ⟨S128x4x16, .f32⟩
  | .hbm, ⟨85, _⟩ => ⟨S_, .f32⟩
  | .hbm, ⟨86, _⟩ => ⟨S128x4x16, .f32⟩
  | .hbm, ⟨87, _⟩ => ⟨S128x4x16, .f32⟩
  | .hbm, ⟨88, _⟩ => ⟨S128x4x16x1, .f32⟩
  | .hbm, ⟨89, _⟩ => ⟨S128x4x16x16388, .f32⟩
  | .hbm, ⟨90, _⟩ => ⟨S128x4x16x16388, .f32⟩
  | .hbm, ⟨91, _⟩ => ⟨S128x4x16x16388, .f32⟩
  | .hbm, ⟨92, _⟩ => ⟨S_, .f32⟩
  | .hbm, ⟨93, _⟩ => ⟨S128x4x16, .f32⟩
  | .hbm, ⟨94, _⟩ => ⟨S128x4x16x1, .f32⟩
  | .hbm, ⟨95, _⟩ => ⟨S128x4x16x16388, .f32⟩
  | .hbm, ⟨96, _⟩ => ⟨S128x4x16x16388, .f32⟩
  | .hbm, ⟨97, _⟩ => ⟨S128x4x16x512, .f32⟩
  | .hbm, ⟨98, _⟩ => ⟨S128x64x512, .f32⟩
  | _, _ => ⟨S128x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_10 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== States.lean ====
abbrev S4x2048x4096 : Shape := ⟨3, ![4, 2048, 4096]⟩
abbrev S128x4x4096 : Shape := ⟨3, ![128, 4, 4096]⟩
abbrev S4096 : Shape := ⟨1, ![4096]⟩
abbrev S4096x16704 : Shape := ⟨2, ![4096, 16704]⟩
abbrev S128 : Shape := ⟨1, ![128]⟩
abbrev S512 : Shape := ⟨1, ![512]⟩
abbrev S8192x4096 : Shape := ⟨2, ![8192, 4096]⟩
abbrev S512x4096 : Shape := ⟨2, ![512, 4096]⟩
abbrev S8704x4096 : Shape := ⟨2, ![8704, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096x3328 : Shape := ⟨2, ![4096, 3328]⟩
abbrev S4096x1024 : Shape := ⟨2, ![4096, 1024]⟩
abbrev S4096x4352 : Shape := ⟨2, ![4096, 4352]⟩
abbrev S4096x64 : Shape := ⟨2, ![4096, 64]⟩
abbrev S4096x32 : Shape := ⟨2, ![4096, 32]⟩
abbrev S4096x128 : Shape := ⟨2, ![4096, 128]⟩
abbrev S8704x4352 : Shape := ⟨2, ![8704, 4352]⟩
abbrev S4096x256 : Shape := ⟨2, ![4096, 256]⟩
abbrev S512x256 : Shape := ⟨2, ![512, 256]⟩
abbrev S8704x128 : Shape := ⟨2, ![8704, 128]⟩
abbrev S512x128 : Shape := ⟨2, ![512, 128]⟩
abbrev S8704x256 : Shape := ⟨2, ![8704, 256]⟩
abbrev S1x128 : Shape := ⟨2, ![1, 128]⟩
abbrev S256x256 : Shape := ⟨2, ![256, 256]⟩
abbrev S256x128 : Shape := ⟨2, ![256, 128]⟩
abbrev S8704x512 : Shape := ⟨2, ![8704, 512]⟩
abbrev S1x512 : Shape := ⟨2, ![1, 512]⟩
abbrev S256x512 : Shape := ⟨2, ![256, 512]⟩
abbrev S8704x64 : Shape := ⟨2, ![8704, 64]⟩
abbrev S8704x576 : Shape := ⟨2, ![8704, 576]⟩

abbrev nBuf : Space → Nat
  | .hbm => 31
  | .vmem => 26
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S4096, .f32⟩
  | .hbm, ⟨3, _⟩ => ⟨S4096x16704, .f32⟩
  | .hbm, ⟨4, _⟩ => ⟨S128, .f32⟩
  | .hbm, ⟨5, _⟩ => ⟨S512, .f32⟩
  | .hbm, ⟨6, _⟩ => ⟨S8192x4096, .f32⟩
  | .hbm, ⟨7, _⟩ => ⟨S512x4096, .f32⟩
  | .hbm, ⟨8, _⟩ => ⟨S8704x4096, .f32⟩
  | .hbm, ⟨9, _⟩ => ⟨S1x4096, .f32⟩
  | .hbm, ⟨10, _⟩ => ⟨S8704x4096, .bf16⟩
  | .hbm, ⟨11, _⟩ => ⟨S4096x3328, .f32⟩
  | .hbm, ⟨12, _⟩ => ⟨S4096x1024, .f32⟩
  | .hbm, ⟨13, _⟩ => ⟨S4096x4352, .f32⟩
  | .hbm, ⟨14, _⟩ => ⟨S4096x4352, .bf16⟩
  | .hbm, ⟨15, _⟩ => ⟨S4096x64, .f32⟩
  | .hbm, ⟨16, _⟩ => ⟨S4096x32, .f32⟩
  | .hbm, ⟨17, _⟩ => ⟨S4096x32, .f32⟩
  | .hbm, ⟨18, _⟩ => ⟨S4096x128, .f32⟩
  | .hbm, ⟨19, _⟩ => ⟨S4096x128, .bf16⟩
  | .hbm, ⟨20, _⟩ => ⟨S8704x4352, .f32⟩
  | .hbm, ⟨21, _⟩ => ⟨S8704x128, .f32⟩
  | .hbm, ⟨22, _⟩ => ⟨S8704x256, .f32⟩
  | .hbm, ⟨23, _⟩ => ⟨S1x128, .f32⟩
  | .hbm, ⟨24, _⟩ => ⟨S8704x256, .f32⟩
  | .hbm, ⟨25, _⟩ => ⟨S8704x256, .f32⟩
  | .hbm, ⟨26, _⟩ => ⟨S8704x512, .f32⟩
  | .hbm, ⟨27, _⟩ => ⟨S1x512, .f32⟩
  | .hbm, ⟨28, _⟩ => ⟨S8704x512, .f32⟩
  | .hbm, ⟨29, _⟩ => ⟨S8704x64, .f32⟩
  | .hbm, ⟨30, _⟩ => ⟨S8704x576, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S512x4096, .bf16⟩
  | .local _ .vmem, ⟨6, _⟩ => ⟨S512x4096, .bf16⟩
  | .local _ .vmem, ⟨7, _⟩ => ⟨S4096x256, .bf16⟩
  | .local _ .vmem, ⟨8, _⟩ => ⟨S4096x256, .bf16⟩
  | .local _ .vmem, ⟨9, _⟩ => ⟨S512x256, .f32⟩
  | .local _ .vmem, ⟨10, _⟩ => ⟨S512x256, .f32⟩
  | .local _ .vmem, ⟨11, _⟩ => ⟨S512x4096, .bf16⟩
  | .local _ .vmem, ⟨12, _⟩ => ⟨S512x4096, .bf16⟩
  | .local _ .vmem, ⟨13, _⟩ => ⟨S4096x128, .bf16⟩
  | .local _ .vmem, ⟨14, _⟩ => ⟨S512x128, .f32⟩
  | .local _ .vmem, ⟨15, _⟩ => ⟨S512x128, .f32⟩
  | .local _ .vmem, ⟨16, _⟩ => ⟨S256x256, .f32⟩
  | .local _ .vmem, ⟨17, _⟩ => ⟨S256x256, .f32⟩
  | .local _ .vmem, ⟨18, _⟩ => ⟨S1x128, .f32⟩
  | .local _ .vmem, ⟨19, _⟩ => ⟨S256x256, .f32⟩
  | .local _ .vmem, ⟨20, _⟩ => ⟨S256x256, .f32⟩
  | .local _ .vmem, ⟨21, _⟩ => ⟨S256x512, .f32⟩
  | .local _ .vmem, ⟨22, _⟩ => ⟨S256x512, .f32⟩
  | .local _ .vmem, ⟨23, _⟩ => ⟨S1x512, .f32⟩
  | .local _ .vmem, ⟨24, _⟩ => ⟨S256x512, .f32⟩
  | .local _ .vmem, ⟨25, _⟩ => ⟨S256x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![17, 17], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![17, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![34], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![34], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== StatesRefIdeal.lean ====
abbrev S4x2048x4096 : Shape := ⟨3, ![4, 2048, 4096]⟩
abbrev S128x4x4096 : Shape := ⟨3, ![128, 4, 4096]⟩
abbrev S4096 : Shape := ⟨1, ![4096]⟩
abbrev S4096x16704 : Shape := ⟨2, ![4096, 16704]⟩
abbrev S128 : Shape := ⟨1, ![128]⟩
abbrev S512 : Shape := ⟨1, ![512]⟩
abbrev S8192x4096 : Shape := ⟨2, ![8192, 4096]⟩
abbrev S512x4096 : Shape := ⟨2, ![512, 4096]⟩
abbrev S8704x4096 : Shape := ⟨2, ![8704, 4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩
abbrev S8704x16704 : Shape := ⟨2, ![8704, 16704]⟩
abbrev S8704x256 : Shape := ⟨2, ![8704, 256]⟩
abbrev S8704x512 : Shape := ⟨2, ![8704, 512]⟩
abbrev S8704x64 : Shape := ⟨2, ![8704, 64]⟩
abbrev S8704x2x128 : Shape := ⟨3, ![8704, 2, 128]⟩
abbrev S8704x2 : Shape := ⟨2, ![8704, 2]⟩
abbrev S8704x2x1 : Shape := ⟨3, ![8704, 2, 1]⟩
abbrev S1x1x128 : Shape := ⟨3, ![1, 1, 128]⟩
abbrev S1x512 : Shape := ⟨2, ![1, 512]⟩
abbrev S8704x576 : Shape := ⟨2, ![8704, 576]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S4096, .f32⟩
  | .hbm, ⟨3, _⟩ => ⟨S4096x16704, .f32⟩
  | .hbm, ⟨4, _⟩ => ⟨S128, .f32⟩
  | .hbm, ⟨5, _⟩ => ⟨S512, .f32⟩
  | .hbm, ⟨6, _⟩ => ⟨S8192x4096, .f32⟩
  | .hbm, ⟨7, _⟩ => ⟨S512x4096, .f32⟩
  | .hbm, ⟨8, _⟩ => ⟨S8704x4096, .f32⟩
  | .hbm, ⟨9, _⟩ => ⟨S8704x4096, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x4096, .f32⟩
  | .hbm, ⟨21, _⟩ => ⟨S8704x4096, .f32⟩
  | .hbm, ⟨22, _⟩ => ⟨S1x4096, .f32⟩
  | .hbm, ⟨23, _⟩ => ⟨S8704x4096, .f32⟩
  | .hbm, ⟨24, _⟩ => ⟨S8704x4096, .f32⟩
  | .hbm, ⟨25, _⟩ => ⟨S8704x16704, .f32⟩
  | .hbm, ⟨26, _⟩ => ⟨S8704x256, .f32⟩
  | .hbm, ⟨27, _⟩ => ⟨S8704x256, .f32⟩
  | .hbm, ⟨28, _⟩ => ⟨S8704x512, .f32⟩
  | .hbm, ⟨29, _⟩ => ⟨S8704x64, .f32⟩
  | .hbm, ⟨30, _⟩ => ⟨S8704x2x128, .f32⟩
  | .hbm, ⟨31, _⟩ => ⟨S8704x2x128, .f32⟩
  | .hbm, ⟨32, _⟩ => ⟨S_, .f32⟩
  | .hbm, ⟨33, _⟩ => ⟨S8704x2, .f32⟩
  | .hbm, ⟨34, _⟩ => ⟨S8704x2x1, .f32⟩
  | .hbm, ⟨35, _⟩ => ⟨S_, .f32⟩
  | .hbm, ⟨36, _⟩ => ⟨S8704x2x1, .f32⟩
  | .hbm, ⟨37, _⟩ => ⟨S8704x2x1, .f32⟩
  | .hbm, ⟨38, _⟩ => ⟨S_, .f32⟩
  | .hbm, ⟨39, _⟩ => ⟨S8704x2x1, .f32⟩
  | .hbm, ⟨40, _⟩ => ⟨S8704x2x1, .f32⟩
  | .hbm, ⟨41, _⟩ => ⟨S8704x2x1, .f32⟩
  | .hbm, ⟨42, _⟩ => ⟨S8704x2x128, .f32⟩
  | .hbm, ⟨43, _⟩ => ⟨S8704x2x128, .f32⟩
  | .hbm, ⟨44, _⟩ => ⟨S1x1x128, .f32⟩
  | .hbm, ⟨45, _⟩ => ⟨S8704x2x128, .f32⟩
  | .hbm, ⟨46, _⟩ => ⟨S8704x2x128, .f32⟩
  | .hbm, ⟨47, _⟩ => ⟨S8704x256, .f32⟩
  | .hbm, ⟨48, _⟩ => ⟨S8704x512, .f32⟩
  | .hbm, ⟨49, _⟩ => ⟨S_, .f32⟩
  | .hbm, ⟨50, _⟩ => ⟨S8704, .f32⟩
  | .hbm, ⟨51, _⟩ => ⟨S8704x1, .f32⟩
  | .hbm, ⟨52, _⟩ => ⟨S_, .f32⟩
  | .hbm, ⟨53, _⟩ => ⟨S8704x1, .f32⟩
  | .hbm, ⟨54, _⟩ => ⟨S8704x1, .f32⟩
  | .hbm, ⟨55, _⟩ => ⟨S_, .f32⟩
  | .hbm, ⟨56, _⟩ => ⟨S8704x1, .f32⟩
  | .hbm, ⟨57, _⟩ => ⟨S8704x1, .f32⟩
  | .hbm, ⟨58, _⟩ => ⟨S8704x1, .f32⟩
  | .hbm, ⟨59, _⟩ => ⟨S8704x512, .f32⟩
  | .hbm, ⟨60, _⟩ => ⟨S8704x512, .f32⟩
  | .hbm, ⟨61, _⟩ => ⟨S1x512, .f32⟩
  | .hbm, ⟨62, _⟩ => ⟨S8704x512, .f32⟩
  | .hbm, ⟨63, _⟩ => ⟨S8704x512, .f32⟩
  | .hbm, ⟨64, _⟩ => ⟨S8704x576, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Bank.lean ====
abbrev S4x256x4096 : Shape := ⟨3, ![4, 256, 4096]⟩
abbrev S4096 : Shape := ⟨1, ![4096]⟩
abbrev S4096x1024 : Shape := ⟨2, ![4096, 1024]⟩
abbrev S256 : Shape := ⟨1, ![256]⟩
abbrev S1024x4096 : Shape := ⟨2, ![1024, 4096]⟩
abbrev S1x4096 : Shape := ⟨2, ![1, 4096]⟩
abbrev S256x4096 : Shape := ⟨2, ![256, 4096]⟩
abbrev S256x1 : Shape := ⟨2, ![256, 1]⟩
abbrev S4096x2048 : Shape := ⟨2, ![4096, 2048]⟩
abbrev S1024x2048 : Shape := ⟨2, ![1024, 2048]⟩
abbrev S512x4096 : Shape := ⟨2, ![512, 4096]⟩
abbrev S4096x512 : Shape := ⟨2, ![4096, 512]⟩
abbrev S512x512 : Shape := ⟨2, ![512, 512]⟩
abbrev S1024x1024 : Shape := ⟨2, ![1024, 1024]⟩
abbrev S1x256 : Shape := ⟨2, ![1, 256]⟩
abbrev S256x1024 : Shape := ⟨2, ![256, 1024]⟩
abbrev S256x256 : Shape := ⟨2, ![256, 256]⟩

abbrev nBuf : Space → Nat
  | .hbm => 15
  | .vmem => 16
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S4096x1024, .f32⟩
  | .hbm, ⟨3, _⟩ => ⟨S4096x1024, .f32⟩
  | .hbm, ⟨4, _⟩ => ⟨S256, .f32⟩
  | .hbm, ⟨5, _⟩ => ⟨S1024x4096, .f32⟩
  | .hbm, ⟨6, _⟩ => ⟨S1x4096, .f32⟩
  | .hbm, ⟨7, _⟩ => ⟨S1024x4096, .bf16⟩
  | .hbm, ⟨8, _⟩ => ⟨S4096x2048, .f32⟩
  | .hbm, ⟨9, _⟩ => ⟨S4096x2048, .bf16⟩
  | .hbm, ⟨10, _⟩ => ⟨S1024x2048, .f32⟩
  | .hbm, ⟨11, _⟩ => ⟨S1024x1024, .f32⟩
  | .hbm, ⟨12, _⟩ => ⟨S1024x1024, .f32⟩
  | .hbm, ⟨13, _⟩ => ⟨S1x256, .f32⟩
  | .hbm, ⟨14, _⟩ => ⟨S1024x1024, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S512x4096, .bf16⟩
  | .local _ .vmem, ⟨6, _⟩ => ⟨S512x4096, .bf16⟩
  | .local _ .vmem, ⟨7, _⟩ => ⟨S4096x512, .bf16⟩
  | .local _ .vmem, ⟨8, _⟩ => ⟨S4096x512, .bf16⟩
  | .local _ .vmem, ⟨9, _⟩ => ⟨S512x512, .f32⟩
  | .local _ .vmem, ⟨10, _⟩ => ⟨S512x512, .f32⟩
  | .local _ .vmem, ⟨11, _⟩ => ⟨S256x1024, .f32⟩
  | .local _ .vmem, ⟨12, _⟩ => ⟨S256x1024, .f32⟩
  | .local _ .vmem, ⟨13, _⟩ => ⟨S1x256, .f32⟩
  | .local _ .vmem, ⟨14, _⟩ => ⟨S256x1024, .f32⟩
  | .local _ .vmem, ⟨15, _⟩ => ⟨S256x1024, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== BankRefIdeal.lean ====
abbrev S4x256x4096 : Shape := ⟨3, ![4, 256, 4096]⟩
abbrev S4096 : Shape := ⟨1, ![4096]⟩
abbrev S4096x1024 : Shape := ⟨2, ![4096, 1024]⟩
abbrev S256 : Shape := ⟨1, ![256]⟩
abbrev S_ : Shape := ⟨0, ![]⟩
abbrev S4x256 : Shape := ⟨2, ![4, 256]⟩
abbrev S4x256x1 : Shape := ⟨3, ![4, 256, 1]⟩
abbrev S1x1x4096 : Shape := ⟨3, ![1, 1, 4096]⟩
abbrev S4x256x1024 : Shape := ⟨3, ![4, 256, 1024]⟩
abbrev S4x256x4x256 : Shape := ⟨4, ![4, 256, 4, 256]⟩
abbrev S4x256x4 : Shape := ⟨3, ![4, 256, 4]⟩
abbrev S4x256x4x1 : Shape := ⟨4, ![4, 256, 4, 1]⟩
abbrev S1x1x1x256 : Shape := ⟨4, ![1, 1, 1, 256]⟩
abbrev S1024x1024 : Shape := ⟨2, ![1024, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S4096x1024, .f32⟩
  | .hbm, ⟨3, _⟩ => ⟨S4096x1024, .f32⟩
  | .hbm, ⟨4, _⟩ => ⟨S256, .f32⟩
  | .hbm, ⟨5, _⟩ => ⟨S4x256x4096, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x4096, .f32⟩
  | .hbm, ⟨17, _⟩ => ⟨S4x256x4096, .f32⟩
  | .hbm, ⟨18, _⟩ => ⟨S1x1x4096, .f32⟩
  | .hbm, ⟨19, _⟩ => ⟨S4x256x4096, .f32⟩
  | .hbm, ⟨20, _⟩ => ⟨S4x256x4096, .f32⟩
  | .hbm, ⟨21, _⟩ => ⟨S4x256x1024, .f32⟩
  | .hbm, ⟨22, _⟩ => ⟨S4x256x4x256, .f32⟩
  | .hbm, ⟨23, _⟩ => ⟨S4x256x4x256, .f32⟩
  | .hbm, ⟨24, _⟩ => ⟨S_, .f32⟩
  | .hbm, ⟨25, _⟩ => ⟨S4x256x4, .f32⟩
  | .hbm, ⟨26, _⟩ => ⟨S4x256x4x1, .f32⟩
  | .hbm, ⟨27, _⟩ => ⟨S_, .f32⟩
  | .hbm, ⟨28, _⟩ => ⟨S4x256x4x1, .f32⟩
  | .hbm, ⟨29, _⟩ => ⟨S4x256x4x1, .f32⟩
  | .hbm, ⟨30, _⟩ => ⟨S_, .f32⟩
  | .hbm, ⟨31, _⟩ => ⟨S4x256x4x1, .f32⟩
  | .hbm, ⟨32, _⟩ => ⟨S4x256x4x1, .f32⟩
  | .hbm, ⟨33, _⟩ => ⟨S4x256x4x1, .f32⟩
  | .hbm, ⟨34, _⟩ => ⟨S4x256x4x256, .f32⟩
  | .hbm, ⟨35, _⟩ => ⟨S4x256x4x256, .f32⟩
  | .hbm, ⟨36, _⟩ => ⟨S1x1x1x256, .f32⟩
  | .hbm, ⟨37, _⟩ => ⟨S4x256x4x256, .f32⟩
  | .hbm, ⟨38, _⟩ => ⟨S4x256x4x256, .f32⟩
  | .hbm, ⟨39, _⟩ => ⟨S1024x1024, .f32⟩
  | .hbm, ⟨40, _⟩ => ⟨S4x256x1024, .f32⟩
  | .hbm, ⟨41, _⟩ => ⟨S1024x1024, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MemAttn.lean ====
abbrev S4x2048x1024 : Shape := ⟨3, ![4, 2048, 1024]⟩
abbrev S4x256x1024 : Shape := ⟨3, ![4, 256, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x1024, .bf16⟩
  | .hbm, ⟨1, _⟩ => ⟨S4x256x1024, .f32⟩
  | .hbm, ⟨2, _⟩ => ⟨S4x256x1024, .f32⟩
  | .hbm, ⟨3, _⟩ => ⟨S4x2048x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .bf16⟩
  | .local _ .vmem, ⟨7, _⟩ => ⟨S1x256x256, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MemAttnRefIdeal.lean ====
abbrev S4x2048x1024 : Shape := ⟨3, ![4, 2048, 1024]⟩
abbrev S4x256x1024 : Shape := ⟨3, ![4, 256, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x256x1024, .f32⟩
  | .hbm, ⟨2, _⟩ => ⟨S4x256x1024, .f32⟩
  | .hbm, ⟨3, _⟩ => ⟨S4x2048x4x256, .bf16⟩
  | .hbm, ⟨4, _⟩ => ⟨S4x256x4x256, .f32⟩
  | .hbm, ⟨5, _⟩ => ⟨S4x256x4x256, .f32⟩
  | .hbm, ⟨6, _⟩ => ⟨S4x2048x4x256, .f32⟩
  | .hbm, ⟨7, _⟩ => ⟨S4x4x2048x256, .f32⟩
  | .hbm, ⟨8, _⟩ => ⟨S_, .f32⟩
  | .hbm, ⟨9, _⟩ => ⟨S4x4x2048x256, .f32⟩
  | .hbm, ⟨10, _⟩ => ⟨S4x4x2048x256, .f32⟩
  | .hbm, ⟨11, _⟩ => ⟨S_, .f32⟩
  | .hbm, ⟨12, _⟩ => ⟨S4x4x2048, .f32⟩
  | .hbm, ⟨13, _⟩ => ⟨S_, .f32⟩
  | .hbm, ⟨14, _⟩ => ⟨S4x4x2048, .f32⟩
  | .hbm, ⟨15, _⟩ => ⟨S4x4x2048, .f32⟩
  | .hbm, ⟨16, _⟩ => ⟨S4x4x2048x1, .f32⟩
  | .hbm, ⟨17, _⟩ => ⟨S4x4x2048x256, .f32⟩
  | .hbm, ⟨18, _⟩ => ⟨S4x4x2048x256, .f32⟩
  | .hbm, ⟨19, _⟩ => ⟨S4x4x2048x256, .f32⟩
  | .hbm, ⟨20, _⟩ => ⟨S_, .f32⟩
  | .hbm, ⟨21, _⟩ => ⟨S4x4x2048, .f32⟩
  | .hbm, ⟨22, _⟩ => ⟨S4x4x2048x1, .f32⟩
  | .hbm, ⟨23, _⟩ => ⟨S4x4x2048x256, .f32⟩
  | .hbm, ⟨24, _⟩ => ⟨S4x4x2048x256, .f32⟩
  | .hbm, ⟨25, _⟩ => ⟨S4x4x256x2048, .f32⟩
  | .hbm, ⟨26, _⟩ => ⟨S4x2048x4x256, .f32⟩
  | .hbm, ⟨27, _⟩ => ⟨S4x2048x1024, .f32⟩
  | .hbm, ⟨28, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Uq.lean ====
abbrev S8704x768 : Shape := ⟨2, ![8704, 768]⟩
abbrev S768x3072 : Shape := ⟨2, ![768, 3072]⟩
abbrev S8704x3072 : Shape := ⟨2, ![8704, 3072]⟩
abbrev S512x768 : Shape := ⟨2, ![512, 768]⟩
abbrev S768x512 : Shape := ⟨2, ![768, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x768, .bf16⟩
  | .hbm, ⟨1, _⟩ => ⟨S768x3072, .bf16⟩
  | .hbm, ⟨2, _⟩ => ⟨S8704x3072, .f32⟩
  | .local _ .vmem, ⟨0, _⟩ => ⟨S512x768, .bf16⟩
  | .local _ .vmem, ⟨1, _⟩ => ⟨S512x768, .bf16⟩
  | .local _ .vmem, ⟨2, _⟩ => ⟨S768x512, .bf16⟩
  | .local _ .vmem, ⟨3, _⟩ => ⟨S768x512, .bf16⟩
  | .local _ .vmem, ⟨4, _⟩ => ⟨S512x512, .f32⟩
  | .local _ .vmem, ⟨5, _⟩ => ⟨S512x512, .f32⟩
  | _, _ => ⟨S8704x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UqRefIdeal.lean ====
abbrev S8704x768 : Shape := ⟨2, ![8704, 768]⟩
abbrev S768x3072 : Shape := ⟨2, ![768, 3072]⟩
abbrev S8704x3072 : Shape := ⟨2, ![8704, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8704x768, .bf16⟩
  | .hbm, ⟨1, _⟩ => ⟨S768x3072, .bf16⟩
  | .hbm, ⟨2, _⟩ => ⟨S8704x768, .f32⟩
  | .hbm, ⟨3, _⟩ => ⟨S768x3072, .f32⟩
  | .hbm, ⟨4, _⟩ => ⟨S8704x3072, .f32⟩
  | _, _ => ⟨S8704x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ukv.lean ====
abbrev S8192x512 : Shape := ⟨2, ![8192, 512]⟩
abbrev S512x3072 : Shape := ⟨2, ![512, 3072]⟩
abbrev S8192x3072 : Shape := ⟨2, ![8192, 3072]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x3072, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UkvRefIdeal.lean ====
abbrev S8192x512 : Shape := ⟨2, ![8192, 512]⟩
abbrev S512x3072 : Shape := ⟨2, ![512, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x3072, .bf16⟩
  | .hbm, ⟨2, _⟩ => ⟨S8192x512, .f32⟩
  | .hbm, ⟨3, _⟩ => ⟨S512x3072, .f32⟩
  | .hbm, ⟨4, _⟩ => ⟨S8192x3072, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Softmax.lean ====
/-
  Softmax on the extended reals: a row of scores whose largest entry is a real number has weights that sum to a positive
  real, so dividing after the weighted sum or before it is the same.
-/
module

public import Idealize.ShloMosaic.PureOps.Ideal.Laws
public import Idealize.ShloMosaic.Lib.Pointwise

@[expose] public section

noncomputable section

namespace Cert.Softmax

open Idealize.ShloMosaic

/-- The largest of a family of scores, from minus infinity. -/
def top {ι : Type} [Fintype ι] (x : ι → EReal) : EReal := Finset.univ.fold max ⊥ x

theorem le_top {ι : Type} [Fintype ι] (x : ι → EReal) (i : ι) : x i ≤ top x :=
  (Finset.le_fold_max (x i)).2 (.inr ⟨i, Finset.mem_univ i, le_rfl⟩)

theorem top_le {ι : Type} [Fintype ι] (x : ι → EReal) (b : EReal) (h : ∀ i, x i ≤ b) : top x ≤ b :=
  (Finset.fold_max_le b).2 ⟨bot_le, fun i _ => h i⟩

theorem top_ne_top {ι : Type} [Fintype ι] (x : ι → EReal) (h : ∀ i, x i ≠ ⊤) : top x ≠ ⊤ := by
  have : top x < ⊤ := (Finset.fold_max_lt ⊤).2 ⟨bot_lt_top, fun i _ => lt_top_iff_ne_top.2 (h i)⟩
  exact this.ne

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

/-- A number that is neither infinity is a real. -/
theorem exists_real {x : EReal} (h : x ≠ ⊤) (h' : x ≠ ⊥) : ∃ r : ℝ, x = (r : EReal) := ⟨x.toReal, (EReal.coe_toReal h h').symm⟩

theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self ..)) (ih fun i hi => h i (Finset.mem_insert_of_mem hi))

theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨x, hx⟩ := h a (Finset.mem_insert_self ..)
    obtain ⟨y, hy⟩ := ih fun i hi => h i (Finset.mem_insert_of_mem hi)
    exact ⟨x + y, by rw [Finset.sum_insert ha, hx, hy, EReal.coe_add]⟩

theorem mul_real {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, by rw [EReal.coe_mul]⟩

/-- A common factor that is a nonnegative real comes out of a sum, whatever the summands. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

section
variable {ι : Type} [Fintype ι] (x : ι → EReal)

/-- The sum of a row's weights. -/
def den : EReal := ∑ i, Ideal.exp (x i - top x)

/-- Scores below plus infinity, one of them above minus infinity: the largest is a real number. -/
theorem top_real (h : ∀ i, x i ≠ ⊤) (i₀ : ι) (h₀ : x i₀ ≠ ⊥) : ∃ r : ℝ, top x = (r : EReal) :=
  exists_real (top_ne_top x h) fun e => h₀ (le_bot_iff.1 (e ▸ le_top x i₀))

/-- and the weights sum to a positive real. -/
theorem den_real (h : ∀ i, x i ≠ ⊤) (i₀ : ι) (h₀ : x i₀ ≠ ⊥) : ∃ r : ℝ, 0 < r ∧ den x = (r : EReal) := by
  obtain ⟨t, ht⟩ := top_real x h i₀ h₀
  have hne : den x ≠ ⊤ := sum_ne_top _ _ fun i _ => exp_ne_top (by
    rw [ht, sub_eq_add_neg, ← EReal.coe_neg]
    exact EReal.add_ne_top (h i) (EReal.coe_ne_top _))
  have hpos : 0 < Ideal.exp (x i₀ - top x) := by
    obtain ⟨r, hr⟩ := exists_real (h i₀) h₀
    rw [ht, hr, ← EReal.coe_sub, Ideal.exp_coe]
    exact_mod_cast Real.exp_pos _
  have hle : Ideal.exp (x i₀ - top x) ≤ den x :=
    Finset.single_le_sum (f := fun i => Ideal.exp (x i - top x)) (fun i _ => exp_nonneg _) (Finset.mem_univ i₀)
  have hlt : 0 < den x := lt_of_lt_of_le hpos hle
  obtain ⟨r, hr⟩ := exists_real hne (bot_lt_iff_ne_bot.1 (lt_trans EReal.bot_lt_zero hlt))
  refine ⟨r, ?_, hr⟩
  rw [hr] at hlt
  exact_mod_cast hlt

/-- The attention of a row: dividing the weighted sum by the weights' sum, or each weight before it. -/
theorem div_den (h : ∀ i, x i ≠ ⊤) (i₀ : ι) (h₀ : x i₀ ≠ ⊥) (v : ι → EReal) :
    Ideal.div (∑ i, Ideal.exp (x i - top x) * v i) (den x) = ∑ i, Ideal.div (Ideal.exp (x i - top x)) (den x) * v i := by
  obtain ⟨r, hr, e⟩ := den_real x h i₀ h₀
  rw [e, Ideal.div_coe hr.ne', sum_mul_real _ _ _ (by positivity)]
  refine Finset.sum_congr rfl fun i _ => ?_
  rw [Ideal.div_coe hr.ne']
  ac_rfl

end

end Cert.Softmax

end
-- ==== Proof.AttnSpec.lean ====
/-
  Causal attention as a function of the call's arrays, index by index: 4 sequences of 2048 positions, 12 heads, keys of
  256 entries (192 and padding), values of 128 entries.
-/
module

public import proofs.«01_k».proof.Proof.Softmax

@[expose] public section

noncomputable section

namespace Cert.AttnSpec

open Idealize.ShloMosaic Cert.Softmax

abbrev Keys : Type := (⟨3, ![4, 2048, 3072]⟩ : Shape).Idx → EReal
abbrev Vals : Type := (⟨3, ![4, 2048, 1536]⟩ : Shape).Idx → EReal

/-- Entry `d` of head `h`'s part of a row of queries or keys. -/
def at256 (h : Fin 12) (d : Fin 256) : Fin 3072 := ⟨256 * h.val + d.val, by have := h.isLt; have := d.isLt; omega⟩
/-- Entry `d` of head `h`'s part of a row of values. -/
def at128 (h : Fin 12) (d : Fin 128) : Fin 1536 := ⟨128 * h.val + d.val, by have := h.isLt; have := d.isLt; omega⟩

/-- The factor on a score. -/
def scale : EReal := Ideal.ofBits .f32 0x3D93CD3A#32

/-- The score of position `s` against position `j`: minus infinity past `s`. -/
def score (q k : Keys) (b : Fin 4) (h : Fin 12) (s j : Fin 2048) : EReal :=
  if j.val ≤ s.val then (∑ d : Fin 256, q (ix3 b s (at256 h d)) * k (ix3 b j (at256 h d))) * scale else ⊥

/-- Attention: the values averaged with the softmax of the scores. -/
def out (q k : Keys) (v : Vals) (b : Fin 4) (s : Fin 2048) (h : Fin 12) (d : Fin 128) : EReal :=
  ∑ j, Ideal.div (Ideal.exp (score q k b h s j - top (score q k b h s))) (den (score q k b h s)) * v (ix3 b j (at128 h d))

theorem minus_infinity : Ideal.ofBits .f32 0xFF800000#32 = ⊥ := by simp [Ideal.ofBits, Ideal.ieee]

/-- The factor is a real number. -/
theorem scale_real : ∃ r : ℝ, scale = (r : EReal) := by
  refine ⟨?_, ?_⟩
  rotate_left
  · unfold scale Ideal.ofBits Ideal.ieee
    simp
    rfl

/-- With finite queries and keys no score is plus infinity, and a position's own score is a real number. -/
theorem score_ok (q k : Keys) (hq : ∀ i, ∃ r : ℝ, q i = (r : EReal)) (hk : ∀ i, ∃ r : ℝ, k i = (r : EReal))
    (b : Fin 4) (h : Fin 12) (s : Fin 2048) : (∀ j, score q k b h s j ≠ ⊤) ∧ score q k b h s s ≠ ⊥ := by
  have key : ∀ j : Fin 2048, ∃ r : ℝ, (∑ d : Fin 256, q (ix3 b s (at256 h d)) * k (ix3 b j (at256 h d))) * scale = (r : EReal) :=
    fun j => mul_real (sum_real _ _ fun d _ => mul_real (hq _) (hk _)) scale_real
  refine ⟨fun j => ?_, ?_⟩
  · unfold score
    split
    · obtain ⟨r, hr⟩ := key j
      rw [hr]; exact EReal.coe_ne_top r
    · exact bot_ne_top
  · unfold score
    rw [if_pos le_rfl]
    obtain ⟨r, hr⟩ := key s
    rw [hr]; exact EReal.coe_ne_bot r

/-- Dividing after the weighted sum gives the same. -/
theorem out_eq (q k : Keys) (v : Vals) (hq : ∀ i, ∃ r : ℝ, q i = (r : EReal)) (hk : ∀ i, ∃ r : ℝ, k i = (r : EReal))
    (b : Fin 4) (s : Fin 2048) (h : Fin 12) (d : Fin 128) :
    Ideal.div (∑ j, Ideal.exp (score q k b h s j - top (score q k b h s)) * v (ix3 b j (at128 h d))) (den (score q k b h s))
      = out q k v b s h d :=
  div_den _ (score_ok q k hq hk b h s).1 s (score_ok q k hq hk b h s).2 _

end Cert.AttnSpec

end
-- ==== Proof.AttnKernel.lean ====
/-
  The attention kernel, read at an index: grid point (b, h, i) holds 256 query rows of sequence b, head h, the head's keys
  and values whole, and writes the rows' attention; the 384 blocks tile the result.
-/
module

public import proofs.«01_k».proof.Proof.AttnSpec
public import proofs.«01_k».proof.Proof.Gen.AttnIdeal.Value
public import Idealize.ShloMosaic.Lib.WordCmp
public import Idealize.ShloMosaic.Lib.Pointwise

@[expose] public section

set_option maxRecDepth 16384

noncomputable section

namespace Cert.AttnIdeal.Spec

open Cert.AttnIdeal Cert.AttnIdeal.Gen Idealize.ShloMosaic Idealize.ShloMosaic.TcCoe Idealize.SL.Sem Cert.Softmax Cert.AttnSpec
open Idealize.ShloMosaic.Pipeline (Dat)

/-- A block's score: row `r` of the block's queries, at position `256 i + r`, against position `j`. -/
def blockScore (i : Nat) (x : S1x256x256.Idx → EReal) (y : S1x2048x256.Idx → EReal) (r : Fin 256) (j : Fin 2048) : EReal :=
  if j.val ≤ 256 * i + r.val then (∑ d : Fin 256, x (ix3 0 r d) * y (ix3 0 j d)) * scale else ⊥

/-- The kernel's mask. -/
theorem mask_iff (i : Nat) (hi : i < 8) (r : Fin 256) (j : Fin 2048) :
    IntOp.cmpi .sle (BitVec.ofNat 32 j.val) (IntOp.addi (IntOp.muli (BitVec.ofNat 32 i) 256#32) (BitVec.ofNat 32 r.val)) = 1#1
      ↔ j.val ≤ 256 * i + r.val := by
  have hr := r.isLt
  have hj := j.isLt
  have e : IntOp.addi (IntOp.muli (BitVec.ofNat 32 i) 256#32) (BitVec.ofNat 32 r.val) = BitVec.ofNat 32 (256 * i + r.val) := by
    apply BitVec.eq_of_toNat_eq
    simp [IntOp.addi, IntOp.muli]
    omega
  rw [e]
  exact WordCmp.cmpi_sle_ofNat_eq_one_iff (by omega) (by omega)

theorem payload (i : grid0.Coords) (x : S1x256x256.Idx → EReal) (y : S1x2048x256.Idx → EReal) (z : S1x2048x128.Idx → EReal)
    (r : Fin 256) (d : Fin 128) :
    k0_pay1 (F := Ideal) i x y z (ix3 0 r d)
      = Ideal.div (∑ j, Ideal.exp (blockScore (i 2).val x y r j - top (blockScore (i 2).val x y r)) * z (ix3 0 j d))
          (den (blockScore (i 2).val x y r)) := by
  have hi : (i 2).val < 8 := (i 2).isLt
  have hsel : ∀ j : Fin 2048, Scalar.select (IntOp.cmpi .sle (BitVec.ofNat 32 j.val)
      (IntOp.addi (Scalar.muli (BitVec.ofNat 32 (i 2).val) 256#32) (BitVec.ofNat 32 r.val)))
      ((∑ d : Fin 256, x (ix3 0 r d) * y (ix3 0 j d)) * Ideal.ofBits FTy.f32 0x3D93CD3A#32) ⊥ = blockScore (i 2).val x y r j := fun j => by
    unfold blockScore Scalar.select
    exact if_congr (mask_iff _ hi r j) rfl rfl
  unfold k0_pay1
  pointwise
  simp only [minus_infinity, hsel]
  rfl

variable (m : (ℓ : Loc nD τ sig) → Buf (Elt Ideal) ℓ)

/-- Where each window's block of a grid point lies. -/
theorem index_facts : ∀ t : Fin grid0.N, (grid0.coords t 2).val = t.val % 8
    ∧ (win0_0.index t 0 = t.val / 96 ∧ win0_0.index t 1 = t.val % 8 ∧ win0_0.index t 2 = t.val / 8 % 12)
    ∧ (win0_1.index t 0 = t.val / 96 ∧ win0_1.index t 1 = 0 ∧ win0_1.index t 2 = t.val / 8 % 12)
    ∧ (win0_2.index t 0 = t.val / 96 ∧ win0_2.index t 1 = 0 ∧ win0_2.index t 2 = t.val / 8 % 12)
    ∧ (win0_3.index t 0 = t.val / 96 ∧ win0_3.index t 1 = t.val % 8 ∧ win0_3.index t 2 = t.val / 8 % 12) := by
  decide +kernel

/-- The sequence of a grid point. -/
def seq (t : Fin grid0.N) : Fin 4 := ⟨t.val / 96, by have := t.isLt; have := Gen.N_0; omega⟩
/-- The head of a grid point. -/
def head (t : Fin grid0.N) : Fin 12 := ⟨t.val / 8 % 12, by omega⟩
/-- The position of row `r` of a grid point's block. -/
def pos (t : Fin grid0.N) (r : Fin 256) : Fin 2048 := ⟨256 * (t.val % 8) + r.val, by have := r.isLt; omega⟩

theorem queries (c : Dev nD) (t : Fin cfg0.N) (r d : Fin 256) :
    iblk m c 0 t (ix3 0 r d) = m ((c : Thread nD τ).loc main_arg0) (ix3 (seq t) (pos t r) (at256 (head t) d)) := by
  obtain ⟨-, ⟨h0, h1, h2⟩, -⟩ := index_facts t
  show m ((c : Thread nD τ).loc main_arg0) ((win0_0.rect t).emb _) = _
  refine congrArg _ (funext fun a => Fin.ext ?_)
  refine (win0_0.rect_emb_val t _ a rfl).trans ?_
  match a with
  | ⟨0, _⟩ => show win0_0.index t 0 * 1 + 0 = t.val / 96; rw [h0]; omega
  | ⟨1, _⟩ => show win0_0.index t 1 * 256 + r.val = 256 * (t.val % 8) + r.val; rw [h1]; omega
  | ⟨2, _⟩ => show win0_0.index t 2 * 256 + d.val = 256 * (t.val / 8 % 12) + d.val; rw [h2]; omega

theorem keys (c : Dev nD) (t : Fin cfg0.N) (j : Fin 2048) (d : Fin 256) :
    iblk m c 1 t (ix3 0 j d) = m ((c : Thread nD τ).loc main_arg1) (ix3 (seq t) j (at256 (head t) d)) := by
  obtain ⟨-, -, ⟨h0, h1, h2⟩, -⟩ := index_facts t
  show m ((c : Thread nD τ).loc main_arg1) ((win0_1.rect t).emb _) = _
  refine congrArg _ (funext fun a => Fin.ext ?_)
  refine (win0_1.rect_emb_val t _ a rfl).trans ?_
  match a with
  | ⟨0, _⟩ => show win0_1.index t 0 * 1 + 0 = t.val / 96; rw [h0]; omega
  | ⟨1, _⟩ => show win0_1.index t 1 * 2048 + j.val = j.val; rw [h1]; omega
  | ⟨2, _⟩ => show win0_1.index t 2 * 256 + d.val = 256 * (t.val / 8 % 12) + d.val; rw [h2]; omega

theorem values (c : Dev nD) (t : Fin cfg0.N) (j : Fin 2048) (d : Fin 128) :
    iblk m c 2 t (ix3 0 j d) = m ((c : Thread nD τ).loc main_arg2) (ix3 (seq t) j (at128 (head t) d)) := by
  obtain ⟨-, -, -, ⟨h0, h1, h2⟩, -⟩ := index_facts t
  show m ((c : Thread nD τ).loc main_arg2) ((win0_2.rect t).emb _) = _
  refine congrArg _ (funext fun a => Fin.ext ?_)
  refine (win0_2.rect_emb_val t _ a rfl).trans ?_
  match a with
  | ⟨0, _⟩ => show win0_2.index t 0 * 1 + 0 = t.val / 96; rw [h0]; omega
  | ⟨1, _⟩ => show win0_2.index t 1 * 2048 + j.val = j.val; rw [h1]; omega
  | ⟨2, _⟩ => show win0_2.index t 2 * 128 + d.val = 128 * (t.val / 8 % 12) + d.val; rw [h2]; omega

/-- The call's result on device `c`, as a function of an index. -/
def result (c : Dev nD) : S4x2048x1536.Idx → EReal := fun i =>
  out (m ((c : Thread nD τ).loc main_arg0)) (m ((c : Thread nD τ).loc main_arg1)) (m ((c : Thread nD τ).loc main_arg2))
    ⟨(i 0).val, (i 0).isLt⟩ ⟨(i 1).val, (i 1).isLt⟩
    ⟨(i 2).val / 128, by have : (i 2).val < 1536 := (i 2).isLt; omega⟩ ⟨(i 2).val % 128, by omega⟩

theorem hz : (![0, 0, 0] : Fin 3 → Nat) = fun _ => 0 := funext fun a => by fin_cases a <;> rfl

/-- What a grid point writes back is its block of the result. -/
theorem flushed_eq (c : Dev nD) (hq : ∀ i, ∃ r : ℝ, m ((c : Thread nD τ).loc main_arg0) i = (r : EReal))
    (hk : ∀ i, ∃ r : ℝ, m ((c : Thread nD τ).loc main_arg1) i = (r : EReal)) (t : Fin cfg0.N) :
    (dats m 0 c).flushed 3 t = (win0_3.blk t).view.read (Elt Ideal) (result m c) := by
  obtain ⟨hc, -, -, -, ⟨h0, h1, h2⟩⟩ := index_facts t
  rw [Value.flushed3]
  unfold out0_3
  rw [View.canon_unit_zero hz, View.ld_unit_zero hz, View.ld_unit_zero hz, View.ld_unit_zero hz]
  funext j
  obtain ⟨r, d, rfl⟩ : ∃ (r : Fin 256) (d : Fin 128), j = ix3 0 r d := ⟨j 1, j 2, funext fun a => match a with
    | ⟨0, _⟩ => Fin.ext (by have : (j 0).val < 1 := (j 0).isLt; show (j 0).val = 0; omega)
    | ⟨1, _⟩ => rfl
    | ⟨2, _⟩ => rfl⟩
  have hr := r.isLt
  have hd := d.isLt
  have hs : blockScore (grid0.coords t 2).val (iblk m c 0 t) (iblk m c 1 t) r
      = score (m ((c : Thread nD τ).loc main_arg0)) (m ((c : Thread nD τ).loc main_arg1)) (seq t) (head t) (pos t r) := by
    funext j
    unfold blockScore score
    rw [hc]
    refine if_congr Iff.rfl ?_ rfl
    refine congrArg (· * scale) (Finset.sum_congr rfl fun e _ => ?_)
    rw [queries, keys]
  refine (payload (grid0.coords t) (iblk m c 0 t) (iblk m c 1 t) (iblk m c 2 t) r d).trans ?_
  rw [hs]
  refine (congrArg (Ideal.div · _) (Finset.sum_congr rfl fun j _ => congrArg (_ * ·) (values m c t j d))).trans ?_
  refine (out_eq _ _ _ hq hk (seq t) (pos t r) (head t) d).trans ?_
  show _ = result m c ((win0_3.rect t).emb (ix3 0 r d))
  have e0 : ((win0_3.rect t).emb (ix3 0 r d) 0 : Nat) = t.val / 96 := by
    refine (win0_3.rect_emb_val t _ 0 rfl).trans ?_; show win0_3.index t 0 * 1 + 0 = _; rw [h0]; omega
  have e1 : ((win0_3.rect t).emb (ix3 0 r d) 1 : Nat) = 256 * (t.val % 8) + r.val := by
    refine (win0_3.rect_emb_val t _ 1 rfl).trans ?_; show win0_3.index t 1 * 256 + r.val = _; rw [h1]; omega
  have e2 : ((win0_3.rect t).emb (ix3 0 r d) 2 : Nat) = 128 * (t.val / 8 % 12) + d.val := by
    refine (win0_3.rect_emb_val t _ 2 rfl).trans ?_; show win0_3.index t 2 * 128 + d.val = _; rw [h2]; omega
  unfold result
  congr 1
  · exact Fin.ext e0.symm
  · exact Fin.ext e1.symm
  · exact Fin.ext (by show t.val / 8 % 12 = _ / 128; rw [e2]; omega)
  · exact Fin.ext (by show d.val = _ % 128; rw [e2]; omega)

/-- An index of the result lies in a grid point's block. -/
theorem mem_blk (t : Fin cfg0.N) (i : S4x2048x1536.Idx) (h0 : (i 0).val = t.val / 96) (h1 : (i 1).val / 256 = t.val % 8)
    (h2 : (i 2).val / 128 = t.val / 8 % 12) : i ∈ ((cfg0.win 3).blk t).view.set := by
  show i ∈ ((View.whole main_v0).slice (win0_3.rect t)).set
  obtain ⟨-, -, -, -, ⟨e0, e1, e2⟩⟩ := index_facts t
  rw [View.set_slice_whole, Rect.mem_set_unit]
  intro a
  match a with
  | ⟨0, _⟩ => show win0_3.index t 0 * 1 ≤ (i 0 : Nat) ∧ (i 0 : Nat) < win0_3.index t 0 * 1 + 1; rw [e0]; omega
  | ⟨1, _⟩ => show win0_3.index t 1 * 256 ≤ (i 1 : Nat) ∧ (i 1 : Nat) < win0_3.index t 1 * 256 + 256; rw [e1]; omega
  | ⟨2, _⟩ => show win0_3.index t 2 * 128 ≤ (i 2 : Nat) ∧ (i 2 : Nat) < win0_3.index t 2 * 128 + 128; rw [e2]; omega

/-- The blocks tile the result. -/
theorem cover (i : S4x2048x1536.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1536 := (i 2).isLt
  refine ⟨⟨((i 0).val * 12 + (i 2).val / 128) * 8 + (i 1).val / 256, by show _ < grid0.N; rw [Gen.N_0]; omega⟩, flush0_3 _, ?_⟩
  refine mem_blk _ i ?_ ?_ ?_ <;> dsimp only <;> omega

/-- The result array after the run. -/
theorem final (c : Dev nD) (hq : ∀ i, ∃ r : ℝ, m ((c : Thread nD τ).loc main_arg0) i = (r : EReal))
    (hk : ∀ i, ∃ r : ℝ, m ((c : Thread nD τ).loc main_arg1) i = (r : EReal)) :
    (dats m 0 c).arrAt 3 cfg0.N = result m c :=
  (dats m 0 c).arrAt_eq_of_cover 3 (result m c) (fun t _ => flushed_eq m c hq hk t) cover

end Cert.AttnIdeal.Spec

end
-- ==== Proof.AttnReference.lean ====
/-
  The attention reference, read at an index: it is `AttnSpec.out`.
-/
module

public import proofs.«01_k».proof.Proof.AttnSpec
public import proofs.«01_k».proof.Proof.Gen.AttnRefIdeal.Run
public import proofs.«01_k».proof.Proof.Gen.AttnRefIdeal.Read
public import Idealize.ShloMosaic.Lib.WordCmp

@[expose] public section

set_option maxRecDepth 16384

noncomputable section

namespace Cert.AttnRefIdeal.Spec

open Cert.AttnRefIdeal Cert.AttnRefIdeal.Gen Cert.AttnRefIdeal.Read Idealize.ShloMosaic Cert.Softmax Cert.AttnSpec

variable (q : Keys) (k : Keys) (v : Vals)

theorem scores (b : Fin 4) (h : Fin 12) (s j : Fin 2048) : val_main_v14 (F := Ideal) q k (ix4 b h s j) = score q k b h s j := by
  rw [val_main_v14_apply, val_main_call0_v1_apply, val_main_v13_apply, val_main_v11_apply, val_main_v12_apply, val_main_v9_apply,
    val_main_v10_apply, val_main_v5_apply, val_main_v5_apply, val_main_call0_v2_apply, val_main_v8_apply, val_main_v6_apply]
  have hs := s.isLt
  have hj := j.isLt
  have hc : IntOp.cmpi .sle (BitVec.ofNat 32 j.val) (BitVec.ofNat 32 s.val) = 1#1 ↔ j.val ≤ s.val :=
    WordCmp.cmpi_sle_ofNat_eq_one_iff (by omega) (by omega)
  have hv : val_main_call0_v0 (F := Ideal) (idx_main_call0_v2 (ix4 b h s j)) = ⊥ := minus_infinity
  rw [hv]
  unfold score Scalar.select
  refine if_congr hc ?_ rfl
  show (∑ d : Fin 256, _) * scale = _
  congr 1
  refine Finset.sum_congr rfl fun d _ => ?_
  rw [val_main_v0_apply, val_main_v2_apply, val_main_v1_apply]
  have hb := b.isLt
  have hh := h.isLt
  have hd := d.isLt
  congr 1
  · refine congrArg q (funext fun a => Fin.ext ?_)
    match a with
    | ⟨0, _⟩ => show _ / _ = b.val; dsimp; omega
    | ⟨1, _⟩ => show _ % _ = s.val; dsimp; omega
    | ⟨2, _⟩ => show _ % _ = 256 * h.val + d.val; dsimp; omega
  · refine congrArg k (funext fun a => Fin.ext ?_)
    match a with
    | ⟨0, _⟩ => show _ / _ = b.val; dsimp; omega
    | ⟨1, _⟩ => show _ % _ = j.val; dsimp; omega
    | ⟨2, _⟩ => show _ % _ = 256 * h.val + d.val; dsimp; omega

theorem largest (b : Fin 4) (h : Fin 12) (s : Fin 2048) : val_main_v15 (F := Ideal) q k (ix3 b h s) = top (score q k b h s) := by
  unfold val_main_v15
  rw [Host.reduce_eq_fold, Shape.ReducesTo.fold_fiber_r4_a3]
  show Finset.fold max (Ideal.ofBits .f32 0xFF800000#32) _ _ = _
  rw [minus_infinity]
  exact congrArg (fun f => Finset.fold max ⊥ f Finset.univ) (funext fun j => scores q k b h s j)

theorem weights (b : Fin 4) (h : Fin 12) (s j : Fin 2048) :
    val_main_v21 (F := Ideal) q k (ix4 b h s j) = Ideal.exp (score q k b h s j - top (score q k b h s)) := by
  rw [val_main_v21_apply, val_main_v20_apply, scores, val_main_v19_apply, val_main_v18_apply, val_main_v17_apply, val_main_v16_apply]
  have e : idx_main_v18 (idx_main_v19 (ix4 b h s j)) = ix3 b h s := funext fun a => match a with | ⟨0, _⟩ => rfl | ⟨1, _⟩ => rfl | ⟨2, _⟩ => rfl
  rw [e, largest]
  show Ideal.exp (_ - max (Ideal.ofBits .f32 0xFF800000#32) _) = _
  rw [minus_infinity, max_eq_right bot_le]

theorem sums (b : Fin 4) (h : Fin 12) (s : Fin 2048) : val_main_v22 (F := Ideal) q k (ix3 b h s) = den (score q k b h s) := by
  rw [val_main_v22_apply]
  show Ideal.ofBits .f32 0x00000000#32 + _ = _
  rw [Ideal.ofBits_zero_f32, zero_add]
  refine Finset.sum_congr rfl fun j _ => ?_
  have e : idx_main_v22 (ix3 b h s) j = ix4 b h s j := funext fun a => match a with | ⟨0, _⟩ => rfl | ⟨1, _⟩ => rfl | ⟨2, _⟩ => rfl | ⟨3, _⟩ => rfl
  rw [e, weights]

theorem result (b : Fin 4) (s : Fin 2048) (h : Fin 12) (d : Fin 128) :
    val_main_v29 (F := Ideal) q k v (ix3 b s (at128 h d)) = out q k v b s h d := by
  rw [val_main_v29_apply, val_main_v28_apply, val_main_v27_apply, val_main_v26_apply]
  show ∑ j : Fin 2048, _ = _
  have hb := b.isLt
  have hh := h.isLt
  have hs := s.isLt
  have hd := d.isLt
  have e : idx_main_v27 (idx_main_v28 (ix3 b s (at128 h d))) = ix4 b h d s := by
    funext a
    refine Fin.ext ?_
    match a with
    | ⟨0, _⟩ => show ((b.val * 2048 + s.val) * 1536 + (128 * h.val + d.val)) / 3145728 = b.val; omega
    | ⟨1, _⟩ => show ((b.val * 2048 + s.val) * 1536 + (128 * h.val + d.val)) / 128 % 12 = h.val; omega
    | ⟨2, _⟩ => show ((b.val * 2048 + s.val) * 1536 + (128 * h.val + d.val)) % 128 = d.val; omega
    | ⟨3, _⟩ => show ((b.val * 2048 + s.val) * 1536 + (128 * h.val + d.val)) / 1536 % 2048 = s.val; omega
  rw [e]
  unfold out
  refine Finset.sum_congr rfl fun j _ => ?_
  have hj := j.isLt
  rw [mul_comm]
  congr 1
  · have e2 : ridx_main_v26 (ix4 b h d s) j = ix4 b h s j := funext fun a => match a with | ⟨0, _⟩ => rfl | ⟨1, _⟩ => rfl | ⟨2, _⟩ => rfl | ⟨3, _⟩ => rfl
    rw [e2, val_main_v25_apply, val_main_v24_apply, val_main_v23_apply, weights]
    have e3 : idx_main_v23 (idx_main_v24 (ix4 b h s j)) = ix3 b h s := funext fun a => match a with | ⟨0, _⟩ => rfl | ⟨1, _⟩ => rfl | ⟨2, _⟩ => rfl
    rw [e3, sums]
    rfl
  · rw [val_main_v4_apply, val_main_v3_apply]
    refine congrArg v (funext fun a => Fin.ext ?_)
    match a with
    | ⟨0, _⟩ => show (((b.val * 2048 + j.val) * 12 + h.val) * 128 + d.val) / 3145728 = b.val; omega
    | ⟨1, _⟩ => show (((b.val * 2048 + j.val) * 12 + h.val) * 128 + d.val) / 1536 % 2048 = j.val; omega
    | ⟨2, _⟩ => show (((b.val * 2048 + j.val) * 12 + h.val) * 128 + d.val) % 1536 = 128 * h.val + d.val; omega

end Cert.AttnRefIdeal.Spec

end
-- ==== Proof.AttnClaims.lean ====
/-
  The attention call's claims: it runs and ends quiescent, and on finite queries and keys its result is the reference's.
-/
module

public import proofs.«01_k».proof.Defs
public import proofs.«01_k».proof.Proof.AttnKernel
public import proofs.«01_k».proof.Proof.AttnReference
public import proofs.«01_k».proof.Proof.Gen.Attn.Frame
public import proofs.«01_k».proof.Proof.Gen.Pre_finite_qk
public import Idealize.ShloMosaic.Lib.ReduceAll
public import Idealize.ShloMosaic.Lib.Quiescent

@[expose] public section

set_option maxRecDepth 16384

noncomputable section

namespace Cert.AttnClaims

open Idealize.ShloMosaic Idealize.ShloMosaic.TcCoe Idealize.SL.Sem Cert.AttnSpec

theorem frame_kernel : Cert.quiescent_Attn := fun m ρ _ => Cert.Attn.Gen.frame m ρ
theorem frame_ideal : Cert.quiescent_AttnIdeal := fun m ρ _ => Cert.AttnIdeal.Gen.frame m ρ
theorem frame_ideal_pre : Cert.quiescent_AttnIdeal_pre_finite_qk := fun m ρ _ => Cert.AttnIdeal.Gen.frame m ρ

theorem run_reference (m : (ℓ : Loc Cert.AttnRefIdeal.nD Cert.AttnRefIdeal.τ Cert.AttnRefIdeal.sig) → Buf (Elt Ideal) ℓ)
    (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩
      (fun r => (∀ c : Dev Cert.AttnRefIdeal.nD,
        r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
        ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
        ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
        ∧ r.2.sem = fun _ => 0) :=
  (θ_run Cert.AttnRefIdeal.defs _ _).mono (fun r h => ⟨fun c => ⟨(h c).2.1, (h c).2.2.1, (h c).2.2.2⟩,
      Idealize.ShloMosaic.sem_eq_zero_of_no_sems (by decide) r.2⟩)
    (Cert.AttnRefIdeal.Value.run (F := Ideal) m ρ)

theorem frame_reference : Cert.quiescent_AttnRefIdeal := fun m ρ _ => run_reference m ρ
theorem frame_reference_pre : Cert.quiescent_AttnRefIdeal_pre_finite_qk := fun m ρ _ => run_reference m ρ

/-- A magnitude below plus infinity is a real number's. -/
theorem real_of_abs_lt {x : EReal} (h : Ideal.cmp .olt (max x (-x)) ⊤ = 1#1) : ∃ r : ℝ, x = (r : EReal) := by
  have hlt : max x (-x) < ⊤ := by
    by_contra hn
    unfold Ideal.cmp at h
    simp [hn] at h
  refine Softmax.exists_real (ne_of_lt (lt_of_le_of_lt (le_max_left _ _) hlt)) fun e => ?_
  rw [e] at hlt
  simp at hlt

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

instance : Subsingleton Cert.Pre_finite_qk.S_.Idx := ⟨fun _ _ => funext fun a => a.elim0⟩

/-- What the precondition says: the queries and the keys are real numbers. -/
theorem finite (q k : Keys) (v : Vals) (h : Cert.Pre_finite_qk.fn (F := Ideal) q k v = fun _ => 1#1) :
    (∀ i, ∃ r : ℝ, q i = (r : EReal)) ∧ ∀ i, ∃ r : ℝ, k i = (r : EReal) := by
  have h0 := congrFun h (fun a => a.elim0)
  unfold Cert.Pre_finite_qk.fn at h0
  obtain ⟨h1, h2⟩ := IntOp.andi_eq_one.1 h0
  refine ⟨fun i => real_of_abs_lt ?_, fun i => real_of_abs_lt ?_⟩
  · have := Host.reduce_andi_all _ _ _ _ _ h1 i
    rw [← inf_f32]
    exact this
  · have := Host.reduce_andi_all _ _ _ _ _ h2 i
    rw [← inf_bf16]
    exact this

theorem equal : Cert.algebraic_AttnIdeal_AttnRefIdeal_pre_finite_qk := by
  intro m g m' g' hpre hargs
  refine ⟨fun c => Cert.AttnIdeal.Spec.result m c, ?_, ?_⟩
  · refine (θ_run Cert.AttnIdeal.defs _ _).mono (fun r h c => ⟨(h c).1.trans ?_, (h c).2⟩) (Cert.AttnIdeal.Value.run_blocks m g)
    obtain ⟨hq, hk⟩ := finite _ _ _ (hpre c)
    exact Cert.AttnIdeal.Spec.final m c hq hk
  · refine (θ_run Cert.AttnRefIdeal.defs _ _).mono (fun r h c => ⟨(h c).1.trans ?_, (h c).2⟩) (Cert.AttnRefIdeal.Value.run m' g')
    obtain ⟨h0, h1, h2⟩ := hargs c
    rw [Cert.AttnRefIdeal.Read.val_main_v29_eq, h0, h1, h2]
    funext i
    have hi : (i 2).val < 1536 := (i 2).isLt
    have e : i = ix3 (n0 := 4) (n1 := 2048) (n2 := 1536) ⟨(i 0).val, (i 0).isLt⟩ ⟨(i 1).val, (i 1).isLt⟩
        (at128 ⟨(i 2).val / 128, by omega⟩ ⟨(i 2).val % 128, by omega⟩) := funext fun a => Fin.ext (by
      match a with
      | ⟨0, _⟩ => rfl
      | ⟨1, _⟩ => rfl
      | ⟨2, _⟩ => show (i 2).val = 128 * ((i 2).val / 128) + (i 2).val % 128; omega)
    refine (congrArg _ e).trans ?_
    exact Cert.AttnRefIdeal.Spec.result _ _ _ _ _ _ _

end Cert.AttnClaims

end
-- ==== Proof.MemAttn.lean ====
/-
  The prompt's attention over the memory: 4 sequences of 2048 positions, 4 heads, 256 memory tokens, keys and values of 256
  entries, no mask. Grid point (b, h, i) holds 256 query rows of sequence b, head h, the head's keys and values whole, and
  writes the rows' attention; the 128 blocks tile the result.
-/
module

public import proofs.«01_k».proof.Defs
public import proofs.«01_k».proof.Proof.AttnClaims
public import proofs.«01_k».proof.Proof.Gen.MemAttn.Frame
public import proofs.«01_k».proof.Proof.Gen.MemAttnIdeal.Value
public import proofs.«01_k».proof.Proof.Gen.MemAttnRefIdeal.Run
public import proofs.«01_k».proof.Proof.Gen.MemAttnRefIdeal.Read
public import proofs.«01_k».proof.Proof.Gen.Pre_finite_mem
public import Idealize.ShloMosaic.Lib.Pointwise
public import Idealize.ShloMosaic.Lib.ReduceAll
public import Idealize.ShloMosaic.Lib.Quiescent

@[expose] public section

set_option maxRecDepth 16384

noncomputable section

namespace Cert.MemAttnSpec

open Idealize.ShloMosaic Cert.Softmax
open Cert.AttnSpec (minus_infinity)

abbrev Queries : Type := (⟨3, ![4, 2048, 1024]⟩ : Shape).Idx → EReal
abbrev Bank : Type := (⟨3, ![4, 256, 1024]⟩ : Shape).Idx → EReal

/-- Entry `d` of head `h`'s part of a row. -/
def at256 (h : Fin 4) (d : Fin 256) : Fin 1024 := ⟨256 * h.val + d.val, by have := h.isLt; have := d.isLt; omega⟩

/-- The factor on a score. -/
def scale : EReal := Ideal.ofBits .f32 0x3D800000#32

/-- The score of position `s` against memory token `j`. -/
def score (q : Queries) (k : Bank) (b : Fin 4) (h : Fin 4) (s : Fin 2048) (j : Fin 256) : EReal :=
  (∑ d : Fin 256, q (ix3 b s (at256 h d)) * k (ix3 b j (at256 h d))) * scale

/-- Attention: the values averaged with the softmax of the scores. -/
def out (q : Queries) (k v : Bank) (b : Fin 4) (s : Fin 2048) (h : Fin 4) (d : Fin 256) : EReal :=
  ∑ j, Ideal.div (Ideal.exp (score q k b h s j - top (score q k b h s))) (den (score q k b h s)) * v (ix3 b j (at256 h d))

/-- The factor is a real number. -/
theorem scale_real : ∃ r : ℝ, scale = (r : EReal) := by
  refine ⟨?_, ?_⟩
  rotate_left
  · unfold scale Ideal.ofBits Ideal.ieee
    simp
    rfl

/-- With finite queries and keys dividing after the weighted sum gives the same. -/
theorem out_eq (q : Queries) (k v : Bank) (hq : ∀ i, ∃ r : ℝ, q i = (r : EReal)) (hk : ∀ i, ∃ r : ℝ, k i = (r : EReal))
    (b : Fin 4) (s : Fin 2048) (h : Fin 4) (d : Fin 256) :
    Ideal.div (∑ j, Ideal.exp (score q k b h s j - top (score q k b h s)) * v (ix3 b j (at256 h d))) (den (score q k b h s))
      = out q k v b s h d := by
  have key : ∀ j, ∃ r : ℝ, score q k b h s j = (r : EReal) :=
    fun j => mul_real (sum_real _ _ fun d _ => mul_real (hq _) (hk _)) scale_real
  refine div_den _ (fun j => ?_) 0 ?_ _
  · obtain ⟨r, hr⟩ := key j
    rw [hr]; exact EReal.coe_ne_top r
  · obtain ⟨r, hr⟩ := key 0
    rw [hr]; exact EReal.coe_ne_bot r

end Cert.MemAttnSpec

namespace Cert.MemAttnIdeal.Spec

open Cert.MemAttnIdeal Cert.MemAttnIdeal.Gen Idealize.ShloMosaic Idealize.ShloMosaic.TcCoe Idealize.SL.Sem Cert.Softmax Cert.MemAttnSpec
open Cert.AttnSpec (minus_infinity)

/-- A block's score: row `r` of the block's queries against memory token `j`. -/
def blockScore (x y : S1x256x256.Idx → EReal) (r j : Fin 256) : EReal := (∑ d : Fin 256, x (ix3 0 r d) * y (ix3 0 j d)) * scale

theorem payload (x y z : S1x256x256.Idx → EReal) (r d : Fin 256) :
    k0_pay1 (F := Ideal) x y z (ix3 0 r d)
      = Ideal.div (∑ j, Ideal.exp (blockScore x y r j - top (blockScore x y r)) * z (ix3 0 j d)) (den (blockScore x y r)) := by
  unfold k0_pay1
  pointwise
  simp only [minus_infinity]
  rfl

variable (m : (ℓ : Loc nD τ sig) → Buf (Elt Ideal) ℓ)

/-- Where each window's block of a grid point lies. -/
theorem index_facts : ∀ t : Fin grid0.N, (win0_0.index t 0 = t.val / 32 ∧ win0_0.index t 1 = t.val % 8 ∧ win0_0.index t 2 = t.val / 8 % 4)
    ∧ (win0_1.index t 0 = t.val / 32 ∧ win0_1.index t 1 = 0 ∧ win0_1.index t 2 = t.val / 8 % 4)
    ∧ (win0_2.index t 0 = t.val / 32 ∧ win0_2.index t 1 = 0 ∧ win0_2.index t 2 = t.val / 8 % 4)
    ∧ (win0_3.index t 0 = t.val / 32 ∧ win0_3.index t 1 = t.val % 8 ∧ win0_3.index t 2 = t.val / 8 % 4) := by
  decide +kernel

/-- The sequence of a grid point. -/
def seq (t : Fin grid0.N) : Fin 4 := ⟨t.val / 32, by have := t.isLt; have := Gen.N_0; omega⟩
/-- The head of a grid point. -/
def head (t : Fin grid0.N) : Fin 4 := ⟨t.val / 8 % 4, by omega⟩
/-- The position of row `r` of a grid point's block. -/
def pos (t : Fin grid0.N) (r : Fin 256) : Fin 2048 := ⟨256 * (t.val % 8) + r.val, by have := r.isLt; omega⟩

theorem queries (c : Dev nD) (t : Fin cfg0.N) (r d : Fin 256) :
    iblk m c 0 t (ix3 0 r d) = m ((c : Thread nD τ).loc main_arg0) (ix3 (seq t) (pos t r) (at256 (head t) d)) := by
  obtain ⟨⟨h0, h1, h2⟩, -⟩ := index_facts t
  show m ((c : Thread nD τ).loc main_arg0) ((win0_0.rect t).emb _) = _
  refine congrArg _ (funext fun a => Fin.ext ?_)
  refine (win0_0.rect_emb_val t _ a rfl).trans ?_
  match a with
  | ⟨0, _⟩ => show win0_0.index t 0 * 1 + 0 = t.val / 32; rw [h0]; omega
  | ⟨1, _⟩ => show win0_0.index t 1 * 256 + r.val = 256 * (t.val % 8) + r.val; rw [h1]; omega
  | ⟨2, _⟩ => show win0_0.index t 2 * 256 + d.val = 256 * (t.val / 8 % 4) + d.val; rw [h2]; omega

theorem keys (c : Dev nD) (t : Fin cfg0.N) (j d : Fin 256) :
    iblk m c 1 t (ix3 0 j d) = m ((c : Thread nD τ).loc main_arg1) (ix3 (seq t) j (at256 (head t) d)) := by
  obtain ⟨-, ⟨h0, h1, h2⟩, -⟩ := index_facts t
  show m ((c : Thread nD τ).loc main_arg1) ((win0_1.rect t).emb _) = _
  refine congrArg _ (funext fun a => Fin.ext ?_)
  refine (win0_1.rect_emb_val t _ a rfl).trans ?_
  match a with
  | ⟨0, _⟩ => show win0_1.index t 0 * 1 + 0 = t.val / 32; rw [h0]; omega
  | ⟨1, _⟩ => show win0_1.index t 1 * 256 + j.val = j.val; rw [h1]; omega
  | ⟨2, _⟩ => show win0_1.index t 2 * 256 + d.val = 256 * (t.val / 8 % 4) + d.val; rw [h2]; omega

theorem values (c : Dev nD) (t : Fin cfg0.N) (j d : Fin 256) :
    iblk m c 2 t (ix3 0 j d) = m ((c : Thread nD τ).loc main_arg2) (ix3 (seq t) j (at256 (head t) d)) := by
  obtain ⟨-, -, ⟨h0, h1, h2⟩, -⟩ := index_facts t
  show m ((c : Thread nD τ).loc main_arg2) ((win0_2.rect t).emb _) = _
  refine congrArg _ (funext fun a => Fin.ext ?_)
  refine (win0_2.rect_emb_val t _ a rfl).trans ?_
  match a with
  | ⟨0, _⟩ => show win0_2.index t 0 * 1 + 0 = t.val / 32; rw [h0]; omega
  | ⟨1, _⟩ => show win0_2.index t 1 * 256 + j.val = j.val; rw [h1]; omega
  | ⟨2, _⟩ => show win0_2.index t 2 * 256 + d.val = 256 * (t.val / 8 % 4) + d.val; rw [h2]; omega

/-- The call's result on device `c`, as a function of an index. -/
def result (c : Dev nD) : S4x2048x1024.Idx → EReal := fun i =>
  out (m ((c : Thread nD τ).loc main_arg0)) (m ((c : Thread nD τ).loc main_arg1)) (m ((c : Thread nD τ).loc main_arg2))
    ⟨(i 0).val, (i 0).isLt⟩ ⟨(i 1).val, (i 1).isLt⟩
    ⟨(i 2).val / 256, by have : (i 2).val < 1024 := (i 2).isLt; omega⟩ ⟨(i 2).val % 256, by omega⟩

theorem hz : (![0, 0, 0] : Fin 3 → Nat) = fun _ => 0 := funext fun a => by fin_cases a <;> rfl

/-- What a grid point writes back is its block of the result. -/
theorem flushed_eq (c : Dev nD) (hq : ∀ i, ∃ r : ℝ, m ((c : Thread nD τ).loc main_arg0) i = (r : EReal))
    (hk : ∀ i, ∃ r : ℝ, m ((c : Thread nD τ).loc main_arg1) i = (r : EReal)) (t : Fin cfg0.N) :
    (dats m 0 c).flushed 3 t = (win0_3.blk t).view.read (Elt Ideal) (result m c) := by
  obtain ⟨-, -, -, ⟨h0, h1, h2⟩⟩ := index_facts t
  rw [Value.flushed3]
  unfold out0_3
  rw [View.canon_unit_zero hz, View.ld_unit_zero hz, View.ld_unit_zero hz, View.ld_unit_zero hz]
  funext j
  obtain ⟨r, d, rfl⟩ : ∃ (r : Fin 256) (d : Fin 256), j = ix3 0 r d := ⟨j 1, j 2, funext fun a => match a with
    | ⟨0, _⟩ => Fin.ext (by have : (j 0).val < 1 := (j 0).isLt; show (j 0).val = 0; omega)
    | ⟨1, _⟩ => rfl
    | ⟨2, _⟩ => rfl⟩
  have hr := r.isLt
  have hd := d.isLt
  have hs : blockScore (iblk m c 0 t) (iblk m c 1 t) r
      = score (m ((c : Thread nD τ).loc main_arg0)) (m ((c : Thread nD τ).loc main_arg1)) (seq t) (head t) (pos t r) := by
    funext j
    unfold blockScore score
    refine congrArg (· * scale) (Finset.sum_congr rfl fun e _ => ?_)
    rw [queries, keys]
  refine (payload (iblk m c 0 t) (iblk m c 1 t) (iblk m c 2 t) r d).trans ?_
  rw [hs]
  refine (congrArg (Ideal.div · _) (Finset.sum_congr rfl fun j _ => congrArg (_ * ·) (values m c t j d))).trans ?_
  refine (out_eq _ _ _ hq hk (seq t) (pos t r) (head t) d).trans ?_
  show _ = result m c ((win0_3.rect t).emb (ix3 0 r d))
  have e0 : ((win0_3.rect t).emb (ix3 0 r d) 0 : Nat) = t.val / 32 := by
    refine (win0_3.rect_emb_val t _ 0 rfl).trans ?_; show win0_3.index t 0 * 1 + 0 = _; rw [h0]; omega
  have e1 : ((win0_3.rect t).emb (ix3 0 r d) 1 : Nat) = 256 * (t.val % 8) + r.val := by
    refine (win0_3.rect_emb_val t _ 1 rfl).trans ?_; show win0_3.index t 1 * 256 + r.val = _; rw [h1]; omega
  have e2 : ((win0_3.rect t).emb (ix3 0 r d) 2 : Nat) = 256 * (t.val / 8 % 4) + d.val := by
    refine (win0_3.rect_emb_val t _ 2 rfl).trans ?_; show win0_3.index t 2 * 256 + d.val = _; rw [h2]; omega
  unfold result
  congr 1
  · exact Fin.ext e0.symm
  · exact Fin.ext e1.symm
  · exact Fin.ext (by show t.val / 8 % 4 = _ / 256; rw [e2]; omega)
  · exact Fin.ext (by show d.val = _ % 256; rw [e2]; omega)

/-- An index of the result lies in a grid point's block. -/
theorem mem_blk (t : Fin cfg0.N) (i : S4x2048x1024.Idx) (h0 : (i 0).val = t.val / 32) (h1 : (i 1).val / 256 = t.val % 8)
    (h2 : (i 2).val / 256 = t.val / 8 % 4) : i ∈ ((cfg0.win 3).blk t).view.set := by
  show i ∈ ((View.whole main_v0).slice (win0_3.rect t)).set
  obtain ⟨-, -, -, ⟨e0, e1, e2⟩⟩ := index_facts t
  rw [View.set_slice_whole, Rect.mem_set_unit]
  intro a
  match a with
  | ⟨0, _⟩ => show win0_3.index t 0 * 1 ≤ (i 0 : Nat) ∧ (i 0 : Nat) < win0_3.index t 0 * 1 + 1; rw [e0]; omega
  | ⟨1, _⟩ => show win0_3.index t 1 * 256 ≤ (i 1 : Nat) ∧ (i 1 : Nat) < win0_3.index t 1 * 256 + 256; rw [e1]; omega
  | ⟨2, _⟩ => show win0_3.index t 2 * 256 ≤ (i 2 : Nat) ∧ (i 2 : Nat) < win0_3.index t 2 * 256 + 256; rw [e2]; omega

/-- The blocks tile the result. -/
theorem cover (i : S4x2048x1024.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1024 := (i 2).isLt
  refine ⟨⟨((i 0).val * 4 + (i 2).val / 256) * 8 + (i 1).val / 256, by show _ < grid0.N; rw [Gen.N_0]; omega⟩, flush0_3 _, ?_⟩
  refine mem_blk _ i ?_ ?_ ?_ <;> dsimp only <;> omega

/-- The result array after the run. -/
theorem final (c : Dev nD) (hq : ∀ i, ∃ r : ℝ, m ((c : Thread nD τ).loc main_arg0) i = (r : EReal))
    (hk : ∀ i, ∃ r : ℝ, m ((c : Thread nD τ).loc main_arg1) i = (r : EReal)) :
    (dats m 0 c).arrAt 3 cfg0.N = result m c :=
  (dats m 0 c).arrAt_eq_of_cover 3 (result m c) (fun t _ => flushed_eq m c hq hk t) cover

end Cert.MemAttnIdeal.Spec

namespace Cert.MemAttnRefIdeal.Spec

open Cert.MemAttnRefIdeal Cert.MemAttnRefIdeal.Gen Cert.MemAttnRefIdeal.Read Idealize.ShloMosaic Cert.Softmax Cert.MemAttnSpec
open Cert.AttnSpec (minus_infinity)

variable (q : Queries) (k : Bank) (v : Bank)

theorem scores (b : Fin 4) (h : Fin 4) (s : Fin 2048) (j : Fin 256) : val_main_v6 (F := Ideal) q k (ix4 b h s j) = score q k b h s j := by
  rw [val_main_v6_apply, val_main_v4_apply, val_main_v5_apply]
  unfold score
  show (∑ d : Fin 256, _) * scale = _
  congr 1
  refine Finset.sum_congr rfl fun d _ => ?_
  rw [val_main_v3_apply, val_main_v0_apply, val_main_v1_apply]
  have hb := b.isLt
  have hh := h.isLt
  have hd := d.isLt
  have hs := s.isLt
  have hj := j.isLt
  refine congrArg₂ (fun a b : EReal => a * b) ?_ ?_
  · refine congrArg q (funext fun a => Fin.ext ?_)
    match a with
    | ⟨0, _⟩ => show _ / _ = b.val; dsimp; omega
    | ⟨1, _⟩ => show _ % _ = s.val; dsimp; omega
    | ⟨2, _⟩ => show _ % _ = 256 * h.val + d.val; dsimp; omega
  · refine congrArg k (funext fun a => Fin.ext ?_)
    match a with
    | ⟨0, _⟩ => show _ / _ = b.val; dsimp; omega
    | ⟨1, _⟩ => show _ % _ = j.val; dsimp; omega
    | ⟨2, _⟩ => show _ % _ = 256 * h.val + d.val; dsimp; omega

theorem largest (b : Fin 4) (h : Fin 4) (s : Fin 2048) : val_main_v7 (F := Ideal) q k (ix3 b h s) = top (score q k b h s) := by
  unfold val_main_v7
  rw [Host.reduce_eq_fold, Shape.ReducesTo.fold_fiber_r4_a3]
  show Finset.fold max (Ideal.ofBits .f32 0xFF800000#32) _ _ = _
  rw [minus_infinity]
  exact congrArg (fun f => Finset.fold max ⊥ f Finset.univ) (funext fun j => scores q k b h s j)

theorem weights (b : Fin 4) (h : Fin 4) (s : Fin 2048) (j : Fin 256) :
    val_main_v13 (F := Ideal) q k (ix4 b h s j) = Ideal.exp (score q k b h s j - top (score q k b h s)) := by
  rw [val_main_v13_apply, val_main_v12_apply, scores, val_main_v11_apply, val_main_v10_apply, val_main_v9_apply, val_main_v8_apply]
  have e : idx_main_v10 (idx_main_v11 (ix4 b h s j)) = ix3 b h s := funext fun a => match a with | ⟨0, _⟩ => rfl | ⟨1, _⟩ => rfl | ⟨2, _⟩ => rfl
  rw [e, largest]
  show Ideal.exp (_ - max (Ideal.ofBits .f32 0xFF800000#32) _) = _
  rw [minus_infinity, max_eq_right bot_le]

theorem sums (b : Fin 4) (h : Fin 4) (s : Fin 2048) : val_main_v14 (F := Ideal) q k (ix3 b h s) = den (score q k b h s) := by
  rw [val_main_v14_apply]
  show Ideal.ofBits .f32 0x00000000#32 + _ = _
  rw [Ideal.ofBits_zero_f32, zero_add]
  refine Finset.sum_congr rfl fun j _ => ?_
  have e : idx_main_v14 (ix3 b h s) j = ix4 b h s j := funext fun a => match a with | ⟨0, _⟩ => rfl | ⟨1, _⟩ => rfl | ⟨2, _⟩ => rfl | ⟨3, _⟩ => rfl
  rw [e, weights]

theorem result (b : Fin 4) (s : Fin 2048) (h : Fin 4) (d : Fin 256) :
    val_main_v21 (F := Ideal) q k v (ix3 b s (at256 h d)) = out q k v b s h d := by
  rw [val_main_v21_apply, val_main_v20_apply, val_main_v19_apply, val_main_v18_apply]
  show ∑ j : Fin 256, _ = _
  have hb := b.isLt
  have hh := h.isLt
  have hs := s.isLt
  have hd := d.isLt
  have e : idx_main_v19 (idx_main_v20 (ix3 b s (at256 h d))) = ix4 b h d s := by
    funext a
    refine Fin.ext ?_
    match a with
    | ⟨0, _⟩ => show ((b.val * 2048 + s.val) * 1024 + (256 * h.val + d.val)) / 2097152 = b.val; omega
    | ⟨1, _⟩ => show ((b.val * 2048 + s.val) * 1024 + (256 * h.val + d.val)) / 256 % 4 = h.val; omega
    | ⟨2, _⟩ => show ((b.val * 2048 + s.val) * 1024 + (256 * h.val + d.val)) % 256 = d.val; omega
    | ⟨3, _⟩ => show ((b.val * 2048 + s.val) * 1024 + (256 * h.val + d.val)) / 1024 % 2048 = s.val; omega
  rw [e]
  unfold out
  refine Finset.sum_congr rfl fun j _ => ?_
  have hj := j.isLt
  rw [mul_comm]
  congr 1
  · have e2 : ridx_main_v18 (ix4 b h d s) j = ix4 b h s j := funext fun a => match a with | ⟨0, _⟩ => rfl | ⟨1, _⟩ => rfl | ⟨2, _⟩ => rfl | ⟨3, _⟩ => rfl
    rw [e2, val_main_v17_apply, val_main_v16_apply, val_main_v15_apply, weights]
    have e3 : idx_main_v15 (idx_main_v16 (ix4 b h s j)) = ix3 b h s := funext fun a => match a with | ⟨0, _⟩ => rfl | ⟨1, _⟩ => rfl | ⟨2, _⟩ => rfl
    rw [e3, sums]
    rfl
  · rw [val_main_v2_apply]
    refine congrArg v (funext fun a => Fin.ext ?_)
    match a with
    | ⟨0, _⟩ => show (((b.val * 256 + j.val) * 4 + h.val) * 256 + d.val) / 262144 = b.val; omega
    | ⟨1, _⟩ => show (((b.val * 256 + j.val) * 4 + h.val) * 256 + d.val) / 1024 % 256 = j.val; omega
    | ⟨2, _⟩ => show (((b.val * 256 + j.val) * 4 + h.val) * 256 + d.val) % 1024 = 256 * h.val + d.val; omega

end Cert.MemAttnRefIdeal.Spec

namespace Cert.MemAttnClaims

open Idealize.ShloMosaic Idealize.ShloMosaic.TcCoe Idealize.SL.Sem Cert.MemAttnSpec

theorem frame_kernel : Cert.quiescent_MemAttn := fun m ρ _ => Cert.MemAttn.Gen.frame m ρ
theorem frame_ideal : Cert.quiescent_MemAttnIdeal := fun m ρ _ => Cert.MemAttnIdeal.Gen.frame m ρ
theorem frame_ideal_pre : Cert.quiescent_MemAttnIdeal_pre_finite_mem := fun m ρ _ => Cert.MemAttnIdeal.Gen.frame m ρ

theorem run_reference (m : (ℓ : Loc Cert.MemAttnRefIdeal.nD Cert.MemAttnRefIdeal.τ Cert.MemAttnRefIdeal.sig) → Buf (Elt Ideal) ℓ)
    (ρ : Dev Cert.MemAttnRefIdeal.nD → PrngReg) :
    θ_run (Cert.MemAttnRefIdeal.defs (F := Ideal)) (onTc (τ := Cert.MemAttnRefIdeal.τ) (Cert.MemAttnRefIdeal.main (F := Ideal))) ⟨m, fun _ => 0, ρ⟩
      (fun r => (∀ c : Dev Cert.MemAttnRefIdeal.nD,
        r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
        ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
        ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
        ∧ r.2.sem = fun _ => 0) :=
  (θ_run Cert.MemAttnRefIdeal.defs _ _).mono (fun r h => ⟨fun c => ⟨(h c).2.1, (h c).2.2.1, (h c).2.2.2⟩,
      Idealize.ShloMosaic.sem_eq_zero_of_no_sems (by decide) r.2⟩)
    (Cert.MemAttnRefIdeal.Value.run (F := Ideal) m ρ)

theorem frame_reference : Cert.quiescent_MemAttnRefIdeal := fun m ρ _ => run_reference m ρ
theorem frame_reference_pre : Cert.quiescent_MemAttnRefIdeal_pre_finite_mem := fun m ρ _ => run_reference m ρ

instance : Subsingleton Cert.Pre_finite_mem.S_.Idx := ⟨fun _ _ => funext fun a => a.elim0⟩

/-- What the precondition says: the queries and the keys are real numbers. -/
theorem finite (q : Queries) (k v : Bank) (h : Cert.Pre_finite_mem.fn (F := Ideal) q k v = fun _ => 1#1) :
    (∀ i, ∃ r : ℝ, q i = (r : EReal)) ∧ ∀ i, ∃ r : ℝ, k i = (r : EReal) := by
  have h0 := congrFun h (fun a => a.elim0)
  unfold Cert.Pre_finite_mem.fn at h0
  obtain ⟨h1, h2⟩ := IntOp.andi_eq_one.1 h0
  refine ⟨fun i => AttnClaims.real_of_abs_lt ?_, fun i => AttnClaims.real_of_abs_lt ?_⟩
  · have := Host.reduce_andi_all _ _ _ _ _ h1 i
    rw [← AttnClaims.inf_bf16]
    exact this
  · have := Host.reduce_andi_all _ _ _ _ _ h2 i
    rw [← AttnClaims.inf_f32]
    exact this

theorem equal : Cert.algebraic_MemAttnIdeal_MemAttnRefIdeal_pre_finite_mem := by
  intro m g m' g' hpre hargs
  refine ⟨fun c => Cert.MemAttnIdeal.Spec.result m c, ?_, ?_⟩
  · refine (θ_run Cert.MemAttnIdeal.defs _ _).mono (fun r h c => ⟨(h c).1.trans ?_, (h c).2⟩) (Cert.MemAttnIdeal.Value.run_blocks m g)
    obtain ⟨hq, hk⟩ := finite _ _ _ (hpre c)
    exact Cert.MemAttnIdeal.Spec.final m c hq hk
  · refine (θ_run Cert.MemAttnRefIdeal.defs _ _).mono (fun r h c => ⟨(h c).1.trans ?_, (h c).2⟩) (Cert.MemAttnRefIdeal.Value.run m' g')
    obtain ⟨h0, h1, h2⟩ := hargs c
    rw [Cert.MemAttnRefIdeal.Read.val_main_v21_eq, h0, h1, h2]
    funext i
    have hi : (i 2).val < 1024 := (i 2).isLt
    have e : i = ix3 (n0 := 4) (n1 := 2048) (n2 := 1024) ⟨(i 0).val, (i 0).isLt⟩ ⟨(i 1).val, (i 1).isLt⟩
        (at256 ⟨(i 2).val / 256, by omega⟩ ⟨(i 2).val % 256, by omega⟩) := funext fun a => Fin.ext (by
      match a with
      | ⟨0, _⟩ => rfl
      | ⟨1, _⟩ => rfl
      | ⟨2, _⟩ => show (i 2).val = 256 * ((i 2).val / 256) + (i 2).val % 256; omega)
    refine (congrArg _ e).trans ?_
    exact Cert.MemAttnRefIdeal.Spec.result _ _ _ _ _ _ _

end Cert.MemAttnClaims

end
-- ==== Proof.MlaRing.lean ====
/-
  The ring of the latent attention kernel: four slots, each of eight pages of the pool and a slab of the rotary table,
  filled by the kernel's own transfers. What a slot holds while idle and while its transfers are in flight, and the rules
  for one transfer's issue and for one wait.
-/
module

public import proofs.«01_k».proof.Proof.Softmax
public import proofs.«01_k».proof.Proof.Gen.MlaIdeal.Loops
public import proofs.«01_k».proof.Proof.Gen.MlaIdeal.Launch
public import Idealize.ShloMosaic.Lib.Batch
public import Idealize.ShloMosaic.Lib.Pipeline.Frame

@[expose] public section

set_option maxRecDepth 16384

noncomputable section

namespace Cert.MlaIdeal.Spec

open Cert.MlaIdeal Cert.MlaIdeal.Gen Cert.Softmax
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The buffers -/

abbrev mbuf : Memref sig .tc .vmem S4x4608x128 .f32 := Memref.whole cc0_scratch0
abbrev mcsb : Memref sig .tc .vmem S4x128x1024 .f32 := Memref.whole cc0_scratch1
abbrev mlhs : Memref sig .tc .vmem S1600x512 .bf16 := Memref.whole cc0_scratch2
abbrev mtab : Memref sig .tc .smem S128x128 .i32 := Memref.whole main_arg0
abbrev mcsh : Memref sig .tc .hbm S16x128x1024 .f32 := Memref.whole main_arg6
abbrev mpool : Memref sig .tc .hbm S11796480x128 .f32 := Memref.whole main_arg7

/-- The semaphore of slot `s`'s pages, and of its slab. -/
def semP (s : ℕ) : DmaSem sig := ⟨9 + s % 4, by have := Nat.mod_lt s (show 0 < 4 by decide); show _ < 17; omega⟩
def semC (s : ℕ) : DmaSem sig := ⟨13 + s % 4, by have := Nat.mod_lt s (show 0 < 4 by decide); show _ < 17; omega⟩

/-! ## What the slots hold -/

abbrev Table := S128x128.Idx → BitVec 32

/-- The page of sequence `b`'s positions `128 j …`. -/
def word (T : Table) (b j : ℕ) : BitVec 32 := T (ix2 (Fin.ofNat 128 b) (Fin.ofNat 128 j))

/-- Slot contents with sequence `b`'s chunk `ck`: row `r` is row `r % 576` of page `8 ck + r / 576`. -/
def bufG (T : Table) (pool : S11796480x128.Idx → Elt F .f32) (b ck : ℕ) : S4x4608x128.Idx → Elt F .f32 := fun x =>
  pool (ix2 (Fin.ofNat 11796480 (576 * (word T b (8 * ck + (x 1).val / 576)).toNat + (x 1).val % 576)) (x 2))

/-- Slab contents with chunk `ck`'s angles. -/
def csG (cs : S16x128x1024.Idx → Elt F .f32) (ck : ℕ) : S4x128x1024.Idx → Elt F .f32 := fun x =>
  cs (ix3 (Fin.ofNat 16 ck) (x 1) (x 2))

/-- The elements of page `p` of slot `s`. -/
def piece (s p : ℕ) : Finset S4x4608x128.Idx := Finset.univ.filter fun x => (x 0).val = s ∧ (x 1).val / 576 = p
def slab (s : ℕ) : Finset S4x128x1024.Idx := Finset.univ.filter fun x => (x 0).val = s

variable (c : Dev nD)

abbrev bufLoc : Loc nD τ sig := (c : Thread nD τ).loc cc0_scratch0
abbrev csbLoc : Loc nD τ sig := (c : Thread nD τ).loc cc0_scratch1
abbrev poolLoc : Loc nD τ sig := (c : Thread nD τ).loc main_arg7
abbrev cshLoc : Loc nD τ sig := (c : Thread nD τ).loc main_arg6

/-- The read share of the pool lent to page `p` of slot `s`. -/
def tokP (s p : ℕ) : PosShare TreeShare := Transfers.shareTokN fullShare (8 * s + p)
def tokC (s : ℕ) : PosShare TreeShare := Transfers.shareTokN fullShare s

variable (T : Table) (pool : S11796480x128.Idx → Elt F .f32) (cs : S16x128x1024.Idx → Elt F .f32)

/-- Page `p` of slot `s` idle, and landed. -/
def preP (s : ℕ) (p : Fin 8) : sProp 𝕄 :=
  iprop((∃ f : Buf (Elt F) (bufLoc c), (bufLoc c) ↦[piece s p.val]{fullShare} f) ∗ ((poolLoc c) ↦{tokP s p.val} (pool : Buf (Elt F) (poolLoc c))))
def delP (b ck s : ℕ) (p : Fin 8) : sProp 𝕄 :=
  iprop(((bufLoc c) ↦[piece s p.val]{fullShare} (bufG T pool b ck : Buf (Elt F) (bufLoc c))) ∗ ((poolLoc c) ↦{tokP s p.val} (pool : Buf (Elt F) (poolLoc c))))
def preC (s : ℕ) : sProp 𝕄 :=
  iprop((∃ f : Buf (Elt F) (csbLoc c), (csbLoc c) ↦[slab s]{fullShare} f) ∗ ((cshLoc c) ↦{tokC s} (cs : Buf (Elt F) (cshLoc c))))
def delC (ck s : ℕ) (_ : Fin 1) : sProp 𝕄 :=
  iprop(((csbLoc c) ↦[slab s]{fullShare} (csG cs ck : Buf (Elt F) (csbLoc c))) ∗ ((cshLoc c) ↦{tokC s} (cs : Buf (Elt F) (cshLoc c))))

instance delP_storable (b ck s : ℕ) (p : Fin 8) : Storable (upEmb : UEmb _ 𝕄) (delP c T pool b ck s p) := by
  unfold delP; infer_instance
instance delC_storable (ck s : ℕ) (p : Fin 1) : Storable (upEmb : UEmb _ 𝕄) (delC c cs ck s p) := by
  unfold delC; infer_instance

/-- The units of a page's transfer and of a slab's. -/
def NP : ℕ := cc0_scratch0.dmaCredit S576x128 .f32
def NC : ℕ := cc0_scratch1.dmaCredit S128x1024 .f32

/-- A slot with nothing in flight. -/
def idle (s : ℕ) : sProp 𝕄 :=
  iprop(bigSep Finset.univ (preP c pool s) ∗ preC c cs s
    ∗ semVal ((c : Thread nD τ), SemLoc.dma (semP s)) 0 ∗ semVal ((c : Thread nD τ), SemLoc.dma (semC s)) 0)

/-- A slot with the first `j` pages' transfers issued, its slab's not yet. -/
def issuing (b ck s j : ℕ) : sProp 𝕄 :=
  iprop(bigSep (Transfers.pending j) (preP c pool s)
    ∗ Transfers.Batch (countersEmb (U := Pipeline.UD sig nD τ)) (c : Thread nD τ) (.dma (semP s)) () NP (delP c T pool b ck s) j 0
    ∗ preC c cs s ∗ Transfers.Batch (countersEmb (U := Pipeline.UD sig nD τ)) (c : Thread nD τ) (.dma (semC s)) () NC (delC c cs ck s) 0 0)

/-- A slot with all nine transfers issued and the units of `u` pages waited for. -/
def flying (b ck s u : ℕ) : sProp 𝕄 :=
  iprop(Transfers.Batch (countersEmb (U := Pipeline.UD sig nD τ)) (c : Thread nD τ) (.dma (semP s)) () NP (delP c T pool b ck s) 8 (u * NP)
    ∗ Transfers.Batch (countersEmb (U := Pipeline.UD sig nD τ)) (c : Thread nD τ) (.dma (semC s)) () NC (delC c cs ck s) 1 0)

/-- A slot whose pages have landed and whose slab has not been waited for. -/
def landing (b ck s : ℕ) : sProp 𝕄 :=
  iprop(bigSep Finset.univ (delP c T pool b ck s) ∗ semVal ((c : Thread nD τ), SemLoc.dma (semP s)) 0
    ∗ Transfers.Batch (countersEmb (U := Pipeline.UD sig nD τ)) (c : Thread nD τ) (.dma (semC s)) () NC (delC c cs ck s) 1 0)

/-- A slot filled. -/
def full (b ck s : ℕ) : sProp 𝕄 :=
  iprop(bigSep Finset.univ (delP c T pool b ck s) ∗ delC c cs ck s 0
    ∗ semVal ((c : Thread nD τ), SemLoc.dma (semP s)) 0 ∗ semVal ((c : Thread nD τ), SemLoc.dma (semC s)) 0)

theorem start (b ck s : ℕ) : idle c pool cs s ⊢ |={Set.univ}=> issuing c T pool cs b ck s 0 := by
  unfold idle issuing
  iintro ⟨HP, HC, Hsp, Hsc⟩
  imod (Transfers.batch_alloc' (Lvl := ℕ) (countersEmb (U := Pipeline.UD sig nD τ)) (c : Thread nD τ) () NP (delP c T pool b ck s) (sm := .dma (semP s)) (E := Set.univ)) $$ Hsp with HB
  imod (Transfers.batch_alloc' (Lvl := ℕ) (countersEmb (U := Pipeline.UD sig nD τ)) (c : Thread nD τ) () NC (delC c cs ck s) (sm := .dma (semC s)) (E := Set.univ)) $$ Hsc with HD
  imodintro
  rw [← Transfers.bigSep_pending_zero]
  isplitl [HP]; · iexact HP
  isplitl [HB]; · iexact HB
  isplitl [HC]; · iexact HC
  iexact HD

theorem delP_preP (b ck s : ℕ) (p : Fin 8) : delP c T pool b ck s p ⊢ preP c pool s p := by
  unfold delP preP
  iintro ⟨H, Ht⟩
  isplitl [H]; · iexists _; iexact H
  iexact Ht

theorem delC_preC (ck s : ℕ) : delC c cs ck s 0 ⊢ preC c cs s := by
  unfold delC preC
  iintro ⟨H, Ht⟩
  isplitl [H]; · iexists _; iexact H
  iexact Ht

theorem full_idle (b ck s : ℕ) : full c T pool cs b ck s ⊢ idle c pool cs s := by
  unfold full idle
  exact BI.sep_mono (BI.bigSep_mono fun p _ => delP_preP c T pool b ck s p) (sep_mono_left (delC_preC c cs ck s))

theorem issued_flying (b ck s : ℕ) :
    iprop(Transfers.Batch (countersEmb (U := Pipeline.UD sig nD τ)) (c : Thread nD τ) (.dma (semP s)) () NP (delP c T pool b ck s) 8 0
      ∗ Transfers.Batch (countersEmb (U := Pipeline.UD sig nD τ)) (c : Thread nD τ) (.dma (semC s)) () NC (delC c cs ck s) 1 0)
      ⊢ flying c T pool cs b ck s 0 := by
  unfold flying
  rw [Nat.zero_mul]

/-! ## One transfer's issue -/

section Rules

variable {sp sp' : Space} {sh : Shape} {e : EltTy} {α : Type} {Λ : Labels}
variable {defs : Defs nD τ sig (Elt F) Λ} (𝒱 : Variants) (bd : Option 𝒱.V) {Q : α → sProp 𝕄} {n : ℕ}

theorem peel (D : Fin n → sProp 𝕄) {j : ℕ} (hj : j < n) :
    bigSep (Transfers.pending j) D ⊢ iprop(D ⟨j, hj⟩ ∗ bigSep (Transfers.pending (j + 1)) D) :=
  Entails.of_eq (Transfers.bigSep_pending_step _ j hj)

theorem rejoin {src : Memref sig (c : Thread nD τ).2.kind sp sh e} {q : PosShare TreeShare} {fs : Buf (Elt F) (src.view.loc (c : Thread nD τ))} {A : sProp 𝕄} :
    iprop((src.view.loc (c : Thread nD τ) ↦[Finset.univ \ src.view.set]{q} fs) ∗ (A ∗ (src.view.loc (c : Thread nD τ) ↦[src.view.set]{q} fs)))
      ⊢ iprop(A ∗ (src.view.loc (c : Thread nD τ) ↦{q} fs)) := by
  iintro ⟨Hr, Hw, Hs⟩
  isplitl [Hw]; · iexact Hw
  iapply (pointsTo_split_subset (Finset.subset_univ src.view.set)).2
  isplitl [Hs]; · iexact Hs
  iexact Hr

/-- A transfer issued within a batch out of a source held whole at a share, the share kept by the transfer whole. -/
theorem wp_issue {src : Memref sig (c : Thread nD τ).2.kind sp sh e} {dst : Memref sig (c : Thread nD τ).2.kind sp' sh e} {sm : SemLoc sig}
    {hsrc : src.view.WordExact} {hdst : dst.view.WordExact} {hsem : DmaTarget.Typed (nD := nD) sp sm (.here dst)}
    {k : PUnit.{1} → Prog (TpuEff nD τ sig (Elt F) Λ (c : Thread nD τ).2) α} {q : PosShare TreeShare} {fs : Buf (Elt F) (src.view.loc (c : Thread nD τ))}
    {Sd : Finset (Idx (dst.view.loc (c : Thread nD τ)))} {fd : Buf (Elt F) (dst.view.loc (c : Thread nD τ))}
    {D : Fin n → sProp 𝕄} {j : ℕ} {Q : α → sProp 𝕄}
    (N : ℕ) (hN : dst.view.amount sm = N) (hSd : dst.view.set ⊆ Sd) (hj : j < n)
    (hD : iprop((dst.view.loc (c : Thread nD τ) ↦[Sd]{fullShare} (dst.view.write (Elt F) fd (src.view.read (Elt F) fs) Finset.univ))
              ∗ (src.view.loc (c : Thread nD τ) ↦{q} fs)) ⊢ D ⟨j, hj⟩) :
    iprop((src.view.loc (c : Thread nD τ) ↦{q} fs) ∗ (dst.view.loc (c : Thread nD τ) ↦[Sd]{fullShare} fd)
        ∗ Transfers.Batch (countersEmb (U := Pipeline.UD sig nD τ)) (c : Thread nD τ) sm () N D j 0)
      ⊢ iprop((Transfers.Batch (countersEmb (U := Pipeline.UD sig nD τ)) (c : Thread nD τ) sm () N D (j + 1) 0
            -∗ wp frame (wpE defs 𝒱 (c : Thread nD τ) bd) Set.univ (k PUnit.unit) Q)
          -∗ wp frame (wpE defs 𝒱 (c : Thread nD τ) bd) Set.univ (.op (.enqueueDmaAs src (.here dst) .same sm hsrc hdst hsem) k) Q) := by
  unfold Transfers.Batch
  iintro ⟨Hs, Hd, ⟨%γ, %γ₀, %κ, #Hinv, HI, H0, Hcred⟩⟩ Hk
  ihave HI' := (peel (fun t => count (countersEmb (U := Pipeline.UD sig nD τ)) (γ t) 0) hj) $$ HI
  icases HI' with ⟨Ht, HI⟩
  ihave Hs' := (pointsTo_split_subset (Finset.subset_univ src.view.set)).1 $$ Hs
  icases Hs' with ⟨Hs, Hrest⟩
  iapply (wp_enqueueDmaAs 𝒱 (c : Thread nD τ) bd Set.univ () N hN) $$ [Hs Hd] [Ht Hrest]
  · isplitl [Hs]; · iexact Hs
    iapply (pointsTo_writeUpdate (c : Thread nD τ) hSd) $$ Hd
  · iapply (Transfers.batch_creditUpdate_with (countersEmb (U := Pipeline.UD sig nD τ)) ⟨j, hj⟩
      (put := iprop(src.view.loc (c : Thread nD τ) ↦[Finset.univ \ src.view.set]{q} fs)) ((rejoin c).trans hD))
    isplitr; · iexact Hinv
    isplitl [Ht]; · iexact Ht
    iexact Hrest
  iintro Hcred'
  iapply Hk
  iexists γ, γ₀, κ
  isplitr; · iexact Hinv
  isplitl [HI]; · iexact HI
  isplitl [H0]; · iexact H0
  rw [show (j + 1) * N - 0 = (j * N - 0) + N by rw [Nat.succ_mul]; omega, ← tallyAt_add]
  icombine Hcred Hcred' as H
  iexact H

/-! ## The kernel's transfers -/

section Kernel

variable {o : Fin 3 → ℕ} {o' : Fin 2 → ℕ} {o1 : Fin 1 → ℕ} {o3 : Fin 3 → ℕ}

/-- The view of a page's slot, of the page itself, of a slab and of the angles it comes from. -/
abbrev dstP (o : Fin 3 → ℕ) (h : ∀ a, o a + S1x576x128.size a ≤ S4x4608x128.size a) : Memref sig .tc .vmem S576x128 .f32 :=
  (mbuf.slice (Rect.unit (s := S4x4608x128) o S1x576x128.size h) (fun _ => rfl)).squeeze S576x128 squeezes_S1x576x128_S576x128
abbrev srcP (o' : Fin 2 → ℕ) (h : ∀ a, o' a + S576x128.size a ≤ S11796480x128.size a) : Memref sig .tc .hbm S576x128 .f32 :=
  mpool.slice (Rect.unit (s := S11796480x128) o' S576x128.size h) (fun _ => rfl)
abbrev dstC (o : Fin 3 → ℕ) (h : ∀ a, o a + S1x128x1024.size a ≤ S4x128x1024.size a) : Memref sig .tc .vmem S128x1024 .f32 :=
  (mcsb.slice (Rect.unit (s := S4x128x1024) o S1x128x1024.size h) (fun _ => rfl)).squeeze S128x1024 squeezes_S1x128x1024_S128x1024
abbrev srcC (o : Fin 3 → ℕ) (h : ∀ a, o a + S1x128x1024.size a ≤ S16x128x1024.size a) : Memref sig .tc .hbm S128x1024 .f32 :=
  (mcsh.slice (Rect.unit (s := S16x128x1024) o S1x128x1024.size h) (fun _ => rfl)).squeeze S128x1024 squeezes_S1x128x1024_S128x1024
abbrev sm3 (o1 : Fin 1 → ℕ) (h : ∀ a, o1 a + S1.size a ≤ S4.size a) : DmaSem sig :=
  ((cc0_scratch3.slice (Rect.unit (s := S4) o1 S1.size h)).squeeze S_ squeezes_S1_S_).sem
abbrev sm4 (o1 : Fin 1 → ℕ) (h : ∀ a, o1 a + S1.size a ≤ S4.size a) : DmaSem sig :=
  ((cc0_scratch4.slice (Rect.unit (s := S4) o1 S1.size h)).squeeze S_ squeezes_S1_S_).sem

theorem sm3_eq {s : ℕ} (hs : s < 4) (e1 : o1 = ![s]) (h) : sm3 o1 h = semP s := by
  subst e1
  interval_cases s
  · exact (by decide +kernel : sm3 ![0] (by decide) = semP 0)
  · exact (by decide +kernel : sm3 ![1] (by decide) = semP 1)
  · exact (by decide +kernel : sm3 ![2] (by decide) = semP 2)
  · exact (by decide +kernel : sm3 ![3] (by decide) = semP 3)
theorem sm4_eq {s : ℕ} (hs : s < 4) (e1 : o1 = ![s]) (h) : sm4 o1 h = semC s := by
  subst e1
  interval_cases s
  · exact (by decide +kernel : sm4 ![0] (by decide) = semC 0)
  · exact (by decide +kernel : sm4 ![1] (by decide) = semC 1)
  · exact (by decide +kernel : sm4 ![2] (by decide) = semC 2)
  · exact (by decide +kernel : sm4 ![3] (by decide) = semC 3)

theorem dstP_emb {s p : ℕ} (e : o = ![s, 576 * p, 0]) (h) (y : S576x128.Idx) :
    ((((dstP o h).view.emb y : S4x4608x128.Idx) 0).val = s) ∧ ((((dstP o h).view.emb y : S4x4608x128.Idx) 1).val = 576 * p + (y 0).val)
      ∧ ((((dstP o h).view.emb y : S4x4608x128.Idx) 2).val = (y 1).val) := by
  subst e
  have key : ((dstP ![s, 576 * p, 0] h).view.emb y : S4x4608x128.Idx)
      = (Rect.unit (s := S4x4608x128) ![s, 576 * p, 0] S1x576x128.size h).emb (Fin.cons ⟨0, Nat.one_pos⟩ y) := by
    rw [← Shape.reshapeEquiv_cons_one (d := ![576, 128]) (by decide) y]; rfl
  rw [key]
  refine ⟨?_, ?_, ?_⟩ <;> rw [Rect.emb_apply]
  · show s + 1 * 0 = s; omega
  · show 576 * p + 1 * (y 0).val = _; omega
  · show 0 + 1 * (y 1).val = _; omega

theorem dstP_sub {s p : ℕ} (e : o = ![s, 576 * p, 0]) (h) : (dstP o h).view.set ⊆ piece s p := by
  intro x hx
  obtain ⟨y, _, rfl⟩ := Finset.mem_map.mp hx
  obtain ⟨h0, h1, -⟩ := dstP_emb e h y
  have := (y 0).isLt
  simp only [piece, Finset.mem_filter, Finset.mem_univ, true_and]
  refine ⟨h0, ?_⟩
  have : (y 0).val < 576 := (y 0).isLt
  rw [h1]; omega

theorem landedP {s p b ck : ℕ} (e : o = ![s, 576 * p, 0]) (h) (hw : (word T b (8 * ck + p)).toNat < 20480)
    (e' : o' = ![576 * (word T b (8 * ck + p)).toNat, 0]) (h') (fd : S4x4608x128.Idx → Elt F .f32) :
    ∀ x ∈ piece s p, (dstP o h).view.write (Elt F) fd ((srcP o' h').view.read (Elt F) pool) Finset.univ x = bufG T pool b ck x := by
  intro x hx
  simp only [piece, Finset.mem_filter, Finset.mem_univ, true_and] at hx
  obtain ⟨hx0, hx1⟩ := hx
  have hl : (x 1).val % 576 < 576 := Nat.mod_lt _ (by decide)
  obtain ⟨y, hy⟩ : ∃ y : S576x128.Idx, y = ix2 ⟨(x 1).val % 576, hl⟩ (x 2) := ⟨_, rfl⟩
  have hxy : x = (dstP o h).view.emb y := by
    obtain ⟨h0, h1, h2⟩ := dstP_emb e h y
    funext a
    apply Fin.ext
    match a with
    | ⟨0, _⟩ => exact hx0.trans h0.symm
    | ⟨1, _⟩ => refine Eq.trans ?_ h1.symm; rw [hy]; show (x 1).val = 576 * p + (x 1).val % 576; omega
    | ⟨2, _⟩ => refine Eq.trans ?_ h2.symm; rw [hy]; rfl
  have e2 : (dstP o h).view.write (Elt F) fd ((srcP o' h').view.read (Elt F) pool) Finset.univ x = (srcP o' h').view.read (Elt F) pool y := by
    rw [hxy]
    exact View.write_emb_of_mem _ _ (Finset.mem_univ y)
  rw [e2]
  subst e'
  show pool ((Rect.unit (s := S11796480x128) _ S576x128.size h').emb y) = _
  unfold bufG
  refine congrArg pool ?_
  funext a
  apply Fin.ext
  rw [Rect.emb_apply, hy]
  match a with
  | ⟨0, _⟩ =>
    show 576 * (word T b (8 * ck + p)).toNat + 1 * ((x 1).val % 576) = (576 * (word T b (8 * ck + (x 1).val / 576)).toNat + (x 1).val % 576) % 11796480
    rw [hx1]; omega
  | ⟨1, _⟩ => show 0 + 1 * (x 2).val = (x 2).val; omega

theorem NP_pos : 0 < NP := View.dmaCredit_pos (dstP ![0, 0, 0] (by decide)).view (by decide)
theorem NC_pos : 0 < NC := View.dmaCredit_pos (dstC ![0, 0, 0] (by decide)).view (by decide)

theorem dstC_emb {s : ℕ} (e : o = ![s, 0, 0]) (h) (y : S128x1024.Idx) :
    ((((dstC o h).view.emb y : S4x128x1024.Idx) 0).val = s) ∧ ((((dstC o h).view.emb y : S4x128x1024.Idx) 1).val = (y 0).val)
      ∧ ((((dstC o h).view.emb y : S4x128x1024.Idx) 2).val = (y 1).val) := by
  subst e
  have key : ((dstC ![s, 0, 0] h).view.emb y : S4x128x1024.Idx)
      = (Rect.unit (s := S4x128x1024) ![s, 0, 0] S1x128x1024.size h).emb (Fin.cons ⟨0, Nat.one_pos⟩ y) := by
    rw [← Shape.reshapeEquiv_cons_one (d := ![128, 1024]) (by decide) y]; rfl
  rw [key]
  refine ⟨?_, ?_, ?_⟩ <;> rw [Rect.emb_apply]
  · show s + 1 * 0 = s; omega
  · show 0 + 1 * (y 0).val = _; omega
  · show 0 + 1 * (y 1).val = _; omega

theorem dstC_sub {s : ℕ} (e : o = ![s, 0, 0]) (h) : (dstC o h).view.set ⊆ slab s := by
  intro x hx
  obtain ⟨y, _, rfl⟩ := Finset.mem_map.mp hx
  obtain ⟨h0, -, -⟩ := dstC_emb e h y
  simp only [slab, Finset.mem_filter, Finset.mem_univ, true_and]
  exact h0

theorem landedC {s ck : ℕ} (hck : ck < 16) (e : o = ![s, 0, 0]) (h) (e' : o3 = ![ck, 0, 0]) (h') (fd : S4x128x1024.Idx → Elt F .f32) :
    ∀ x ∈ slab s, (dstC o h).view.write (Elt F) fd ((srcC o3 h').view.read (Elt F) cs) Finset.univ x = csG cs ck x := by
  intro x hx
  simp only [slab, Finset.mem_filter, Finset.mem_univ, true_and] at hx
  obtain ⟨y, hy⟩ : ∃ y : S128x1024.Idx, y = ix2 (x 1) (x 2) := ⟨_, rfl⟩
  have hxy : x = (dstC o h).view.emb y := by
    obtain ⟨h0, h1, h2⟩ := dstC_emb e h y
    funext a
    apply Fin.ext
    match a with
    | ⟨0, _⟩ => exact hx.trans h0.symm
    | ⟨1, _⟩ => refine Eq.trans ?_ h1.symm; rw [hy]; rfl
    | ⟨2, _⟩ => refine Eq.trans ?_ h2.symm; rw [hy]; rfl
  have e2 : (dstC o h).view.write (Elt F) fd ((srcC o3 h').view.read (Elt F) cs) Finset.univ x = (srcC o3 h').view.read (Elt F) cs y := by
    rw [hxy]
    exact View.write_emb_of_mem _ _ (Finset.mem_univ y)
  rw [e2]
  subst e'
  have e3 : (srcC ![ck, 0, 0] h').view.read (Elt F) cs y
      = cs ((Rect.unit (s := S16x128x1024) ![ck, 0, 0] S1x128x1024.size h').emb (Fin.cons ⟨0, Nat.one_pos⟩ y)) := by
    rw [← Shape.reshapeEquiv_cons_one (d := ![128, 1024]) (by decide) y]; rfl
  rw [e3]
  unfold csG
  refine congrArg cs ?_
  funext a
  apply Fin.ext
  rw [Rect.emb_apply, hy]
  match a with
  | ⟨0, _⟩ => show ck + 1 * 0 = ck % 16; omega
  | ⟨1, _⟩ => show 0 + 1 * (x 1).val = (x 1).val; omega
  | ⟨2, _⟩ => show 0 + 1 * (x 2).val = (x 2).val; omega

/-- One page's transfer issued. -/
theorem wp_page {b ck s p : ℕ} (hs : s < 4) (hp : p < 8) (hw : (word T b (8 * ck + p)).toNat < 20480) (e : o = ![s, 576 * p, 0]) (h)
    (e' : o' = ![576 * (word T b (8 * ck + p)).toNat, 0]) (h') (e1 : o1 = ![s]) (h1) {hsrc hdst hsem}
    {k : PUnit → Prog (TpuEff nD τ sig (Elt F) Λ .tc) α} {Q : α → sProp 𝕄} :
    issuing c T pool cs b ck s p
      ⊢ iprop((issuing c T pool cs b ck s (p + 1) -∗ wp frame (wpE defs 𝒱 (c : Thread nD τ) bd) Set.univ (k ⟨⟩) Q)
          -∗ wp frame (wpE defs 𝒱 (c : Thread nD τ) bd) Set.univ
            (.op (.enqueueDmaAs (srcP o' h') (.here (dstP o h)) .same (.dma (sm3 o1 h1)) hsrc hdst hsem) k) Q) := by
  have E := sm3_eq hs e1 h1
  generalize sm3 o1 h1 = q at *
  subst E
  unfold issuing
  iintro ⟨HP, HB, HC, HD⟩ Hk
  ihave HP' := (peel (preP c pool s) hp) $$ HP
  icases HP' with ⟨Hp, HP⟩
  ihave Hp' := (show preP c pool s ⟨p, hp⟩ ⊢ iprop((∃ f : Buf (Elt F) (bufLoc c), (bufLoc c) ↦[piece s p]{fullShare} f) ∗ ((poolLoc c) ↦{tokP s p} (pool : Buf (Elt F) (poolLoc c)))) from .rfl) $$ Hp
  icases Hp' with ⟨⟨%fd, Hb⟩, Hs⟩
  iapply (wp_issue c 𝒱 bd (src := srcP o' h') (dst := dstP o h) (q := tokP s p) (fs := (pool : Buf (Elt F) (poolLoc c))) (Sd := piece s p) (fd := fd)
    (D := delP c T pool b ck s) NP rfl (dstP_sub e h) hp
    (sep_mono_left (Entails.of_eq (pointsTo_congr (landedP T pool e h hw e' h' fd))))) $$ [Hs Hb HB]
  · isplitl [Hs]; · iexact Hs
    isplitl [Hb]; · iexact Hb
    iexact HB
  iintro HB
  iapply Hk
  isplitl [HP]; · iexact HP
  isplitl [HB]; · iexact HB
  isplitl [HC]; · iexact HC
  iexact HD

/-- The slab's transfer issued. -/
theorem wp_slab {b ck s : ℕ} (hs : s < 4) (hck : ck < 16) (e : o = ![s, 0, 0]) (h) (e' : o3 = ![ck, 0, 0]) (h') (e1 : o1 = ![s]) (h1) {hsrc hdst hsem}
    {k : PUnit → Prog (TpuEff nD τ sig (Elt F) Λ .tc) α} {Q : α → sProp 𝕄} :
    issuing c T pool cs b ck s 8
      ⊢ iprop((flying c T pool cs b ck s 0 -∗ wp frame (wpE defs 𝒱 (c : Thread nD τ) bd) Set.univ (k ⟨⟩) Q)
          -∗ wp frame (wpE defs 𝒱 (c : Thread nD τ) bd) Set.univ
            (.op (.enqueueDmaAs (srcC o3 h') (.here (dstC o h)) .same (.dma (sm4 o1 h1)) hsrc hdst hsem) k) Q) := by
  have E := sm4_eq hs e1 h1
  generalize sm4 o1 h1 = q at *
  subst E
  unfold issuing
  iintro ⟨HP, HB, HC, HD⟩ Hk
  ihave Hp' := (show preC c cs s ⊢ iprop((∃ f : Buf (Elt F) (csbLoc c), (csbLoc c) ↦[slab s]{fullShare} f) ∗ ((cshLoc c) ↦{tokC s} (cs : Buf (Elt F) (cshLoc c)))) from .rfl) $$ HC
  icases Hp' with ⟨⟨%fd, Hb⟩, Hs⟩
  iapply (wp_issue c 𝒱 bd (src := srcC o3 h') (dst := dstC o h) (q := tokC s) (fs := (cs : Buf (Elt F) (cshLoc c))) (Sd := slab s) (fd := fd)
    (D := delC c cs ck s) NC rfl (dstC_sub e h) (show 0 < 1 by decide)
    (sep_mono_left (Entails.of_eq (pointsTo_congr (landedC cs hck e h e' h' fd))))) $$ [Hs Hb HD]
  · isplitl [Hs]; · iexact Hs
    isplitl [Hb]; · iexact Hb
    iexact HD
  iintro HD
  iapply Hk
  iapply (issued_flying c T pool cs b ck s)
  isplitl [HB]; · iexact HB
  iexact HD

/-- Waits owe nothing. -/
def owed : sProp 𝕄 := iprop(∃ W : Waits sig Unit, owes (c : Thread nD τ) 0 W)

theorem wp_await {b ck s u : ℕ} (hs : s < 4) (hu : u < 7) (h) (e1 : o1 = ![s]) (h1) {srcw : Memref sig .tc .hbm S576x128 .f32} {hsrc hdst}
    {k : PUnit → Prog (TpuEff nD τ sig (Elt F) Λ .tc) α} {Q : α → sProp 𝕄} :
    iprop(flying c T pool cs b ck s u ∗ owed c)
      ⊢ iprop((iprop(flying c T pool cs b ck s (u + 1) ∗ owed c) -∗ wp frame (wpE defs 𝒱 (c : Thread nD τ) bd) Set.univ (k ⟨⟩) Q)
          -∗ wp frame (wpE defs 𝒱 (c : Thread nD τ) bd) Set.univ (.op (.waitDma2 (sm3 o1 h1) srcw (dstP o h) hsrc hdst) k) Q) := by
  have E := sm3_eq hs e1 h1
  generalize sm3 o1 h1 = q at *
  subst E
  unfold flying owed
  iintro ⟨⟨HB, HC⟩, ⟨%W, HO⟩⟩ Hk
  iapply (Transfers.wp_waitBatch (countersEmb (U := Pipeline.UD sig nD τ)) 𝒱 (c : Thread nD τ) bd () (N := NP) rfl (D := delP c T pool b ck s) (u := u * NP)
    (by have := NP_pos; rw [← Nat.succ_mul, Nat.mul_comm NP]; exact Nat.mul_lt_mul_of_pos_right (by omega) this)) $$ [HB HO]
  · isplitl [HB]; · iexact HB
    iexact HO
  rw [show u * NP + NP = (u + 1) * NP from (Nat.succ_mul _ _).symm]
  iintro ⟨HB, HO⟩
  iapply Hk
  isplitl [HB HC]
  · isplitl [HB]; · iexact HB
    iexact HC
  iexists _
  iexact HO

theorem wp_await_last {b ck s : ℕ} (hs : s < 4) (h) (e1 : o1 = ![s]) (h1) {srcw : Memref sig .tc .hbm S576x128 .f32} {hsrc hdst}
    {k : PUnit → Prog (TpuEff nD τ sig (Elt F) Λ .tc) α} {Q : α → sProp 𝕄} :
    iprop(flying c T pool cs b ck s 7 ∗ owed c)
      ⊢ iprop((iprop(landing c T pool cs b ck s ∗ owed c) -∗ wp frame (wpE defs 𝒱 (c : Thread nD τ) bd) Set.univ (k ⟨⟩) Q)
          -∗ wp frame (wpE defs 𝒱 (c : Thread nD τ) bd) Set.univ (.op (.waitDma2 (sm3 o1 h1) srcw (dstP o h) hsrc hdst) k) Q) := by
  have E := sm3_eq hs e1 h1
  generalize sm3 o1 h1 = q at *
  subst E
  unfold flying landing owed
  iintro ⟨⟨HB, HC⟩, ⟨%W, HO⟩⟩ Hk
  iapply (Transfers.wp_waitBatchLast (countersEmb (U := Pipeline.UD sig nD τ)) 𝒱 (c : Thread nD τ) bd () (N := NP) rfl NP_pos (D := delP c T pool b ck s) (u := 7 * NP)
    (by omega)) $$ [HB HO]
  · isplitl [HB]; · iexact HB
    iexact HO
  iintro ⟨HB, HS, HO⟩
  iapply Hk
  isplitl [HB HS HC]
  · isplitl [HB]; · iexact HB
    isplitl [HS]; · iexact HS
    iexact HC
  iexists _
  iexact HO

theorem wp_await_slab {b ck s : ℕ} (hs : s < 4) (h) (e1 : o1 = ![s]) (h1) {srcw : Memref sig .tc .hbm S128x1024 .f32} {hsrc hdst}
    {k : PUnit → Prog (TpuEff nD τ sig (Elt F) Λ .tc) α} {Q : α → sProp 𝕄} :
    iprop(landing c T pool cs b ck s ∗ owed c)
      ⊢ iprop((iprop(full c T pool cs b ck s ∗ owed c) -∗ wp frame (wpE defs 𝒱 (c : Thread nD τ) bd) Set.univ (k ⟨⟩) Q)
          -∗ wp frame (wpE defs 𝒱 (c : Thread nD τ) bd) Set.univ (.op (.waitDma2 (sm4 o1 h1) srcw (dstC o h) hsrc hdst) k) Q) := by
  have E := sm4_eq hs e1 h1
  generalize sm4 o1 h1 = q at *
  subst E
  unfold full landing owed
  iintro ⟨⟨HB, HS, HC⟩, ⟨%W, HO⟩⟩ Hk
  iapply (Transfers.wp_waitBatchLast (countersEmb (U := Pipeline.UD sig nD τ)) 𝒱 (c : Thread nD τ) bd () (N := NC) rfl NC_pos (D := delC c cs ck s) (u := 0)
    (by omega)) $$ [HC HO]
  · isplitl [HC]; · iexact HC
    iexact HO
  iintro ⟨HC, HT, HO⟩
  ihave HC' := (show bigSep Finset.univ (delC c cs ck s) ⊢ delC c cs ck s 0 from Entails.of_eq (by rw [Finset.univ_unique, BI.bigSep_singleton]; rfl)) $$ HC
  iapply Hk
  isplitl [HB HS HC' HT]
  · isplitl [HB]; · iexact HB
    isplitl [HC']; · iexact HC'
    isplitl [HS]; · iexact HS
    iexact HT
  iexists _
  iexact HO

/-! ## The table's words, and the loads from a filled slot -/

/-- The table as the pipeline lends it: a half of it. -/
def tabled : sProp 𝕄 := iprop((c : Thread nD τ).loc main_arg0 ↦{fullShare.right} (T : Buf (Elt F) ((c : Thread nD τ).loc main_arg0)))

theorem wp_word {b j : ℕ} (hb : b < 128) (hj : j < 128) (e' : o' = ![b, j]) {h hl}
    {k : (S1x1.Idx → BitVec 32) → Prog (TpuEff nD τ sig (Elt F) Λ .tc) α} {Q : α → sProp 𝕄} :
    tabled c T
      ⊢ iprop((tabled c T -∗ wp frame (wpE defs 𝒱 (c : Thread nD τ) bd) Set.univ (k (fun _ => word T b j)) Q)
          -∗ wp frame (wpE defs 𝒱 (c : Thread nD τ) bd) Set.univ
            (.op (.load (p := (c : Thread nD τ).2) mtab (Rect.unit (s := S128x128) o' S1x1.size h).toLoadRect hl) k) Q) := by
  subst e'
  have e : mtab.view.readAt (Elt F) (Rect.unit (s := S128x128) ![b, j] S1x1.size h).toLoadRect (T : Buf (Elt F) ((c : Thread nD τ).loc main_arg0))
      = fun _ => word T b j := by
    funext x
    unfold word
    show T _ = T _
    refine congrArg T ?_
    funext a
    apply Fin.ext
    have hx : ∀ y : S1x1.Idx, (y 0).val = 0 ∧ (y 1).val = 0 := fun y => ⟨by have : (y 0).val < 1 := (y 0).isLt; omega, by have : (y 1).val < 1 := (y 1).isLt; omega⟩
    match a with
    | ⟨0, _⟩ => exact (congrArg (fun n => b + 1 * n) (hx x).1).trans (show b + 1 * 0 = b % 128 by omega)
    | ⟨1, _⟩ => exact (congrArg (fun n => j + 1 * n) (hx x).2).trans (show j + 1 * 0 = j % 128 by omega)
  suffices main : ∀ v : S1x1.Idx → BitVec 32, mtab.view.readAt (Elt F) (Rect.unit (s := S128x128) ![b, j] S1x1.size h).toLoadRect (T : Buf (Elt F) ((c : Thread nD τ).loc main_arg0)) = v →
      (tabled c T ⊢ iprop((tabled c T -∗ wp frame (wpE defs 𝒱 (c : Thread nD τ) bd) Set.univ (k v) Q)
          -∗ wp frame (wpE defs 𝒱 (c : Thread nD τ) bd) Set.univ
            (.op (.load (p := (c : Thread nD τ).2) mtab (Rect.unit (s := S128x128) ![b, j] S1x1.size h).toLoadRect hl) k) Q)) from main _ e
  intro v e
  subst e
  unfold tabled
  iintro H Hk
  iapply (wp_load 𝒱 (c : Thread nD τ) bd Set.univ (m := mtab) (S := Finset.univ) (q := fullShare.right)
    (f := (T : Buf (Elt F) ((c : Thread nD τ).loc main_arg0))) (Finset.subset_univ _)) $$ H
  iintro H
  iapply Hk
  iexact H

theorem chk {v : BitVec 32} (hv : v.toNat < 20480) :
    (576 ∣ (Scalar.muli (Scalar.addi 0#32 v) 576#32).toNat)
      ∧ ∀ a, (![(Scalar.muli (Scalar.addi 0#32 v) 576#32).toNat, 0] : Fin 2 → ℕ) a + S576x128.size a ≤ S11796480x128.size a := by
  have e : (Scalar.muli (Scalar.addi 0#32 v) 576#32).toNat = 576 * v.toNat := by
    simp only [Scalar.muli, Scalar.addi, IntOp.muli, IntOp.addi, BitVec.zero_add, BitVec.toNat_mul, BitVec.toNat_ofNat]
    omega
  rw [e]
  refine ⟨⟨_, rfl⟩, fun a => ?_⟩
  match a with
  | ⟨0, _⟩ => show 576 * v.toNat + 576 ≤ 11796480; omega
  | ⟨1, _⟩ => show 0 + 128 ≤ 128; omega

theorem offP {v : BitVec 32} (hv : v.toNat < 20480) :
    (![(Scalar.muli (Scalar.addi 0#32 v) 576#32).toNat, 0] : Fin 2 → ℕ) = ![576 * v.toNat, 0] := by
  have e : (Scalar.muli (Scalar.addi 0#32 v) 576#32).toNat = 576 * v.toNat := by
    simp only [Scalar.muli, Scalar.addi, IntOp.muli, IntOp.addi, BitVec.zero_add, BitVec.toNat_mul, BitVec.toNat_ofNat]
    omega
  rw [e]

/-- The latent rows of page `p` of chunk `ck`, its rotary rows, and the chunk's angles, as loads read them. -/
def latV (b ck p : ℕ) : Vec F S1x512x128 .f32 := fun y =>
  pool (ix2 (Fin.ofNat 11796480 (576 * (word T b (8 * ck + p)).toNat + (y 1).val)) (y 2))
def ropeV (b ck p : ℕ) : Vec F S1x64x128 .f32 := fun y =>
  pool (ix2 (Fin.ofNat 11796480 (576 * (word T b (8 * ck + p)).toNat + (512 + (y 1).val))) (y 2))
def angV (ck : ℕ) : Vec F S1x128x1024 .f32 := fun y => cs (ix3 (Fin.ofNat 16 ck) (y 1) (y 2))

theorem peel_one {n : ℕ} (D : Fin n → sProp 𝕄) (j : Fin n) :
    bigSep Finset.univ D ⊢ iprop(D j ∗ (D j -∗ bigSep Finset.univ D)) := by
  have hE : bigSep Finset.univ D = iprop(D j ∗ bigSep (Finset.univ.erase j) D) := by
    conv_lhs => rw [← Finset.insert_erase (Finset.mem_univ j)]
    exact BI.bigSep_insert (Finset.notMem_erase j _)
  iintro H
  ihave H' := (show bigSep Finset.univ D ⊢ iprop(D j ∗ bigSep (Finset.univ.erase j) D) from Entails.of_eq hE) $$ H
  icases H' with ⟨H, Hr⟩
  isplitl [H]; · iexact H
  iintro H
  iapply (show iprop(D j ∗ bigSep (Finset.univ.erase j) D) ⊢ bigSep Finset.univ D from Entails.of_eq hE.symm)
  isplitl [H]; · iexact H
  iexact Hr

theorem wp_rows {b ck s p r0 n : ℕ} (hr : r0 + n ≤ 576) (hp : p < 8) (e : o = ![s, 576 * p + r0, 0])
    (h : ∀ a, o a + (⟨3, ![1, n, 128]⟩ : Shape).size a ≤ S4x4608x128.size a) {hl}
    {k : ((⟨3, ![1, n, 128]⟩ : Shape).Idx → Elt F .f32) → Prog (TpuEff nD τ sig (Elt F) Λ .tc) α} {Q : α → sProp 𝕄} :
    full c T pool cs b ck s
      ⊢ iprop((full c T pool cs b ck s -∗ wp frame (wpE defs 𝒱 (c : Thread nD τ) bd) Set.univ
            (k fun y => pool (ix2 (Fin.ofNat 11796480 (576 * (word T b (8 * ck + p)).toNat + (r0 + (y 1).val))) (y 2))) Q)
          -∗ wp frame (wpE defs 𝒱 (c : Thread nD τ) bd) Set.univ
            (.op (.load mbuf (Rect.unit (s := S4x4608x128) o (⟨3, ![1, n, 128]⟩ : Shape).size h).toLoadRect hl) k) Q) := by
  subst e
  unfold full
  iintro ⟨HP, HC, Hs, Ht⟩ Hk
  ihave HP' := (peel_one (delP c T pool b ck s) ⟨p, hp⟩) $$ HP
  icases HP' with ⟨Hp, HP⟩
  ihave Hp' := (show delP c T pool b ck s ⟨p, hp⟩ ⊢ iprop(((bufLoc c) ↦[piece s p]{fullShare} (bufG T pool b ck : Buf (Elt F) (bufLoc c))) ∗ ((poolLoc c) ↦{tokP s p} (pool : Buf (Elt F) (poolLoc c)))) from .rfl) $$ Hp
  icases Hp' with ⟨Hb, Htok⟩
  have hsub : mbuf.view.setOn (Rect.unit (s := S4x4608x128) ![s, 576 * p + r0, 0] (⟨3, ![1, n, 128]⟩ : Shape).size h).toLoadRect.set ⊆ piece s p := by
    intro x hx
    obtain ⟨z, hz, rfl⟩ := Finset.mem_map.mp hx
    have hz := Rect.mem_set_unit.mp hz
    simp only [piece, Finset.mem_filter, Finset.mem_univ, true_and]
    have h0 : s ≤ (z 0).val ∧ (z 0).val < s + 1 := hz 0
    have h1 : 576 * p + r0 ≤ (z 1).val ∧ (z 1).val < 576 * p + r0 + n := hz 1
    constructor
    · show (z 0).val = s; omega
    · show (z 1).val / 576 = p; omega
  iapply (wp_load 𝒱 (c : Thread nD τ) bd Set.univ (m := mbuf) (S := piece s p) (q := fullShare)
    (f := (bufG T pool b ck : Buf (Elt F) (bufLoc c))) hsub) $$ Hb
  iintro Hb
  have e : mbuf.view.readAt (Elt F) (Rect.unit (s := S4x4608x128) ![s, 576 * p + r0, 0] (⟨3, ![1, n, 128]⟩ : Shape).size h).toLoadRect (bufG T pool b ck : Buf (Elt F) (bufLoc c))
      = fun y => pool (ix2 (Fin.ofNat 11796480 (576 * (word T b (8 * ck + p)).toNat + (r0 + (y 1).val))) (y 2)) := by
    funext y
    have h1 : (y 1).val < n := (y 1).isLt
    have hx1 : (((Rect.unit (s := S4x4608x128) ![s, 576 * p + r0, 0] (⟨3, ![1, n, 128]⟩ : Shape).size h).emb y : S4x4608x128.Idx) 1).val = 576 * p + (r0 + (y 1).val) := by
      show 576 * p + r0 + 1 * (y 1).val = _; omega
    show bufG T pool b ck ((Rect.unit (s := S4x4608x128) ![s, 576 * p + r0, 0] (⟨3, ![1, n, 128]⟩ : Shape).size h).emb y) = _
    unfold bufG
    rw [hx1, show (576 * p + (r0 + (y 1).val)) / 576 = p by omega, show (576 * p + (r0 + (y 1).val)) % 576 = r0 + (y 1).val by omega]
    refine congrArg (fun l => pool (ix2 _ l)) (Fin.ext ?_)
    show 0 + 1 * (y 2).val = (y 2).val; omega
  rw [e]
  iapply Hk
  isplitl [HP Hb Htok]
  · iapply HP
    iapply (show iprop(((bufLoc c) ↦[piece s p]{fullShare} (bufG T pool b ck : Buf (Elt F) (bufLoc c))) ∗ ((poolLoc c) ↦{tokP s p} (pool : Buf (Elt F) (poolLoc c)))) ⊢ delP c T pool b ck s ⟨p, hp⟩ from .rfl)
    isplitl [Hb]; · iexact Hb
    iexact Htok
  isplitl [HC]; · iexact HC
  isplitl [Hs]; · iexact Hs
  iexact Ht

theorem wp_lat {b ck s p : ℕ} (hp : p < 8) (e : o = ![s, 576 * p, 0]) {h hl}
    {k : Vec F S1x512x128 .f32 → Prog (TpuEff nD τ sig (Elt F) Λ .tc) α} {Q : α → sProp 𝕄} :
    full c T pool cs b ck s
      ⊢ iprop((full c T pool cs b ck s -∗ wp frame (wpE defs 𝒱 (c : Thread nD τ) bd) Set.univ (k (latV T pool b ck p)) Q)
          -∗ wp frame (wpE defs 𝒱 (c : Thread nD τ) bd) Set.univ
            (.op (.load mbuf (Rect.unit (s := S4x4608x128) o S1x512x128.size h).toLoadRect hl) k) Q) := by
  have := wp_rows c T pool cs 𝒱 bd (defs := defs) (b := b) (ck := ck) (s := s) (r0 := 0) (n := 512) (by omega) hp e h (hl := hl) (k := k) (Q := Q)
  simp only [Nat.zero_add] at this
  exact this

theorem wp_rope {b ck s p : ℕ} (hp : p < 8) (e : o = ![s, 576 * p + 512, 0]) {h hl}
    {k : Vec F S1x64x128 .f32 → Prog (TpuEff nD τ sig (Elt F) Λ .tc) α} {Q : α → sProp 𝕄} :
    full c T pool cs b ck s
      ⊢ iprop((full c T pool cs b ck s -∗ wp frame (wpE defs 𝒱 (c : Thread nD τ) bd) Set.univ (k (ropeV T pool b ck p)) Q)
          -∗ wp frame (wpE defs 𝒱 (c : Thread nD τ) bd) Set.univ
            (.op (.load mbuf (Rect.unit (s := S4x4608x128) o S1x64x128.size h).toLoadRect hl) k) Q) :=
  wp_rows c T pool cs 𝒱 bd (r0 := 512) (n := 64) (by omega) hp e h

theorem wp_ang {b ck s : ℕ} (e : o = ![s, 0, 0]) {h hl}
    {k : Vec F S1x128x1024 .f32 → Prog (TpuEff nD τ sig (Elt F) Λ .tc) α} {Q : α → sProp 𝕄} :
    full c T pool cs b ck s
      ⊢ iprop((full c T pool cs b ck s -∗ wp frame (wpE defs 𝒱 (c : Thread nD τ) bd) Set.univ (k (angV cs ck)) Q)
          -∗ wp frame (wpE defs 𝒱 (c : Thread nD τ) bd) Set.univ
            (.op (.load mcsb (Rect.unit (s := S4x128x1024) o S1x128x1024.size h).toLoadRect hl) k) Q) := by
  subst e
  unfold full
  iintro ⟨HP, HC, Hs, Ht⟩ Hk
  ihave HC' := (show delC c cs ck s 0 ⊢ iprop(((csbLoc c) ↦[slab s]{fullShare} (csG cs ck : Buf (Elt F) (csbLoc c))) ∗ ((cshLoc c) ↦{tokC s} (cs : Buf (Elt F) (cshLoc c)))) from .rfl) $$ HC
  icases HC' with ⟨Hb, Htok⟩
  have hsub : mcsb.view.setOn (Rect.unit (s := S4x128x1024) ![s, 0, 0] S1x128x1024.size h).toLoadRect.set ⊆ slab s := by
    intro x hx
    obtain ⟨z, hz, rfl⟩ := Finset.mem_map.mp hx
    have hz := Rect.mem_set_unit.mp hz
    simp only [slab, Finset.mem_filter, Finset.mem_univ, true_and]
    have h0 : s ≤ (z 0).val ∧ (z 0).val < s + 1 := hz 0
    show (z 0).val = s; omega
  iapply (wp_load 𝒱 (c : Thread nD τ) bd Set.univ (m := mcsb) (S := slab s) (q := fullShare)
    (f := (csG cs ck : Buf (Elt F) (csbLoc c))) hsub) $$ Hb
  iintro Hb
  have e : mcsb.view.readAt (Elt F) (Rect.unit (s := S4x128x1024) ![s, 0, 0] S1x128x1024.size h).toLoadRect (csG cs ck : Buf (Elt F) (csbLoc c)) = angV cs ck := by
    funext y
    show cs (ix3 _ _ _) = cs (ix3 _ _ _)
    refine congrArg cs ?_
    congr 1
    · exact Fin.ext (show 0 + 1 * (y 1).val = (y 1).val by omega)
    · exact Fin.ext (show 0 + 1 * (y 2).val = (y 2).val by omega)
  rw [e]
  iapply Hk
  isplitl [HP]; · iexact HP
  isplitl [Hb Htok]
  · iapply (show iprop(((csbLoc c) ↦[slab s]{fullShare} (csG cs ck : Buf (Elt F) (csbLoc c))) ∗ ((cshLoc c) ↦{tokC s} (cs : Buf (Elt F) (cshLoc c)))) ⊢ delC c cs ck s 0 from .rfl)
    isplitl [Hb]; · iexact Hb
    iexact Htok
  isplitl [Hs]; · iexact Hs
  iexact Ht

end Kernel

end Rules

end Cert.MlaIdeal.Spec

end
-- ==== Proof.MlaOffsets.lean ====
/-
  The positions the latent attention kernel computes: the table's words, the ring's pages and slabs of a trip, and when
  it primes the ring.
-/
module

public import proofs.«01_k».proof.Proof.MlaRing

@[expose] public section

set_option maxRecDepth 16384

namespace Cert.MlaIdeal.Spec

open Cert.MlaIdeal Cert.MlaIdeal.Gen Idealize.ShloMosaic

theorem row {n j m : ℕ} (hn : n < 128) (h : m = j) : (![(Scalar.indexCast (BitVec.ofNat 32 n)).toNat, m] : Fin 2 → ℕ) = ![n, j] := by
  subst h
  have e : (Scalar.indexCast (BitVec.ofNat 32 n)).toNat = n := by
    show (BitVec.ofNat 32 n).toNat = n
    rw [BitVec.toNat_ofNat]; omega
  rw [e]

theorem row_next {n j m : ℕ} (hn : n < 128) (h : m = j) :
    (![(Scalar.indexCast (Scalar.addi (BitVec.ofNat 32 n) 1#32)).toNat, m] : Fin 2 → ℕ) = ![n + 1, j] := by
  subst h
  have e : (Scalar.indexCast (Scalar.addi (BitVec.ofNat 32 n) 1#32)).toNat = n + 1 := by
    show (BitVec.ofNat 32 n + 1#32).toNat = n + 1
    rw [BitVec.toNat_add, BitVec.toNat_ofNat, BitVec.toNat_ofNat]; omega
  rw [e]

theorem first_iff {n : ℕ} (hn : n < 128) : Scalar.cmpi .ne (Scalar.extui (Scalar.cmpi .eq (BitVec.ofNat 32 n) 0#32) : BitVec 32) 0#32 = 1#1 ↔ n = 0 :=
  (by decide +kernel : ∀ n : Fin 128, Scalar.cmpi .ne (Scalar.extui (Scalar.cmpi .eq (BitVec.ofNat 32 n.val) 0#32) : BitVec 32) 0#32 = 1#1 ↔ n.val = 0) ⟨n, hn⟩

theorem next_iff {n : ℕ} (hn : n < 128) :
    Scalar.cmpi .ne (Scalar.extui (Scalar.cmpi .slt (Scalar.addi (BitVec.ofNat 32 n) 1#32) 128#32) : BitVec 32) 0#32 = 1#1 ↔ n + 1 < 128 :=
  (by decide +kernel : ∀ n : Fin 128, Scalar.cmpi .ne (Scalar.extui (Scalar.cmpi .slt (Scalar.addi (BitVec.ofNat 32 n.val) 1#32) 128#32) : BitVec 32) 0#32 = 1#1 ↔ n.val + 1 < 128) ⟨n, hn⟩

variable (i : grid0.Coords) (k : Fin k0_t1_loop.trips)

/-- The first point's coordinates. -/
abbrev zero : grid0.Coords := fun a => ⟨0, by revert a; decide⟩

theorem lt128 : (i 0).val < 128 := (i 0).isLt
theorem cond2_iff : k0_cond2 i = 1#1 ↔ (i 0).val = 0 := first_iff (lt128 i)
theorem cond4_iff : k0_cond4 i = 1#1 ↔ (i 0).val + 1 < 128 := next_iff (lt128 i)
theorem cond3_iff : k0_cond3 k = 1#1 ↔ k.val + 3 < 16 :=
  (by decide +kernel : ∀ k : Fin k0_t1_loop.trips, k0_cond3 k = 1#1 ↔ k.val + 3 < 16) k
theorem lt16 : k.val < 16 := (by decide +kernel : ∀ k : Fin k0_t1_loop.trips, k.val < 16) k

theorem off1 : k0_off1 i = ![(i 0).val, 0] := row (lt128 i) rfl
theorem off2 : k0_off2 i = ![(i 0).val, 1] := row (lt128 i) rfl
theorem off3 : k0_off3 i = ![(i 0).val, 2] := row (lt128 i) rfl
theorem off4 : k0_off4 i = ![(i 0).val, 3] := row (lt128 i) rfl
theorem off5 : k0_off5 i = ![(i 0).val, 4] := row (lt128 i) rfl
theorem off6 : k0_off6 i = ![(i 0).val, 5] := row (lt128 i) rfl
theorem off7 : k0_off7 i = ![(i 0).val, 6] := row (lt128 i) rfl
theorem off8 : k0_off8 i = ![(i 0).val, 7] := row (lt128 i) rfl
theorem off17 : k0_off17 i = ![(i 0).val, 8] := row (lt128 i) rfl
theorem off18 : k0_off18 i = ![(i 0).val, 9] := row (lt128 i) rfl
theorem off19 : k0_off19 i = ![(i 0).val, 10] := row (lt128 i) rfl
theorem off20 : k0_off20 i = ![(i 0).val, 11] := row (lt128 i) rfl
theorem off21 : k0_off21 i = ![(i 0).val, 12] := row (lt128 i) rfl
theorem off22 : k0_off22 i = ![(i 0).val, 13] := row (lt128 i) rfl
theorem off23 : k0_off23 i = ![(i 0).val, 14] := row (lt128 i) rfl
theorem off24 : k0_off24 i = ![(i 0).val, 15] := row (lt128 i) rfl
theorem off33 : k0_off33 i = ![(i 0).val, 16] := row (lt128 i) rfl
theorem off34 : k0_off34 i = ![(i 0).val, 17] := row (lt128 i) rfl
theorem off35 : k0_off35 i = ![(i 0).val, 18] := row (lt128 i) rfl
theorem off36 : k0_off36 i = ![(i 0).val, 19] := row (lt128 i) rfl
theorem off37 : k0_off37 i = ![(i 0).val, 20] := row (lt128 i) rfl
theorem off38 : k0_off38 i = ![(i 0).val, 21] := row (lt128 i) rfl
theorem off39 : k0_off39 i = ![(i 0).val, 22] := row (lt128 i) rfl
theorem off40 : k0_off40 i = ![(i 0).val, 23] := row (lt128 i) rfl
theorem off120 : k0_off120 i = ![(i 0).val + 1, 0] := row_next (lt128 i) rfl
theorem off121 : k0_off121 i = ![(i 0).val + 1, 1] := row_next (lt128 i) rfl
theorem off122 : k0_off122 i = ![(i 0).val + 1, 2] := row_next (lt128 i) rfl
theorem off123 : k0_off123 i = ![(i 0).val + 1, 3] := row_next (lt128 i) rfl
theorem off124 : k0_off124 i = ![(i 0).val + 1, 4] := row_next (lt128 i) rfl
theorem off125 : k0_off125 i = ![(i 0).val + 1, 5] := row_next (lt128 i) rfl
theorem off126 : k0_off126 i = ![(i 0).val + 1, 6] := row_next (lt128 i) rfl
theorem off127 : k0_off127 i = ![(i 0).val + 1, 7] := row_next (lt128 i) rfl
theorem off136 : k0_off136 i = ![(i 0).val + 1, 8] := row_next (lt128 i) rfl
theorem off137 : k0_off137 i = ![(i 0).val + 1, 9] := row_next (lt128 i) rfl
theorem off138 : k0_off138 i = ![(i 0).val + 1, 10] := row_next (lt128 i) rfl
theorem off139 : k0_off139 i = ![(i 0).val + 1, 11] := row_next (lt128 i) rfl
theorem off140 : k0_off140 i = ![(i 0).val + 1, 12] := row_next (lt128 i) rfl
theorem off141 : k0_off141 i = ![(i 0).val + 1, 13] := row_next (lt128 i) rfl
theorem off142 : k0_off142 i = ![(i 0).val + 1, 14] := row_next (lt128 i) rfl
theorem off143 : k0_off143 i = ![(i 0).val + 1, 15] := row_next (lt128 i) rfl
theorem off152 : k0_off152 i = ![(i 0).val + 1, 16] := row_next (lt128 i) rfl
theorem off153 : k0_off153 i = ![(i 0).val + 1, 17] := row_next (lt128 i) rfl
theorem off154 : k0_off154 i = ![(i 0).val + 1, 18] := row_next (lt128 i) rfl
theorem off155 : k0_off155 i = ![(i 0).val + 1, 19] := row_next (lt128 i) rfl
theorem off156 : k0_off156 i = ![(i 0).val + 1, 20] := row_next (lt128 i) rfl
theorem off157 : k0_off157 i = ![(i 0).val + 1, 21] := row_next (lt128 i) rfl
theorem off158 : k0_off158 i = ![(i 0).val + 1, 22] := row_next (lt128 i) rfl
theorem off159 : k0_off159 i = ![(i 0).val + 1, 23] := row_next (lt128 i) rfl
theorem off49 : k0_off49 i k = ![(i 0).val, 8 * k.val + 0] :=
  row (lt128 i) ((by decide +kernel : ∀ k : Fin k0_t1_loop.trips, (k0_off49 zero k) 1 = 8 * k.val + 0) k)
theorem off50 : k0_off50 i k = ![(i 0).val, 8 * k.val + 1] :=
  row (lt128 i) ((by decide +kernel : ∀ k : Fin k0_t1_loop.trips, (k0_off50 zero k) 1 = 8 * k.val + 1) k)
theorem off51 : k0_off51 i k = ![(i 0).val, 8 * k.val + 2] :=
  row (lt128 i) ((by decide +kernel : ∀ k : Fin k0_t1_loop.trips, (k0_off51 zero k) 1 = 8 * k.val + 2) k)
theorem off52 : k0_off52 i k = ![(i 0).val, 8 * k.val + 3] :=
  row (lt128 i) ((by decide +kernel : ∀ k : Fin k0_t1_loop.trips, (k0_off52 zero k) 1 = 8 * k.val + 3) k)
theorem off53 : k0_off53 i k = ![(i 0).val, 8 * k.val + 4] :=
  row (lt128 i) ((by decide +kernel : ∀ k : Fin k0_t1_loop.trips, (k0_off53 zero k) 1 = 8 * k.val + 4) k)
theorem off54 : k0_off54 i k = ![(i 0).val, 8 * k.val + 5] :=
  row (lt128 i) ((by decide +kernel : ∀ k : Fin k0_t1_loop.trips, (k0_off54 zero k) 1 = 8 * k.val + 5) k)
theorem off55 : k0_off55 i k = ![(i 0).val, 8 * k.val + 6] :=
  row (lt128 i) ((by decide +kernel : ∀ k : Fin k0_t1_loop.trips, (k0_off55 zero k) 1 = 8 * k.val + 6) k)
theorem off56 : k0_off56 i k = ![(i 0).val, 8 * k.val + 7] :=
  row (lt128 i) ((by decide +kernel : ∀ k : Fin k0_t1_loop.trips, (k0_off56 zero k) 1 = 8 * k.val + 7) k)
theorem off76 : k0_off76 i k = ![(i 0).val, 8 * (k.val + 3) + 0] :=
  row (lt128 i) ((by decide +kernel : ∀ k : Fin k0_t1_loop.trips, (k0_off76 zero k) 1 = 8 * (k.val + 3) + 0) k)
theorem off77 : k0_off77 i k = ![(i 0).val, 8 * (k.val + 3) + 1] :=
  row (lt128 i) ((by decide +kernel : ∀ k : Fin k0_t1_loop.trips, (k0_off77 zero k) 1 = 8 * (k.val + 3) + 1) k)
theorem off78 : k0_off78 i k = ![(i 0).val, 8 * (k.val + 3) + 2] :=
  row (lt128 i) ((by decide +kernel : ∀ k : Fin k0_t1_loop.trips, (k0_off78 zero k) 1 = 8 * (k.val + 3) + 2) k)
theorem off79 : k0_off79 i k = ![(i 0).val, 8 * (k.val + 3) + 3] :=
  row (lt128 i) ((by decide +kernel : ∀ k : Fin k0_t1_loop.trips, (k0_off79 zero k) 1 = 8 * (k.val + 3) + 3) k)
theorem off80 : k0_off80 i k = ![(i 0).val, 8 * (k.val + 3) + 4] :=
  row (lt128 i) ((by decide +kernel : ∀ k : Fin k0_t1_loop.trips, (k0_off80 zero k) 1 = 8 * (k.val + 3) + 4) k)
theorem off81 : k0_off81 i k = ![(i 0).val, 8 * (k.val + 3) + 5] :=
  row (lt128 i) ((by decide +kernel : ∀ k : Fin k0_t1_loop.trips, (k0_off81 zero k) 1 = 8 * (k.val + 3) + 5) k)
theorem off82 : k0_off82 i k = ![(i 0).val, 8 * (k.val + 3) + 6] :=
  row (lt128 i) ((by decide +kernel : ∀ k : Fin k0_t1_loop.trips, (k0_off82 zero k) 1 = 8 * (k.val + 3) + 6) k)
theorem off83 : k0_off83 i k = ![(i 0).val, 8 * (k.val + 3) + 7] :=
  row (lt128 i) ((by decide +kernel : ∀ k : Fin k0_t1_loop.trips, (k0_off83 zero k) 1 = 8 * (k.val + 3) + 7) k)
theorem off57 : k0_off57 k = ![k.val % 4] := (by decide +kernel : ∀ k : Fin k0_t1_loop.trips, k0_off57 k = ![k.val % 4]) k
theorem off58 : k0_off58 k = ![k.val % 4, 576 * 0, 0] := (by decide +kernel : ∀ k : Fin k0_t1_loop.trips, k0_off58 k = ![k.val % 4, 576 * 0, 0]) k
theorem off60 : k0_off60 k = ![k.val % 4, 576 * 1, 0] := (by decide +kernel : ∀ k : Fin k0_t1_loop.trips, k0_off60 k = ![k.val % 4, 576 * 1, 0]) k
theorem off62 : k0_off62 k = ![k.val % 4, 576 * 2, 0] := (by decide +kernel : ∀ k : Fin k0_t1_loop.trips, k0_off62 k = ![k.val % 4, 576 * 2, 0]) k
theorem off64 : k0_off64 k = ![k.val % 4, 576 * 3, 0] := (by decide +kernel : ∀ k : Fin k0_t1_loop.trips, k0_off64 k = ![k.val % 4, 576 * 3, 0]) k
theorem off66 : k0_off66 k = ![k.val % 4, 576 * 4, 0] := (by decide +kernel : ∀ k : Fin k0_t1_loop.trips, k0_off66 k = ![k.val % 4, 576 * 4, 0]) k
theorem off68 : k0_off68 k = ![k.val % 4, 576 * 5, 0] := (by decide +kernel : ∀ k : Fin k0_t1_loop.trips, k0_off68 k = ![k.val % 4, 576 * 5, 0]) k
theorem off70 : k0_off70 k = ![k.val % 4, 576 * 6, 0] := (by decide +kernel : ∀ k : Fin k0_t1_loop.trips, k0_off70 k = ![k.val % 4, 576 * 6, 0]) k
theorem off72 : k0_off72 k = ![k.val % 4, 576 * 7, 0] := (by decide +kernel : ∀ k : Fin k0_t1_loop.trips, k0_off72 k = ![k.val % 4, 576 * 7, 0]) k
theorem off74 : k0_off74 k = ![k.val % 4, 0, 0] := (by decide +kernel : ∀ k : Fin k0_t1_loop.trips, k0_off74 k = ![k.val % 4, 0, 0]) k
theorem off84 : k0_off84 k = ![(k.val + 3) % 4] := (by decide +kernel : ∀ k : Fin k0_t1_loop.trips, k0_off84 k = ![(k.val + 3) % 4]) k
theorem off85 : k0_off85 k = ![(k.val + 3) % 4, 576 * 0, 0] := (by decide +kernel : ∀ k : Fin k0_t1_loop.trips, k0_off85 k = ![(k.val + 3) % 4, 576 * 0, 0]) k
theorem off87 : k0_off87 k = ![(k.val + 3) % 4, 576 * 1, 0] := (by decide +kernel : ∀ k : Fin k0_t1_loop.trips, k0_off87 k = ![(k.val + 3) % 4, 576 * 1, 0]) k
theorem off89 : k0_off89 k = ![(k.val + 3) % 4, 576 * 2, 0] := (by decide +kernel : ∀ k : Fin k0_t1_loop.trips, k0_off89 k = ![(k.val + 3) % 4, 576 * 2, 0]) k
theorem off91 : k0_off91 k = ![(k.val + 3) % 4, 576 * 3, 0] := (by decide +kernel : ∀ k : Fin k0_t1_loop.trips, k0_off91 k = ![(k.val + 3) % 4, 576 * 3, 0]) k
theorem off93 : k0_off93 k = ![(k.val + 3) % 4, 576 * 4, 0] := (by decide +kernel : ∀ k : Fin k0_t1_loop.trips, k0_off93 k = ![(k.val + 3) % 4, 576 * 4, 0]) k
theorem off95 : k0_off95 k = ![(k.val + 3) % 4, 576 * 5, 0] := (by decide +kernel : ∀ k : Fin k0_t1_loop.trips, k0_off95 k = ![(k.val + 3) % 4, 576 * 5, 0]) k
theorem off97 : k0_off97 k = ![(k.val + 3) % 4, 576 * 6, 0] := (by decide +kernel : ∀ k : Fin k0_t1_loop.trips, k0_off97 k = ![(k.val + 3) % 4, 576 * 6, 0]) k
theorem off99 : k0_off99 k = ![(k.val + 3) % 4, 576 * 7, 0] := (by decide +kernel : ∀ k : Fin k0_t1_loop.trips, k0_off99 k = ![(k.val + 3) % 4, 576 * 7, 0]) k
theorem off101 : k0_off101 k = ![(k.val + 3) % 4, 0, 0] := (by decide +kernel : ∀ k : Fin k0_t1_loop.trips, k0_off101 k = ![(k.val + 3) % 4, 0, 0]) k
theorem off102 : k0_off102 k = ![k.val + 3, 0, 0] := (by decide +kernel : ∀ k : Fin k0_t1_loop.trips, k0_off102 k = ![k.val + 3, 0, 0]) k
theorem off103 : k0_off103 k = ![k.val % 4, 576 * 0, 0] := (by decide +kernel : ∀ k : Fin k0_t1_loop.trips, k0_off103 k = ![k.val % 4, 576 * 0, 0]) k
theorem off104 : k0_off104 k = ![k.val % 4, 576 * 1, 0] := (by decide +kernel : ∀ k : Fin k0_t1_loop.trips, k0_off104 k = ![k.val % 4, 576 * 1, 0]) k
theorem off105 : k0_off105 k = ![k.val % 4, 576 * 2, 0] := (by decide +kernel : ∀ k : Fin k0_t1_loop.trips, k0_off105 k = ![k.val % 4, 576 * 2, 0]) k
theorem off106 : k0_off106 k = ![k.val % 4, 576 * 3, 0] := (by decide +kernel : ∀ k : Fin k0_t1_loop.trips, k0_off106 k = ![k.val % 4, 576 * 3, 0]) k
theorem off107 : k0_off107 k = ![k.val % 4, 576 * 4, 0] := (by decide +kernel : ∀ k : Fin k0_t1_loop.trips, k0_off107 k = ![k.val % 4, 576 * 4, 0]) k
theorem off108 : k0_off108 k = ![k.val % 4, 576 * 5, 0] := (by decide +kernel : ∀ k : Fin k0_t1_loop.trips, k0_off108 k = ![k.val % 4, 576 * 5, 0]) k
theorem off109 : k0_off109 k = ![k.val % 4, 576 * 6, 0] := (by decide +kernel : ∀ k : Fin k0_t1_loop.trips, k0_off109 k = ![k.val % 4, 576 * 6, 0]) k
theorem off110 : k0_off110 k = ![k.val % 4, 576 * 7, 0] := (by decide +kernel : ∀ k : Fin k0_t1_loop.trips, k0_off110 k = ![k.val % 4, 576 * 7, 0]) k
theorem off111 : k0_off111 k = ![k.val % 4, 576 * 0 + 512, 0] := (by decide +kernel : ∀ k : Fin k0_t1_loop.trips, k0_off111 k = ![k.val % 4, 576 * 0 + 512, 0]) k
theorem off112 : k0_off112 k = ![k.val % 4, 576 * 1 + 512, 0] := (by decide +kernel : ∀ k : Fin k0_t1_loop.trips, k0_off112 k = ![k.val % 4, 576 * 1 + 512, 0]) k
theorem off113 : k0_off113 k = ![k.val % 4, 576 * 2 + 512, 0] := (by decide +kernel : ∀ k : Fin k0_t1_loop.trips, k0_off113 k = ![k.val % 4, 576 * 2 + 512, 0]) k
theorem off114 : k0_off114 k = ![k.val % 4, 576 * 3 + 512, 0] := (by decide +kernel : ∀ k : Fin k0_t1_loop.trips, k0_off114 k = ![k.val % 4, 576 * 3 + 512, 0]) k
theorem off115 : k0_off115 k = ![k.val % 4, 576 * 4 + 512, 0] := (by decide +kernel : ∀ k : Fin k0_t1_loop.trips, k0_off115 k = ![k.val % 4, 576 * 4 + 512, 0]) k
theorem off116 : k0_off116 k = ![k.val % 4, 576 * 5 + 512, 0] := (by decide +kernel : ∀ k : Fin k0_t1_loop.trips, k0_off116 k = ![k.val % 4, 576 * 5 + 512, 0]) k
theorem off117 : k0_off117 k = ![k.val % 4, 576 * 6 + 512, 0] := (by decide +kernel : ∀ k : Fin k0_t1_loop.trips, k0_off117 k = ![k.val % 4, 576 * 6 + 512, 0]) k
theorem off118 : k0_off118 k = ![k.val % 4, 576 * 7 + 512, 0] := (by decide +kernel : ∀ k : Fin k0_t1_loop.trips, k0_off118 k = ![k.val % 4, 576 * 7 + 512, 0]) k
theorem off119 : k0_off119 k = ![k.val % 4, 0, 0] := (by decide +kernel : ∀ k : Fin k0_t1_loop.trips, k0_off119 k = ![k.val % 4, 0, 0]) k

end Cert.MlaIdeal.Spec

end
-- ==== Proof.MlaParts.lean ====
/-
  The pieces of the latent attention kernel that read the page table and start the ring's transfers.
-/
module

public import proofs.«01_k».proof.Proof.MlaOffsets

@[expose] public section

set_option maxRecDepth 16384
set_option maxHeartbeats 4000000

noncomputable section

namespace Cert.MlaIdeal.Spec

open Cert.MlaIdeal Cert.MlaIdeal.Gen Cert.Softmax
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (T : Table) (pool : S11796480x128.Idx → Elt F .f32) (cs : S16x128x1024.Idx → Elt F .f32)
variable (hT : ∀ x, (T x).toNat < 20480)
variable {defs : Defs nD τ sig (Elt F) Λ₀} (𝒱 : Variants) (bd : Option 𝒱.V) {α : Type}
variable (i : grid0.Coords) (k : Fin k0_t1_loop.trips)
  (h1 : mtab.IsWhole) (m2 : Memref sig .tc .vmem S1x64x640 .bf16) (h2 : m2.IsWhole) (m3 : Memref sig .tc .vmem S1x576x128 .f32) (h3 : m3.IsWhole)
  (m4 : Memref sig .tc .vmem S128x128 .f32) (h4 : m4.IsWhole) (m5 : Memref sig .tc .vmem S64x128 .i32) (h5 : m5.IsWhole)
  (m6 : Memref sig .tc .vmem S1536x512 .bf16) (h6 : m6.IsWhole) (h7 : mcsh.IsWhole) (h8 : mpool.IsWhole)
  (m9 : Memref sig .tc .vmem S1x64x512 .f32) (h9 : m9.IsWhole) (h10 : mbuf.IsWhole) (h11 : mcsb.IsWhole) (h12 : mlhs.IsWhole)

include hT

/-! ## The first chunks of the first sequence -/

theorem part1 {K} {Q : α → sProp 𝕄} (arg0 : BitVec 32) (k0_h2 : k0_cond2 i = 1#1) :
    tabled (F := F) c T
      ⊢ iprop((∀ u1 u3 u5 u7 u9 u11 u13 u14, (tabled (F := F) c T) -∗ wp frame (wpE defs 𝒱 (c : Thread nD τ) bd) Set.univ (K ⟨(word T (i 0).val (8 * 0 + 0)), u1, (word T (i 0).val (8 * 0 + 1)), u3, (word T (i 0).val (8 * 0 + 2)), u5, (word T (i 0).val (8 * 0 + 3)), u7, (word T (i 0).val (8 * 0 + 4)), u9, (word T (i 0).val (8 * 0 + 5)), u11, (word T (i 0).val (8 * 0 + 6)), u13, u14⟩) Q)
          -∗ wp frame (wpE defs 𝒱 (c : Thread nD τ) bd) Set.univ ((k0_part1 (F := F) i mtab h1 m2 h2 m3 h3 m4 h4 m5 h5 m6 h6 mcsh h7 mpool h8 m9 h9 mbuf h10 mcsb h11 mlhs h12 cc0_scratch3 cc0_scratch4 arg0 k0_h2).bind K) Q) := by
  rw [k0_part1_eq_skeleton]
  unfold k0_part1_skel
  iintro H Hk
  iapply (wp_word c T 𝒱 bd (b := (i 0).val) (j := 8 * 0 + 0) (lt128 i) (by omega) (off1 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 0 + 1) (lt128 i) (by omega) (off2 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 0 + 2) (lt128 i) (by omega) (off3 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 0 + 3) (lt128 i) (by omega) (off4 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 0 + 4) (lt128 i) (by omega) (off5 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 0 + 5) (lt128 i) (by omega) (off6 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 0 + 6) (lt128 i) (by omega) (off7 i)) $$ H
  iintro H
  iapply (wp_assume 𝒱 (c : Thread nD τ) bd Set.univ ⟨fun _ => (chk (hT _)).1, fun _ => (chk (hT _)).2⟩)
  dsimp only [Prog.bind, Pure.pure, Prog.lift]
  iapply Hk
  iexact H

theorem part2 {K} {Q : α → sProp 𝕄} (arg0 : BitVec 32) (k0_h2 : k0_cond2 i = 1#1) (k0_hw1 : k0_chk1 i (word T (i 0).val (8 * 0 + 0))) (k0_hw2 : k0_chk2 i (word T (i 0).val (8 * 0 + 1))) (k0_hw3 : k0_chk3 i (word T (i 0).val (8 * 0 + 2))) (k0_hw4 : k0_chk4 i (word T (i 0).val (8 * 0 + 3))) (v121 : BitVec 32) :
    iprop(tabled (F := F) c T ∗ idle c pool cs 0)
      ⊢ iprop((∀ u1, (tabled (F := F) c T ∗ issuing c T pool cs (i 0).val 0 0 4) -∗ wp frame (wpE defs 𝒱 (c : Thread nD τ) bd) Set.univ (K ⟨(word T (i 0).val (8 * 0 + 7)), u1⟩) Q)
          -∗ wp frame (wpE defs 𝒱 (c : Thread nD τ) bd) Set.univ ((k0_part2 (F := F) i mtab h1 m2 h2 m3 h3 m4 h4 m5 h5 m6 h6 mcsh h7 mpool h8 m9 h9 mbuf h10 mcsb h11 mlhs h12 cc0_scratch3 cc0_scratch4 arg0 k0_h2 (word T (i 0).val (8 * 0 + 0)) k0_hw1 (word T (i 0).val (8 * 0 + 1)) k0_hw2 (word T (i 0).val (8 * 0 + 2)) k0_hw3 (word T (i 0).val (8 * 0 + 3)) k0_hw4 v121).bind K) Q) := by
  rw [k0_part2_eq_skeleton]
  unfold k0_part2_skel
  iintro ⟨H, HR⟩ Hk
  iapply (wp_word c T 𝒱 bd (b := (i 0).val) (j := 8 * 0 + 7) (lt128 i) (by omega) (off8 i)) $$ H
  iintro H
  iapply (wp_assume 𝒱 (c : Thread nD τ) bd Set.univ ⟨fun _ => (chk (hT _)).1, fun _ => (chk (hT _)).2⟩)
  imod (start c T pool cs (i 0).val 0 0) $$ HR with HR
  iapply (wp_page c T pool cs 𝒱 bd (b := (i 0).val) (ck := 0) (s := 0) (p := 0) (by decide) (by decide) (hT _) rfl _ (offP (hT _)) _ rfl _) $$ HR
  iintro HR
  iapply (wp_page c T pool cs 𝒱 bd (b := (i 0).val) (ck := 0) (s := 0) (p := 1) (by decide) (by decide) (hT _) rfl _ (offP (hT _)) _ rfl _) $$ HR
  iintro HR
  iapply (wp_page c T pool cs 𝒱 bd (b := (i 0).val) (ck := 0) (s := 0) (p := 2) (by decide) (by decide) (hT _) rfl _ (offP (hT _)) _ rfl _) $$ HR
  iintro HR
  iapply (wp_page c T pool cs 𝒱 bd (b := (i 0).val) (ck := 0) (s := 0) (p := 3) (by decide) (by decide) (hT _) rfl _ (offP (hT _)) _ rfl _) $$ HR
  iintro HR
  dsimp only [Prog.bind, Pure.pure, Prog.lift]
  iapply Hk
  isplitl [H]; · iexact H
  iexact HR

theorem part3 {K} {Q : α → sProp 𝕄} (arg0 : BitVec 32) (k0_h2 : k0_cond2 i = 1#1) (k0_hw5 : k0_chk5 i (word T (i 0).val (8 * 0 + 4))) (k0_hw6 : k0_chk6 i (word T (i 0).val (8 * 0 + 5))) (k0_hw7 : k0_chk7 i (word T (i 0).val (8 * 0 + 6))) (k0_hw8 : k0_chk8 i (word T (i 0).val (8 * 0 + 7))) :
    iprop(tabled (F := F) c T ∗ issuing c T pool cs (i 0).val 0 0 4)
      ⊢ iprop((∀ u1 u2, (tabled (F := F) c T ∗ flying c T pool cs (i 0).val 0 0 0) -∗ wp frame (wpE defs 𝒱 (c : Thread nD τ) bd) Set.univ (K ⟨(word T (i 0).val (8 * 1 + 0)), u1, u2⟩) Q)
          -∗ wp frame (wpE defs 𝒱 (c : Thread nD τ) bd) Set.univ ((k0_part3 (F := F) i mtab h1 m2 h2 m3 h3 m4 h4 m5 h5 m6 h6 mcsh h7 mpool h8 m9 h9 mbuf h10 mcsb h11 mlhs h12 cc0_scratch3 cc0_scratch4 arg0 k0_h2 (word T (i 0).val (8 * 0 + 4)) k0_hw5 (word T (i 0).val (8 * 0 + 5)) k0_hw6 (word T (i 0).val (8 * 0 + 6)) k0_hw7 (word T (i 0).val (8 * 0 + 7)) k0_hw8).bind K) Q) := by
  rw [k0_part3_eq_skeleton]
  unfold k0_part3_skel
  iintro ⟨H, HR⟩ Hk
  iapply (wp_page c T pool cs 𝒱 bd (b := (i 0).val) (ck := 0) (s := 0) (p := 4) (by decide) (by decide) (hT _) rfl _ (offP (hT _)) _ rfl _) $$ HR
  iintro HR
  iapply (wp_page c T pool cs 𝒱 bd (b := (i 0).val) (ck := 0) (s := 0) (p := 5) (by decide) (by decide) (hT _) rfl _ (offP (hT _)) _ rfl _) $$ HR
  iintro HR
  iapply (wp_page c T pool cs 𝒱 bd (b := (i 0).val) (ck := 0) (s := 0) (p := 6) (by decide) (by decide) (hT _) rfl _ (offP (hT _)) _ rfl _) $$ HR
  iintro HR
  iapply (wp_page c T pool cs 𝒱 bd (b := (i 0).val) (ck := 0) (s := 0) (p := 7) (by decide) (by decide) (hT _) rfl _ (offP (hT _)) _ rfl _) $$ HR
  iintro HR
  iapply (wp_slab c T pool cs 𝒱 bd (b := (i 0).val) (ck := 0) (s := 0) (by decide) (by decide) rfl _ rfl _ rfl _) $$ HR
  iintro HR
  iapply (wp_word c T 𝒱 bd (b := (i 0).val) (j := 8 * 1 + 0) (lt128 i) (by omega) (off17 i)) $$ H
  iintro H
  iapply (wp_assume 𝒱 (c : Thread nD τ) bd Set.univ ⟨fun _ => (chk (hT _)).1, fun _ => (chk (hT _)).2⟩)
  dsimp only [Prog.bind, Pure.pure, Prog.lift]
  iapply Hk
  isplitl [H]; · iexact H
  iexact HR

theorem part4 {K} {Q : α → sProp 𝕄} (arg0 : BitVec 32) (k0_h2 : k0_cond2 i = 1#1) (v177 : BitVec 32) :
    tabled (F := F) c T
      ⊢ iprop((∀ u1 u3 u5 u7 u9 u11, (tabled (F := F) c T) -∗ wp frame (wpE defs 𝒱 (c : Thread nD τ) bd) Set.univ (K ⟨(word T (i 0).val (8 * 1 + 1)), u1, (word T (i 0).val (8 * 1 + 2)), u3, (word T (i 0).val (8 * 1 + 3)), u5, (word T (i 0).val (8 * 1 + 4)), u7, (word T (i 0).val (8 * 1 + 5)), u9, (word T (i 0).val (8 * 1 + 6)), u11, (word T (i 0).val (8 * 1 + 7))⟩) Q)
          -∗ wp frame (wpE defs 𝒱 (c : Thread nD τ) bd) Set.univ ((k0_part4 (F := F) i mtab h1 m2 h2 m3 h3 m4 h4 m5 h5 m6 h6 mcsh h7 mpool h8 m9 h9 mbuf h10 mcsb h11 mlhs h12 cc0_scratch3 cc0_scratch4 arg0 k0_h2 v177).bind K) Q) := by
  rw [k0_part4_eq_skeleton]
  unfold k0_part4_skel
  iintro H Hk
  iapply (wp_word c T 𝒱 bd (b := (i 0).val) (j := 8 * 1 + 1) (lt128 i) (by omega) (off18 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 1 + 2) (lt128 i) (by omega) (off19 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 1 + 3) (lt128 i) (by omega) (off20 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 1 + 4) (lt128 i) (by omega) (off21 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 1 + 5) (lt128 i) (by omega) (off22 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 1 + 6) (lt128 i) (by omega) (off23 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 1 + 7) (lt128 i) (by omega) (off24 i)) $$ H
  iintro H
  dsimp only [Prog.bind, Pure.pure, Prog.lift]
  iapply Hk
  iexact H

theorem part5 {K} {Q : α → sProp 𝕄} (k0_h2 : k0_cond2 i = 1#1) (k0_hw9 : k0_chk9 i (word T (i 0).val (8 * 1 + 0))) (k0_hw10 : k0_chk10 i (word T (i 0).val (8 * 1 + 1))) (k0_hw11 : k0_chk11 i (word T (i 0).val (8 * 1 + 2))) (k0_hw12 : k0_chk12 i (word T (i 0).val (8 * 1 + 3))) (k0_hw13 : k0_chk13 i (word T (i 0).val (8 * 1 + 4))) :
    idle c pool cs 1
      ⊢ iprop((∀ u0, (issuing c T pool cs (i 0).val 1 1 4) -∗ wp frame (wpE defs 𝒱 (c : Thread nD τ) bd) Set.univ (K ⟨u0⟩) Q)
          -∗ wp frame (wpE defs 𝒱 (c : Thread nD τ) bd) Set.univ ((k0_part5 (F := F) i mtab h1 m2 h2 m3 h3 m4 h4 m5 h5 m6 h6 mcsh h7 mpool h8 m9 h9 mbuf h10 mcsb h11 mlhs h12 cc0_scratch3 cc0_scratch4 k0_h2 (word T (i 0).val (8 * 1 + 0)) k0_hw9 (word T (i 0).val (8 * 1 + 1)) k0_hw10 (word T (i 0).val (8 * 1 + 2)) k0_hw11 (word T (i 0).val (8 * 1 + 3)) k0_hw12 (word T (i 0).val (8 * 1 + 4)) k0_hw13 (word T (i 0).val (8 * 1 + 7))).bind K) Q) := by
  rw [k0_part5_eq_skeleton]
  unfold k0_part5_skel
  iintro HR Hk
  iapply (wp_assume 𝒱 (c : Thread nD τ) bd Set.univ ⟨fun _ => (chk (hT _)).1, fun _ => (chk (hT _)).2⟩)
  imod (start c T pool cs (i 0).val 1 1) $$ HR with HR
  iapply (wp_page c T pool cs 𝒱 bd (b := (i 0).val) (ck := 1) (s := 1) (p := 0) (by decide) (by decide) (hT _) rfl _ (offP (hT _)) _ rfl _) $$ HR
  iintro HR
  iapply (wp_page c T pool cs 𝒱 bd (b := (i 0).val) (ck := 1) (s := 1) (p := 1) (by decide) (by decide) (hT _) rfl _ (offP (hT _)) _ rfl _) $$ HR
  iintro HR
  iapply (wp_page c T pool cs 𝒱 bd (b := (i 0).val) (ck := 1) (s := 1) (p := 2) (by decide) (by decide) (hT _) rfl _ (offP (hT _)) _ rfl _) $$ HR
  iintro HR
  iapply (wp_page c T pool cs 𝒱 bd (b := (i 0).val) (ck := 1) (s := 1) (p := 3) (by decide) (by decide) (hT _) rfl _ (offP (hT _)) _ rfl _) $$ HR
  iintro HR
  dsimp only [Prog.bind, Pure.pure, Prog.lift]
  iapply Hk
  iexact HR

theorem part6 {K} {Q : α → sProp 𝕄} (arg0 : BitVec 32) (k0_h2 : k0_cond2 i = 1#1) (k0_hw13 : k0_chk13 i (word T (i 0).val (8 * 1 + 4))) (k0_hw14 : k0_chk14 i (word T (i 0).val (8 * 1 + 5))) (k0_hw15 : k0_chk15 i (word T (i 0).val (8 * 1 + 6))) (k0_hw16 : k0_chk16 i (word T (i 0).val (8 * 1 + 7))) :
    iprop(tabled (F := F) c T ∗ issuing c T pool cs (i 0).val 1 1 4)
      ⊢ iprop((∀ u1, (tabled (F := F) c T ∗ flying c T pool cs (i 0).val 1 1 0) -∗ wp frame (wpE defs 𝒱 (c : Thread nD τ) bd) Set.univ (K ⟨(word T (i 0).val (8 * 2 + 0)), u1, (word T (i 0).val (8 * 2 + 1))⟩) Q)
          -∗ wp frame (wpE defs 𝒱 (c : Thread nD τ) bd) Set.univ ((k0_part6 (F := F) i mtab h1 m2 h2 m3 h3 m4 h4 m5 h5 m6 h6 mcsh h7 mpool h8 m9 h9 mbuf h10 mcsb h11 mlhs h12 cc0_scratch3 cc0_scratch4 arg0 k0_h2 (word T (i 0).val (8 * 1 + 4)) k0_hw13 (word T (i 0).val (8 * 1 + 5)) k0_hw14 (word T (i 0).val (8 * 1 + 6)) k0_hw15 (word T (i 0).val (8 * 1 + 7)) k0_hw16).bind K) Q) := by
  rw [k0_part6_eq_skeleton]
  unfold k0_part6_skel
  iintro ⟨H, HR⟩ Hk
  iapply (wp_page c T pool cs 𝒱 bd (b := (i 0).val) (ck := 1) (s := 1) (p := 4) (by decide) (by decide) (hT _) rfl _ (offP (hT _)) _ rfl _) $$ HR
  iintro HR
  iapply (wp_page c T pool cs 𝒱 bd (b := (i 0).val) (ck := 1) (s := 1) (p := 5) (by decide) (by decide) (hT _) rfl _ (offP (hT _)) _ rfl _) $$ HR
  iintro HR
  iapply (wp_page c T pool cs 𝒱 bd (b := (i 0).val) (ck := 1) (s := 1) (p := 6) (by decide) (by decide) (hT _) rfl _ (offP (hT _)) _ rfl _) $$ HR
  iintro HR
  iapply (wp_page c T pool cs 𝒱 bd (b := (i 0).val) (ck := 1) (s := 1) (p := 7) (by decide) (by decide) (hT _) rfl _ (offP (hT _)) _ rfl _) $$ HR
  iintro HR
  iapply (wp_slab c T pool cs 𝒱 bd (b := (i 0).val) (ck := 1) (s := 1) (by decide) (by decide) rfl _ rfl _ rfl _) $$ HR
  iintro HR
  iapply (wp_word c T 𝒱 bd (b := (i 0).val) (j := 8 * 2 + 0) (lt128 i) (by omega) (off33 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 2 + 1) (lt128 i) (by omega) (off34 i)) $$ H
  iintro H
  dsimp only [Prog.bind, Pure.pure, Prog.lift]
  iapply Hk
  isplitl [H]; · iexact H
  iexact HR

theorem part7 {K} {Q : α → sProp 𝕄} (arg0 : BitVec 32) (k0_h2 : k0_cond2 i = 1#1) :
    tabled (F := F) c T
      ⊢ iprop((∀ u0 u2 u4 u6 u8 u10 u12, (tabled (F := F) c T) -∗ wp frame (wpE defs 𝒱 (c : Thread nD τ) bd) Set.univ (K ⟨u0, (word T (i 0).val (8 * 2 + 2)), u2, (word T (i 0).val (8 * 2 + 3)), u4, (word T (i 0).val (8 * 2 + 4)), u6, (word T (i 0).val (8 * 2 + 5)), u8, (word T (i 0).val (8 * 2 + 6)), u10, (word T (i 0).val (8 * 2 + 7)), u12⟩) Q)
          -∗ wp frame (wpE defs 𝒱 (c : Thread nD τ) bd) Set.univ ((k0_part7 (F := F) i mtab h1 m2 h2 m3 h3 m4 h4 m5 h5 m6 h6 mcsh h7 mpool h8 m9 h9 mbuf h10 mcsb h11 mlhs h12 cc0_scratch3 cc0_scratch4 arg0 k0_h2 (word T (i 0).val (8 * 2 + 1))).bind K) Q) := by
  rw [k0_part7_eq_skeleton]
  unfold k0_part7_skel
  iintro H Hk
  iapply (wp_assume 𝒱 (c : Thread nD τ) bd Set.univ ⟨fun _ => (chk (hT _)).1, fun _ => (chk (hT _)).2⟩)
  iapply (wp_word c T 𝒱 bd (b := (i 0).val) (j := 8 * 2 + 2) (lt128 i) (by omega) (off35 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 2 + 3) (lt128 i) (by omega) (off36 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 2 + 4) (lt128 i) (by omega) (off37 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 2 + 5) (lt128 i) (by omega) (off38 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 2 + 6) (lt128 i) (by omega) (off39 i)) $$ H
  iintro H
  iapply (wp_assume 𝒱 (c : Thread nD τ) bd Set.univ ⟨fun _ => (chk (hT _)).1, fun _ => (chk (hT _)).2⟩)
  iapply (wp_word c T 𝒱 bd (b := (i 0).val) (j := 8 * 2 + 7) (lt128 i) (by omega) (off40 i)) $$ H
  iintro H
  iapply (wp_assume 𝒱 (c : Thread nD τ) bd Set.univ ⟨fun _ => (chk (hT _)).1, fun _ => (chk (hT _)).2⟩)
  dsimp only [Prog.bind, Pure.pure, Prog.lift]
  iapply Hk
  iexact H

theorem part8 {K} {Q : α → sProp 𝕄} (k0_h2 : k0_cond2 i = 1#1) (k0_hw17 : k0_chk17 i (word T (i 0).val (8 * 2 + 0))) (k0_hw18 : k0_chk18 i (word T (i 0).val (8 * 2 + 1))) (k0_hw19 : k0_chk19 i (word T (i 0).val (8 * 2 + 2))) (k0_hw20 : k0_chk20 i (word T (i 0).val (8 * 2 + 3))) (k0_hw21 : k0_chk21 i (word T (i 0).val (8 * 2 + 4))) :
    idle c pool cs 2
      ⊢ iprop(((issuing c T pool cs (i 0).val 2 2 5) -∗ wp frame (wpE defs 𝒱 (c : Thread nD τ) bd) Set.univ (K ⟨⟩) Q)
          -∗ wp frame (wpE defs 𝒱 (c : Thread nD τ) bd) Set.univ ((k0_part8 (F := F) i mtab h1 m2 h2 m3 h3 m4 h4 m5 h5 m6 h6 mcsh h7 mpool h8 m9 h9 mbuf h10 mcsb h11 mlhs h12 cc0_scratch3 cc0_scratch4 k0_h2 (word T (i 0).val (8 * 2 + 0)) k0_hw17 (word T (i 0).val (8 * 2 + 1)) k0_hw18 (word T (i 0).val (8 * 2 + 2)) k0_hw19 (word T (i 0).val (8 * 2 + 3)) k0_hw20 (word T (i 0).val (8 * 2 + 4)) k0_hw21).bind K) Q) := by
  rw [k0_part8_eq_skeleton]
  unfold k0_part8_skel
  iintro HR Hk
  imod (start c T pool cs (i 0).val 2 2) $$ HR with HR
  iapply (wp_page c T pool cs 𝒱 bd (b := (i 0).val) (ck := 2) (s := 2) (p := 0) (by decide) (by decide) (hT _) rfl _ (offP (hT _)) _ rfl _) $$ HR
  iintro HR
  iapply (wp_page c T pool cs 𝒱 bd (b := (i 0).val) (ck := 2) (s := 2) (p := 1) (by decide) (by decide) (hT _) rfl _ (offP (hT _)) _ rfl _) $$ HR
  iintro HR
  iapply (wp_page c T pool cs 𝒱 bd (b := (i 0).val) (ck := 2) (s := 2) (p := 2) (by decide) (by decide) (hT _) rfl _ (offP (hT _)) _ rfl _) $$ HR
  iintro HR
  iapply (wp_page c T pool cs 𝒱 bd (b := (i 0).val) (ck := 2) (s := 2) (p := 3) (by decide) (by decide) (hT _) rfl _ (offP (hT _)) _ rfl _) $$ HR
  iintro HR
  iapply (wp_page c T pool cs 𝒱 bd (b := (i 0).val) (ck := 2) (s := 2) (p := 4) (by decide) (by decide) (hT _) rfl _ (offP (hT _)) _ rfl _) $$ HR
  iintro HR
  dsimp only [Prog.bind, Pure.pure, Prog.lift]
  iapply Hk
  iexact HR

/-! ## The first chunks of the next sequence -/

theorem part18 {K} {Q : α → sProp 𝕄} (arg0 : BitVec 32) (k0_h4 : k0_cond4 i = 1#1) :
    tabled (F := F) c T
      ⊢ iprop((∀ u0 u2 u4 u6 u8 u10 u12 u14, (tabled (F := F) c T) -∗ wp frame (wpE defs 𝒱 (c : Thread nD τ) bd) Set.univ (K ⟨u0, (word T ((i 0).val + 1) (8 * 0 + 0)), u2, (word T ((i 0).val + 1) (8 * 0 + 1)), u4, (word T ((i 0).val + 1) (8 * 0 + 2)), u6, (word T ((i 0).val + 1) (8 * 0 + 3)), u8, (word T ((i 0).val + 1) (8 * 0 + 4)), u10, (word T ((i 0).val + 1) (8 * 0 + 5)), u12, (word T ((i 0).val + 1) (8 * 0 + 6)), u14⟩) Q)
          -∗ wp frame (wpE defs 𝒱 (c : Thread nD τ) bd) Set.univ ((k0_part18 (F := F) i mtab h1 m2 h2 m3 h3 m4 h4 m5 h5 m6 h6 mcsh h7 mpool h8 m9 h9 mbuf h10 mcsb h11 mlhs h12 cc0_scratch3 cc0_scratch4 arg0 k0_h4).bind K) Q) := by
  rw [k0_part18_eq_skeleton]
  unfold k0_part18_skel
  iintro H Hk
  have hn := (cond4_iff i).1 k0_h4
  iapply (wp_word c T 𝒱 bd (b := ((i 0).val + 1)) (j := 8 * 0 + 0) ((cond4_iff i).1 k0_h4) (by omega) (off120 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 0 + 1) ((cond4_iff i).1 k0_h4) (by omega) (off121 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 0 + 2) ((cond4_iff i).1 k0_h4) (by omega) (off122 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 0 + 3) ((cond4_iff i).1 k0_h4) (by omega) (off123 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 0 + 4) ((cond4_iff i).1 k0_h4) (by omega) (off124 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 0 + 5) ((cond4_iff i).1 k0_h4) (by omega) (off125 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 0 + 6) ((cond4_iff i).1 k0_h4) (by omega) (off126 i)) $$ H
  iintro H
  iapply (wp_assume 𝒱 (c : Thread nD τ) bd Set.univ ⟨fun _ => (chk (hT _)).1, fun _ => (chk (hT _)).2⟩)
  dsimp only [Prog.bind, Pure.pure, Prog.lift]
  iapply Hk
  iexact H

theorem part19 {K} {Q : α → sProp 𝕄} (k0_h4 : k0_cond4 i = 1#1) (v89 : BitVec 32) (k0_hw41 : k0_chk41 i (word T ((i 0).val + 1) (8 * 0 + 0))) (k0_hw42 : k0_chk42 i (word T ((i 0).val + 1) (8 * 0 + 1))) (k0_hw43 : k0_chk43 i (word T ((i 0).val + 1) (8 * 0 + 2))) (k0_hw44 : k0_chk44 i (word T ((i 0).val + 1) (8 * 0 + 3))) :
    iprop(tabled (F := F) c T ∗ idle c pool cs 0)
      ⊢ iprop((∀ u1, (tabled (F := F) c T ∗ issuing c T pool cs ((i 0).val + 1) 0 0 4) -∗ wp frame (wpE defs 𝒱 (c : Thread nD τ) bd) Set.univ (K ⟨(word T ((i 0).val + 1) (8 * 0 + 7)), u1⟩) Q)
          -∗ wp frame (wpE defs 𝒱 (c : Thread nD τ) bd) Set.univ ((k0_part19 (F := F) i mtab h1 m2 h2 m3 h3 m4 h4 m5 h5 m6 h6 mcsh h7 mpool h8 m9 h9 mbuf h10 mcsb h11 mlhs h12 cc0_scratch3 cc0_scratch4 k0_h4 v89 (word T ((i 0).val + 1) (8 * 0 + 0)) k0_hw41 (word T ((i 0).val + 1) (8 * 0 + 1)) k0_hw42 (word T ((i 0).val + 1) (8 * 0 + 2)) k0_hw43 (word T ((i 0).val + 1) (8 * 0 + 3)) k0_hw44 (word T ((i 0).val + 1) (8 * 0 + 6))).bind K) Q) := by
  rw [k0_part19_eq_skeleton]
  unfold k0_part19_skel
  iintro ⟨H, HR⟩ Hk
  have hn := (cond4_iff i).1 k0_h4
  iapply (wp_word c T 𝒱 bd (b := ((i 0).val + 1)) (j := 8 * 0 + 7) ((cond4_iff i).1 k0_h4) (by omega) (off127 i)) $$ H
  iintro H
  iapply (wp_assume 𝒱 (c : Thread nD τ) bd Set.univ ⟨fun _ => (chk (hT _)).1, fun _ => (chk (hT _)).2⟩)
  imod (start c T pool cs ((i 0).val + 1) 0 0) $$ HR with HR
  iapply (wp_page c T pool cs 𝒱 bd (b := ((i 0).val + 1)) (ck := 0) (s := 0) (p := 0) (by decide) (by decide) (hT _) rfl _ (offP (hT _)) _ rfl _) $$ HR
  iintro HR
  iapply (wp_page c T pool cs 𝒱 bd (b := ((i 0).val + 1)) (ck := 0) (s := 0) (p := 1) (by decide) (by decide) (hT _) rfl _ (offP (hT _)) _ rfl _) $$ HR
  iintro HR
  iapply (wp_page c T pool cs 𝒱 bd (b := ((i 0).val + 1)) (ck := 0) (s := 0) (p := 2) (by decide) (by decide) (hT _) rfl _ (offP (hT _)) _ rfl _) $$ HR
  iintro HR
  iapply (wp_page c T pool cs 𝒱 bd (b := ((i 0).val + 1)) (ck := 0) (s := 0) (p := 3) (by decide) (by decide) (hT _) rfl _ (offP (hT _)) _ rfl _) $$ HR
  iintro HR
  dsimp only [Prog.bind, Pure.pure, Prog.lift]
  iapply Hk
  isplitl [H]; · iexact H
  iexact HR

theorem part20 {K} {Q : α → sProp 𝕄} (k0_h4 : k0_cond4 i = 1#1) (v89 : BitVec 32) (k0_hw45 : k0_chk45 i (word T ((i 0).val + 1) (8 * 0 + 4))) (k0_hw46 : k0_chk46 i (word T ((i 0).val + 1) (8 * 0 + 5))) (k0_hw47 : k0_chk47 i (word T ((i 0).val + 1) (8 * 0 + 6))) (k0_hw48 : k0_chk48 i (word T ((i 0).val + 1) (8 * 0 + 7))) :
    iprop(tabled (F := F) c T ∗ issuing c T pool cs ((i 0).val + 1) 0 0 4)
      ⊢ iprop((∀ u1, (tabled (F := F) c T ∗ flying c T pool cs ((i 0).val + 1) 0 0 0) -∗ wp frame (wpE defs 𝒱 (c : Thread nD τ) bd) Set.univ (K ⟨(word T ((i 0).val + 1) (8 * 1 + 0)), u1⟩) Q)
          -∗ wp frame (wpE defs 𝒱 (c : Thread nD τ) bd) Set.univ ((k0_part20 (F := F) i mtab h1 m2 h2 m3 h3 m4 h4 m5 h5 m6 h6 mcsh h7 mpool h8 m9 h9 mbuf h10 mcsb h11 mlhs h12 cc0_scratch3 cc0_scratch4 k0_h4 v89 (word T ((i 0).val + 1) (8 * 0 + 4)) k0_hw45 (word T ((i 0).val + 1) (8 * 0 + 5)) k0_hw46 (word T ((i 0).val + 1) (8 * 0 + 6)) k0_hw47 (word T ((i 0).val + 1) (8 * 0 + 7)) k0_hw48).bind K) Q) := by
  rw [k0_part20_eq_skeleton]
  unfold k0_part20_skel
  iintro ⟨H, HR⟩ Hk
  have hn := (cond4_iff i).1 k0_h4
  iapply (wp_page c T pool cs 𝒱 bd (b := ((i 0).val + 1)) (ck := 0) (s := 0) (p := 4) (by decide) (by decide) (hT _) rfl _ (offP (hT _)) _ rfl _) $$ HR
  iintro HR
  iapply (wp_page c T pool cs 𝒱 bd (b := ((i 0).val + 1)) (ck := 0) (s := 0) (p := 5) (by decide) (by decide) (hT _) rfl _ (offP (hT _)) _ rfl _) $$ HR
  iintro HR
  iapply (wp_page c T pool cs 𝒱 bd (b := ((i 0).val + 1)) (ck := 0) (s := 0) (p := 6) (by decide) (by decide) (hT _) rfl _ (offP (hT _)) _ rfl _) $$ HR
  iintro HR
  iapply (wp_page c T pool cs 𝒱 bd (b := ((i 0).val + 1)) (ck := 0) (s := 0) (p := 7) (by decide) (by decide) (hT _) rfl _ (offP (hT _)) _ rfl _) $$ HR
  iintro HR
  iapply (wp_slab c T pool cs 𝒱 bd (b := ((i 0).val + 1)) (ck := 0) (s := 0) (by decide) (by decide) rfl _ rfl _ rfl _) $$ HR
  iintro HR
  iapply (wp_word c T 𝒱 bd (b := ((i 0).val + 1)) (j := 8 * 1 + 0) ((cond4_iff i).1 k0_h4) (by omega) (off136 i)) $$ H
  iintro H
  iapply (wp_assume 𝒱 (c : Thread nD τ) bd Set.univ ⟨fun _ => (chk (hT _)).1, fun _ => (chk (hT _)).2⟩)
  dsimp only [Prog.bind, Pure.pure, Prog.lift]
  iapply Hk
  isplitl [H]; · iexact H
  iexact HR

theorem part21 {K} {Q : α → sProp 𝕄} (k0_h4 : k0_cond4 i = 1#1) (v89 : BitVec 32) :
    tabled (F := F) c T
      ⊢ iprop((∀ u1 u3 u5 u7 u9 u11, (tabled (F := F) c T) -∗ wp frame (wpE defs 𝒱 (c : Thread nD τ) bd) Set.univ (K ⟨(word T ((i 0).val + 1) (8 * 1 + 1)), u1, (word T ((i 0).val + 1) (8 * 1 + 2)), u3, (word T ((i 0).val + 1) (8 * 1 + 3)), u5, (word T ((i 0).val + 1) (8 * 1 + 4)), u7, (word T ((i 0).val + 1) (8 * 1 + 5)), u9, (word T ((i 0).val + 1) (8 * 1 + 6)), u11⟩) Q)
          -∗ wp frame (wpE defs 𝒱 (c : Thread nD τ) bd) Set.univ ((k0_part21 (F := F) i mtab h1 m2 h2 m3 h3 m4 h4 m5 h5 m6 h6 mcsh h7 mpool h8 m9 h9 mbuf h10 mcsb h11 mlhs h12 cc0_scratch3 cc0_scratch4 k0_h4 v89 (word T ((i 0).val + 1) (8 * 1 + 0))).bind K) Q) := by
  rw [k0_part21_eq_skeleton]
  unfold k0_part21_skel
  iintro H Hk
  have hn := (cond4_iff i).1 k0_h4
  iapply (wp_word c T 𝒱 bd (b := ((i 0).val + 1)) (j := 8 * 1 + 1) ((cond4_iff i).1 k0_h4) (by omega) (off137 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 1 + 2) ((cond4_iff i).1 k0_h4) (by omega) (off138 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 1 + 3) ((cond4_iff i).1 k0_h4) (by omega) (off139 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 1 + 4) ((cond4_iff i).1 k0_h4) (by omega) (off140 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 1 + 5) ((cond4_iff i).1 k0_h4) (by omega) (off141 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 1 + 6) ((cond4_iff i).1 k0_h4) (by omega) (off142 i)) $$ H
  iintro H
  iapply (wp_assume 𝒱 (c : Thread nD τ) bd Set.univ ⟨fun _ => (chk (hT _)).1, fun _ => (chk (hT _)).2⟩)
  dsimp only [Prog.bind, Pure.pure, Prog.lift]
  iapply Hk
  iexact H

theorem part22 {K} {Q : α → sProp 𝕄} (k0_h4 : k0_cond4 i = 1#1) (k0_hw49 : k0_chk49 i (word T ((i 0).val + 1) (8 * 1 + 0))) (k0_hw50 : k0_chk50 i (word T ((i 0).val + 1) (8 * 1 + 1))) (k0_hw51 : k0_chk51 i (word T ((i 0).val + 1) (8 * 1 + 2))) (k0_hw52 : k0_chk52 i (word T ((i 0).val + 1) (8 * 1 + 3))) :
    iprop(tabled (F := F) c T ∗ idle c pool cs 1)
      ⊢ iprop((∀ u1, (tabled (F := F) c T ∗ issuing c T pool cs ((i 0).val + 1) 1 1 4) -∗ wp frame (wpE defs 𝒱 (c : Thread nD τ) bd) Set.univ (K ⟨(word T ((i 0).val + 1) (8 * 1 + 7)), u1⟩) Q)
          -∗ wp frame (wpE defs 𝒱 (c : Thread nD τ) bd) Set.univ ((k0_part22 (F := F) i mtab h1 m2 h2 m3 h3 m4 h4 m5 h5 m6 h6 mcsh h7 mpool h8 m9 h9 mbuf h10 mcsb h11 mlhs h12 cc0_scratch3 cc0_scratch4 k0_h4 (word T ((i 0).val + 1) (8 * 1 + 0)) k0_hw49 (word T ((i 0).val + 1) (8 * 1 + 1)) k0_hw50 (word T ((i 0).val + 1) (8 * 1 + 2)) k0_hw51 (word T ((i 0).val + 1) (8 * 1 + 3)) k0_hw52).bind K) Q) := by
  rw [k0_part22_eq_skeleton]
  unfold k0_part22_skel
  iintro ⟨H, HR⟩ Hk
  have hn := (cond4_iff i).1 k0_h4
  iapply (wp_word c T 𝒱 bd (b := ((i 0).val + 1)) (j := 8 * 1 + 7) ((cond4_iff i).1 k0_h4) (by omega) (off143 i)) $$ H
  iintro H
  iapply (wp_assume 𝒱 (c : Thread nD τ) bd Set.univ ⟨fun _ => (chk (hT _)).1, fun _ => (chk (hT _)).2⟩)
  imod (start c T pool cs ((i 0).val + 1) 1 1) $$ HR with HR
  iapply (wp_page c T pool cs 𝒱 bd (b := ((i 0).val + 1)) (ck := 1) (s := 1) (p := 0) (by decide) (by decide) (hT _) rfl _ (offP (hT _)) _ rfl _) $$ HR
  iintro HR
  iapply (wp_page c T pool cs 𝒱 bd (b := ((i 0).val + 1)) (ck := 1) (s := 1) (p := 1) (by decide) (by decide) (hT _) rfl _ (offP (hT _)) _ rfl _) $$ HR
  iintro HR
  iapply (wp_page c T pool cs 𝒱 bd (b := ((i 0).val + 1)) (ck := 1) (s := 1) (p := 2) (by decide) (by decide) (hT _) rfl _ (offP (hT _)) _ rfl _) $$ HR
  iintro HR
  iapply (wp_page c T pool cs 𝒱 bd (b := ((i 0).val + 1)) (ck := 1) (s := 1) (p := 3) (by decide) (by decide) (hT _) rfl _ (offP (hT _)) _ rfl _) $$ HR
  iintro HR
  dsimp only [Prog.bind, Pure.pure, Prog.lift]
  iapply Hk
  isplitl [H]; · iexact H
  iexact HR

theorem part23 {K} {Q : α → sProp 𝕄} (k0_h4 : k0_cond4 i = 1#1) (v89 : BitVec 32) (k0_hw53 : k0_chk53 i (word T ((i 0).val + 1) (8 * 1 + 4))) (k0_hw54 : k0_chk54 i (word T ((i 0).val + 1) (8 * 1 + 5))) (k0_hw55 : k0_chk55 i (word T ((i 0).val + 1) (8 * 1 + 6))) (k0_hw56 : k0_chk56 i (word T ((i 0).val + 1) (8 * 1 + 7))) :
    iprop(tabled (F := F) c T ∗ issuing c T pool cs ((i 0).val + 1) 1 1 4)
      ⊢ iprop((∀ u1, (tabled (F := F) c T ∗ flying c T pool cs ((i 0).val + 1) 1 1 0) -∗ wp frame (wpE defs 𝒱 (c : Thread nD τ) bd) Set.univ (K ⟨(word T ((i 0).val + 1) (8 * 2 + 0)), u1⟩) Q)
          -∗ wp frame (wpE defs 𝒱 (c : Thread nD τ) bd) Set.univ ((k0_part23 (F := F) i mtab h1 m2 h2 m3 h3 m4 h4 m5 h5 m6 h6 mcsh h7 mpool h8 m9 h9 mbuf h10 mcsb h11 mlhs h12 cc0_scratch3 cc0_scratch4 k0_h4 v89 (word T ((i 0).val + 1) (8 * 1 + 4)) k0_hw53 (word T ((i 0).val + 1) (8 * 1 + 5)) k0_hw54 (word T ((i 0).val + 1) (8 * 1 + 6)) k0_hw55 (word T ((i 0).val + 1) (8 * 1 + 7)) k0_hw56).bind K) Q) := by
  rw [k0_part23_eq_skeleton]
  unfold k0_part23_skel
  iintro ⟨H, HR⟩ Hk
  have hn := (cond4_iff i).1 k0_h4
  iapply (wp_page c T pool cs 𝒱 bd (b := ((i 0).val + 1)) (ck := 1) (s := 1) (p := 4) (by decide) (by decide) (hT _) rfl _ (offP (hT _)) _ rfl _) $$ HR
  iintro HR
  iapply (wp_page c T pool cs 𝒱 bd (b := ((i 0).val + 1)) (ck := 1) (s := 1) (p := 5) (by decide) (by decide) (hT _) rfl _ (offP (hT _)) _ rfl _) $$ HR
  iintro HR
  iapply (wp_page c T pool cs 𝒱 bd (b := ((i 0).val + 1)) (ck := 1) (s := 1) (p := 6) (by decide) (by decide) (hT _) rfl _ (offP (hT _)) _ rfl _) $$ HR
  iintro HR
  iapply (wp_page c T pool cs 𝒱 bd (b := ((i 0).val + 1)) (ck := 1) (s := 1) (p := 7) (by decide) (by decide) (hT _) rfl _ (offP (hT _)) _ rfl _) $$ HR
  iintro HR
  iapply (wp_slab c T pool cs 𝒱 bd (b := ((i 0).val + 1)) (ck := 1) (s := 1) (by decide) (by decide) rfl _ rfl _ rfl _) $$ HR
  iintro HR
  iapply (wp_word c T 𝒱 bd (b := ((i 0).val + 1)) (j := 8 * 2 + 0) ((cond4_iff i).1 k0_h4) (by omega) (off152 i)) $$ H
  iintro H
  iapply (wp_assume 𝒱 (c : Thread nD τ) bd Set.univ ⟨fun _ => (chk (hT _)).1, fun _ => (chk (hT _)).2⟩)
  dsimp only [Prog.bind, Pure.pure, Prog.lift]
  iapply Hk
  isplitl [H]; · iexact H
  iexact HR

theorem part24 {K} {Q : α → sProp 𝕄} (k0_h4 : k0_cond4 i = 1#1) (v89 : BitVec 32) :
    tabled (F := F) c T
      ⊢ iprop((∀ u1 u3 u5 u7 u9 u11 u13 u14 u15, (tabled (F := F) c T) -∗ wp frame (wpE defs 𝒱 (c : Thread nD τ) bd) Set.univ (K ⟨(word T ((i 0).val + 1) (8 * 2 + 1)), u1, (word T ((i 0).val + 1) (8 * 2 + 2)), u3, (word T ((i 0).val + 1) (8 * 2 + 3)), u5, (word T ((i 0).val + 1) (8 * 2 + 4)), u7, (word T ((i 0).val + 1) (8 * 2 + 5)), u9, (word T ((i 0).val + 1) (8 * 2 + 6)), u11, (word T ((i 0).val + 1) (8 * 2 + 7)), u13, u14, u15⟩) Q)
          -∗ wp frame (wpE defs 𝒱 (c : Thread nD τ) bd) Set.univ ((k0_part24 (F := F) i mtab h1 m2 h2 m3 h3 m4 h4 m5 h5 m6 h6 mcsh h7 mpool h8 m9 h9 mbuf h10 mcsb h11 mlhs h12 cc0_scratch3 cc0_scratch4 k0_h4 v89).bind K) Q) := by
  rw [k0_part24_eq_skeleton]
  unfold k0_part24_skel
  iintro H Hk
  have hn := (cond4_iff i).1 k0_h4
  iapply (wp_word c T 𝒱 bd (b := ((i 0).val + 1)) (j := 8 * 2 + 1) ((cond4_iff i).1 k0_h4) (by omega) (off153 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 2 + 2) ((cond4_iff i).1 k0_h4) (by omega) (off154 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 2 + 3) ((cond4_iff i).1 k0_h4) (by omega) (off155 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 2 + 4) ((cond4_iff i).1 k0_h4) (by omega) (off156 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 2 + 5) ((cond4_iff i).1 k0_h4) (by omega) (off157 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 2 + 6) ((cond4_iff i).1 k0_h4) (by omega) (off158 i)) $$ H
  iintro H
  iapply (wp_assume 𝒱 (c : Thread nD τ) bd Set.univ ⟨fun _ => (chk (hT _)).1, fun _ => (chk (hT _)).2⟩)
  iapply (wp_word c T 𝒱 bd (b := ((i 0).val + 1)) (j := 8 * 2 + 7) ((cond4_iff i).1 k0_h4) (by omega) (off159 i)) $$ H
  iintro H
  iapply (wp_assume 𝒱 (c : Thread nD τ) bd Set.univ ⟨fun _ => (chk (hT _)).1, fun _ => (chk (hT _)).2⟩)
  dsimp only [Prog.bind, Pure.pure, Prog.lift]
  iapply Hk
  iexact H

theorem part25 {K} {Q : α → sProp 𝕄} (k0_h4 : k0_cond4 i = 1#1) (k0_hw57 : k0_chk57 i (word T ((i 0).val + 1) (8 * 2 + 0))) (k0_hw58 : k0_chk58 i (word T ((i 0).val + 1) (8 * 2 + 1))) (k0_hw59 : k0_chk59 i (word T ((i 0).val + 1) (8 * 2 + 2))) (k0_hw60 : k0_chk60 i (word T ((i 0).val + 1) (8 * 2 + 3))) (k0_hw61 : k0_chk61 i (word T ((i 0).val + 1) (8 * 2 + 4))) (v299 : BitVec 32) (c576_i32_175 : BitVec 32) :
    idle c pool cs 2
      ⊢ iprop(((issuing c T pool cs ((i 0).val + 1) 2 2 5) -∗ wp frame (wpE defs 𝒱 (c : Thread nD τ) bd) Set.univ (K ⟨⟩) Q)
          -∗ wp frame (wpE defs 𝒱 (c : Thread nD τ) bd) Set.univ ((k0_part25 (F := F) i mtab h1 m2 h2 m3 h3 m4 h4 m5 h5 m6 h6 mcsh h7 mpool h8 m9 h9 mbuf h10 mcsb h11 mlhs h12 cc0_scratch3 cc0_scratch4 k0_h4 (word T ((i 0).val + 1) (8 * 2 + 0)) k0_hw57 (word T ((i 0).val + 1) (8 * 2 + 1)) k0_hw58 (word T ((i 0).val + 1) (8 * 2 + 2)) k0_hw59 (word T ((i 0).val + 1) (8 * 2 + 3)) k0_hw60 (word T ((i 0).val + 1) (8 * 2 + 4)) k0_hw61 v299 c576_i32_175).bind K) Q) := by
  rw [k0_part25_eq_skeleton]
  unfold k0_part25_skel
  iintro HR Hk
  have hn := (cond4_iff i).1 k0_h4
  imod (start c T pool cs ((i 0).val + 1) 2 2) $$ HR with HR
  iapply (wp_page c T pool cs 𝒱 bd (b := ((i 0).val + 1)) (ck := 2) (s := 2) (p := 0) (by decide) (by decide) (hT _) rfl _ (offP (hT _)) _ rfl _) $$ HR
  iintro HR
  iapply (wp_page c T pool cs 𝒱 bd (b := ((i 0).val + 1)) (ck := 2) (s := 2) (p := 1) (by decide) (by decide) (hT _) rfl _ (offP (hT _)) _ rfl _) $$ HR
  iintro HR
  iapply (wp_page c T pool cs 𝒱 bd (b := ((i 0).val + 1)) (ck := 2) (s := 2) (p := 2) (by decide) (by decide) (hT _) rfl _ (offP (hT _)) _ rfl _) $$ HR
  iintro HR
  iapply (wp_page c T pool cs 𝒱 bd (b := ((i 0).val + 1)) (ck := 2) (s := 2) (p := 3) (by decide) (by decide) (hT _) rfl _ (offP (hT _)) _ rfl _) $$ HR
  iintro HR
  iapply (wp_page c T pool cs 𝒱 bd (b := ((i 0).val + 1)) (ck := 2) (s := 2) (p := 4) (by decide) (by decide) (hT _) rfl _ (offP (hT _)) _ rfl _) $$ HR
  iintro HR
  dsimp only [Prog.bind, Pure.pure, Prog.lift]
  iapply Hk
  iexact HR

/-! ## A trip's words and its chunk three ahead -/

theorem part9 {K} {Q : α → sProp 𝕄} (arg0 : BitVec 32) (arg15 : BitVec 32) (k0_h3 : k0_cond3 k = 1#1) :
    tabled (F := F) c T
      ⊢ iprop((∀ u0 u2 u4 u6 u7, (tabled (F := F) c T) -∗ wp frame (wpE defs 𝒱 (c : Thread nD τ) bd) Set.univ (K ⟨u0, (word T (i 0).val (8 * (k.val + 3) + 0)), u2, (word T (i 0).val (8 * (k.val + 3) + 1)), u4, (word T (i 0).val (8 * (k.val + 3) + 2)), u6, u7⟩) Q)
          -∗ wp frame (wpE defs 𝒱 (c : Thread nD τ) bd) Set.univ ((k0_part9 (F := F) i mtab h1 m2 h2 m3 h3 m4 h4 m5 h5 m6 h6 mcsh h7 mpool h8 m9 h9 mbuf h10 mcsb h11 mlhs h12 cc0_scratch3 cc0_scratch4 arg0 k arg15 k0_h3).bind K) Q) := by
  rw [k0_part9_eq_skeleton]
  unfold k0_part9_skel
  iintro H Hk
  have hk := lt16 k
  have hc := (cond3_iff k).1 k0_h3
  iapply (wp_word c T 𝒱 bd (b := (i 0).val) (j := 8 * (k.val + 3) + 0) (lt128 i) (by omega) (off76 i k)) $$ H
  iintro H
  iapply (wp_assume 𝒱 (c : Thread nD τ) bd Set.univ ⟨fun _ => (chk (hT _)).1, fun _ => (chk (hT _)).2⟩)
  iapply (wp_word c T 𝒱 bd (b := (i 0).val) (j := 8 * (k.val + 3) + 1) (lt128 i) (by omega) (off77 i k)) $$ H
  iintro H
  iapply (wp_assume 𝒱 (c : Thread nD τ) bd Set.univ ⟨fun _ => (chk (hT _)).1, fun _ => (chk (hT _)).2⟩)
  iapply (wp_word c T 𝒱 bd (b := (i 0).val) (j := 8 * (k.val + 3) + 2) (lt128 i) (by omega) (off78 i k)) $$ H
  iintro H
  iapply (wp_assume 𝒱 (c : Thread nD τ) bd Set.univ ⟨fun _ => (chk (hT _)).1, fun _ => (chk (hT _)).2⟩)
  dsimp only [Prog.bind, Pure.pure, Prog.lift]
  iapply Hk
  iexact H

theorem part10 {K} {Q : α → sProp 𝕄} (arg0 : BitVec 32) (k0_h3 : k0_cond3 k = 1#1) (v314 : BitVec 32) (v348 : BitVec 32) :
    tabled (F := F) c T
      ⊢ iprop((∀ u1 u3 u5 u7 u8, (tabled (F := F) c T) -∗ wp frame (wpE defs 𝒱 (c : Thread nD τ) bd) Set.univ (K ⟨(word T (i 0).val (8 * (k.val + 3) + 3)), u1, (word T (i 0).val (8 * (k.val + 3) + 4)), u3, (word T (i 0).val (8 * (k.val + 3) + 5)), u5, (word T (i 0).val (8 * (k.val + 3) + 6)), u7, u8⟩) Q)
          -∗ wp frame (wpE defs 𝒱 (c : Thread nD τ) bd) Set.univ ((k0_part10 (F := F) i mtab h1 m2 h2 m3 h3 m4 h4 m5 h5 m6 h6 mcsh h7 mpool h8 m9 h9 mbuf h10 mcsb h11 mlhs h12 cc0_scratch3 cc0_scratch4 arg0 k k0_h3 v314 v348).bind K) Q) := by
  rw [k0_part10_eq_skeleton]
  unfold k0_part10_skel
  iintro H Hk
  have hk := lt16 k
  have hc := (cond3_iff k).1 k0_h3
  iapply (wp_word c T 𝒱 bd (b := (i 0).val) (j := 8 * (k.val + 3) + 3) (lt128 i) (by omega) (off79 i k)) $$ H
  iintro H
  iapply (wp_assume 𝒱 (c : Thread nD τ) bd Set.univ ⟨fun _ => (chk (hT _)).1, fun _ => (chk (hT _)).2⟩)
  iapply (wp_word c T 𝒱 bd (b := (i 0).val) (j := 8 * (k.val + 3) + 4) (lt128 i) (by omega) (off80 i k)) $$ H
  iintro H
  iapply (wp_assume 𝒱 (c : Thread nD τ) bd Set.univ ⟨fun _ => (chk (hT _)).1, fun _ => (chk (hT _)).2⟩)
  iapply (wp_word c T 𝒱 bd (b := (i 0).val) (j := 8 * (k.val + 3) + 5) (lt128 i) (by omega) (off81 i k)) $$ H
  iintro H
  iapply (wp_assume 𝒱 (c : Thread nD τ) bd Set.univ ⟨fun _ => (chk (hT _)).1, fun _ => (chk (hT _)).2⟩)
  iapply (wp_word c T 𝒱 bd (b := (i 0).val) (j := 8 * (k.val + 3) + 6) (lt128 i) (by omega) (off82 i k)) $$ H
  iintro H
  iapply (wp_assume 𝒱 (c : Thread nD τ) bd Set.univ ⟨fun _ => (chk (hT _)).1, fun _ => (chk (hT _)).2⟩)
  dsimp only [Prog.bind, Pure.pure, Prog.lift]
  iapply Hk
  iexact H

theorem part11 {K} {Q : α → sProp 𝕄} (k0_h3 : k0_cond3 k = 1#1) (k0_hw33 : k0_chk33 k (word T (i 0).val (8 * (k.val + 3) + 0))) (k0_hw34 : k0_chk34 k (word T (i 0).val (8 * (k.val + 3) + 1))) (k0_hw35 : k0_chk35 k (word T (i 0).val (8 * (k.val + 3) + 2))) (k0_hw36 : k0_chk36 k (word T (i 0).val (8 * (k.val + 3) + 3))) (k0_hw37 : k0_chk37 k (word T (i 0).val (8 * (k.val + 3) + 4))) (v384 : BitVec 32) :
    iprop(tabled (F := F) c T ∗ idle c pool cs ((k.val + 3) % 4))
      ⊢ iprop((∀ u1, (tabled (F := F) c T ∗ issuing c T pool cs (i 0).val (k.val + 3) ((k.val + 3) % 4) 5) -∗ wp frame (wpE defs 𝒱 (c : Thread nD τ) bd) Set.univ (K ⟨(word T (i 0).val (8 * (k.val + 3) + 7)), u1⟩) Q)
          -∗ wp frame (wpE defs 𝒱 (c : Thread nD τ) bd) Set.univ ((k0_part11 (F := F) i mtab h1 m2 h2 m3 h3 m4 h4 m5 h5 m6 h6 mcsh h7 mpool h8 m9 h9 mbuf h10 mcsb h11 mlhs h12 cc0_scratch3 cc0_scratch4 k k0_h3 (word T (i 0).val (8 * (k.val + 3) + 0)) k0_hw33 (word T (i 0).val (8 * (k.val + 3) + 1)) k0_hw34 (word T (i 0).val (8 * (k.val + 3) + 2)) k0_hw35 (word T (i 0).val (8 * (k.val + 3) + 3)) k0_hw36 (word T (i 0).val (8 * (k.val + 3) + 4)) k0_hw37 v384).bind K) Q) := by
  rw [k0_part11_eq_skeleton]
  unfold k0_part11_skel
  iintro ⟨H, HR⟩ Hk
  have hk := lt16 k
  have hc := (cond3_iff k).1 k0_h3
  iapply (wp_word c T 𝒱 bd (b := (i 0).val) (j := 8 * (k.val + 3) + 7) (lt128 i) (by omega) (off83 i k)) $$ H
  iintro H
  iapply (wp_assume 𝒱 (c : Thread nD τ) bd Set.univ ⟨fun _ => (chk (hT _)).1, fun _ => (chk (hT _)).2⟩)
  imod (start c T pool cs (i 0).val (k.val + 3) ((k.val + 3) % 4)) $$ HR with HR
  iapply (wp_page c T pool cs 𝒱 bd (b := (i 0).val) (ck := (k.val + 3)) (s := ((k.val + 3) % 4)) (p := 0) (Nat.mod_lt _ (by decide)) (by decide) (hT _) (off85 k) _ (offP (hT _)) _ (off84 k) _) $$ HR
  iintro HR
  iapply (wp_page c T pool cs 𝒱 bd (b := (i 0).val) (ck := (k.val + 3)) (s := ((k.val + 3) % 4)) (p := 1) (Nat.mod_lt _ (by decide)) (by decide) (hT _) (off87 k) _ (offP (hT _)) _ (off84 k) _) $$ HR
  iintro HR
  iapply (wp_page c T pool cs 𝒱 bd (b := (i 0).val) (ck := (k.val + 3)) (s := ((k.val + 3) % 4)) (p := 2) (Nat.mod_lt _ (by decide)) (by decide) (hT _) (off89 k) _ (offP (hT _)) _ (off84 k) _) $$ HR
  iintro HR
  iapply (wp_page c T pool cs 𝒱 bd (b := (i 0).val) (ck := (k.val + 3)) (s := ((k.val + 3) % 4)) (p := 3) (Nat.mod_lt _ (by decide)) (by decide) (hT _) (off91 k) _ (offP (hT _)) _ (off84 k) _) $$ HR
  iintro HR
  iapply (wp_page c T pool cs 𝒱 bd (b := (i 0).val) (ck := (k.val + 3)) (s := ((k.val + 3) % 4)) (p := 4) (Nat.mod_lt _ (by decide)) (by decide) (hT _) (off93 k) _ (offP (hT _)) _ (off84 k) _) $$ HR
  iintro HR
  dsimp only [Prog.bind, Pure.pure, Prog.lift]
  iapply Hk
  isplitl [H]; · iexact H
  iexact HR

theorem part12 {K} {Q : α → sProp 𝕄} (arg0 : BitVec 32) (c0_i32_8 : BitVec 32) (c1_i32 : BitVec 32) :
    tabled (F := F) c T
      ⊢ iprop((∀ u0 u1 u3 u5 u7 u8, (tabled (F := F) c T) -∗ wp frame (wpE defs 𝒱 (c : Thread nD τ) bd) Set.univ (K ⟨u0, u1, (word T (i 0).val (8 * k.val + 0)), u3, (word T (i 0).val (8 * k.val + 1)), u5, (word T (i 0).val (8 * k.val + 2)), u7, u8⟩) Q)
          -∗ wp frame (wpE defs 𝒱 (c : Thread nD τ) bd) Set.univ ((k0_part12 (F := F) i mtab h1 m2 h2 m3 h3 m4 h4 m5 h5 m6 h6 mcsh h7 mpool h8 m9 h9 mbuf h10 mcsb h11 mlhs h12 cc0_scratch3 cc0_scratch4 arg0 c0_i32_8 c1_i32 k).bind K) Q) := by
  rw [k0_part12_eq_skeleton]
  unfold k0_part12_skel
  iintro H Hk
  have hk := lt16 k
  iapply (wp_word c T 𝒱 bd (b := (i 0).val) (j := 8 * k.val + 0) (lt128 i) (by omega) (off49 i k)) $$ H
  iintro H
  iapply (wp_assume 𝒱 (c : Thread nD τ) bd Set.univ (chk (hT _)))
  iapply (wp_word c T 𝒱 bd (b := (i 0).val) (j := 8 * k.val + 1) (lt128 i) (by omega) (off50 i k)) $$ H
  iintro H
  iapply (wp_assume 𝒱 (c : Thread nD τ) bd Set.univ (chk (hT _)))
  iapply (wp_word c T 𝒱 bd (b := (i 0).val) (j := 8 * k.val + 2) (lt128 i) (by omega) (off51 i k)) $$ H
  iintro H
  iapply (wp_assume 𝒱 (c : Thread nD τ) bd Set.univ (chk (hT _)))
  dsimp only [Prog.bind, Pure.pure, Prog.lift]
  iapply Hk
  iexact H

theorem part13 {K} {Q : α → sProp 𝕄} (arg0 : BitVec 32) (arg15 : BitVec 32) (v124 : BitVec 32) :
    tabled (F := F) c T
      ⊢ iprop((∀ u1 u3 u5 u7 u9 u10, (tabled (F := F) c T) -∗ wp frame (wpE defs 𝒱 (c : Thread nD τ) bd) Set.univ (K ⟨(word T (i 0).val (8 * k.val + 3)), u1, (word T (i 0).val (8 * k.val + 4)), u3, (word T (i 0).val (8 * k.val + 5)), u5, (word T (i 0).val (8 * k.val + 6)), u7, (word T (i 0).val (8 * k.val + 7)), u9, u10⟩) Q)
          -∗ wp frame (wpE defs 𝒱 (c : Thread nD τ) bd) Set.univ ((k0_part13 (F := F) i mtab h1 m2 h2 m3 h3 m4 h4 m5 h5 m6 h6 mcsh h7 mpool h8 m9 h9 mbuf h10 mcsb h11 mlhs h12 cc0_scratch3 cc0_scratch4 arg0 k arg15 v124).bind K) Q) := by
  rw [k0_part13_eq_skeleton]
  unfold k0_part13_skel
  iintro H Hk
  have hk := lt16 k
  iapply (wp_word c T 𝒱 bd (b := (i 0).val) (j := 8 * k.val + 3) (lt128 i) (by omega) (off52 i k)) $$ H
  iintro H
  iapply (wp_assume 𝒱 (c : Thread nD τ) bd Set.univ (chk (hT _)))
  iapply (wp_word c T 𝒱 bd (b := (i 0).val) (j := 8 * k.val + 4) (lt128 i) (by omega) (off53 i k)) $$ H
  iintro H
  iapply (wp_assume 𝒱 (c : Thread nD τ) bd Set.univ (chk (hT _)))
  iapply (wp_word c T 𝒱 bd (b := (i 0).val) (j := 8 * k.val + 5) (lt128 i) (by omega) (off54 i k)) $$ H
  iintro H
  iapply (wp_assume 𝒱 (c : Thread nD τ) bd Set.univ (chk (hT _)))
  iapply (wp_word c T 𝒱 bd (b := (i 0).val) (j := 8 * k.val + 6) (lt128 i) (by omega) (off55 i k)) $$ H
  iintro H
  iapply (wp_assume 𝒱 (c : Thread nD τ) bd Set.univ (chk (hT _)))
  iapply (wp_word c T 𝒱 bd (b := (i 0).val) (j := 8 * k.val + 7) (lt128 i) (by omega) (off56 i k)) $$ H
  iintro H
  iapply (wp_assume 𝒱 (c : Thread nD τ) bd Set.univ (chk (hT _)))
  dsimp only [Prog.bind, Pure.pure, Prog.lift]
  iapply Hk
  iexact H

end Cert.MlaIdeal.Spec

end
-- ==== Proof.MlaTrip.lean ====
/-
  One trip of the latent attention kernel's loop over the chunks of a sequence, and the loop.
-/
module

public import proofs.«01_k».proof.Proof.MlaParts

@[expose] public section

set_option maxRecDepth 16384
set_option maxHeartbeats 4000000

noncomputable section

namespace Cert.MlaIdeal.Spec

open Cert.MlaIdeal Cert.MlaIdeal.Gen Cert.Softmax
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem bind_eq {E : Type → Type _} {α β : Type} (p : Prog E α) (f : α → Prog E β) : (p >>= f) = p.bind f := rfl
theorem bind_bind {E : Type → Type _} {α β γ : Type} (p : Prog E α) (f : α → Prog E β) (g : β → Prog E γ) :
    (p.bind f).bind g = p.bind fun a => (f a).bind g := Prog.bind_assoc p f g

/-! ## What a trip computes -/

section values

variable (T : Table) (pool : S11796480x128.Idx → Elt F .f32) (cs : S16x128x1024.Idx → Elt F .f32)

/-- Chunk `ck`'s eight pages' latent rows, side by side. -/
def lat8 (b ck : ℕ) : FVec F S512x1024 .f32 :=
  k0_pay7 (k0_pay2 (latV T pool b ck 0)) (k0_pay3 (latV T pool b ck 1)) (k0_pay4 (latV T pool b ck 2)) (k0_pay5 (latV T pool b ck 3))
    (k0_pay6 (latV T pool b ck 4)) (latV T pool b ck 5) (latV T pool b ck 6) (latV T pool b ck 7)
/-- Their rotary rows. -/
def rope8 (b ck : ℕ) : FVec F S64x1024 .f32 :=
  k0_pay8 (ropeV T pool b ck 0) (ropeV T pool b ck 1) (ropeV T pool b ck 2) (ropeV T pool b ck 3)
    (ropeV T pool b ck 4) (ropeV T pool b ck 5) (ropeV T pool b ck 6) (ropeV T pool b ck 7)

abbrev Carry (F : FTy → Type) [FloatOps F] : Type := FVec F S64x1 .f32 × FVec F S64x1 .f32 × FVec F S64x512 .f32

/-- A trip on the carried maximum, sum and accumulator. -/
def step (v0 : Vec F S1x64x640 .bf16) (L : Vec F S1600x512 .bf16) (b ck : ℕ) (a : Carry F) : Carry F :=
  (k0_pay11 (k0_pay17 v0) a.1 (lat8 T pool b ck) (rope8 T pool b ck) (angV cs ck) L,
    k0_pay14 (k0_pay17 v0) a.1 a.2.1 (lat8 T pool b ck) (rope8 T pool b ck) (angV cs ck) L,
    k0_pay15 (k0_pay17 v0) a.1 a.2.2 (lat8 T pool b ck) (rope8 T pool b ck) (angV cs ck) L)

/-- The carried values before trip `n`. -/
def iter (v0 : Vec F S1x64x640 .bf16) (L : Vec F S1600x512 .bf16) (b : ℕ) : ℕ → Carry F
  | 0 => (k0_pay20 (F := F), k0_pay21 (F := F), k0_pay22 (F := F))
  | n + 1 => step T pool cs v0 L b n (iter v0 L b n)

end values

variable (c : Dev nD) (T : Table) (pool : S11796480x128.Idx → Elt F .f32) (cs : S16x128x1024.Idx → Elt F .f32)
variable (hT : ∀ x, (T x).toNat < 20480)
variable {defs : Defs nD τ sig (Elt F) Λ₀} (𝒱 : Variants) (bd : Option 𝒱.V) {α : Type}
variable (i : grid0.Coords) (k : Fin k0_t1_loop.trips)
  (h1 : mtab.IsWhole) (m2 : Memref sig .tc .vmem S1x64x640 .bf16) (h2 : m2.IsWhole) (m3 : Memref sig .tc .vmem S1x576x128 .f32) (h3 : m3.IsWhole)
  (m4 : Memref sig .tc .vmem S128x128 .f32) (h4 : m4.IsWhole) (m5 : Memref sig .tc .vmem S64x128 .i32) (h5 : m5.IsWhole)
  (m6 : Memref sig .tc .vmem S1536x512 .bf16) (h6 : m6.IsWhole) (h7 : mcsh.IsWhole) (h8 : mpool.IsWhole)
  (m9 : Memref sig .tc .vmem S1x64x512 .f32) (h9 : m9.IsWhole) (h10 : mbuf.IsWhole) (h11 : mcsb.IsWhole) (h12 : mlhs.IsWhole)

include hT

/-- A slot before the trip that reads it: its chunk on the way, or nothing when no chunk is left. -/
def cell (b ck : ℕ) : sProp 𝕄 := if ck < 16 then flying c T pool cs b ck (ck % 4) 0 else idle c pool cs (ck % 4)

/-- The left operand's buffer at `L`. -/
def lhsAt (c : Dev nD) (L : Vec F S1600x512 .bf16) : sProp 𝕄 :=
  iprop((c : Thread nD τ).loc cc0_scratch2 ↦{fullShare} (L : Buf (Elt F) ((c : Thread nD τ).loc cc0_scratch2)))

omit hT in
theorem flat (c : Dev nD) (𝒱 : Variants) (bd : Option 𝒱.V) {α β γ : Type} {defs : Defs nD τ sig (Elt F) Λ₀} {A : Prog (TpuEff nD τ sig (Elt F) Λ₀ .tc) β}
    {g : β → Prog (TpuEff nD τ sig (Elt F) Λ₀ .tc) γ} {K : γ → Prog (TpuEff nD τ sig (Elt F) Λ₀ .tc) α} {Q : α → sProp 𝕄} :
    wp frame (wpE defs 𝒱 (c : Thread nD τ) bd) Set.univ (A.bind fun x => (g x).bind K) Q
      ⊢ wp frame (wpE defs 𝒱 (c : Thread nD τ) bd) Set.univ ((A >>= g).bind K) Q := by
  rw [bind_eq, bind_bind]

omit hT in
theorem wp_lhs (c : Dev nD) (𝒱 : Variants) (bd : Option 𝒱.V) {α : Type} {defs : Defs nD τ sig (Elt F) Λ₀} (L : Vec F S1600x512 .bf16) {h hl}
    {k : Vec F S1600x512 .bf16 → Prog (TpuEff nD τ sig (Elt F) Λ₀ .tc) α} {Q : α → sProp 𝕄} :
    lhsAt c L
      ⊢ iprop((lhsAt c L -∗ wp frame (wpE defs 𝒱 (c : Thread nD τ) bd) Set.univ (k L) Q)
          -∗ wp frame (wpE defs 𝒱 (c : Thread nD τ) bd) Set.univ (.op (.load (p := (c : Thread nD τ).2) mlhs (Rect.unit (s := S1600x512) ![0, 0] S1600x512.size h).toLoadRect hl) k) Q) := by
  have e : mlhs.view.readAt (Elt F) (Rect.unit (s := S1600x512) ![0, 0] S1600x512.size h).toLoadRect (L : Buf (Elt F) ((c : Thread nD τ).loc cc0_scratch2)) = L := by
    funext x
    show L _ = L _
    refine congrArg L ?_
    funext a
    apply Fin.ext
    match a with
    | ⟨0, _⟩ => exact (show 0 + 1 * (x 0).val = (x 0).val by omega)
    | ⟨1, _⟩ => exact (show 0 + 1 * (x 1).val = (x 1).val by omega)
  suffices main : ∀ v : Vec F S1600x512 .bf16, mlhs.view.readAt (Elt F) (Rect.unit (s := S1600x512) ![0, 0] S1600x512.size h).toLoadRect (L : Buf (Elt F) ((c : Thread nD τ).loc cc0_scratch2)) = v →
      (lhsAt c L ⊢ iprop((lhsAt c L -∗ wp frame (wpE defs 𝒱 (c : Thread nD τ) bd) Set.univ (k v) Q)
          -∗ wp frame (wpE defs 𝒱 (c : Thread nD τ) bd) Set.univ (.op (.load (p := (c : Thread nD τ).2) mlhs (Rect.unit (s := S1600x512) ![0, 0] S1600x512.size h).toLoadRect hl) k) Q)) from main _ e
  intro v e
  subst e
  unfold lhsAt
  iintro H Hk
  iapply (wp_load 𝒱 (c : Thread nD τ) bd Set.univ (m := mlhs) (S := Finset.univ) (q := fullShare)
    (f := (L : Buf (Elt F) ((c : Thread nD τ).loc cc0_scratch2))) (Finset.subset_univ _)) $$ H
  iintro H
  iapply Hk
  iexact H

theorem part14 {K} {Q : α → sProp 𝕄} (k0_hw25 : k0_chk25 (word T (i 0).val (8 * k.val + 0))) (k0_hw26 : k0_chk26 (word T (i 0).val (8 * k.val + 1))) (k0_hw27 : k0_chk27 (word T (i 0).val (8 * k.val + 2))) (k0_hw28 : k0_chk28 (word T (i 0).val (8 * k.val + 3))) (k0_hw29 : k0_chk29 (word T (i 0).val (8 * k.val + 4))) (k0_hw30 : k0_chk30 (word T (i 0).val (8 * k.val + 5))) (v161 : BitVec 32) :
    iprop(flying c T pool cs (i 0).val k.val (k.val % 4) 0 ∗ owed c)
      ⊢ iprop(((flying c T pool cs (i 0).val k.val (k.val % 4) 6 ∗ owed c) -∗ wp frame (wpE defs 𝒱 (c : Thread nD τ) bd) Set.univ (K ⟨⟩) Q)
          -∗ wp frame (wpE defs 𝒱 (c : Thread nD τ) bd) Set.univ ((k0_part14 (F := F) i mtab h1 m2 h2 m3 h3 m4 h4 m5 h5 m6 h6 mcsh h7 mpool h8 m9 h9 mbuf h10 mcsb h11 mlhs h12 cc0_scratch3 cc0_scratch4 k (word T (i 0).val (8 * k.val + 0)) k0_hw25 (word T (i 0).val (8 * k.val + 1)) k0_hw26 (word T (i 0).val (8 * k.val + 2)) k0_hw27 (word T (i 0).val (8 * k.val + 3)) k0_hw28 (word T (i 0).val (8 * k.val + 4)) k0_hw29 (word T (i 0).val (8 * k.val + 5)) k0_hw30 v161).bind K) Q) := by
  rw [k0_part14_eq_skeleton]
  unfold k0_part14_skel
  iintro H Hk
  iapply (wp_await c T pool cs 𝒱 bd (b := (i 0).val) (ck := k.val) (s := (k.val % 4)) (u := 0) (Nat.mod_lt _ (by decide)) (by decide) _ (off57 k) _) $$ H
  iintro H
  iapply (wp_await c T pool cs 𝒱 bd (b := (i 0).val) (ck := k.val) (s := (k.val % 4)) (u := 1) (Nat.mod_lt _ (by decide)) (by decide) _ (off57 k) _) $$ H
  iintro H
  iapply (wp_await c T pool cs 𝒱 bd (b := (i 0).val) (ck := k.val) (s := (k.val % 4)) (u := 2) (Nat.mod_lt _ (by decide)) (by decide) _ (off57 k) _) $$ H
  iintro H
  iapply (wp_await c T pool cs 𝒱 bd (b := (i 0).val) (ck := k.val) (s := (k.val % 4)) (u := 3) (Nat.mod_lt _ (by decide)) (by decide) _ (off57 k) _) $$ H
  iintro H
  iapply (wp_await c T pool cs 𝒱 bd (b := (i 0).val) (ck := k.val) (s := (k.val % 4)) (u := 4) (Nat.mod_lt _ (by decide)) (by decide) _ (off57 k) _) $$ H
  iintro H
  iapply (wp_await c T pool cs 𝒱 bd (b := (i 0).val) (ck := k.val) (s := (k.val % 4)) (u := 5) (Nat.mod_lt _ (by decide)) (by decide) _ (off57 k) _) $$ H
  iintro H
  dsimp only [Prog.bind, Pure.pure, Prog.lift]
  iapply Hk
  iexact H

theorem part15 {K} {Q : α → sProp 𝕄} (arg0 arg15 v98 : BitVec 32) (k0_hw31 : k0_chk31 (word T (i 0).val (8 * k.val + 6))) (k0_hw32 : k0_chk32 (word T (i 0).val (8 * k.val + 7))) :
    iprop(tabled (F := F) c T ∗ flying c T pool cs (i 0).val k.val (k.val % 4) 6 ∗ owed c ∗ idle c pool cs ((k.val + 3) % 4))
      ⊢ iprop(((tabled (F := F) c T ∗ full c T pool cs (i 0).val k.val (k.val % 4) ∗ owed c ∗ cell c T pool cs (i 0).val (k.val + 3)) -∗ wp frame (wpE defs 𝒱 (c : Thread nD τ) bd) Set.univ (K ⟨k0_pay2 (latV T pool (i 0).val k.val 0), k0_pay3 (latV T pool (i 0).val k.val 1), k0_pay4 (latV T pool (i 0).val k.val 2), k0_pay5 (latV T pool (i 0).val k.val 3), k0_pay6 (latV T pool (i 0).val k.val 4)⟩) Q)
          -∗ wp frame (wpE defs 𝒱 (c : Thread nD τ) bd) Set.univ ((k0_part15 (F := F) i mtab h1 m2 h2 m3 h3 m4 h4 m5 h5 m6 h6 mcsh h7 mpool h8 m9 h9 mbuf h10 mcsb h11 mlhs h12 cc0_scratch3 cc0_scratch4 arg0 k arg15 v98 (word T (i 0).val (8 * k.val + 6)) k0_hw31 (word T (i 0).val (8 * k.val + 7)) k0_hw32).bind K) Q) := by
  rw [k0_part15_eq_skeleton]
  unfold k0_part15_skel
  by_cases k0_h3 : k0_cond3 k = 1#1
  · have hc := (cond3_iff k).1 k0_h3
    simp only [dif_pos k0_h3]
    iintro ⟨HT, HL, HO, HR⟩ Hk
    icombine HL HO as H
    iapply (wp_await c T pool cs 𝒱 bd (b := (i 0).val) (ck := k.val) (s := (k.val % 4)) (u := 6) (Nat.mod_lt _ (by decide)) (by decide) _ (off57 k) _) $$ H
    iintro H
    iapply (wp_await_last c T pool cs 𝒱 bd (b := (i 0).val) (ck := k.val) (s := (k.val % 4)) (Nat.mod_lt _ (by decide)) _ (off57 k) _) $$ H
    iintro H
    iapply (wp_await_slab c T pool cs 𝒱 bd (b := (i 0).val) (ck := k.val) (s := (k.val % 4)) (Nat.mod_lt _ (by decide)) _ (off57 k) _) $$ H
    iintro ⟨HF, HO⟩
    dsimp only [Prog.bind, Pure.pure, Prog.lift]
    iapply (flat c 𝒱 bd)
    iapply (part9 c T hT 𝒱 bd i k h1 m2 h2 m3 h3 m4 h4 m5 h5 m6 h6 h7 h8 m9 h9 h10 h11 h12 arg0 arg15 k0_h3) $$ HT
    iintro %u0 %u2 %u4 %u6 %u7 HT
    iapply (flat c 𝒱 bd)
    iapply (part10 c T hT 𝒱 bd i k h1 m2 h2 m3 h3 m4 h4 m5 h5 m6 h6 h7 h8 m9 h9 h10 h11 h12 arg0 k0_h3 u0 u7) $$ HT
    iintro %w1 %w3 %w5 %w7 %w8 HT
    iapply (flat c 𝒱 bd)
    iapply (part11 c T pool cs hT 𝒱 bd i k h1 m2 h2 m3 h3 m4 h4 m5 h5 m6 h6 h7 h8 m9 h9 h10 h11 h12 k0_h3 u2 u4 u6 w1 w3 w8) $$ [HT HR]
    · isplitl [HT]; · iexact HT
      iexact HR
    iintro %_ ⟨HT, HR⟩
    iapply (wp_page c T pool cs 𝒱 bd (b := (i 0).val) (ck := k.val + 3) (s := ((k.val + 3) % 4)) (p := 5) (Nat.mod_lt _ (by decide)) (by decide) (hT _) (off95 k) _ (offP (hT _)) _ (off84 k) _) $$ HR
    iintro HR
    iapply (wp_page c T pool cs 𝒱 bd (b := (i 0).val) (ck := k.val + 3) (s := ((k.val + 3) % 4)) (p := 6) (Nat.mod_lt _ (by decide)) (by decide) (hT _) (off97 k) _ (offP (hT _)) _ (off84 k) _) $$ HR
    iintro HR
    iapply (wp_page c T pool cs 𝒱 bd (b := (i 0).val) (ck := k.val + 3) (s := ((k.val + 3) % 4)) (p := 7) (Nat.mod_lt _ (by decide)) (by decide) (hT _) (off99 k) _ (offP (hT _)) _ (off84 k) _) $$ HR
    iintro HR
    iapply (wp_slab c T pool cs 𝒱 bd (b := (i 0).val) (ck := k.val + 3) (s := ((k.val + 3) % 4)) (Nat.mod_lt _ (by decide)) hc (off101 k) _ (off102 k) _ (off84 k) _) $$ HR
    iintro HR
    iapply (wp_lat c T pool cs 𝒱 bd (b := (i 0).val) (ck := k.val) (s := (k.val % 4)) (p := 0) (by decide) (off103 k)) $$ HF
    iintro HF
    iapply (wp_lat c T pool cs 𝒱 bd (b := (i 0).val) (ck := k.val) (s := (k.val % 4)) (p := 1) (by decide) (off104 k)) $$ HF
    iintro HF
    iapply (wp_lat c T pool cs 𝒱 bd (b := (i 0).val) (ck := k.val) (s := (k.val % 4)) (p := 2) (by decide) (off105 k)) $$ HF
    iintro HF
    iapply (wp_lat c T pool cs 𝒱 bd (b := (i 0).val) (ck := k.val) (s := (k.val % 4)) (p := 3) (by decide) (off106 k)) $$ HF
    iintro HF
    iapply (wp_lat c T pool cs 𝒱 bd (b := (i 0).val) (ck := k.val) (s := (k.val % 4)) (p := 4) (by decide) (off107 k)) $$ HF
    iintro HF
    dsimp only [Prog.bind, Pure.pure, Prog.lift]
    iapply Hk
    isplitl [HT]; · iexact HT
    isplitl [HF]; · iexact HF
    isplitl [HO]; · iexact HO
    unfold cell; rw [if_pos hc]
    iexact HR
  · have hc : ¬ k.val + 3 < 16 := fun h => k0_h3 ((cond3_iff k).2 h)
    simp only [dif_neg k0_h3]
    iintro ⟨HT, HL, HO, HR⟩ Hk
    icombine HL HO as H
    iapply (wp_await c T pool cs 𝒱 bd (b := (i 0).val) (ck := k.val) (s := (k.val % 4)) (u := 6) (Nat.mod_lt _ (by decide)) (by decide) _ (off57 k) _) $$ H
    iintro H
    iapply (wp_await_last c T pool cs 𝒱 bd (b := (i 0).val) (ck := k.val) (s := (k.val % 4)) (Nat.mod_lt _ (by decide)) _ (off57 k) _) $$ H
    iintro H
    iapply (wp_await_slab c T pool cs 𝒱 bd (b := (i 0).val) (ck := k.val) (s := (k.val % 4)) (Nat.mod_lt _ (by decide)) _ (off57 k) _) $$ H
    iintro ⟨HF, HO⟩
    iapply (wp_lat c T pool cs 𝒱 bd (b := (i 0).val) (ck := k.val) (s := (k.val % 4)) (p := 0) (by decide) (off103 k)) $$ HF
    iintro HF
    iapply (wp_lat c T pool cs 𝒱 bd (b := (i 0).val) (ck := k.val) (s := (k.val % 4)) (p := 1) (by decide) (off104 k)) $$ HF
    iintro HF
    iapply (wp_lat c T pool cs 𝒱 bd (b := (i 0).val) (ck := k.val) (s := (k.val % 4)) (p := 2) (by decide) (off105 k)) $$ HF
    iintro HF
    iapply (wp_lat c T pool cs 𝒱 bd (b := (i 0).val) (ck := k.val) (s := (k.val % 4)) (p := 3) (by decide) (off106 k)) $$ HF
    iintro HF
    iapply (wp_lat c T pool cs 𝒱 bd (b := (i 0).val) (ck := k.val) (s := (k.val % 4)) (p := 4) (by decide) (off107 k)) $$ HF
    iintro HF
    dsimp only [Prog.bind, Pure.pure, Prog.lift]
    iapply Hk
    isplitl [HT]; · iexact HT
    isplitl [HF]; · iexact HF
    isplitl [HO]; · iexact HO
    unfold cell; rw [if_neg hc]
    iexact HR

theorem part16 {K} {Q : α → sProp 𝕄} (v98 : BitVec 32) (w0 w1 w2 w3 w4 : FVec F S512x128 .f32) :
    iprop(full c T pool cs (i 0).val k.val (k.val % 4))
      ⊢ iprop(((full c T pool cs (i 0).val k.val (k.val % 4)) -∗ wp frame (wpE defs 𝒱 (c : Thread nD τ) bd) Set.univ (K ⟨k0_pay7 w0 w1 w2 w3 w4 (latV T pool (i 0).val k.val 5) (latV T pool (i 0).val k.val 6) (latV T pool (i 0).val k.val 7), rope8 T pool (i 0).val k.val, angV cs k.val⟩) Q)
          -∗ wp frame (wpE defs 𝒱 (c : Thread nD τ) bd) Set.univ ((k0_part16 (F := F) i mtab h1 m2 h2 m3 h3 m4 h4 m5 h5 m6 h6 mcsh h7 mpool h8 m9 h9 mbuf h10 mcsb h11 mlhs h12 cc0_scratch3 cc0_scratch4 k v98 w0 w1 w2 w3 w4).bind K) Q) := by
  rw [k0_part16_eq_skeleton]
  unfold k0_part16_skel
  iintro HF Hk
  iapply (wp_lat c T pool cs 𝒱 bd (b := (i 0).val) (ck := k.val) (s := (k.val % 4)) (p := 5) (by decide) (off108 k)) $$ HF
  iintro HF
  iapply (wp_lat c T pool cs 𝒱 bd (b := (i 0).val) (ck := k.val) (s := (k.val % 4)) (p := 6) (by decide) (off109 k)) $$ HF
  iintro HF
  iapply (wp_lat c T pool cs 𝒱 bd (b := (i 0).val) (ck := k.val) (s := (k.val % 4)) (p := 7) (by decide) (off110 k)) $$ HF
  iintro HF
  iapply (wp_rope c T pool cs 𝒱 bd (b := (i 0).val) (ck := k.val) (s := (k.val % 4)) (p := 0) (by decide) (off111 k)) $$ HF
  iintro HF
  iapply (wp_rope c T pool cs 𝒱 bd (b := (i 0).val) (ck := k.val) (s := (k.val % 4)) (p := 1) (by decide) (off112 k)) $$ HF
  iintro HF
  iapply (wp_rope c T pool cs 𝒱 bd (b := (i 0).val) (ck := k.val) (s := (k.val % 4)) (p := 2) (by decide) (off113 k)) $$ HF
  iintro HF
  iapply (wp_rope c T pool cs 𝒱 bd (b := (i 0).val) (ck := k.val) (s := (k.val % 4)) (p := 3) (by decide) (off114 k)) $$ HF
  iintro HF
  iapply (wp_rope c T pool cs 𝒱 bd (b := (i 0).val) (ck := k.val) (s := (k.val % 4)) (p := 4) (by decide) (off115 k)) $$ HF
  iintro HF
  iapply (wp_rope c T pool cs 𝒱 bd (b := (i 0).val) (ck := k.val) (s := (k.val % 4)) (p := 5) (by decide) (off116 k)) $$ HF
  iintro HF
  iapply (wp_rope c T pool cs 𝒱 bd (b := (i 0).val) (ck := k.val) (s := (k.val % 4)) (p := 6) (by decide) (off117 k)) $$ HF
  iintro HF
  iapply (wp_rope c T pool cs 𝒱 bd (b := (i 0).val) (ck := k.val) (s := (k.val % 4)) (p := 7) (by decide) (off118 k)) $$ HF
  iintro HF
  iapply (wp_ang c T pool cs 𝒱 bd (b := (i 0).val) (ck := k.val) (s := (k.val % 4)) (off119 k)) $$ HF
  iintro HF
  dsimp only [Prog.bind, Pure.pure, Prog.lift]
  iapply Hk
  iexact HF

theorem part17 {K} {Q : α → sProp 𝕄} (L : Vec F S1600x512 .bf16) (v0 : Vec F S1x64x640 .bf16) (a : Carry F) :
    iprop(lhsAt c L)
      ⊢ iprop(((lhsAt c L) -∗ wp frame (wpE defs 𝒱 (c : Thread nD τ) bd) Set.univ (K ⟨(step T pool cs v0 L (i 0).val k.val a).1, (step T pool cs v0 L (i 0).val k.val a).2.1, (step T pool cs v0 L (i 0).val k.val a).2.2⟩) Q)
          -∗ wp frame (wpE defs 𝒱 (c : Thread nD τ) bd) Set.univ ((k0_part17 (F := F) i mtab h1 m2 h2 m3 h3 m4 h4 m5 h5 m6 h6 mcsh h7 mpool h8 m9 h9 mbuf h10 mcsb h11 mlhs h12 cc0_scratch3 cc0_scratch4 (k0_pay17 v0) a.1 a.2.1 a.2.2 (lat8 T pool (i 0).val k.val) (rope8 T pool (i 0).val k.val) (angV cs k.val)).bind K) Q) := by
  rw [k0_part17_eq_skeleton]
  unfold k0_part17_skel
  iintro H Hk
  iapply (wp_lhs c 𝒱 bd L) $$ H
  iintro H
  dsimp only [Prog.bind, Pure.pure, Prog.lift]
  iapply Hk
  iexact H

/-! ## The loop -/

/-- What holds before trip `n`. -/
def inv (v0 : Vec F S1x64x640 .bf16) (L : Vec F S1600x512 .bf16) (n : ℕ) (a : Carry F) : sProp 𝕄 :=
  iprop(tabled (F := F) c T ∗ cell c T pool cs (i 0).val n ∗ cell c T pool cs (i 0).val (n + 1) ∗ cell c T pool cs (i 0).val (n + 2)
    ∗ idle c pool cs ((n + 3) % 4) ∗ lhsAt c L ∗ owed c ∗ ⌜a = iter T pool cs v0 L (i 0).val n⌝)

theorem trip (arg0 : BitVec 32) (v0 : Vec F S1x64x640 .bf16) (L : Vec F S1600x512 .bf16) (a : Carry F) :
    inv c T pool cs i v0 L k.val a
      ⊢ wp frame (wpE defs 𝒱 (c : Thread nD τ) bd) Set.univ (k0_t1_body (F := F) i mtab h1 m2 h2 m3 h3 m4 h4 m5 h5 m6 h6 mcsh h7 mpool h8 m9 h9 mbuf h10 mcsb h11 mlhs h12 cc0_scratch3 cc0_scratch4 arg0 v0 k a) (inv c T pool cs i v0 L (k.val + 1)) := by
  obtain ⟨a0, a1, a2⟩ := a
  unfold k0_t1_body
  simp only [bind_eq, bind_bind]
  have hk := lt16 k
  unfold inv
  iintro ⟨HT, HK, HK1, HK2, HI, HL, HO, %ha⟩
  ihave HK' := (show cell c T pool cs (i 0).val k.val ⊢ flying c T pool cs (i 0).val k.val (k.val % 4) 0 from Entails.of_eq (by unfold cell; rw [if_pos hk])) $$ HK
  iapply (part12 c T hT 𝒱 bd i k h1 m2 h2 m3 h3 m4 h4 m5 h5 m6 h6 h7 h8 m9 h9 h10 h11 h12 _ _ _) $$ HT
  iintro %_ %_ %_ %_ %_ %_ HT
  iapply (part13 c T hT 𝒱 bd i k h1 m2 h2 m3 h3 m4 h4 m5 h5 m6 h6 h7 h8 m9 h9 h10 h11 h12 _ _ _) $$ HT
  iintro %_ %_ %_ %_ %_ %_ HT
  iapply (part14 c T pool cs hT 𝒱 bd i k h1 m2 h2 m3 h3 m4 h4 m5 h5 m6 h6 h7 h8 m9 h9 h10 h11 h12 _ _ _ _ _ _ _) $$ [HK' HO]
  · isplitl [HK']; · iexact HK'
    iexact HO
  iintro ⟨HK, HO⟩
  iapply (part15 c T pool cs hT 𝒱 bd i k h1 m2 h2 m3 h3 m4 h4 m5 h5 m6 h6 h7 h8 m9 h9 h10 h11 h12 _ _ _ _ _) $$ [HT HK HO HI]
  · isplitl [HT]; · iexact HT
    isplitl [HK]; · iexact HK
    isplitl [HO]; · iexact HO
    iexact HI
  iintro ⟨HT, HK, HO, HK3⟩
  iapply (part16 c T pool cs hT 𝒱 bd i k h1 m2 h2 m3 h3 m4 h4 m5 h5 m6 h6 h7 h8 m9 h9 h10 h11 h12 _ _ _ _ _ _) $$ HK
  iintro HK
  iapply (part17 c T pool cs hT 𝒱 bd i k h1 m2 h2 m3 h3 m4 h4 m5 h5 m6 h6 h7 h8 m9 h9 h10 h11 h12 L v0 (a0, a1, a2)) $$ HL
  iintro HL
  ihave HK := (full_idle c T pool cs (i 0).val k.val (k.val % 4)) $$ HK
  dsimp only [Pure.pure]
  rw [wp_ret]
  imodintro
  isplitl [HT]; · iexact HT
  isplitl [HK1]; · iexact HK1
  isplitl [HK2]; · iexact HK2
  isplitl [HK3]; · iexact HK3
  isplitl [HK]
  · rw [show (k.val + 1 + 3) % 4 = k.val % 4 by omega]
    iexact HK
  isplitl [HL]; · iexact HL
  isplitl [HO]; · iexact HO
  ipureintro
  rw [ha]
  rfl

end Cert.MlaIdeal.Spec

end
-- ==== Proof.MlaBody.lean ====
/-
  One grid point of the latent attention kernel: a sequence's new rows, the loop over its past, and the output block.
-/
module

public import proofs.«01_k».proof.Proof.MlaTrip
public import Idealize.ShloMosaic.Lib.VecWindow

@[expose] public section

set_option maxRecDepth 16384
set_option maxHeartbeats 4000000

noncomputable section

namespace Cert.MlaIdeal.Spec

open Cert.MlaIdeal Cert.MlaIdeal.Gen Cert.Softmax
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The left operand's buffer by its two parts -/

/-- The top rows set to `w`. -/
def top (w : FVec F S1536x512 .bf16) (f : Vec F S1600x512 .bf16) : Vec F S1600x512 .bf16 := fun x =>
  if h : (x 0).val < 1536 then w (ix2 ⟨(x 0).val, h⟩ ⟨(x 1).val, (x 1).isLt⟩) else f x
/-- The bottom rows set to `u`. -/
def bot (u : FVec F S64x512 .bf16) (f : Vec F S1600x512 .bf16) : Vec F S1600x512 .bf16 := fun x =>
  if (x 0).val < 1536 then f x
  else u (ix2 ⟨(x 0).val - 1536, by have : (x 0).val < 1600 := (x 0).isLt; show _ < 64; omega⟩ ⟨(x 1).val, (x 1).isLt⟩)
/-- Both parts. -/
def both (w : FVec F S1536x512 .bf16) (u : FVec F S64x512 .bf16) : Vec F S1600x512 .bf16 := fun x =>
  if h : (x 0).val < 1536 then w (ix2 ⟨(x 0).val, h⟩ ⟨(x 1).val, (x 1).isLt⟩)
  else u (ix2 ⟨(x 0).val - 1536, by have : (x 0).val < 1600 := (x 0).isLt; show _ < 64; omega⟩ ⟨(x 1).val, (x 1).isLt⟩)

theorem bot_top (w : FVec F S1536x512 .bf16) (u : FVec F S64x512 .bf16) (f : Vec F S1600x512 .bf16) : bot u (top w f) = both w u := by
  funext x
  unfold bot top both
  by_cases h : (x 0).val < 1536
  · rw [if_pos h, dif_pos h, dif_pos h]
  · rw [if_neg h, dif_neg h]
theorem top_both (w : FVec F S1536x512 .bf16) (u : FVec F S64x512 .bf16) : top w (both w u) = both w u := by
  funext x
  unfold top both
  by_cases h : (x 0).val < 1536
  · rw [dif_pos h, dif_pos h]
  · rw [dif_neg h]

theorem write_top (w : FVec F S1536x512 .bf16) (f : Vec F S1600x512 .bf16) {h} :
    (mlhs.access (Rect.unit (s := S1600x512) ![0, 0] S1536x512.size h)).write (Elt F) f w Finset.univ = top w f := by
  funext x
  unfold top
  by_cases hx : (x 0).val < 1536
  · rw [dif_pos hx]
    have e : (mlhs.access (Rect.unit (s := S1600x512) ![0, 0] S1536x512.size h)).emb (ix2 ⟨(x 0).val, hx⟩ ⟨(x 1).val, (x 1).isLt⟩ : S1536x512.Idx) = x := by
      funext a
      apply Fin.ext
      match a with
      | ⟨0, _⟩ => exact (show 0 + 1 * (x 0).val = (x 0).val by omega)
      | ⟨1, _⟩ => exact (show 0 + 1 * (x 1).val = (x 1).val by omega)
    have := View.write_emb_of_mem (v := mlhs.access (Rect.unit (s := S1600x512) ![0, 0] S1536x512.size h)) (Val := Elt F) f w
      (Finset.mem_univ (ix2 ⟨(x 0).val, hx⟩ ⟨(x 1).val, (x 1).isLt⟩ : S1536x512.Idx))
    rw [e] at this
    exact this
  · rw [dif_neg hx]
    refine View.write_of_not_mem _ _ _ fun hm => hx ?_
    obtain ⟨y, _, rfl⟩ := Finset.mem_map.mp hm
    have : (y 0).val < 1536 := (y 0).isLt
    show 0 + 1 * (y 0).val < 1536
    omega

theorem write_bot (u : FVec F S64x512 .bf16) (f : Vec F S1600x512 .bf16) {h} :
    (mlhs.access (Rect.unit (s := S1600x512) ![1536, 0] S64x512.size h)).write (Elt F) f u Finset.univ = bot u f := by
  funext x
  unfold bot
  by_cases hx : (x 0).val < 1536
  · rw [if_pos hx]
    refine View.write_of_not_mem _ _ _ fun hm => ?_
    obtain ⟨y, _, rfl⟩ := Finset.mem_map.mp hm
    have hx : 1536 + 1 * (y 0).val < 1536 := hx
    omega
  · rw [if_neg hx]
    have h0 : (x 0).val < 1600 := (x 0).isLt
    have h1 : (x 0).val - 1536 < 64 := by omega
    have e : (mlhs.access (Rect.unit (s := S1600x512) ![1536, 0] S64x512.size h)).emb (ix2 ⟨(x 0).val - 1536, h1⟩ ⟨(x 1).val, (x 1).isLt⟩ : S64x512.Idx) = x := by
      funext a
      apply Fin.ext
      match a with
      | ⟨0, _⟩ => exact (show 1536 + 1 * ((x 0).val - 1536) = (x 0).val by omega)
      | ⟨1, _⟩ => exact (show 0 + 1 * (x 1).val = (x 1).val by omega)
    have := View.write_emb_of_mem (v := mlhs.access (Rect.unit (s := S1600x512) ![1536, 0] S64x512.size h)) (Val := Elt F) f u
      (Finset.mem_univ (ix2 ⟨(x 0).val - 1536, h1⟩ ⟨(x 1).val, (x 1).isLt⟩ : S64x512.Idx))
    rw [e] at this
    exact this

section rules

variable (c : Dev nD) {defs : Defs nD τ sig (Elt F) Λ₀} (𝒱 : Variants) (bd : Option 𝒱.V) {α : Type}

theorem wp_top (w : FVec F S1536x512 .bf16) (f : Vec F S1600x512 .bf16) {h hx hm}
    {k : PUnit → Prog (TpuEff nD τ sig (Elt F) Λ₀ .tc) α} {Q : α → sProp 𝕄} :
    lhsAt c f
      ⊢ iprop((lhsAt c (top w f) -∗ wp frame (wpE defs 𝒱 (c : Thread nD τ) bd) Set.univ (k ⟨⟩) Q)
          -∗ wp frame (wpE defs 𝒱 (c : Thread nD τ) bd) Set.univ
            (.op (.store (p := (c : Thread nD τ).2) mlhs (Rect.unit (s := S1600x512) ![0, 0] S1536x512.size h) w Finset.univ hx hm) k) Q) := by
  have e := write_top w f (h := h)
  generalize top w f = g at e ⊢
  subst e
  unfold lhsAt
  iintro H Hk
  iapply (wp_store 𝒱 (c : Thread nD τ) bd Set.univ (Q := Q) (w := w) (hx := hx) (hm := hm) (k := k) (m := mlhs)
    (r := Rect.unit (s := S1600x512) ![0, 0] S1536x512.size h) (Mk := Finset.univ) (S := Finset.univ)
    (f := (f : Buf (Elt F) ((c : Thread nD τ).loc cc0_scratch2))) (Finset.subset_univ _)) $$ H
  iintro H
  iapply Hk
  iexact H

theorem wp_bot (w : FVec F S64x512 .bf16) (f : Vec F S1600x512 .bf16) {h hx hm}
    {k : PUnit → Prog (TpuEff nD τ sig (Elt F) Λ₀ .tc) α} {Q : α → sProp 𝕄} :
    lhsAt c f
      ⊢ iprop((lhsAt c (bot w f) -∗ wp frame (wpE defs 𝒱 (c : Thread nD τ) bd) Set.univ (k ⟨⟩) Q)
          -∗ wp frame (wpE defs 𝒱 (c : Thread nD τ) bd) Set.univ
            (.op (.store (p := (c : Thread nD τ).2) mlhs (Rect.unit (s := S1600x512) ![1536, 0] S64x512.size h) w Finset.univ hx hm) k) Q) := by
  have e := write_bot w f (h := h)
  generalize bot w f = g at e ⊢
  subst e
  unfold lhsAt
  iintro H Hk
  iapply (wp_store 𝒱 (c : Thread nD τ) bd Set.univ (Q := Q) (w := w) (hx := hx) (hm := hm) (k := k) (m := mlhs)
    (r := Rect.unit (s := S1600x512) ![1536, 0] S64x512.size h) (Mk := Finset.univ) (S := Finset.univ)
    (f := (f : Buf (Elt F) ((c : Thread nD τ).loc cc0_scratch2))) (Finset.subset_univ _)) $$ H
  iintro H
  iapply Hk
  iexact H

/-- A load of the buffer whose value is not used. -/
theorem wp_peek (f : Vec F S1600x512 .bf16) {r : LoadRect S1600x512} {hl}
    {k : (r.shape.Idx → Elt F .bf16) → Prog (TpuEff nD τ sig (Elt F) Λ₀ .tc) α} {Q : α → sProp 𝕄} :
    lhsAt c f
      ⊢ iprop((∀ v, lhsAt c f -∗ wp frame (wpE defs 𝒱 (c : Thread nD τ) bd) Set.univ (k v) Q)
          -∗ wp frame (wpE defs 𝒱 (c : Thread nD τ) bd) Set.univ (.op (.load (p := (c : Thread nD τ).2) mlhs r hl) k) Q) := by
  unfold lhsAt
  iintro H Hk
  iapply (wp_load 𝒱 (c : Thread nD τ) bd Set.univ (m := mlhs) (S := Finset.univ) (q := fullShare)
    (f := (f : Buf (Elt F) ((c : Thread nD τ).loc cc0_scratch2))) (Finset.subset_univ _)) $$ H
  iintro H
  iapply Hk
  iexact H

/-- A load of a staged window. -/
theorem wp_win {sh : Shape} {e : EltTy} (m : Memref sig .tc .vmem sh e) (x : sh.Idx → Elt F e) {r : Rect sh} {hl}
    {k : (r.shape.Idx → Elt F e) → Prog (TpuEff nD τ sig (Elt F) Λ₀ .tc) α} {Q : α → sProp 𝕄} :
    owns (c : Thread nD τ) m fullShare x
      ⊢ iprop((owns (c : Thread nD τ) m fullShare x -∗ wp frame (wpE defs 𝒱 (c : Thread nD τ) bd) Set.univ (k (View.ld x r)) Q)
          -∗ wp frame (wpE defs 𝒱 (c : Thread nD τ) bd) Set.univ (.op (.load (p := (c : Thread nD τ).2) m r.toLoadRect hl) k) Q) := by
  unfold owns
  iintro ⟨%f, %hf, H⟩ Hk
  subst hf
  iapply (wp_load 𝒱 (c : Thread nD τ) bd Set.univ (m := m) (S := m.view.set) (q := fullShare) (f := f) (View.setOn_subset_set _ _)) $$ H
  iintro H
  iapply Hk
  iexists f
  isplitr
  · ipureintro; rfl
  iexact H

/-- The load of a staged window before its store. -/
theorem wp_old {sh : Shape} {e : EltTy} (m : Memref sig .tc .vmem sh e) {r : Rect sh} {hl}
    {k : (r.shape.Idx → Elt F e) → Prog (TpuEff nD τ sig (Elt F) Λ₀ .tc) α} {Q : α → sProp 𝕄} :
    iprop(∃ x, owns (c : Thread nD τ) m fullShare x)
      ⊢ iprop((∀ v, iprop(∃ x, owns (c : Thread nD τ) m fullShare x) -∗ wp frame (wpE defs 𝒱 (c : Thread nD τ) bd) Set.univ (k v) Q)
          -∗ wp frame (wpE defs 𝒱 (c : Thread nD τ) bd) Set.univ (.op (.load (p := (c : Thread nD τ).2) m r.toLoadRect hl) k) Q) := by
  iintro ⟨%x, H⟩ Hk
  iapply (wp_win c 𝒱 bd m x) $$ H
  iintro H
  iapply Hk
  iexists x
  iexact H

/-- The store of the output block. -/
theorem wp_out {sh : Shape} {e : EltTy} (m : Memref sig .tc .vmem sh e) {off : Fin sh.rank → ℕ} {h : ∀ a, off a + sh.size a ≤ sh.size a} (w : sh.Idx → Elt F e) {hx hm}
    {k : PUnit → Prog (TpuEff nD τ sig (Elt F) Λ₀ .tc) α} {Q : α → sProp 𝕄} :
    iprop(∃ x, owns (c : Thread nD τ) m fullShare x)
      ⊢ iprop((owns (c : Thread nD τ) m fullShare w -∗ wp frame (wpE defs 𝒱 (c : Thread nD τ) bd) Set.univ (k ⟨⟩) Q)
          -∗ wp frame (wpE defs 𝒱 (c : Thread nD τ) bd) Set.univ
            (.op (.store (p := (c : Thread nD τ).2) m (Rect.unit off sh.size h) w Finset.univ hx hm) k) Q) := by
  unfold owns
  iintro ⟨%x, %f, -, H⟩ Hk
  iapply (wp_store_writes₀ 𝒱 (c : Thread nD τ) bd Set.univ (m := m) (r := Rect.unit off sh.size h) (w := w) (S := m.view.set) (f := f)
    (fun y hy => by obtain ⟨z, _, rfl⟩ := Finset.mem_map.mp hy; exact Finset.mem_map.mpr ⟨_, Finset.mem_univ _, rfl⟩)) $$ H
  iintro H
  iapply Hk
  iexists _
  isplitr
  swap
  · iexact H
  ipureintro
  exact View.read_writes_full _ _ _ _ _

end rules

/-! ## The point's values -/

/-- The output block of sequence `b`. -/
def outV (T : Table) (pool : S11796480x128.Idx → Elt F .f32) (cs : S16x128x1024.Idx → Elt F .f32) (b : ℕ)
    (x2 : Vec F S1x64x640 .bf16) (x3 : Vec F S1x576x128 .f32) (x4 : Vec F S128x128 .f32) (x5 : Vec F S64x128 .i32) (x6 : Vec F S1536x512 .bf16) : FVec F S1x64x512 .f32 :=
  let L := both (k0_pay18 x6) (k0_pay19 x2)
  let a := iter T pool cs x2 L b 16
  let v28 := k0_pay23 (F := F) (View.ld (Val := Elt F) x5 (Rect.unit (s := S64x128) ![0, 0] S64x1.size inb_S64x128_S64x1_0_0))
  let v29 : Vec F S1x512x128 .f32 := View.ld (Val := Elt F) x3 (Rect.unit (s := S1x576x128) ![0, 0, 0] S1x512x128.size inb_S1x576x128_S1x512x128_0_0_0)
  let v31 : Vec F S1x64x128 .f32 := View.ld (Val := Elt F) x3 (Rect.unit (s := S1x576x128) ![0, 512, 0] S1x64x128.size inb_S1x576x128_S1x64x128_0_512_0)
  k0_pay1 a.1 a.2.1 a.2.2 v28 (k0_pay24 v29) (k0_pay26 (k0_pay17 x2) a.1 v28 v29 v31 x4 L) (k0_pay27 (k0_pay17 x2) a.1 v28 v29 v31 x4 L) (k0_pay28 (F := F))

variable (c : Dev nD) (T : Table) (pool : S11796480x128.Idx → Elt F .f32) (cs : S16x128x1024.Idx → Elt F .f32)
variable (hT : ∀ x, (T x).toNat < 20480)
variable {defs : Defs nD τ sig (Elt F) Λ₀} (𝒱 : Variants) (bd : Option 𝒱.V) {α : Type}
variable (i : grid0.Coords)
  (h1 : mtab.IsWhole) (m2 : Memref sig .tc .vmem S1x64x640 .bf16) (h2 : m2.IsWhole) (m3 : Memref sig .tc .vmem S1x576x128 .f32) (h3 : m3.IsWhole)
  (m4 : Memref sig .tc .vmem S128x128 .f32) (h4 : m4.IsWhole) (m5 : Memref sig .tc .vmem S64x128 .i32) (h5 : m5.IsWhole)
  (m6 : Memref sig .tc .vmem S1536x512 .bf16) (h6 : m6.IsWhole) (h7 : mcsh.IsWhole) (h8 : mpool.IsWhole)
  (m9 : Memref sig .tc .vmem S1x64x512 .f32) (h9 : m9.IsWhole) (h10 : mbuf.IsWhole) (h11 : mcsb.IsWhole) (h12 : mlhs.IsWhole)

/-- Slots 0, 1 and 2 before point `n`: the sequence's first chunks on the way, but before the first point and past the last. -/
def ring (n : ℕ) : sProp 𝕄 :=
  if 0 < n ∧ n < 128 then iprop(flying c T pool cs n 0 0 0 ∗ flying c T pool cs n 1 1 0 ∗ flying c T pool cs n 2 2 0)
  else iprop(idle c pool cs 0 ∗ idle c pool cs 1 ∗ idle c pool cs 2)
/-- The left operand's buffer before point `n`: its top rows are set from the second point on. -/
def lhsB (w : FVec F S1536x512 .bf16) (n : ℕ) : sProp 𝕄 :=
  if n = 0 then iprop(∃ f, lhsAt (F := F) c f) else iprop(∃ f, lhsAt c (top w f))

include hT

omit hT in
/-- After the last trip all four slots are at rest. -/
theorem done (x2 : Vec F S1x64x640 .bf16) (L : Vec F S1600x512 .bf16) (a : Carry F) :
    inv c T pool cs i x2 L k0_t1_loop.trips a
      ⊢ iprop(tabled (F := F) c T ∗ idle c pool cs 0 ∗ idle c pool cs 1 ∗ idle c pool cs 2 ∗ idle c pool cs 3 ∗ lhsAt c L ∗ owed (F := F) c
          ∗ ⌜a = iter T pool cs x2 L (i 0).val 16⌝) := by
  rw [show k0_t1_loop.trips = 16 by decide +kernel]
  unfold inv cell
  rw [if_neg (show ¬ 16 < 16 by omega), if_neg (show ¬ 16 + 1 < 16 by omega), if_neg (show ¬ 16 + 2 < 16 by omega)]

theorem part26_first {K} {Q : α → sProp 𝕄} (hb : (i 0).val = 0)
    (x2 : Vec F S1x64x640 .bf16) (x3 : Vec F S1x576x128 .f32) (x5 : Vec F S64x128 .i32) (x6 : Vec F S1536x512 .bf16) (f : Vec F S1600x512 .bf16) :
    iprop(tabled (F := F) c T ∗ (idle c pool cs 0 ∗ idle c pool cs 1 ∗ idle c pool cs 2) ∗ idle c pool cs 3 ∗ lhsAt c f ∗ owed (F := F) c ∗ owns (c : Thread nD τ) m2 fullShare x2 ∗ owns (c : Thread nD τ) m3 fullShare x3 ∗ owns (c : Thread nD τ) m5 fullShare x5 ∗ owns (c : Thread nD τ) m6 fullShare x6)
      ⊢ iprop(((tabled (F := F) c T ∗ (flying c T pool cs ((i 0).val + 1) 0 0 0 ∗ flying c T pool cs ((i 0).val + 1) 1 1 0 ∗ flying c T pool cs ((i 0).val + 1) 2 2 0) ∗ idle c pool cs 3 ∗ lhsAt c (both (k0_pay18 x6) (k0_pay19 x2)) ∗ owed (F := F) c ∗ owns (c : Thread nD τ) m2 fullShare x2 ∗ owns (c : Thread nD τ) m3 fullShare x3 ∗ owns (c : Thread nD τ) m5 fullShare x5 ∗ owns (c : Thread nD τ) m6 fullShare x6)
            -∗ wp frame (wpE defs 𝒱 (c : Thread nD τ) bd) Set.univ (K ⟨k0_pay17 x2, (iter T pool cs x2 (both (k0_pay18 x6) (k0_pay19 x2)) (i 0).val 16).1,
              (iter T pool cs x2 (both (k0_pay18 x6) (k0_pay19 x2)) (i 0).val 16).2.1, (iter T pool cs x2 (both (k0_pay18 x6) (k0_pay19 x2)) (i 0).val 16).2.2,
              k0_pay23 (F := F) (View.ld (Val := Elt F) x5 (Rect.unit (s := S64x128) ![0, 0] S64x1.size inb_S64x128_S64x1_0_0)),
              View.ld (Val := Elt F) x3 (Rect.unit (s := S1x576x128) ![0, 0, 0] S1x512x128.size inb_S1x576x128_S1x512x128_0_0_0)⟩) Q)
          -∗ wp frame (wpE defs 𝒱 (c : Thread nD τ) bd) Set.univ ((k0_part26 (F := F) i mtab h1 m2 h2 m3 h3 m4 h4 m5 h5 m6 h6 mcsh h7 mpool h8 m9 h9 mbuf h10 mcsb h11 mlhs h12 cc0_scratch3 cc0_scratch4).bind K) Q) := by
  rw [k0_part26_eq_skeleton]
  unfold k0_part26_skel
  have hz2 : (![0, 0] : Fin 2 → ℕ) = fun _ => 0 := by decide
  have hz3 : (![0, 0, 0] : Fin 3 → ℕ) = fun _ => 0 := by decide
  have k0_h1 := (first_iff (lt128 i)).2 hb
  have k0_h2 := (cond2_iff i).2 hb
  have k0_h4 := (cond4_iff i).2 (by omega)
  simp only [dif_pos k0_h1, dif_pos k0_h2, dif_pos k0_h4, bind_eq, bind_bind]
  iintro ⟨HT, ⟨R0, R1, R2⟩, R3, HL, HO, X2, X3, X5, X6⟩ Hk
  iapply (wp_win c 𝒱 bd m2 x2) $$ X2
  iintro X2
  rw [View.ld_unit_zero hz3]
  iapply (wp_win c 𝒱 bd m6 x6) $$ X6
  iintro X6
  rw [View.ld_unit_zero hz2]
  iapply (wp_peek c 𝒱 bd f) $$ HL
  iintro %_ HL
  iapply (wp_top c 𝒱 bd (k0_pay18 x6) f) $$ HL
  iintro HL
  iapply (wp_peek c 𝒱 bd (top (k0_pay18 x6) f)) $$ HL
  iintro %_ HL
  iapply (wp_bot c 𝒱 bd (k0_pay19 x2) (top (k0_pay18 x6) f)) $$ HL
  iintro HL
  ihave HL := (show lhsAt c (bot (k0_pay19 x2) (top (k0_pay18 x6) f)) ⊢ lhsAt c (both (k0_pay18 x6) (k0_pay19 x2)) from Entails.of_eq (by rw [bot_top])) $$ HL
  iapply (part1 c T hT 𝒱 bd i h1 m2 h2 m3 h3 m4 h4 m5 h5 m6 h6 h7 h8 m9 h9 h10 h11 h12 (BitVec.ofNat 32 (i 0).val) k0_h2) $$ HT
  iintro %k0_hw1 %k0_hw2 %k0_hw3 %k0_hw4 %k0_hw5 %k0_hw6 %k0_hw7 %v121 HT
  iapply (part2 c T pool cs hT 𝒱 bd i h1 m2 h2 m3 h3 m4 h4 m5 h5 m6 h6 h7 h8 m9 h9 h10 h11 h12 (BitVec.ofNat 32 (i 0).val) k0_h2 k0_hw1 k0_hw2 k0_hw3 k0_hw4 v121) $$ [HT R0]
  · isplitl [HT]; · iexact HT
    iexact R0
  iintro %k0_hw8 ⟨HT, R0⟩
  iapply (part3 c T pool cs hT 𝒱 bd i h1 m2 h2 m3 h3 m4 h4 m5 h5 m6 h6 h7 h8 m9 h9 h10 h11 h12 (BitVec.ofNat 32 (i 0).val) k0_h2 k0_hw5 k0_hw6 k0_hw7 k0_hw8) $$ [HT R0]
  · isplitl [HT]; · iexact HT
    iexact R0
  iintro %k0_hw9 %v177 ⟨HT, R0⟩
  iapply (part4 c T hT 𝒱 bd i h1 m2 h2 m3 h3 m4 h4 m5 h5 m6 h6 h7 h8 m9 h9 h10 h11 h12 (BitVec.ofNat 32 (i 0).val) k0_h2 v177) $$ HT
  iintro %k0_hw10 %k0_hw11 %k0_hw12 %k0_hw13 %k0_hw14 %k0_hw15 HT
  iapply (part5 c T pool cs hT 𝒱 bd i h1 m2 h2 m3 h3 m4 h4 m5 h5 m6 h6 h7 h8 m9 h9 h10 h11 h12 k0_h2 k0_hw9 k0_hw10 k0_hw11 k0_hw12 k0_hw13) $$ R1
  iintro %k0_hw16 R1
  iapply (part6 c T pool cs hT 𝒱 bd i h1 m2 h2 m3 h3 m4 h4 m5 h5 m6 h6 h7 h8 m9 h9 h10 h11 h12 (BitVec.ofNat 32 (i 0).val) k0_h2 k0_hw13 k0_hw14 k0_hw15 k0_hw16) $$ [HT R1]
  · isplitl [HT]; · iexact HT
    iexact R1
  iintro %k0_hw17 ⟨HT, R1⟩
  iapply (part7 c T hT 𝒱 bd i h1 m2 h2 m3 h3 m4 h4 m5 h5 m6 h6 h7 h8 m9 h9 h10 h11 h12 (BitVec.ofNat 32 (i 0).val) k0_h2) $$ HT
  iintro %k0_hw18 %k0_hw19 %k0_hw20 %k0_hw21 %k0_hw22 %k0_hw23 %k0_hw24 HT
  iapply (part8 c T pool cs hT 𝒱 bd i h1 m2 h2 m3 h3 m4 h4 m5 h5 m6 h6 h7 h8 m9 h9 h10 h11 h12 k0_h2 k0_hw17 k0_hw18 k0_hw19 k0_hw20 k0_hw21) $$ R2
  iintro  R2
  iapply (wp_page c T pool cs 𝒱 bd (b := (i 0).val) (ck := 2) (s := 2) (p := 5) (by decide) (by decide) (hT _) rfl _ (offP (hT _)) _ rfl _) $$ R2
  iintro R2
  iapply (wp_page c T pool cs 𝒱 bd (b := (i 0).val) (ck := 2) (s := 2) (p := 6) (by decide) (by decide) (hT _) rfl _ (offP (hT _)) _ rfl _) $$ R2
  iintro R2
  iapply (wp_page c T pool cs 𝒱 bd (b := (i 0).val) (ck := 2) (s := 2) (p := 7) (by decide) (by decide) (hT _) rfl _ (offP (hT _)) _ rfl _) $$ R2
  iintro R2
  iapply (wp_slab c T pool cs 𝒱 bd (b := (i 0).val) (ck := 2) (s := 2) (by decide) (by decide) rfl _ rfl _ rfl _) $$ R2
  iintro R2
  iapply (Scf.wp_for_bind frame (wpE defs 𝒱 (c : Thread nD τ) bd) Set.univ _ _ _ k0_t1_ok _ _ (inv c T pool cs i x2 (both (k0_pay18 x6) (k0_pay19 x2)))
    (fun k a => trip c T pool cs hT 𝒱 bd i k h1 m2 h2 m3 h3 m4 h4 m5 h5 m6 h6 h7 h8 m9 h9 h10 h11 h12 _ x2 (both (k0_pay18 x6) (k0_pay19 x2)) a)) $$ [HT R0 R1 R2 R3 HL HO]
  · unfold inv cell
    rw [if_pos (show 0 < 16 by omega), if_pos (show 0 + 1 < 16 by omega), if_pos (show 0 + 2 < 16 by omega)]
    isplitl [HT]; · iexact HT
    isplitl [R0]; · iexact R0
    isplitl [R1]; · iexact R1
    isplitl [R2]; · iexact R2
    isplitl [R3]; · iexact R3
    isplitl [HL]; · iexact HL
    isplitl [HO]; · iexact HO
    ipureintro; rfl
  iintro %a HI
  ihave HI := (done c T pool cs i x2 (both (k0_pay18 x6) (k0_pay19 x2)) a) $$ HI
  icases HI with ⟨HT, R0, R1, R2, R3, HL, HO, %ha⟩
  subst ha
  dsimp only
  iapply (part18 c T hT 𝒱 bd i h1 m2 h2 m3 h3 m4 h4 m5 h5 m6 h6 h7 h8 m9 h9 h10 h11 h12 (BitVec.ofNat 32 (i 0).val) k0_h4) $$ HT
  iintro %v89 %k0_hw41 %k0_hw42 %k0_hw43 %k0_hw44 %k0_hw45 %k0_hw46 %k0_hw47 HT
  iapply (part19 c T pool cs hT 𝒱 bd i h1 m2 h2 m3 h3 m4 h4 m5 h5 m6 h6 h7 h8 m9 h9 h10 h11 h12 k0_h4 v89 k0_hw41 k0_hw42 k0_hw43 k0_hw44) $$ [HT R0]
  · isplitl [HT]; · iexact HT
    iexact R0
  iintro %k0_hw48 ⟨HT, R0⟩
  iapply (part20 c T pool cs hT 𝒱 bd i h1 m2 h2 m3 h3 m4 h4 m5 h5 m6 h6 h7 h8 m9 h9 h10 h11 h12 k0_h4 v89 k0_hw45 k0_hw46 k0_hw47 k0_hw48) $$ [HT R0]
  · isplitl [HT]; · iexact HT
    iexact R0
  iintro %k0_hw49 ⟨HT, R0⟩
  iapply (part21 c T hT 𝒱 bd i h1 m2 h2 m3 h3 m4 h4 m5 h5 m6 h6 h7 h8 m9 h9 h10 h11 h12 k0_h4 v89) $$ HT
  iintro %k0_hw50 %k0_hw51 %k0_hw52 %k0_hw53 %k0_hw54 %k0_hw55 HT
  iapply (part22 c T pool cs hT 𝒱 bd i h1 m2 h2 m3 h3 m4 h4 m5 h5 m6 h6 h7 h8 m9 h9 h10 h11 h12 k0_h4 k0_hw49 k0_hw50 k0_hw51 k0_hw52) $$ [HT R1]
  · isplitl [HT]; · iexact HT
    iexact R1
  iintro %k0_hw56 ⟨HT, R1⟩
  iapply (part23 c T pool cs hT 𝒱 bd i h1 m2 h2 m3 h3 m4 h4 m5 h5 m6 h6 h7 h8 m9 h9 h10 h11 h12 k0_h4 v89 k0_hw53 k0_hw54 k0_hw55 k0_hw56) $$ [HT R1]
  · isplitl [HT]; · iexact HT
    iexact R1
  iintro %k0_hw57 ⟨HT, R1⟩
  iapply (part24 c T hT 𝒱 bd i h1 m2 h2 m3 h3 m4 h4 m5 h5 m6 h6 h7 h8 m9 h9 h10 h11 h12 k0_h4 v89) $$ HT
  iintro %k0_hw58 %k0_hw59 %k0_hw60 %k0_hw61 %k0_hw62 %k0_hw63 %k0_hw64 %v299 %c576_i32_175 HT
  iapply (part25 c T pool cs hT 𝒱 bd i h1 m2 h2 m3 h3 m4 h4 m5 h5 m6 h6 h7 h8 m9 h9 h10 h11 h12 k0_h4 k0_hw57 k0_hw58 k0_hw59 k0_hw60 k0_hw61 v299 c576_i32_175) $$ R2
  iintro  R2
  iapply (wp_page c T pool cs 𝒱 bd (b := ((i 0).val + 1)) (ck := 2) (s := 2) (p := 5) (by decide) (by decide) (hT _) rfl _ (offP (hT _)) _ rfl _) $$ R2
  iintro R2
  iapply (wp_page c T pool cs 𝒱 bd (b := ((i 0).val + 1)) (ck := 2) (s := 2) (p := 6) (by decide) (by decide) (hT _) rfl _ (offP (hT _)) _ rfl _) $$ R2
  iintro R2
  iapply (wp_page c T pool cs 𝒱 bd (b := ((i 0).val + 1)) (ck := 2) (s := 2) (p := 7) (by decide) (by decide) (hT _) rfl _ (offP (hT _)) _ rfl _) $$ R2
  iintro R2
  iapply (wp_slab c T pool cs 𝒱 bd (b := ((i 0).val + 1)) (ck := 2) (s := 2) (by decide) (by decide) rfl _ rfl _ rfl _) $$ R2
  iintro R2
  iapply (wp_win c 𝒱 bd m5 x5) $$ X5
  iintro X5
  iapply (wp_win c 𝒱 bd m3 x3) $$ X3
  iintro X3
  dsimp only [Prog.bind, Pure.pure, Prog.lift]
  iapply Hk
  isplitl [HT]; · iexact HT
  isplitl [R0 R1 R2]
  · isplitl [R0]; · iexact R0
    isplitl [R1]; · iexact R1
    iexact R2
  isplitl [R3]; · iexact R3
  isplitl [HL]; · iexact HL
  isplitl [HO]; · iexact HO
  isplitl [X2]; · iexact X2
  isplitl [X3]; · iexact X3
  isplitl [X5]; · iexact X5
  iexact X6

theorem part26_mid {K} {Q : α → sProp 𝕄} (hb : (i 0).val ≠ 0) (hn : (i 0).val + 1 < 128)
    (x2 : Vec F S1x64x640 .bf16) (x3 : Vec F S1x576x128 .f32) (x5 : Vec F S64x128 .i32) (x6 : Vec F S1536x512 .bf16) (f : Vec F S1600x512 .bf16) :
    iprop(tabled (F := F) c T ∗ (flying c T pool cs (i 0).val 0 0 0 ∗ flying c T pool cs (i 0).val 1 1 0 ∗ flying c T pool cs (i 0).val 2 2 0) ∗ idle c pool cs 3 ∗ lhsAt c (top (k0_pay18 x6) f) ∗ owed (F := F) c ∗ owns (c : Thread nD τ) m2 fullShare x2 ∗ owns (c : Thread nD τ) m3 fullShare x3 ∗ owns (c : Thread nD τ) m5 fullShare x5 ∗ owns (c : Thread nD τ) m6 fullShare x6)
      ⊢ iprop(((tabled (F := F) c T ∗ (flying c T pool cs ((i 0).val + 1) 0 0 0 ∗ flying c T pool cs ((i 0).val + 1) 1 1 0 ∗ flying c T pool cs ((i 0).val + 1) 2 2 0) ∗ idle c pool cs 3 ∗ lhsAt c (both (k0_pay18 x6) (k0_pay19 x2)) ∗ owed (F := F) c ∗ owns (c : Thread nD τ) m2 fullShare x2 ∗ owns (c : Thread nD τ) m3 fullShare x3 ∗ owns (c : Thread nD τ) m5 fullShare x5 ∗ owns (c : Thread nD τ) m6 fullShare x6)
            -∗ wp frame (wpE defs 𝒱 (c : Thread nD τ) bd) Set.univ (K ⟨k0_pay17 x2, (iter T pool cs x2 (both (k0_pay18 x6) (k0_pay19 x2)) (i 0).val 16).1,
              (iter T pool cs x2 (both (k0_pay18 x6) (k0_pay19 x2)) (i 0).val 16).2.1, (iter T pool cs x2 (both (k0_pay18 x6) (k0_pay19 x2)) (i 0).val 16).2.2,
              k0_pay23 (F := F) (View.ld (Val := Elt F) x5 (Rect.unit (s := S64x128) ![0, 0] S64x1.size inb_S64x128_S64x1_0_0)),
              View.ld (Val := Elt F) x3 (Rect.unit (s := S1x576x128) ![0, 0, 0] S1x512x128.size inb_S1x576x128_S1x512x128_0_0_0)⟩) Q)
          -∗ wp frame (wpE defs 𝒱 (c : Thread nD τ) bd) Set.univ ((k0_part26 (F := F) i mtab h1 m2 h2 m3 h3 m4 h4 m5 h5 m6 h6 mcsh h7 mpool h8 m9 h9 mbuf h10 mcsb h11 mlhs h12 cc0_scratch3 cc0_scratch4).bind K) Q) := by
  rw [k0_part26_eq_skeleton]
  unfold k0_part26_skel
  have hz2 : (![0, 0] : Fin 2 → ℕ) = fun _ => 0 := by decide
  have hz3 : (![0, 0, 0] : Fin 3 → ℕ) = fun _ => 0 := by decide
  have k0_h1 := fun h => hb ((first_iff (lt128 i)).1 h)
  have k0_h2 := fun h => hb ((cond2_iff i).1 h)
  have k0_h4 := (cond4_iff i).2 hn
  simp only [dif_neg k0_h1, dif_neg k0_h2, dif_pos k0_h4, bind_eq, bind_bind]
  iintro ⟨HT, ⟨R0, R1, R2⟩, R3, HL, HO, X2, X3, X5, X6⟩ Hk
  iapply (wp_win c 𝒱 bd m2 x2) $$ X2
  iintro X2
  rw [View.ld_unit_zero hz3]
  iapply (wp_peek c 𝒱 bd (top (k0_pay18 x6) f)) $$ HL
  iintro %_ HL
  iapply (wp_bot c 𝒱 bd (k0_pay19 x2) (top (k0_pay18 x6) f)) $$ HL
  iintro HL
  ihave HL := (show lhsAt c (bot (k0_pay19 x2) (top (k0_pay18 x6) f)) ⊢ lhsAt c (both (k0_pay18 x6) (k0_pay19 x2)) from Entails.of_eq (by rw [bot_top])) $$ HL
  iapply (Scf.wp_for_bind frame (wpE defs 𝒱 (c : Thread nD τ) bd) Set.univ _ _ _ k0_t1_ok _ _ (inv c T pool cs i x2 (both (k0_pay18 x6) (k0_pay19 x2)))
    (fun k a => trip c T pool cs hT 𝒱 bd i k h1 m2 h2 m3 h3 m4 h4 m5 h5 m6 h6 h7 h8 m9 h9 h10 h11 h12 _ x2 (both (k0_pay18 x6) (k0_pay19 x2)) a)) $$ [HT R0 R1 R2 R3 HL HO]
  · unfold inv cell
    rw [if_pos (show 0 < 16 by omega), if_pos (show 0 + 1 < 16 by omega), if_pos (show 0 + 2 < 16 by omega)]
    isplitl [HT]; · iexact HT
    isplitl [R0]; · iexact R0
    isplitl [R1]; · iexact R1
    isplitl [R2]; · iexact R2
    isplitl [R3]; · iexact R3
    isplitl [HL]; · iexact HL
    isplitl [HO]; · iexact HO
    ipureintro; rfl
  iintro %a HI
  ihave HI := (done c T pool cs i x2 (both (k0_pay18 x6) (k0_pay19 x2)) a) $$ HI
  icases HI with ⟨HT, R0, R1, R2, R3, HL, HO, %ha⟩
  subst ha
  dsimp only
  iapply (part18 c T hT 𝒱 bd i h1 m2 h2 m3 h3 m4 h4 m5 h5 m6 h6 h7 h8 m9 h9 h10 h11 h12 (BitVec.ofNat 32 (i 0).val) k0_h4) $$ HT
  iintro %v89 %k0_hw41 %k0_hw42 %k0_hw43 %k0_hw44 %k0_hw45 %k0_hw46 %k0_hw47 HT
  iapply (part19 c T pool cs hT 𝒱 bd i h1 m2 h2 m3 h3 m4 h4 m5 h5 m6 h6 h7 h8 m9 h9 h10 h11 h12 k0_h4 v89 k0_hw41 k0_hw42 k0_hw43 k0_hw44) $$ [HT R0]
  · isplitl [HT]; · iexact HT
    iexact R0
  iintro %k0_hw48 ⟨HT, R0⟩
  iapply (part20 c T pool cs hT 𝒱 bd i h1 m2 h2 m3 h3 m4 h4 m5 h5 m6 h6 h7 h8 m9 h9 h10 h11 h12 k0_h4 v89 k0_hw45 k0_hw46 k0_hw47 k0_hw48) $$ [HT R0]
  · isplitl [HT]; · iexact HT
    iexact R0
  iintro %k0_hw49 ⟨HT, R0⟩
  iapply (part21 c T hT 𝒱 bd i h1 m2 h2 m3 h3 m4 h4 m5 h5 m6 h6 h7 h8 m9 h9 h10 h11 h12 k0_h4 v89) $$ HT
  iintro %k0_hw50 %k0_hw51 %k0_hw52 %k0_hw53 %k0_hw54 %k0_hw55 HT
  iapply (part22 c T pool cs hT 𝒱 bd i h1 m2 h2 m3 h3 m4 h4 m5 h5 m6 h6 h7 h8 m9 h9 h10 h11 h12 k0_h4 k0_hw49 k0_hw50 k0_hw51 k0_hw52) $$ [HT R1]
  · isplitl [HT]; · iexact HT
    iexact R1
  iintro %k0_hw56 ⟨HT, R1⟩
  iapply (part23 c T pool cs hT 𝒱 bd i h1 m2 h2 m3 h3 m4 h4 m5 h5 m6 h6 h7 h8 m9 h9 h10 h11 h12 k0_h4 v89 k0_hw53 k0_hw54 k0_hw55 k0_hw56) $$ [HT R1]
  · isplitl [HT]; · iexact HT
    iexact R1
  iintro %k0_hw57 ⟨HT, R1⟩
  iapply (part24 c T hT 𝒱 bd i h1 m2 h2 m3 h3 m4 h4 m5 h5 m6 h6 h7 h8 m9 h9 h10 h11 h12 k0_h4 v89) $$ HT
  iintro %k0_hw58 %k0_hw59 %k0_hw60 %k0_hw61 %k0_hw62 %k0_hw63 %k0_hw64 %v299 %c576_i32_175 HT
  iapply (part25 c T pool cs hT 𝒱 bd i h1 m2 h2 m3 h3 m4 h4 m5 h5 m6 h6 h7 h8 m9 h9 h10 h11 h12 k0_h4 k0_hw57 k0_hw58 k0_hw59 k0_hw60 k0_hw61 v299 c576_i32_175) $$ R2
  iintro  R2
  iapply (wp_page c T pool cs 𝒱 bd (b := ((i 0).val + 1)) (ck := 2) (s := 2) (p := 5) (by decide) (by decide) (hT _) rfl _ (offP (hT _)) _ rfl _) $$ R2
  iintro R2
  iapply (wp_page c T pool cs 𝒱 bd (b := ((i 0).val + 1)) (ck := 2) (s := 2) (p := 6) (by decide) (by decide) (hT _) rfl _ (offP (hT _)) _ rfl _) $$ R2
  iintro R2
  iapply (wp_page c T pool cs 𝒱 bd (b := ((i 0).val + 1)) (ck := 2) (s := 2) (p := 7) (by decide) (by decide) (hT _) rfl _ (offP (hT _)) _ rfl _) $$ R2
  iintro R2
  iapply (wp_slab c T pool cs 𝒱 bd (b := ((i 0).val + 1)) (ck := 2) (s := 2) (by decide) (by decide) rfl _ rfl _ rfl _) $$ R2
  iintro R2
  iapply (wp_win c 𝒱 bd m5 x5) $$ X5
  iintro X5
  iapply (wp_win c 𝒱 bd m3 x3) $$ X3
  iintro X3
  dsimp only [Prog.bind, Pure.pure, Prog.lift]
  iapply Hk
  isplitl [HT]; · iexact HT
  isplitl [R0 R1 R2]
  · isplitl [R0]; · iexact R0
    isplitl [R1]; · iexact R1
    iexact R2
  isplitl [R3]; · iexact R3
  isplitl [HL]; · iexact HL
  isplitl [HO]; · iexact HO
  isplitl [X2]; · iexact X2
  isplitl [X3]; · iexact X3
  isplitl [X5]; · iexact X5
  iexact X6

theorem part26_last {K} {Q : α → sProp 𝕄} (hb : (i 0).val ≠ 0) (hn : ¬ (i 0).val + 1 < 128)
    (x2 : Vec F S1x64x640 .bf16) (x3 : Vec F S1x576x128 .f32) (x5 : Vec F S64x128 .i32) (x6 : Vec F S1536x512 .bf16) (f : Vec F S1600x512 .bf16) :
    iprop(tabled (F := F) c T ∗ (flying c T pool cs (i 0).val 0 0 0 ∗ flying c T pool cs (i 0).val 1 1 0 ∗ flying c T pool cs (i 0).val 2 2 0) ∗ idle c pool cs 3 ∗ lhsAt c (top (k0_pay18 x6) f) ∗ owed (F := F) c ∗ owns (c : Thread nD τ) m2 fullShare x2 ∗ owns (c : Thread nD τ) m3 fullShare x3 ∗ owns (c : Thread nD τ) m5 fullShare x5 ∗ owns (c : Thread nD τ) m6 fullShare x6)
      ⊢ iprop(((tabled (F := F) c T ∗ (idle c pool cs 0 ∗ idle c pool cs 1 ∗ idle c pool cs 2) ∗ idle c pool cs 3 ∗ lhsAt c (both (k0_pay18 x6) (k0_pay19 x2)) ∗ owed (F := F) c ∗ owns (c : Thread nD τ) m2 fullShare x2 ∗ owns (c : Thread nD τ) m3 fullShare x3 ∗ owns (c : Thread nD τ) m5 fullShare x5 ∗ owns (c : Thread nD τ) m6 fullShare x6)
            -∗ wp frame (wpE defs 𝒱 (c : Thread nD τ) bd) Set.univ (K ⟨k0_pay17 x2, (iter T pool cs x2 (both (k0_pay18 x6) (k0_pay19 x2)) (i 0).val 16).1,
              (iter T pool cs x2 (both (k0_pay18 x6) (k0_pay19 x2)) (i 0).val 16).2.1, (iter T pool cs x2 (both (k0_pay18 x6) (k0_pay19 x2)) (i 0).val 16).2.2,
              k0_pay23 (F := F) (View.ld (Val := Elt F) x5 (Rect.unit (s := S64x128) ![0, 0] S64x1.size inb_S64x128_S64x1_0_0)),
              View.ld (Val := Elt F) x3 (Rect.unit (s := S1x576x128) ![0, 0, 0] S1x512x128.size inb_S1x576x128_S1x512x128_0_0_0)⟩) Q)
          -∗ wp frame (wpE defs 𝒱 (c : Thread nD τ) bd) Set.univ ((k0_part26 (F := F) i mtab h1 m2 h2 m3 h3 m4 h4 m5 h5 m6 h6 mcsh h7 mpool h8 m9 h9 mbuf h10 mcsb h11 mlhs h12 cc0_scratch3 cc0_scratch4).bind K) Q) := by
  rw [k0_part26_eq_skeleton]
  unfold k0_part26_skel
  have hz2 : (![0, 0] : Fin 2 → ℕ) = fun _ => 0 := by decide
  have hz3 : (![0, 0, 0] : Fin 3 → ℕ) = fun _ => 0 := by decide
  have k0_h1 := fun h => hb ((first_iff (lt128 i)).1 h)
  have k0_h2 := fun h => hb ((cond2_iff i).1 h)
  have k0_h4 := fun h => hn ((cond4_iff i).1 h)
  simp only [dif_neg k0_h1, dif_neg k0_h2, dif_neg k0_h4, bind_eq, bind_bind]
  iintro ⟨HT, ⟨R0, R1, R2⟩, R3, HL, HO, X2, X3, X5, X6⟩ Hk
  iapply (wp_win c 𝒱 bd m2 x2) $$ X2
  iintro X2
  rw [View.ld_unit_zero hz3]
  iapply (wp_peek c 𝒱 bd (top (k0_pay18 x6) f)) $$ HL
  iintro %_ HL
  iapply (wp_bot c 𝒱 bd (k0_pay19 x2) (top (k0_pay18 x6) f)) $$ HL
  iintro HL
  ihave HL := (show lhsAt c (bot (k0_pay19 x2) (top (k0_pay18 x6) f)) ⊢ lhsAt c (both (k0_pay18 x6) (k0_pay19 x2)) from Entails.of_eq (by rw [bot_top])) $$ HL
  iapply (Scf.wp_for_bind frame (wpE defs 𝒱 (c : Thread nD τ) bd) Set.univ _ _ _ k0_t1_ok _ _ (inv c T pool cs i x2 (both (k0_pay18 x6) (k0_pay19 x2)))
    (fun k a => trip c T pool cs hT 𝒱 bd i k h1 m2 h2 m3 h3 m4 h4 m5 h5 m6 h6 h7 h8 m9 h9 h10 h11 h12 _ x2 (both (k0_pay18 x6) (k0_pay19 x2)) a)) $$ [HT R0 R1 R2 R3 HL HO]
  · unfold inv cell
    rw [if_pos (show 0 < 16 by omega), if_pos (show 0 + 1 < 16 by omega), if_pos (show 0 + 2 < 16 by omega)]
    isplitl [HT]; · iexact HT
    isplitl [R0]; · iexact R0
    isplitl [R1]; · iexact R1
    isplitl [R2]; · iexact R2
    isplitl [R3]; · iexact R3
    isplitl [HL]; · iexact HL
    isplitl [HO]; · iexact HO
    ipureintro; rfl
  iintro %a HI
  ihave HI := (done c T pool cs i x2 (both (k0_pay18 x6) (k0_pay19 x2)) a) $$ HI
  icases HI with ⟨HT, R0, R1, R2, R3, HL, HO, %ha⟩
  subst ha
  dsimp only
  iapply (wp_win c 𝒱 bd m5 x5) $$ X5
  iintro X5
  iapply (wp_win c 𝒱 bd m3 x3) $$ X3
  iintro X3
  dsimp only [Prog.bind, Pure.pure, Prog.lift]
  iapply Hk
  isplitl [HT]; · iexact HT
  isplitl [R0 R1 R2]
  · isplitl [R0]; · iexact R0
    isplitl [R1]; · iexact R1
    iexact R2
  isplitl [R3]; · iexact R3
  isplitl [HL]; · iexact HL
  isplitl [HO]; · iexact HO
  isplitl [X2]; · iexact X2
  isplitl [X3]; · iexact X3
  isplitl [X5]; · iexact X5
  iexact X6

omit hT in
theorem part27 {K} {Q : α → sProp 𝕄} (x3 : Vec F S1x576x128 .f32) (x4 : Vec F S128x128 .f32) (L : Vec F S1600x512 .bf16)
    (v2 : FVec F S64x128 .bf16) (v17_0 : FVec F S64x1 .f32) (v28 : IVec S64x128 1) (v29 : Vec F S1x512x128 .f32) :
    iprop(owns (c : Thread nD τ) m3 fullShare x3 ∗ owns (c : Thread nD τ) m4 fullShare x4 ∗ lhsAt c L)
      ⊢ iprop(((owns (c : Thread nD τ) m3 fullShare x3 ∗ owns (c : Thread nD τ) m4 fullShare x4 ∗ lhsAt c L)
            -∗ wp frame (wpE defs 𝒱 (c : Thread nD τ) bd) Set.univ (K ⟨k0_pay24 v29, k0_pay26 v2 v17_0 v28 v29 (View.ld (Val := Elt F) x3 (Rect.unit (s := S1x576x128) ![0, 512, 0] S1x64x128.size inb_S1x576x128_S1x64x128_0_512_0)) x4 L, k0_pay27 v2 v17_0 v28 v29 (View.ld (Val := Elt F) x3 (Rect.unit (s := S1x576x128) ![0, 512, 0] S1x64x128.size inb_S1x576x128_S1x64x128_0_512_0)) x4 L, k0_pay28 (F := F)⟩) Q)
          -∗ wp frame (wpE defs 𝒱 (c : Thread nD τ) bd) Set.univ ((k0_part27 (F := F) i mtab h1 m2 h2 m3 h3 m4 h4 m5 h5 m6 h6 mcsh h7 mpool h8 m9 h9 mbuf h10 mcsb h11 mlhs h12 cc0_scratch3 cc0_scratch4 v2 v17_0 v28 v29).bind K) Q) := by
  rw [k0_part27_eq_skeleton]
  unfold k0_part27_skel
  have hz2 : (![0, 0] : Fin 2 → ℕ) = fun _ => 0 := by decide
  iintro ⟨X3, X4, HL⟩ Hk
  iapply (wp_win c 𝒱 bd m3 x3) $$ X3
  iintro X3
  iapply (wp_win c 𝒱 bd m4 x4) $$ X4
  iintro X4
  rw [View.ld_unit_zero hz2]
  iapply (wp_lhs c 𝒱 bd L) $$ HL
  iintro HL
  dsimp only [Prog.bind, Pure.pure, Prog.lift]
  iapply Hk
  isplitl [X3]; · iexact X3
  isplitl [X4]; · iexact X4
  iexact HL

/-- A whole point: the ring moves on to the next sequence and the output block is the sequence's. -/
theorem body (x2 : Vec F S1x64x640 .bf16) (x3 : Vec F S1x576x128 .f32) (x4 : Vec F S128x128 .f32) (x5 : Vec F S64x128 .i32) (x6 : Vec F S1536x512 .bf16) :
    iprop(tabled (F := F) c T ∗ ring c T pool cs (i 0).val ∗ idle c pool cs 3 ∗ lhsB c (k0_pay18 x6) (i 0).val ∗ owed (F := F) c ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ (∃ x, owns (c : Thread nD τ) m9 fullShare x))
      ⊢ wp frame (wpE defs 𝒱 (c : Thread nD τ) bd) Set.univ (cc0_mla_sample (F := F) i mtab h1 m2 h2 m3 h3 m4 h4 m5 h5 m6 h6 mcsh h7 mpool h8 m9 h9 mbuf h10 mcsb h11 mlhs h12 cc0_scratch3 cc0_scratch4)
          (fun _ => iprop(tabled (F := F) c T ∗ ring c T pool cs ((i 0).val + 1) ∗ idle c pool cs 3 ∗ lhsB c (k0_pay18 x6) ((i 0).val + 1) ∗ owed (F := F) c ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6
            ∗ owns (c : Thread nD τ) m9 fullShare (outV T pool cs (i 0).val x2 x3 x4 x5 x6))) := by
  rw [cc0_mla_sample_eq_skeleton]
  unfold cc0_mla_sample_skel
  simp only [bind_eq]
  have hi := lt128 i
  unfold ring lhsB
  rw [if_neg (show ¬ (i 0).val + 1 = 0 by omega)]
  by_cases hb : (i 0).val = 0
  · rw [if_neg (show ¬ (0 < (i 0).val ∧ (i 0).val < 128) by omega), if_pos hb, if_pos (show 0 < (i 0).val + 1 ∧ (i 0).val + 1 < 128 by omega)]
    iintro ⟨HT, HR, R3, ⟨%f, HL⟩, HO, X2, X3, X4, X5, X6, X9⟩
    iapply (part26_first c T pool cs hT 𝒱 bd i h1 m2 h2 m3 h3 m4 h4 m5 h5 m6 h6 h7 h8 m9 h9 h10 h11 h12 hb x2 x3 x5 x6 f) $$ [HT HR R3 HL HO X2 X3 X5 X6]
    · isplitl [HT]; · iexact HT
      isplitl [HR]; · iexact HR
      isplitl [R3]; · iexact R3
      isplitl [HL]; · iexact HL
      isplitl [HO]; · iexact HO
      isplitl [X2]; · iexact X2
      isplitl [X3]; · iexact X3
      isplitl [X5]; · iexact X5
      iexact X6
    iintro ⟨HT, HR, R3, HL, HO, X2, X3, X5, X6⟩
    iapply (part27 c 𝒱 bd i h1 m2 h2 m3 h3 m4 h4 m5 h5 m6 h6 h7 h8 m9 h9 h10 h11 h12 x3 x4 (both (k0_pay18 x6) (k0_pay19 x2)) _ _ _ _) $$ [X3 X4 HL]
    · isplitl [X3]; · iexact X3
      isplitl [X4]; · iexact X4
      iexact HL
    iintro ⟨X3, X4, HL⟩
    iapply (wp_old c 𝒱 bd m9) $$ X9
    iintro %_ X9
    iapply (wp_out c 𝒱 bd m9) $$ X9
    iintro X9
    dsimp only [Prog.bind, Pure.pure, Prog.lift]
    rw [wp_ret]
    imodintro
    isplitl [HT]; · iexact HT
    isplitl [HR]; · iexact HR
    isplitl [R3]; · iexact R3
    isplitl [HL]
    · iexists (both (k0_pay18 x6) (k0_pay19 x2))
      rw [top_both]
      iexact HL
    isplitl [HO]; · iexact HO
    isplitl [X2]; · iexact X2
    isplitl [X3]; · iexact X3
    isplitl [X4]; · iexact X4
    isplitl [X5]; · iexact X5
    isplitl [X6]; · iexact X6
    iexact X9
  rw [if_pos (show 0 < (i 0).val ∧ (i 0).val < 128 by omega), if_neg hb]
  by_cases hn : (i 0).val + 1 < 128
  · rw [if_pos (show 0 < (i 0).val + 1 ∧ (i 0).val + 1 < 128 by omega)]
    iintro ⟨HT, HR, R3, ⟨%f, HL⟩, HO, X2, X3, X4, X5, X6, X9⟩
    iapply (part26_mid c T pool cs hT 𝒱 bd i h1 m2 h2 m3 h3 m4 h4 m5 h5 m6 h6 h7 h8 m9 h9 h10 h11 h12 hb hn x2 x3 x5 x6 f) $$ [HT HR R3 HL HO X2 X3 X5 X6]
    · isplitl [HT]; · iexact HT
      isplitl [HR]; · iexact HR
      isplitl [R3]; · iexact R3
      isplitl [HL]; · iexact HL
      isplitl [HO]; · iexact HO
      isplitl [X2]; · iexact X2
      isplitl [X3]; · iexact X3
      isplitl [X5]; · iexact X5
      iexact X6
    iintro ⟨HT, HR, R3, HL, HO, X2, X3, X5, X6⟩
    iapply (part27 c 𝒱 bd i h1 m2 h2 m3 h3 m4 h4 m5 h5 m6 h6 h7 h8 m9 h9 h10 h11 h12 x3 x4 (both (k0_pay18 x6) (k0_pay19 x2)) _ _ _ _) $$ [X3 X4 HL]
    · isplitl [X3]; · iexact X3
      isplitl [X4]; · iexact X4
      iexact HL
    iintro ⟨X3, X4, HL⟩
    iapply (wp_old c 𝒱 bd m9) $$ X9
    iintro %_ X9
    iapply (wp_out c 𝒱 bd m9) $$ X9
    iintro X9
    dsimp only [Prog.bind, Pure.pure, Prog.lift]
    rw [wp_ret]
    imodintro
    isplitl [HT]; · iexact HT
    isplitl [HR]; · iexact HR
    isplitl [R3]; · iexact R3
    isplitl [HL]
    · iexists (both (k0_pay18 x6) (k0_pay19 x2))
      rw [top_both]
      iexact HL
    isplitl [HO]; · iexact HO
    isplitl [X2]; · iexact X2
    isplitl [X3]; · iexact X3
    isplitl [X4]; · iexact X4
    isplitl [X5]; · iexact X5
    isplitl [X6]; · iexact X6
    iexact X9
  · rw [if_neg (show ¬ (0 < (i 0).val + 1 ∧ (i 0).val + 1 < 128) by omega)]
    iintro ⟨HT, HR, R3, ⟨%f, HL⟩, HO, X2, X3, X4, X5, X6, X9⟩
    iapply (part26_last c T pool cs hT 𝒱 bd i h1 m2 h2 m3 h3 m4 h4 m5 h5 m6 h6 h7 h8 m9 h9 h10 h11 h12 hb hn x2 x3 x5 x6 f) $$ [HT HR R3 HL HO X2 X3 X5 X6]
    · isplitl [HT]; · iexact HT
      isplitl [HR]; · iexact HR
      isplitl [R3]; · iexact R3
      isplitl [HL]; · iexact HL
      isplitl [HO]; · iexact HO
      isplitl [X2]; · iexact X2
      isplitl [X3]; · iexact X3
      isplitl [X5]; · iexact X5
      iexact X6
    iintro ⟨HT, HR, R3, HL, HO, X2, X3, X5, X6⟩
    iapply (part27 c 𝒱 bd i h1 m2 h2 m3 h3 m4 h4 m5 h5 m6 h6 h7 h8 m9 h9 h10 h11 h12 x3 x4 (both (k0_pay18 x6) (k0_pay19 x2)) _ _ _ _) $$ [X3 X4 HL]
    · isplitl [X3]; · iexact X3
      isplitl [X4]; · iexact X4
      iexact HL
    iintro ⟨X3, X4, HL⟩
    iapply (wp_old c 𝒱 bd m9) $$ X9
    iintro %_ X9
    iapply (wp_out c 𝒱 bd m9) $$ X9
    iintro X9
    dsimp only [Prog.bind, Pure.pure, Prog.lift]
    rw [wp_ret]
    imodintro
    isplitl [HT]; · iexact HT
    isplitl [HR]; · iexact HR
    isplitl [R3]; · iexact R3
    isplitl [HL]
    · iexists (both (k0_pay18 x6) (k0_pay19 x2))
      rw [top_both]
      iexact HL
    isplitl [HO]; · iexact HO
    isplitl [X2]; · iexact X2
    isplitl [X3]; · iexact X3
    isplitl [X4]; · iexact X4
    isplitl [X5]; · iexact X5
    isplitl [X6]; · iexact X6
    iexact X9

end Cert.MlaIdeal.Spec

end
-- ==== Proof.MlaLaunch.lean ====
/-
  The latent attention kernel's launch: its own buffers and shares as slots of the ring, the body at every point, the run and the frame.
-/
module

public import proofs.«01_k».proof.Proof.MlaBody
public import Idealize.ShloMosaic.Lib.Ring
public import Idealize.ShloMosaic.Lib.Claim
public import Idealize.ShloMosaic.Lib.Pipeline.FrameBody
public import Idealize.ShloMosaic.Lib.Pipeline.Value

@[expose] public section

set_option maxRecDepth 16384
set_option maxHeartbeats 4000000

noncomputable section

namespace Cert.MlaIdeal.Spec

open Cert.MlaIdeal Cert.MlaIdeal.Gen Cert.Softmax
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

/-! ## The kernel's own buffers as slots -/

variable (c : Dev nD) (pool : S11796480x128.Idx → Elt F .f32) (cs : S16x128x1024.Idx → Elt F .f32)

def pieces (x : Fin 4 × Fin 8) : Finset S4x4608x128.Idx := piece x.1.val x.2.val
def slabs (s : Fin 4) : Finset S4x128x1024.Idx := slab s.val

theorem pieces_disjoint (b b' : Fin 4 × Fin 8) (h : b ≠ b') : Disjoint (pieces b) (pieces b') := by
  rw [Finset.disjoint_left]
  intro x hx hx'
  simp only [pieces, piece, Finset.mem_filter] at hx hx'
  exact h (Prod.ext (Fin.ext (hx.2.1.symm.trans hx'.2.1)) (Fin.ext (hx.2.2.symm.trans hx'.2.2)))
theorem pieces_cover : Finset.univ.biUnion pieces = Finset.univ := by
  refine Finset.eq_univ_of_forall fun x => ?_
  have h0 : (x 0).val < 4 := (x 0).isLt
  have h1 : (x 1).val < 4608 := (x 1).isLt
  exact Finset.mem_biUnion.2 ⟨(⟨(x 0).val, h0⟩, ⟨(x 1).val / 576, by omega⟩), Finset.mem_univ _,
    Finset.mem_filter.2 ⟨Finset.mem_univ _, rfl, rfl⟩⟩
theorem slabs_disjoint (b b' : Fin 4) (h : b ≠ b') : Disjoint (slabs b) (slabs b') := by
  rw [Finset.disjoint_left]
  intro x hx hx'
  simp only [slabs, slab, Finset.mem_filter] at hx hx'
  exact h (Fin.ext (hx.2.symm.trans hx'.2))
theorem slabs_cover : Finset.univ.biUnion slabs = Finset.univ := by
  refine Finset.eq_univ_of_forall fun x => ?_
  have h0 : (x 0).val < 4 := (x 0).isLt
  exact Finset.mem_biUnion.2 ⟨⟨(x 0).val, h0⟩, Finset.mem_univ _, Finset.mem_filter.2 ⟨Finset.mem_univ _, rfl⟩⟩

/-- The pool's share not lent to any page, and the angles' not lent to any slab. -/
def poolRest : sProp 𝕄 := iprop((poolLoc c) ↦{Transfers.shareDrop fullShare 32} (pool : Buf (Elt F) (poolLoc c)))
def cshRest : sProp 𝕄 := iprop((cshLoc c) ↦{Transfers.shareDrop fullShare 4} (cs : Buf (Elt F) (cshLoc c)))

theorem pool_shares : (((poolLoc c) ↦{fullShare} (pool : Buf (Elt F) (poolLoc c))) : sProp 𝕄)
    ⊣⊢ iprop(poolRest c pool ∗ bigSep Finset.univ fun x : Fin 4 × Fin 8 => ((poolLoc c) ↦{tokP x.1.val x.2.val} (pool : Buf (Elt F) (poolLoc c)))) := by
  have h := Transfers.pointsTo_toks (Ix := Unit) (Name := ℕ) (U := Pipeline.UD sig nD τ) (Lvl := ℕ) (ℓ := poolLoc c) (S := Finset.univ) (f := (pool : Buf (Elt F) (poolLoc c))) fullShare 32
  rw [bigSep_univ_equiv (finProdFinEquiv : Fin 4 × Fin 8 ≃ Fin 32)] at h
  have e : (fun a : Fin 4 × Fin 8 => (((poolLoc c) ↦{Transfers.shareTok fullShare 32 (finProdFinEquiv a)} (pool : Buf (Elt F) (poolLoc c))) : sProp 𝕄))
      = fun x => ((poolLoc c) ↦{tokP x.1.val x.2.val} (pool : Buf (Elt F) (poolLoc c))) := by
    funext a
    have e : Transfers.shareTok fullShare 32 (finProdFinEquiv a) = tokP a.1.val a.2.val :=
      congrArg (Transfers.shareTokN fullShare) (Nat.add_comm _ _)
    rw [e]
  rw [e] at h
  exact h

theorem csh_shares : (((cshLoc c) ↦{fullShare} (cs : Buf (Elt F) (cshLoc c))) : sProp 𝕄)
    ⊣⊢ iprop(cshRest c cs ∗ bigSep Finset.univ fun s : Fin 4 => ((cshLoc c) ↦{tokC s.val} (cs : Buf (Elt F) (cshLoc c)))) :=
  Transfers.pointsTo_toks (Ix := Unit) (Name := ℕ) (U := Pipeline.UD sig nD τ) (Lvl := ℕ) (ℓ := cshLoc c) (S := Finset.univ) (f := (cs : Buf (Elt F) (cshLoc c))) fullShare 4

theorem bufs_split : iprop((∃ f : Buf (Elt F) (bufLoc c), (bufLoc c) ↦{fullShare} f) ∗ ((poolLoc c) ↦{fullShare} (pool : Buf (Elt F) (poolLoc c))))
    ⊢ (iprop(poolRest c pool ∗ bigSep Finset.univ (preP c pool 0) ∗ bigSep Finset.univ (preP c pool 1) ∗ bigSep Finset.univ (preP c pool 2) ∗ bigSep Finset.univ (preP c pool 3)) : sProp 𝕄) := by
  have hfour : (bigSep Finset.univ (fun x : Fin 4 × Fin 8 => preP c pool x.1.val x.2) : sProp 𝕄)
      = iprop(bigSep Finset.univ (preP c pool 0) ∗ bigSep Finset.univ (preP c pool 1) ∗ bigSep Finset.univ (preP c pool 2) ∗ bigSep Finset.univ (preP c pool 3)) := by
    rw [bigSep_univ_prod]
    exact bigSep_univ_eq_bigSepL [(0 : Fin 4), 1, 2, 3] (by decide) (by decide) _
  rw [← hfour]
  iintro ⟨⟨%f, HB⟩, HP⟩
  ihave HB' := (Entails.of_eq (Ring.pointsTo_blocks pieces pieces_disjoint pieces_cover f)) $$ HB
  ihave HP' := (pool_shares c pool).1 $$ HP
  icases HP' with ⟨HR, HT⟩
  isplitl [HR]; · iexact HR
  unfold preP
  iapply (Entails.of_eq (bigSep_sep' Finset.univ (fun x : Fin 4 × Fin 8 => iprop(∃ f : Buf (Elt F) (bufLoc c), (bufLoc c) ↦[piece x.1.val x.2.val]{fullShare} f)) _).symm)
  isplitl [HB']
  · have hm : (bigSep Finset.univ (fun x : Fin 4 × Fin 8 => (((bufLoc c) ↦[pieces x]{fullShare} f) : sProp 𝕄)))
        ⊢ bigSep Finset.univ (fun x : Fin 4 × Fin 8 => iprop(∃ f : Buf (Elt F) (bufLoc c), (bufLoc c) ↦[piece x.1.val x.2.val]{fullShare} f)) :=
      BI.bigSep_mono fun x _ => (show _ ⊢ iprop(∃ f : Buf (Elt F) (bufLoc c), (bufLoc c) ↦[piece x.1.val x.2.val]{fullShare} f) by iintro H; iexists f; iexact H)
    iapply hm
    iexact HB'
  · iexact HT

theorem bufs_join : (iprop(poolRest c pool ∗ bigSep Finset.univ (preP c pool 0) ∗ bigSep Finset.univ (preP c pool 1) ∗ bigSep Finset.univ (preP c pool 2) ∗ bigSep Finset.univ (preP c pool 3)) : sProp 𝕄)
    ⊢ iprop((∃ f : Buf (Elt F) (bufLoc c), (bufLoc c) ↦{fullShare} f) ∗ ((poolLoc c) ↦{fullShare} (pool : Buf (Elt F) (poolLoc c)))) := by
  have hfour : (bigSep Finset.univ (fun x : Fin 4 × Fin 8 => preP c pool x.1.val x.2) : sProp 𝕄)
      = iprop(bigSep Finset.univ (preP c pool 0) ∗ bigSep Finset.univ (preP c pool 1) ∗ bigSep Finset.univ (preP c pool 2) ∗ bigSep Finset.univ (preP c pool 3)) := by
    rw [bigSep_univ_prod]
    exact bigSep_univ_eq_bigSepL [(0 : Fin 4), 1, 2, 3] (by decide) (by decide) _
  rw [← hfour]
  iintro ⟨HR, H⟩
  unfold preP
  ihave H' := (Entails.of_eq (bigSep_sep' Finset.univ (fun x : Fin 4 × Fin 8 => iprop(∃ f : Buf (Elt F) (bufLoc c), (bufLoc c) ↦[piece x.1.val x.2.val]{fullShare} f)) _)) $$ H
  icases H' with ⟨HB, HT⟩
  isplitl [HB]
  · iapply (Ring.pointsTo_blocks_join_exists pieces pieces_disjoint pieces_cover (fun _ => Classical.arbitrary _))
    iexact HB
  · iapply (pool_shares c pool).2
    isplitl [HR]; · iexact HR
    iexact HT

theorem slabs_split : iprop((∃ f : Buf (Elt F) (csbLoc c), (csbLoc c) ↦{fullShare} f) ∗ ((cshLoc c) ↦{fullShare} (cs : Buf (Elt F) (cshLoc c))))
    ⊢ (iprop(cshRest c cs ∗ preC c cs 0 ∗ preC c cs 1 ∗ preC c cs 2 ∗ preC c cs 3) : sProp 𝕄) := by
  have hfour : (bigSep Finset.univ (fun s : Fin 4 => preC c cs s.val) : sProp 𝕄)
      = iprop(preC c cs 0 ∗ preC c cs 1 ∗ preC c cs 2 ∗ preC c cs 3) :=
    bigSep_univ_eq_bigSepL [(0 : Fin 4), 1, 2, 3] (by decide) (by decide) _
  rw [← hfour]
  iintro ⟨⟨%f, HB⟩, HP⟩
  ihave HB' := (Entails.of_eq (Ring.pointsTo_blocks slabs slabs_disjoint slabs_cover f)) $$ HB
  ihave HP' := (csh_shares c cs).1 $$ HP
  icases HP' with ⟨HR, HT⟩
  isplitl [HR]; · iexact HR
  unfold preC
  iapply (Entails.of_eq (bigSep_sep' Finset.univ (fun s : Fin 4 => iprop(∃ f : Buf (Elt F) (csbLoc c), (csbLoc c) ↦[slab s.val]{fullShare} f)) _).symm)
  isplitl [HB']
  · have hm : (bigSep Finset.univ (fun x : Fin 4 => (((csbLoc c) ↦[slabs x]{fullShare} f) : sProp 𝕄)))
        ⊢ bigSep Finset.univ (fun x : Fin 4 => iprop(∃ f : Buf (Elt F) (csbLoc c), (csbLoc c) ↦[slab x.val]{fullShare} f)) :=
      BI.bigSep_mono fun x _ => (show _ ⊢ iprop(∃ f : Buf (Elt F) (csbLoc c), (csbLoc c) ↦[slab x.val]{fullShare} f) by iintro H; iexists f; iexact H)
    iapply hm
    iexact HB'
  · iexact HT

theorem slabs_join : (iprop(cshRest c cs ∗ preC c cs 0 ∗ preC c cs 1 ∗ preC c cs 2 ∗ preC c cs 3) : sProp 𝕄)
    ⊢ iprop((∃ f : Buf (Elt F) (csbLoc c), (csbLoc c) ↦{fullShare} f) ∗ ((cshLoc c) ↦{fullShare} (cs : Buf (Elt F) (cshLoc c)))) := by
  have hfour : (bigSep Finset.univ (fun s : Fin 4 => preC c cs s.val) : sProp 𝕄)
      = iprop(preC c cs 0 ∗ preC c cs 1 ∗ preC c cs 2 ∗ preC c cs 3) :=
    bigSep_univ_eq_bigSepL [(0 : Fin 4), 1, 2, 3] (by decide) (by decide) _
  rw [← hfour]
  iintro ⟨HR, H⟩
  unfold preC
  ihave H' := (Entails.of_eq (bigSep_sep' Finset.univ (fun s : Fin 4 => iprop(∃ f : Buf (Elt F) (csbLoc c), (csbLoc c) ↦[slab s.val]{fullShare} f)) _)) $$ H
  icases H' with ⟨HB, HT⟩
  isplitl [HB]
  · iapply (Ring.pointsTo_blocks_join_exists slabs slabs_disjoint slabs_cover (fun _ => Classical.arbitrary _))
    iexact HB
  · iapply (csh_shares c cs).2
    isplitl [HR]; · iexact HR
    iexact HT

/-! ## The launch's own state -/

/-- The kernel's own semaphores: a slot's pages', then a slot's slab's. -/
def osem0 : Fin 8 → SemLoc sig := fun k => .dma ⟨9 + k.val, by have := k.isLt; show _ < 17; omega⟩
theorem ownSemFacts0 : Pipeline.OwnSemFacts spec0 osem0 := by decide
def H0 : Finset (Ref sig .tc) := {main_arg6, main_arg7}
theorem H0_sub : H0 ⊆ Pipeline.restRefsP sig pre0 spec0 := by decide

/-- The four semaphores of the pages and the four of the slabs at zero. -/
def sems : sProp 𝕄 :=
  iprop(semVal ((c : Thread nD τ), SemLoc.dma (semP 0)) 0 ∗ semVal ((c : Thread nD τ), SemLoc.dma (semP 1)) 0
    ∗ semVal ((c : Thread nD τ), SemLoc.dma (semP 2)) 0 ∗ semVal ((c : Thread nD τ), SemLoc.dma (semP 3)) 0
    ∗ semVal ((c : Thread nD τ), SemLoc.dma (semC 0)) 0 ∗ semVal ((c : Thread nD τ), SemLoc.dma (semC 1)) 0
    ∗ semVal ((c : Thread nD τ), SemLoc.dma (semC 2)) 0 ∗ semVal ((c : Thread nD τ), SemLoc.dma (semC 3)) 0)

theorem ownSems00_eq : (Pipeline.ownSems0 (Ix := Unit) (Name := ℕ) (U := Pipeline.UD sig nD τ) (Lvl := ℕ) (Val := Elt F) (τ := τ) osem0 c : sProp 𝕄) = sems c :=
  Pipeline.ownSems0_eq_of_list c osem0 [(0 : Fin 8), 1, 2, 3, 4, 5, 6, 7] (by decide) (by decide)

/-- What the invariant holds before point `n`, but for the page table. -/
def held (w : FVec F S1536x512 .bf16) (T : Table) (n : ℕ) : sProp 𝕄 :=
  iprop(ring c T pool cs n ∗ idle c pool cs 3 ∗ lhsB c w n ∗ poolRest c pool ∗ cshRest c cs ∗ (∃ r, prngReg c r))

theorem held_of_ΦD (w : FVec F S1536x512 .bf16) (T : Table) (V : (c : Dev nD) → (b : Ref sig .tc) → Buf (Elt F) ((c : Thread nD τ).loc b))
    (h6 : V c main_arg6 = cs) (h7 : V c main_arg7 = pool) :
    Pipeline.ΦD osem0 spec0 H0 V c ⊢ held c pool cs w T 0 := by
  subst h6 h7
  unfold held ring lhsB idle lhsAt
  rw [Pipeline.ΦD_eq, scopedRest0_eq, ownSems00_eq, show bigSep H0 (fun b => ((c.tc : Thread nD τ).loc b) ↦{fullShare} V c b)
      = (iprop(((cshLoc c) ↦{fullShare} V c main_arg6) ∗ ((poolLoc c) ↦{fullShare} V c main_arg7)) : sProp 𝕄) from
      BI.bigSep_eq_bigSepL_of_eq [main_arg6, main_arg7] (by decide) (by decide) _,
    if_neg (show ¬ (0 < 0 ∧ 0 < 128) by omega), if_pos rfl]
  unfold sems
  iintro ⟨⟨HB, HC, HL⟩, Hg, ⟨P0, P1, P2, P3, C0, C1, C2, C3⟩, H6, H7⟩
  icombine HB H7 as HB
  ihave HB' := (bufs_split c (V c main_arg7)) $$ HB
  icases HB' with ⟨HPR, B0, B1, B2, B3⟩
  icombine HC H6 as HC
  ihave HC' := (slabs_split c (V c main_arg6)) $$ HC
  icases HC' with ⟨HCR, D0, D1, D2, D3⟩
  isplitl [B0 B1 B2 D0 D1 D2 P0 P1 P2 C0 C1 C2]
  · isplitl [B0 D0 P0 C0]
    · isplitl [B0]; · iexact B0
      isplitl [D0]; · iexact D0
      isplitl [P0]; · iexact P0
      iexact C0
    isplitl [B1 D1 P1 C1]
    · isplitl [B1]; · iexact B1
      isplitl [D1]; · iexact D1
      isplitl [P1]; · iexact P1
      iexact C1
    · isplitl [B2]; · iexact B2
      isplitl [D2]; · iexact D2
      isplitl [P2]; · iexact P2
      iexact C2
  isplitl [B3 D3 P3 C3]
  · isplitl [B3]; · iexact B3
    isplitl [D3]; · iexact D3
    isplitl [P3]; · iexact P3
    iexact C3
  isplitl [HL]; · iexact HL
  isplitl [HPR]; · iexact HPR
  isplitl [HCR]; · iexact HCR
  iexact Hg

theorem ΦD_of_held (w : FVec F S1536x512 .bf16) (T : Table) (V : (c : Dev nD) → (b : Ref sig .tc) → Buf (Elt F) ((c : Thread nD τ).loc b))
    (h6 : V c main_arg6 = cs) (h7 : V c main_arg7 = pool) :
    held c pool cs w T 128 ⊢ Pipeline.ΦD osem0 spec0 H0 V c := by
  subst h6 h7
  unfold held ring lhsB idle lhsAt
  rw [Pipeline.ΦD_eq, scopedRest0_eq, ownSems00_eq, show bigSep H0 (fun b => ((c.tc : Thread nD τ).loc b) ↦{fullShare} V c b)
      = (iprop(((cshLoc c) ↦{fullShare} V c main_arg6) ∗ ((poolLoc c) ↦{fullShare} V c main_arg7)) : sProp 𝕄) from
      BI.bigSep_eq_bigSepL_of_eq [main_arg6, main_arg7] (by decide) (by decide) _,
    if_neg (show ¬ (0 < 128 ∧ 128 < 128) by omega), if_neg (show ¬ 128 = 0 by omega)]
  unfold sems
  iintro ⟨⟨⟨B0, D0, P0, C0⟩, ⟨B1, D1, P1, C1⟩, ⟨B2, D2, P2, C2⟩⟩, ⟨B3, D3, P3, C3⟩, ⟨%f, HL⟩, HPR, HCR, Hg⟩
  ihave HB' := (bufs_join c (V c main_arg7)) $$ [HPR B0 B1 B2 B3]
  · isplitl [HPR]; · iexact HPR
    isplitl [B0]; · iexact B0
    isplitl [B1]; · iexact B1
    isplitl [B2]; · iexact B2
    iexact B3
  icases HB' with ⟨HB, H7⟩
  ihave HC' := (slabs_join c (V c main_arg6)) $$ [HCR D0 D1 D2 D3]
  · isplitl [HCR]; · iexact HCR
    isplitl [D0]; · iexact D0
    isplitl [D1]; · iexact D1
    isplitl [D2]; · iexact D2
    iexact D3
  icases HC' with ⟨HC, H6⟩
  isplitl [HB HC HL]
  · isplitl [HB]; · iexact HB
    isplitl [HC]; · iexact HC
    iexists _; iexact HL
  isplitl [Hg]; · iexact Hg
  isplitr [H6 H7]
  · isplitl [P0]; · iexact P0
    isplitl [P1]; · iexact P1
    isplitl [P2]; · iexact P2
    isplitl [P3]; · iexact P3
    isplitl [C0]; · iexact C0
    isplitl [C1]; · iexact C1
    isplitl [C2]; · iexact C2
    iexact C3
  isplitl [H6]; · iexact H6
  iexact H7

/-! ## The pipeline's proof data -/

variable (m : (ℓ : Loc nD τ sig) → Buf (Elt F) ℓ) (ρ : Dev nD → PrngReg)

/-- A core's buffers when the region is entered: as launched. -/
abbrev V (c : Dev nD) (b : Ref sig .tc) : Buf (Elt F) ((c : Thread nD τ).loc b) := m ((c : Thread nD τ).loc b)

/-- The page table, the pool and the angles as launched. -/
def tabV : Table := m (((0 : Dev nD) : Thread nD τ).loc main_arg0)
def poolV (c : Dev nD) : S11796480x128.Idx → Elt F .f32 := m ((c : Thread nD τ).loc main_arg7)
def csV (c : Dev nD) : S16x128x1024.Idx → Elt F .f32 := m ((c : Thread nD τ).loc main_arg6)

theorem tab_eq (c : Dev nD) : V m c main_arg0 = tabV m := by
  obtain rfl : c = 0 := Subsingleton.elim (α := Fin 1) c 0
  rfl

/-- The table's contents as the region's. -/
def adm (_ : Fin 1) : (pcfg0 (F := F)).Adm := ⟨fun k => m (((0 : Dev nD) : Thread nD τ).loc (pre0.ref k)), trivial⟩
abbrev C0 : Pipeline.Cfg sig Λ₀ := cfg0 (adm m 0)

/-- Window `w`'s block at point `t`, read off its array as launched. -/
def iblk (c : Dev nD) (w : Fin (C0 m).W) (t : Fin (C0 m).N) : (((C0 m).win w).xblock ((C0 m).grid.coords t)).Idx → Elt F ((C0 m).win w).elt :=
  (((C0 m).win w).blk t).view.read (Elt F) (V m c (Pipeline.arrRef spec0 w))

/-- The weights' block at the first point. -/
def wblk (c : Dev nD) : Vec F S1536x512 .bf16 := iblk m c 4 ⟨0, by show 0 < grid0.N; rw [N_0]; omega⟩

def dats (_ : Fin 1) (c : Dev nD) : Dat τ (Elt F) Unit ℕ (Pipeline.UD sig nD τ) ℕ (C0 m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV (tabV m) (poolV m c) (csV m c) (grid0.coords t 0).val (iblk m c 0 t) (iblk m c 1 t) (iblk m c 2 t) (iblk m c 3 t) (iblk m c 4 t)
  Φ t := iprop(held c (poolV m c) (csV m c) (k0_pay18 (wblk m c)) (tabV m) t.val ∗ tabled c (tabV m))
  q _ := fullShare
  owed _ := 0

theorem A_eq (c : Dev nD) (w : Fin (C0 m).W) : (dats m 0 c).A w = V m c (Pipeline.arrRef spec0 w) := by
  dsimp only [dats]

theorem after0_0 (c : Dev nD) (t : Fin (C0 m).N) : (dats m 0 c).after 0 t = iblk m c 0 t := rfl
theorem after0_1 (c : Dev nD) (t : Fin (C0 m).N) : (dats m 0 c).after 1 t = iblk m c 1 t := rfl
theorem after0_2 (c : Dev nD) (t : Fin (C0 m).N) : (dats m 0 c).after 2 t = iblk m c 2 t := rfl
theorem after0_3 (c : Dev nD) (t : Fin (C0 m).N) : (dats m 0 c).after 3 t = iblk m c 3 t := rfl
theorem after0_4 (c : Dev nD) (t : Fin (C0 m).N) : (dats m 0 c).after 4 t = iblk m c 4 t := rfl
theorem after0_5 (c : Dev nD) (t : Fin (C0 m).N) : (dats m 0 c).after 5 t
    = outV (tabV m) (poolV m c) (csV m c) (grid0.coords t 0).val (iblk m c 0 t) (iblk m c 1 t) (iblk m c 2 t) (iblk m c 3 t) (iblk m c 4 t) := rfl

theorem before0_0 (c : Dev nD) (t : Fin (C0 m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (C0 m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (C0 m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (C0 m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (C0 m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- A point's coordinate is its position. -/
theorem coord_val : ∀ t : Fin grid0.N, (grid0.coords t 0).val = t.val := by decide +kernel

/-- The weights' block is the same at every point. -/
theorem wblk_eq (c : Dev nD) (t : Fin (C0 m).N) : iblk m c 4 t = wblk m c := rfl

/-! ## The body at every point -/

abbrev st0_0 (t : Fin (C0 m).N) := ((C0 m).win 0).stage ((C0 m).slots t 0)
abbrev st0_1 (t : Fin (C0 m).N) := ((C0 m).win 1).stage ((C0 m).slots t 1)
abbrev st0_2 (t : Fin (C0 m).N) := ((C0 m).win 2).stage ((C0 m).slots t 2)
abbrev st0_3 (t : Fin (C0 m).N) := ((C0 m).win 3).stage ((C0 m).slots t 3)
abbrev st0_4 (t : Fin (C0 m).N) := ((C0 m).win 4).stage ((C0 m).slots t 4)
abbrev st0_5 (t : Fin (C0 m).N) := ((C0 m).win 5).stage ((C0 m).slots t 5)

abbrev bodyAt0 (t : Fin (C0 m).N) : Prog (TpuEff nD τ sig (Elt F) Λ₀ .tc) PUnit :=
  cc0_mla_sample (grid0.coords t) mtab (Memref.isWhole_whole _)
    (spec0_0.stage ((C0 m).slots t 0)) (hstage0_0 (((C0 m).slots t 0).cast nbuf0_0))
    (spec0_1.stage ((C0 m).slots t 1)) (hstage0_1 (((C0 m).slots t 1).cast nbuf0_1))
    (spec0_2.stage ((C0 m).slots t 2)) (hstage0_2 (((C0 m).slots t 2).cast nbuf0_2))
    (spec0_3.stage ((C0 m).slots t 3)) (hstage0_3 (((C0 m).slots t 3).cast nbuf0_3))
    (spec0_4.stage ((C0 m).slots t 4)) (hstage0_4 (((C0 m).slots t 4).cast nbuf0_4))
    mcsh (Memref.isWhole_whole _) mpool (Memref.isWhole_whole _)
    (spec0_5.stage ((C0 m).slots t 5)) (hstage0_5 (((C0 m).slots t 5).cast nbuf0_5))
    mbuf (Memref.isWhole_whole _) mcsb (Memref.isWhole_whole _) mlhs (Memref.isWhole_whole _) cc0_scratch3 cc0_scratch4

def bodyPre (c : Dev nD) (t : Fin (C0 m).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d))
    ∗ (∃ d, owns (c : Thread nD τ) (st0_3 m t) fullShare ((dats m 0 c).before 3 t d))
    ∗ (∃ d, owns (c : Thread nD τ) (st0_4 m t) fullShare ((dats m 0 c).before 4 t d))
    ∗ (∃ d, owns (c : Thread nD τ) (st0_5 m t) fullShare ((dats m 0 c).before 5 t d)))

def bodyPost (c : Dev nD) (t : Fin (C0 m).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t)
    ∗ owns (c : Thread nD τ) (st0_3 m t) fullShare ((dats m 0 c).after 3 t)
    ∗ owns (c : Thread nD τ) (st0_4 m t) fullShare ((dats m 0 c).after 4 t)
    ∗ owns (c : Thread nD τ) (st0_5 m t) fullShare ((dats m 0 c).after 5 t))

theorem Φ_castSucc (c : Dev nD) (t : Fin (C0 m).N) : (dats m 0 c).Φ t.castSucc
    = iprop(held c (poolV m c) (csV m c) (k0_pay18 (wblk m c)) (tabV m) t.val ∗ tabled c (tabV m)) := rfl
theorem Φ_succ (c : Dev nD) (t : Fin (C0 m).N) : (dats m 0 c).Φ t.succ
    = iprop(held c (poolV m c) (csV m c) (k0_pay18 (wblk m c)) (tabV m) (t.val + 1) ∗ tabled c (tabV m)) := rfl

section
variable (hT : ∀ x, ((tabV m) x).toNat < 20480)
include hT

theorem sound_body (c : Dev nD) (t : Fin (C0 m).N) :
    bodyPre m c t ⊢ wp frame (wpE (defs₀ (F := F)) Variants.none c none) Set.univ (bodyAt0 m t) (fun _ => bodyPost m c t) := by
  have B := body (defs := defs₀ (F := F)) c (tabV m) (poolV m c) (csV m c) hT Variants.none none (grid0.coords t) (Memref.isWhole_whole _)
    (spec0_0.stage ((C0 m).slots t 0)) (hstage0_0 (((C0 m).slots t 0).cast nbuf0_0))
    (spec0_1.stage ((C0 m).slots t 1)) (hstage0_1 (((C0 m).slots t 1).cast nbuf0_1))
    (spec0_2.stage ((C0 m).slots t 2)) (hstage0_2 (((C0 m).slots t 2).cast nbuf0_2))
    (spec0_3.stage ((C0 m).slots t 3)) (hstage0_3 (((C0 m).slots t 3).cast nbuf0_3))
    (spec0_4.stage ((C0 m).slots t 4)) (hstage0_4 (((C0 m).slots t 4).cast nbuf0_4))
    (Memref.isWhole_whole _) (Memref.isWhole_whole _)
    (spec0_5.stage ((C0 m).slots t 5)) (hstage0_5 (((C0 m).slots t 5).cast nbuf0_5))
    (Memref.isWhole_whole _) (Memref.isWhole_whole _) (Memref.isWhole_whole _)
    (iblk m c 0 t) (iblk m c 1 t) (iblk m c 2 t) (iblk m c 3 t) (iblk m c 4 t)
  have hc : (grid0.coords t 0).val = t.val := coord_val t
  rw [hc, wblk_eq] at B
  unfold bodyPre bodyPost
  simp only [before0_0, before0_1, before0_2, before0_3, before0_4]
  rw [after0_0, after0_1, after0_2, after0_3, after0_4, after0_5, Φ_castSucc, Φ_succ, hc, wblk_eq]
  unfold held Dat.owesAt Pipeline.owesWithin
  rw [show (dats m 0 c).owed t.castSucc = 0 from rfl, show (dats m 0 c).owed t.succ = 0 from rfl]
  iintro ⟨⟨⟨HR, R3, HL, HP, HC, Hg⟩, HT⟩, ⟨%W, -, HW⟩, ⟨%d0, X0⟩, ⟨%d1, X1⟩, ⟨%d2, X2⟩, ⟨%d3, X3⟩, ⟨%d4, X4⟩, ⟨%d5, X5⟩⟩
  iapply (wp_wand_r frame (wpE (defs₀ (F := F)) Variants.none (c : Thread nD τ) none) (E := Set.univ) (p := bodyAt0 m t))
  isplitl [HR R3 HL HT HW X0 X1 X2 X3 X4 X5]
  · iapply B
    isplitl [HT]; · iexact HT
    isplitl [HR]; · iexact HR
    isplitl [R3]; · iexact R3
    isplitl [HL]; · iexact HL
    isplitl [HW]; · unfold owed; iexists W; iexact HW
    isplitl [X0]; · iexact X0
    isplitl [X1]; · iexact X1
    isplitl [X2]; · iexact X2
    isplitl [X3]; · iexact X3
    isplitl [X4]; · iexact X4
    iexists _; iexact X5
  unfold owed
  iintro %r ⟨HT, HR, R3, HL, ⟨%W', HW⟩, X0, X1, X2, X3, X4, X5⟩
  isplitl [HT HR R3 HL HP HC Hg]
  · isplitr [HT]
    · isplitl [HR]; · iexact HR
      isplitl [R3]; · iexact R3
      isplitl [HL]; · iexact HL
      isplitl [HP]; · iexact HP
      isplitl [HC]; · iexact HC
      iexact Hg
    iexact HT
  isplitl [HW]
  · iexists W'
    isplitr
    · ipureintro; exact fun _ _ => Or.inl trivial
    iexact HW
  isplitl [X0]; · iexact X0
  isplitl [X1]; · iexact X1
  isplitl [X2]; · iexact X2
  isplitl [X3]; · iexact X3
  isplitl [X4]; · iexact X4
  iexact X5

omit hT in
theorem defs₀_row (t : Fin (C0 m).N) :
    defs₀ (F := F) .tc (C0 m).body ((C0 m).bodyArgs t ((C0 m).slots t)) = bodyAt0 m t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hT c t) rfl .rfl fun _ => .rfl

/-! ## The run -/

set_option backward.isDefEq.respectTransparency.types false in
theorem run_main_quiescent : θ_run defs (onTc (τ := τ) (main (F := F))) (s₀ m ρ)
    (fun r => (Pipeline.FramePost (Pipeline.pin pcfgs (adm m)) (dats m) 0 (V m)) r ∧ r.2.sem = fun _ => 0) :=
  Pipeline.θ_run_frameP_dma (Q' := _) pcfgs (adm m) (dats m) (0 : Fin 1) launch0 osem0 defs₀ Variants.none ownSemFacts0 H0 H0_sub m ρ main
    (hbody := fun c => (body_obligation m hT c).loose) (hshare := fun c => (dats m 0 c).share_full fun _ => rfl)
    (howed := fun _ _ => rfl) (V := V m)
    (hmain := Pipeline.hmainP_region pcfgs 0 defs₀ Variants.none m main fun c => (main_chain c).trans rfl) (hA := A_eq m)
    (hpf := fun c k => by obtain rfl : c = 0 := Subsingleton.elim (α := Fin 1) c 0; rfl)
    (hin := fun c => by
      show _ ⊢ iprop(held c (poolV m c) (csV m c) (k0_pay18 (wblk m c)) (tabV m) 0 ∗ tabled c (tabV m))
      have e : (Pipeline.ΦT pre0 (adm m 0).1 c : sProp 𝕄) = tabled c (tabV m) := by
        obtain rfl : c = 0 := Subsingleton.elim (α := Fin 1) c 0
        unfold Pipeline.ΦT Pipeline.prefHeld tabled
        rw [bigSep_univ_of_subsingleton (0 : Fin 1)]
        rfl
      iintro ⟨HD, HT⟩
      isplitl [HD]
      · iapply (held_of_ΦD c (poolV m c) (csV m c) (k0_pay18 (wblk m c)) (tabV m) (V m) rfl rfl)
        iexact HD
      · ihave HT' := (Entails.of_eq e) $$ HT
        iexact HT')
    (hout := fun c => by
      show iprop(held c (poolV m c) (csV m c) (k0_pay18 (wblk m c)) (tabV m) 128 ∗ tabled c (tabV m)) ⊢ _
      iintro ⟨HD, -⟩
      iapply (ΦD_of_held c (poolV m c) (csV m c) (k0_pay18 (wblk m c)) (tabV m) (V m) rfl rfl)
      iexact HD)

/-- The arguments end unchanged, the result at what the proof data computes. -/
theorem run : θ_run defs (onTc (τ := τ) (main (F := F))) ⟨m, fun _ => 0, ρ⟩ (fun r => (∀ c : Dev nD,
      r.2.mem ((c : Thread nD τ).loc main_v0) = (dats m 0 c).arrAt 5 (C0 m).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run defs _ _).mono (fun _ h => ⟨fun c => ⟨(h.1 c).1 5, (h.1 c).2 main_arg0 (show main_arg0 ∈ Pipeline.restRefs sig spec0 from by decide),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      (h.1 c).2 main_arg6 (show main_arg6 ∈ Pipeline.restRefs sig spec0 from by decide), (h.1 c).2 main_arg7 (show main_arg7 ∈ Pipeline.restRefs sig spec0 from by decide)⟩, h.2⟩) (run_main_quiescent m ρ hT)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run m ρ hT)

end

end Cert.MlaIdeal.Spec

end
-- ==== Proof.MlaSame.lean ====
/-
  The latent attention kernel and its idealization, in which nothing is replaced, are the same program: their tables of
  procedures are equal, so what is proved of the one's runs over any floats holds of the other's.
-/
module

public import proofs.«01_k».proof.Proof.MlaLaunch
public import proofs.«01_k».proof.Proof.Gen.Mla

@[expose] public section

set_option maxRecDepth 100000
set_option maxHeartbeats 4000000

noncomputable section

namespace Cert.Mla.Same

open Idealize.ShloMosaic

variable {F : FTy → Type} [FloatOps F]

/-- The kernel's body. -/
theorem body : Cert.Mla.cc0_mla_sample (F := F) = Cert.MlaIdeal.cc0_mla_sample (F := F) := rfl

/-- The table with the kernel's body as its one entry. -/
theorem table : Cert.Mla.defs₀ (F := F) = Cert.MlaIdeal.defs₀ (F := F) := by
  unfold Cert.Mla.defs₀ Cert.MlaIdeal.defs₀
  refine congrArg Defs.onTc (funext fun l => funext fun x => ?_)
  match l, x with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (body (F := F)) _) _) _) _) _) _) _) _) _) _) _) _) _) _) _) _) _) _) _) _) _) _) _) _) _) _) _

/-- The table of all the program's procedures. -/
theorem procedures : Cert.Mla.defs (F := F) = Cert.MlaIdeal.defs (F := F) :=
  congrArg (Pipeline.defs (Cert.MlaIdeal.pcfgs (F := F))) table

end Cert.Mla.Same

end
-- ==== Proof.MlaSpec.lean ====
/-
  Latent attention over a paged cache, as a function of the call's arrays: 128 sequences, 64 query rows (4 positions of 16
  heads, 12 of them real), a cache of 16384 latent vectors read through the page table and 4 new ones.
-/
module

public import proofs.«01_k».proof.Proof.Softmax

@[expose] public section

set_option backward.proofsInPublic true

noncomputable section

namespace Cert.MlaSpec

open Idealize.ShloMosaic Cert.Softmax

/-! ## One score -/

/-- The mean of the squares of a head's key, and the small number added to it. -/
def ms (W : Fin 12 → Fin 128 → Fin 512 → EReal) (C : Fin 512 → EReal) (K : Fin 64 → EReal) (n : Fin 12) : EReal :=
  (∑ x : Fin 128, (∑ e, W n x e * C e) * (∑ e, W n x e * C e) + ∑ x : Fin 64, K x * K x) * Ideal.ofBits .f32 0x3BAAAAAB#32
    + Ideal.ofBits .f32 0x358637BD#32

/-- A head's factor: nothing for the four padding heads. -/
def inv (W : Fin 12 → Fin 128 → Fin 512 → EReal) (C : Fin 512 → EReal) (K : Fin 64 → EReal) (n : ℕ) : EReal :=
  if h : n < 12 then Ideal.rsqrt (ms W C K ⟨n, h⟩) else 0

/-- The score of a query row against a latent vector `C` with rotary part `K` at angle `A`. -/
def logit (W : Fin 12 → Fin 128 → Fin 512 → EReal) (q : Fin 640 → EReal) (C : Fin 512 → EReal) (K : Fin 64 → EReal)
    (A : Fin 128 → EReal) (n : ℕ) : EReal :=
  (∑ e : Fin 512, q ⟨e.val, by omega⟩ * C e
    + (∑ x : Fin 64, q ⟨512 + x.val, by omega⟩ * (K x * A ⟨x.val, by omega⟩)
      + ∑ x : Fin 64, q ⟨512 + (64 + x.val), by omega⟩ * (K x * A ⟨64 + x.val, by omega⟩))) * inv W C K n
    * Ideal.ofBits .f32 0x3D93CD3A#32

abbrev Real? (x : EReal) : Prop := ∃ r : ℝ, x = (r : EReal)

theorem add_real {x y : EReal} (hx : Real? x) (hy : Real? y) : Real? (x + y) := by
  obtain ⟨a, rfl⟩ := hx; obtain ⟨b, rfl⟩ := hy; exact ⟨a + b, by rw [EReal.coe_add]⟩

theorem third_pos : ∃ r : ℝ, 0 < r ∧ Ideal.ofBits .f32 0x3BAAAAAB#32 = (r : EReal) := by
  refine ⟨(11184811 : ℝ) * 2 ^ (-31 : ℤ), by positivity, ?_⟩
  unfold Ideal.ofBits Ideal.ieee
  simp
theorem eps_pos : ∃ r : ℝ, 0 < r ∧ Ideal.ofBits .f32 0x358637BD#32 = (r : EReal) := by
  refine ⟨(8796093 : ℝ) * 2 ^ (-43 : ℤ), by positivity, ?_⟩
  unfold Ideal.ofBits Ideal.ieee
  simp
theorem scale_real : Real? (Ideal.ofBits .f32 0x3D93CD3A#32) := by
  refine ⟨?_, ?_⟩
  rotate_left
  · unfold Ideal.ofBits Ideal.ieee
    simp
    rfl
/-- The number a running maximum starts from. -/
theorem start_real : Real? (Ideal.ofBits .f32 0xF149F2CA#32) := by
  refine ⟨?_, ?_⟩
  rotate_left
  · unfold Ideal.ofBits Ideal.ieee
    simp
    rfl

theorem square_sum {ι : Type} (s : Finset ι) (f : ι → EReal) (h : ∀ i ∈ s, Real? (f i)) :
    ∃ r : ℝ, 0 ≤ r ∧ ∑ i ∈ s, f i * f i = (r : EReal) := by
  classical
  induction s using Finset.induction_on with
  | empty => exact ⟨0, le_rfl, by simp⟩
  | insert a s ha ih =>
    obtain ⟨x, hx⟩ := h a (Finset.mem_insert_self ..)
    obtain ⟨y, h0, hy⟩ := ih fun i hi => h i (Finset.mem_insert_of_mem hi)
    exact ⟨x * x + y, add_nonneg (mul_self_nonneg x) h0, by rw [Finset.sum_insert ha, hx, hy, EReal.coe_add, EReal.coe_mul]⟩

section
variable {W : Fin 12 → Fin 128 → Fin 512 → EReal} {q : Fin 640 → EReal} {C : Fin 512 → EReal} {K : Fin 64 → EReal} {A : Fin 128 → EReal}
  (hW : ∀ n x e, Real? (W n x e)) (hq : ∀ e, Real? (q e)) (hC : ∀ e, Real? (C e)) (hK : ∀ e, Real? (K e)) (hA : ∀ e, Real? (A e))
include hW hC hK

theorem inv_real (n : ℕ) : Real? (inv W C K n) := by
  unfold inv
  split
  · rename_i h
    obtain ⟨a, h0, ha⟩ := square_sum Finset.univ (fun x : Fin 128 => ∑ e, W ⟨n, h⟩ x e * C e)
      fun x _ => sum_real _ _ fun e _ => mul_real (hW _ _ _) (hC _)
    obtain ⟨k, h1, hk⟩ := square_sum Finset.univ K fun x _ => hK x
    obtain ⟨c, h2, hc⟩ := third_pos
    obtain ⟨d, h3, hd⟩ := eps_pos
    have hp : 0 < (a + k) * c + d := by positivity
    refine ⟨(Real.sqrt ((a + k) * c + d))⁻¹, ?_⟩
    unfold ms
    rw [ha, hk, hc, hd, ← EReal.coe_add, ← EReal.coe_mul, ← EReal.coe_add, Ideal.rsqrt_coe, if_neg (not_lt.2 hp.le), if_neg hp.ne']
  · exact ⟨0, rfl⟩

include hq hA in
theorem logit_real (n : ℕ) : Real? (logit W q C K A n) := by
  unfold logit
  exact mul_real (mul_real (add_real (sum_real _ _ fun e _ => mul_real (hq _) (hC _))
    (add_real (sum_real _ _ fun e _ => mul_real (hq _) (mul_real (hK _) (hA _)))
      (sum_real _ _ fun e _ => mul_real (hq _) (mul_real (hK _) (hA _))))) (inv_real hW hC hK n)) scale_real

end

/-! ## The call's arrays -/

section arrays
variable (T : (⟨2, ![128, 128]⟩ : Shape).Idx → BitVec 32) (Q : (⟨3, ![128, 64, 640]⟩ : Shape).Idx → EReal)
  (N : (⟨3, ![128, 576, 128]⟩ : Shape).Idx → EReal) (CN : (⟨2, ![128, 128]⟩ : Shape).Idx → EReal)
  (QI : (⟨2, ![64, 128]⟩ : Shape).Idx → BitVec 32) (W : (⟨2, ![1536, 512]⟩ : Shape).Idx → EReal)
  (CS : (⟨3, ![16, 128, 1024]⟩ : Shape).Idx → EReal) (P : (⟨2, ![11796480, 128]⟩ : Shape).Idx → EReal)

/-- Entry `r` of sequence `b`'s latent vector at position `t`: of the page that the table names, or of the new ones. -/
def lat (b : Fin 128) (t : ℕ) (r : Fin 576) : EReal :=
  if t < 16384 then P (ix2 (Fin.ofNat 11796480 (576 * (T (ix2 b (Fin.ofNat 128 (t / 128)))).toNat + r.val)) (Fin.ofNat 128 t))
  else N (ix3 b r (Fin.ofNat 128 t))

/-- Entry `r` of the angle's vector at position `t`. -/
def ang (t : ℕ) (r : Fin 128) : EReal :=
  if t < 16384 then CS (ix3 (Fin.ofNat 16 (t / 1024)) r (Fin.ofNat 1024 t)) else CN (ix2 r (Fin.ofNat 128 t))

/-- The score of query row `h` against position `t`. -/
def sc (b : Fin 128) (h : Fin 64) (t : ℕ) : EReal :=
  logit (fun n x e => W (ix2 ⟨n.val * 128 + x.val, by omega⟩ e)) (fun e => Q (ix3 b h e))
    (fun e => lat T N P b t ⟨e.val, by omega⟩) (fun x => lat T N P b t ⟨512 + x.val, by omega⟩) (ang CN CS t) (h.val % 16)

/-- The positions that query row `h` sees: the cache, and the new ones up to its own. -/
def seen (h : Fin 64) : Finset ℕ := (Finset.range 16388).filter fun t => t ≤ 16384 + (QI (ix2 h 0)).toNat

/-- Weights `exp x` on the positions `S`, values `v`: the mean. -/
def mean (S : Finset ℕ) (x v : ℕ → ℝ) : ℝ := (∑ t ∈ S, Real.exp (x t) * v t) / ∑ t ∈ S, Real.exp (x t)

/-- The call's result. -/
def out (b : Fin 128) (h : Fin 64) (d : Fin 512) : EReal :=
  (mean (seen QI h) (fun t => (sc T Q N CN W CS P b h t).toReal) (fun t => (lat T N P b t ⟨d.val, by omega⟩).toReal) : ℝ)

variable (hQ : ∀ i, Real? (Q i)) (hN : ∀ i, Real? (N i)) (hCN : ∀ i, Real? (CN i)) (hW : ∀ i, Real? (W i)) (hCS : ∀ i, Real? (CS i))
  (hP : ∀ i, Real? (P i))

include hN hP in
theorem lat_real (b : Fin 128) (t : ℕ) (r : Fin 576) : Real? (lat T N P b t r) := by
  unfold lat
  split
  · exact hP _
  · exact hN _

include hCN hCS in
theorem ang_real (t : ℕ) (r : Fin 128) : Real? (ang CN CS t r) := by
  unfold ang
  split
  · exact hCS _
  · exact hCN _

include hQ hN hCN hW hCS hP in
theorem sc_real (b : Fin 128) (h : Fin 64) (t : ℕ) : Real? (sc T Q N CN W CS P b h t) := by
  unfold sc
  exact logit_real (fun _ _ _ => hW _) (fun _ => hQ _) (fun _ => lat_real T N P hN hP _ _ _) (fun _ => lat_real T N P hN hP _ _ _)
    (ang_real CN CS hCN hCS t) _

end arrays

/-- The mean is the same with all weights scaled. -/
theorem mean_shift (S : Finset ℕ) (x v : ℕ → ℝ) (M : ℝ) :
    (∑ t ∈ S, Real.exp (x t - M) * v t) / (∑ t ∈ S, Real.exp (x t - M)) = mean S x v := by
  have h1 : ∀ t, Real.exp (x t - M) = Real.exp (x t) * Real.exp (-M) := fun t => by rw [← Real.exp_add]; rfl
  have e1 : ∑ t ∈ S, Real.exp (x t - M) * v t = (∑ t ∈ S, Real.exp (x t) * v t) * Real.exp (-M) := by
    rw [Finset.sum_mul]
    exact Finset.sum_congr rfl fun t _ => by rw [h1]; ring
  have e2 : ∑ t ∈ S, Real.exp (x t - M) = (∑ t ∈ S, Real.exp (x t)) * Real.exp (-M) := by
    rw [Finset.sum_mul]
    exact Finset.sum_congr rfl fun t _ => h1 t
  rw [e1, e2, mean, mul_div_mul_right _ _ (Real.exp_pos _).ne']

end Cert.MlaSpec

end
-- ==== Proof.MlaPoint.lean ====
/-
  The latent attention kernel's arithmetic, read at an index: a chunk's scores, the running maximum, sum and accumulator,
  and the last block's result.
-/
module

public import proofs.«01_k».proof.Proof.MlaSpec
public import proofs.«01_k».proof.Proof.MlaBody
public import Idealize.ShloMosaic.Lib.WordCmp
public import Idealize.ShloMosaic.Lib.Pointwise

@[expose] public section

set_option backward.proofsInPublic true
set_option maxRecDepth 16384
set_option maxHeartbeats 4000000

noncomputable section

namespace Cert.MlaIdeal.Val

open Cert.MlaIdeal Cert.MlaIdeal.Gen Idealize.ShloMosaic Cert.Softmax Cert.MlaSpec
open Cert.MlaIdeal.Spec (lat8 rope8 latV ropeV angV word both iter step Carry outV)

theorem pay18 (x : S1536x512.Idx → EReal) : k0_pay18 (F := Ideal) x = x := by
  unfold k0_pay18
  exact shapeCast_self _ _
theorem pay19 (x : S1x64x640.Idx → EReal) (h : Fin 64) (e : Fin 512) : k0_pay19 (F := Ideal) x (ix2 h e) = x (ix3 0 h ⟨e.val, by omega⟩) := by
  unfold k0_pay19 k0_pay16
  pointwise
theorem pay17 (x : S1x64x640.Idx → EReal) (h : Fin 64) (e : Fin 128) : k0_pay17 (F := Ideal) x (ix2 h e) = x (ix3 0 h ⟨512 + e.val, by omega⟩) := by
  unfold k0_pay17 k0_pay16
  pointwise

theorem minus_infinity : Ideal.ofBits .f32 0xFF800000#32 = ⊥ := by simp [Ideal.ofBits, Ideal.ieee]

section scores
variable (q2 : S64x128.Idx → EReal) (L : S1600x512.Idx → EReal) (W : Fin 12 → Fin 128 → Fin 512 → EReal) (q : Fin 64 → Fin 640 → EReal)
  (hL : ∀ (n : Fin 12) (x : Fin 128) (e : Fin 512), L (ix2 ⟨n.val * 128 + x.val, by omega⟩ e) = W n x e)
  (hl : ∀ (h : Fin 64) (e : Fin 512), L (ix2 ⟨1536 + h.val, by omega⟩ e) = q h ⟨e.val, by omega⟩)
  (hq : ∀ (h : Fin 64) (e : Fin 128), q2 (ix2 h e) = q h ⟨512 + e.val, by omega⟩)
include hL hl hq

/-- A chunk's scores. -/
theorem pay10 (l : S512x1024.Idx → EReal) (r : S64x1024.Idx → EReal) (a : S1x128x1024.Idx → EReal) (h : Fin 64) (t : Fin 1024) :
    k0_pay10 (F := Ideal) q2 l r a L (ix2 h t)
      = logit W (q h) (fun e => l (ix2 e t)) (fun x => r (ix2 x t)) (fun x => a (ix3 0 x t)) (h.val % 16) := by
  have hh := h.isLt
  have key : ∀ (n : ℕ) (hn : n < 12), h.val % 16 = n → inv W (fun e => l (ix2 e t)) (fun x => r (ix2 x t)) (h.val % 16) =
      Ideal.rsqrt (ms W (fun e => l (ix2 e t)) (fun x => r (ix2 x t)) ⟨n, hn⟩) := by
    rintro n hn rfl
    exact dif_pos hn
  have zero : ¬ h.val % 16 < 12 → inv W (fun e => l (ix2 e t)) (fun x => r (ix2 x t)) (h.val % 16) = 0 := fun hn => dif_neg hn
  unfold logit k0_pay10 k0_pay9
  pointwise
  congr 2
  · congr 1
    · exact Finset.sum_congr rfl fun e _ => by rw [hl]
    · congr 1 <;> exact Finset.sum_congr rfl fun e _ => by rw [hq]
  · split
    · split
      · rename_i h1 h2
        rw [key h.val h2 (by omega)]
        unfold ms
        simp only [← hL]
      · rw [zero (by omega)]
    · split
      · split
        · rename_i h1 h2 h3
          rw [key (h.val - 16) h3 (by omega)]
          unfold ms
          simp only [← hL]
        · rw [zero (by omega)]
      · split
        · split
          · rename_i h1 h2 h3 h4
            rw [key (h.val - 16 - 16) h4 (by omega)]
            unfold ms
            simp only [← hL]
          · rw [zero (by omega)]
        · split
          · rename_i h1 h2 h3 h4
            rw [key (h.val - 16 - 16 - 16) h4 (by omega)]
            unfold ms
            simp only [← hL]
          · rw [zero (by omega)]

/-- The last block's scores. -/
theorem pay25 (l : S1x512x128.Idx → EReal) (r : S1x64x128.Idx → EReal) (a : S128x128.Idx → EReal) (h : Fin 64) (t : Fin 128) :
    k0_pay25 (F := Ideal) q2 l r a L (ix2 h t)
      = logit W (q h) (fun e => l (ix3 0 e t)) (fun x => r (ix3 0 x t)) (fun x => a (ix2 x t)) (h.val % 16) := by
  have hh := h.isLt
  have key : ∀ (n : ℕ) (hn : n < 12), h.val % 16 = n → inv W (fun e => l (ix3 0 e t)) (fun x => r (ix3 0 x t)) (h.val % 16) =
      Ideal.rsqrt (ms W (fun e => l (ix3 0 e t)) (fun x => r (ix3 0 x t)) ⟨n, hn⟩) := by
    rintro n hn rfl
    exact dif_pos hn
  have zero : ¬ h.val % 16 < 12 → inv W (fun e => l (ix3 0 e t)) (fun x => r (ix3 0 x t)) (h.val % 16) = 0 := fun hn => dif_neg hn
  unfold logit k0_pay25 k0_pay24
  pointwise
  congr 2
  · congr 1
    · exact Finset.sum_congr rfl fun e _ => by rw [hl]
    · congr 1 <;> exact Finset.sum_congr rfl fun e _ => by rw [hq]
  · split
    · split
      · rename_i h1 h2
        rw [key h.val h2 (by omega)]
        unfold ms
        simp only [← hL]
      · rw [zero (by omega)]
    · split
      · split
        · rename_i h1 h2 h3
          rw [key (h.val - 16) h3 (by omega)]
          unfold ms
          simp only [← hL]
        · rw [zero (by omega)]
      · split
        · split
          · rename_i h1 h2 h3 h4
            rw [key (h.val - 16 - 16) h4 (by omega)]
            unfold ms
            simp only [← hL]
          · rw [zero (by omega)]
        · split
          · rename_i h1 h2 h3 h4
            rw [key (h.val - 16 - 16 - 16) h4 (by omega)]
            unfold ms
            simp only [← hL]
          · rw [zero (by omega)]

end scores

section carry
variable (q2 : S64x128.Idx → EReal) (l : S512x1024.Idx → EReal) (r : S64x1024.Idx → EReal) (a : S1x128x1024.Idx → EReal) (L : S1600x512.Idx → EReal)
  (m s : S64x1.Idx → EReal) (acc : S64x512.Idx → EReal) (h : Fin 64) (d : Fin 512)

theorem pay11 : k0_pay11 (F := Ideal) q2 m l r a L (ix2 h 0) = max (m (ix2 h 0)) (top fun t => k0_pay10 (F := Ideal) q2 l r a L (ix2 h t)) := by
  unfold k0_pay11
  generalize k0_pay10 (F := Ideal) q2 l r a L = x
  pointwise
  rw [minus_infinity]
  rfl

theorem pay14 : k0_pay14 (F := Ideal) q2 m s l r a L (ix2 h 0)
    = s (ix2 h 0) * Ideal.exp (m (ix2 h 0) - k0_pay11 (F := Ideal) q2 m l r a L (ix2 h 0))
      + ∑ t : Fin 1024, Ideal.exp (k0_pay10 (F := Ideal) q2 l r a L (ix2 h t) - k0_pay11 (F := Ideal) q2 m l r a L (ix2 h 0)) := by
  unfold k0_pay14 k0_pay12 k0_pay13
  generalize k0_pay11 (F := Ideal) q2 m l r a L = y
  generalize k0_pay10 (F := Ideal) q2 l r a L = x
  pointwise

theorem pay15 : k0_pay15 (F := Ideal) q2 m acc l r a L (ix2 h d)
    = acc (ix2 h d) * Ideal.exp (m (ix2 h 0) - k0_pay11 (F := Ideal) q2 m l r a L (ix2 h 0))
      + ∑ t : Fin 1024, Ideal.exp (k0_pay10 (F := Ideal) q2 l r a L (ix2 h t) - k0_pay11 (F := Ideal) q2 m l r a L (ix2 h 0)) * l (ix2 d t) := by
  unfold k0_pay15 k0_pay12 k0_pay13 k0_pay9
  generalize k0_pay11 (F := Ideal) q2 m l r a L = y
  generalize k0_pay10 (F := Ideal) q2 l r a L = x
  pointwise

end carry

section last
variable (q2 : S64x128.Idx → EReal) (v28 : IVec S64x128 1) (l : S1x512x128.Idx → EReal) (r : S1x64x128.Idx → EReal) (a : S128x128.Idx → EReal) (L : S1600x512.Idx → EReal)
  (m s : S64x1.Idx → EReal) (acc : S64x512.Idx → EReal) (h : Fin 64) (d : Fin 512)

theorem pay26 : k0_pay26 (F := Ideal) q2 m v28 l r a L (ix2 h 0)
    = max (m (ix2 h 0)) (top fun t => if v28 (ix2 h t) = 1#1 then k0_pay25 (F := Ideal) q2 l r a L (ix2 h t) else Ideal.ofBits .f32 0xF149F2CA#32) := by
  unfold k0_pay26
  generalize k0_pay25 (F := Ideal) q2 l r a L = x
  pointwise
  rw [minus_infinity]
  rfl

theorem pay1 : k0_pay1 (F := Ideal) m s acc v28 (k0_pay24 l) (k0_pay26 (F := Ideal) q2 m v28 l r a L) (k0_pay27 (F := Ideal) q2 m v28 l r a L) k0_pay28 (ix3 0 h d)
    = Ideal.div
        (acc (ix2 h d) * Ideal.exp (m (ix2 h 0) - k0_pay26 (F := Ideal) q2 m v28 l r a L (ix2 h 0))
          + ∑ t : Fin 128, (if v28 (ix2 h t) = 1#1 then Ideal.exp (k0_pay25 (F := Ideal) q2 l r a L (ix2 h t) - k0_pay26 (F := Ideal) q2 m v28 l r a L (ix2 h 0)) else 0) * l (ix3 0 d t))
        (s (ix2 h 0) * Ideal.exp (m (ix2 h 0) - k0_pay26 (F := Ideal) q2 m v28 l r a L (ix2 h 0))
          + ∑ t : Fin 128, if v28 (ix2 h t) = 1#1 then Ideal.exp (k0_pay25 (F := Ideal) q2 l r a L (ix2 h t) - k0_pay26 (F := Ideal) q2 m v28 l r a L (ix2 h 0)) else 0) := by
  unfold k0_pay1 k0_pay27 k0_pay28 k0_pay24
  generalize k0_pay26 (F := Ideal) q2 m v28 l r a L = y
  generalize k0_pay25 (F := Ideal) q2 l r a L = x
  pointwise
  congr 2
  refine Finset.sum_congr rfl fun t _ => ?_
  unfold Scalar.select
  by_cases hv : v28 (ix2 h t) = 1#1
  · exact (if_pos hv).trans (by rw [if_pos hv])
  · exact (if_neg hv).trans (by rw [if_neg hv, zero_mul])

/-- The columns that a query row sees of the last block. -/
theorem pay23 (x : S64x1.Idx → BitVec 32) (hx : (x (ix2 h 0)).toNat < 4) (t : Fin 128) :
    k0_pay23 (F := Ideal) x (ix2 h t) = 1#1 ↔ t.val ≤ (x (ix2 h 0)).toNat := by
  have ht := t.isLt
  unfold k0_pay23
  pointwise
  rw [IntOp.andi_eq_one]
  have e : x (ix2 h 0) = BitVec.ofNat 32 (x (ix2 h 0)).toNat := by simp
  generalize (x (ix2 h 0)).toNat = n at e hx
  rw [e, WordCmp.cmpi_sle_ofNat_eq_one_iff (by omega) (by omega), show (4#32) = BitVec.ofNat 32 4 from rfl,
    WordCmp.cmpi_slt_ofNat_eq_one_iff (by omega) (by omega)]
  omega

end last

section pages
variable (T : Spec.Table) (pool : S11796480x128.Idx → EReal) (cs : S16x128x1024.Idx → EReal)

/-- A chunk's latent vectors. -/
theorem lat8_apply (b ck : ℕ) (e : Fin 512) (t : Fin 1024) : lat8 (F := Ideal) T pool b ck (ix2 e t)
     = pool (ix2 (Fin.ofNat 11796480 (576 * (word T b (8 * ck + t.val / 128)).toNat + e.val)) (Fin.ofNat 128 t.val)) := by
  have ht := t.isLt
  have key : ∀ (p : ℕ) (j : Fin 128), p = t.val / 128 → j.val = t.val % 128 → latV (F := Ideal) T pool b ck p (ix3 0 e j)
      = pool (ix2 (Fin.ofNat 11796480 (576 * (word T b (8 * ck + t.val / 128)).toNat + e.val)) (Fin.ofNat 128 t.val)) := by
    rintro p j rfl hj
    have : j = Fin.ofNat 128 t.val := Fin.ext hj
    subst this
    rfl
  unfold lat8 k0_pay7 k0_pay2 k0_pay3 k0_pay4 k0_pay5 k0_pay6
  pointwise
  split_ifs <;> exact key _ _ (by omega) (by dsimp only; omega)

/-- Their rotary parts. -/
theorem rope8_apply (b ck : ℕ) (e : Fin 64) (t : Fin 1024) : rope8 (F := Ideal) T pool b ck (ix2 e t)
     = pool (ix2 (Fin.ofNat 11796480 (576 * (word T b (8 * ck + t.val / 128)).toNat + (512 + e.val))) (Fin.ofNat 128 t.val)) := by
  have ht := t.isLt
  have key : ∀ (p : ℕ) (j : Fin 128), p = t.val / 128 → j.val = t.val % 128 → ropeV (F := Ideal) T pool b ck p (ix3 0 e j)
      = pool (ix2 (Fin.ofNat 11796480 (576 * (word T b (8 * ck + t.val / 128)).toNat + (512 + e.val))) (Fin.ofNat 128 t.val)) := by
    rintro p j rfl hj
    have : j = Fin.ofNat 128 t.val := Fin.ext hj
    subst this
    rfl
  unfold rope8 k0_pay8
  pointwise
  split_ifs <;> exact key _ _ (by omega) (by dsimp only; omega)

end pages

end Cert.MlaIdeal.Val

end
-- ==== Proof.MlaOnline.lean ====
/-
  The latent attention kernel's block is the attention: the running maximum, sum and accumulator over the chunks, and the
  last, masked, block.
-/
module

public import proofs.«01_k».proof.Proof.MlaPoint

@[expose] public section

set_option backward.proofsInPublic true
set_option maxRecDepth 16384
set_option maxHeartbeats 1000000

noncomputable section

namespace Cert.MlaIdeal.Val

open Cert.MlaIdeal Cert.MlaIdeal.Gen Idealize.ShloMosaic Cert.Softmax Cert.MlaSpec
open Cert.MlaIdeal.Spec (lat8 rope8 latV ropeV angV word both iter step Carry outV)

/-! ## On real numbers -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_real {x : EReal} (h : Real? x) : ((x.toReal : ℝ) : EReal) = x := by
  obtain ⟨r, rfl⟩ := h; rfl

theorem exp_sub (x y : ℝ) : Ideal.exp ((x : EReal) - (y : EReal)) = (Real.exp (x - y) : ℝ) := by
  rw [← EReal.coe_sub, Ideal.exp_coe]

theorem max_real {x y : EReal} (hx : Real? x) (hy : y ≠ ⊤) : Real? (max x y) := by
  obtain ⟨a, rfl⟩ := hx
  refine exists_real (ne_of_lt (max_lt (EReal.coe_lt_top a) (lt_top_iff_ne_top.2 hy))) fun e => ?_
  have := le_max_left (a : EReal) y
  rw [e] at this
  exact EReal.coe_ne_bot a (le_bot_iff.1 this)

theorem real_ne_top {x : EReal} (h : Real? x) : x ≠ ⊤ := by
  obtain ⟨r, rfl⟩ := h; exact EReal.coe_ne_top r

/-- Weighted sums up to `n`, moved from one reference level to another and extended. -/
theorem advance (X V : ℕ → ℝ) (M M' : ℝ) (n k : ℕ) :
    ((∑ t ∈ Finset.range n, Real.exp (X t - M) * V t : ℝ) : EReal) * Ideal.exp ((M : EReal) - (M' : EReal))
      + ∑ t : Fin k, Ideal.exp (((X (n + t.val) : ℝ) : EReal) - (M' : EReal)) * ((V (n + t.val) : ℝ) : EReal)
      = ((∑ t ∈ Finset.range (n + k), Real.exp (X t - M') * V t : ℝ) : EReal) := by
  simp only [exp_sub, ← EReal.coe_mul]
  rw [coe_sum, ← EReal.coe_add, Finset.sum_range_add, Finset.sum_range (n := k)]
  congr 2
  rw [Finset.sum_mul]
  refine Finset.sum_congr rfl fun t _ => ?_
  rw [mul_right_comm, ← Real.exp_add]
  congr 2
  ring

theorem advance_one (X : ℕ → ℝ) (M M' : ℝ) (n k : ℕ) :
    ((∑ t ∈ Finset.range n, Real.exp (X t - M) : ℝ) : EReal) * Ideal.exp ((M : EReal) - (M' : EReal))
      + ∑ t : Fin k, Ideal.exp (((X (n + t.val) : ℝ) : EReal) - (M' : EReal))
      = ((∑ t ∈ Finset.range (n + k), Real.exp (X t - M') : ℝ) : EReal) := by
  have := advance X (fun _ => 1) M M' n k
  simpa only [mul_one, EReal.coe_one] using this

/-- A sum over the positions that a query row sees. -/
theorem sum_seen (q : ℕ) (hq : q < 4) (f : ℕ → ℝ) :
    ∑ t ∈ (Finset.range 16388).filter (fun t => t ≤ 16384 + q), f t
      = ∑ t ∈ Finset.range 16384, f t + ∑ t : Fin 128, if t.val ≤ q then f (16384 + t.val) else 0 := by
  rw [Finset.sum_filter, show 16388 = 16384 + 4 from rfl, Finset.sum_range_add]
  refine congrArg₂ (· + ·) ?_ ?_
  · refine Finset.sum_congr rfl fun t ht => if_pos ?_
    have := Finset.mem_range.1 ht
    omega
  · rw [← Finset.sum_range (n := 128) (fun t => if t ≤ q then f (16384 + t) else 0), show 128 = 4 + 124 from rfl, Finset.sum_range_add]
    have hz : ∑ x ∈ Finset.range 124, (if 4 + x ≤ q then f (16384 + (4 + x)) else 0) = 0 :=
      Finset.sum_eq_zero fun x _ => if_neg (by omega)
    rw [hz, add_zero]
    refine Finset.sum_congr rfl fun t _ => if_congr (by omega) rfl rfl

/-- The last block. -/
theorem finish (X V : ℕ → ℝ) (M M' : ℝ) (q : ℕ) (hq : q < 4) :
    ((∑ t ∈ Finset.range 16384, Real.exp (X t - M) * V t : ℝ) : EReal) * Ideal.exp ((M : EReal) - (M' : EReal))
      + ∑ t : Fin 128, (if t.val ≤ q then Ideal.exp (((X (16384 + t.val) : ℝ) : EReal) - (M' : EReal)) else 0) * ((V (16384 + t.val) : ℝ) : EReal)
      = ((∑ t ∈ (Finset.range 16388).filter (fun t => t ≤ 16384 + q), Real.exp (X t - M') * V t : ℝ) : EReal) := by
  have e : ∀ t : Fin 128, (if t.val ≤ q then Ideal.exp (((X (16384 + t.val) : ℝ) : EReal) - (M' : EReal)) else 0) * ((V (16384 + t.val) : ℝ) : EReal)
      = ((if t.val ≤ q then Real.exp (X (16384 + t.val) - M') * V (16384 + t.val) else 0 : ℝ) : EReal) := fun t => by
    by_cases h : t.val ≤ q
    · rw [if_pos h, if_pos h, exp_sub, EReal.coe_mul]
    · rw [if_neg h, if_neg h, zero_mul, EReal.coe_zero]
  rw [Finset.sum_congr rfl fun t _ => e t, coe_sum, exp_sub, ← EReal.coe_mul, ← EReal.coe_add, sum_seen q hq]
  refine congrArg (fun r : ℝ => (r : EReal)) (congrArg₂ (· + ·) ?_ rfl)
  rw [Finset.sum_mul]
  refine Finset.sum_congr rfl fun t _ => ?_
  rw [mul_right_comm, ← Real.exp_add]
  congr 2
  ring

theorem finish_one (X : ℕ → ℝ) (M M' : ℝ) (q : ℕ) (hq : q < 4) :
    ((∑ t ∈ Finset.range 16384, Real.exp (X t - M) : ℝ) : EReal) * Ideal.exp ((M : EReal) - (M' : EReal))
      + ∑ t : Fin 128, (if t.val ≤ q then Ideal.exp (((X (16384 + t.val) : ℝ) : EReal) - (M' : EReal)) else 0)
      = ((∑ t ∈ (Finset.range 16388).filter (fun t => t ≤ 16384 + q), Real.exp (X t - M') : ℝ) : EReal) := by
  have := finish X (fun _ => 1) M M' q hq
  simpa only [mul_one, EReal.coe_one] using this

/-! ## The block -/

section block
variable (T : S128x128.Idx → BitVec 32) (Q : S128x64x640.Idx → EReal) (N : S128x576x128.Idx → EReal) (CN : S128x128.Idx → EReal)
  (QI : S64x128.Idx → BitVec 32) (W : S1536x512.Idx → EReal) (CS : S16x128x1024.Idx → EReal) (P : S11796480x128.Idx → EReal)
  (b : Fin 128) (x2 : S1x64x640.Idx → EReal) (x3 : S1x576x128.Idx → EReal)
  (h2 : ∀ (h : Fin 64) (e : Fin 640), x2 (ix3 0 h e) = Q (ix3 b h e)) (h3 : ∀ (e : Fin 576) (t : Fin 128), x3 (ix3 0 e t) = N (ix3 b e t))
  (hQ : ∀ i, Real? (Q i)) (hN : ∀ i, Real? (N i)) (hCN : ∀ i, Real? (CN i)) (hW : ∀ i, Real? (W i)) (hCS : ∀ i, Real? (CS i))
  (hP : ∀ i, Real? (P i)) (hQI : ∀ i, (QI i).toNat < 4)

/-- The left operand of the products: the heads' key weights, then the queries. -/
abbrev lhs : S1600x512.Idx → EReal := both (F := Ideal) (k0_pay18 (F := Ideal) W) (k0_pay19 (F := Ideal) x2)

theorem lhs_key (n : Fin 12) (x : Fin 128) (e : Fin 512) :
    lhs W x2 (ix2 ⟨n.val * 128 + x.val, by omega⟩ e) = W (ix2 ⟨n.val * 128 + x.val, by omega⟩ e) := by
  unfold lhs both
  rw [pay18]
  exact dif_pos (show n.val * 128 + x.val < 1536 by omega)

include h2 in
theorem lhs_query (h : Fin 64) (e : Fin 512) : lhs W x2 (ix2 ⟨1536 + h.val, by omega⟩ e) = Q (ix3 b h ⟨e.val, by omega⟩) := by
  refine Eq.trans ?_ ((pay19 x2 h e).trans (h2 _ _))
  unfold lhs both
  refine (dif_neg (show ¬ 1536 + h.val < 1536 by omega)).trans ?_
  · refine congrArg _ (funext fun a => Fin.ext ?_)
    match a with
    | ⟨0, _⟩ => show 1536 + h.val - 1536 = h.val; omega
    | ⟨1, _⟩ => rfl

theorem word_eq (j : ℕ) : word T b.val j = T (ix2 b (Fin.ofNat 128 j)) := by
  unfold word
  have : Fin.ofNat 128 b.val = b := Fin.ext (Nat.mod_eq_of_lt b.isLt)
  rw [this]

/-- A cached latent vector, in its chunk. -/
theorem cached (ck : ℕ) (hck : ck < 16) (t : Fin 1024) (r : Fin 576) :
    P (ix2 (Fin.ofNat 11796480 (576 * (word T b.val (8 * ck + t.val / 128)).toNat + r.val)) (Fin.ofNat 128 t.val)) = lat T N P b (1024 * ck + t.val) r := by
  have ht := t.isLt
  unfold lat
  rw [if_pos (by omega), word_eq, show (1024 * ck + t.val) / 128 = 8 * ck + t.val / 128 by omega]
  have : Fin.ofNat 128 (1024 * ck + t.val) = Fin.ofNat 128 t.val := Fin.ext (by show _ % _ = _ % _; omega)
  rw [this]

theorem angle (ck : ℕ) (hck : ck < 16) (t : Fin 1024) (r : Fin 128) : angV (F := Ideal) CS ck (ix3 0 r t) = ang CN CS (1024 * ck + t.val) r := by
  have ht := t.isLt
  unfold ang
  rw [if_pos (by omega)]
  refine congrArg CS (funext fun a => Fin.ext ?_)
  match a with
  | ⟨0, _⟩ => show ck % 16 = (1024 * ck + t.val) / 1024 % 16; omega
  | ⟨1, _⟩ => rfl
  | ⟨2, _⟩ => show t.val = (1024 * ck + t.val) % 1024; omega

include h2 in
/-- A chunk's scores are the positions'. -/
theorem chunk (ck : ℕ) (hck : ck < 16) (h : Fin 64) (t : Fin 1024) :
    k0_pay10 (F := Ideal) (k0_pay17 (F := Ideal) x2) (lat8 (F := Ideal) T P b.val ck) (rope8 (F := Ideal) T P b.val ck) (angV (F := Ideal) CS ck) (lhs W x2) (ix2 h t)
      = sc T Q N CN W CS P b h (1024 * ck + t.val) := by
  rw [pay10 _ _ (fun n x e => W (ix2 ⟨n.val * 128 + x.val, by omega⟩ e)) (fun h e => Q (ix3 b h e)) (lhs_key W x2) (lhs_query Q W b x2 h2)
    (fun h e => (pay17 x2 h e).trans (h2 _ _))]
  unfold sc
  congr 1
  · funext e
    rw [lat8_apply]
    exact cached T N P b ck hck t ⟨e.val, by omega⟩
  · funext e
    rw [rope8_apply]
    exact cached T N P b ck hck t ⟨512 + e.val, by omega⟩
  · funext r
    exact angle CN CS ck hck t r

include h2 hQ hN hCN hW hCS hP in
/-- The carried values after `n` chunks. -/
theorem online (h : Fin 64) (n : ℕ) (hn : n ≤ 16) : ∃ M : ℝ,
    (iter (F := Ideal) T P CS x2 (lhs W x2) b.val n).1 (ix2 h 0) = (M : EReal)
    ∧ (iter (F := Ideal) T P CS x2 (lhs W x2) b.val n).2.1 (ix2 h 0)
        = ((∑ t ∈ Finset.range (1024 * n), Real.exp ((sc T Q N CN W CS P b h t).toReal - M) : ℝ) : EReal)
    ∧ ∀ d : Fin 512, (iter (F := Ideal) T P CS x2 (lhs W x2) b.val n).2.2 (ix2 h d)
        = ((∑ t ∈ Finset.range (1024 * n), Real.exp ((sc T Q N CN W CS P b h t).toReal - M) * (lat T N P b t ⟨d.val, by omega⟩).toReal : ℝ) : EReal) := by
  induction n with
  | zero =>
    obtain ⟨M, hM⟩ := start_real
    refine ⟨M, hM, ?_, fun d => ?_⟩
    · exact Ideal.ofBits_zero_f32.trans (by simp)
    · exact Ideal.ofBits_zero_f32.trans (by simp)
  | succ n ih =>
    obtain ⟨M, h1, hl, ha⟩ := ih (by omega)
    have hsc : ∀ t, ((sc T Q N CN W CS P b h t).toReal : EReal) = sc T Q N CN W CS P b h t :=
      fun t => coe_real (sc_real T Q N CN W CS P hQ hN hCN hW hCS hP b h t)
    have hlat : ∀ t r, ((lat T N P b t r).toReal : EReal) = lat T N P b t r := fun t r => coe_real (lat_real T N P hN hP b t r)
    have hx := chunk T Q N CN W CS P b x2 h2 n (by omega) h
    have hstep : iter (F := Ideal) T P CS x2 (lhs W x2) b.val (n + 1)
        = step (F := Ideal) T P CS x2 (lhs W x2) b.val n (iter (F := Ideal) T P CS x2 (lhs W x2) b.val n) := rfl
    rw [hstep]
    unfold step
    dsimp only
    generalize iter (F := Ideal) T P CS x2 (lhs W x2) b.val n = a at h1 hl ha
    have hm : Real? (k0_pay11 (F := Ideal) (k0_pay17 (F := Ideal) x2) a.1 (lat8 (F := Ideal) T P b.val n) (rope8 (F := Ideal) T P b.val n) (angV (F := Ideal) CS n) (lhs W x2) (ix2 h 0)) := by
      rw [pay11, h1]
      refine max_real ⟨M, rfl⟩ (top_ne_top _ fun t => ?_)
      rw [hx]
      exact real_ne_top (sc_real T Q N CN W CS P hQ hN hCN hW hCS hP b h _)
    obtain ⟨M', hM'⟩ := hm
    refine ⟨M', hM', ?_, fun d => ?_⟩
    · refine (pay14 _ _ _ _ _ _ _ _).trans ?_
      rw [hM', h1, hl, mul_add, mul_one, ← advance_one _ M M']
      congr 1
      exact Finset.sum_congr rfl fun t _ => by rw [hx, hsc]
    · refine (pay15 _ _ _ _ _ _ _ _ _).trans ?_
      rw [hM', h1, ha, mul_add, mul_one, ← advance _ _ M M']
      congr 1
      refine Finset.sum_congr rfl fun t _ => ?_
      rw [hx, hsc, lat8_apply, hlat]
      exact congrArg _ (cached T N P b n (by omega) t ⟨d.val, by omega⟩)

/-- A new latent vector. -/
theorem fresh (t : Fin 128) (r : Fin 576) : N (ix3 b r t) = lat T N P b (16384 + t.val) r := by
  have ht := t.isLt
  unfold lat
  rw [if_neg (by omega)]
  have : Fin.ofNat 128 (16384 + t.val) = t := Fin.ext (by show _ % _ = _; omega)
  rw [this]

theorem fresh_angle (t : Fin 128) (r : Fin 128) : CN (ix2 r t) = ang CN CS (16384 + t.val) r := by
  have ht := t.isLt
  unfold ang
  rw [if_neg (by omega)]
  have : Fin.ofNat 128 (16384 + t.val) = t := Fin.ext (by show _ % _ = _; omega)
  rw [this]

include h2 in
/-- The scores of the new positions. -/
theorem new_scores (v29 : S1x512x128.Idx → EReal) (v31 : S1x64x128.Idx → EReal)
    (e29 : ∀ (e : Fin 512) (t : Fin 128), v29 (ix3 0 e t) = lat T N P b (16384 + t.val) ⟨e.val, by omega⟩)
    (e31 : ∀ (e : Fin 64) (t : Fin 128), v31 (ix3 0 e t) = lat T N P b (16384 + t.val) ⟨512 + e.val, by omega⟩) (h : Fin 64) (t : Fin 128) :
    k0_pay25 (F := Ideal) (k0_pay17 (F := Ideal) x2) v29 v31 CN (lhs W x2) (ix2 h t) = sc T Q N CN W CS P b h (16384 + t.val) := by
  refine (pay25 _ _ (fun n x e => W (ix2 ⟨n.val * 128 + x.val, by omega⟩ e)) (fun h e => Q (ix3 b h e)) (lhs_key W x2) (lhs_query Q W b x2 h2)
    (fun h e => (pay17 x2 h e).trans (h2 _ _)) v29 v31 CN h t).trans ?_
  unfold sc
  congr 1
  · exact funext fun e => e29 e t
  · exact funext fun e => e31 e t
  · exact funext fun r => fresh_angle CN CS t r

include h2 h3 hQ hN hCN hW hCS hP hQI in
/-- What a grid point writes back. -/
theorem block (h : Fin 64) (d : Fin 512) :
    outV (F := Ideal) T P CS b.val x2 x3 CN QI W (ix3 0 h d) = out T Q N CN QI W CS P b h d := by
  have hsc : ∀ t, ((sc T Q N CN W CS P b h t).toReal : EReal) = sc T Q N CN W CS P b h t :=
    fun t => coe_real (sc_real T Q N CN W CS P hQ hN hCN hW hCS hP b h t)
  have hlat : ∀ t r, ((lat T N P b t r).toReal : EReal) = lat T N P b t r := fun t r => coe_real (lat_real T N P hN hP b t r)
  obtain ⟨M, h1, hl, ha⟩ := online T Q N CN W CS P b x2 h2 hQ hN hCN hW hCS hP h 16 le_rfl
  unfold outV
  dsimp only
  generalize iter (F := Ideal) T P CS x2 (lhs W x2) b.val 16 = a at h1 hl ha
  have hv : ∀ t : Fin 128, k0_pay23 (F := Ideal) (View.ld (Val := Elt Ideal) (e' := .i32) QI (Rect.unit (s := S64x128) ![0, 0] S64x1.size inb_S64x128_S64x1_0_0)) (ix2 h t) = 1#1
      ↔ t.val ≤ (QI (ix2 h 0)).toNat := fun t => by
    have e : View.ld (Val := Elt Ideal) (e' := .i32) QI (Rect.unit (s := S64x128) ![0, 0] S64x1.size inb_S64x128_S64x1_0_0) (ix2 h 0) = QI (ix2 h 0) := by
      pointwise
    rw [← e]
    exact pay23 h _ (by rw [e]; exact hQI _) t
  generalize k0_pay23 (F := Ideal) (View.ld (Val := Elt Ideal) (e' := .i32) QI (Rect.unit (s := S64x128) ![0, 0] S64x1.size inb_S64x128_S64x1_0_0)) = v28 at hv
  have e29 : ∀ (e : Fin 512) (t : Fin 128), View.ld (Val := Elt Ideal) (e' := .f32) x3 (Rect.unit (s := S1x576x128) ![0, 0, 0] S1x512x128.size inb_S1x576x128_S1x512x128_0_0_0) (ix3 0 e t)
      = lat T N P b (16384 + t.val) ⟨e.val, by omega⟩ := fun e t => by
    rw [← fresh, ← h3]
    pointwise
  have e31 : ∀ (e : Fin 64) (t : Fin 128), View.ld (Val := Elt Ideal) (e' := .f32) x3 (Rect.unit (s := S1x576x128) ![0, 512, 0] S1x64x128.size inb_S1x576x128_S1x64x128_0_512_0) (ix3 0 e t)
      = lat T N P b (16384 + t.val) ⟨512 + e.val, by omega⟩ := fun e t => by
    rw [← fresh, ← h3]
    pointwise
  generalize View.ld (Val := Elt Ideal) (e' := .f32) x3 (Rect.unit (s := S1x576x128) ![0, 0, 0] S1x512x128.size inb_S1x576x128_S1x512x128_0_0_0) = v29 at e29
  generalize View.ld (Val := Elt Ideal) (e' := .f32) x3 (Rect.unit (s := S1x576x128) ![0, 512, 0] S1x64x128.size inb_S1x576x128_S1x64x128_0_512_0) = v31 at e31
  have hx := new_scores T Q N CN W CS P b x2 h2 v29 v31 e29 e31 h
  have hm : Real? (k0_pay26 (F := Ideal) (k0_pay17 (F := Ideal) x2) a.1 v28 v29 v31 CN (lhs W x2) (ix2 h 0)) := by
    rw [pay26, h1]
    refine max_real ⟨M, rfl⟩ (top_ne_top _ fun t => ?_)
    split
    · rw [hx]
      exact real_ne_top (sc_real T Q N CN W CS P hQ hN hCN hW hCS hP b h _)
    · exact real_ne_top start_real
  obtain ⟨M', hM'⟩ := hm
  refine (pay1 _ _ _ _ _ _ _ _ _ _ _).trans ?_
  have hq : (QI (ix2 h 0)).toNat < 4 := hQI _
  have hn : a.2.2 (ix2 h d) * Ideal.exp ((M : EReal) - (M' : EReal))
      + ∑ t : Fin 128, (if v28 (ix2 h t) = 1#1 then Ideal.exp (sc T Q N CN W CS P b h (16384 + t.val) - (M' : EReal)) else 0) * v29 (ix3 0 d t)
      = ((∑ t ∈ seen QI h, Real.exp ((sc T Q N CN W CS P b h t).toReal - M') * (lat T N P b t ⟨d.val, by omega⟩).toReal : ℝ) : EReal) := by
    rw [ha]
    refine Eq.trans ?_ (finish _ _ M M' _ hq)
    congr 1
    refine Finset.sum_congr rfl fun t _ => ?_
    rw [e29, hlat, hsc]
    exact congrArg (· * _) (if_congr (hv t) rfl rfl)
  have hd : a.2.1 (ix2 h 0) * Ideal.exp ((M : EReal) - (M' : EReal))
      + ∑ t : Fin 128, (if v28 (ix2 h t) = 1#1 then Ideal.exp (sc T Q N CN W CS P b h (16384 + t.val) - (M' : EReal)) else 0)
      = ((∑ t ∈ seen QI h, Real.exp ((sc T Q N CN W CS P b h t).toReal - M') : ℝ) : EReal) := by
    rw [hl]
    refine Eq.trans ?_ (finish_one _ M M' _ hq)
    congr 1
    refine Finset.sum_congr rfl fun t _ => ?_
    rw [hsc]
    exact if_congr (hv t) rfl rfl
  simp only [hM', h1, hx]
  rw [hn, hd]
  have hp : 0 < ∑ t ∈ seen QI h, Real.exp ((sc T Q N CN W CS P b h t).toReal - M') :=
    Finset.sum_pos (fun t _ => Real.exp_pos _) ⟨0, Finset.mem_filter.2 ⟨Finset.mem_range.2 (by omega), by omega⟩⟩
  rw [Ideal.div_coe hp.ne', ← EReal.coe_mul]
  unfold out
  rw [← mean_shift _ _ _ M', mul_one_div]

end block

end Cert.MlaIdeal.Val

end
-- ==== Proof.MlaKernel.lean ====
/-
  The latent attention kernel's result: grid point `b` writes sequence `b`, and the 128 blocks tile the array.
-/
module

public import proofs.«01_k».proof.Proof.MlaLaunch
public import proofs.«01_k».proof.Proof.MlaOnline

@[expose] public section

set_option maxRecDepth 16384

noncomputable section

namespace Cert.MlaIdeal.Val

open Cert.MlaIdeal Cert.MlaIdeal.Gen Idealize.ShloMosaic Idealize.ShloMosaic.TcCoe Cert.Softmax Cert.MlaSpec
open Cert.MlaIdeal.Spec (outV C0 dats iblk tabV poolV csV coord_val after0_5)

variable (m : (ℓ : Loc nD τ sig) → Buf (Elt Ideal) ℓ)

/-- The word of a grid point's coordinate. -/
theorem word_point (t : Fin grid0.N) : (BitVec.ofNat 32 (grid0.coords t 0).val).toNat = t.val := by
  have h := coord_val t
  have ht := t.isLt
  have hN := Gen.N_0
  rw [h, BitVec.toNat_ofNat, Nat.mod_eq_of_lt (by omega)]

/-- The sequence of a grid point. -/
def seq (t : Fin grid0.N) : Fin 128 := ⟨t.val, by have := t.isLt; have := Gen.N_0; omega⟩

theorem queries (c : Dev nD) (t : Fin grid0.N) (h : Fin 64) (e : Fin 640) :
    iblk m c 0 t (ix3 0 h e) = m ((c : Thread nD τ).loc main_arg1) (ix3 (seq t) h e) := by
  show m ((c : Thread nD τ).loc main_arg1) ((((C0 m).win 0).rect t).emb _) = _
  refine congrArg _ (funext fun a => Fin.ext ?_)
  refine (((C0 m).win 0).rect_emb_val t _ a rfl).trans ?_
  have hw := word_point t
  match a with
  | ⟨0, _⟩ => show (BitVec.ofNat 32 (grid0.coords t 0).val).toNat * 1 + 0 = t.val; rw [hw]; omega
  | ⟨1, _⟩ => show 0 * 64 + h.val = h.val; omega
  | ⟨2, _⟩ => show 0 * 640 + e.val = e.val; omega

theorem fresh_rows (c : Dev nD) (t : Fin grid0.N) (e : Fin 576) (j : Fin 128) :
    iblk m c 1 t (ix3 0 e j) = m ((c : Thread nD τ).loc main_arg2) (ix3 (seq t) e j) := by
  show m ((c : Thread nD τ).loc main_arg2) ((((C0 m).win 1).rect t).emb _) = _
  refine congrArg _ (funext fun a => Fin.ext ?_)
  refine (((C0 m).win 1).rect_emb_val t _ a rfl).trans ?_
  have hw := word_point t
  match a with
  | ⟨0, _⟩ => show (BitVec.ofNat 32 (grid0.coords t 0).val).toNat * 1 + 0 = t.val; rw [hw]; omega
  | ⟨1, _⟩ => show 0 * 576 + e.val = e.val; omega
  | ⟨2, _⟩ => show 0 * 128 + j.val = j.val; omega

theorem angles_whole (c : Dev nD) (t : Fin grid0.N) : iblk m c 2 t = m ((c : Thread nD τ).loc main_arg3) := by
  refine funext fun (i : S128x128.Idx) => ?_
  show m ((c : Thread nD τ).loc main_arg3) ((((C0 m).win 2).rect t).emb i) = _
  refine congrArg _ (funext fun a => Fin.ext ?_)
  refine (((C0 m).win 2).rect_emb_val t _ a rfl).trans ?_
  match a with
  | ⟨0, _⟩ => show 0 * 128 + (i 0).val = (i 0).val; omega
  | ⟨1, _⟩ => show 0 * 128 + (i 1).val = (i 1).val; omega

theorem positions_whole (c : Dev nD) (t : Fin grid0.N) : iblk m c 3 t = m ((c : Thread nD τ).loc main_arg4) := by
  refine funext fun (i : S64x128.Idx) => ?_
  show m ((c : Thread nD τ).loc main_arg4) ((((C0 m).win 3).rect t).emb i) = _
  refine congrArg _ (funext fun a => Fin.ext ?_)
  refine (((C0 m).win 3).rect_emb_val t _ a rfl).trans ?_
  match a with
  | ⟨0, _⟩ => show 0 * 64 + (i 0).val = (i 0).val; omega
  | ⟨1, _⟩ => show 0 * 128 + (i 1).val = (i 1).val; omega

theorem weights_whole (c : Dev nD) (t : Fin grid0.N) : iblk m c 4 t = m ((c : Thread nD τ).loc main_arg5) := by
  refine funext fun (i : S1536x512.Idx) => ?_
  show m ((c : Thread nD τ).loc main_arg5) ((((C0 m).win 4).rect t).emb i) = _
  refine congrArg _ (funext fun a => Fin.ext ?_)
  refine (((C0 m).win 4).rect_emb_val t _ a rfl).trans ?_
  match a with
  | ⟨0, _⟩ => show 0 * 1536 + (i 0).val = (i 0).val; omega
  | ⟨1, _⟩ => show 0 * 512 + (i 1).val = (i 1).val; omega

/-- The call's result on device `c`, as a function of an index. -/
def result (c : Dev nD) : S128x64x512.Idx → EReal := fun i =>
  out (tabV m) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) ⟨(i 0).val, (i 0).isLt⟩ ⟨(i 1).val, (i 1).isLt⟩ ⟨(i 2).val, (i 2).isLt⟩

/-- The float arguments of device `c` are real, and the positions among the four new ones. -/
structure Good (c : Dev nD) : Prop where
  q : ∀ i : S128x64x640.Idx, Real? (m ((c : Thread nD τ).loc main_arg1) i)
  n : ∀ i : S128x576x128.Idx, Real? (m ((c : Thread nD τ).loc main_arg2) i)
  cn : ∀ i : S128x128.Idx, Real? (m ((c : Thread nD τ).loc main_arg3) i)
  w : ∀ i : S1536x512.Idx, Real? (m ((c : Thread nD τ).loc main_arg5) i)
  cs : ∀ i : S16x128x1024.Idx, Real? (m ((c : Thread nD τ).loc main_arg6) i)
  p : ∀ i : S11796480x128.Idx, Real? (m ((c : Thread nD τ).loc main_arg7) i)
  qi : ∀ i : S64x128.Idx, (m ((c : Thread nD τ).loc main_arg4) i : BitVec 32).toNat < 4

/-- What a grid point writes back is its block of the result. -/
theorem flushed_eq (c : Dev nD) (g : Good m c) (t : Fin grid0.N) :
    (dats m 0 c).flushed 5 t = (((C0 m).win 5).blk t).view.read (Elt Ideal) (result m c) := by
  show ((C0 m).win 5).cut (grid0.coords t) ((dats m 0 c).after 5 t) = _
  rw [after0_5]
  refine funext fun (j : S1x64x512.Idx) => ?_
  obtain ⟨h, d, rfl⟩ : ∃ (h : Fin 64) (d : Fin 512), j = ix3 0 h d := ⟨j 1, j 2, funext fun a => match a with
    | ⟨0, _⟩ => Fin.ext (by have : (j 0).val < 1 := (j 0).isLt; show (j 0).val = 0; omega)
    | ⟨1, _⟩ => rfl
    | ⟨2, _⟩ => rfl⟩
  have hw := word_point t
  have hc := coord_val t
  show outV (F := Ideal) (tabV m) (poolV m c) (csV m c) (grid0.coords t 0).val (iblk m c 0 t) (iblk m c 1 t) (iblk m c 2 t) (iblk m c 3 t)
    (iblk m c 4 t) (ix3 0 h d) = result m c ((((C0 m).win 5).rect t).emb (ix3 0 h d))
  rw [angles_whole, positions_whole, weights_whole, hc]
  refine (block (T := tabV m) (Q := m ((c : Thread nD τ).loc main_arg1)) (N := m ((c : Thread nD τ).loc main_arg2)) (b := seq t)
    (x2 := iblk m c 0 t) (x3 := iblk m c 1 t) (h2 := queries m c t) (h3 := fresh_rows m c t) (hQ := g.q) (hN := g.n) (hCN := g.cn)
    (hW := g.w) (hCS := g.cs) (hP := g.p) (hQI := g.qi) (h := h) (d := d)).trans ?_
  have e : ((((C0 m).win 5).rect t).emb (ix3 0 h d) : S128x64x512.Idx) = ix3 (seq t) h d := by
    refine funext fun a => Fin.ext ?_
    refine (((C0 m).win 5).rect_emb_val t _ a rfl).trans ?_
    match a with
    | ⟨0, _⟩ => show (BitVec.ofNat 32 (grid0.coords t 0).val).toNat * 1 + 0 = t.val; rw [hw]; omega
    | ⟨1, _⟩ => show 0 * 64 + h.val = h.val; omega
    | ⟨2, _⟩ => show 0 * 512 + d.val = d.val; omega
  exact (congrArg (result m c) e).symm

/-- The blocks tile the result. -/
theorem cover (i : S128x64x512.Idx) : ∃ t : Fin grid0.N, ((C0 m).win 5).flush t = true ∧ i ∈ (((C0 m).win 5).blk t).view.set := by
  have h0 : (i 0).val < 128 := (i 0).isLt
  have h1 : (i 1).val < 64 := (i 1).isLt
  have h2 : (i 2).val < 512 := (i 2).isLt
  have hN := Gen.N_0
  let t : Fin grid0.N := ⟨(i 0).val, by omega⟩
  have hw := word_point t
  refine ⟨t, (Pipeline.Window.flush_reads ((C0 m).win 5) rfl 0 (show 1 < grid0.bound 0 by decide) (show grid0.fixedAfter reads0_5 0 = true by decide)
    (Pipeline.Window.sep_of_coord cc0_transform_7 0 0 (fun _ => rfl) (by decide)) (P := 1) (m := 0) (show grid0.stride 0 = 1 by decide) rfl t).mpr (Nat.mod_one _), ?_⟩
  refine (congrArg (fun s : Finset S128x64x512.Idx => i ∈ s) (View.set_slice_whole (b := main_v0) (((C0 m).win 5).rect t))).mpr ?_
  refine Rect.mem_set_unit.2 fun a => ?_
  match a with
  | ⟨0, _⟩ =>
    show (BitVec.ofNat 32 (grid0.coords t 0).val).toNat * 1 ≤ (i 0 : Nat) ∧ (i 0 : Nat) < (BitVec.ofNat 32 (grid0.coords t 0).val).toNat * 1 + 1
    rw [hw]
    show (i 0).val * 1 ≤ (i 0).val ∧ (i 0).val < (i 0).val * 1 + 1
    omega
  | ⟨1, _⟩ => show 0 * 64 ≤ (i 1 : Nat) ∧ (i 1 : Nat) < 0 * 64 + 64; omega
  | ⟨2, _⟩ => show 0 * 512 ≤ (i 2 : Nat) ∧ (i 2 : Nat) < 0 * 512 + 512; omega

/-- The result array after the run. -/
theorem final (c : Dev nD) (g : Good m c) : (dats m 0 c).arrAt 5 (C0 m).N = result m c :=
  (dats m 0 c).arrAt_eq_of_cover 5 (result m c) (fun t _ => flushed_eq m c g t) (cover m)

end Cert.MlaIdeal.Val

end
-- ==== Proof.MlaReference.lean ====
/-
  The latent attention reference, read at an index, up to its scores.
-/
module

public import proofs.«01_k».proof.Proof.MlaSpec
public import proofs.«01_k».proof.Proof.Gen.MlaRefIdeal.Run
public import proofs.«01_k».proof.Proof.Gen.MlaRefIdeal.Read
public import Idealize.ShloMosaic.Lib.WordCmp
public import Idealize.ShloMosaic.Lib.KernelVsHost
public import Idealize.ShloMosaic.Lib.Pipeline.Value

@[expose] public section

set_option backward.proofsInPublic true
set_option maxRecDepth 16384

noncomputable section

namespace Cert.MlaRefIdeal.Val

open Cert.MlaRefIdeal Cert.MlaRefIdeal.Gen Cert.MlaRefIdeal.Read Idealize.ShloMosaic Cert.Softmax Cert.MlaSpec

/-- The reference's gather of whole pages. -/
abbrev paged : GatherDims S20480x576x128 S128x128x1 S128x128x576x128 := gather_S20480x576x128_S128x128x1_S128x128x576x128_23_0_n_n_0_2_1576128

/-- The gather at an index: the page that the index names, read signed and clamped. -/
theorem gather_page (x : S20480x576x128.Idx → EReal) (i : IVec S128x128x1 32) (b p : Fin 128) (r : Fin 576) (l : Fin 128) :
    Host.gather paged x i (ix4 b p r l) = x (ix3 ⟨min (i (ix3 b p 0)).toInt.toNat (20480 - 1), by omega⟩ r l) := by
  unfold Host.gather
  refine congrArg x (funext fun a => Fin.ext ?_)
  show GatherDims.start paged (ix4 b p r l) i a + GatherDims.batchCoord paged (ix4 b p r l) a + GatherDims.offCoord paged (ix4 b p r l) a = _
  rw [GatherDims.batchCoord_eq_zero _ _ _ (show a ∉ [] by simp)]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    have hsi : GatherDims.siIdx paged (ix4 b p r l) ⟨List.idxOf (0 : Fin 3) [(0 : Fin 3)],
        List.idxOf_lt_length_iff.2 (List.mem_singleton.mpr rfl)⟩ = ix3 b p 0 := funext fun a => Fin.ext (match a with
      | ⟨0, _⟩ => rfl
      | ⟨1, _⟩ => rfl
      | ⟨2, _⟩ => rfl)
    exact (dif_pos (show (0 : Fin 3) ∈ [(0 : Fin 3)] from List.mem_singleton.mpr rfl)).trans
      (congrArg (fun k => min (i k).toInt.toNat (20480 - 1)) hsi)
  | ⟨1, _⟩ =>
    have h : GatherDims.start paged (ix4 b p r l) i (1 : Fin 3) = 0 := by
      unfold GatherDims.start
      exact dif_neg (show ¬ (1 : Fin 3) ∈ [(0 : Fin 3)] by decide)
    refine (congrArg (· + 0 + _) h).trans ?_
    rw [Nat.zero_add]
    unfold GatherDims.offCoord
    exact dif_pos (show (1 : Fin 3) ∈ GatherDims.sKept paged from (GatherDims.mem_sKept _ _).2 ⟨show ¬ (1 : Fin 3) ∈ [(0 : Fin 3)] by decide, show ¬ (1 : Fin 3) ∈ [] by simp⟩)
  | ⟨2, _⟩ =>
    have h : GatherDims.start paged (ix4 b p r l) i (2 : Fin 3) = 0 := by
      unfold GatherDims.start
      exact dif_neg (show ¬ (2 : Fin 3) ∈ [(0 : Fin 3)] by decide)
    refine (congrArg (· + 0 + _) h).trans ?_
    rw [Nat.zero_add]
    unfold GatherDims.offCoord
    exact dif_pos (show (2 : Fin 3) ∈ GatherDims.sKept paged from (GatherDims.mem_sKept _ _).2 ⟨show ¬ (2 : Fin 3) ∈ [(0 : Fin 3)] by decide, show ¬ (2 : Fin 3) ∈ [] by simp⟩)

variable (T : S128x128.Idx → BitVec 32) (Q : S128x64x640.Idx → EReal) (N : S128x576x128.Idx → EReal) (CN : S128x128.Idx → EReal)
  (QI : S64x128.Idx → BitVec 32) (W : S1536x512.Idx → EReal) (CS : S16x128x1024.Idx → EReal) (P : S11796480x128.Idx → EReal)
  (hT : ∀ x, (T x).toNat < 20480)

/-! ## The latent vectors -/

include hT in
/-- A page number needs no wrapping: it is not negative. -/
theorem page_number (b p : Fin 128) : val_main_v6 (F := Ideal) T (ix3 b p 0) = T (ix2 b p) := by
  rw [val_main_v6_apply, val_main_v5_apply, val_main_v2_apply, val_main_v1_apply, val_main_c_apply]
  have e : idx_main_v6 (ix3 b p 0) = ix2 b p := funext fun a => match a with | ⟨0, _⟩ => rfl | ⟨1, _⟩ => rfl
  rw [e]
  have h := hT (ix2 b p)
  generalize T (ix2 b p) = w at h ⊢
  unfold Scalar.select
  rw [if_neg]
  intro hc
  have : w.toInt < 0 := by
    have := hc
    unfold IntOp.cmpi at this
    by_contra hn
    simp [BitVec.slt, hn] at this
  rw [BitVec.toInt_eq_toNat_cond] at this
  split at this <;> omega

include hT in
theorem page (b p : Fin 128) (r : Fin 576) (l : Fin 128) :
    val_main_v7 (F := Ideal) T P (ix4 b p r l) = P (ix2 (Fin.ofNat 11796480 (576 * (T (ix2 b p)).toNat + r.val)) l) := by
  unfold val_main_v7
  rw [gather_page, val_main_v0_apply]
  have h := hT (ix2 b p)
  have hr := r.isLt
  have hl := l.isLt
  have hi : (T (ix2 b p)).toInt.toNat = (T (ix2 b p)).toNat := by
    rw [BitVec.toInt_eq_toNat_cond]
    split <;> omega
  refine congrArg P (funext fun a => Fin.ext ?_)
  match a with
  | ⟨0, _⟩ =>
    show ((min (val_main_v6 (F := Ideal) T (ix3 b p 0)).toInt.toNat (20480 - 1) * 576 + r.val) * 128 + l.val) / 128 = (576 * (T (ix2 b p)).toNat + r.val) % 11796480
    rw [page_number T hT, hi]; omega
  | ⟨1, _⟩ =>
    show ((min (val_main_v6 (F := Ideal) T (ix3 b p 0)).toInt.toNat (20480 - 1) * 576 + r.val) * 128 + l.val) % 128 = l.val
    omega

include hT in
theorem latents (b : Fin 128) (r : Fin 576) (t : Fin 16388) : val_main_v11 (F := Ideal) T N P (ix3 b r t) = lat T N P b t.val r := by
  have hb := b.isLt
  have hr := r.isLt
  have ht := t.isLt
  unfold val_main_v11 lat
  by_cases h : t.val < 16384
  · rw [if_pos h]
    refine (concatenate_pair_apply_left (t := S128x576x16388) (s₁ := S128x576x16384) (s₂ := S128x576x4) 2 _ _ _ (ix3 b r t) rfl (ix3 b r ⟨t.val, h⟩) (fun a => match a with
      | ⟨0, _⟩ => rfl | ⟨1, _⟩ => rfl | ⟨2, _⟩ => rfl)).trans ?_
    rw [val_main_v9_apply, val_main_v8_apply]
    have e : idx_main_v8 (idx_main_v9 (ix3 b r ⟨t.val, h⟩)) = ix4 b (Fin.ofNat 128 (t.val / 128)) r (Fin.ofNat 128 t.val) := by
      refine funext fun a => Fin.ext ?_
      match a with
      | ⟨0, _⟩ => show ((b.val * 576 + r.val) * 16384 + t.val) / 9437184 = b.val; omega
      | ⟨1, _⟩ => show ((b.val * 576 + r.val) * 16384 + t.val) / 128 % 128 = t.val / 128 % 128; omega
      | ⟨2, _⟩ => show ((b.val * 576 + r.val) * 16384 + t.val) / 16384 % 576 = r.val; omega
      | ⟨3, _⟩ => show ((b.val * 576 + r.val) * 16384 + t.val) % 128 = t.val % 128; omega
    rw [e, page T P hT]
  · rw [if_neg h]
    refine (concatenate_pair_apply_right (t := S128x576x16388) (s₁ := S128x576x16384) (s₂ := S128x576x4) 2 _ _ _ (ix3 b r t) rfl rfl (ix3 b r ⟨t.val - 16384, by omega⟩) (fun a => match a with
      | ⟨0, _⟩ => fun _ => rfl | ⟨1, _⟩ => fun _ => rfl | ⟨2, _⟩ => fun h => absurd rfl h)
      (by show t.val - 16384 + 16384 = t.val; omega)).trans ?_
    rw [val_main_v10_apply]
    refine congrArg N (funext fun a => Fin.ext ?_)
    match a with
    | ⟨0, _⟩ => show b.val = b.val; rfl
    | ⟨1, _⟩ => show r.val = r.val; rfl
    | ⟨2, _⟩ => show t.val - 16384 = t.val % 128; omega

theorem angles (r : Fin 128) (t : Fin 16388) : val_main_v15 (F := Ideal) CN CS (ix2 r t) = ang CN CS t.val r := by
  have hr := r.isLt
  have ht := t.isLt
  unfold val_main_v15 ang
  by_cases h : t.val < 16384
  · rw [if_pos h]
    refine (concatenate_pair_apply_left (t := S128x16388) (s₁ := S128x16384) (s₂ := S128x4) 1 _ _ _ (ix2 r t) rfl (ix2 r ⟨t.val, h⟩) (fun a => match a with
      | ⟨0, _⟩ => rfl | ⟨1, _⟩ => rfl)).trans ?_
    rw [val_main_v13_apply, val_main_v12_apply]
    refine congrArg CS (funext fun a => Fin.ext ?_)
    match a with
    | ⟨0, _⟩ => show (r.val * 16384 + t.val) / 1024 % 16 = t.val / 1024 % 16; omega
    | ⟨1, _⟩ => show (r.val * 16384 + t.val) / 16384 = r.val; omega
    | ⟨2, _⟩ => show (r.val * 16384 + t.val) % 1024 = t.val % 1024; omega
  · rw [if_neg h]
    refine (concatenate_pair_apply_right (t := S128x16388) (s₁ := S128x16384) (s₂ := S128x4) 1 _ _ _ (ix2 r t) rfl rfl (ix2 r ⟨t.val - 16384, by omega⟩) (fun a => match a with
      | ⟨0, _⟩ => fun _ => rfl | ⟨1, _⟩ => fun h => absurd rfl h)
      (by show t.val - 16384 + 16384 = t.val; omega)).trans ?_
    rw [val_main_v14_apply]
    refine congrArg CN (funext fun a => Fin.ext ?_)
    match a with
    | ⟨0, _⟩ => show r.val = r.val; rfl
    | ⟨1, _⟩ => show t.val - 16384 = t.val % 128; omega

include hT in
theorem content (b : Fin 128) (e : Fin 512) (t : Fin 16388) :
    val_main_v16 (F := Ideal) T N P (ix3 b e t) = lat T N P b t.val ⟨e.val, by omega⟩ := by
  rw [val_main_v16_apply]
  have h : idx_main_v16 (ix3 b e t) = ix3 b ⟨e.val, by omega⟩ t := funext fun a => match a with | ⟨0, _⟩ => rfl | ⟨1, _⟩ => rfl | ⟨2, _⟩ => rfl
  rw [h]
  exact latents T N P hT b ⟨e.val, by omega⟩ t

include hT in
theorem rotary (b : Fin 128) (x : Fin 64) (t : Fin 16388) :
    val_main_v17 (F := Ideal) T N P (ix3 b x t) = lat T N P b t.val ⟨512 + x.val, by omega⟩ := by
  rw [val_main_v17_apply]
  have h : idx_main_v17 (ix3 b x t) = ix3 b ⟨512 + x.val, by omega⟩ t := funext fun a => match a with | ⟨0, _⟩ => rfl | ⟨1, _⟩ => rfl | ⟨2, _⟩ => rfl
  rw [h]
  exact latents T N P hT b ⟨512 + x.val, by omega⟩ t

/-! ## The heads' factors -/

/-- The keys' weight of head `n`. -/
abbrev headW (n : Fin 12) (x : Fin 128) (e : Fin 512) : EReal := W (ix2 ⟨n.val * 128 + x.val, by omega⟩ e)

theorem head_weights (n : Fin 12) (x : Fin 128) (e : Fin 512) : val_main_v21 (F := Ideal) W (ix3 n x e) = headW W n x e := by
  rw [val_main_v21_apply, val_main_v20_apply]
  have hn := n.isLt
  have hx := x.isLt
  have he := e.isLt
  refine congrArg W (funext fun a => Fin.ext ?_)
  match a with
  | ⟨0, _⟩ => show ((n.val * 128 + x.val) * 512 + e.val) / 512 = n.val * 128 + x.val; omega
  | ⟨1, _⟩ => show ((n.val * 128 + x.val) * 512 + e.val) % 512 = e.val; omega

include hT in
theorem head_keys (b : Fin 128) (n : Fin 12) (x : Fin 128) (t : Fin 16388) :
    val_main_v23 (F := Ideal) T N W P (ix4 b n x t) = ∑ e : Fin 512, headW W n x e * lat T N P b t.val ⟨e.val, by omega⟩ := by
  rw [val_main_v23_apply, val_main_v22_apply]
  refine Finset.sum_congr rfl fun e _ => ?_
  have e1 : lidx_main_v22 (idx_main_v23 (ix4 b n x t)) e = ix3 b e t := funext fun a => match a with | ⟨0, _⟩ => rfl | ⟨1, _⟩ => rfl | ⟨2, _⟩ => rfl
  have e2 : ridx_main_v22 (idx_main_v23 (ix4 b n x t)) e = ix3 n x e := funext fun a => match a with | ⟨0, _⟩ => rfl | ⟨1, _⟩ => rfl | ⟨2, _⟩ => rfl
  rw [e1, e2, content T N P hT, head_weights, mul_comm]

include hT in
theorem squares (b : Fin 128) (n : Fin 12) (t : Fin 16388) :
    val_main_v34 (F := Ideal) T N W P (ix3 b n t)
      = ms (headW W) (fun e => lat T N P b t.val ⟨e.val, by omega⟩) (fun x => lat T N P b t.val ⟨512 + x.val, by omega⟩) n := by
  rw [val_main_v34_apply, val_main_v33_apply, val_main_cst_3_apply, val_main_v32_apply, val_main_v31_apply, val_main_cst_2_apply, val_main_v30_apply,
    val_main_v29_apply, val_main_v28_apply, val_main_v27_apply, val_main_v25_apply]
  show (((Ideal.ofBits .f32 0x00000000#32 + _) + (Ideal.ofBits .f32 0x00000000#32 + _)) * _ + _ : EReal) = _
  rw [Ideal.ofBits_zero_f32, zero_add, zero_add]
  unfold ms
  refine congrArg (fun y : EReal => y * Ideal.ofBits .f32 0x3BAAAAAB#32 + Ideal.ofBits .f32 0x358637BD#32) ?_
  refine congrArg₂ (· + ·) (Finset.sum_congr rfl fun x _ => ?_) (Finset.sum_congr rfl fun x _ => ?_)
  · have e : idx_main_v25 (ix3 b n t) x = ix4 b n x t := funext fun a => match a with | ⟨0, _⟩ => rfl | ⟨1, _⟩ => rfl | ⟨2, _⟩ => rfl | ⟨3, _⟩ => rfl
    rw [e, val_main_v24_apply, head_keys T N W P hT]
    rfl
  · have e : idx_main_v27 (idx_main_v28 (idx_main_v29 (ix3 b n t))) x = ix3 b x t := funext fun a => match a with | ⟨0, _⟩ => rfl | ⟨1, _⟩ => rfl | ⟨2, _⟩ => rfl
    rw [e, val_main_v26_apply, rotary T N P hT]
    rfl

include hT in
theorem factors (b : Fin 128) (n : Fin 16) (t : Fin 16388) :
    val_main_v36 (F := Ideal) T N W P (ix3 b n t)
      = MlaSpec.inv (headW W) (fun e => lat T N P b t.val ⟨e.val, by omega⟩) (fun x => lat T N P b t.val ⟨512 + x.val, by omega⟩) n.val := by
  unfold val_main_v36 MlaSpec.inv
  by_cases h : n.val < 12
  · rw [dif_pos h]
    refine (pad_apply_of_inside (t := S128x16x16388) _ _ _ _ _ _ _ (ix3 b n t) (ix3 b ⟨n.val, h⟩ t) (fun a => ?_)).trans ?_
    · match a with
      | ⟨0, _⟩ => show b.val = 0 + b.val * (0 + 1); omega
      | ⟨1, _⟩ => show n.val = 0 + n.val * (0 + 1); omega
      | ⟨2, _⟩ => show t.val = 0 + t.val * (0 + 1); omega
    · rw [val_main_v35_apply, squares T N W P hT]
      rfl
  · rw [dif_neg h]
    refine (pad_apply_of_not_inside (t := S128x16x16388) _ _ _ _ _ _ _ (ix3 b n t) 1 (fun hh => h ?_)).trans ?_
    · have := hh.2.2
      have h3 : (n.val - 0) / (0 + 1) < 12 := this
      simpa using h3
    · rw [val_main_call0_v0_apply]
      show ((((0 : BitVec 32).toInt : ℝ)) : EReal) = 0
      simp

/-! ## The scores -/

/-- Query row `n` of the `g`-th query position. -/
abbrev row (g : Fin 4) (n : Fin 16) : Fin 64 := ⟨16 * g.val + n.val, by omega⟩

theorem query_rows (b : Fin 128) (g : Fin 4) (n : Fin 16) (e : Fin 640) :
    val_main_v19 (F := Ideal) Q (ix4 b g n e) = Q (ix3 b (row g n) e) := by
  rw [val_main_v19_apply, val_main_v18_apply]
  have hb := b.isLt
  have hg := g.isLt
  have hn := n.isLt
  have he := e.isLt
  refine congrArg Q (funext fun a => Fin.ext ?_)
  match a with
  | ⟨0, _⟩ => show (((b.val * 4 + g.val) * 16 + n.val) * 640 + e.val) / 40960 = b.val; omega
  | ⟨1, _⟩ => show (((b.val * 4 + g.val) * 16 + n.val) * 640 + e.val) / 640 % 64 = 16 * g.val + n.val; omega
  | ⟨2, _⟩ => show (((b.val * 4 + g.val) * 16 + n.val) * 640 + e.val) % 640 = e.val; omega

include hT in
/-- The rotary part, written twice, at the angles: the first and the second half. -/
theorem rotated_low (b : Fin 128) (x : Fin 64) (t : Fin 16388) :
    val_main_v40 (F := Ideal) T N CN CS P (ix3 b ⟨x.val, by omega⟩ t)
      = lat T N P b t.val ⟨512 + x.val, by omega⟩ * ang CN CS t.val ⟨x.val, by omega⟩ := by
  rw [val_main_v40_apply, val_main_v39_apply, val_main_v38_apply]
  show (_ * _ : EReal) = _
  refine congrArg₂ (· * ·) ?_ ?_
  · unfold val_main_v37
    refine (concatenate_pair_apply_left (t := S128x128x16388) (s₁ := S128x64x16388) (s₂ := S128x64x16388) 1 _ _ _ (ix3 b ⟨x.val, by omega⟩ t) rfl (ix3 b x t) (fun a => match a with
      | ⟨0, _⟩ => rfl | ⟨1, _⟩ => rfl | ⟨2, _⟩ => rfl)).trans ?_
    exact rotary T N P hT b x t
  · have e : idx_main_v38 (idx_main_v39 (ix3 b (⟨x.val, by omega⟩ : Fin 128) t)) = ix2 ⟨x.val, by omega⟩ t := funext fun a => match a with | ⟨0, _⟩ => rfl | ⟨1, _⟩ => rfl
    rw [e, angles]

include hT in
theorem rotated_high (b : Fin 128) (x : Fin 64) (t : Fin 16388) :
    val_main_v40 (F := Ideal) T N CN CS P (ix3 b ⟨64 + x.val, by omega⟩ t)
      = lat T N P b t.val ⟨512 + x.val, by omega⟩ * ang CN CS t.val ⟨64 + x.val, by omega⟩ := by
  rw [val_main_v40_apply, val_main_v39_apply, val_main_v38_apply]
  show (_ * _ : EReal) = _
  refine congrArg₂ (· * ·) ?_ ?_
  · unfold val_main_v37
    refine (concatenate_pair_apply_right (t := S128x128x16388) (s₁ := S128x64x16388) (s₂ := S128x64x16388) 1 _ _ _ (ix3 b ⟨64 + x.val, by omega⟩ t) rfl rfl (ix3 b x t) (fun a => match a with
      | ⟨0, _⟩ => fun _ => rfl | ⟨1, _⟩ => fun h => absurd rfl h | ⟨2, _⟩ => fun _ => rfl)
      (by show x.val + 64 = 64 + x.val; omega)).trans ?_
    exact rotary T N P hT b x t
  · have e : idx_main_v38 (idx_main_v39 (ix3 b (⟨64 + x.val, by omega⟩ : Fin 128) t)) = ix2 ⟨64 + x.val, by omega⟩ t := funext fun a => match a with | ⟨0, _⟩ => rfl | ⟨1, _⟩ => rfl
    rw [e, angles]

include hT in
theorem scores (b : Fin 128) (g : Fin 4) (n : Fin 16) (t : Fin 16388) :
    val_main_v50 (F := Ideal) T Q N CN W CS P (ix4 b g n t) = sc T Q N CN W CS P b (row g n) t.val := by
  rw [val_main_v50_apply, val_main_v49_apply, val_main_cst_5_apply, val_main_v48_apply, val_main_v47_apply, val_main_v46_apply, val_main_v45_apply,
    val_main_v42_apply, val_main_v44_apply]
  have e : idx_main_v46 (idx_main_v47 (ix4 b g n t)) = ix3 b n t := funext fun a => match a with | ⟨0, _⟩ => rfl | ⟨1, _⟩ => rfl | ⟨2, _⟩ => rfl
  rw [e, factors T N W P hT]
  have hn : (row g n).val % 16 = n.val := by have := n.isLt; show (16 * g.val + n.val) % 16 = n.val; omega
  unfold sc
  rw [hn]
  unfold logit
  show ((_ + _) * _ * _ : EReal) = _
  refine congrArg (fun y : EReal => y * MlaSpec.inv (headW W) (fun e => lat T N P b t.val ⟨e.val, by omega⟩) (fun x => lat T N P b t.val ⟨512 + x.val, by omega⟩) n.val
    * Ideal.ofBits .f32 0x3D93CD3A#32) ?_
  refine congrArg₂ (· + ·) (Finset.sum_congr rfl fun k _ => ?_) ?_
  · have e1 : idx_main_v41 (lidx_main_v42 (ix4 b g n t) k) = ix4 b g n ⟨k.val, by omega⟩ := funext fun a => match a with | ⟨0, _⟩ => rfl | ⟨1, _⟩ => rfl | ⟨2, _⟩ => rfl | ⟨3, _⟩ => rfl
    have e2 : ridx_main_v42 (ix4 b g n t) k = ix3 b k t := funext fun a => match a with | ⟨0, _⟩ => rfl | ⟨1, _⟩ => rfl | ⟨2, _⟩ => rfl
    rw [val_main_v41_apply, e1, e2, query_rows, content T N P hT]
  · refine (Fin.sum_univ_add (a := 64) (b := 64) _).trans ?_
    refine congrArg₂ (· + ·) (Finset.sum_congr rfl fun x _ => ?_) (Finset.sum_congr rfl fun x _ => ?_)
    · have e1 : idx_main_v43 (lidx_main_v44 (ix4 b g n t) (Fin.castAdd 64 x)) = ix4 b g n ⟨512 + x.val, by omega⟩ := funext fun a => match a with | ⟨0, _⟩ => rfl | ⟨1, _⟩ => rfl | ⟨2, _⟩ => rfl | ⟨3, _⟩ => rfl
      have e2 : ridx_main_v44 (ix4 b g n t) (Fin.castAdd 64 x) = ix3 b ⟨x.val, by omega⟩ t := funext fun a => match a with | ⟨0, _⟩ => rfl | ⟨1, _⟩ => rfl | ⟨2, _⟩ => rfl
      rw [val_main_v43_apply, e1, e2, query_rows]
      exact congrArg (_ * ·) (rotated_low T N CN CS P hT b x t)
    · have e1 : idx_main_v43 (lidx_main_v44 (ix4 b g n t) (Fin.natAdd 64 x)) = ix4 b g n ⟨512 + (64 + x.val), by omega⟩ := funext fun a => match a with | ⟨0, _⟩ => rfl | ⟨1, _⟩ => rfl | ⟨2, _⟩ => rfl | ⟨3, _⟩ => rfl
      have e2 : ridx_main_v44 (ix4 b g n t) (Fin.natAdd 64 x) = ix3 b ⟨64 + x.val, by omega⟩ t := funext fun a => match a with | ⟨0, _⟩ => rfl | ⟨1, _⟩ => rfl | ⟨2, _⟩ => rfl
      rw [val_main_v43_apply, e1, e2, query_rows]
      exact congrArg (_ * ·) (rotated_high T N CN CS P hT b x t)

end Cert.MlaRefIdeal.Val

end
-- ==== Proof.MlaReferenceOut.lean ====
/-
  The latent attention reference's result: it is `MlaSpec.out`.
-/
module

public import proofs.«01_k».proof.Proof.MlaReference

@[expose] public section

set_option backward.proofsInPublic true
set_option maxRecDepth 16384

noncomputable section

namespace Cert.MlaRefIdeal.Val

open Cert.MlaRefIdeal Cert.MlaRefIdeal.Gen Cert.MlaRefIdeal.Read Idealize.ShloMosaic Cert.Softmax Cert.MlaSpec

/-! ## A masked softmax of real scores -/

section real
variable {n : ℕ} (S v : ℕ → ℝ) (q : ℕ)

/-- The scores up to `q`, the others masked. -/
def masked (t : Fin n) : EReal := if t.val ≤ q then ((S t.val : ℝ) : EReal) else ⊥

theorem coe_total {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem masked_mean (i₀ : Fin n) (h₀ : i₀.val ≤ q) :
    ∑ t : Fin n, Ideal.div (Ideal.exp (masked S q t - top (masked S q (n := n)))) (den (masked S q (n := n))) * ((v t.val : ℝ) : EReal)
      = ((mean ((Finset.range n).filter fun t => t ≤ q) S v : ℝ) : EReal) := by
  have hne : ∀ t : Fin n, masked S q t ≠ ⊤ := fun t => by
    unfold masked; split
    · exact EReal.coe_ne_top _
    · exact bot_ne_top
  have hz : masked S q i₀ ≠ ⊥ := by unfold masked; rw [if_pos h₀]; exact EReal.coe_ne_bot _
  obtain ⟨M, hM⟩ := top_real (masked S q (n := n)) hne i₀ hz
  obtain ⟨D, hD, hd⟩ := den_real (masked S q (n := n)) hne i₀ hz
  have hE : ∀ t : Fin n, Ideal.exp (masked S q t - (M : EReal)) = ((if t.val ≤ q then Real.exp (S t.val - M) else 0 : ℝ) : EReal) := fun t => by
    unfold masked; split
    · rw [← EReal.coe_sub, Ideal.exp_coe]
    · rw [EReal.bot_sub, Ideal.exp_bot, EReal.coe_zero]
  have hDs : D = ∑ t ∈ (Finset.range n).filter (fun t => t ≤ q), Real.exp (S t - M) := by
    have : den (masked S q (n := n)) = ((∑ t : Fin n, if t.val ≤ q then Real.exp (S t.val - M) else 0 : ℝ) : EReal) := by
      unfold den
      rw [hM, ← coe_total]
      exact Finset.sum_congr rfl fun t _ => hE t
    rw [hd] at this
    rw [Finset.sum_filter, Finset.sum_range]
    exact EReal.coe_injective this
  rw [hM, hd, ← mean_shift _ S v M, ← hDs, Finset.sum_filter, Finset.sum_range, Finset.sum_div, ← coe_total]
  refine Finset.sum_congr rfl fun t _ => ?_
  rw [hE, Ideal.div_coe hD.ne', ← EReal.coe_mul, ← EReal.coe_mul]
  congr 1
  split
  · ring
  · simp

end real

variable (T : S128x128.Idx → BitVec 32) (Q : S128x64x640.Idx → EReal) (N : S128x576x128.Idx → EReal) (CN : S128x128.Idx → EReal)
  (QI : S64x128.Idx → BitVec 32) (W : S1536x512.Idx → EReal) (CS : S16x128x1024.Idx → EReal) (P : S11796480x128.Idx → EReal)
  (hT : ∀ x, (T x).toNat < 20480) (hQI : ∀ i, (QI i).toNat < 4)
  (hQ : ∀ i, Real? (Q i)) (hN : ∀ i, Real? (N i)) (hCN : ∀ i, Real? (CN i)) (hW : ∀ i, Real? (W i)) (hCS : ∀ i, Real? (CS i))
  (hP : ∀ i, Real? (P i))

/-- The last position that a query row sees. -/
abbrev last (h : Fin 64) : ℕ := 16384 + (QI (ix2 h 0)).toNat

include hQI in
theorem visible (h : Fin 64) (t : Fin 16388) : val_main_v58 (F := Ideal) QI (ix2 h t) = 1#1 ↔ t.val ≤ last QI h := by
  rw [val_main_v58_apply, val_main_v57_apply, val_main_v56_apply, val_main_v55_apply, val_main_v54_apply, val_main_c_6_apply, val_main_v53_apply,
    val_main_v52_apply, val_main_v51_apply]
  have e : idx_main_v53 (idx_main_v57 (ix2 h t)) = ix2 h 0 := funext fun a => match a with | ⟨0, _⟩ => rfl | ⟨1, _⟩ => rfl
  rw [e]
  have hq := hQI (ix2 h 0)
  have ht := t.isLt
  have e2 : IntOp.addi 16384#32 (QI (ix2 h 0)) = BitVec.ofNat 32 (last QI h) := by
    apply BitVec.eq_of_toNat_eq
    simp [IntOp.addi, last]
  rw [e2]
  exact WordCmp.cmpi_sle_ofNat_eq_one_iff (by show t.val < _; omega) (by unfold last; omega)

/-- A query row's scores, the later positions masked. -/
abbrev rowScore (b : Fin 128) (h : Fin 64) : Fin 16388 → EReal := masked (fun t => (sc T Q N CN W CS P b h t).toReal) (last QI h)

include hT hQI hQ hN hCN hW hCS hP

theorem masked_scores (b : Fin 128) (g : Fin 4) (n : Fin 16) (t : Fin 16388) :
    val_main_v60 (F := Ideal) T Q N CN QI W CS P (ix4 b g n t) = rowScore T Q N CN QI W CS P b (row g n) t := by
  rw [val_main_v60_apply, val_main_call1_v1_apply, val_main_v59_apply, val_main_call1_v2_apply, scores T Q N CN W CS P hT]
  have hg := g.isLt
  have hn := n.isLt
  have ht := t.isLt
  have e : idx_main_v59 (idx_main_call1_v1 (ix4 b g n t)) = ix2 (row g n) t := by
    refine funext fun a => Fin.ext ?_
    match a with
    | ⟨0, _⟩ => show (((0 * 4 + g.val) * 16 + n.val) * 16388 + t.val) / 16388 = 16 * g.val + n.val; omega
    | ⟨1, _⟩ => show (((0 * 4 + g.val) * 16 + n.val) * 16388 + t.val) % 16388 = t.val; omega
  rw [e]
  have hv : val_main_call1_v0 (F := Ideal) (idx_main_call1_v2 (ix4 b g n t)) = ⊥ := by
    show Ideal.ofBits .f32 0xFF800000#32 = ⊥
    unfold Ideal.ofBits Ideal.ieee
    simp
  rw [hv]
  unfold rowScore masked Scalar.select
  refine if_congr (visible QI hQI _ _) ?_ rfl
  obtain ⟨r, hr⟩ := sc_real T Q N CN W CS P hQ hN hCN hW hCS hP b (row g n) t.val
  exact hr.trans (congrArg (fun y : ℝ => (y : EReal)) (congrArg EReal.toReal hr).symm)

theorem largest (b : Fin 128) (g : Fin 4) (n : Fin 16) :
    val_main_v61 (F := Ideal) T Q N CN QI W CS P (ix3 b g n) = top (rowScore T Q N CN QI W CS P b (row g n)) := by
  unfold val_main_v61
  rw [Host.reduce_eq_fold, Shape.ReducesTo.fold_fiber_r4_a3]
  show Finset.fold max (Ideal.ofBits .f32 0xFF800000#32) _ _ = _
  have hv : Ideal.ofBits .f32 0xFF800000#32 = ⊥ := by
    unfold Ideal.ofBits Ideal.ieee
    simp
  rw [hv]
  exact congrArg (fun f => Finset.fold max ⊥ f Finset.univ) (funext fun t => masked_scores T Q N CN QI W CS P hT hQI hQ hN hCN hW hCS hP b g n t)

theorem weights (b : Fin 128) (g : Fin 4) (n : Fin 16) (t : Fin 16388) :
    val_main_v67 (F := Ideal) T Q N CN QI W CS P (ix4 b g n t)
      = Ideal.exp (rowScore T Q N CN QI W CS P b (row g n) t - top (rowScore T Q N CN QI W CS P b (row g n))) := by
  rw [val_main_v67_apply, val_main_v66_apply, masked_scores T Q N CN QI W CS P hT hQI hQ hN hCN hW hCS hP, val_main_v65_apply, val_main_v64_apply,
    val_main_v63_apply, val_main_v62_apply]
  have e : idx_main_v64 (idx_main_v65 (ix4 b g n t)) = ix3 b g n := funext fun a => match a with | ⟨0, _⟩ => rfl | ⟨1, _⟩ => rfl | ⟨2, _⟩ => rfl
  rw [e, largest T Q N CN QI W CS P hT hQI hQ hN hCN hW hCS hP]
  show Ideal.exp (_ - max (Ideal.ofBits .f32 0xFF800000#32) _) = _
  have hv : Ideal.ofBits .f32 0xFF800000#32 = ⊥ := by
    unfold Ideal.ofBits Ideal.ieee
    simp
  rw [hv, max_eq_right bot_le]

theorem sums (b : Fin 128) (g : Fin 4) (n : Fin 16) :
    val_main_v68 (F := Ideal) T Q N CN QI W CS P (ix3 b g n) = den (rowScore T Q N CN QI W CS P b (row g n)) := by
  rw [val_main_v68_apply]
  show Ideal.ofBits .f32 0x00000000#32 + _ = _
  rw [Ideal.ofBits_zero_f32, zero_add]
  refine Finset.sum_congr rfl fun t _ => ?_
  have e : idx_main_v68 (ix3 b g n) t = ix4 b g n t := funext fun a => match a with | ⟨0, _⟩ => rfl | ⟨1, _⟩ => rfl | ⟨2, _⟩ => rfl | ⟨3, _⟩ => rfl
  rw [e, weights T Q N CN QI W CS P hT hQI hQ hN hCN hW hCS hP]

theorem attended (b : Fin 128) (g : Fin 4) (n : Fin 16) (d : Fin 512) :
    val_main_v72 (F := Ideal) T Q N CN QI W CS P (ix4 b g n d) = out T Q N CN QI W CS P b (row g n) d := by
  rw [val_main_v72_apply]
  unfold out seen
  refine (Finset.sum_congr rfl fun t _ => ?_).trans (masked_mean (n := 16388) (fun t => (sc T Q N CN W CS P b (row g n) t).toReal)
    (fun t => (lat T N P b t ⟨d.val, by omega⟩).toReal) (last QI (row g n)) 0 (Nat.zero_le _))
  have e1 : lidx_main_v72 (ix4 b g n d) t = ix4 b g n t := funext fun a => match a with | ⟨0, _⟩ => rfl | ⟨1, _⟩ => rfl | ⟨2, _⟩ => rfl | ⟨3, _⟩ => rfl
  have e2 : ridx_main_v72 (ix4 b g n d) t = ix3 b d t := funext fun a => match a with | ⟨0, _⟩ => rfl | ⟨1, _⟩ => rfl | ⟨2, _⟩ => rfl
  rw [e1, e2, content T N P hT, val_main_v71_apply, weights T Q N CN QI W CS P hT hQI hQ hN hCN hW hCS hP, val_main_v70_apply, val_main_v69_apply]
  have e3 : idx_main_v69 (idx_main_v70 (ix4 b g n t)) = ix3 b g n := funext fun a => match a with | ⟨0, _⟩ => rfl | ⟨1, _⟩ => rfl | ⟨2, _⟩ => rfl
  rw [e3, sums T Q N CN QI W CS P hT hQI hQ hN hCN hW hCS hP]
  obtain ⟨r, hr⟩ := lat_real T N P hN hP b t.val ⟨d.val, by omega⟩
  rw [hr]
  rfl

theorem reference (b : Fin 128) (h : Fin 64) (d : Fin 512) :
    val_main_v73 (F := Ideal) T Q N CN QI W CS P (ix3 b h d) = out T Q N CN QI W CS P b h d := by
  rw [val_main_v73_apply]
  have hb := b.isLt
  have hh := h.isLt
  have hd := d.isLt
  have e : idx_main_v73 (ix3 b h d) = ix4 b ⟨h.val / 16, by omega⟩ ⟨h.val % 16, by omega⟩ d := by
    refine funext fun a => Fin.ext ?_
    match a with
    | ⟨0, _⟩ => show ((b.val * 64 + h.val) * 512 + d.val) / 32768 = b.val; omega
    | ⟨1, _⟩ => show ((b.val * 64 + h.val) * 512 + d.val) / 8192 % 4 = h.val / 16; omega
    | ⟨2, _⟩ => show ((b.val * 64 + h.val) * 512 + d.val) / 512 % 16 = h.val % 16; omega
    | ⟨3, _⟩ => show ((b.val * 64 + h.val) * 512 + d.val) % 512 = d.val; omega
  rw [e, attended T Q N CN QI W CS P hT hQI hQ hN hCN hW hCS hP]
  have er : row ⟨h.val / 16, by omega⟩ ⟨h.val % 16, by omega⟩ = h := Fin.ext (by show 16 * (h.val / 16) + h.val % 16 = h.val; omega)
  rw [er]

end Cert.MlaRefIdeal.Val

end
-- ==== Proof.MlaClaims.lean ====
/-
  The latent attention call's claims: on page numbers inside the pool it runs and ends quiescent, and on finite arguments its result is the
  reference's.
-/
module

public import proofs.«01_k».proof.Defs
public import proofs.«01_k».proof.Proof.AttnClaims
public import proofs.«01_k».proof.Proof.MlaSame
public import proofs.«01_k».proof.Proof.MlaKernel
public import proofs.«01_k».proof.Proof.MlaReferenceOut
public import proofs.«01_k».proof.Proof.Gen.Pre_page_range
public import proofs.«01_k».proof.Proof.Gen.Pre_finite_mla

@[expose] public section

set_option maxRecDepth 16384

noncomputable section

namespace Cert.MlaClaims

open Idealize.ShloMosaic Idealize.ShloMosaic.TcCoe Idealize.SL.Sem Cert.Softmax Cert.MlaSpec

/-! ## What the preconditions say -/

/-- A word at least zero and below a small bound, both signed, is below it as a natural number. -/
theorem range_of {x : BitVec 32} {n : ℕ} (hn : n < 2 ^ 31)
    (h : IntOp.andi (IntOp.cmpi .sge x 0#32) (IntOp.cmpi .slt x (BitVec.ofNat 32 n)) = 1#1) : x.toNat < n := by
  obtain ⟨h0, h1⟩ := IntOp.andi_eq_one.1 h
  have k0 : (0 : ℤ) ≤ x.toInt := by
    by_contra hc
    have : (0#32).sle x = false := by simpa [BitVec.sle] using hc
    unfold IntOp.cmpi at h0
    simp [this] at h0
  have k1 : x.toInt < (BitVec.ofNat 32 n).toInt := by
    by_contra hc
    have : x.slt (BitVec.ofNat 32 n) = false := by simpa [BitVec.slt] using hc
    unfold IntOp.cmpi at h1
    simp [this] at h1
  rw [BitVec.toInt_eq_toNat_cond] at k0 k1
  rw [BitVec.toInt_eq_toNat_cond, BitVec.toNat_ofNat, Nat.mod_eq_of_lt (by omega)] at k1
  have := x.isLt
  split at k0 <;> split at k1 <;> simp_all <;> omega

instance : Subsingleton Cert.Pre_page_range.S_.Idx := ⟨fun _ _ => funext fun a => a.elim0⟩
instance : Subsingleton Cert.Pre_finite_mla.S_.Idx := ⟨fun _ _ => funext fun a => a.elim0⟩

section
variable {F : FTy → Type} [FloatOps F] (T : IVec Cert.Pre_page_range.S128x128 32) (Q : FVec F Cert.Pre_page_range.S128x64x640 .bf16)
  (N : FVec F Cert.Pre_page_range.S128x576x128 .f32) (CN : FVec F Cert.Pre_page_range.S128x128 .f32)
  (QI : IVec Cert.Pre_page_range.S64x128 32) (W : FVec F Cert.Pre_page_range.S1536x512 .bf16)
  (CS : FVec F Cert.Pre_page_range.S16x128x1024 .f32) (P : FVec F Cert.Pre_page_range.S11796480x128 .f32)

/-- The page numbers lie inside the pool. -/
theorem pages (h : Cert.Pre_page_range.fn (F := F) T Q N CN QI W CS P = fun _ => 1#1) (i : Cert.Pre_page_range.S128x128.Idx) :
    (T i).toNat < 20480 := by
  have h0 := congrFun h (fun a => a.elim0)
  unfold Cert.Pre_page_range.fn at h0
  exact range_of (by norm_num) (Host.reduce_andi_all _ _ _ _ _ h0 i)

end

/-- The page numbers lie inside the pool, the positions among the four new ones, and the float arguments are real. -/
structure Fine (T : IVec Cert.Pre_finite_mla.S128x128 32) (Q : FVec Ideal Cert.Pre_finite_mla.S128x64x640 .bf16)
    (N : FVec Ideal Cert.Pre_finite_mla.S128x576x128 .f32) (CN : FVec Ideal Cert.Pre_finite_mla.S128x128 .f32)
    (QI : IVec Cert.Pre_finite_mla.S64x128 32) (W : FVec Ideal Cert.Pre_finite_mla.S1536x512 .bf16)
    (CS : FVec Ideal Cert.Pre_finite_mla.S16x128x1024 .f32) (P : FVec Ideal Cert.Pre_finite_mla.S11796480x128 .f32) : Prop where
  t : ∀ i, (T i).toNat < 20480
  qi : ∀ i, (QI i).toNat < 4
  q : ∀ i, Real? (Q i)
  n : ∀ i, Real? (N i)
  cn : ∀ i, Real? (CN i)
  w : ∀ i, Real? (W i)
  cs : ∀ i, Real? (CS i)
  p : ∀ i, Real? (P i)

theorem real_f32 {x : EReal} (h : Ideal.cmp .olt (max x (-x)) (Ideal.ofBits .f32 0x7F800000#32) = 1#1) : Real? x :=
  AttnClaims.real_of_abs_lt (by rw [AttnClaims.inf_f32] at h; exact h)

theorem real_bf16 {x : EReal} (h : Ideal.cmp .olt (max x (-x)) (Ideal.ofBits .bf16 0x7F80#16) = 1#1) : Real? x :=
  AttnClaims.real_of_abs_lt (by rw [AttnClaims.inf_bf16] at h; exact h)

theorem fine (T : IVec Cert.Pre_finite_mla.S128x128 32) (Q : FVec Ideal Cert.Pre_finite_mla.S128x64x640 .bf16)
    (N : FVec Ideal Cert.Pre_finite_mla.S128x576x128 .f32) (CN : FVec Ideal Cert.Pre_finite_mla.S128x128 .f32)
    (QI : IVec Cert.Pre_finite_mla.S64x128 32) (W : FVec Ideal Cert.Pre_finite_mla.S1536x512 .bf16)
    (CS : FVec Ideal Cert.Pre_finite_mla.S16x128x1024 .f32) (P : FVec Ideal Cert.Pre_finite_mla.S11796480x128 .f32)
    (h : Cert.Pre_finite_mla.fn (F := Ideal) T Q N CN QI W CS P = fun _ => 1#1) : Fine T Q N CN QI W CS P := by
  have h0 := congrFun h (fun a => a.elim0)
  unfold Cert.Pre_finite_mla.fn Cert.Pre_finite_mla.fn_part1 Cert.Pre_finite_mla.fn_part2 at h0
  obtain ⟨h0, hp⟩ := IntOp.andi_eq_one.1 h0
  obtain ⟨h0, hcs⟩ := IntOp.andi_eq_one.1 h0
  obtain ⟨h0, hw⟩ := IntOp.andi_eq_one.1 h0
  obtain ⟨h0, hcn⟩ := IntOp.andi_eq_one.1 h0
  obtain ⟨h0, hn⟩ := IntOp.andi_eq_one.1 h0
  obtain ⟨h0, hq⟩ := IntOp.andi_eq_one.1 h0
  obtain ⟨ht, hqi⟩ := IntOp.andi_eq_one.1 h0
  exact ⟨fun i => range_of (by norm_num) (Host.reduce_andi_all _ _ _ _ _ ht i),
    fun i => range_of (by norm_num) (Host.reduce_andi_all _ _ _ _ _ hqi i),
    fun i => real_bf16 (Host.reduce_andi_all _ _ _ _ _ hq i), fun i => real_f32 (Host.reduce_andi_all _ _ _ _ _ hn i),
    fun i => real_f32 (Host.reduce_andi_all _ _ _ _ _ hcn i), fun i => real_bf16 (Host.reduce_andi_all _ _ _ _ _ hw i),
    fun i => real_f32 (Host.reduce_andi_all _ _ _ _ _ hcs i), fun i => real_f32 (Host.reduce_andi_all _ _ _ _ _ hp i)⟩

/-! ## The frames -/

theorem frame_kernel : Cert.quiescent_Mla := fun m ρ h => by
  rw [Cert.Mla.Same.procedures]
  exact Cert.MlaIdeal.Spec.frame (F := Bits) m ρ (pages _ _ _ _ _ _ _ _ (h 0))
theorem frame_ideal : Cert.quiescent_MlaIdeal := fun m ρ h => Cert.MlaIdeal.Spec.frame m ρ (pages _ _ _ _ _ _ _ _ (h 0))
theorem frame_ideal_pre : Cert.quiescent_MlaIdeal_pre_finite_mla := fun m ρ h =>
  Cert.MlaIdeal.Spec.frame m ρ (fine _ _ _ _ _ _ _ _ (h 0)).t

theorem frame_reference : Cert.quiescent_MlaRefIdeal := fun m ρ _ =>
  (θ_run Cert.MlaRefIdeal.defs _ _).mono (fun r h => ⟨fun c => (h c).2, Idealize.ShloMosaic.sem_eq_zero_of_no_sems (by decide) r.2⟩)
    (Cert.MlaRefIdeal.Value.run (F := Ideal) m ρ)
theorem frame_reference_pre : Cert.quiescent_MlaRefIdeal_pre_finite_mla := fun m ρ _ => frame_reference m ρ trivial

/-! ## The equality -/

theorem equal : Cert.algebraic_MlaIdeal_MlaRefIdeal_pre_finite_mla := by
  intro m g m' g' hpre hargs
  refine ⟨fun c => Cert.MlaIdeal.Val.result m c, ?_, ?_⟩
  · refine (θ_run Cert.MlaIdeal.defs _ _).mono (fun r h c => ⟨(h.1 c).1.trans ?_, (h.1 c).2⟩)
      (Cert.MlaIdeal.Spec.run m g (fine _ _ _ _ _ _ _ _ (hpre 0)).t)
    have f := fine _ _ _ _ _ _ _ _ (hpre c)
    exact Cert.MlaIdeal.Val.final m c ⟨f.q, f.n, f.cn, f.w, f.cs, f.p, f.qi⟩
  · refine (θ_run Cert.MlaRefIdeal.defs _ _).mono (fun r h c => ⟨(h c).1.trans ?_, (h c).2⟩) (Cert.MlaRefIdeal.Value.run m' g')
    obtain ⟨h0, h1, h2, h3, h4, h5, h6, h7⟩ := hargs c
    have f := fine _ _ _ _ _ _ _ _ (hpre c)
    rw [Cert.MlaRefIdeal.Read.val_main_v73_eq, h0, h1, h2, h3, h4, h5, h6, h7]
    have ht := Cert.MlaIdeal.Spec.tab_eq m c
    refine funext fun (i : Cert.MlaIdeal.S128x64x512.Idx) => ?_
    have e : i = ix3 (n0 := 128) (n1 := 64) (n2 := 512) ⟨(i 0).val, (i 0).isLt⟩ ⟨(i 1).val, (i 1).isLt⟩ ⟨(i 2).val, (i 2).isLt⟩ :=
      funext fun a => Fin.ext (by
        match a with
        | ⟨0, _⟩ => rfl
        | ⟨1, _⟩ => rfl
        | ⟨2, _⟩ => rfl)
    refine (congrArg _ e).trans ((Cert.MlaRefIdeal.Val.reference _ _ _ _ _ _ _ _ f.t f.qi f.q f.n f.cn f.w f.cs f.p _ _ _).trans ?_)
    unfold Cert.MlaIdeal.Val.result
    rw [← ht]

end Cert.MlaClaims

end
-- ==== Proof.Blocks.lean ====
/-
  What the products and the norms share: where an array's blocks lie, rows times columns, and rows normalised by their root mean square.
-/
module

public import Idealize.ShloMosaic.Lib.Pointwise

@[expose] public section

noncomputable section

namespace Cert.Blocks

open Idealize.ShloMosaic

theorem hz : (![0, 0] : Fin 2 → Nat) = fun _ => 0 := funext fun a => by fin_cases a <;> rfl

theorem exists_ix2 {a b : Nat} (j : (⟨2, ![a, b]⟩ : Shape).Idx) : ∃ (r : Fin a) (n : Fin b), j = ix2 r n :=
  ⟨j 0, j 1, funext fun x => match x with
    | ⟨0, _⟩ => rfl
    | ⟨1, _⟩ => rfl⟩

theorem ix2_val {a b : Nat} (i : (⟨2, ![a, b]⟩ : Shape).Idx) (r : Fin a) (n : Fin b) (h0 : (i 0).val = r.val) (h1 : (i 1).val = n.val) : i = ix2 r n :=
  funext fun x => match x with
    | ⟨0, _⟩ => Fin.ext h0
    | ⟨1, _⟩ => Fin.ext h1

/-- The blocks of `b0` rows and `b1` columns lie in the array one beside another, and this one is block `(p, q)`. -/
def At (n0 n1 b0 b1 : Nat) (f : (⟨2, ![b0, b1]⟩ : Shape).Idx → (⟨2, ![n0, n1]⟩ : Shape).Idx) (p q : Nat) : Prop :=
  ∀ j, (f j 0).val = p * b0 + (j 0).val ∧ (f j 1).val = q * b1 + (j 1).val

theorem at_of {n0 n1 b0 b1 p q : Nat} {f : (⟨2, ![b0, b1]⟩ : Shape).Idx → (⟨2, ![n0, n1]⟩ : Shape).Idx} {x : Fin 2 → Nat}
    (e : ∀ j a, (f j a).val = x a * (![b0, b1] : Fin 2 → Nat) a + (j a).val) (h0 : x 0 = p) (h1 : x 1 = q) : At n0 n1 b0 b1 f p q :=
  fun j => ⟨(e j 0).trans (by rw [h0]; rfl), (e j 1).trans (by rw [h1]; rfl)⟩

/-- The block that an index's quotients name has the index. -/
theorem At.reach {n0 n1 b0 b1 p q : Nat} {f : (⟨2, ![b0, b1]⟩ : Shape).Idx → (⟨2, ![n0, n1]⟩ : Shape).Idx} (h : At n0 n1 b0 b1 f p q)
    (i : (⟨2, ![n0, n1]⟩ : Shape).Idx) (p0 : 0 < b0) (p1 : 0 < b1) (h0 : (i 0).val / b0 = p) (h1 : (i 1).val / b1 = q) : ∃ j, f j = i := by
  subst h0 h1
  refine ⟨ix2 ⟨(i 0).val % b0, Nat.mod_lt _ p0⟩ ⟨(i 1).val % b1, Nat.mod_lt _ p1⟩, funext fun a => ?_⟩
  match a with
  | ⟨0, _⟩ => exact Fin.ext ((h _).1.trans (Nat.div_add_mod' _ _))
  | ⟨1, _⟩ => exact Fin.ext ((h _).2.trans (Nat.div_add_mod' _ _))

/-- A row times a column. -/
def rowCol {K : Nat} (x y : Fin K → EReal) : EReal := ∑ k, x k * y k

/-- The product of a block of rows with a block of columns is the product's block. -/
theorem dot_block {K T C R B p q : Nat} {X : (⟨2, ![T, K]⟩ : Shape).Idx → EReal} {Y : (⟨2, ![K, C]⟩ : Shape).Idx → EReal}
    {f0 : (⟨2, ![R, K]⟩ : Shape).Idx → (⟨2, ![T, K]⟩ : Shape).Idx} {f1 : (⟨2, ![K, B]⟩ : Shape).Idx → (⟨2, ![K, C]⟩ : Shape).Idx}
    {f2 : (⟨2, ![R, B]⟩ : Shape).Idx → (⟨2, ![T, C]⟩ : Shape).Idx} (h0 : At T K R K f0 p 0) (h1 : At K C K B f1 0 q)
    (h2 : At T C R B f2 p q) (j : (⟨2, ![R, B]⟩ : Shape).Idx) :
    ∑ k : Fin K, X (f0 (ix2 (j 0) k)) * Y (f1 (ix2 k (j 1))) = rowCol (fun k => X (ix2 (f2 j 0) k)) (fun k => Y (ix2 k (f2 j 1))) := by
  refine Finset.sum_congr rfl fun k _ => congrArg₂ (fun a b : EReal => a * b) (congrArg X ?_) (congrArg Y ?_)
  · exact ix2_val _ _ _ ((h0 _).1.trans (h2 j).1.symm) ((h0 _).2.trans (by rw [Nat.zero_mul, Nat.zero_add]; rfl))
  · exact ix2_val _ _ _ ((h1 _).1.trans (by rw [Nat.zero_mul, Nat.zero_add]; rfl)) ((h1 _).2.trans (h2 j).2.symm)

/-- A row normalised by its root mean square, and scaled, at a column. -/
def normed {n : Nat} (b : BitVec 32) (x g : Fin n → EReal) (k : Fin n) : EReal :=
  x k * Ideal.rsqrt (Ideal.div (∑ e, x e * x e) (Ideal.ofBits .f32 b) + Ideal.ofBits .f32 0x358637BD#32) * g k

/-- The same, with the host's operations and the sum started from zero, as the reference has it. -/
theorem normed_of {n : Nat} {b : BitVec 32} {x g : Fin n → EReal} {k : Fin n} {a d z c p : Ideal .f32} {v : Fin n → Ideal .f32}
    (ha : a = x k) (hv : ∀ e, v e = x e) (hd : d = g k) (hz : z = Ideal.ofBits .f32 0x00000000#32) (hc : c = Ideal.ofBits .f32 b)
    (hp : p = Ideal.ofBits .f32 0x358637BD#32) :
    FloatOps.mulf (F := Ideal) (FloatOps.mulf (F := Ideal) a (FloatOps.hostUnary (F := Ideal) .rsqrt (FloatOps.addf (F := Ideal)
      (FloatOps.hostDivf (F := Ideal) (z + ∑ e, FloatOps.mulf (F := Ideal) (v e) (v e)) c) p))) d = normed b x g k := by
  subst ha hd hz hc hp
  obtain rfl := funext hv
  rw [Ideal.ofBits_zero_f32, zero_add]
  rfl

/-- A normalised block of rows is the normalised array's block. -/
theorem norm_block {T D p : Nat} {b : BitVec 32} {X : (⟨2, ![T, D]⟩ : Shape).Idx → EReal} {G : (⟨2, ![1, D]⟩ : Shape).Idx → EReal}
    {f0 f2 : (⟨2, ![256, D]⟩ : Shape).Idx → (⟨2, ![T, D]⟩ : Shape).Idx} {f1 : (⟨2, ![1, D]⟩ : Shape).Idx → (⟨2, ![1, D]⟩ : Shape).Idx}
    (h0 : At T D 256 D f0 p 0) (h1 : At 1 D 1 D f1 0 0) (h2 : At T D 256 D f2 p 0) (j : (⟨2, ![256, D]⟩ : Shape).Idx) :
    normed b (fun e : Fin D => X (f0 (ix2 (j 0) e))) (fun e => G (f1 (ix2 0 e))) (j 1)
      = normed b (fun e => X (ix2 (f2 j 0) e)) (fun e => G (ix2 0 e)) (f2 j 1) := by
  refine congr (congrArg₂ (normed b) (funext fun e => congrArg X ?_) (funext fun e => congrArg G ?_)) (Fin.ext ?_)
  · exact ix2_val _ _ _ ((h0 _).1.trans (h2 j).1.symm) ((h0 _).2.trans (by rw [Nat.zero_mul, Nat.zero_add]; rfl))
  · exact ix2_val _ _ _ ((h1 _).1.trans rfl) ((h1 _).2.trans (by rw [Nat.zero_mul, Nat.zero_add]; rfl))
  · exact ((h2 j).2.trans (by rw [Nat.zero_mul, Nat.zero_add])).symm

section Heads
variable {W : Nat} (D : Nat) [NeZero D] (hD : D ∣ W)

/-- The column of entry `e` of the head that column `k` is of, with heads of `D` columns. -/
def headCol (k : Fin W) (e : Fin D) : Fin W :=
  ⟨k.val / D * D + e.val, by
    obtain ⟨n, rfl⟩ := hD
    have h : (k.val / D + 1) * D ≤ n * D := Nat.mul_le_mul_right D (Nat.div_lt_of_lt_mul k.isLt)
    rw [Nat.succ_mul, Nat.mul_comm n D] at h
    exact Nat.lt_of_lt_of_le (Nat.add_lt_add_left e.isLt _) h⟩
/-- The place of a column in its head. -/
def inHead (k : Fin W) : Fin D := ⟨k.val % D, Nat.mod_lt _ (NeZero.pos D)⟩

/-- An array of rows, each head's columns of it normalised and scaled. -/
def headed {T : Nat} (b : BitVec 32) (X : (⟨2, ![T, W]⟩ : Shape).Idx → EReal) (G : (⟨2, ![1, D]⟩ : Shape).Idx → EReal) :
    (⟨2, ![T, W]⟩ : Shape).Idx → EReal := fun i =>
  normed b (fun e => X (ix2 (i 0) (headCol D hD (i 1) e))) (fun e => G (ix2 0 e)) (inHead D (i 1))

variable {D hD}

/-- A head's normalised columns are the array's at the head's place. -/
theorem headed_piece {b : BitVec 32} (x : (⟨2, ![256, W]⟩ : Shape).Idx → EReal) (g : (⟨2, ![1, D]⟩ : Shape).Idx → EReal) (o : Nat)
    (inb : ∀ a, (![0, o * D] : Fin 2 → Nat) a + (![256, D] : Fin 2 → Nat) a ≤ (⟨2, ![256, W]⟩ : Shape).size a) (p : (⟨2, ![256, D]⟩ : Shape).Idx → EReal)
    (hp : ∀ (r : Fin 256) (k : Fin D), p (ix2 r k) = normed b
      (fun e => View.ld (Val := Elt Ideal) (e' := .f32) x (Rect.unit (s := ⟨2, ![256, W]⟩) ![0, o * D] ![256, D] inb) (ix2 r e)) (fun e => g (ix2 0 e)) k)
    (j : (⟨2, ![256, D]⟩ : Shape).Idx) : p j = headed D hD b x g ((Rect.unit (s := ⟨2, ![256, W]⟩) ![0, o * D] ![256, D] inb).emb j) := by
  obtain ⟨r, k, rfl⟩ := exists_ix2 j
  have e0 : ∀ e : Fin D, ((Rect.unit (s := ⟨2, ![256, W]⟩) ![0, o * D] ![256, D] inb).emb (ix2 r e) 0).val = 0 + 1 * r.val := fun _ => rfl
  have e1 : ∀ e : Fin D, ((Rect.unit (s := ⟨2, ![256, W]⟩) ![0, o * D] ![256, D] inb).emb (ix2 r e) 1).val = D * o + e.val := fun e => by
    show o * D + 1 * e.val = _; rw [Nat.mul_comm o D, Nat.one_mul]
  refine (hp r k).trans (congr (congrArg₂ (normed b) (funext fun e => congrArg x ?_) rfl) (Fin.ext ?_))
  · refine ix2_val _ _ _ ((e0 e).trans (e0 k).symm) ((e1 e).trans ?_)
    show _ = _ / D * D + e.val
    rw [e1 k, Nat.mul_add_div (NeZero.pos D), Nat.div_eq_of_lt k.isLt, Nat.add_zero, Nat.mul_comm]
  · show k.val = _ % D
    rw [e1 k, Nat.mul_add_mod, Nat.mod_eq_of_lt k.isLt]

/-- A block of rows with its heads normalised is the array's block. -/
theorem headed_block {T p : Nat} {b : BitVec 32} {X : (⟨2, ![T, W]⟩ : Shape).Idx → EReal} {G : (⟨2, ![1, D]⟩ : Shape).Idx → EReal}
    {f0 f2 : (⟨2, ![256, W]⟩ : Shape).Idx → (⟨2, ![T, W]⟩ : Shape).Idx} {f1 : (⟨2, ![1, D]⟩ : Shape).Idx → (⟨2, ![1, D]⟩ : Shape).Idx}
    (h0 : At T W 256 W f0 p 0) (h1 : At 1 D 1 D f1 0 0) (h2 : At T W 256 W f2 p 0) (j : (⟨2, ![256, W]⟩ : Shape).Idx) :
    headed D hD b (fun i => X (f0 i)) (fun i => G (f1 i)) j = headed D hD b X G (f2 j) := by
  have hk : (j 1) = f2 j 1 := Fin.ext ((h2 j).2.trans (by rw [Nat.zero_mul, Nat.zero_add])).symm
  unfold headed
  rw [← hk]
  refine congrFun (congrArg₂ (normed b) (funext fun e => congrArg X ?_) (funext fun e => congrArg G ?_)) _
  · exact ix2_val _ _ _ ((h0 _).1.trans (h2 j).1.symm) ((h0 _).2.trans (by rw [Nat.zero_mul, Nat.zero_add]; rfl))
  · exact ix2_val _ _ _ ((h1 _).1.trans rfl) ((h1 _).2.trans (by rw [Nat.zero_mul, Nat.zero_add]; rfl))

end Heads

end Cert.Blocks

end
-- ==== Proof.Proj.lean ====
/-
  The shared projection's product: the kernel's blocks of 512 rows and 256 columns tile the product, and the reference is the product.
-/
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Blocks
public import Idealize.ShloMosaic.Lib.Quiescent

@[expose] public section

set_option maxRecDepth 16384

noncomputable section

namespace Cert.ProjIdeal.Spec

open Cert.Blocks Cert.ProjIdeal Cert.ProjIdeal.Gen Idealize.ShloMosaic Idealize.ShloMosaic.TcCoe Idealize.SL.Sem
open Idealize.ShloMosaic.Pipeline (Dat)

theorem payload (x : S512x4096.Idx → EReal) (y : S4096x256.Idx → EReal) (j : S512x256.Idx) :
    k0_pay1 (F := Ideal) x y j = ∑ k : Fin 4096, x (ix2 (j 0) k) * y (ix2 k (j 1)) := by
  obtain ⟨r, n, rfl⟩ := exists_ix2 j
  show _ = ∑ k : Fin 4096, x (ix2 r k) * y (ix2 k n)
  unfold k0_pay1
  pointwise

variable (m : (ℓ : Loc nD τ sig) → Buf (Elt Ideal) ℓ)

theorem index : ∀ t : Fin grid0.N, win0_0.index t 0 = t.val / 17 ∧ win0_0.index t 1 = 0
    ∧ win0_1.index t 0 = 0 ∧ win0_1.index t 1 = t.val % 17
    ∧ win0_2.index t 0 = t.val / 17 ∧ win0_2.index t 1 = t.val % 17 := by
  decide +kernel

/-- Where each window's block of a grid point lies. -/
theorem place (t : Fin grid0.N) : At 8704 4096 512 4096 (fun j => (win0_0.rect t).emb j) (t.val / 17) (0)
    ∧ At 4096 4352 4096 256 (fun j => (win0_1.rect t).emb j) (0) (t.val % 17)
    ∧ At 8704 4352 512 256 (fun j => (win0_2.rect t).emb j) (t.val / 17) (t.val % 17) := by
  obtain ⟨p0, q0, p1, q1, p2, q2⟩ := index t
  exact ⟨at_of (fun j a => win0_0.rect_emb_val t j a rfl) p0 q0,
    at_of (fun j a => win0_1.rect_emb_val t j a rfl) p1 q1,
    at_of (fun j a => win0_2.rect_emb_val t j a rfl) p2 q2⟩

/-- The shared projection's product on device `c`, as a function of an index. -/
def result (c : Dev nD) : S8704x4352.Idx → EReal := fun i =>
  rowCol (fun k => m ((c : Thread nD τ).loc main_arg0) (ix2 (i 0) k)) (fun k => m ((c : Thread nD τ).loc main_arg1) (ix2 k (i 1)))

/-- The result array after the run. -/
theorem final (c : Dev nD) : (dats m 0 c).arrAt 2 cfg0.N = result m c := by
  refine (dats m 0 c).arrAt_eq_of_cover 2 _ (fun t _ => ?_) fun (i : S8704x4352.Idx) => ?_
  · rw [Value.flushed2]
    unfold out0_2
    rw [View.canon_unit_zero hz, View.ld_unit_zero hz, View.ld_unit_zero hz]
    exact funext fun j => (payload _ _ j).trans (dot_block (X := m ((c : Thread nD τ).loc main_arg0)) (Y := m ((c : Thread nD τ).loc main_arg1)) (place t).1 (place t).2.1 (place t).2.2 j)
  · have h0 : (i 0).val < 8704 := (i 0).isLt
    have h1 : (i 1).val < 4352 := (i 1).isLt
    obtain ⟨t, ht⟩ : ∃ t : Fin cfg0.N, t.val = (i 0).val / 512 * 17 + (i 1).val / 256 :=
      ⟨⟨_, by show (i 0).val / 512 * 17 + (i 1).val / 256 < grid0.N; rw [Gen.N_0]; omega⟩, rfl⟩
    obtain ⟨j, hj⟩ := (place t).2.2.reach i (by decide) (by decide) (by omega) (by omega)
    refine ⟨t, flush0_2 t, ?_⟩
    show i ∈ ((View.whole main_v0).slice (win0_2.rect t)).set
    rw [View.set_slice_whole, ← Rect.map_emb_univ]
    exact Finset.mem_map.2 ⟨j, Finset.mem_univ _, hj⟩

end Cert.ProjIdeal.Spec

namespace Cert.ProjClaims

open Idealize.ShloMosaic Idealize.ShloMosaic.TcCoe Idealize.SL.Sem

theorem frame_kernel : Cert.quiescent_Proj := fun m ρ _ => Cert.Proj.Gen.frame m ρ
theorem frame_ideal : Cert.quiescent_ProjIdeal := fun m ρ _ => Cert.ProjIdeal.Gen.frame m ρ

theorem frame_reference : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem equal : Cert.algebraic_ProjIdeal_ProjRefIdeal := by
  intro m g m' g' _ hargs
  refine ⟨fun c => Cert.ProjIdeal.Spec.result m c, ?_, ?_⟩
  · exact (θ_run Cert.ProjIdeal.defs _ _).mono (fun r h c => ⟨(h c).1.trans (Cert.ProjIdeal.Spec.final m c), (h c).2⟩)
      (Cert.ProjIdeal.Value.run_blocks m g)
  · refine (θ_run Cert.ProjRefIdeal.defs _ _).mono (fun r h c => ⟨(h c).1.trans ?_, (h c).2⟩) (Cert.ProjRefIdeal.Value.run m' g')
    obtain ⟨h0, h1⟩ := hargs c
    rw [Cert.ProjRefIdeal.Read.val_main_v2_eq, h0, h1]
    funext i
    rw [Cert.ProjRefIdeal.Read.val_main_v2_apply]
    unfold Cert.ProjIdeal.Spec.result Cert.Blocks.rowCol
    refine Finset.sum_congr rfl fun k _ => congrArg₂ (· * ·) (congrArg _ (funext fun a => ?_)) (congrArg _ (funext fun a => ?_))
      <;> fin_cases a <;> rfl

end Cert.ProjClaims

end
-- ==== Proof.Gates.lean ====
/-
  The gates' product: the kernel's blocks of 512 rows and 512 columns tile the product, and the reference is the product.
-/
module

public import proofs.«01_k».proof.Defs
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Blocks
public import Idealize.ShloMosaic.Lib.Quiescent

@[expose] public section

set_option maxRecDepth 16384

noncomputable section

namespace Cert.GatesIdeal.Spec

open Cert.Blocks Cert.GatesIdeal Cert.GatesIdeal.Gen Idealize.ShloMosaic Idealize.ShloMosaic.TcCoe Idealize.SL.Sem
open Idealize.ShloMosaic.Pipeline (Dat)

theorem payload (x : S512x4096.Idx → EReal) (y : S4096x512.Idx → EReal) (j : S512x512.Idx) :
    k0_pay1 (F := Ideal) x y j = ∑ k : Fin 4096, x (ix2 (j 0) k) * y (ix2 k (j 1)) := by
  obtain ⟨r, n, rfl⟩ := exists_ix2 j
  show _ = ∑ k : Fin 4096, x (ix2 r k) * y (ix2 k n)
  unfold k0_pay1
  pointwise

variable (m : (ℓ : Loc nD τ sig) → Buf (Elt Ideal) ℓ)

theorem index : ∀ t : Fin grid0.N, win0_0.index t 0 = t.val / 24 ∧ win0_0.index t 1 = 0
    ∧ win0_1.index t 0 = 0 ∧ win0_1.index t 1 = t.val % 24
    ∧ win0_2.index t 0 = t.val / 24 ∧ win0_2.index t 1 = t.val % 24 := by
  decide +kernel

/-- Where each window's block of a grid point lies. -/
theorem place (t : Fin grid0.N) : At 8704 4096 512 4096 (fun j => (win0_0.rect t).emb j) (t.val / 24) (0)
    ∧ At 4096 12288 4096 512 (fun j => (win0_1.rect t).emb j) (0) (t.val % 24)
    ∧ At 8704 12288 512 512 (fun j => (win0_2.rect t).emb j) (t.val / 24) (t.val % 24) := by
  obtain ⟨p0, q0, p1, q1, p2, q2⟩ := index t
  exact ⟨at_of (fun j a => win0_0.rect_emb_val t j a rfl) p0 q0,
    at_of (fun j a => win0_1.rect_emb_val t j a rfl) p1 q1,
    at_of (fun j a => win0_2.rect_emb_val t j a rfl) p2 q2⟩

/-- The gates' product on device `c`, as a function of an index. -/
def result (c : Dev nD) : S8704x12288.Idx → EReal := fun i =>
  rowCol (fun k => m ((c : Thread nD τ).loc main_arg0) (ix2 (i 0) k)) (fun k => m ((c : Thread nD τ).loc main_arg1) (ix2 k (i 1)))

/-- The result array after the run. -/
theorem final (c : Dev nD) : (dats m 0 c).arrAt 2 cfg0.N = result m c := by
  refine (dats m 0 c).arrAt_eq_of_cover 2 _ (fun t _ => ?_) fun (i : S8704x12288.Idx) => ?_
  · rw [Value.flushed2]
    unfold out0_2
    rw [View.canon_unit_zero hz, View.ld_unit_zero hz, View.ld_unit_zero hz]
    exact funext fun j => (payload _ _ j).trans (dot_block (X := m ((c : Thread nD τ).loc main_arg0)) (Y := m ((c : Thread nD τ).loc main_arg1)) (place t).1 (place t).2.1 (place t).2.2 j)
  · have h0 : (i 0).val < 8704 := (i 0).isLt
    have h1 : (i 1).val < 12288 := (i 1).isLt
    obtain ⟨t, ht⟩ : ∃ t : Fin cfg0.N, t.val = (i 0).val / 512 * 24 + (i 1).val / 512 :=
      ⟨⟨_, by show (i 0).val / 512 * 24 + (i 1).val / 512 < grid0.N; rw [Gen.N_0]; omega⟩, rfl⟩
    obtain ⟨j, hj⟩ := (place t).2.2.reach i (by decide) (by decide) (by omega) (by omega)
    refine ⟨t, flush0_2 t, ?_⟩
    show i ∈ ((View.whole main_v0).slice (win0_2.rect t)).set
    rw [View.set_slice_whole, ← Rect.map_emb_univ]
    exact Finset.mem_map.2 ⟨j, Finset.mem_univ _, hj⟩

end Cert.GatesIdeal.Spec

namespace Cert.GatesClaims

open Idealize.ShloMosaic Idealize.ShloMosaic.TcCoe Idealize.SL.Sem

theorem frame_kernel : Cert.quiescent_Gates := fun m ρ _ => Cert.Gates.Gen.frame m ρ
theorem frame_ideal : Cert.quiescent_GatesIdeal := fun m ρ _ => Cert.GatesIdeal.Gen.frame m ρ

theorem frame_reference : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

theorem equal : Cert.algebraic_GatesIdeal_GatesRefIdeal := by
  intro m g m' g' _ hargs
  refine ⟨fun c => Cert.GatesIdeal.Spec.result m c, ?_, ?_⟩
  · exact (θ_run Cert.GatesIdeal.defs _ _).mono (fun r h c => ⟨(h c).1.trans (Cert.GatesIdeal.Spec.final m c), (h c).2⟩)
      (Cert.GatesIdeal.Value.run_blocks m g)
  · refine (θ_run Cert.GatesRefIdeal.defs _ _).mono (fun r h c => ⟨(h c).1.trans ?_, (h c).2⟩) (Cert.GatesRefIdeal.Value.run m' g')
    obtain ⟨h0, h1⟩ := hargs c
    rw [Cert.GatesRefIdeal.Read.val_main_v2_eq, h0, h1]
    funext i
    rw [Cert.GatesRefIdeal.Read.val_main_v2_apply]
    unfold Cert.GatesIdeal.Spec.result Cert.Blocks.rowCol
    refine Finset.sum_congr rfl fun k _ => congrArg₂ (· * ·) (congrArg _ (funext fun a => ?_)) (congrArg _ (funext fun a => ?_))
      <;> fin_cases a <;> rfl

end Cert.GatesClaims

end
-- ==== Proof.Out.lean ====
/-
  The output projection's product with the residual: the kernel's blocks of 512 rows and 512 columns tile the product, and the reference is the product.
-/
module

public import proofs.«01_k».proof.Defs
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Blocks
public import Idealize.ShloMosaic.Lib.Quiescent

@[expose] public section

set_option maxRecDepth 16384

noncomputable section

namespace Cert.OutIdeal.Spec

open Cert.Blocks Cert.OutIdeal Cert.OutIdeal.Gen Idealize.ShloMosaic Idealize.ShloMosaic.TcCoe Idealize.SL.Sem
open Idealize.ShloMosaic.Pipeline (Dat)

theorem payload (x : S512x4096.Idx → EReal) (y : S4096x512.Idx → EReal) (z : S512x512.Idx → EReal) (j : S512x512.Idx) :
    k0_pay1 (F := Ideal) z x y j = z j + ∑ k : Fin 4096, x (ix2 (j 0) k) * y (ix2 k (j 1)) := by
  obtain ⟨r, n, rfl⟩ := exists_ix2 j
  show _ = z (ix2 r n) + ∑ k : Fin 4096, x (ix2 r k) * y (ix2 k n)
  unfold k0_pay1
  pointwise

variable (m : (ℓ : Loc nD τ sig) → Buf (Elt Ideal) ℓ)

theorem index : ∀ t : Fin grid0.N, win0_0.index t 0 = t.val / 8 ∧ win0_0.index t 1 = 0
    ∧ win0_1.index t 0 = 0 ∧ win0_1.index t 1 = t.val % 8
    ∧ win0_2.index t 0 = t.val / 8 ∧ win0_2.index t 1 = t.val % 8
    ∧ win0_3.index t 0 = t.val / 8 ∧ win0_3.index t 1 = t.val % 8 := by
  decide +kernel

/-- Where each window's block of a grid point lies. -/
theorem place (t : Fin grid0.N) : At 8704 4096 512 4096 (fun j => (win0_0.rect t).emb j) (t.val / 8) (0)
    ∧ At 4096 4096 4096 512 (fun j => (win0_1.rect t).emb j) (0) (t.val % 8)
    ∧ At 8704 4096 512 512 (fun j => (win0_2.rect t).emb j) (t.val / 8) (t.val % 8)
    ∧ At 8704 4096 512 512 (fun j => (win0_3.rect t).emb j) (t.val / 8) (t.val % 8) := by
  obtain ⟨p0, q0, p1, q1, p2, q2, p3, q3⟩ := index t
  exact ⟨at_of (fun j a => win0_0.rect_emb_val t j a rfl) p0 q0,
    at_of (fun j a => win0_1.rect_emb_val t j a rfl) p1 q1,
    at_of (fun j a => win0_2.rect_emb_val t j a rfl) p2 q2,
    at_of (fun j a => win0_3.rect_emb_val t j a rfl) p3 q3⟩

/-- The output projection's product with the residual on device `c`, as a function of an index. -/
def result (c : Dev nD) : S8704x4096.Idx → EReal := fun i =>
  (fun a b : EReal => a + b) (m ((c : Thread nD τ).loc main_arg2) i) (rowCol (fun k => m ((c : Thread nD τ).loc main_arg0) (ix2 (i 0) k)) (fun k => m ((c : Thread nD τ).loc main_arg1) (ix2 k (i 1))))

/-- The result array after the run. -/
theorem final (c : Dev nD) : (dats m 0 c).arrAt 3 cfg0.N = result m c := by
  refine (dats m 0 c).arrAt_eq_of_cover 3 _ (fun t _ => ?_) fun (i : S8704x4096.Idx) => ?_
  · rw [Value.flushed3]
    unfold out0_3
    rw [View.canon_unit_zero hz, View.ld_unit_zero hz, View.ld_unit_zero hz, View.ld_unit_zero hz]
    refine funext fun j => (payload _ _ _ j).trans (congrArg₂ (fun a b : EReal => a + b) (congrArg (m ((c : Thread nD τ).loc main_arg2)) ?_)
      (dot_block (X := m ((c : Thread nD τ).loc main_arg0)) (Y := m ((c : Thread nD τ).loc main_arg1)) (place t).1 (place t).2.1 (place t).2.2.2 j))
    exact (ix2_val _ _ _ (((place t).2.2.1 j).1.trans ((place t).2.2.2 j).1.symm) (((place t).2.2.1 j).2.trans ((place t).2.2.2 j).2.symm)).trans
      (ix2_val _ _ _ rfl rfl).symm
  · have h0 : (i 0).val < 8704 := (i 0).isLt
    have h1 : (i 1).val < 4096 := (i 1).isLt
    obtain ⟨t, ht⟩ : ∃ t : Fin cfg0.N, t.val = (i 0).val / 512 * 8 + (i 1).val / 512 :=
      ⟨⟨_, by show (i 0).val / 512 * 8 + (i 1).val / 512 < grid0.N; rw [Gen.N_0]; omega⟩, rfl⟩
    obtain ⟨j, hj⟩ := (place t).2.2.2.reach i (by decide) (by decide) (by omega) (by omega)
    refine ⟨t, flush0_3 t, ?_⟩
    show i ∈ ((View.whole main_v0).slice (win0_3.rect t)).set
    rw [View.set_slice_whole, ← Rect.map_emb_univ]
    exact Finset.mem_map.2 ⟨j, Finset.mem_univ _, hj⟩

end Cert.OutIdeal.Spec

namespace Cert.OutClaims

open Idealize.ShloMosaic Idealize.ShloMosaic.TcCoe Idealize.SL.Sem

theorem frame_kernel : Cert.quiescent_Out := fun m ρ _ => Cert.Out.Gen.frame m ρ
theorem frame_ideal : Cert.quiescent_OutIdeal := fun m ρ _ => Cert.OutIdeal.Gen.frame m ρ

theorem frame_reference : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem equal : Cert.algebraic_OutIdeal_OutRefIdeal := by
  intro m g m' g' _ hargs
  refine ⟨fun c => Cert.OutIdeal.Spec.result m c, ?_, ?_⟩
  · exact (θ_run Cert.OutIdeal.defs _ _).mono (fun r h c => ⟨(h c).1.trans (Cert.OutIdeal.Spec.final m c), (h c).2⟩)
      (Cert.OutIdeal.Value.run_blocks m g)
  · refine (θ_run Cert.OutRefIdeal.defs _ _).mono (fun r h c => ⟨(h c).1.trans ?_, (h c).2⟩) (Cert.OutRefIdeal.Value.run m' g')
    obtain ⟨h0, h1, h2⟩ := hargs c
    rw [Cert.OutRefIdeal.Read.val_main_v3_eq, h0, h1, h2]
    funext i
    rw [Cert.OutRefIdeal.Read.val_main_v3_apply, Cert.OutRefIdeal.Read.val_main_v2_apply]
    unfold Cert.OutIdeal.Spec.result Cert.Blocks.rowCol
    refine congrArg₂ (· + ·) (congrArg _ (funext fun a => ?_)) (Finset.sum_congr rfl fun k _ => congrArg₂ (· * ·) (congrArg _ (funext fun a => ?_)) (congrArg _ (funext fun a => ?_)))
      <;> fin_cases a <;> rfl

end Cert.OutClaims

end
-- ==== Proof.PeerQ.lean ====
/-
  The experts' queries' product: the kernel's blocks of 512 rows and 512 columns tile the product, and the reference is the product.
-/
module

public import proofs.«01_k».proof.Defs
public import proofs.«01_k».proof.Proof.Gen.PeerQ.Frame
public import proofs.«01_k».proof.Proof.Gen.PeerQIdeal.Frame
public import proofs.«01_k».proof.Proof.Gen.PeerQIdeal.Value
public import proofs.«01_k».proof.Proof.Gen.PeerQRefIdeal.Run
public import proofs.«01_k».proof.Proof.Gen.PeerQRefIdeal.Read
public import proofs.«01_k».proof.Proof.Blocks
public import Idealize.ShloMosaic.Lib.Quiescent

@[expose] public section

set_option maxRecDepth 16384

noncomputable section

namespace Cert.PeerQIdeal.Spec

open Cert.Blocks Cert.PeerQIdeal Cert.PeerQIdeal.Gen Idealize.ShloMosaic Idealize.ShloMosaic.TcCoe Idealize.SL.Sem
open Idealize.ShloMosaic.Pipeline (Dat)

theorem payload (x : S512x4096.Idx → EReal) (y : S4096x512.Idx → EReal) (j : S512x512.Idx) :
    k0_pay1 (F := Ideal) x y j = ∑ k : Fin 4096, x (ix2 (j 0) k) * y (ix2 k (j 1)) := by
  obtain ⟨r, n, rfl⟩ := exists_ix2 j
  show _ = ∑ k : Fin 4096, x (ix2 r k) * y (ix2 k n)
  unfold k0_pay1
  pointwise

variable (m : (ℓ : Loc nD τ sig) → Buf (Elt Ideal) ℓ)

theorem index : ∀ t : Fin grid0.N, win0_0.index t 0 = t.val / 4 ∧ win0_0.index t 1 = 0
    ∧ win0_1.index t 0 = 0 ∧ win0_1.index t 1 = t.val % 4
    ∧ win0_2.index t 0 = t.val / 4 ∧ win0_2.index t 1 = t.val % 4 := by
  decide +kernel

/-- Where each window's block of a grid point lies. -/
theorem place (t : Fin grid0.N) : At 8704 4096 512 4096 (fun j => (win0_0.rect t).emb j) (t.val / 4) (0)
    ∧ At 4096 2048 4096 512 (fun j => (win0_1.rect t).emb j) (0) (t.val % 4)
    ∧ At 8704 2048 512 512 (fun j => (win0_2.rect t).emb j) (t.val / 4) (t.val % 4) := by
  obtain ⟨p0, q0, p1, q1, p2, q2⟩ := index t
  exact ⟨at_of (fun j a => win0_0.rect_emb_val t j a rfl) p0 q0,
    at_of (fun j a => win0_1.rect_emb_val t j a rfl) p1 q1,
    at_of (fun j a => win0_2.rect_emb_val t j a rfl) p2 q2⟩

/-- The experts' queries' product on device `c`, as a function of an index. -/
def result (c : Dev nD) : S8704x2048.Idx → EReal := fun i =>
  rowCol (fun k => m ((c : Thread nD τ).loc main_arg0) (ix2 (i 0) k)) (fun k => m ((c : Thread nD τ).loc main_arg1) (ix2 k (i 1)))

/-- The result array after the run. -/
theorem final (c : Dev nD) : (dats m 0 c).arrAt 2 cfg0.N = result m c := by
  refine (dats m 0 c).arrAt_eq_of_cover 2 _ (fun t _ => ?_) fun (i : S8704x2048.Idx) => ?_
  · rw [Value.flushed2]
    unfold out0_2
    rw [View.canon_unit_zero hz, View.ld_unit_zero hz, View.ld_unit_zero hz]
    exact funext fun j => (payload _ _ j).trans (dot_block (X := m ((c : Thread nD τ).loc main_arg0)) (Y := m ((c : Thread nD τ).loc main_arg1)) (place t).1 (place t).2.1 (place t).2.2 j)
  · have h0 : (i 0).val < 8704 := (i 0).isLt
    have h1 : (i 1).val < 2048 := (i 1).isLt
    obtain ⟨t, ht⟩ : ∃ t : Fin cfg0.N, t.val = (i 0).val / 512 * 4 + (i 1).val / 512 :=
      ⟨⟨_, by show (i 0).val / 512 * 4 + (i 1).val / 512 < grid0.N; rw [Gen.N_0]; omega⟩, rfl⟩
    obtain ⟨j, hj⟩ := (place t).2.2.reach i (by decide) (by decide) (by omega) (by omega)
    refine ⟨t, flush0_2 t, ?_⟩
    show i ∈ ((View.whole main_v0).slice (win0_2.rect t)).set
    rw [View.set_slice_whole, ← Rect.map_emb_univ]
    exact Finset.mem_map.2 ⟨j, Finset.mem_univ _, hj⟩

end Cert.PeerQIdeal.Spec

namespace Cert.PeerQClaims

open Idealize.ShloMosaic Idealize.ShloMosaic.TcCoe Idealize.SL.Sem

theorem frame_kernel : Cert.quiescent_PeerQ := fun m ρ _ => Cert.PeerQ.Gen.frame m ρ
theorem frame_ideal : Cert.quiescent_PeerQIdeal := fun m ρ _ => Cert.PeerQIdeal.Gen.frame m ρ

theorem frame_reference : Cert.quiescent_PeerQRefIdeal := fun m ρ _ =>
  (θ_run Cert.PeerQRefIdeal.defs _ _).mono (fun r h => ⟨fun c => (h c).2, sem_eq_zero_of_no_sems (by decide) r.2⟩)
    (Cert.PeerQRefIdeal.Value.run (F := Ideal) m ρ)

theorem equal : Cert.algebraic_PeerQIdeal_PeerQRefIdeal := by
  intro m g m' g' _ hargs
  refine ⟨fun c => Cert.PeerQIdeal.Spec.result m c, ?_, ?_⟩
  · exact (θ_run Cert.PeerQIdeal.defs _ _).mono (fun r h c => ⟨(h c).1.trans (Cert.PeerQIdeal.Spec.final m c), (h c).2⟩)
      (Cert.PeerQIdeal.Value.run_blocks m g)
  · refine (θ_run Cert.PeerQRefIdeal.defs _ _).mono (fun r h c => ⟨(h c).1.trans ?_, (h c).2⟩) (Cert.PeerQRefIdeal.Value.run m' g')
    obtain ⟨h0, h1⟩ := hargs c
    rw [Cert.PeerQRefIdeal.Read.val_main_v2_eq, h0, h1]
    funext i
    rw [Cert.PeerQRefIdeal.Read.val_main_v2_apply]
    unfold Cert.PeerQIdeal.Spec.result Cert.Blocks.rowCol
    refine Finset.sum_congr rfl fun k _ => congrArg₂ (· * ·) (congrArg _ (funext fun a => ?_)) (congrArg _ (funext fun a => ?_))
      <;> fin_cases a <;> rfl

end Cert.PeerQClaims

end
-- ==== Proof.Uq.lean ====
/-
  The latent queries' up-projection's product: the kernel's blocks of 512 rows and 512 columns tile the product, and the reference is the product.
-/
module

public import proofs.«01_k».proof.Defs
public import proofs.«01_k».proof.Proof.Gen.Uq.Frame
public import proofs.«01_k».proof.Proof.Gen.UqIdeal.Frame
public import proofs.«01_k».proof.Proof.Gen.UqIdeal.Value
public import proofs.«01_k».proof.Proof.Gen.UqRefIdeal.Run
public import proofs.«01_k».proof.Proof.Gen.UqRefIdeal.Read
public import proofs.«01_k».proof.Proof.Blocks
public import Idealize.ShloMosaic.Lib.Quiescent

@[expose] public section

set_option maxRecDepth 16384

noncomputable section

namespace Cert.UqIdeal.Spec

open Cert.Blocks Cert.UqIdeal Cert.UqIdeal.Gen Idealize.ShloMosaic Idealize.ShloMosaic.TcCoe Idealize.SL.Sem
open Idealize.ShloMosaic.Pipeline (Dat)

theorem payload (x : S512x768.Idx → EReal) (y : S768x512.Idx → EReal) (j : S512x512.Idx) :
    k0_pay1 (F := Ideal) x y j = ∑ k : Fin 768, x (ix2 (j 0) k) * y (ix2 k (j 1)) := by
  obtain ⟨r, n, rfl⟩ := exists_ix2 j
  show _ = ∑ k : Fin 768, x (ix2 r k) * y (ix2 k n)
  unfold k0_pay1
  pointwise

variable (m : (ℓ : Loc nD τ sig) → Buf (Elt Ideal) ℓ)

theorem index : ∀ t : Fin grid0.N, win0_0.index t 0 = t.val / 6 ∧ win0_0.index t 1 = 0
    ∧ win0_1.index t 0 = 0 ∧ win0_1.index t 1 = t.val % 6
    ∧ win0_2.index t 0 = t.val / 6 ∧ win0_2.index t 1 = t.val % 6 := by
  decide +kernel

/-- Where each window's block of a grid point lies. -/
theorem place (t : Fin grid0.N) : At 8704 768 512 768 (fun j => (win0_0.rect t).emb j) (t.val / 6) (0)
    ∧ At 768 3072 768 512 (fun j => (win0_1.rect t).emb j) (0) (t.val % 6)
    ∧ At 8704 3072 512 512 (fun j => (win0_2.rect t).emb j) (t.val / 6) (t.val % 6) := by
  obtain ⟨p0, q0, p1, q1, p2, q2⟩ := index t
  exact ⟨at_of (fun j a => win0_0.rect_emb_val t j a rfl) p0 q0,
    at_of (fun j a => win0_1.rect_emb_val t j a rfl) p1 q1,
    at_of (fun j a => win0_2.rect_emb_val t j a rfl) p2 q2⟩

/-- The latent queries' up-projection's product on device `c`, as a function of an index. -/
def result (c : Dev nD) : S8704x3072.Idx → EReal := fun i =>
  rowCol (fun k => m ((c : Thread nD τ).loc main_arg0) (ix2 (i 0) k)) (fun k => m ((c : Thread nD τ).loc main_arg1) (ix2 k (i 1)))

/-- The result array after the run. -/
theorem final (c : Dev nD) : (dats m 0 c).arrAt 2 cfg0.N = result m c := by
  refine (dats m 0 c).arrAt_eq_of_cover 2 _ (fun t _ => ?_) fun (i : S8704x3072.Idx) => ?_
  · rw [Value.flushed2]
    unfold out0_2
    rw [View.canon_unit_zero hz, View.ld_unit_zero hz, View.ld_unit_zero hz]
    exact funext fun j => (payload _ _ j).trans (dot_block (X := m ((c : Thread nD τ).loc main_arg0)) (Y := m ((c : Thread nD τ).loc main_arg1)) (place t).1 (place t).2.1 (place t).2.2 j)
  · have h0 : (i 0).val < 8704 := (i 0).isLt
    have h1 : (i 1).val < 3072 := (i 1).isLt
    obtain ⟨t, ht⟩ : ∃ t : Fin cfg0.N, t.val = (i 0).val / 512 * 6 + (i 1).val / 512 :=
      ⟨⟨_, by show (i 0).val / 512 * 6 + (i 1).val / 512 < grid0.N; rw [Gen.N_0]; omega⟩, rfl⟩
    obtain ⟨j, hj⟩ := (place t).2.2.reach i (by decide) (by decide) (by omega) (by omega)
    refine ⟨t, flush0_2 t, ?_⟩
    show i ∈ ((View.whole main_v0).slice (win0_2.rect t)).set
    rw [View.set_slice_whole, ← Rect.map_emb_univ]
    exact Finset.mem_map.2 ⟨j, Finset.mem_univ _, hj⟩

end Cert.UqIdeal.Spec

namespace Cert.UqClaims

open Idealize.ShloMosaic Idealize.ShloMosaic.TcCoe Idealize.SL.Sem

theorem frame_kernel : Cert.quiescent_Uq := fun m ρ _ => Cert.Uq.Gen.frame m ρ
theorem frame_ideal : Cert.quiescent_UqIdeal := fun m ρ _ => Cert.UqIdeal.Gen.frame m ρ

theorem frame_reference : Cert.quiescent_UqRefIdeal := fun m ρ _ =>
  (θ_run Cert.UqRefIdeal.defs _ _).mono (fun r h => ⟨fun c => (h c).2, sem_eq_zero_of_no_sems (by decide) r.2⟩)
    (Cert.UqRefIdeal.Value.run (F := Ideal) m ρ)

theorem equal : Cert.algebraic_UqIdeal_UqRefIdeal := by
  intro m g m' g' _ hargs
  refine ⟨fun c => Cert.UqIdeal.Spec.result m c, ?_, ?_⟩
  · exact (θ_run Cert.UqIdeal.defs _ _).mono (fun r h c => ⟨(h c).1.trans (Cert.UqIdeal.Spec.final m c), (h c).2⟩)
      (Cert.UqIdeal.Value.run_blocks m g)
  · refine (θ_run Cert.UqRefIdeal.defs _ _).mono (fun r h c => ⟨(h c).1.trans ?_, (h c).2⟩) (Cert.UqRefIdeal.Value.run m' g')
    obtain ⟨h0, h1⟩ := hargs c
    rw [Cert.UqRefIdeal.Read.val_main_v2_eq, h0, h1]
    funext i
    rw [Cert.UqRefIdeal.Read.val_main_v2_apply]
    unfold Cert.UqIdeal.Spec.result Cert.Blocks.rowCol
    refine Finset.sum_congr rfl fun k _ => congrArg₂ (· * ·) (congrArg _ (funext fun a => ?_)) (congrArg _ (funext fun a => ?_))
      <;> fin_cases a <;> rfl

end Cert.UqClaims

end
-- ==== Proof.Ukv.lean ====
/-
  The prompt's latents' up-projection's product: the kernel's blocks of 512 rows and 512 columns tile the product, and the reference is the product.
-/
module

public import proofs.«01_k».proof.Defs
public import proofs.«01_k».proof.Proof.Gen.Ukv.Frame
public import proofs.«01_k».proof.Proof.Gen.UkvIdeal.Frame
public import proofs.«01_k».proof.Proof.Gen.UkvIdeal.Value
public import proofs.«01_k».proof.Proof.Gen.UkvRefIdeal.Run
public import proofs.«01_k».proof.Proof.Gen.UkvRefIdeal.Read
public import proofs.«01_k».proof.Proof.Blocks
public import Idealize.ShloMosaic.Lib.Quiescent

@[expose] public section

set_option maxRecDepth 16384

noncomputable section

namespace Cert.UkvIdeal.Spec

open Cert.Blocks Cert.UkvIdeal Cert.UkvIdeal.Gen Idealize.ShloMosaic Idealize.ShloMosaic.TcCoe Idealize.SL.Sem
open Idealize.ShloMosaic.Pipeline (Dat)

theorem payload (x : S512x512.Idx → EReal) (y : S512x512.Idx → EReal) (j : S512x512.Idx) :
    k0_pay1 (F := Ideal) x y j = ∑ k : Fin 512, x (ix2 (j 0) k) * y (ix2 k (j 1)) := by
  obtain ⟨r, n, rfl⟩ := exists_ix2 j
  show _ = ∑ k : Fin 512, x (ix2 r k) * y (ix2 k n)
  unfold k0_pay1
  pointwise

variable (m : (ℓ : Loc nD τ sig) → Buf (Elt Ideal) ℓ)

theorem index : ∀ t : Fin grid0.N, win0_0.index t 0 = t.val / 6 ∧ win0_0.index t 1 = 0
    ∧ win0_1.index t 0 = 0 ∧ win0_1.index t 1 = t.val % 6
    ∧ win0_2.index t 0 = t.val / 6 ∧ win0_2.index t 1 = t.val % 6 := by
  decide +kernel

/-- Where each window's block of a grid point lies. -/
theorem place (t : Fin grid0.N) : At 8192 512 512 512 (fun j => (win0_0.rect t).emb j) (t.val / 6) (0)
    ∧ At 512 3072 512 512 (fun j => (win0_1.rect t).emb j) (0) (t.val % 6)
    ∧ At 8192 3072 512 512 (fun j => (win0_2.rect t).emb j) (t.val / 6) (t.val % 6) := by
  obtain ⟨p0, q0, p1, q1, p2, q2⟩ := index t
  exact ⟨at_of (fun j a => win0_0.rect_emb_val t j a rfl) p0 q0,
    at_of (fun j a => win0_1.rect_emb_val t j a rfl) p1 q1,
    at_of (fun j a => win0_2.rect_emb_val t j a rfl) p2 q2⟩

/-- The prompt's latents' up-projection's product on device `c`, as a function of an index. -/
def result (c : Dev nD) : S8192x3072.Idx → EReal := fun i =>
  rowCol (fun k => m ((c : Thread nD τ).loc main_arg0) (ix2 (i 0) k)) (fun k => m ((c : Thread nD τ).loc main_arg1) (ix2 k (i 1)))

/-- The result array after the run. -/
theorem final (c : Dev nD) : (dats m 0 c).arrAt 2 cfg0.N = result m c := by
  refine (dats m 0 c).arrAt_eq_of_cover 2 _ (fun t _ => ?_) fun (i : S8192x3072.Idx) => ?_
  · rw [Value.flushed2]
    unfold out0_2
    rw [View.canon_unit_zero hz, View.ld_unit_zero hz, View.ld_unit_zero hz]
    exact funext fun j => (payload _ _ j).trans (dot_block (X := m ((c : Thread nD τ).loc main_arg0)) (Y := m ((c : Thread nD τ).loc main_arg1)) (place t).1 (place t).2.1 (place t).2.2 j)
  · have h0 : (i 0).val < 8192 := (i 0).isLt
    have h1 : (i 1).val < 3072 := (i 1).isLt
    obtain ⟨t, ht⟩ : ∃ t : Fin cfg0.N, t.val = (i 0).val / 512 * 6 + (i 1).val / 512 :=
      ⟨⟨_, by show (i 0).val / 512 * 6 + (i 1).val / 512 < grid0.N; rw [Gen.N_0]; omega⟩, rfl⟩
    obtain ⟨j, hj⟩ := (place t).2.2.reach i (by decide) (by decide) (by omega) (by omega)
    refine ⟨t, flush0_2 t, ?_⟩
    show i ∈ ((View.whole main_v0).slice (win0_2.rect t)).set
    rw [View.set_slice_whole, ← Rect.map_emb_univ]
    exact Finset.mem_map.2 ⟨j, Finset.mem_univ _, hj⟩

end Cert.UkvIdeal.Spec

namespace Cert.UkvClaims

open Idealize.ShloMosaic Idealize.ShloMosaic.TcCoe Idealize.SL.Sem

theorem frame_kernel : Cert.quiescent_Ukv := fun m ρ _ => Cert.Ukv.Gen.frame m ρ
theorem frame_ideal : Cert.quiescent_UkvIdeal := fun m ρ _ => Cert.UkvIdeal.Gen.frame m ρ

theorem frame_reference : Cert.quiescent_UkvRefIdeal := fun m ρ _ =>
  (θ_run Cert.UkvRefIdeal.defs _ _).mono (fun r h => ⟨fun c => (h c).2, sem_eq_zero_of_no_sems (by decide) r.2⟩)
    (Cert.UkvRefIdeal.Value.run (F := Ideal) m ρ)

theorem equal : Cert.algebraic_UkvIdeal_UkvRefIdeal := by
  intro m g m' g' _ hargs
  refine ⟨fun c => Cert.UkvIdeal.Spec.result m c, ?_, ?_⟩
  · exact (θ_run Cert.UkvIdeal.defs _ _).mono (fun r h c => ⟨(h c).1.trans (Cert.UkvIdeal.Spec.final m c), (h c).2⟩)
      (Cert.UkvIdeal.Value.run_blocks m g)
  · refine (θ_run Cert.UkvRefIdeal.defs _ _).mono (fun r h c => ⟨(h c).1.trans ?_, (h c).2⟩) (Cert.UkvRefIdeal.Value.run m' g')
    obtain ⟨h0, h1⟩ := hargs c
    rw [Cert.UkvRefIdeal.Read.val_main_v2_eq, h0, h1]
    funext i
    rw [Cert.UkvRefIdeal.Read.val_main_v2_apply]
    unfold Cert.UkvIdeal.Spec.result Cert.Blocks.rowCol
    refine Finset.sum_congr rfl fun k _ => congrArg₂ (· * ·) (congrArg _ (funext fun a => ?_)) (congrArg _ (funext fun a => ?_))
      <;> fin_cases a <;> rfl

end Cert.UkvClaims

end
-- ==== Proof.Merge.lean ====
/-
  The merge: each branch's output through its own projection, times the logistic function of its gate, the three summed.
  The kernel's blocks of 512 rows and 512 columns tile the result; the gates are three windows of one array.
-/
module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Blocks
public import Idealize.ShloMosaic.Lib.Quiescent

@[expose] public section

set_option maxRecDepth 16384

noncomputable section

namespace Cert.MergeIdeal.Spec

open Cert.Blocks Cert.MergeIdeal Cert.MergeIdeal.Gen Idealize.ShloMosaic Idealize.ShloMosaic.TcCoe Idealize.SL.Sem
open Idealize.ShloMosaic.Pipeline (Dat)

/-- Column `n` of branch `b`'s gates. -/
def gate (b : Nat) (hb : b < 3) (n : Fin 4096) : Fin 12288 := ⟨4096 * b + n.val, by have := n.isLt; omega⟩

/-- A branch's product, gated, at an index. -/
def gated {K : Nat} (b : Nat) (hb : b < 3) (g : S8704x12288.Idx → EReal) (x : (⟨2, ![8704, K]⟩ : Shape).Idx → EReal)
    (y : (⟨2, ![K, 4096]⟩ : Shape).Idx → EReal) (i : S8704x4096.Idx) : EReal :=
  Ideal.logistic (g (ix2 (i 0) (gate b hb (i 1)))) * rowCol (fun k => x (ix2 (i 0) k)) (fun k => y (ix2 k (i 1)))

/-- The gated sum, at an index. -/
def entry (x0 x1 : S8704x1536.Idx → EReal) (x2 : S8704x1024.Idx → EReal) (x3 x4 : S1536x4096.Idx → EReal) (x5 : S1024x4096.Idx → EReal)
    (x6 : S8704x12288.Idx → EReal) (i : S8704x4096.Idx) : EReal :=
  gated 0 (by decide) x6 x0 x3 i + gated 1 (by decide) x6 x1 x4 i + gated 2 (by decide) x6 x2 x5 i

theorem payload (g0 g1 g2 : S512x512.Idx → EReal) (x0 x1 : S512x1536.Idx → EReal) (x2 : S512x1024.Idx → EReal)
    (x3 x4 : S1536x512.Idx → EReal) (x5 : S1024x512.Idx → EReal) (j : S512x512.Idx) :
    k0_pay1 (F := Ideal) g0 x0 x3 g1 x1 x4 g2 x2 x5 j
      = Ideal.logistic (g0 j) * (∑ k : Fin 1536, x0 (ix2 (j 0) k) * x3 (ix2 k (j 1)))
        + Ideal.logistic (g1 j) * (∑ k : Fin 1536, x1 (ix2 (j 0) k) * x4 (ix2 k (j 1)))
        + Ideal.logistic (g2 j) * (∑ k : Fin 1024, x2 (ix2 (j 0) k) * x5 (ix2 k (j 1))) := by
  obtain ⟨r, n, rfl⟩ := exists_ix2 j
  show _ = Ideal.logistic (g0 (ix2 r n)) * (∑ k : Fin 1536, x0 (ix2 r k) * x3 (ix2 k n))
    + Ideal.logistic (g1 (ix2 r n)) * (∑ k : Fin 1536, x1 (ix2 r k) * x4 (ix2 k n))
    + Ideal.logistic (g2 (ix2 r n)) * (∑ k : Fin 1024, x2 (ix2 r k) * x5 (ix2 k n))
  unfold k0_pay1
  pointwise

/-- A block's gated product is the gated product's block. -/
theorem gated_block {K b p q : Nat} (hb : b < 3) {G : S8704x12288.Idx → EReal} {X : (⟨2, ![8704, K]⟩ : Shape).Idx → EReal}
    {Y : (⟨2, ![K, 4096]⟩ : Shape).Idx → EReal} {fg : S512x512.Idx → S8704x12288.Idx} {f0 : (⟨2, ![512, K]⟩ : Shape).Idx → (⟨2, ![8704, K]⟩ : Shape).Idx}
    {f1 : (⟨2, ![K, 512]⟩ : Shape).Idx → (⟨2, ![K, 4096]⟩ : Shape).Idx} {f2 : S512x512.Idx → S8704x4096.Idx}
    (hg : At 8704 12288 512 512 fg p (q + 8 * b)) (h0 : At 8704 K 512 K f0 p 0) (h1 : At K 4096 K 512 f1 0 q) (h2 : At 8704 4096 512 512 f2 p q)
    (j : S512x512.Idx) : Ideal.logistic (G (fg j)) * (∑ k : Fin K, X (f0 (ix2 (j 0) k)) * Y (f1 (ix2 k (j 1)))) = gated b hb G X Y (f2 j) := by
  refine congrArg₂ (fun a b : EReal => Ideal.logistic a * b) (congrArg G (ix2_val _ _ _ ((hg j).1.trans (h2 j).1.symm) ?_)) (dot_block h0 h1 h2 j)
  refine (hg j).2.trans ?_
  show _ = 4096 * b + (f2 j 1).val
  rw [(h2 j).2]
  omega

variable (m : (ℓ : Loc nD τ sig) → Buf (Elt Ideal) ℓ)

theorem index : ∀ t : Fin grid0.N, win0_0.index t 0 = t.val / 8 ∧ win0_0.index t 1 = 0
    ∧ win0_1.index t 0 = t.val / 8 ∧ win0_1.index t 1 = 0
    ∧ win0_2.index t 0 = t.val / 8 ∧ win0_2.index t 1 = 0
    ∧ win0_3.index t 0 = 0 ∧ win0_3.index t 1 = t.val % 8
    ∧ win0_4.index t 0 = 0 ∧ win0_4.index t 1 = t.val % 8
    ∧ win0_5.index t 0 = 0 ∧ win0_5.index t 1 = t.val % 8
    ∧ win0_6.index t 0 = t.val / 8 ∧ win0_6.index t 1 = t.val % 8 + 8 * 0
    ∧ win0_7.index t 0 = t.val / 8 ∧ win0_7.index t 1 = t.val % 8 + 8 * 1
    ∧ win0_8.index t 0 = t.val / 8 ∧ win0_8.index t 1 = t.val % 8 + 8 * 2
    ∧ win0_9.index t 0 = t.val / 8 ∧ win0_9.index t 1 = t.val % 8 := by
  decide +kernel

/-- Where each window's block of a grid point lies. -/
theorem place (t : Fin grid0.N) : At 8704 1536 512 1536 (fun j => (win0_0.rect t).emb j) (t.val / 8) (0)
    ∧ At 8704 1536 512 1536 (fun j => (win0_1.rect t).emb j) (t.val / 8) (0)
    ∧ At 8704 1024 512 1024 (fun j => (win0_2.rect t).emb j) (t.val / 8) (0)
    ∧ At 1536 4096 1536 512 (fun j => (win0_3.rect t).emb j) (0) (t.val % 8)
    ∧ At 1536 4096 1536 512 (fun j => (win0_4.rect t).emb j) (0) (t.val % 8)
    ∧ At 1024 4096 1024 512 (fun j => (win0_5.rect t).emb j) (0) (t.val % 8)
    ∧ At 8704 12288 512 512 (fun j => (win0_6.rect t).emb j) (t.val / 8) (t.val % 8 + 8 * 0)
    ∧ At 8704 12288 512 512 (fun j => (win0_7.rect t).emb j) (t.val / 8) (t.val % 8 + 8 * 1)
    ∧ At 8704 12288 512 512 (fun j => (win0_8.rect t).emb j) (t.val / 8) (t.val % 8 + 8 * 2)
    ∧ At 8704 4096 512 512 (fun j => (win0_9.rect t).emb j) (t.val / 8) (t.val % 8) := by
  obtain ⟨p0, q0, p1, q1, p2, q2, p3, q3, p4, q4, p5, q5, p6, q6, p7, q7, p8, q8, p9, q9⟩ := index t
  exact ⟨at_of (fun j a => win0_0.rect_emb_val t j a rfl) p0 q0,
    at_of (fun j a => win0_1.rect_emb_val t j a rfl) p1 q1,
    at_of (fun j a => win0_2.rect_emb_val t j a rfl) p2 q2,
    at_of (fun j a => win0_3.rect_emb_val t j a rfl) p3 q3,
    at_of (fun j a => win0_4.rect_emb_val t j a rfl) p4 q4,
    at_of (fun j a => win0_5.rect_emb_val t j a rfl) p5 q5,
    at_of (fun j a => win0_6.rect_emb_val t j a rfl) p6 q6,
    at_of (fun j a => win0_7.rect_emb_val t j a rfl) p7 q7,
    at_of (fun j a => win0_8.rect_emb_val t j a rfl) p8 q8,
    at_of (fun j a => win0_9.rect_emb_val t j a rfl) p9 q9⟩

/-- The call's result on device `c`, as a function of an index. -/
def result (c : Dev nD) : S8704x4096.Idx → EReal :=
  entry (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The result array after the run. -/
theorem final (c : Dev nD) : (dats m 0 c).arrAt 9 cfg0.N = result m c := by
  refine (dats m 0 c).arrAt_eq_of_cover 9 _ (fun t _ => ?_) fun (i : S8704x4096.Idx) => ?_
  · rw [Value.flushed9]
    unfold out0_9
    rw [View.canon_unit_zero hz, View.ld_unit_zero hz, View.ld_unit_zero hz, View.ld_unit_zero hz, View.ld_unit_zero hz, View.ld_unit_zero hz, View.ld_unit_zero hz, View.ld_unit_zero hz, View.ld_unit_zero hz, View.ld_unit_zero hz]
    exact funext fun j => (payload _ _ _ _ _ _ _ _ _ j).trans (congrArg₂ (fun a b : EReal => a + b) (congrArg₂ (fun a b : EReal => a + b)
      (gated_block (by decide) (G := (m ((c : Thread nD τ).loc main_arg6))) (X := (m ((c : Thread nD τ).loc main_arg0))) (Y := (m ((c : Thread nD τ).loc main_arg3)))
        (place t).2.2.2.2.2.2.1 (place t).1 (place t).2.2.2.1 (place t).2.2.2.2.2.2.2.2.2 j)
      (gated_block (by decide) (G := (m ((c : Thread nD τ).loc main_arg6))) (X := (m ((c : Thread nD τ).loc main_arg1))) (Y := (m ((c : Thread nD τ).loc main_arg4)))
        (place t).2.2.2.2.2.2.2.1 (place t).2.1 (place t).2.2.2.2.1 (place t).2.2.2.2.2.2.2.2.2 j))
      (gated_block (by decide) (G := (m ((c : Thread nD τ).loc main_arg6))) (X := (m ((c : Thread nD τ).loc main_arg2))) (Y := (m ((c : Thread nD τ).loc main_arg5)))
        (place t).2.2.2.2.2.2.2.2.1 (place t).2.2.1 (place t).2.2.2.2.2.1 (place t).2.2.2.2.2.2.2.2.2 j))
  · have h0 : (i 0).val < 8704 := (i 0).isLt
    have h1 : (i 1).val < 4096 := (i 1).isLt
    obtain ⟨t, ht⟩ : ∃ t : Fin cfg0.N, t.val = (i 0).val / 512 * 8 + (i 1).val / 512 :=
      ⟨⟨_, by show (i 0).val / 512 * 8 + (i 1).val / 512 < grid0.N; rw [Gen.N_0]; omega⟩, rfl⟩
    obtain ⟨j, hj⟩ := ((place t).2.2.2.2.2.2.2.2.2).reach i (by decide) (by decide) (by omega) (by omega)
    refine ⟨t, flush0_9 t, ?_⟩
    show i ∈ ((View.whole main_v0).slice (win0_9.rect t)).set
    rw [View.set_slice_whole, ← Rect.map_emb_univ]
    exact Finset.mem_map.2 ⟨j, Finset.mem_univ _, hj⟩

end Cert.MergeIdeal.Spec

namespace Cert.MergeRefIdeal.Spec

open Cert.Blocks Cert.MergeRefIdeal Cert.MergeRefIdeal.Read Cert.MergeIdeal.Spec Idealize.ShloMosaic

variable (x0 x1 : S8704x1536.Idx → EReal) (x2 : S8704x1024.Idx → EReal) (x3 x4 : S1536x4096.Idx → EReal) (x5 : S1024x4096.Idx → EReal)
  (x6 : S8704x12288.Idx → EReal) (r : Fin 8704) (n : Fin 4096)

/-- The logistic function as the reference writes it, of a branch's gate. -/
theorem gate_of (b : Nat) (hb : b < 3) (i : S8704x12288.Idx) (h0 : (i 0).val = r.val) (h1 : (i 1).val = 4096 * b + n.val) :
    Ideal.div (Ideal.ofBits .f32 0x3F800000#32) (Ideal.ofBits .f32 0x3F800000#32 + Ideal.exp (-x6 i)) = Ideal.logistic (x6 (ix2 r (gate b hb n))) := by
  rw [Ideal.ofBits_one_f32, ix2_val i r (gate b hb n) h0 h1]
  rfl

theorem gate_moba : val_main_v8 (F := Ideal) x6 (ix2 r n) = Ideal.logistic (x6 (ix2 r (gate 0 (by omega) n))) := by
  rw [val_main_v8_apply, val_main_v6_apply, val_main_v4_apply, val_main_v3_apply, val_main_v7_apply,
    val_main_v5_apply, val_main_cst_apply, val_main_cst_0_apply, val_main_v0_apply]
  exact gate_of x6 r n 0 (by omega) (idx_main_v0 (ix2 r n)) rfl (by show _ = 4096 * 0 + n.val; dsimp; omega)

theorem gate_mla : val_main_v18 (F := Ideal) x6 (ix2 r n) = Ideal.logistic (x6 (ix2 r (gate 1 (by omega) n))) := by
  rw [val_main_v18_apply, val_main_v16_apply, val_main_v14_apply, val_main_v13_apply, val_main_v17_apply,
    val_main_v15_apply, val_main_cst_1_apply, val_main_cst_2_apply, val_main_v1_apply]
  exact gate_of x6 r n 1 (by omega) (idx_main_v1 (ix2 r n)) rfl rfl

theorem gate_mem : val_main_v29 (F := Ideal) x6 (ix2 r n) = Ideal.logistic (x6 (ix2 r (gate 2 (by omega) n))) := by
  rw [val_main_v29_apply, val_main_v27_apply, val_main_v25_apply, val_main_v24_apply, val_main_v28_apply,
    val_main_v26_apply, val_main_cst_3_apply, val_main_cst_4_apply, val_main_v2_apply]
  exact gate_of x6 r n 2 (by omega) (idx_main_v2 (ix2 r n)) rfl rfl

theorem result : val_main_v35 (F := Ideal) x0 x1 x2 x3 x4 x5 x6 (ix2 r n) = entry x0 x1 x2 x3 x4 x5 x6 (ix2 r n) := by
  rw [val_main_v35_apply, val_main_v34_apply, val_main_v23_apply, val_main_v12_apply, val_main_v22_apply, val_main_v33_apply,
    val_main_v11_apply, val_main_v21_apply, val_main_v32_apply, gate_moba, gate_mla, gate_mem]
  unfold entry gated rowCol
  refine congrArg₂ (fun a b : EReal => a + b) (congrArg₂ (fun a b : EReal => a + b) ?_ ?_) ?_ <;>
    refine congrArg (fun a : EReal => _ * a) (Finset.sum_congr rfl fun k _ =>
      congrArg₂ (fun a b : EReal => a * b) (congrArg _ (funext fun a => ?_)) (congrArg _ (funext fun a => ?_))) <;>
    fin_cases a <;> rfl

end Cert.MergeRefIdeal.Spec

namespace Cert.MergeClaims

open Idealize.ShloMosaic Idealize.ShloMosaic.TcCoe Idealize.SL.Sem

theorem frame_kernel : Cert.quiescent_Merge := fun m ρ _ => Cert.Merge.Gen.frame m ρ
theorem frame_ideal : Cert.quiescent_MergeIdeal := fun m ρ _ => Cert.MergeIdeal.Gen.frame m ρ

theorem frame_reference : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem equal : Cert.algebraic_MergeIdeal_MergeRefIdeal := by
  intro m g m' g' _ hargs
  refine ⟨fun c => Cert.MergeIdeal.Spec.result m c, ?_, ?_⟩
  · exact (θ_run Cert.MergeIdeal.defs _ _).mono (fun r h c => ⟨(h c).1.trans (Cert.MergeIdeal.Spec.final m c), (h c).2⟩)
      (Cert.MergeIdeal.Value.run_blocks m g)
  · refine (θ_run Cert.MergeRefIdeal.defs _ _).mono (fun r h c => ⟨(h c).1.trans ?_, (h c).2⟩) (Cert.MergeRefIdeal.Value.run m' g')
    obtain ⟨h0, h1, h2, h3, h4, h5, h6⟩ := hargs c
    rw [Cert.MergeRefIdeal.Read.val_main_v35_eq, h0, h1, h2, h3, h4, h5, h6]
    funext i
    obtain ⟨r, n, rfl⟩ := Cert.Blocks.exists_ix2 i
    exact Cert.MergeRefIdeal.Spec.result _ _ _ _ _ _ _ r n

end Cert.MergeClaims

end
-- ==== Proof.States.lean ====
/-
  The regions of the new cache entries' program: each normalising region leaves its rows normalised, each product region the product.
-/
module

public import proofs.«01_k».proof.Defs
public import proofs.«01_k».proof.Proof.Gen.StatesIdeal.Frame
public import proofs.«01_k».proof.Proof.Blocks

@[expose] public section

set_option maxRecDepth 16384

noncomputable section

namespace Cert.StatesIdeal.Spec

open Cert.Blocks Cert.StatesIdeal Cert.StatesIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem payload0 (g : S1x4096.Idx → EReal) (x : S256x4096.Idx → EReal) (j : S256x4096.Idx) :
    k0_pay1 (F := Ideal) g x j = normed 0x45800000#32 (fun e => x (ix2 (j 0) e)) (fun e => g (ix2 0 e)) (j 1) := by
  obtain ⟨r, k, rfl⟩ := exists_ix2 j
  show _ = normed 0x45800000#32 (fun e => x (ix2 r e)) (fun e => g (ix2 0 e)) k
  unfold k0_pay1 normed
  pointwise

theorem index0 : ∀ t : Fin grid0.N, win0_0.index t 0 = t.val ∧ win0_0.index t 1 = 0 ∧ win0_1.index t 0 = 0 ∧ win0_1.index t 1 = 0 ∧ win0_2.index t 0 = t.val ∧ win0_2.index t 1 = 0 := by
  decide +kernel

theorem place0 (t : Fin grid0.N) : At 8704 4096 256 4096 (fun j => (win0_0.rect t).emb j) (t.val) (0)
    ∧ At 1 4096 1 4096 (fun j => (win0_1.rect t).emb j) (0) (0)
    ∧ At 8704 4096 256 4096 (fun j => (win0_2.rect t).emb j) (t.val) (0) := by
  obtain ⟨p0, q0, p1, q1, p2, q2⟩ := index0 t
  exact ⟨at_of (fun j a => win0_0.rect_emb_val t j a rfl) p0 q0,
    at_of (fun j a => win0_1.rect_emb_val t j a rfl) p1 q1,
    at_of (fun j a => win0_2.rect_emb_val t j a rfl) p2 q2⟩

/-- Region 0 leaves each row normalised. -/
theorem final0 (c : Dev nD) : (dat0 V c).arrAt 2 cfg0.N = fun i : S8704x4096.Idx =>
    normed 0x45800000#32 (fun e => V c main_v2 (ix2 (i 0) e)) (fun e => V c main_v3 (ix2 0 e)) (i 1) := by
  refine (dat0 V c).arrAt_eq_of_cover 2 _ (fun t _ => ?_) fun (i : S8704x4096.Idx) => ?_
  · show (cfg0.win 2).cut (grid0.coords t) ((dat0 V c).after 2 t) = _
    rw [after0_2]
    unfold out0_2
    rw [View.canon_unit_zero hz, View.ld_unit_zero hz, View.ld_unit_zero hz]
    exact funext fun j => (payload0 _ _ j).trans (norm_block (X := V c main_v2) (G := V c main_v3) (place0 t).1 (place0 t).2.1 (place0 t).2.2 j)
  · have h0 : (i 0).val < 8704 := (i 0).isLt
    have h1 : (i 1).val < 4096 := (i 1).isLt
    obtain ⟨t, ht⟩ : ∃ t : Fin cfg0.N, t.val = (i 0).val / 256 := ⟨⟨_, by show (i 0).val / 256 < grid0.N; rw [Gen.N_0]; omega⟩, rfl⟩
    obtain ⟨j, hj⟩ := (place0 t).2.2.reach i (by decide) (by decide) (by omega) (by omega)
    refine ⟨t, flush0_2 t, ?_⟩
    show i ∈ ((View.whole main_v4).slice (win0_2.rect t)).set
    rw [View.set_slice_whole, ← Rect.map_emb_univ]
    exact Finset.mem_map.2 ⟨j, Finset.mem_univ _, hj⟩

theorem payload1 (x : S512x4096.Idx → EReal) (y : S4096x256.Idx → EReal) (j : S512x256.Idx) :
    k1_pay1 (F := Ideal) x y j = ∑ k : Fin 4096, x (ix2 (j 0) k) * y (ix2 k (j 1)) := by
  obtain ⟨r, n, rfl⟩ := exists_ix2 j
  show _ = ∑ k : Fin 4096, x (ix2 r k) * y (ix2 k n)
  unfold k1_pay1
  pointwise

theorem index1 : ∀ t : Fin grid1.N, win1_0.index t 0 = t.val / 17 ∧ win1_0.index t 1 = 0 ∧ win1_1.index t 0 = 0 ∧ win1_1.index t 1 = t.val % 17 ∧ win1_2.index t 0 = t.val / 17 ∧ win1_2.index t 1 = t.val % 17 := by
  decide +kernel

theorem place1 (t : Fin grid1.N) : At 8704 4096 512 4096 (fun j => (win1_0.rect t).emb j) (t.val / 17) (0)
    ∧ At 4096 4352 4096 256 (fun j => (win1_1.rect t).emb j) (0) (t.val % 17)
    ∧ At 8704 4352 512 256 (fun j => (win1_2.rect t).emb j) (t.val / 17) (t.val % 17) := by
  obtain ⟨p0, q0, p1, q1, p2, q2⟩ := index1 t
  exact ⟨at_of (fun j a => win1_0.rect_emb_val t j a rfl) p0 q0,
    at_of (fun j a => win1_1.rect_emb_val t j a rfl) p1 q1,
    at_of (fun j a => win1_2.rect_emb_val t j a rfl) p2 q2⟩

/-- Region 1 leaves the product. -/
theorem final1 (c : Dev nD) : (dat1 V c).arrAt 2 cfg1.N = fun i : S8704x4352.Idx =>
    rowCol (fun k => V c main_v4 (ix2 (i 0) k)) (fun k => V c main_v8 (ix2 k (i 1))) := by
  refine (dat1 V c).arrAt_eq_of_cover 2 _ (fun t _ => ?_) fun (i : S8704x4352.Idx) => ?_
  · show (cfg1.win 2).cut (grid1.coords t) ((dat1 V c).after 2 t) = _
    rw [after1_2]
    unfold out1_2
    rw [View.canon_unit_zero hz, View.ld_unit_zero hz, View.ld_unit_zero hz]
    exact funext fun j => (payload1 _ _ j).trans (dot_block (X := V c main_v4) (Y := V c main_v8) (place1 t).1 (place1 t).2.1 (place1 t).2.2 j)
  · have h0 : (i 0).val < 8704 := (i 0).isLt
    have h1 : (i 1).val < 4352 := (i 1).isLt
    obtain ⟨t, ht⟩ : ∃ t : Fin cfg1.N, t.val = (i 0).val / 512 * 17 + (i 1).val / 256 := ⟨⟨_, by show (i 0).val / 512 * 17 + (i 1).val / 256 < grid1.N; rw [Gen.N_1]; omega⟩, rfl⟩
    obtain ⟨j, hj⟩ := (place1 t).2.2.reach i (by decide) (by decide) (by omega) (by omega)
    refine ⟨t, flush1_2 t, ?_⟩
    show i ∈ ((View.whole main_v14).slice (win1_2.rect t)).set
    rw [View.set_slice_whole, ← Rect.map_emb_univ]
    exact Finset.mem_map.2 ⟨j, Finset.mem_univ _, hj⟩

theorem payload2 (x : S512x4096.Idx → EReal) (y : S4096x128.Idx → EReal) (j : S512x128.Idx) :
    k2_pay1 (F := Ideal) x y j = ∑ k : Fin 4096, x (ix2 (j 0) k) * y (ix2 k (j 1)) := by
  obtain ⟨r, n, rfl⟩ := exists_ix2 j
  show _ = ∑ k : Fin 4096, x (ix2 r k) * y (ix2 k n)
  unfold k2_pay1
  pointwise

theorem index2 : ∀ t : Fin grid2.N, win2_0.index t 0 = t.val ∧ win2_0.index t 1 = 0 ∧ win2_1.index t 0 = 0 ∧ win2_1.index t 1 = 0 ∧ win2_2.index t 0 = t.val ∧ win2_2.index t 1 = 0 := by
  decide +kernel

theorem place2 (t : Fin grid2.N) : At 8704 4096 512 4096 (fun j => (win2_0.rect t).emb j) (t.val) (0)
    ∧ At 4096 128 4096 128 (fun j => (win2_1.rect t).emb j) (0) (0)
    ∧ At 8704 128 512 128 (fun j => (win2_2.rect t).emb j) (t.val) (0) := by
  obtain ⟨p0, q0, p1, q1, p2, q2⟩ := index2 t
  exact ⟨at_of (fun j a => win2_0.rect_emb_val t j a rfl) p0 q0,
    at_of (fun j a => win2_1.rect_emb_val t j a rfl) p1 q1,
    at_of (fun j a => win2_2.rect_emb_val t j a rfl) p2 q2⟩

/-- Region 2 leaves the product. -/
theorem final2 (c : Dev nD) : (dat2 V c).arrAt 2 cfg2.N = fun i : S8704x128.Idx =>
    rowCol (fun k => V c main_v4 (ix2 (i 0) k)) (fun k => V c main_v13 (ix2 k (i 1))) := by
  refine (dat2 V c).arrAt_eq_of_cover 2 _ (fun t _ => ?_) fun (i : S8704x128.Idx) => ?_
  · show (cfg2.win 2).cut (grid2.coords t) ((dat2 V c).after 2 t) = _
    rw [after2_2]
    unfold out2_2
    rw [View.canon_unit_zero hz, View.ld_unit_zero hz, View.ld_unit_zero hz]
    exact funext fun j => (payload2 _ _ j).trans (dot_block (X := V c main_v4) (Y := V c main_v13) (place2 t).1 (place2 t).2.1 (place2 t).2.2 j)
  · have h0 : (i 0).val < 8704 := (i 0).isLt
    have h1 : (i 1).val < 128 := (i 1).isLt
    obtain ⟨t, ht⟩ : ∃ t : Fin cfg2.N, t.val = (i 0).val / 512 := ⟨⟨_, by show (i 0).val / 512 < grid2.N; rw [Gen.N_2]; omega⟩, rfl⟩
    obtain ⟨j, hj⟩ := (place2 t).2.2.reach i (by decide) (by decide) (by omega) (by omega)
    refine ⟨t, flush2_2 t, ?_⟩
    show i ∈ ((View.whole main_v15).slice (win2_2.rect t)).set
    rw [View.set_slice_whole, ← Rect.map_emb_univ]
    exact Finset.mem_map.2 ⟨j, Finset.mem_univ _, hj⟩

theorem heads3 : 128 ∣ 256 := by decide

theorem index3 : ∀ t : Fin grid3.N, win3_0.index t 0 = t.val ∧ win3_0.index t 1 = 0 ∧ win3_1.index t 0 = 0 ∧ win3_1.index t 1 = 0 ∧ win3_2.index t 0 = t.val ∧ win3_2.index t 1 = 0 := by
  decide +kernel

theorem place3 (t : Fin grid3.N) : At 8704 256 256 256 (fun j => (win3_0.rect t).emb j) (t.val) (0)
    ∧ At 1 128 1 128 (fun j => (win3_1.rect t).emb j) (0) (0)
    ∧ At 8704 256 256 256 (fun j => (win3_2.rect t).emb j) (t.val) (0) := by
  obtain ⟨p0, q0, p1, q1, p2, q2⟩ := index3 t
  exact ⟨at_of (fun j a => win3_0.rect_emb_val t j a rfl) p0 q0,
    at_of (fun j a => win3_1.rect_emb_val t j a rfl) p1 q1,
    at_of (fun j a => win3_2.rect_emb_val t j a rfl) p2 q2⟩

theorem out3 (x : S256x256.Idx → EReal) (g : S1x128.Idx → EReal) : out3_2 (F := Ideal) x g = headed 128 heads3 0x43000000#32 x g := by
  unfold out3_2
  rw [View.ld_unit_zero hz]
  refine funext fun y => View.canon_apply_of_pieces _ _ (fun p hp => ?_) y (cover3_2 _ _ y)
  simp only [List.mem_cons, List.not_mem_nil, or_false] at hp
  rcases hp with rfl | rfl
  · refine headed_piece x g 1 (by decide) _ fun r k => ?_
    unfold k3_pay3 k3_pay1 normed
    pointwise
  · refine headed_piece x g 0 (by decide) _ fun r k => ?_
    unfold k3_pay2 k3_pay1 normed
    pointwise

/-- Region 3 leaves each head's columns normalised. -/
theorem final3 (c : Dev nD) : (dat3 V c).arrAt 2 cfg3.N = headed 128 heads3 0x43000000#32 (V c main_v16) (V c main_v17) := by
  refine (dat3 V c).arrAt_eq_of_cover 2 _ (fun t _ => ?_) fun (i : S8704x256.Idx) => ?_
  · show (cfg3.win 2).cut (grid3.coords t) ((dat3 V c).after 2 t) = _
    rw [after3_2]
    refine (congrArg ((cfg3.win 2).cut (grid3.coords t)) (out3 (iblk3 V c 0 t) (iblk3 V c 1 t))).trans (funext fun j => ?_)
    exact headed_block (X := V c main_v16) (G := V c main_v17) (place3 t).1 (place3 t).2.1 (place3 t).2.2 j
  · have h0 : (i 0).val < 8704 := (i 0).isLt
    have h1 : (i 1).val < 256 := (i 1).isLt
    obtain ⟨t, ht⟩ : ∃ t : Fin cfg3.N, t.val = (i 0).val / 256 := ⟨⟨_, by show (i 0).val / 256 < grid3.N; rw [Gen.N_3]; omega⟩, rfl⟩
    obtain ⟨j, hj⟩ := (place3 t).2.2.reach i (by decide) (by decide) (by omega) (by omega)
    refine ⟨t, flush3_2 t, ?_⟩
    show i ∈ ((View.whole main_v18).slice (win3_2.rect t)).set
    rw [View.set_slice_whole, ← Rect.map_emb_univ]
    exact Finset.mem_map.2 ⟨j, Finset.mem_univ _, hj⟩

theorem payload4 (g : S1x512.Idx → EReal) (x : S256x512.Idx → EReal) (j : S256x512.Idx) :
    k4_pay1 (F := Ideal) g x j = normed 0x44000000#32 (fun e => x (ix2 (j 0) e)) (fun e => g (ix2 0 e)) (j 1) := by
  obtain ⟨r, k, rfl⟩ := exists_ix2 j
  show _ = normed 0x44000000#32 (fun e => x (ix2 r e)) (fun e => g (ix2 0 e)) k
  unfold k4_pay1 normed
  pointwise

theorem index4 : ∀ t : Fin grid4.N, win4_0.index t 0 = t.val ∧ win4_0.index t 1 = 0 ∧ win4_1.index t 0 = 0 ∧ win4_1.index t 1 = 0 ∧ win4_2.index t 0 = t.val ∧ win4_2.index t 1 = 0 := by
  decide +kernel

theorem place4 (t : Fin grid4.N) : At 8704 512 256 512 (fun j => (win4_0.rect t).emb j) (t.val) (0)
    ∧ At 1 512 1 512 (fun j => (win4_1.rect t).emb j) (0) (0)
    ∧ At 8704 512 256 512 (fun j => (win4_2.rect t).emb j) (t.val) (0) := by
  obtain ⟨p0, q0, p1, q1, p2, q2⟩ := index4 t
  exact ⟨at_of (fun j a => win4_0.rect_emb_val t j a rfl) p0 q0,
    at_of (fun j a => win4_1.rect_emb_val t j a rfl) p1 q1,
    at_of (fun j a => win4_2.rect_emb_val t j a rfl) p2 q2⟩

/-- Region 4 leaves each row normalised. -/
theorem final4 (c : Dev nD) : (dat4 V c).arrAt 2 cfg4.N = fun i : S8704x512.Idx =>
    normed 0x44000000#32 (fun e => V c main_v20 (ix2 (i 0) e)) (fun e => V c main_v21 (ix2 0 e)) (i 1) := by
  refine (dat4 V c).arrAt_eq_of_cover 2 _ (fun t _ => ?_) fun (i : S8704x512.Idx) => ?_
  · show (cfg4.win 2).cut (grid4.coords t) ((dat4 V c).after 2 t) = _
    rw [after4_2]
    unfold out4_2
    rw [View.canon_unit_zero hz, View.ld_unit_zero hz, View.ld_unit_zero hz]
    exact funext fun j => (payload4 _ _ j).trans (norm_block (X := V c main_v20) (G := V c main_v21) (place4 t).1 (place4 t).2.1 (place4 t).2.2 j)
  · have h0 : (i 0).val < 8704 := (i 0).isLt
    have h1 : (i 1).val < 512 := (i 1).isLt
    obtain ⟨t, ht⟩ : ∃ t : Fin cfg4.N, t.val = (i 0).val / 256 := ⟨⟨_, by show (i 0).val / 256 < grid4.N; rw [Gen.N_4]; omega⟩, rfl⟩
    obtain ⟨j, hj⟩ := (place4 t).2.2.reach i (by decide) (by decide) (by omega) (by omega)
    refine ⟨t, flush4_2 t, ?_⟩
    show i ∈ ((View.whole main_v22).slice (win4_2.rect t)).set
    rw [View.set_slice_whole, ← Rect.map_emb_univ]
    exact Finset.mem_map.2 ⟨j, Finset.mem_univ _, hj⟩

end Cert.StatesIdeal.Spec

end
-- ==== Proof.StatesClaims.lean ====
/-
  The new cache entries: what the program's three results are at the end of a run, and the same of the reference.
-/
module

public import proofs.«01_k».proof.Proof.States
public import proofs.«01_k».proof.Proof.Gen.States.Frame
public import proofs.«01_k».proof.Proof.Gen.StatesRefIdeal.Run
public import proofs.«01_k».proof.Proof.Gen.StatesRefIdeal.Read
public import Idealize.ShloMosaic.Lib.Pointwise
public import Idealize.ShloMosaic.Lib.Quiescent

@[expose] public section

set_option maxRecDepth 16384

noncomputable section

namespace Cert.StatesIdeal.Spec

open Cert.Blocks Cert.StatesIdeal Cert.StatesIdeal.Gen Idealize.ShloMosaic Idealize.ShloMosaic.TcCoe Idealize.SL.Sem

section Host
variable (W : Valuation τ sig (Elt Ideal))

theorem host0_tokens : StableHlo.after (hostOps0 (F := Ideal)) W (Proc.devRef .tc main_v2)
    = Cert.StatesRefIdeal.Read.val_main_v2 (F := Ideal) (W (Proc.devRef .tc main_arg0)) (W (Proc.devRef .tc main_arg1)) := by
  after_results_simp <;> rfl

theorem host0_gain (e : Fin 4096) : StableHlo.after (hostOps0 (F := Ideal)) W (Proc.devRef .tc main_v3) (ix2 0 e) = W (Proc.devRef .tc main_arg2) (ix1 e) := by
  after_results_simp
  pointwise

/-- The column of the layer's input weights that a column of the first product is. -/
def wcol (j : Fin 4352) : Fin 16704 := if j.val < 3328 then ⟨j.val, by omega⟩ else ⟨j.val + 64, by omega⟩

theorem host1_weights (k : Fin 4096) (j : Fin 4352) :
    StableHlo.after (hostOps1 (F := Ideal)) W (Proc.devRef .tc main_v8) (ix2 k j) = W (Proc.devRef .tc main_arg3) (ix2 k (wcol j)) := by
  after_results_simp
  pointwise
  unfold wcol
  split
  · after_results_simp
    pointwise
  · after_results_simp
    pointwise
    refine congrArg (fun n => W (Proc.devRef .tc main_arg3) (ix2 k n)) (Fin.ext ?_)
    show 3392 + (j.val - 3328) = j.val + 64
    omega

theorem host1_rope (k : Fin 4096) (j : Fin 64) :
    StableHlo.after (hostOps1 (F := Ideal)) W (Proc.devRef .tc main_v13) (ix2 k (⟨j.val, by omega⟩ : Fin 128))
      = W (Proc.devRef .tc main_arg3) (ix2 k (⟨3328 + j.val, by omega⟩ : Fin 16704)) := by
  after_results_simp
  pointwise
  after_results_simp
  pointwise

theorem host3_keys (r : Fin 8704) (n : Fin 256) :
    StableHlo.after (hostOps3 (F := Ideal)) W (Proc.devRef .tc main_v16) (ix2 r n) = W (Proc.devRef .tc main_v14) (ix2 r (⟨1536 + n.val, by omega⟩ : Fin 4352)) := by
  after_results_simp
  pointwise

theorem host3_gain (e : Fin 128) : StableHlo.after (hostOps3 (F := Ideal)) W (Proc.devRef .tc main_v17) (ix2 0 e) = W (Proc.devRef .tc main_arg4) (ix1 e) := by
  after_results_simp
  pointwise

theorem host4_values (r : Fin 8704) (n : Fin 256) :
    StableHlo.after (hostOps4 (F := Ideal)) W (Proc.devRef .tc main_v19) (ix2 r n) = W (Proc.devRef .tc main_v14) (ix2 r (⟨1792 + n.val, by omega⟩ : Fin 4352)) := by
  after_results_simp
  pointwise

theorem host4_latents (r : Fin 8704) (n : Fin 512) :
    StableHlo.after (hostOps4 (F := Ideal)) W (Proc.devRef .tc main_v20) (ix2 r n) = W (Proc.devRef .tc main_v14) (ix2 r (⟨2816 + n.val, by omega⟩ : Fin 4352)) := by
  after_results_simp
  pointwise

theorem host4_gain (e : Fin 512) : StableHlo.after (hostOps4 (F := Ideal)) W (Proc.devRef .tc main_v21) (ix2 0 e) = W (Proc.devRef .tc main_arg5) (ix1 e) := by
  after_results_simp
  pointwise

theorem host5_latents (A : Cert.StatesRefIdeal.S8704x512.Idx → EReal) (B : Cert.StatesRefIdeal.S8704x64.Idx → EReal)
    (hA : W (Proc.devRef .tc main_v22) = A) (hB : ∀ (r : Fin 8704) (n : Fin 64), W (Proc.devRef .tc main_v15) (ix2 r (⟨n.val, by omega⟩ : Fin 128)) = B (ix2 r n)) :
    StableHlo.after (hostOps5 (F := Ideal)) W (Proc.devRef .tc main_v24)
      = concatenate Cert.StatesRefIdeal.S8704x576 1 [⟨Cert.StatesRefIdeal.S8704x512, A⟩, ⟨Cert.StatesRefIdeal.S8704x64, B⟩] concatenates_S8704x512_S8704x64_S8704x576_d1 := by
  after_results_simp
  have hb : extractStridedSlice S8704x64 ![0, 0] (W (Proc.devRef .tc main_v15)) slices_S8704x128_S8704x64_0_0 = B := funext fun i => by
    obtain ⟨r, n, rfl⟩ := exists_ix2 i
    rw [← hB]
    pointwise
  refine congrArg₂ (fun (a : S8704x512.Idx → EReal) (b : S8704x64.Idx → EReal) =>
    concatenate S8704x576 1 [⟨S8704x512, a⟩, ⟨S8704x64, b⟩] concatenates_S8704x512_S8704x64_S8704x576_d1) ?_ ?_
  · refine Eq.trans ?_ hA
    after_results_simp
  · refine Eq.trans ?_ hb
    after_results_simp

end Host

variable (m : (ℓ : Loc nD τ sig) → Buf (Elt Ideal) ℓ) (ρ : Dev nD → PrngReg) (c : Dev nD)

/-- The tokens' normalised states. -/
def hidden (r : Fin 8704) (k : Fin 4096) : EReal :=
  normed 0x45800000#32 (fun e => Cert.StatesRefIdeal.Read.val_main_v2 (F := Ideal) (m ((c : Thread nD τ).loc main_arg0)) (m ((c : Thread nD τ).loc main_arg1)) (ix2 r e))
    (fun e => m ((c : Thread nD τ).loc main_arg2) (ix1 e)) k

/-- The layer's input product, at a row and a column. -/
def proj (r : Fin 8704) (j : Fin 16704) : EReal :=
  rowCol (hidden m c r) (fun k => m ((c : Thread nD τ).loc main_arg3) (ix2 k j))

theorem at_hidden : W2 m ρ c (Proc.devRef .tc main_v4) = fun i : S8704x4096.Idx => hidden m c (i 0) (i 1) := by
  refine (W2_arr m ρ c 2).trans ((final0 (V1 m ρ) c).trans (funext fun i => ?_))
  refine congrFun (congrArg₂ (normed _) (funext fun e => congrFun (host0_tokens (W0 m ρ c)) _) (funext fun e => host0_gain (W0 m ρ c) e)) (i 1)

theorem w3_hidden : W3 m ρ c (Proc.devRef .tc main_v4) = fun i : S8704x4096.Idx => hidden m c (i 0) (i 1) :=
  (W3_of m ρ c main_v4 (by decide)).trans (at_hidden m ρ c)

theorem w2_weights : W2 m ρ c (Proc.devRef .tc main_arg3) = m ((c : Thread nD τ).loc main_arg3) := W2_args m ρ c main_arg3 (by decide)

theorem at_proj (r : Fin 8704) (j : Fin 4352) : W5 m ρ c (Proc.devRef .tc main_v14) (ix2 r j) = proj m c r (wcol j) := by
  refine (congrFun ((W5_of m ρ c main_v14 (by decide)).trans ((W4_arr m ρ c 2).trans (final1 (V3 m ρ) c))) (ix2 r j)).trans ?_
  refine congrArg₂ rowCol (funext fun k => congrFun (w3_hidden m ρ c) (ix2 r k)) (funext fun k => ?_)
  exact (host1_weights (W2 m ρ c) k j).trans (congrFun (w2_weights m ρ c) _)

theorem at_rope (r : Fin 8704) (n : Fin 64) :
    W5 m ρ c (Proc.devRef .tc main_v15) (ix2 r (⟨n.val, by omega⟩ : Fin 128)) = proj m c r ⟨3328 + n.val, by omega⟩ := by
  refine (congrFun ((W5_arr m ρ c 2).trans (final2 (V4 m ρ) c)) (ix2 r (⟨n.val, by omega⟩ : Fin 128))).trans ?_
  refine congrArg₂ rowCol (funext fun k => congrFun ((W4_of m ρ c main_v4 (by decide)).trans (w3_hidden m ρ c)) (ix2 r k)) (funext fun k => ?_)
  refine (congrFun (W4_of m ρ c main_v13 (by decide)) _).trans ?_
  exact (host1_rope (W2 m ρ c) k n).trans (congrFun (w2_weights m ρ c) _)

theorem wcol_low (j : Fin 4352) (i : Fin 16704) (h : i.val = j.val) (hj : j.val < 3328) : wcol j = i := by
  unfold wcol; rw [if_pos hj]; exact Fin.ext h.symm

/-- The keys. -/
def keys : S8704x256.Idx → EReal := fun i =>
  normed 0x43000000#32 (fun e => proj m c (i 0) ⟨1536 + (headCol 128 heads3 (i 1) e).val, by have := (headCol 128 heads3 (i 1) e).isLt; omega⟩)
    (fun e => m ((c : Thread nD τ).loc main_arg4) (ix1 e)) (inHead 128 (i 1))

/-- The values. -/
def values : S8704x256.Idx → EReal := fun i => proj m c (i 0) ⟨1792 + (i 1).val, by have : (i 1).val < 256 := (i 1).isLt; omega⟩

/-- The latents, without their rotary part. -/
def latents : S8704x512.Idx → EReal := fun i =>
  normed 0x44000000#32 (fun e => proj m c (i 0) ⟨2816 + e.val, by omega⟩) (fun e => m ((c : Thread nD τ).loc main_arg5) (ix1 e)) (i 1)

/-- The latents' rotary part. -/
def rope : S8704x64.Idx → EReal := fun i => proj m c (i 0) ⟨3328 + (i 1).val, by have : (i 1).val < 64 := (i 1).isLt; omega⟩

/-- The latents, whole. -/
def latent : S8704x576.Idx → EReal :=
  concatenate S8704x576 1 [⟨S8704x512, latents m c⟩, ⟨S8704x64, rope m c⟩] concatenates_S8704x512_S8704x64_S8704x576_d1

theorem w7_proj (r : Fin 8704) (j : Fin 4352) : W7 m ρ c (Proc.devRef .tc main_v14) (ix2 r j) = proj m c r (wcol j) :=
  (congrFun ((W7_of m ρ c main_v14 (by decide)).trans (W6_of m ρ c main_v14 (by decide))) (ix2 r j)).trans (at_proj m ρ c r j)

theorem end_keys : W10 m ρ c (Proc.devRef .tc main_v18) = keys m c := by
  refine (W10_of m ρ c main_v18 (by decide)).trans ((W9_of m ρ c main_v18 (by decide)).trans ((W8_of m ρ c main_v18 (by decide)).trans
    ((W7_arr m ρ c 2).trans ((final3 (V6 m ρ) c).trans (funext fun i => ?_)))))
  refine congrFun (congrArg₂ (normed _) (funext fun e => ?_) (funext fun e => ?_)) (inHead 128 (i 1))
  · refine (host3_keys (W5 m ρ c) (i 0) (headCol 128 heads3 (i 1) e)).trans ((at_proj m ρ c (i 0) _).trans (congrArg (proj m c (i 0)) ?_))
    have := (headCol 128 heads3 (i 1) e).isLt
    exact wcol_low _ _ rfl (by dsimp only; omega)
  · exact (host3_gain (W5 m ρ c) e).trans (congrFun (W5_args m ρ c main_arg4 (by decide)) _)

theorem end_values : W10 m ρ c (Proc.devRef .tc main_v19) = values m c := by
  refine (W10_of m ρ c main_v19 (by decide)).trans ((W9_of m ρ c main_v19 (by decide)).trans (funext fun i => ?_))
  obtain ⟨r, n, rfl⟩ := exists_ix2 i
  exact (host4_values (W7 m ρ c) r n).trans ((w7_proj m ρ c r _).trans (congrArg (proj m c r) (wcol_low _ _ rfl (by dsimp only; omega))))

theorem end_latent : W10 m ρ c (Proc.devRef .tc main_v24) = latent m c := by
  refine host5_latents (W9 m ρ c) (latents m c) (rope m c) ?_ fun r n => ?_
  · refine (W9_arr m ρ c 2).trans ((final4 (V8 m ρ) c).trans (funext fun i => ?_))
    refine congrFun (congrArg₂ (normed _) (funext fun e => ?_) (funext fun e => ?_)) (i 1)
    · exact (host4_latents (W7 m ρ c) (i 0) e).trans ((w7_proj m ρ c (i 0) _).trans (congrArg (proj m c (i 0)) (wcol_low _ _ rfl (by dsimp only; omega))))
    · exact (host4_gain (W7 m ρ c) e).trans (congrFun (W7_args m ρ c main_arg5 (by decide)) _)
  · refine (congrFun ((W9_of m ρ c main_v15 (by decide)).trans ((W8_of m ρ c main_v15 (by decide)).trans ((W7_of m ρ c main_v15 (by decide)).trans
      (W6_of m ρ c main_v15 (by decide))))) _).trans (at_rope m ρ c r n)

end Cert.StatesIdeal.Spec

namespace Cert.StatesRefIdeal.Spec

open Cert.Blocks Cert.StatesRefIdeal Cert.StatesRefIdeal.Read Cert.StatesIdeal.Spec Idealize.ShloMosaic

variable (x0 : S4x2048x4096.Idx → EReal) (x1 : S128x4x4096.Idx → EReal) (x2 : S4096.Idx → EReal) (x3 : S4096x16704.Idx → EReal)
  (x4 : S128.Idx → EReal) (x5 : S512.Idx → EReal)

theorem hidden_apply (r : Fin 8704) (k : Fin 4096) : val_main_v15 (F := Ideal) x0 x1 x2 (ix2 r k)
    = normed 0x45800000#32 (fun e => val_main_v2 (F := Ideal) x0 x1 (ix2 r e)) (fun e => x2 (ix1 e)) k := by
  rw [val_main_v15_apply, val_main_v12_apply, val_main_v11_apply, val_main_v10_apply, val_main_v9_apply, val_main_v7_apply, val_main_v5_apply,
    val_main_v4_apply, val_main_v6_apply, val_main_v8_apply, val_main_v14_apply, val_main_v13_apply]
  simp only [val_main_v3_apply]
  generalize val_main_v2 (F := Ideal) x0 x1 = y
  refine normed_of (congrArg y rfl) (fun e => congrArg y (funext fun a => ?_)) (congrArg x2 (funext fun a => ?_)) rfl rfl rfl
  · fin_cases a <;> rfl
  · fin_cases a; rfl

/-- The reference's product, at a row and a column. -/
def proj (r : Fin 8704) (j : Fin 16704) : EReal :=
  rowCol (normed 0x45800000#32 (fun e => val_main_v2 (F := Ideal) x0 x1 (ix2 r e)) (fun e => x2 (ix1 e))) (fun k => x3 (ix2 k j))

theorem proj_apply (i : S8704x16704.Idx) (r : Fin 8704) (j : Fin 16704) (h0 : (i 0).val = r.val) (h1 : (i 1).val = j.val) :
    val_main_v16 (F := Ideal) x0 x1 x2 x3 i = proj x0 x1 x2 x3 r j := by
  obtain rfl : i = ix2 r j := funext fun a => match a with
    | ⟨0, _⟩ => Fin.ext h0
    | ⟨1, _⟩ => Fin.ext h1
  rw [val_main_v16_apply]
  unfold proj rowCol
  refine Finset.sum_congr rfl fun k _ => congrArg₂ (· * ·) ?_ (congrArg x3 (funext fun a => by fin_cases a <;> rfl))
  refine Eq.trans (congrArg _ (funext fun a => ?_)) (hidden_apply x0 x1 x2 r k)
  fin_cases a <;> rfl

theorem keys_apply (r : Fin 8704) (n : Fin 256) : val_main_v35 (F := Ideal) x0 x1 x2 x3 x4 (ix2 r n)
    = normed 0x43000000#32 (fun e => proj x0 x1 x2 x3 r ⟨1536 + (headCol 128 heads3 n e).val, by have := (headCol 128 heads3 n e).isLt; omega⟩) (fun e => x4 (ix1 e)) (inHead 128 n) := by
  rw [val_main_v35_apply, val_main_v34_apply, val_main_v31_apply, val_main_v30_apply, val_main_v29_apply, val_main_v28_apply, val_main_v26_apply,
    val_main_v24_apply, val_main_v23_apply, val_main_v25_apply, val_main_v27_apply, val_main_v33_apply, val_main_v32_apply]
  simp only [val_main_v22_apply, val_main_v21_apply, val_main_v17_apply]
  have hn := n.isLt
  refine normed_of (proj_apply _ _ _ _ _ _ _ ?_ ?_) (fun e => proj_apply _ _ _ _ _ _ _ ?_ ?_) (congrArg x4 (funext fun a => ?_)) rfl rfl rfl
  · show (((r.val * 256 + n.val) / 256 * 2 + (r.val * 256 + n.val) / 128 % 2) * 128 + (r.val * 256 + n.val) % 128) / 256 = r.val
    omega
  · show 1536 + (((r.val * 256 + n.val) / 256 * 2 + (r.val * 256 + n.val) / 128 % 2) * 128 + (r.val * 256 + n.val) % 128) % 256
      = 1536 + (n.val / 128 * 128 + n.val % 128)
    omega
  · have he := e.isLt
    show (((r.val * 256 + n.val) / 256 * 2 + (r.val * 256 + n.val) / 128 % 2) * 128 + e.val) / 256 = r.val
    omega
  · have he := e.isLt
    show 1536 + (((r.val * 256 + n.val) / 256 * 2 + (r.val * 256 + n.val) / 128 % 2) * 128 + e.val) % 256 = 1536 + (n.val / 128 * 128 + e.val)
    omega
  · fin_cases a
    refine Fin.ext ?_
    show (r.val * 256 + n.val) % 128 = n.val % 128
    omega

theorem latents_apply (r : Fin 8704) (n : Fin 512) : val_main_v48 (F := Ideal) x0 x1 x2 x3 x5 (ix2 r n)
    = normed 0x44000000#32 (fun e => proj x0 x1 x2 x3 r ⟨2816 + e.val, by omega⟩) (fun e => x5 (ix1 e)) n := by
  rw [val_main_v48_apply, val_main_v45_apply, val_main_v44_apply, val_main_v43_apply, val_main_v42_apply, val_main_v40_apply, val_main_v38_apply,
    val_main_v37_apply, val_main_v39_apply, val_main_v41_apply, val_main_v47_apply, val_main_v46_apply]
  simp only [val_main_v36_apply, val_main_v19_apply]
  exact normed_of (proj_apply _ _ _ _ _ _ _ rfl rfl) (fun e => proj_apply _ _ _ _ _ _ _ rfl rfl) (congrArg x5 (funext fun a => by fin_cases a; rfl)) rfl rfl rfl

end Cert.StatesRefIdeal.Spec

namespace Cert.StatesIdeal.Spec

open Cert.StatesIdeal Cert.StatesIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- At the end of a run the results are the arrays above, and the arguments are as they were. -/
theorem run : θ_run (defs (F := Ideal)) (onTc (τ := τ) (main (F := Ideal))) ⟨m, fun _ => 0, ρ⟩ (fun r => ∀ c : Dev nD,
      r.2.mem ((c.tc : Thread nD τ).loc main_v18) = keys m c
      ∧ r.2.mem ((c.tc : Thread nD τ).loc main_v19) = values m c
      ∧ r.2.mem ((c.tc : Thread nD τ).loc main_v24) = latent m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨(h c _ (mem_uc main_v18 (by decide))).trans (end_keys m ρ c),
       (h c _ (mem_uc main_v19 (by decide))).trans (end_values m ρ c),
       (h c _ (mem_uc main_v24 (by decide))).trans (end_latent m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.StatesIdeal.Spec

namespace Cert.StatesClaims

open Idealize.ShloMosaic Idealize.ShloMosaic.TcCoe Idealize.SL.Sem Cert.Blocks Cert.StatesRefIdeal.Spec

theorem frame_kernel : Cert.quiescent_States := fun m ρ _ => Cert.States.Gen.frame m ρ
theorem frame_ideal : Cert.quiescent_StatesIdeal := fun m ρ _ => Cert.StatesIdeal.Gen.frame m ρ

theorem frame_reference : Cert.quiescent_StatesRefIdeal := fun m ρ _ =>
  (θ_run Cert.StatesRefIdeal.defs _ _).mono (fun r h => ⟨fun c => (h c).2.2.2, sem_eq_zero_of_no_sems (by decide) r.2⟩)
    (Cert.StatesRefIdeal.Value.run (F := Ideal) m ρ)

theorem equal : Cert.algebraic_StatesIdeal_StatesRefIdeal := by
  intro m g m' g' _ hargs
  refine ⟨fun c => Cert.StatesIdeal.Spec.keys m c, fun c => Cert.StatesIdeal.Spec.values m c, fun c => Cert.StatesIdeal.Spec.latent m c,
    Cert.StatesIdeal.Spec.run m g, ?_⟩
  refine (θ_run Cert.StatesRefIdeal.defs _ _).mono
    (fun r h c => ⟨(h c).1.trans ?_, (h c).2.1.trans ?_, (h c).2.2.1.trans ?_, (h c).2.2.2⟩) (Cert.StatesRefIdeal.Value.run (F := Ideal) m' g')
  · obtain ⟨h0, h1, h2, h3, h4, h5⟩ := hargs c
    rw [Cert.StatesRefIdeal.Read.val_main_v35_eq, h0, h1, h2, h3, h4]
    funext i
    obtain ⟨r, n, rfl⟩ := exists_ix2 i
    exact keys_apply _ _ _ _ _ r n
  · obtain ⟨h0, h1, h2, h3, h4, h5⟩ := hargs c
    rw [h0, h1, h2, h3]
    refine (Cert.StatesRefIdeal.Read.val_main_v18_eq (F := Ideal) _ _ _ _).trans (funext fun i => ?_)
    rw [Cert.StatesRefIdeal.Read.val_main_v18_apply]
    obtain ⟨r, n, rfl⟩ := exists_ix2 i
    exact proj_apply _ _ _ _ _ _ _ rfl rfl
  · obtain ⟨h0, h1, h2, h3, h4, h5⟩ := hargs c
    rw [Cert.StatesRefIdeal.Read.val_main_v49_eq, h0, h1, h2, h3, h5]
    unfold Cert.StatesRefIdeal.Read.val_main_v49 Cert.StatesIdeal.Spec.latent
    refine congrArg₂ (fun (y : Cert.StatesIdeal.S8704x512.Idx → EReal) (z : Cert.StatesIdeal.S8704x64.Idx → EReal) =>
      concatenate Cert.StatesIdeal.S8704x576 1 [⟨Cert.StatesIdeal.S8704x512, y⟩, ⟨Cert.StatesIdeal.S8704x64, z⟩] _)
      (funext fun i => ?_) (funext fun i => ?_)
    · obtain ⟨r, n, rfl⟩ := exists_ix2 i
      exact latents_apply _ _ _ _ _ r n
    · obtain ⟨r, n, rfl⟩ := exists_ix2 i
      rw [Cert.StatesRefIdeal.Read.val_main_v20_apply]
      exact proj_apply _ _ _ _ _ _ _ rfl rfl

end Cert.StatesClaims

end
-- ==== Proof.Bank.lean ====
/-
  The regions of the memory's program: the memory's rows normalised, their product with both projections, the keys' heads normalised.
-/
module

public import proofs.«01_k».proof.Defs
public import proofs.«01_k».proof.Proof.Gen.BankIdeal.Frame
public import proofs.«01_k».proof.Proof.Blocks

@[expose] public section

set_option maxRecDepth 16384

noncomputable section

namespace Cert.BankIdeal.Spec

open Cert.Blocks Cert.BankIdeal Cert.BankIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem payload0 (g : S1x4096.Idx → EReal) (x : S256x4096.Idx → EReal) (j : S256x4096.Idx) :
    k0_pay1 (F := Ideal) g x j = normed 0x45800000#32 (fun e => x (ix2 (j 0) e)) (fun e => g (ix2 0 e)) (j 1) := by
  obtain ⟨r, k, rfl⟩ := exists_ix2 j
  show _ = normed 0x45800000#32 (fun e => x (ix2 r e)) (fun e => g (ix2 0 e)) k
  unfold k0_pay1 normed
  pointwise

theorem index0 : ∀ t : Fin grid0.N, win0_0.index t 0 = t.val ∧ win0_0.index t 1 = 0 ∧ win0_1.index t 0 = 0 ∧ win0_1.index t 1 = 0 ∧ win0_2.index t 0 = t.val ∧ win0_2.index t 1 = 0 := by
  decide +kernel

theorem place0 (t : Fin grid0.N) : At 1024 4096 256 4096 (fun j => (win0_0.rect t).emb j) (t.val) (0)
    ∧ At 1 4096 1 4096 (fun j => (win0_1.rect t).emb j) (0) (0)
    ∧ At 1024 4096 256 4096 (fun j => (win0_2.rect t).emb j) (t.val) (0) := by
  obtain ⟨p0, q0, p1, q1, p2, q2⟩ := index0 t
  exact ⟨at_of (fun j a => win0_0.rect_emb_val t j a rfl) p0 q0,
    at_of (fun j a => win0_1.rect_emb_val t j a rfl) p1 q1,
    at_of (fun j a => win0_2.rect_emb_val t j a rfl) p2 q2⟩

/-- Region 0 leaves each row normalised. -/
theorem final0 (c : Dev nD) : (dat0 V c).arrAt 2 cfg0.N = fun i : S1024x4096.Idx =>
    normed 0x45800000#32 (fun e => V c main_v0 (ix2 (i 0) e)) (fun e => V c main_v1 (ix2 0 e)) (i 1) := by
  refine (dat0 V c).arrAt_eq_of_cover 2 _ (fun t _ => ?_) fun (i : S1024x4096.Idx) => ?_
  · show (cfg0.win 2).cut (grid0.coords t) ((dat0 V c).after 2 t) = _
    rw [after0_2]
    unfold out0_2
    rw [View.canon_unit_zero hz, View.ld_unit_zero hz, View.ld_unit_zero hz]
    exact funext fun j => (payload0 _ _ j).trans (norm_block (X := V c main_v0) (G := V c main_v1) (place0 t).1 (place0 t).2.1 (place0 t).2.2 j)
  · have h0 : (i 0).val < 1024 := (i 0).isLt
    have h1 : (i 1).val < 4096 := (i 1).isLt
    obtain ⟨t, ht⟩ : ∃ t : Fin cfg0.N, t.val = (i 0).val / 256 := ⟨⟨_, by show (i 0).val / 256 < grid0.N; rw [Gen.N_0]; omega⟩, rfl⟩
    obtain ⟨j, hj⟩ := (place0 t).2.2.reach i (by decide) (by decide) (by omega) (by omega)
    refine ⟨t, flush0_2 t, ?_⟩
    show i ∈ ((View.whole main_v2).slice (win0_2.rect t)).set
    rw [View.set_slice_whole, ← Rect.map_emb_univ]
    exact Finset.mem_map.2 ⟨j, Finset.mem_univ _, hj⟩

theorem payload1 (x : S512x4096.Idx → EReal) (y : S4096x512.Idx → EReal) (j : S512x512.Idx) :
    k1_pay1 (F := Ideal) x y j = ∑ k : Fin 4096, x (ix2 (j 0) k) * y (ix2 k (j 1)) := by
  obtain ⟨r, n, rfl⟩ := exists_ix2 j
  show _ = ∑ k : Fin 4096, x (ix2 r k) * y (ix2 k n)
  unfold k1_pay1
  pointwise

theorem index1 : ∀ t : Fin grid1.N, win1_0.index t 0 = t.val / 4 ∧ win1_0.index t 1 = 0 ∧ win1_1.index t 0 = 0 ∧ win1_1.index t 1 = t.val % 4 ∧ win1_2.index t 0 = t.val / 4 ∧ win1_2.index t 1 = t.val % 4 := by
  decide +kernel

theorem place1 (t : Fin grid1.N) : At 1024 4096 512 4096 (fun j => (win1_0.rect t).emb j) (t.val / 4) (0)
    ∧ At 4096 2048 4096 512 (fun j => (win1_1.rect t).emb j) (0) (t.val % 4)
    ∧ At 1024 2048 512 512 (fun j => (win1_2.rect t).emb j) (t.val / 4) (t.val % 4) := by
  obtain ⟨p0, q0, p1, q1, p2, q2⟩ := index1 t
  exact ⟨at_of (fun j a => win1_0.rect_emb_val t j a rfl) p0 q0,
    at_of (fun j a => win1_1.rect_emb_val t j a rfl) p1 q1,
    at_of (fun j a => win1_2.rect_emb_val t j a rfl) p2 q2⟩

/-- Region 1 leaves the product. -/
theorem final1 (c : Dev nD) : (dat1 V c).arrAt 2 cfg1.N = fun i : S1024x2048.Idx =>
    rowCol (fun k => V c main_v2 (ix2 (i 0) k)) (fun k => V c main_v4 (ix2 k (i 1))) := by
  refine (dat1 V c).arrAt_eq_of_cover 2 _ (fun t _ => ?_) fun (i : S1024x2048.Idx) => ?_
  · show (cfg1.win 2).cut (grid1.coords t) ((dat1 V c).after 2 t) = _
    rw [after1_2]
    unfold out1_2
    rw [View.canon_unit_zero hz, View.ld_unit_zero hz, View.ld_unit_zero hz]
    exact funext fun j => (payload1 _ _ j).trans (dot_block (X := V c main_v2) (Y := V c main_v4) (place1 t).1 (place1 t).2.1 (place1 t).2.2 j)
  · have h0 : (i 0).val < 1024 := (i 0).isLt
    have h1 : (i 1).val < 2048 := (i 1).isLt
    obtain ⟨t, ht⟩ : ∃ t : Fin cfg1.N, t.val = (i 0).val / 512 * 4 + (i 1).val / 512 := ⟨⟨_, by show (i 0).val / 512 * 4 + (i 1).val / 512 < grid1.N; rw [Gen.N_1]; omega⟩, rfl⟩
    obtain ⟨j, hj⟩ := (place1 t).2.2.reach i (by decide) (by decide) (by omega) (by omega)
    refine ⟨t, flush1_2 t, ?_⟩
    show i ∈ ((View.whole main_v5).slice (win1_2.rect t)).set
    rw [View.set_slice_whole, ← Rect.map_emb_univ]
    exact Finset.mem_map.2 ⟨j, Finset.mem_univ _, hj⟩

theorem heads2 : 256 ∣ 1024 := by decide

theorem index2 : ∀ t : Fin grid2.N, win2_0.index t 0 = t.val ∧ win2_0.index t 1 = 0 ∧ win2_1.index t 0 = 0 ∧ win2_1.index t 1 = 0 ∧ win2_2.index t 0 = t.val ∧ win2_2.index t 1 = 0 := by
  decide +kernel

theorem place2 (t : Fin grid2.N) : At 1024 1024 256 1024 (fun j => (win2_0.rect t).emb j) (t.val) (0)
    ∧ At 1 256 1 256 (fun j => (win2_1.rect t).emb j) (0) (0)
    ∧ At 1024 1024 256 1024 (fun j => (win2_2.rect t).emb j) (t.val) (0) := by
  obtain ⟨p0, q0, p1, q1, p2, q2⟩ := index2 t
  exact ⟨at_of (fun j a => win2_0.rect_emb_val t j a rfl) p0 q0,
    at_of (fun j a => win2_1.rect_emb_val t j a rfl) p1 q1,
    at_of (fun j a => win2_2.rect_emb_val t j a rfl) p2 q2⟩

theorem out2 (x : S256x1024.Idx → EReal) (g : S1x256.Idx → EReal) : out2_2 (F := Ideal) x g = headed 256 heads2 0x43800000#32 x g := by
  unfold out2_2 k2_pay8
  rw [View.ld_unit_zero hz]
  refine funext fun y => View.canon_apply_of_pieces _ _ (fun p hp => ?_) y (cover2_2 _ _ _ _ y)
  simp only [List.mem_cons, List.not_mem_nil, or_false] at hp
  rcases hp with rfl | rfl | rfl | rfl
  · refine headed_piece x g 3 (by decide) _ fun r k => ?_
    unfold k2_pay2 k2_pay3 normed
    pointwise
  · refine headed_piece x g 2 (by decide) _ fun r k => ?_
    unfold k2_pay1 k2_pay7 k2_pay6 k2_pay3 normed
    pointwise
  · refine headed_piece x g 1 (by decide) _ fun r k => ?_
    unfold k2_pay5 k2_pay3 normed
    pointwise
  · refine headed_piece x g 0 (by decide) _ fun r k => ?_
    unfold k2_pay4 k2_pay3 normed
    pointwise

/-- Region 2 leaves each head's columns normalised. -/
theorem final2 (c : Dev nD) : (dat2 V c).arrAt 2 cfg2.N = headed 256 heads2 0x43800000#32 (V c main_v7) (V c main_v8) := by
  refine (dat2 V c).arrAt_eq_of_cover 2 _ (fun t _ => ?_) fun (i : S1024x1024.Idx) => ?_
  · show (cfg2.win 2).cut (grid2.coords t) ((dat2 V c).after 2 t) = _
    rw [after2_2]
    refine (congrArg ((cfg2.win 2).cut (grid2.coords t)) (out2 (iblk2 V c 0 t) (iblk2 V c 1 t))).trans (funext fun j => ?_)
    exact headed_block (X := V c main_v7) (G := V c main_v8) (place2 t).1 (place2 t).2.1 (place2 t).2.2 j
  · have h0 : (i 0).val < 1024 := (i 0).isLt
    have h1 : (i 1).val < 1024 := (i 1).isLt
    obtain ⟨t, ht⟩ : ∃ t : Fin cfg2.N, t.val = (i 0).val / 256 := ⟨⟨_, by show (i 0).val / 256 < grid2.N; rw [Gen.N_2]; omega⟩, rfl⟩
    obtain ⟨j, hj⟩ := (place2 t).2.2.reach i (by decide) (by decide) (by omega) (by omega)
    refine ⟨t, flush2_2 t, ?_⟩
    show i ∈ ((View.whole main_v9).slice (win2_2.rect t)).set
    rw [View.set_slice_whole, ← Rect.map_emb_univ]
    exact Finset.mem_map.2 ⟨j, Finset.mem_univ _, hj⟩

end Cert.BankIdeal.Spec

end
-- ==== Proof.BankClaims.lean ====
/-
  The memory's keys and values: what the program's two results are at the end of a run, and the same of the reference.
-/
module

public import proofs.«01_k».proof.Proof.Bank
public import proofs.«01_k».proof.Proof.Gen.Bank.Frame
public import proofs.«01_k».proof.Proof.Gen.BankRefIdeal.Run
public import proofs.«01_k».proof.Proof.Gen.BankRefIdeal.Read
public import Idealize.ShloMosaic.Lib.Pointwise
public import Idealize.ShloMosaic.Lib.Quiescent

@[expose] public section

set_option maxRecDepth 16384

noncomputable section

namespace Cert.BankIdeal.Spec

open Cert.Blocks Cert.BankIdeal Cert.BankIdeal.Gen Idealize.ShloMosaic Idealize.ShloMosaic.TcCoe Idealize.SL.Sem
section Host
variable (W : Valuation τ sig (Elt Ideal))

/-- A row of the memory's tokens: which batch entry's, and which of its tokens. -/
def tok (r : Fin 1024) : Fin 4 × Fin 256 := (⟨r.val / 256, by omega⟩, ⟨r.val % 256, by omega⟩)

theorem host0_tokens (r : Fin 1024) (e : Fin 4096) : StableHlo.after (hostOps0 (F := Ideal)) W (Proc.devRef .tc main_v0) (ix2 r e)
    = W (Proc.devRef .tc main_arg0) (ix3 (tok r).1 (tok r).2 e) := by
  after_results_simp
  unfold tok
  pointwise

theorem host0_gain (e : Fin 4096) : StableHlo.after (hostOps0 (F := Ideal)) W (Proc.devRef .tc main_v1) (ix2 0 e) = W (Proc.devRef .tc main_arg1) (ix1 e) := by
  after_results_simp
  pointwise

theorem host1_keys (k : Fin 4096) (j : Fin 1024) : StableHlo.after (hostOps1 (F := Ideal)) W (Proc.devRef .tc main_v4) (ix2 k (⟨j.val, by omega⟩ : Fin 2048))
    = W (Proc.devRef .tc main_arg2) (ix2 k j) := by
  after_results_simp
  pointwise

theorem host1_values (k : Fin 4096) (j : Fin 1024) : StableHlo.after (hostOps1 (F := Ideal)) W (Proc.devRef .tc main_v4) (ix2 k (⟨1024 + j.val, by omega⟩ : Fin 2048))
    = W (Proc.devRef .tc main_arg3) (ix2 k j) := by
  after_results_simp
  pointwise

theorem host2_keys (r n : Fin 1024) :
    StableHlo.after (hostOps2 (F := Ideal)) W (Proc.devRef .tc main_v7) (ix2 r n) = W (Proc.devRef .tc main_v5) (ix2 r (⟨n.val, by omega⟩ : Fin 2048)) := by
  after_results_simp
  pointwise

theorem host2_values (r n : Fin 1024) :
    StableHlo.after (hostOps2 (F := Ideal)) W (Proc.devRef .tc main_v6) (ix2 r n) = W (Proc.devRef .tc main_v5) (ix2 r (⟨1024 + n.val, by omega⟩ : Fin 2048)) := by
  after_results_simp
  pointwise

theorem host2_gain (e : Fin 256) : StableHlo.after (hostOps2 (F := Ideal)) W (Proc.devRef .tc main_v8) (ix2 0 e) = W (Proc.devRef .tc main_arg4) (ix1 e) := by
  after_results_simp
  pointwise

end Host

/-- The memory's rows, normalised, times a projection, at a row and a column. -/
def proj (x : S4x256x4096.Idx → EReal) (g : S4096.Idx → EReal) (w : S4096x1024.Idx → EReal) (r j : Fin 1024) : EReal :=
  rowCol (normed 0x45800000#32 (fun e => x (ix3 (tok r).1 (tok r).2 e)) (fun e => g (ix1 e))) (fun k => w (ix2 k j))

/-- The keys. -/
def keysOf (x : S4x256x4096.Idx → EReal) (g : S4096.Idx → EReal) (w : S4096x1024.Idx → EReal) (h : S256.Idx → EReal) (r n : Fin 1024) : EReal :=
  normed 0x43800000#32 (fun e => proj x g w r (headCol 256 heads2 n e)) (fun e => h (ix1 e)) (inHead 256 n)

variable (m : (ℓ : Loc nD τ sig) → Buf (Elt Ideal) ℓ) (ρ : Dev nD → PrngReg) (c : Dev nD)

def keys : S1024x1024.Idx → EReal := fun i => keysOf (m ((c : Thread nD τ).loc main_arg0)) (m ((c : Thread nD τ).loc main_arg1))
  (m ((c : Thread nD τ).loc main_arg2)) (m ((c : Thread nD τ).loc main_arg4)) (i 0) (i 1)
/-- The values. -/
def values : S1024x1024.Idx → EReal := fun i => proj (m ((c : Thread nD τ).loc main_arg0)) (m ((c : Thread nD τ).loc main_arg1))
  (m ((c : Thread nD τ).loc main_arg3)) (i 0) (i 1)

theorem at_proj (w : S4096x1024.Idx → EReal) (r j : Fin 1024) (n : Fin 2048) (hw : ∀ k, W3 m ρ c (Proc.devRef .tc main_v4) (ix2 k n) = w (ix2 k j)) :
    W4 m ρ c (Proc.devRef .tc main_v5) (ix2 r n) = proj (m ((c : Thread nD τ).loc main_arg0)) (m ((c : Thread nD τ).loc main_arg1)) w r j := by
  refine (congrFun ((W4_arr m ρ c 2).trans (final1 (V3 m ρ) c)) (ix2 r n)).trans (congrArg₂ rowCol (funext fun k => ?_) (funext hw))
  refine (congrFun ((W3_of m ρ c main_v2 (by decide)).trans ((W2_arr m ρ c 2).trans (final0 (V1 m ρ) c))) (ix2 r k)).trans ?_
  exact congrFun (congrArg₂ (normed _) (funext fun e => host0_tokens (W0 m ρ c) r e) (funext fun e => host0_gain (W0 m ρ c) e)) k

theorem end_keys : W6 m ρ c (Proc.devRef .tc main_v9) = keys m c := by
  refine (W6_arr m ρ c 2).trans ((final2 (V5 m ρ) c).trans (funext fun i => ?_))
  unfold headed keys keysOf
  refine congrFun (congrArg₂ (normed _) (funext fun e => ?_) (funext fun e => ?_)) (inHead 256 (i 1))
  · refine (host2_keys (W4 m ρ c) (i 0) (headCol 256 heads2 (i 1) e)).trans (at_proj m ρ c _ _ _ _ fun k => ?_)
    exact (host1_keys (W2 m ρ c) k _).trans (congrFun (W2_args m ρ c main_arg2 (by decide)) _)
  · exact (host2_gain (W4 m ρ c) e).trans (congrFun (W4_args m ρ c main_arg4 (by decide)) _)

theorem end_values : W6 m ρ c (Proc.devRef .tc main_v6) = values m c := by
  refine (W6_of m ρ c main_v6 (by decide)).trans (funext fun i => ?_)
  obtain ⟨r, n, rfl⟩ := exists_ix2 i
  refine (host2_values (W4 m ρ c) r n).trans (at_proj m ρ c _ _ _ _ fun k => ?_)
  exact (host1_values (W2 m ρ c) k _).trans (congrFun (W2_args m ρ c main_arg3 (by decide)) _)

end Cert.BankIdeal.Spec

namespace Cert.BankRefIdeal.Spec

open Cert.Blocks Cert.BankRefIdeal Cert.BankRefIdeal.Read Cert.BankIdeal.Spec Idealize.ShloMosaic

variable (x0 : S4x256x4096.Idx → EReal) (x1 : S4096.Idx → EReal) (x2 x3 : S4096x1024.Idx → EReal) (x4 : S256.Idx → EReal)

theorem hidden_apply (a : Fin 4) (r : Fin 256) (k : Fin 4096) : val_main_v12 (F := Ideal) x0 x1 (ix3 a r k)
    = normed 0x45800000#32 (fun e => x0 (ix3 a r e)) (fun e => x1 (ix1 e)) k := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  simp only [val_main_v0_apply]
  refine normed_of (congrArg x0 rfl) (fun e => congrArg x0 (funext fun a => ?_)) (congrArg x1 (funext fun a => ?_)) rfl rfl rfl
  · fin_cases a <;> rfl
  · fin_cases a; rfl

/-- The rows' indices, batch entry and token apart, are those of the joined rows. -/
theorem tok_val (r : Fin 1024) (i : S4x256x4096.Idx) (k : Fin 4096) (h : (i 0).val * 256 + (i 1).val = r.val) (hk : (i 2).val = k.val) :
    i = ix3 (tok r).1 (tok r).2 k := funext fun a => by
  have h1 : (i 1).val < 256 := (i 1).isLt
  match a with
  | ⟨0, _⟩ => exact Fin.ext (by show (i 0).val = r.val / 256; omega)
  | ⟨1, _⟩ => exact Fin.ext (by show (i 1).val = r.val % 256; omega)
  | ⟨2, _⟩ => exact Fin.ext hk

theorem proj_apply (i : S4x256x1024.Idx) (r j : Fin 1024) (h : (i 0).val * 256 + (i 1).val = r.val) (hj : (i 2).val = j.val) :
    val_main_v13 (F := Ideal) x0 x1 x2 i = proj x0 x1 x2 r j := by
  rw [val_main_v13_apply]
  unfold proj rowCol
  refine Finset.sum_congr rfl fun k _ => congrArg₂ (· * ·) ?_ (congrArg x2 (funext fun a => ?_))
  · rw [← hidden_apply]
    generalize val_main_v12 (F := Ideal) x0 x1 = y
    exact congrArg y (tok_val r _ k h rfl)
  · match a with
    | ⟨0, _⟩ => rfl
    | ⟨1, _⟩ => exact Fin.ext hj

theorem keys_apply (r n : Fin 1024) : val_main_v28 (F := Ideal) x0 x1 x2 x4 (ix2 r n) = keysOf x0 x1 x2 x4 r n := by
  rw [val_main_v28_apply, val_main_v27_apply, val_main_v24_apply, val_main_v23_apply, val_main_v22_apply, val_main_v21_apply, val_main_v19_apply,
    val_main_v17_apply, val_main_v16_apply, val_main_v18_apply, val_main_v20_apply, val_main_v26_apply, val_main_v25_apply]
  simp only [val_main_v15_apply, val_main_v14_apply]
  have hn := n.isLt
  have hr := r.isLt
  refine normed_of (proj_apply _ _ _ _ _ _ ?_ ?_) (fun e => proj_apply _ _ _ _ _ _ ?_ ?_) (congrArg x4 (funext fun a => ?_)) rfl rfl rfl
  rotate_left 4
  · fin_cases a
    exact Fin.ext (by show (r.val * 1024 + n.val) % 256 = n.val % 256; omega)
  all_goals try have he := e.isLt
  · show ((((r.val * 1024 + n.val) / 262144 * 256 + (r.val * 1024 + n.val) / 1024 % 256) * 4 + (r.val * 1024 + n.val) / 256 % 4) * 256
      + (r.val * 1024 + n.val) % 256) / 262144 * 256 + ((((r.val * 1024 + n.val) / 262144 * 256 + (r.val * 1024 + n.val) / 1024 % 256) * 4
      + (r.val * 1024 + n.val) / 256 % 4) * 256 + (r.val * 1024 + n.val) % 256) / 1024 % 256 = r.val
    omega
  · show ((((r.val * 1024 + n.val) / 262144 * 256 + (r.val * 1024 + n.val) / 1024 % 256) * 4 + (r.val * 1024 + n.val) / 256 % 4) * 256
      + (r.val * 1024 + n.val) % 256) % 1024 = n.val / 256 * 256 + n.val % 256
    omega
  · show ((((r.val * 1024 + n.val) / 262144 * 256 + (r.val * 1024 + n.val) / 1024 % 256) * 4 + (r.val * 1024 + n.val) / 256 % 4) * 256
      + e.val) / 262144 * 256 + ((((r.val * 1024 + n.val) / 262144 * 256 + (r.val * 1024 + n.val) / 1024 % 256) * 4
      + (r.val * 1024 + n.val) / 256 % 4) * 256 + e.val) / 1024 % 256 = r.val
    omega
  · show ((((r.val * 1024 + n.val) / 262144 * 256 + (r.val * 1024 + n.val) / 1024 % 256) * 4 + (r.val * 1024 + n.val) / 256 % 4) * 256
      + e.val) % 1024 = n.val / 256 * 256 + e.val
    omega

theorem values_apply (r n : Fin 1024) : val_main_v30 (F := Ideal) x0 x1 x3 (ix2 r n) = proj x0 x1 x3 r n := by
  rw [val_main_v30_apply]
  have hn := n.isLt
  have hr := r.isLt
  refine Eq.trans (b := val_main_v13 (F := Ideal) x0 x1 x3 _) rfl (proj_apply _ _ _ _ _ _ ?_ ?_)
  · show (r.val * 1024 + n.val) / 262144 * 256 + (r.val * 1024 + n.val) / 1024 % 256 = r.val
    omega
  · show (r.val * 1024 + n.val) % 1024 = n.val
    omega

end Cert.BankRefIdeal.Spec

namespace Cert.BankIdeal.Spec

open Cert.BankIdeal Cert.BankIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- At the end of a run the results are the arrays above, and the arguments are as they were. -/
theorem run : θ_run (defs (F := Ideal)) (onTc (τ := τ) (main (F := Ideal))) ⟨m, fun _ => 0, ρ⟩ (fun r => ∀ c : Dev nD,
      r.2.mem ((c.tc : Thread nD τ).loc main_v9) = keys m c
      ∧ r.2.mem ((c.tc : Thread nD τ).loc main_v6) = values m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v9 (by decide))).trans (end_keys m ρ c),
       (h c _ (mem_uc main_v6 (by decide))).trans (end_values m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.BankIdeal.Spec

namespace Cert.BankClaims

open Idealize.ShloMosaic Idealize.ShloMosaic.TcCoe Idealize.SL.Sem Cert.Blocks Cert.BankRefIdeal.Spec

theorem frame_kernel : Cert.quiescent_Bank := fun m ρ _ => Cert.Bank.Gen.frame m ρ
theorem frame_ideal : Cert.quiescent_BankIdeal := fun m ρ _ => Cert.BankIdeal.Gen.frame m ρ

theorem frame_reference : Cert.quiescent_BankRefIdeal := fun m ρ _ =>
  (θ_run Cert.BankRefIdeal.defs _ _).mono (fun r h => ⟨fun c => (h c).2.2, sem_eq_zero_of_no_sems (by decide) r.2⟩)
    (Cert.BankRefIdeal.Value.run (F := Ideal) m ρ)

theorem equal : Cert.algebraic_BankIdeal_BankRefIdeal := by
  intro m g m' g' _ hargs
  refine ⟨fun c => Cert.BankIdeal.Spec.keys m c, fun c => Cert.BankIdeal.Spec.values m c, Cert.BankIdeal.Spec.run m g, ?_⟩
  refine (θ_run Cert.BankRefIdeal.defs _ _).mono (fun r h c => ⟨(h c).1.trans ?_, (h c).2.1.trans ?_, (h c).2.2⟩)
    (Cert.BankRefIdeal.Value.run (F := Ideal) m' g')
  · obtain ⟨h0, h1, h2, h3, h4⟩ := hargs c
    rw [Cert.BankRefIdeal.Read.val_main_v28_eq, h0, h1, h2, h4]
    funext i
    obtain ⟨r, n, rfl⟩ := exists_ix2 i
    exact keys_apply _ _ _ _ r n
  · obtain ⟨h0, h1, h2, h3, h4⟩ := hargs c
    rw [Cert.BankRefIdeal.Read.val_main_v30_eq, h0, h1, h3]
    funext i
    obtain ⟨r, n, rfl⟩ := exists_ix2 i
    exact values_apply _ _ _ r n

end Cert.BankClaims

end
-- ==== Proof.lean ====
/- The proof of the certificate's claims. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Pre_finite_qk
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal
public import proofs.«01_k».proof.Proof.Gen.PeerQ.Frame
public import proofs.«01_k».proof.Proof.Gen.PeerQIdeal.Frame
public import proofs.«01_k».proof.Proof.Gen.PeerQIdeal.Value
public import proofs.«01_k».proof.Proof.Gen.PeerQRefIdeal
public import proofs.«01_k».proof.Proof.Gen.Uq.Frame
public import proofs.«01_k».proof.Proof.Gen.UqIdeal.Frame
public import proofs.«01_k».proof.Proof.Gen.UqIdeal.Value
public import proofs.«01_k».proof.Proof.Gen.UqRefIdeal
public import proofs.«01_k».proof.Proof.Gen.UqRefIdeal.Run
public import proofs.«01_k».proof.Proof.Gen.UqRefIdeal.Read
public import proofs.«01_k».proof.Proof.Gen.Ukv.Frame
public import proofs.«01_k».proof.Proof.Gen.UkvIdeal.Frame
public import proofs.«01_k».proof.Proof.Gen.UkvIdeal.Value
public import proofs.«01_k».proof.Proof.Gen.UkvRefIdeal
public import proofs.«01_k».proof.Proof.Gen.UkvRefIdeal.Run
public import proofs.«01_k».proof.Proof.Gen.UkvRefIdeal.Read
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Pre_page_range
public import proofs.«01_k».proof.Proof.Gen.Pre_finite_mla
public import proofs.«01_k».proof.Proof.Gen.Mla
public import proofs.«01_k».proof.Proof.Gen.Mla.Skeleton
public import proofs.«01_k».proof.Proof.Gen.Mla.Launch
public import proofs.«01_k».proof.Proof.AttnClaims
public import proofs.«01_k».proof.Proof.MemAttn
public import proofs.«01_k».proof.Proof.Gen.MemAttn.Frame
public import proofs.«01_k».proof.Proof.Gen.MemAttnIdeal.Frame
public import proofs.«01_k».proof.Proof.Gen.MemAttnIdeal.Value
public import proofs.«01_k».proof.Proof.Gen.MemAttnRefIdeal
public import proofs.«01_k».proof.Proof.Gen.MemAttnRefIdeal.Run
public import proofs.«01_k».proof.Proof.Gen.MemAttnRefIdeal.Read
public import proofs.«01_k».proof.Proof.Gen.Pre_finite_mem
public import proofs.«01_k».proof.Proof.MlaClaims
public import proofs.«01_k».proof.Proof.Proj
public import proofs.«01_k».proof.Proof.Gates
public import proofs.«01_k».proof.Proof.Out
public import proofs.«01_k».proof.Proof.PeerQ
public import proofs.«01_k».proof.Proof.Uq
public import proofs.«01_k».proof.Proof.Ukv
public import proofs.«01_k».proof.Proof.Merge
public import proofs.«01_k».proof.Proof.StatesClaims
public import proofs.«01_k».proof.Proof.BankClaims
public import proofs.«01_k».proof.Proof.Gen.Bank.Frame
public import proofs.«01_k».proof.Proof.Gen.BankIdeal.Frame
public import proofs.«01_k».proof.Proof.Gen.BankRefIdeal
public import proofs.«01_k».proof.Proof.Gen.BankRefIdeal.Run
public import proofs.«01_k».proof.Proof.Gen.BankRefIdeal.Read
public import proofs.«01_k».proof.Proof.Gen.States.Frame
public import proofs.«01_k».proof.Proof.Gen.StatesIdeal.Frame
public import proofs.«01_k».proof.Proof.Gen.StatesRefIdeal
public import proofs.«01_k».proof.Proof.Gen.StatesRefIdeal.Run
public import proofs.«01_k».proof.Proof.Gen.StatesRefIdeal.Read
public import Idealize.ShloMosaic.Adequacy
public import Idealize.ShloMosaic.Init

@[expose] public section

noncomputable section

-- Each claim that a program runs also says that every semaphore counter ends at zero.

namespace Cert.Proof

open Idealize.ShloMosaic Idealize.SL.Sem Cert.Attn

theorem claim : Cert.Claim := ⟨Cert.Attn.Gen.facts, Cert.AttnIdeal.Gen.facts, Cert.AttnRefIdeal.Gen.facts, Cert.Proj.Gen.facts, Cert.ProjIdeal.Gen.facts, Cert.ProjRefIdeal.Gen.facts, Cert.Gates.Gen.facts, Cert.GatesIdeal.Gen.facts, Cert.GatesRefIdeal.Gen.facts, Cert.Out.Gen.facts, Cert.OutIdeal.Gen.facts, Cert.OutRefIdeal.Gen.facts, Cert.PeerQ.Gen.facts, Cert.PeerQIdeal.Gen.facts, Cert.PeerQRefIdeal.Gen.facts, Cert.Merge.Gen.facts, Cert.MergeIdeal.Gen.facts, Cert.MergeRefIdeal.Gen.facts, Cert.Mla.Gen.facts, Cert.MlaIdeal.Gen.facts, Cert.MlaRefIdeal.Gen.facts, Cert.States.Gen.facts, Cert.StatesIdeal.Gen.facts, Cert.StatesRefIdeal.Gen.facts, Cert.Bank.Gen.facts, Cert.BankIdeal.Gen.facts, Cert.BankRefIdeal.Gen.facts, Cert.MemAttn.Gen.facts, Cert.MemAttnIdeal.Gen.facts, Cert.MemAttnRefIdeal.Gen.facts, Cert.Uq.Gen.facts, Cert.UqIdeal.Gen.facts, Cert.UqRefIdeal.Gen.facts, Cert.Ukv.Gen.facts, Cert.UkvIdeal.Gen.facts, Cert.UkvRefIdeal.Gen.facts, Cert.Pre_finite_qk.Gen.facts, Cert.Pre_page_range.Gen.facts, Cert.Pre_finite_mla.Gen.facts, Cert.Pre_finite_mem.Gen.facts,
  AttnClaims.frame_kernel, AttnClaims.frame_ideal, AttnClaims.frame_ideal_pre, AttnClaims.frame_reference, AttnClaims.frame_reference_pre,
  ProjClaims.frame_kernel, ProjClaims.frame_ideal, ProjClaims.frame_reference,
  GatesClaims.frame_kernel, GatesClaims.frame_ideal, GatesClaims.frame_reference,
  OutClaims.frame_kernel, OutClaims.frame_ideal, OutClaims.frame_reference,
  PeerQClaims.frame_kernel, PeerQClaims.frame_ideal, PeerQClaims.frame_reference,
  MergeClaims.frame_kernel, MergeClaims.frame_ideal, MergeClaims.frame_reference,
  MlaClaims.frame_kernel, MlaClaims.frame_ideal, MlaClaims.frame_ideal_pre, MlaClaims.frame_reference, MlaClaims.frame_reference_pre,
  StatesClaims.frame_kernel, StatesClaims.frame_ideal, StatesClaims.frame_reference,
  BankClaims.frame_kernel, BankClaims.frame_ideal, BankClaims.frame_reference,
  MemAttnClaims.frame_kernel, MemAttnClaims.frame_ideal, MemAttnClaims.frame_ideal_pre, MemAttnClaims.frame_reference, MemAttnClaims.frame_reference_pre,
  UqClaims.frame_kernel, UqClaims.frame_ideal, UqClaims.frame_reference,
  UkvClaims.frame_kernel, UkvClaims.frame_ideal, UkvClaims.frame_reference,
  trivial, AttnClaims.equal,
  trivial, ProjClaims.equal,
  trivial, GatesClaims.equal,
  trivial, OutClaims.equal,
  trivial, PeerQClaims.equal,
  trivial, MergeClaims.equal,
  trivial, MlaClaims.equal,
  trivial, StatesClaims.equal,
  trivial, BankClaims.equal,
  trivial, MemAttnClaims.equal,
  trivial, UqClaims.equal,
  trivial, UkvClaims.equal⟩

end Cert.Proof

end
